-- ==== Defs.lean ====
def Pre_Kernel [hPre_groups_partition_rows : Cert.Pre_groups_partition_rows.Facts] (m : (ℓ : Loc Cert.Kernel.nD Cert.Kernel.τ Cert.Kernel.sig) → Buf (Elt Bits) ℓ) : Prop :=
  ∀ c : Dev Cert.Kernel.nD,
    (Cert.Pre_groups_partition_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_groups_partition_rows : Cert.Pre_groups_partition_rows.Facts] (m : (ℓ : Loc Cert.KernelIdeal.nD Cert.KernelIdeal.τ Cert.KernelIdeal.sig) → Buf (Elt Ideal) ℓ) : Prop :=
  ∀ c : Dev Cert.KernelIdeal.nD,
    (Cert.Pre_groups_partition_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_groups_partition_rows [hPre_groups_partition_rows : Cert.Pre_groups_partition_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_partition_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_groups_partition_rows : Cert.Pre_groups_partition_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_groups_partition_rows : Cert.Pre_groups_partition_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_groups_partition_rows [hReferenceIdeal : Cert.ReferenceIdeal.Facts] [hPre_groups_partition_rows : Cert.Pre_groups_partition_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_groups_partition_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_groups_partition_rows : Cert.Pre_groups_partition_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_groups_partition_rows : Cert.Pre_groups_partition_rows.Facts),
    quiescent_Kernel (hKernel := hKernel) (hPre_groups_partition_rows := hPre_groups_partition_rows)
    ∧ quiescent_KernelIdeal (hKernelIdeal := hKernelIdeal) (hPre_groups_partition_rows := hPre_groups_partition_rows)
    ∧ quiescent_ReferenceIdeal (hReferenceIdeal := hReferenceIdeal)
    ∧ quiescent_ReferenceIdeal_pre_groups_partition_rows (hReferenceIdeal := hReferenceIdeal) (hPre_groups_partition_rows := hPre_groups_partition_rows)
    ∧ preserves_Kernel_KernelIdeal
    ∧ algebraic_KernelIdeal_ReferenceIdeal (hKernelIdeal := hKernelIdeal) (hReferenceIdeal := hReferenceIdeal) (hPre_groups_partition_rows := hPre_groups_partition_rows)
-- ==== Pre_groups_partition_rows.lean ====
abbrev S6144x2816 : Shape := ⟨2, ![6144, 2816]⟩
abbrev S8 : Shape := ⟨1, ![8]⟩
abbrev S8x1408x2048 : Shape := ⟨3, ![8, 1408, 2048]⟩
abbrev S8x22x2048 : Shape := ⟨3, ![8, 22, 2048]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S6144x2816 .bf16) (main_arg1 : IVec S8 32) (main_arg2 : IVec S8x1408x2048 8) (main_arg3 : FVec F S8x22x2048 .bf16) : IVec S8 1 :=
  let main_c : IVec S_ 32 := constantI S_ 32 0#32
  let main_v0 : IVec S8 32 := broadcastInDim S8 ![] bcast_S_S8 main_c
  let main_v1 : IVec S8 1 := cmpi .sge main_arg1 main_v0
  let main_c_0 : IVec S_ 32 := constantI S_ 32 6144#32
  let main_v2 : IVec S8 32 := broadcastInDim S8 ![] bcast_S_S8 main_c_0
  let main_v3 : IVec S8 1 := cmpi .sle main_arg1 main_v2
  let main_v4 : IVec S8 1 := andi main_v1 main_v3
  let main_c_1 : IVec S_ 32 := constantI S_ 32 0#32
  let main_v5 : IVec S_ 32 := (fun x v => Host.reduce IntOp.addi x v reducesTo_S8_S_d0 h_S_) main_arg1 main_c_1
  let main_c_2 : IVec S_ 32 := constantI S_ 32 6144#32
  let main_v6 : IVec S_ 1 := cmpi .eq main_v5 main_c_2
  let main_v7 : IVec S8 1 := broadcastInDim S8 ![] bcast_S_S8 main_v6
  let main_v8 : IVec S8 1 := andi main_v4 main_v7
  main_v8
-- ==== Kernel.lean ====
abbrev S6144x2816 : Shape := ⟨2, ![6144, 2816]⟩
abbrev S8 : Shape := ⟨1, ![8]⟩
abbrev S8x1408x2048 : Shape := ⟨3, ![8, 1408, 2048]⟩
abbrev S8x22x2048 : Shape := ⟨3, ![8, 22, 2048]⟩
abbrev S6144x1024 : Shape := ⟨2, ![6144, 1024]⟩
abbrev S6144x1 : Shape := ⟨2, ![6144, 1]⟩
abbrev S2x256x2816 : Shape := ⟨3, ![2, 256, 2816]⟩
abbrev S2x1408x2048 : Shape := ⟨3, ![2, 1408, 2048]⟩
abbrev S2x22x2048 : Shape := ⟨3, ![2, 22, 2048]⟩
abbrev S256x1024 : Shape := ⟨2, ![256, 1024]⟩
abbrev S40x8 : Shape := ⟨2, ![40, 8]⟩
abbrev S2 : Shape := ⟨1, ![2]⟩
abbrev S1 : Shape := ⟨1, ![1]⟩
abbrev S1x1 : Shape := ⟨2, ![1, 1]⟩
abbrev S_ : Shape := ⟨0, ![]⟩
abbrev S1x256x2816 : Shape := ⟨3, ![1, 256, 2816]⟩
abbrev S256x2816 : Shape := ⟨2, ![256, 2816]⟩
abbrev S1x1408x2048 : Shape := ⟨3, ![1, 1408, 2048]⟩
abbrev S1408x2048 : Shape := ⟨2, ![1408, 2048]⟩
abbrev S1x22x2048 : Shape := ⟨3, ![1, 22, 2048]⟩
abbrev S22x2048 : Shape := ⟨2, ![22, 2048]⟩
abbrev S256x1 : Shape := ⟨2, ![256, 1]⟩
abbrev S1x1408x256 : Shape := ⟨3, ![1, 1408, 256]⟩
abbrev S1408x256 : Shape := ⟨2, ![1408, 256]⟩
abbrev S1x22x256 : Shape := ⟨3, ![1, 22, 256]⟩
abbrev S22x256 : Shape := ⟨2, ![22, 256]⟩
abbrev S1408x1x256 : Shape := ⟨3, ![1408, 1, 256]⟩
abbrev S1408x2x256 : Shape := ⟨3, ![1408, 2, 256]⟩
abbrev S2816x256 : Shape := ⟨2, ![2816, 256]⟩
abbrev S128x256 : Shape := ⟨2, ![128, 256]⟩
abbrev S1x256 : Shape := ⟨2, ![1, 256]⟩
abbrev S256x256 : Shape := ⟨2, ![256, 256]⟩
abbrev S256 : Shape := ⟨1, ![256]⟩

abbrev nBuf : Space → Nat
  | .hbm => 6
  | .vmem => 6
  | .smem => 2
  | _ => 0

abbrev bufTy : (tb : Table) → Fin (tcTables nBuf tb) → BufTy
  | .hbm, ⟨0, _⟩ => ⟨S6144x2816, .bf16⟩
  | .hbm, ⟨1, _⟩ => ⟨S8, .i32⟩
  | .hbm, ⟨2, _⟩ => ⟨S8x1408x2048, .i8⟩
  | .hbm, ⟨3, _⟩ => ⟨S8x22x2048, .bf16⟩
  | .hbm, ⟨4, _⟩ => ⟨S6144x1024, .fp8e4m3⟩
  | .hbm, ⟨5, _⟩ => ⟨S6144x1, .f32⟩
  | .local _ .vmem, ⟨0, _⟩ => ⟨S6144x1024, .fp8e4m3⟩
  | .local _ .vmem, ⟨1, _⟩ => ⟨S6144x1, .f32⟩
  | .local _ .vmem, ⟨2, _⟩ => ⟨S2x256x2816, .bf16⟩
  | .local _ .vmem, ⟨3, _⟩ => ⟨S2x1408x2048, .i8⟩
  | .local _ .vmem, ⟨4, _⟩ => ⟨S2x22x2048, .bf16⟩
  | .local _ .vmem, ⟨5, _⟩ => ⟨S256x1024, .f32⟩
  | .local _ .smem, ⟨0, _⟩ => ⟨S8, .i32⟩
  | .local _ .smem, ⟨1, _⟩ => ⟨S40x8, .i32⟩
  | _, _ => ⟨S6144x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_stg0_0 : Ref sig .tc := ⟨.smem, 0, rfl⟩
abbrev cc0_scratch4 : Ref sig .tc := ⟨.smem, 1, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32_2 : BitVec 32 := 0#32
  let c8_i32 : BitVec 32 := 8#32
  let v0 : BitVec 32 := Scalar.addi c0_i32_2 c8_i32
  let c1_i32 : BitVec 32 := 1#32
  ⟨c0_i32_2, v0, c1_i32⟩
def k0_off1 (k0_t1 : Fin k0_t1_loop.trips) : Fin 1 → Nat :=
  let c0_i32_2 : BitVec 32 := 0#32
  let c1_i32 : BitVec 32 := 1#32
  let arg14 : BitVec 32 := Scf.iv c0_i32_2 c1_i32 k0_t1
  let v29 : Index := Scalar.indexCast arg14
  ![v29.toNat]
@[reducible] def k0_t2_loop (k0_t1 : Fin k0_t1_loop.trips) : Scf.Loop 32 :=
  let c0_i32_2 : BitVec 32 := 0#32
  let c1_i32 : BitVec 32 := 1#32
  let arg14 : BitVec 32 := Scf.iv c0_i32_2 c1_i32 k0_t1
  let c1_i32_38 : BitVec 32 := 1#32
  let v55 : BitVec 32 := Scalar.addi arg14 c1_i32_38
  let c8_i32_39 : BitVec 32 := 8#32
  let v56 : BitVec 32 := Scalar.subi c8_i32_39 v55
  let c1_i32_40 : BitVec 32 := 1#32
  let v58 : BitVec 32 := Scalar.divsi v56 c1_i32_40
  let v59 : BitVec 32 := Scalar.muli v58 c1_i32_40
  let v60 : BitVec 32 := Scalar.addi v55 v59
  let c1_i32_41 : BitVec 32 := 1#32
  ⟨v55, v60, c1_i32_41⟩
def k0_off2 (k0_t1 : Fin k0_t1_loop.trips) (k0_t2 : Fin (k0_t2_loop k0_t1).trips) : Fin 1 → Nat :=
  let c0_i32_2 : BitVec 32 := 0#32
  let c1_i32 : BitVec 32 := 1#32
  let arg14 : BitVec 32 := Scf.iv c0_i32_2 c1_i32 k0_t1
  let c1_i32_38 : BitVec 32 := 1#32
  let v55 : BitVec 32 := Scalar.addi arg14 c1_i32_38
  let c1_i32_41 : BitVec 32 := 1#32
  let arg18 : BitVec 32 := Scf.iv v55 c1_i32_41 k0_t2
  let v75 : Index := Scalar.indexCast arg18
  ![v75.toNat]
@[reducible] def k0_t3_loop (k0_t1 : Fin k0_t1_loop.trips) : Scf.Loop 32 :=
  let c0_i32_2 : BitVec 32 := 0#32
  let c1_i32 : BitVec 32 := 1#32
  let arg14 : BitVec 32 := Scf.iv c0_i32_2 c1_i32 k0_t1
  let c1_i32_38 : BitVec 32 := 1#32
  let v55 : BitVec 32 := Scalar.addi arg14 c1_i32_38
  let c8_i32_39 : BitVec 32 := 8#32
  let v56 : BitVec 32 := Scalar.subi c8_i32_39 v55
  let c1_i32_40 : BitVec 32 := 1#32
  let v58 : BitVec 32 := Scalar.divsi v56 c1_i32_40
  let v59 : BitVec 32 := Scalar.muli v58 c1_i32_40
  let v60 : BitVec 32 := Scalar.addi v55 v59
  let v57 : BitVec 32 := Scalar.addi v55 v56
  let c1_i32_42 : BitVec 32 := 1#32
  ⟨v60, v57, c1_i32_42⟩
def k0_off3 (k0_t1 : Fin k0_t1_loop.trips) (k0_t3 : Fin (k0_t3_loop k0_t1).trips) : Fin 1 → Nat :=
  let c0_i32_2 : BitVec 32 := 0#32
  let c1_i32 : BitVec 32 := 1#32
  let arg14 : BitVec 32 := Scf.iv c0_i32_2 c1_i32 k0_t1
  let c1_i32_38 : BitVec 32 := 1#32
  let v55 : BitVec 32 := Scalar.addi arg14 c1_i32_38
  let c8_i32_39 : BitVec 32 := 8#32
  let v56 : BitVec 32 := Scalar.subi c8_i32_39 v55
  let c1_i32_40 : BitVec 32 := 1#32
  let v58 : BitVec 32 := Scalar.divsi v56 c1_i32_40
  let v59 : BitVec 32 := Scalar.muli v58 c1_i32_40
  let v60 : BitVec 32 := Scalar.addi v55 v59
  let c1_i32_42 : BitVec 32 := 1#32
  let arg18 : BitVec 32 := Scf.iv v60 c1_i32_42 k0_t3
  let v75 : Index := Scalar.indexCast arg18
  ![v75.toNat]
@[reducible] def k0_t4_loop (arg15 : BitVec 32) (v30 : BitVec 32) : Scf.Loop 32 :=
  let c0_i32_43 : BitVec 32 := 0#32
  let c0_i32_28 : BitVec 32 := 0#32
  let v33 : BitVec 1 := Scalar.cmpi .sgt v30 c0_i32_28
  let v31 : BitVec 32 := Scalar.addi arg15 v30
  let c_m32_i32 : BitVec 32 := 4294967264#32
  let v32 : BitVec 32 := Scalar.andi arg15 c_m32_i32
  let v34 : BitVec 32 := Scalar.subi v31 v32
  let c256_i32 : BitVec 32 := 256#32
  let v35 : BitVec 32 := Scalar.addi v34 c256_i32
  let c1_i32_29 : BitVec 32 := 1#32
  let v36 : BitVec 32 := Scalar.subi v35 c1_i32_29
  let c0_i32_31 : BitVec 32 := 0#32
  let v38 : BitVec 1 := Scalar.cmpi .sgt v36 c0_i32_31
  let v39 : BitVec 32 := Scalar.extui v38
  let c0_i32_32 : BitVec 32 := 0#32
  let v40 : BitVec 1 := Scalar.cmpi .slt v36 c0_i32_32
  let v41 : BitVec 32 := Scalar.extui v40
  let v42 : BitVec 32 := Scalar.subi v39 v41
  let c256_i32_30 : BitVec 32 := 256#32
  let c0_i32_33 : BitVec 32 := 0#32
  let v43 : BitVec 1 := Scalar.cmpi .sgt c256_i32_30 c0_i32_33
  let v44 : BitVec 32 := Scalar.extui v43
  let c0_i32_34 : BitVec 32 := 0#32
  let v45 : BitVec 1 := Scalar.cmpi .slt c256_i32_30 c0_i32_34
  let v46 : BitVec 32 := Scalar.extui v45
  let v47 : BitVec 32 := Scalar.subi v44 v46
  let v48 : BitVec 1 := Scalar.cmpi .ne v42 v47
  let v49 : BitVec 32 := Scalar.remsi v36 c256_i32_30
  let c0_i32_35 : BitVec 32 := 0#32
  let v50 : BitVec 1 := Scalar.cmpi .ne v49 c0_i32_35
  let v51 : BitVec 1 := Scalar.andi v48 v50
  let v37 : BitVec 32 := Scalar.divsi v36 c256_i32_30
  let c1_i32_36 : BitVec 32 := 1#32
  let v52 : BitVec 32 := Scalar.subi v37 c1_i32_36
  let v53 : BitVec 32 := Scalar.select v51 v52 v37
  let c0_i32_37 : BitVec 32 := 0#32
  let v54 : BitVec 32 := Scalar.select v33 v53 c0_i32_37
  let v63 : BitVec 32 := Scalar.subi v54 c0_i32_43
  let c1_i32_45 : BitVec 32 := 1#32
  let v65 : BitVec 32 := Scalar.divsi v63 c1_i32_45
  let v66 : BitVec 32 := Scalar.muli v65 c1_i32_45
  let v67 : BitVec 32 := Scalar.addi c0_i32_43 v66
  let c1_i32_46 : BitVec 32 := 1#32
  ⟨c0_i32_43, v67, c1_i32_46⟩

def k0_off4 (arg15 : BitVec 32) (arg16 : BitVec 32) (v30 : BitVec 32) (k0_t4 : Fin (k0_t4_loop arg15 v30).trips) : Fin 2 → Nat :=
  let c0_i32_43 : BitVec 32 := 0#32
  let c1_i32_46 : BitVec 32 := 1#32
  let arg18 : BitVec 32 := Scf.iv c0_i32_43 c1_i32_46 k0_t4
  let v76 : BitVec 32 := Scalar.addi arg16 arg18
  let v77 : Index := Scalar.indexCast v76
  let c0_51 : Index := 0#32
  ![v77.toNat, 0]
def k0_off5 (arg15 : BitVec 32) (arg16 : BitVec 32) (v30 : BitVec 32) (k0_t4 : Fin (k0_t4_loop arg15 v30).trips) : Fin 2 → Nat :=
  let c0_i32_43 : BitVec 32 := 0#32
  let c1_i32_46 : BitVec 32 := 1#32
  let arg18 : BitVec 32 := Scf.iv c0_i32_43 c1_i32_46 k0_t4
  let v80 : BitVec 32 := Scalar.addi arg16 arg18
  let v81 : Index := Scalar.indexCast v80
  let c1_52 : Index := 1#32
  ![v81.toNat, 1]
def k0_off6 (arg15 : BitVec 32) (arg16 : BitVec 32) (v30 : BitVec 32) (k0_t4 : Fin (k0_t4_loop arg15 v30).trips) : Fin 2 → Nat :=
  let c0_i32_43 : BitVec 32 := 0#32
  let c1_i32_46 : BitVec 32 := 1#32
  let arg18 : BitVec 32 := Scf.iv c0_i32_43 c1_i32_46 k0_t4
  let v84 : BitVec 32 := Scalar.addi arg16 arg18
  let v85 : Index := Scalar.indexCast v84
  let c2 : Index := 2#32
  ![v85.toNat, 2]
def k0_off7 (arg15 : BitVec 32) (arg16 : BitVec 32) (v30 : BitVec 32) (k0_t4 : Fin (k0_t4_loop arg15 v30).trips) : Fin 2 → Nat :=
  let c0_i32_43 : BitVec 32 := 0#32
  let c1_i32_46 : BitVec 32 := 1#32
  let arg18 : BitVec 32 := Scf.iv c0_i32_43 c1_i32_46 k0_t4
  let v89 : BitVec 32 := Scalar.addi arg16 arg18
  let v90 : Index := Scalar.indexCast v89
  let c3 : Index := 3#32
  ![v90.toNat, 3]
def k0_off8 (arg15 : BitVec 32) (arg16 : BitVec 32) (v30 : BitVec 32) (k0_t4 : Fin (k0_t4_loop arg15 v30).trips) : Fin 2 → Nat :=
  let c0_i32_43 : BitVec 32 := 0#32
  let c1_i32_46 : BitVec 32 := 1#32
  let arg18 : BitVec 32 := Scf.iv c0_i32_43 c1_i32_46 k0_t4
  let v92 : BitVec 32 := Scalar.addi arg16 arg18
  let v93 : Index := Scalar.indexCast v92
  let c4 : Index := 4#32
  ![v93.toNat, 4]
def k0_off9 (arg15 : BitVec 32) (arg16 : BitVec 32) (v30 : BitVec 32) (k0_t4 : Fin (k0_t4_loop arg15 v30).trips) : Fin 2 → Nat :=
  let c0_i32_43 : BitVec 32 := 0#32
  let c1_i32_46 : BitVec 32 := 1#32
  let arg18 : BitVec 32 := Scf.iv c0_i32_43 c1_i32_46 k0_t4
  let v95 : BitVec 32 := Scalar.addi arg16 arg18
  let v96 : Index := Scalar.indexCast v95
  let c5 : Index := 5#32
  ![v96.toNat, 5]
@[reducible] def k0_t5_loop (arg15 : BitVec 32) (v30 : BitVec 32) : Scf.Loop 32 :=
  let c0_i32_43 : BitVec 32 := 0#32
  let c0_i32_28 : BitVec 32 := 0#32
  let v33 : BitVec 1 := Scalar.cmpi .sgt v30 c0_i32_28
  let v31 : BitVec 32 := Scalar.addi arg15 v30
  let c_m32_i32 : BitVec 32 := 4294967264#32
  let v32 : BitVec 32 := Scalar.andi arg15 c_m32_i32
  let v34 : BitVec 32 := Scalar.subi v31 v32
  let c256_i32 : BitVec 32 := 256#32
  let v35 : BitVec 32 := Scalar.addi v34 c256_i32
  let c1_i32_29 : BitVec 32 := 1#32
  let v36 : BitVec 32 := Scalar.subi v35 c1_i32_29
  let c0_i32_31 : BitVec 32 := 0#32
  let v38 : BitVec 1 := Scalar.cmpi .sgt v36 c0_i32_31
  let v39 : BitVec 32 := Scalar.extui v38
  let c0_i32_32 : BitVec 32 := 0#32
  let v40 : BitVec 1 := Scalar.cmpi .slt v36 c0_i32_32
  let v41 : BitVec 32 := Scalar.extui v40
  let v42 : BitVec 32 := Scalar.subi v39 v41
  let c256_i32_30 : BitVec 32 := 256#32
  let c0_i32_33 : BitVec 32 := 0#32
  let v43 : BitVec 1 := Scalar.cmpi .sgt c256_i32_30 c0_i32_33
  let v44 : BitVec 32 := Scalar.extui v43
  let c0_i32_34 : BitVec 32 := 0#32
  let v45 : BitVec 1 := Scalar.cmpi .slt c256_i32_30 c0_i32_34
  let v46 : BitVec 32 := Scalar.extui v45
  let v47 : BitVec 32 := Scalar.subi v44 v46
  let v48 : BitVec 1 := Scalar.cmpi .ne v42 v47
  let v49 : BitVec 32 := Scalar.remsi v36 c256_i32_30
  let c0_i32_35 : BitVec 32 := 0#32
  let v50 : BitVec 1 := Scalar.cmpi .ne v49 c0_i32_35
  let v51 : BitVec 1 := Scalar.andi v48 v50
  let v37 : BitVec 32 := Scalar.divsi v36 c256_i32_30
  let c1_i32_36 : BitVec 32 := 1#32
  let v52 : BitVec 32 := Scalar.subi v37 c1_i32_36
  let v53 : BitVec 32 := Scalar.select v51 v52 v37
  let c0_i32_37 : BitVec 32 := 0#32
  let v54 : BitVec 32 := Scalar.select v33 v53 c0_i32_37
  let v63 : BitVec 32 := Scalar.subi v54 c0_i32_43
  let c1_i32_45 : BitVec 32 := 1#32
  let v65 : BitVec 32 := Scalar.divsi v63 c1_i32_45
  let v66 : BitVec 32 := Scalar.muli v65 c1_i32_45
  let v67 : BitVec 32 := Scalar.addi c0_i32_43 v66
  let v64 : BitVec 32 := Scalar.addi c0_i32_43 v63
  let c1_i32_47 : BitVec 32 := 1#32
  ⟨v67, v64, c1_i32_47⟩
def k0_off10 (arg15 : BitVec 32) (arg16 : BitVec 32) (v30 : BitVec 32) (k0_t5 : Fin (k0_t5_loop arg15 v30).trips) : Fin 2 → Nat :=
  let c0_i32_43 : BitVec 32 := 0#32
  let c0_i32_28 : BitVec 32 := 0#32
  let v33 : BitVec 1 := Scalar.cmpi .sgt v30 c0_i32_28
  let v31 : BitVec 32 := Scalar.addi arg15 v30
  let c_m32_i32 : BitVec 32 := 4294967264#32
  let v32 : BitVec 32 := Scalar.andi arg15 c_m32_i32
  let v34 : BitVec 32 := Scalar.subi v31 v32
  let c256_i32 : BitVec 32 := 256#32
  let v35 : BitVec 32 := Scalar.addi v34 c256_i32
  let c1_i32_29 : BitVec 32 := 1#32
  let v36 : BitVec 32 := Scalar.subi v35 c1_i32_29
  let c0_i32_31 : BitVec 32 := 0#32
  let v38 : BitVec 1 := Scalar.cmpi .sgt v36 c0_i32_31
  let v39 : BitVec 32 := Scalar.extui v38
  let c0_i32_32 : BitVec 32 := 0#32
  let v40 : BitVec 1 := Scalar.cmpi .slt v36 c0_i32_32
  let v41 : BitVec 32 := Scalar.extui v40
  let v42 : BitVec 32 := Scalar.subi v39 v41
  let c256_i32_30 : BitVec 32 := 256#32
  let c0_i32_33 : BitVec 32 := 0#32
  let v43 : BitVec 1 := Scalar.cmpi .sgt c256_i32_30 c0_i32_33
  let v44 : BitVec 32 := Scalar.extui v43
  let c0_i32_34 : BitVec 32 := 0#32
  let v45 : BitVec 1 := Scalar.cmpi .slt c256_i32_30 c0_i32_34
  let v46 : BitVec 32 := Scalar.extui v45
  let v47 : BitVec 32 := Scalar.subi v44 v46
  let v48 : BitVec 1 := Scalar.cmpi .ne v42 v47
  let v49 : BitVec 32 := Scalar.remsi v36 c256_i32_30
  let c0_i32_35 : BitVec 32 := 0#32
  let v50 : BitVec 1 := Scalar.cmpi .ne v49 c0_i32_35
  let v51 : BitVec 1 := Scalar.andi v48 v50
  let v37 : BitVec 32 := Scalar.divsi v36 c256_i32_30
  let c1_i32_36 : BitVec 32 := 1#32
  let v52 : BitVec 32 := Scalar.subi v37 c1_i32_36
  let v53 : BitVec 32 := Scalar.select v51 v52 v37
  let c0_i32_37 : BitVec 32 := 0#32
  let v54 : BitVec 32 := Scalar.select v33 v53 c0_i32_37
  let v63 : BitVec 32 := Scalar.subi v54 c0_i32_43
  let c1_i32_45 : BitVec 32 := 1#32
  let v65 : BitVec 32 := Scalar.divsi v63 c1_i32_45
  let v66 : BitVec 32 := Scalar.muli v65 c1_i32_45
  let v67 : BitVec 32 := Scalar.addi c0_i32_43 v66
  let c1_i32_47 : BitVec 32 := 1#32
  let arg18 : BitVec 32 := Scf.iv v67 c1_i32_47 k0_t5
  let v76 : BitVec 32 := Scalar.addi arg16 arg18
  let v77 : Index := Scalar.indexCast v76
  let c0_51 : Index := 0#32
  ![v77.toNat, 0]
def k0_off11 (arg15 : BitVec 32) (arg16 : BitVec 32) (v30 : BitVec 32) (k0_t5 : Fin (k0_t5_loop arg15 v30).trips) : Fin 2 → Nat :=
  let c0_i32_43 : BitVec 32 := 0#32
  let c0_i32_28 : BitVec 32 := 0#32
  let v33 : BitVec 1 := Scalar.cmpi .sgt v30 c0_i32_28
  let v31 : BitVec 32 := Scalar.addi arg15 v30
  let c_m32_i32 : BitVec 32 := 4294967264#32
  let v32 : BitVec 32 := Scalar.andi arg15 c_m32_i32
  let v34 : BitVec 32 := Scalar.subi v31 v32
  let c256_i32 : BitVec 32 := 256#32
  let v35 : BitVec 32 := Scalar.addi v34 c256_i32
  let c1_i32_29 : BitVec 32 := 1#32
  let v36 : BitVec 32 := Scalar.subi v35 c1_i32_29
  let c0_i32_31 : BitVec 32 := 0#32
  let v38 : BitVec 1 := Scalar.cmpi .sgt v36 c0_i32_31
  let v39 : BitVec 32 := Scalar.extui v38
  let c0_i32_32 : BitVec 32 := 0#32
  let v40 : BitVec 1 := Scalar.cmpi .slt v36 c0_i32_32
  let v41 : BitVec 32 := Scalar.extui v40
  let v42 : BitVec 32 := Scalar.subi v39 v41
  let c256_i32_30 : BitVec 32 := 256#32
  let c0_i32_33 : BitVec 32 := 0#32
  let v43 : BitVec 1 := Scalar.cmpi .sgt c256_i32_30 c0_i32_33
  let v44 : BitVec 32 := Scalar.extui v43
  let c0_i32_34 : BitVec 32 := 0#32
  let v45 : BitVec 1 := Scalar.cmpi .slt c256_i32_30 c0_i32_34
  let v46 : BitVec 32 := Scalar.extui v45
  let v47 : BitVec 32 := Scalar.subi v44 v46
  let v48 : BitVec 1 := Scalar.cmpi .ne v42 v47
  let v49 : BitVec 32 := Scalar.remsi v36 c256_i32_30
  let c0_i32_35 : BitVec 32 := 0#32
  let v50 : BitVec 1 := Scalar.cmpi .ne v49 c0_i32_35
  let v51 : BitVec 1 := Scalar.andi v48 v50
  let v37 : BitVec 32 := Scalar.divsi v36 c256_i32_30
  let c1_i32_36 : BitVec 32 := 1#32
  let v52 : BitVec 32 := Scalar.subi v37 c1_i32_36
  let v53 : BitVec 32 := Scalar.select v51 v52 v37
  let c0_i32_37 : BitVec 32 := 0#32
  let v54 : BitVec 32 := Scalar.select v33 v53 c0_i32_37
  let v63 : BitVec 32 := Scalar.subi v54 c0_i32_43
  let c1_i32_45 : BitVec 32 := 1#32
  let v65 : BitVec 32 := Scalar.divsi v63 c1_i32_45
  let v66 : BitVec 32 := Scalar.muli v65 c1_i32_45
  let v67 : BitVec 32 := Scalar.addi c0_i32_43 v66
  let c1_i32_47 : BitVec 32 := 1#32
  let arg18 : BitVec 32 := Scf.iv v67 c1_i32_47 k0_t5
  let v80 : BitVec 32 := Scalar.addi arg16 arg18
  let v81 : Index := Scalar.indexCast v80
  let c1_52 : Index := 1#32
  ![v81.toNat, 1]
def k0_off12 (arg15 : BitVec 32) (arg16 : BitVec 32) (v30 : BitVec 32) (k0_t5 : Fin (k0_t5_loop arg15 v30).trips) : Fin 2 → Nat :=
  let c0_i32_43 : BitVec 32 := 0#32
  let c0_i32_28 : BitVec 32 := 0#32
  let v33 : BitVec 1 := Scalar.cmpi .sgt v30 c0_i32_28
  let v31 : BitVec 32 := Scalar.addi arg15 v30
  let c_m32_i32 : BitVec 32 := 4294967264#32
  let v32 : BitVec 32 := Scalar.andi arg15 c_m32_i32
  let v34 : BitVec 32 := Scalar.subi v31 v32
  let c256_i32 : BitVec 32 := 256#32
  let v35 : BitVec 32 := Scalar.addi v34 c256_i32
  let c1_i32_29 : BitVec 32 := 1#32
  let v36 : BitVec 32 := Scalar.subi v35 c1_i32_29
  let c0_i32_31 : BitVec 32 := 0#32
  let v38 : BitVec 1 := Scalar.cmpi .sgt v36 c0_i32_31
  let v39 : BitVec 32 := Scalar.extui v38
  let c0_i32_32 : BitVec 32 := 0#32
  let v40 : BitVec 1 := Scalar.cmpi .slt v36 c0_i32_32
  let v41 : BitVec 32 := Scalar.extui v40
  let v42 : BitVec 32 := Scalar.subi v39 v41
  let c256_i32_30 : BitVec 32 := 256#32
  let c0_i32_33 : BitVec 32 := 0#32
  let v43 : BitVec 1 := Scalar.cmpi .sgt c256_i32_30 c0_i32_33
  let v44 : BitVec 32 := Scalar.extui v43
  let c0_i32_34 : BitVec 32 := 0#32
  let v45 : BitVec 1 := Scalar.cmpi .slt c256_i32_30 c0_i32_34
  let v46 : BitVec 32 := Scalar.extui v45
  let v47 : BitVec 32 := Scalar.subi v44 v46
  let v48 : BitVec 1 := Scalar.cmpi .ne v42 v47
  let v49 : BitVec 32 := Scalar.remsi v36 c256_i32_30
  let c0_i32_35 : BitVec 32 := 0#32
  let v50 : BitVec 1 := Scalar.cmpi .ne v49 c0_i32_35
  let v51 : BitVec 1 := Scalar.andi v48 v50
  let v37 : BitVec 32 := Scalar.divsi v36 c256_i32_30
  let c1_i32_36 : BitVec 32 := 1#32
  let v52 : BitVec 32 := Scalar.subi v37 c1_i32_36
  let v53 : BitVec 32 := Scalar.select v51 v52 v37
  let c0_i32_37 : BitVec 32 := 0#32
  let v54 : BitVec 32 := Scalar.select v33 v53 c0_i32_37
  let v63 : BitVec 32 := Scalar.subi v54 c0_i32_43
  let c1_i32_45 : BitVec 32 := 1#32
  let v65 : BitVec 32 := Scalar.divsi v63 c1_i32_45
  let v66 : BitVec 32 := Scalar.muli v65 c1_i32_45
  let v67 : BitVec 32 := Scalar.addi c0_i32_43 v66
  let c1_i32_47 : BitVec 32 := 1#32
  let arg18 : BitVec 32 := Scf.iv v67 c1_i32_47 k0_t5
  let v84 : BitVec 32 := Scalar.addi arg16 arg18
  let v85 : Index := Scalar.indexCast v84
  let c2 : Index := 2#32
  ![v85.toNat, 2]
def k0_off13 (arg15 : BitVec 32) (arg16 : BitVec 32) (v30 : BitVec 32) (k0_t5 : Fin (k0_t5_loop arg15 v30).trips) : Fin 2 → Nat :=
  let c0_i32_43 : BitVec 32 := 0#32
  let c0_i32_28 : BitVec 32 := 0#32
  let v33 : BitVec 1 := Scalar.cmpi .sgt v30 c0_i32_28
  let v31 : BitVec 32 := Scalar.addi arg15 v30
  let c_m32_i32 : BitVec 32 := 4294967264#32
  let v32 : BitVec 32 := Scalar.andi arg15 c_m32_i32
  let v34 : BitVec 32 := Scalar.subi v31 v32
  let c256_i32 : BitVec 32 := 256#32
  let v35 : BitVec 32 := Scalar.addi v34 c256_i32
  let c1_i32_29 : BitVec 32 := 1#32
  let v36 : BitVec 32 := Scalar.subi v35 c1_i32_29
  let c0_i32_31 : BitVec 32 := 0#32
  let v38 : BitVec 1 := Scalar.cmpi .sgt v36 c0_i32_31
  let v39 : BitVec 32 := Scalar.extui v38
  let c0_i32_32 : BitVec 32 := 0#32
  let v40 : BitVec 1 := Scalar.cmpi .slt v36 c0_i32_32
  let v41 : BitVec 32 := Scalar.extui v40
  let v42 : BitVec 32 := Scalar.subi v39 v41
  let c256_i32_30 : BitVec 32 := 256#32
  let c0_i32_33 : BitVec 32 := 0#32
  let v43 : BitVec 1 := Scalar.cmpi .sgt c256_i32_30 c0_i32_33
  let v44 : BitVec 32 := Scalar.extui v43
  let c0_i32_34 : BitVec 32 := 0#32
  let v45 : BitVec 1 := Scalar.cmpi .slt c256_i32_30 c0_i32_34
  let v46 : BitVec 32 := Scalar.extui v45
  let v47 : BitVec 32 := Scalar.subi v44 v46
  let v48 : BitVec 1 := Scalar.cmpi .ne v42 v47
  let v49 : BitVec 32 := Scalar.remsi v36 c256_i32_30
  let c0_i32_35 : BitVec 32 := 0#32
  let v50 : BitVec 1 := Scalar.cmpi .ne v49 c0_i32_35
  let v51 : BitVec 1 := Scalar.andi v48 v50
  let v37 : BitVec 32 := Scalar.divsi v36 c256_i32_30
  let c1_i32_36 : BitVec 32 := 1#32
  let v52 : BitVec 32 := Scalar.subi v37 c1_i32_36
  let v53 : BitVec 32 := Scalar.select v51 v52 v37
  let c0_i32_37 : BitVec 32 := 0#32
  let v54 : BitVec 32 := Scalar.select v33 v53 c0_i32_37
  let v63 : BitVec 32 := Scalar.subi v54 c0_i32_43
  let c1_i32_45 : BitVec 32 := 1#32
  let v65 : BitVec 32 := Scalar.divsi v63 c1_i32_45
  let v66 : BitVec 32 := Scalar.muli v65 c1_i32_45
  let v67 : BitVec 32 := Scalar.addi c0_i32_43 v66
  let c1_i32_47 : BitVec 32 := 1#32
  let arg18 : BitVec 32 := Scf.iv v67 c1_i32_47 k0_t5
  let v89 : BitVec 32 := Scalar.addi arg16 arg18
  let v90 : Index := Scalar.indexCast v89
  let c3 : Index := 3#32
  ![v90.toNat, 3]
def k0_off14 (arg15 : BitVec 32) (arg16 : BitVec 32) (v30 : BitVec 32) (k0_t5 : Fin (k0_t5_loop arg15 v30).trips) : Fin 2 → Nat :=
  let c0_i32_43 : BitVec 32 := 0#32
  let c0_i32_28 : BitVec 32 := 0#32
  let v33 : BitVec 1 := Scalar.cmpi .sgt v30 c0_i32_28
  let v31 : BitVec 32 := Scalar.addi arg15 v30
  let c_m32_i32 : BitVec 32 := 4294967264#32
  let v32 : BitVec 32 := Scalar.andi arg15 c_m32_i32
  let v34 : BitVec 32 := Scalar.subi v31 v32
  let c256_i32 : BitVec 32 := 256#32
  let v35 : BitVec 32 := Scalar.addi v34 c256_i32
  let c1_i32_29 : BitVec 32 := 1#32
  let v36 : BitVec 32 := Scalar.subi v35 c1_i32_29
  let c0_i32_31 : BitVec 32 := 0#32
  let v38 : BitVec 1 := Scalar.cmpi .sgt v36 c0_i32_31
  let v39 : BitVec 32 := Scalar.extui v38
  let c0_i32_32 : BitVec 32 := 0#32
  let v40 : BitVec 1 := Scalar.cmpi .slt v36 c0_i32_32
  let v41 : BitVec 32 := Scalar.extui v40
  let v42 : BitVec 32 := Scalar.subi v39 v41
  let c256_i32_30 : BitVec 32 := 256#32
  let c0_i32_33 : BitVec 32 := 0#32
  let v43 : BitVec 1 := Scalar.cmpi .sgt c256_i32_30 c0_i32_33
  let v44 : BitVec 32 := Scalar.extui v43
  let c0_i32_34 : BitVec 32 := 0#32
  let v45 : BitVec 1 := Scalar.cmpi .slt c256_i32_30 c0_i32_34
  let v46 : BitVec 32 := Scalar.extui v45
  let v47 : BitVec 32 := Scalar.subi v44 v46
  let v48 : BitVec 1 := Scalar.cmpi .ne v42 v47
  let v49 : BitVec 32 := Scalar.remsi v36 c256_i32_30
  let c0_i32_35 : BitVec 32 := 0#32
  let v50 : BitVec 1 := Scalar.cmpi .ne v49 c0_i32_35
  let v51 : BitVec 1 := Scalar.andi v48 v50
  let v37 : BitVec 32 := Scalar.divsi v36 c256_i32_30
  let c1_i32_36 : BitVec 32 := 1#32
  let v52 : BitVec 32 := Scalar.subi v37 c1_i32_36
  let v53 : BitVec 32 := Scalar.select v51 v52 v37
  let c0_i32_37 : BitVec 32 := 0#32
  let v54 : BitVec 32 := Scalar.select v33 v53 c0_i32_37
  let v63 : BitVec 32 := Scalar.subi v54 c0_i32_43
  let c1_i32_45 : BitVec 32 := 1#32
  let v65 : BitVec 32 := Scalar.divsi v63 c1_i32_45
  let v66 : BitVec 32 := Scalar.muli v65 c1_i32_45
  let v67 : BitVec 32 := Scalar.addi c0_i32_43 v66
  let c1_i32_47 : BitVec 32 := 1#32
  let arg18 : BitVec 32 := Scf.iv v67 c1_i32_47 k0_t5
  let v92 : BitVec 32 := Scalar.addi arg16 arg18
  let v93 : Index := Scalar.indexCast v92
  let c4 : Index := 4#32
  ![v93.toNat, 4]
def k0_off15 (arg15 : BitVec 32) (arg16 : BitVec 32) (v30 : BitVec 32) (k0_t5 : Fin (k0_t5_loop arg15 v30).trips) : Fin 2 → Nat :=
  let c0_i32_43 : BitVec 32 := 0#32
  let c0_i32_28 : BitVec 32 := 0#32
  let v33 : BitVec 1 := Scalar.cmpi .sgt v30 c0_i32_28
  let v31 : BitVec 32 := Scalar.addi arg15 v30
  let c_m32_i32 : BitVec 32 := 4294967264#32
  let v32 : BitVec 32 := Scalar.andi arg15 c_m32_i32
  let v34 : BitVec 32 := Scalar.subi v31 v32
  let c256_i32 : BitVec 32 := 256#32
  let v35 : BitVec 32 := Scalar.addi v34 c256_i32
  let c1_i32_29 : BitVec 32 := 1#32
  let v36 : BitVec 32 := Scalar.subi v35 c1_i32_29
  let c0_i32_31 : BitVec 32 := 0#32
  let v38 : BitVec 1 := Scalar.cmpi .sgt v36 c0_i32_31
  let v39 : BitVec 32 := Scalar.extui v38
  let c0_i32_32 : BitVec 32 := 0#32
  let v40 : BitVec 1 := Scalar.cmpi .slt v36 c0_i32_32
  let v41 : BitVec 32 := Scalar.extui v40
  let v42 : BitVec 32 := Scalar.subi v39 v41
  let c256_i32_30 : BitVec 32 := 256#32
  let c0_i32_33 : BitVec 32 := 0#32
  let v43 : BitVec 1 := Scalar.cmpi .sgt c256_i32_30 c0_i32_33
  let v44 : BitVec 32 := Scalar.extui v43
  let c0_i32_34 : BitVec 32 := 0#32
  let v45 : BitVec 1 := Scalar.cmpi .slt c256_i32_30 c0_i32_34
  let v46 : BitVec 32 := Scalar.extui v45
  let v47 : BitVec 32 := Scalar.subi v44 v46
  let v48 : BitVec 1 := Scalar.cmpi .ne v42 v47
  let v49 : BitVec 32 := Scalar.remsi v36 c256_i32_30
  let c0_i32_35 : BitVec 32 := 0#32
  let v50 : BitVec 1 := Scalar.cmpi .ne v49 c0_i32_35
  let v51 : BitVec 1 := Scalar.andi v48 v50
  let v37 : BitVec 32 := Scalar.divsi v36 c256_i32_30
  let c1_i32_36 : BitVec 32 := 1#32
  let v52 : BitVec 32 := Scalar.subi v37 c1_i32_36
  let v53 : BitVec 32 := Scalar.select v51 v52 v37
  let c0_i32_37 : BitVec 32 := 0#32
  let v54 : BitVec 32 := Scalar.select v33 v53 c0_i32_37
  let v63 : BitVec 32 := Scalar.subi v54 c0_i32_43
  let c1_i32_45 : BitVec 32 := 1#32
  let v65 : BitVec 32 := Scalar.divsi v63 c1_i32_45
  let v66 : BitVec 32 := Scalar.muli v65 c1_i32_45
  let v67 : BitVec 32 := Scalar.addi c0_i32_43 v66
  let c1_i32_47 : BitVec 32 := 1#32
  let arg18 : BitVec 32 := Scf.iv v67 c1_i32_47 k0_t5
  let v95 : BitVec 32 := Scalar.addi arg16 arg18
  let v96 : Index := Scalar.indexCast v95
  let c5 : Index := 5#32
  ![v96.toNat, 5]

def k0_chk1 (arg15 : BitVec 32) (arg16 : BitVec 32) (v30 : BitVec 32) : Prop :=
  ((k0_t4_loop arg15 v30).OK) ∧
  (∀ k0_t4 : Fin (k0_t4_loop arg15 v30).trips, ∀ a, (k0_off4 arg15 arg16 v30 k0_t4) a + S1x1.size a ≤ S40x8.size a) ∧
  (∀ k0_t4 : Fin (k0_t4_loop arg15 v30).trips, ∀ a, (k0_off5 arg15 arg16 v30 k0_t4) a + S1x1.size a ≤ S40x8.size a) ∧
  (∀ k0_t4 : Fin (k0_t4_loop arg15 v30).trips, ∀ a, (k0_off6 arg15 arg16 v30 k0_t4) a + S1x1.size a ≤ S40x8.size a) ∧
  (∀ k0_t4 : Fin (k0_t4_loop arg15 v30).trips, ∀ a, (k0_off7 arg15 arg16 v30 k0_t4) a + S1x1.size a ≤ S40x8.size a) ∧
  (∀ k0_t4 : Fin (k0_t4_loop arg15 v30).trips, ∀ a, (k0_off8 arg15 arg16 v30 k0_t4) a + S1x1.size a ≤ S40x8.size a) ∧
  (∀ k0_t4 : Fin (k0_t4_loop arg15 v30).trips, ∀ a, (k0_off9 arg15 arg16 v30 k0_t4) a + S1x1.size a ≤ S40x8.size a) ∧
  ((k0_t5_loop arg15 v30).OK) ∧
  (∀ k0_t5 : Fin (k0_t5_loop arg15 v30).trips, ∀ a, (k0_off10 arg15 arg16 v30 k0_t5) a + S1x1.size a ≤ S40x8.size a) ∧
  (∀ k0_t5 : Fin (k0_t5_loop arg15 v30).trips, ∀ a, (k0_off11 arg15 arg16 v30 k0_t5) a + S1x1.size a ≤ S40x8.size a) ∧
  (∀ k0_t5 : Fin (k0_t5_loop arg15 v30).trips, ∀ a, (k0_off12 arg15 arg16 v30 k0_t5) a + S1x1.size a ≤ S40x8.size a) ∧
  (∀ k0_t5 : Fin (k0_t5_loop arg15 v30).trips, ∀ a, (k0_off13 arg15 arg16 v30 k0_t5) a + S1x1.size a ≤ S40x8.size a) ∧
  (∀ k0_t5 : Fin (k0_t5_loop arg15 v30).trips, ∀ a, (k0_off14 arg15 arg16 v30 k0_t5) a + S1x1.size a ≤ S40x8.size a) ∧
  (∀ k0_t5 : Fin (k0_t5_loop arg15 v30).trips, ∀ a, (k0_off15 arg15 arg16 v30 k0_t5) a + S1x1.size a ≤ S40x8.size a)
theorem k0_t4_ok : ∀ (arg15 : BitVec 32) (arg16 : BitVec 32) (v30 : BitVec 32) (k0_hw1 : k0_chk1 arg15 arg16 v30), (k0_t4_loop arg15 v30).OK := fun arg15 arg16 v30 k0_hw1 => k0_hw1.1
theorem k0_off4_inb : ∀ (arg15 : BitVec 32) (arg16 : BitVec 32) (v30 : BitVec 32) (k0_hw1 : k0_chk1 arg15 arg16 v30) (k0_t4 : Fin (k0_t4_loop arg15 v30).trips), ∀ a, (k0_off4 arg15 arg16 v30 k0_t4) a + S1x1.size a ≤ S40x8.size a := fun arg15 arg16 v30 k0_hw1 k0_t4 => k0_hw1.2.1 k0_t4
theorem k0_off5_inb : ∀ (arg15 : BitVec 32) (arg16 : BitVec 32) (v30 : BitVec 32) (k0_hw1 : k0_chk1 arg15 arg16 v30) (k0_t4 : Fin (k0_t4_loop arg15 v30).trips), ∀ a, (k0_off5 arg15 arg16 v30 k0_t4) a + S1x1.size a ≤ S40x8.size a := fun arg15 arg16 v30 k0_hw1 k0_t4 => k0_hw1.2.2.1 k0_t4
theorem k0_off6_inb : ∀ (arg15 : BitVec 32) (arg16 : BitVec 32) (v30 : BitVec 32) (k0_hw1 : k0_chk1 arg15 arg16 v30) (k0_t4 : Fin (k0_t4_loop arg15 v30).trips), ∀ a, (k0_off6 arg15 arg16 v30 k0_t4) a + S1x1.size a ≤ S40x8.size a := fun arg15 arg16 v30 k0_hw1 k0_t4 => k0_hw1.2.2.2.1 k0_t4
theorem k0_off7_inb : ∀ (arg15 : BitVec 32) (arg16 : BitVec 32) (v30 : BitVec 32) (k0_hw1 : k0_chk1 arg15 arg16 v30) (k0_t4 : Fin (k0_t4_loop arg15 v30).trips), ∀ a, (k0_off7 arg15 arg16 v30 k0_t4) a + S1x1.size a ≤ S40x8.size a := fun arg15 arg16 v30 k0_hw1 k0_t4 => k0_hw1.2.2.2.2.1 k0_t4
theorem k0_off8_inb : ∀ (arg15 : BitVec 32) (arg16 : BitVec 32) (v30 : BitVec 32) (k0_hw1 : k0_chk1 arg15 arg16 v30) (k0_t4 : Fin (k0_t4_loop arg15 v30).trips), ∀ a, (k0_off8 arg15 arg16 v30 k0_t4) a + S1x1.size a ≤ S40x8.size a := fun arg15 arg16 v30 k0_hw1 k0_t4 => k0_hw1.2.2.2.2.2.1 k0_t4
theorem k0_off9_inb : ∀ (arg15 : BitVec 32) (arg16 : BitVec 32) (v30 : BitVec 32) (k0_hw1 : k0_chk1 arg15 arg16 v30) (k0_t4 : Fin (k0_t4_loop arg15 v30).trips), ∀ a, (k0_off9 arg15 arg16 v30 k0_t4) a + S1x1.size a ≤ S40x8.size a := fun arg15 arg16 v30 k0_hw1 k0_t4 => k0_hw1.2.2.2.2.2.2.1 k0_t4
theorem k0_t5_ok : ∀ (arg15 : BitVec 32) (arg16 : BitVec 32) (v30 : BitVec 32) (k0_hw1 : k0_chk1 arg15 arg16 v30), (k0_t5_loop arg15 v30).OK := fun arg15 arg16 v30 k0_hw1 => k0_hw1.2.2.2.2.2.2.2.1
theorem k0_off10_inb : ∀ (arg15 : BitVec 32) (arg16 : BitVec 32) (v30 : BitVec 32) (k0_hw1 : k0_chk1 arg15 arg16 v30) (k0_t5 : Fin (k0_t5_loop arg15 v30).trips), ∀ a, (k0_off10 arg15 arg16 v30 k0_t5) a + S1x1.size a ≤ S40x8.size a := fun arg15 arg16 v30 k0_hw1 k0_t5 => k0_hw1.2.2.2.2.2.2.2.2.1 k0_t5
theorem k0_off11_inb : ∀ (arg15 : BitVec 32) (arg16 : BitVec 32) (v30 : BitVec 32) (k0_hw1 : k0_chk1 arg15 arg16 v30) (k0_t5 : Fin (k0_t5_loop arg15 v30).trips), ∀ a, (k0_off11 arg15 arg16 v30 k0_t5) a + S1x1.size a ≤ S40x8.size a := fun arg15 arg16 v30 k0_hw1 k0_t5 => k0_hw1.2.2.2.2.2.2.2.2.2.1 k0_t5
theorem k0_off12_inb : ∀ (arg15 : BitVec 32) (arg16 : BitVec 32) (v30 : BitVec 32) (k0_hw1 : k0_chk1 arg15 arg16 v30) (k0_t5 : Fin (k0_t5_loop arg15 v30).trips), ∀ a, (k0_off12 arg15 arg16 v30 k0_t5) a + S1x1.size a ≤ S40x8.size a := fun arg15 arg16 v30 k0_hw1 k0_t5 => k0_hw1.2.2.2.2.2.2.2.2.2.2.1 k0_t5
theorem k0_off13_inb : ∀ (arg15 : BitVec 32) (arg16 : BitVec 32) (v30 : BitVec 32) (k0_hw1 : k0_chk1 arg15 arg16 v30) (k0_t5 : Fin (k0_t5_loop arg15 v30).trips), ∀ a, (k0_off13 arg15 arg16 v30 k0_t5) a + S1x1.size a ≤ S40x8.size a := fun arg15 arg16 v30 k0_hw1 k0_t5 => k0_hw1.2.2.2.2.2.2.2.2.2.2.2.1 k0_t5
theorem k0_off14_inb : ∀ (arg15 : BitVec 32) (arg16 : BitVec 32) (v30 : BitVec 32) (k0_hw1 : k0_chk1 arg15 arg16 v30) (k0_t5 : Fin (k0_t5_loop arg15 v30).trips), ∀ a, (k0_off14 arg15 arg16 v30 k0_t5) a + S1x1.size a ≤ S40x8.size a := fun arg15 arg16 v30 k0_hw1 k0_t5 => k0_hw1.2.2.2.2.2.2.2.2.2.2.2.2.1 k0_t5
theorem k0_off15_inb : ∀ (arg15 : BitVec 32) (arg16 : BitVec 32) (v30 : BitVec 32) (k0_hw1 : k0_chk1 arg15 arg16 v30) (k0_t5 : Fin (k0_t5_loop arg15 v30).trips), ∀ a, (k0_off15 arg15 arg16 v30 k0_t5) a + S1x1.size a ≤ S40x8.size a := fun arg15 arg16 v30 k0_hw1 k0_t5 => k0_hw1.2.2.2.2.2.2.2.2.2.2.2.2.2 k0_t5

def k0_mult1 (v2 : BitVec 32) : BitVec 32 :=
  v2

def k0_off16 (v2 : BitVec 32) : Fin 2 → Nat :=
  let v3 : BitVec 32 := v2
  let c0_i32_8 : BitVec 32 := 0#32
  ![v3.toNat, 0]

def k0_chk2 (v2 : BitVec 32) : Prop :=
  (32 ∣ (k0_mult1 v2).toNat) ∧
  (∀ a, (k0_off16 v2) a + S256x2816.size a ≤ S6144x2816.size a) ∧
  (∀ (hinb : ∀ a, (k0_off16 v2) a + S256x2816.size a ≤ S6144x2816.size a), (Rect.unit (s := S6144x2816) (k0_off16 v2) S256x2816.size hinb).WholeWords (EltTy.packing .bf16))
theorem k0_mult1_dvd : ∀ (v2 : BitVec 32) (k0_hw2 : k0_chk2 v2), 32 ∣ (k0_mult1 v2).toNat := fun v2 k0_hw2 => k0_hw2.1
theorem k0_off16_inb : ∀ (v2 : BitVec 32) (k0_hw2 : k0_chk2 v2), ∀ a, (k0_off16 v2) a + S256x2816.size a ≤ S6144x2816.size a := fun v2 k0_hw2 => k0_hw2.2.1
theorem k0_off16_wordsbf16 : ∀ (v2 : BitVec 32) (k0_hw2 : k0_chk2 v2), (Rect.unit (s := S6144x2816) (k0_off16 v2) S256x2816.size (k0_off16_inb v2 k0_hw2)).WholeWords (EltTy.packing .bf16) := fun v2 k0_hw2 => k0_hw2.2.2 (k0_off16_inb v2 k0_hw2)

def k0_off17 (v9 : BitVec 32) : Fin 3 → Nat :=
  let c0_i32_15 : BitVec 32 := 0#32
  let c0_i32_16 : BitVec 32 := 0#32
  ![v9.toNat, 0, 0]

def k0_off18 (v9 : BitVec 32) : Fin 3 → Nat :=
  let c0_i32_21 : BitVec 32 := 0#32
  let c0_i32_22 : BitVec 32 := 0#32
  ![v9.toNat, 0, 0]

def k0_chk3 (v9 : BitVec 32) : Prop :=
  (∀ a, (k0_off17 v9) a + S1x1408x2048.size a ≤ S8x1408x2048.size a) ∧
  (∀ (hinb : ∀ a, (k0_off17 v9) a + S1x1408x2048.size a ≤ S8x1408x2048.size a), (Rect.unit (s := S8x1408x2048) (k0_off17 v9) S1x1408x2048.size hinb).WholeWords (EltTy.packing .i8)) ∧
  (∀ a, (k0_off18 v9) a + S1x22x2048.size a ≤ S8x22x2048.size a) ∧
  (∀ (hinb : ∀ a, (k0_off18 v9) a + S1x22x2048.size a ≤ S8x22x2048.size a), (Rect.unit (s := S8x22x2048) (k0_off18 v9) S1x22x2048.size hinb).WholeWords (EltTy.packing .bf16))
theorem k0_off17_inb : ∀ (v9 : BitVec 32) (k0_hw3 : k0_chk3 v9), ∀ a, (k0_off17 v9) a + S1x1408x2048.size a ≤ S8x1408x2048.size a := fun v9 k0_hw3 => k0_hw3.1
theorem k0_off17_wordsi8 : ∀ (v9 : BitVec 32) (k0_hw3 : k0_chk3 v9), (Rect.unit (s := S8x1408x2048) (k0_off17 v9) S1x1408x2048.size (k0_off17_inb v9 k0_hw3)).WholeWords (EltTy.packing .i8) := fun v9 k0_hw3 => k0_hw3.2.1 (k0_off17_inb v9 k0_hw3)
theorem k0_off18_inb : ∀ (v9 : BitVec 32) (k0_hw3 : k0_chk3 v9), ∀ a, (k0_off18 v9) a + S1x22x2048.size a ≤ S8x22x2048.size a := fun v9 k0_hw3 => k0_hw3.2.2.1
theorem k0_off18_wordsbf16 : ∀ (v9 : BitVec 32) (k0_hw3 : k0_chk3 v9), (Rect.unit (s := S8x22x2048) (k0_off18 v9) S1x22x2048.size (k0_off18_inb v9 k0_hw3)).WholeWords (EltTy.packing .bf16) := fun v9 k0_hw3 => k0_hw3.2.2.2 (k0_off18_inb v9 k0_hw3)

@[reducible] def k0_t6_loop (v1_1 : BitVec 32) : Scf.Loop 32 :=
  let c0_i32_23 : BitVec 32 := 0#32
  let v22 : BitVec 32 := Scalar.subi v1_1 c0_i32_23
  let c1_i32_25 : BitVec 32 := 1#32
  let v24 : BitVec 32 := Scalar.divsi v22 c1_i32_25
  let v25 : BitVec 32 := Scalar.muli v24 c1_i32_25
  let v26 : BitVec 32 := Scalar.addi c0_i32_23 v25
  let c1_i32_26 : BitVec 32 := 1#32
  ⟨c0_i32_23, v26, c1_i32_26⟩

def k0_off19 (v1_1 : BitVec 32) (k0_t6 : Fin (k0_t6_loop v1_1).trips) : Fin 2 → Nat :=
  let c0_i32_23 : BitVec 32 := 0#32
  let c1_i32_26 : BitVec 32 := 1#32
  let arg14 : BitVec 32 := Scf.iv c0_i32_23 c1_i32_26 k0_t6
  let v30 : Index := Scalar.indexCast arg14
  let c4 : Index := 4#32
  ![v30.toNat, 4]
def k0_off20 (v1_1 : BitVec 32) (k0_t6 : Fin (k0_t6_loop v1_1).trips) : Fin 2 → Nat :=
  let c0_i32_23 : BitVec 32 := 0#32
  let c1_i32_26 : BitVec 32 := 1#32
  let arg14 : BitVec 32 := Scf.iv c0_i32_23 c1_i32_26 k0_t6
  let v32 : Index := Scalar.indexCast arg14
  let c1_29 : Index := 1#32
  ![v32.toNat, 1]
def k0_mult2 (v33 : BitVec 32) : BitVec 32 :=
  v33

def k0_off21 (v1_1 : BitVec 32) (k0_t6 : Fin (k0_t6_loop v1_1).trips) : Fin 2 → Nat :=
  let c0_i32_23 : BitVec 32 := 0#32
  let c1_i32_26 : BitVec 32 := 1#32
  let arg14 : BitVec 32 := Scf.iv c0_i32_23 c1_i32_26 k0_t6
  let v35 : Index := Scalar.indexCast arg14
  let c2 : Index := 2#32
  ![v35.toNat, 2]
def k0_off22 (v1_1 : BitVec 32) (k0_t6 : Fin (k0_t6_loop v1_1).trips) : Fin 2 → Nat :=
  let c0_i32_23 : BitVec 32 := 0#32
  let c1_i32_26 : BitVec 32 := 1#32
  let arg14 : BitVec 32 := Scf.iv c0_i32_23 c1_i32_26 k0_t6
  let v37 : Index := Scalar.indexCast arg14
  let c3 : Index := 3#32
  ![v37.toNat, 3]
def k0_off23 (v1_1 : BitVec 32) (k0_t6 : Fin (k0_t6_loop v1_1).trips) : Fin 2 → Nat :=
  let c0_i32_23 : BitVec 32 := 0#32
  let c1_i32_26 : BitVec 32 := 1#32
  let arg14 : BitVec 32 := Scf.iv c0_i32_23 c1_i32_26 k0_t6
  let v1257 : Index := Scalar.indexCast arg14
  let c0_140 : Index := 0#32
  ![v1257.toNat, 0]
def k0_cond1 (v38 : BitVec 32) : BitVec 1 :=
  let c1_i32_30 : BitVec 32 := 1#32
  let v39 : BitVec 1 := Scalar.cmpi .eq v38 c1_i32_30
  let v40 : BitVec 32 := Scalar.extui v39
  let c0_i32_31 : BitVec 32 := 0#32
  let v41 : BitVec 1 := Scalar.cmpi .ne v40 c0_i32_31
  v41

def k0_off24 (v31 : BitVec 32) : Fin 1 → Nat :=
  ![v31.toNat]
def k0_off25 (v31 : BitVec 32) : Fin 3 → Nat :=
  let c0_i32_141 : BitVec 32 := 0#32
  let c0_i32_142 : BitVec 32 := 0#32
  ![v31.toNat, 0, 0]
def k0_off26 (v1258 : BitVec 32) : Fin 3 → Nat :=
  let c0_i32_143 : BitVec 32 := 0#32
  let c0_i32_144 : BitVec 32 := 0#32
  ![v1258.toNat, 0, 0]

def k0_off27 (v31 : BitVec 32) : Fin 1 → Nat :=
  ![v31.toNat]
def k0_off28 (v31 : BitVec 32) : Fin 3 → Nat :=
  let c0_i32_145 : BitVec 32 := 0#32
  let c0_i32_146 : BitVec 32 := 0#32
  ![v31.toNat, 0, 0]
def k0_off29 (v1258 : BitVec 32) : Fin 3 → Nat :=
  let c0_i32_147 : BitVec 32 := 0#32
  let c0_i32_148 : BitVec 32 := 0#32
  ![v1258.toNat, 0, 0]

def k0_chk7 (v38 : BitVec 32) (v1258 : BitVec 32) : Prop :=
  (∀ (k0_h1 : k0_cond1 v38 = 1#1), ∀ a, (k0_off26 v1258) a + S1x1408x2048.size a ≤ S8x1408x2048.size a) ∧
  (∀ (k0_h1 : k0_cond1 v38 = 1#1), ∀ (hinb : ∀ a, (k0_off26 v1258) a + S1x1408x2048.size a ≤ S8x1408x2048.size a), (Rect.unit (s := S8x1408x2048) (k0_off26 v1258) S1x1408x2048.size hinb).WholeWords (EltTy.packing .i8)) ∧
  (∀ (k0_h1 : k0_cond1 v38 = 1#1), ∀ a, (k0_off29 v1258) a + S1x22x2048.size a ≤ S8x22x2048.size a) ∧
  (∀ (k0_h1 : k0_cond1 v38 = 1#1), ∀ (hinb : ∀ a, (k0_off29 v1258) a + S1x22x2048.size a ≤ S8x22x2048.size a), (Rect.unit (s := S8x22x2048) (k0_off29 v1258) S1x22x2048.size hinb).WholeWords (EltTy.packing .bf16))
theorem k0_off26_inb : ∀ (v38 : BitVec 32) (v1258 : BitVec 32) (k0_hw7 : k0_chk7 v38 v1258), ∀ (k0_h1 : k0_cond1 v38 = 1#1), ∀ a, (k0_off26 v1258) a + S1x1408x2048.size a ≤ S8x1408x2048.size a := fun v38 v1258 k0_hw7 k0_h1 => k0_hw7.1 k0_h1
theorem k0_off26_wordsi8 : ∀ (v38 : BitVec 32) (v1258 : BitVec 32) (k0_hw7 : k0_chk7 v38 v1258), ∀ (k0_h1 : k0_cond1 v38 = 1#1), (Rect.unit (s := S8x1408x2048) (k0_off26 v1258) S1x1408x2048.size (k0_off26_inb v38 v1258 k0_hw7 k0_h1)).WholeWords (EltTy.packing .i8) := fun v38 v1258 k0_hw7 k0_h1 => k0_hw7.2.1 k0_h1 (k0_off26_inb v38 v1258 k0_hw7 k0_h1)
theorem k0_off29_inb : ∀ (v38 : BitVec 32) (v1258 : BitVec 32) (k0_hw7 : k0_chk7 v38 v1258), ∀ (k0_h1 : k0_cond1 v38 = 1#1), ∀ a, (k0_off29 v1258) a + S1x22x2048.size a ≤ S8x22x2048.size a := fun v38 v1258 k0_hw7 k0_h1 => k0_hw7.2.2.1 k0_h1
theorem k0_off29_wordsbf16 : ∀ (v38 : BitVec 32) (v1258 : BitVec 32) (k0_hw7 : k0_chk7 v38 v1258), ∀ (k0_h1 : k0_cond1 v38 = 1#1), (Rect.unit (s := S8x22x2048) (k0_off29 v1258) S1x22x2048.size (k0_off29_inb v38 v1258 k0_hw7 k0_h1)).WholeWords (EltTy.packing .bf16) := fun v38 v1258 k0_hw7 k0_h1 => k0_hw7.2.2.2 k0_h1 (k0_off29_inb v38 v1258 k0_hw7 k0_h1)

def k0_off30 (v1_1 : BitVec 32) (k0_t6 : Fin (k0_t6_loop v1_1).trips) : Fin 2 → Nat :=
  let c0_i32_23 : BitVec 32 := 0#32
  let c1_i32_26 : BitVec 32 := 1#32
  let arg14 : BitVec 32 := Scf.iv c0_i32_23 c1_i32_26 k0_t6
  let v1271 : Index := Scalar.indexCast arg14
  let c5 : Index := 5#32
  ![v1271.toNat, 5]

def k0_chk6 (v1_1 : BitVec 32) (k0_t6 : Fin (k0_t6_loop v1_1).trips) (v31 : BitVec 32) (v38 : BitVec 32) : Prop :=
  (∀ (k0_h1 : k0_cond1 v38 = 1#1), ∀ a, (k0_off23 v1_1 k0_t6) a + S1x1.size a ≤ S40x8.size a) ∧
  (∀ (k0_h1 : k0_cond1 v38 = 1#1), ∀ a, (k0_off24 v31) a + S1.size a ≤ S2.size a) ∧
  (∀ (k0_h1 : k0_cond1 v38 = 1#1), ∀ a, (k0_off25 v31) a + S1x1408x2048.size a ≤ S2x1408x2048.size a) ∧
  (∀ (k0_h1 : k0_cond1 v38 = 1#1), ∀ (hinb : ∀ a, (k0_off25 v31) a + S1x1408x2048.size a ≤ S2x1408x2048.size a), (Rect.unit (s := S2x1408x2048) (k0_off25 v31) S1x1408x2048.size hinb).WholeWords (EltTy.packing .i8)) ∧
  (∀ (k0_h1 : k0_cond1 v38 = 1#1), ∀ a, (k0_off27 v31) a + S1.size a ≤ S2.size a) ∧
  (∀ (k0_h1 : k0_cond1 v38 = 1#1), ∀ a, (k0_off28 v31) a + S1x22x2048.size a ≤ S2x22x2048.size a) ∧
  (∀ (k0_h1 : k0_cond1 v38 = 1#1), ∀ (hinb : ∀ a, (k0_off28 v31) a + S1x22x2048.size a ≤ S2x22x2048.size a), (Rect.unit (s := S2x22x2048) (k0_off28 v31) S1x22x2048.size hinb).WholeWords (EltTy.packing .bf16)) ∧
  (∀ (k0_h1 : k0_cond1 v38 = 1#1), ∀ a, (k0_off30 v1_1 k0_t6) a + S1x1.size a ≤ S40x8.size a)
theorem k0_off23_inb : ∀ (v1_1 : BitVec 32) (k0_t6 : Fin (k0_t6_loop v1_1).trips) (v31 : BitVec 32) (v38 : BitVec 32) (k0_hw6 : k0_chk6 v1_1 k0_t6 v31 v38), ∀ (k0_h1 : k0_cond1 v38 = 1#1), ∀ a, (k0_off23 v1_1 k0_t6) a + S1x1.size a ≤ S40x8.size a := fun v1_1 k0_t6 v31 v38 k0_hw6 k0_h1 => k0_hw6.1 k0_h1
theorem k0_off24_inb : ∀ (v1_1 : BitVec 32) (k0_t6 : Fin (k0_t6_loop v1_1).trips) (v31 : BitVec 32) (v38 : BitVec 32) (k0_hw6 : k0_chk6 v1_1 k0_t6 v31 v38), ∀ (k0_h1 : k0_cond1 v38 = 1#1), ∀ a, (k0_off24 v31) a + S1.size a ≤ S2.size a := fun v1_1 k0_t6 v31 v38 k0_hw6 k0_h1 => k0_hw6.2.1 k0_h1
theorem k0_off25_inb : ∀ (v1_1 : BitVec 32) (k0_t6 : Fin (k0_t6_loop v1_1).trips) (v31 : BitVec 32) (v38 : BitVec 32) (k0_hw6 : k0_chk6 v1_1 k0_t6 v31 v38), ∀ (k0_h1 : k0_cond1 v38 = 1#1), ∀ a, (k0_off25 v31) a + S1x1408x2048.size a ≤ S2x1408x2048.size a := fun v1_1 k0_t6 v31 v38 k0_hw6 k0_h1 => k0_hw6.2.2.1 k0_h1
theorem k0_off25_wordsi8 : ∀ (v1_1 : BitVec 32) (k0_t6 : Fin (k0_t6_loop v1_1).trips) (v31 : BitVec 32) (v38 : BitVec 32) (k0_hw6 : k0_chk6 v1_1 k0_t6 v31 v38), ∀ (k0_h1 : k0_cond1 v38 = 1#1), (Rect.unit (s := S2x1408x2048) (k0_off25 v31) S1x1408x2048.size (k0_off25_inb v1_1 k0_t6 v31 v38 k0_hw6 k0_h1)).WholeWords (EltTy.packing .i8) := fun v1_1 k0_t6 v31 v38 k0_hw6 k0_h1 => k0_hw6.2.2.2.1 k0_h1 (k0_off25_inb v1_1 k0_t6 v31 v38 k0_hw6 k0_h1)
theorem k0_off27_inb : ∀ (v1_1 : BitVec 32) (k0_t6 : Fin (k0_t6_loop v1_1).trips) (v31 : BitVec 32) (v38 : BitVec 32) (k0_hw6 : k0_chk6 v1_1 k0_t6 v31 v38), ∀ (k0_h1 : k0_cond1 v38 = 1#1), ∀ a, (k0_off27 v31) a + S1.size a ≤ S2.size a := fun v1_1 k0_t6 v31 v38 k0_hw6 k0_h1 => k0_hw6.2.2.2.2.1 k0_h1
theorem k0_off28_inb : ∀ (v1_1 : BitVec 32) (k0_t6 : Fin (k0_t6_loop v1_1).trips) (v31 : BitVec 32) (v38 : BitVec 32) (k0_hw6 : k0_chk6 v1_1 k0_t6 v31 v38), ∀ (k0_h1 : k0_cond1 v38 = 1#1), ∀ a, (k0_off28 v31) a + S1x22x2048.size a ≤ S2x22x2048.size a := fun v1_1 k0_t6 v31 v38 k0_hw6 k0_h1 => k0_hw6.2.2.2.2.2.1 k0_h1
theorem k0_off28_wordsbf16 : ∀ (v1_1 : BitVec 32) (k0_t6 : Fin (k0_t6_loop v1_1).trips) (v31 : BitVec 32) (v38 : BitVec 32) (k0_hw6 : k0_chk6 v1_1 k0_t6 v31 v38), ∀ (k0_h1 : k0_cond1 v38 = 1#1), (Rect.unit (s := S2x22x2048) (k0_off28 v31) S1x22x2048.size (k0_off28_inb v1_1 k0_t6 v31 v38 k0_hw6 k0_h1)).WholeWords (EltTy.packing .bf16) := fun v1_1 k0_t6 v31 v38 k0_hw6 k0_h1 => k0_hw6.2.2.2.2.2.2.1 k0_h1 (k0_off28_inb v1_1 k0_t6 v31 v38 k0_hw6 k0_h1)
theorem k0_off30_inb : ∀ (v1_1 : BitVec 32) (k0_t6 : Fin (k0_t6_loop v1_1).trips) (v31 : BitVec 32) (v38 : BitVec 32) (k0_hw6 : k0_chk6 v1_1 k0_t6 v31 v38), ∀ (k0_h1 : k0_cond1 v38 = 1#1), ∀ a, (k0_off30 v1_1 k0_t6) a + S1x1.size a ≤ S40x8.size a := fun v1_1 k0_t6 v31 v38 k0_hw6 k0_h1 => k0_hw6.2.2.2.2.2.2.2 k0_h1

def k0_off31 (v31 : BitVec 32) : Fin 1 → Nat :=
  let c1_i32_151 : BitVec 32 := 1#32
  let v1276 : BitVec 32 := Scalar.subi c1_i32_151 v31
  ![v1276.toNat]
def k0_cond2 (v1272 : BitVec 32) : BitVec 1 :=
  let c0_i32_149 : BitVec 32 := 0#32
  let v1273 : BitVec 1 := Scalar.cmpi .sge v1272 c0_i32_149
  let v1274 : BitVec 32 := Scalar.extui v1273
  let c0_i32_150 : BitVec 32 := 0#32
  let v1275 : BitVec 1 := Scalar.cmpi .ne v1274 c0_i32_150
  v1275

def k0_off32 (v31 : BitVec 32) : Fin 3 → Nat :=
  let c1_i32_151 : BitVec 32 := 1#32
  let v1276 : BitVec 32 := Scalar.subi c1_i32_151 v31
  let c0_i32_152 : BitVec 32 := 0#32
  let c0_i32_153 : BitVec 32 := 0#32
  ![v1276.toNat, 0, 0]
def k0_off33 (v1272 : BitVec 32) : Fin 3 → Nat :=
  let c0_i32_154 : BitVec 32 := 0#32
  let c0_i32_155 : BitVec 32 := 0#32
  ![v1272.toNat, 0, 0]
def k0_off34 (v31 : BitVec 32) : Fin 3 → Nat :=
  let c1_i32_151 : BitVec 32 := 1#32
  let v1276 : BitVec 32 := Scalar.subi c1_i32_151 v31
  let c0_i32_156 : BitVec 32 := 0#32
  let c0_i32_157 : BitVec 32 := 0#32
  ![v1276.toNat, 0, 0]
def k0_off35 (v1272 : BitVec 32) : Fin 3 → Nat :=
  let c0_i32_158 : BitVec 32 := 0#32
  let c0_i32_159 : BitVec 32 := 0#32
  ![v1272.toNat, 0, 0]

def k0_chk8 (v31 : BitVec 32) (v38 : BitVec 32) (v1272 : BitVec 32) : Prop :=
  (∀ (k0_h1 : k0_cond1 v38 = 1#1), ∀ (k0_h2 : k0_cond2 v1272 = 1#1), ∀ a, (k0_off31 v31) a + S1.size a ≤ S2.size a) ∧
  (∀ (k0_h1 : k0_cond1 v38 = 1#1), ∀ (k0_h2 : k0_cond2 v1272 = 1#1), ∀ a, (k0_off32 v31) a + S1x1408x2048.size a ≤ S2x1408x2048.size a) ∧
  (∀ (k0_h1 : k0_cond1 v38 = 1#1), ∀ (k0_h2 : k0_cond2 v1272 = 1#1), ∀ a, (k0_off33 v1272) a + S1x1408x2048.size a ≤ S8x1408x2048.size a) ∧
  (∀ (k0_h1 : k0_cond1 v38 = 1#1), ∀ (k0_h2 : k0_cond2 v1272 = 1#1), ∀ (hinb : ∀ a, (k0_off33 v1272) a + S1x1408x2048.size a ≤ S8x1408x2048.size a), (Rect.unit (s := S8x1408x2048) (k0_off33 v1272) S1x1408x2048.size hinb).WholeWords (EltTy.packing .i8)) ∧
  (∀ (k0_h1 : k0_cond1 v38 = 1#1), ∀ (k0_h2 : k0_cond2 v1272 = 1#1), ∀ (hinb : ∀ a, (k0_off32 v31) a + S1x1408x2048.size a ≤ S2x1408x2048.size a), (Rect.unit (s := S2x1408x2048) (k0_off32 v31) S1x1408x2048.size hinb).WholeWords (EltTy.packing .i8)) ∧
  (∀ (k0_h1 : k0_cond1 v38 = 1#1), ∀ (k0_h2 : k0_cond2 v1272 = 1#1), ∀ a, (k0_off34 v31) a + S1x22x2048.size a ≤ S2x22x2048.size a) ∧
  (∀ (k0_h1 : k0_cond1 v38 = 1#1), ∀ (k0_h2 : k0_cond2 v1272 = 1#1), ∀ a, (k0_off35 v1272) a + S1x22x2048.size a ≤ S8x22x2048.size a) ∧
  (∀ (k0_h1 : k0_cond1 v38 = 1#1), ∀ (k0_h2 : k0_cond2 v1272 = 1#1), ∀ (hinb : ∀ a, (k0_off35 v1272) a + S1x22x2048.size a ≤ S8x22x2048.size a), (Rect.unit (s := S8x22x2048) (k0_off35 v1272) S1x22x2048.size hinb).WholeWords (EltTy.packing .bf16)) ∧
  (∀ (k0_h1 : k0_cond1 v38 = 1#1), ∀ (k0_h2 : k0_cond2 v1272 = 1#1), ∀ (hinb : ∀ a, (k0_off34 v31) a + S1x22x2048.size a ≤ S2x22x2048.size a), (Rect.unit (s := S2x22x2048) (k0_off34 v31) S1x22x2048.size hinb).WholeWords (EltTy.packing .bf16))
theorem k0_off31_inb : ∀ (v31 : BitVec 32) (v38 : BitVec 32) (v1272 : BitVec 32) (k0_hw8 : k0_chk8 v31 v38 v1272), ∀ (k0_h1 : k0_cond1 v38 = 1#1), ∀ (k0_h2 : k0_cond2 v1272 = 1#1), ∀ a, (k0_off31 v31) a + S1.size a ≤ S2.size a := fun v31 v38 v1272 k0_hw8 k0_h1 k0_h2 => k0_hw8.1 k0_h1 k0_h2
theorem k0_off32_inb : ∀ (v31 : BitVec 32) (v38 : BitVec 32) (v1272 : BitVec 32) (k0_hw8 : k0_chk8 v31 v38 v1272), ∀ (k0_h1 : k0_cond1 v38 = 1#1), ∀ (k0_h2 : k0_cond2 v1272 = 1#1), ∀ a, (k0_off32 v31) a + S1x1408x2048.size a ≤ S2x1408x2048.size a := fun v31 v38 v1272 k0_hw8 k0_h1 k0_h2 => k0_hw8.2.1 k0_h1 k0_h2
theorem k0_off33_inb : ∀ (v31 : BitVec 32) (v38 : BitVec 32) (v1272 : BitVec 32) (k0_hw8 : k0_chk8 v31 v38 v1272), ∀ (k0_h1 : k0_cond1 v38 = 1#1), ∀ (k0_h2 : k0_cond2 v1272 = 1#1), ∀ a, (k0_off33 v1272) a + S1x1408x2048.size a ≤ S8x1408x2048.size a := fun v31 v38 v1272 k0_hw8 k0_h1 k0_h2 => k0_hw8.2.2.1 k0_h1 k0_h2
theorem k0_off33_wordsi8 : ∀ (v31 : BitVec 32) (v38 : BitVec 32) (v1272 : BitVec 32) (k0_hw8 : k0_chk8 v31 v38 v1272), ∀ (k0_h1 : k0_cond1 v38 = 1#1), ∀ (k0_h2 : k0_cond2 v1272 = 1#1), (Rect.unit (s := S8x1408x2048) (k0_off33 v1272) S1x1408x2048.size (k0_off33_inb v31 v38 v1272 k0_hw8 k0_h1 k0_h2)).WholeWords (EltTy.packing .i8) := fun v31 v38 v1272 k0_hw8 k0_h1 k0_h2 => k0_hw8.2.2.2.1 k0_h1 k0_h2 (k0_off33_inb v31 v38 v1272 k0_hw8 k0_h1 k0_h2)
theorem k0_off32_wordsi8 : ∀ (v31 : BitVec 32) (v38 : BitVec 32) (v1272 : BitVec 32) (k0_hw8 : k0_chk8 v31 v38 v1272), ∀ (k0_h1 : k0_cond1 v38 = 1#1), ∀ (k0_h2 : k0_cond2 v1272 = 1#1), (Rect.unit (s := S2x1408x2048) (k0_off32 v31) S1x1408x2048.size (k0_off32_inb v31 v38 v1272 k0_hw8 k0_h1 k0_h2)).WholeWords (EltTy.packing .i8) := fun v31 v38 v1272 k0_hw8 k0_h1 k0_h2 => k0_hw8.2.2.2.2.1 k0_h1 k0_h2 (k0_off32_inb v31 v38 v1272 k0_hw8 k0_h1 k0_h2)
theorem k0_off34_inb : ∀ (v31 : BitVec 32) (v38 : BitVec 32) (v1272 : BitVec 32) (k0_hw8 : k0_chk8 v31 v38 v1272), ∀ (k0_h1 : k0_cond1 v38 = 1#1), ∀ (k0_h2 : k0_cond2 v1272 = 1#1), ∀ a, (k0_off34 v31) a + S1x22x2048.size a ≤ S2x22x2048.size a := fun v31 v38 v1272 k0_hw8 k0_h1 k0_h2 => k0_hw8.2.2.2.2.2.1 k0_h1 k0_h2
theorem k0_off35_inb : ∀ (v31 : BitVec 32) (v38 : BitVec 32) (v1272 : BitVec 32) (k0_hw8 : k0_chk8 v31 v38 v1272), ∀ (k0_h1 : k0_cond1 v38 = 1#1), ∀ (k0_h2 : k0_cond2 v1272 = 1#1), ∀ a, (k0_off35 v1272) a + S1x22x2048.size a ≤ S8x22x2048.size a := fun v31 v38 v1272 k0_hw8 k0_h1 k0_h2 => k0_hw8.2.2.2.2.2.2.1 k0_h1 k0_h2
theorem k0_off35_wordsbf16 : ∀ (v31 : BitVec 32) (v38 : BitVec 32) (v1272 : BitVec 32) (k0_hw8 : k0_chk8 v31 v38 v1272), ∀ (k0_h1 : k0_cond1 v38 = 1#1), ∀ (k0_h2 : k0_cond2 v1272 = 1#1), (Rect.unit (s := S8x22x2048) (k0_off35 v1272) S1x22x2048.size (k0_off35_inb v31 v38 v1272 k0_hw8 k0_h1 k0_h2)).WholeWords (EltTy.packing .bf16) := fun v31 v38 v1272 k0_hw8 k0_h1 k0_h2 => k0_hw8.2.2.2.2.2.2.2.1 k0_h1 k0_h2 (k0_off35_inb v31 v38 v1272 k0_hw8 k0_h1 k0_h2)
theorem k0_off34_wordsbf16 : ∀ (v31 : BitVec 32) (v38 : BitVec 32) (v1272 : BitVec 32) (k0_hw8 : k0_chk8 v31 v38 v1272), ∀ (k0_h1 : k0_cond1 v38 = 1#1), ∀ (k0_h2 : k0_cond2 v1272 = 1#1), (Rect.unit (s := S2x22x2048) (k0_off34 v31) S1x22x2048.size (k0_off34_inb v31 v38 v1272 k0_hw8 k0_h1 k0_h2)).WholeWords (EltTy.packing .bf16) := fun v31 v38 v1272 k0_hw8 k0_h1 k0_h2 => k0_hw8.2.2.2.2.2.2.2.2 k0_h1 k0_h2 (k0_off34_inb v31 v38 v1272 k0_hw8 k0_h1 k0_h2)

def k0_off36 (v1_1 : BitVec 32) (k0_t6 : Fin (k0_t6_loop v1_1).trips) : Fin 2 → Nat :=
  let c0_i32_23 : BitVec 32 := 0#32
  let c1_i32_26 : BitVec 32 := 1#32
  let arg14 : BitVec 32 := Scf.iv c0_i32_23 c1_i32_26 k0_t6
  let v42 : Index := Scalar.indexCast arg14
  let c1_32 : Index := 1#32
  ![v42.toNat, 1]
def k0_mult3 (v43 : BitVec 32) : BitVec 32 :=
  v43

def k0_off37 (v1_1 : BitVec 32) (k0_t6 : Fin (k0_t6_loop v1_1).trips) : Fin 1 → Nat :=
  let c0_i32_23 : BitVec 32 := 0#32
  let c1_i32_26 : BitVec 32 := 1#32
  let arg14 : BitVec 32 := Scf.iv c0_i32_23 c1_i32_26 k0_t6
  let c1_i32_28 : BitVec 32 := 1#32
  let v29 : BitVec 32 := Scalar.andi arg14 c1_i32_28
  ![v29.toNat]
def k0_off38 (v1_1 : BitVec 32) (k0_t6 : Fin (k0_t6_loop v1_1).trips) : Fin 3 → Nat :=
  let c0_i32_23 : BitVec 32 := 0#32
  let c1_i32_26 : BitVec 32 := 1#32
  let arg14 : BitVec 32 := Scf.iv c0_i32_23 c1_i32_26 k0_t6
  let c1_i32_28 : BitVec 32 := 1#32
  let v29 : BitVec 32 := Scalar.andi arg14 c1_i32_28
  let c0_i32_33 : BitVec 32 := 0#32
  let c0_i32_34 : BitVec 32 := 0#32
  ![v29.toNat, 0, 0]
def k0_off39 (v43 : BitVec 32) : Fin 2 → Nat :=
  let v44 : BitVec 32 := v43
  let c0_i32_35 : BitVec 32 := 0#32
  ![v44.toNat, 0]

def k0_chk9 (v43 : BitVec 32) : Prop :=
  (32 ∣ (k0_mult3 v43).toNat) ∧
  (∀ a, (k0_off39 v43) a + S256x2816.size a ≤ S6144x2816.size a) ∧
  (∀ (hinb : ∀ a, (k0_off39 v43) a + S256x2816.size a ≤ S6144x2816.size a), (Rect.unit (s := S6144x2816) (k0_off39 v43) S256x2816.size hinb).WholeWords (EltTy.packing .bf16))
theorem k0_mult3_dvd : ∀ (v43 : BitVec 32) (k0_hw9 : k0_chk9 v43), 32 ∣ (k0_mult3 v43).toNat := fun v43 k0_hw9 => k0_hw9.1
theorem k0_off39_inb : ∀ (v43 : BitVec 32) (k0_hw9 : k0_chk9 v43), ∀ a, (k0_off39 v43) a + S256x2816.size a ≤ S6144x2816.size a := fun v43 k0_hw9 => k0_hw9.2.1
theorem k0_off39_wordsbf16 : ∀ (v43 : BitVec 32) (k0_hw9 : k0_chk9 v43), (Rect.unit (s := S6144x2816) (k0_off39 v43) S256x2816.size (k0_off39_inb v43 k0_hw9)).WholeWords (EltTy.packing .bf16) := fun v43 k0_hw9 => k0_hw9.2.2 (k0_off39_inb v43 k0_hw9)

def k0_off40 (v1_1 : BitVec 32) (k0_t6 : Fin (k0_t6_loop v1_1).trips) : Fin 2 → Nat :=
  let c0_i32_23 : BitVec 32 := 0#32
  let c1_i32_26 : BitVec 32 := 1#32
  let arg14 : BitVec 32 := Scf.iv c0_i32_23 c1_i32_26 k0_t6
  let c1_i32_140 : BitVec 32 := 1#32
  let v1257 : BitVec 32 := Scalar.addi arg14 c1_i32_140
  let v1259 : Index := Scalar.indexCast v1257
  let c1_142 : Index := 1#32
  ![v1259.toNat, 1]
def k0_cond3 (v1_1 : BitVec 32) (k0_t6 : Fin (k0_t6_loop v1_1).trips) : BitVec 1 :=
  let c0_i32_23 : BitVec 32 := 0#32
  let c1_i32_26 : BitVec 32 := 1#32
  let arg14 : BitVec 32 := Scf.iv c0_i32_23 c1_i32_26 k0_t6
  let c1_i32_36 : BitVec 32 := 1#32
  let v50 : BitVec 32 := Scalar.addi arg14 c1_i32_36
  let v51 : BitVec 1 := Scalar.cmpi .slt v50 v1_1
  let v52 : BitVec 32 := Scalar.extui v51
  let c0_i32_37 : BitVec 32 := 0#32
  let v53 : BitVec 1 := Scalar.cmpi .ne v52 c0_i32_37
  v53

def k0_mult4 (v1260 : BitVec 32) : BitVec 32 :=
  v1260

def k0_off41 (v1_1 : BitVec 32) (k0_t6 : Fin (k0_t6_loop v1_1).trips) : Fin 1 → Nat :=
  let c1_i32_141 : BitVec 32 := 1#32
  let c0_i32_23 : BitVec 32 := 0#32
  let c1_i32_26 : BitVec 32 := 1#32
  let arg14 : BitVec 32 := Scf.iv c0_i32_23 c1_i32_26 k0_t6
  let c1_i32_28 : BitVec 32 := 1#32
  let v29 : BitVec 32 := Scalar.andi arg14 c1_i32_28
  let v1258 : BitVec 32 := Scalar.subi c1_i32_141 v29
  ![v1258.toNat]
def k0_off42 (v1_1 : BitVec 32) (k0_t6 : Fin (k0_t6_loop v1_1).trips) : Fin 3 → Nat :=
  let c1_i32_141 : BitVec 32 := 1#32
  let c0_i32_23 : BitVec 32 := 0#32
  let c1_i32_26 : BitVec 32 := 1#32
  let arg14 : BitVec 32 := Scf.iv c0_i32_23 c1_i32_26 k0_t6
  let c1_i32_28 : BitVec 32 := 1#32
  let v29 : BitVec 32 := Scalar.andi arg14 c1_i32_28
  let v1258 : BitVec 32 := Scalar.subi c1_i32_141 v29
  let c0_i32_143 : BitVec 32 := 0#32
  let c0_i32_144 : BitVec 32 := 0#32
  ![v1258.toNat, 0, 0]
def k0_off43 (v1260 : BitVec 32) : Fin 2 → Nat :=
  let v1261 : BitVec 32 := v1260
  let c0_i32_145 : BitVec 32 := 0#32
  ![v1261.toNat, 0]

def k0_chk10 (v1_1 : BitVec 32) (k0_t6 : Fin (k0_t6_loop v1_1).trips) (v1260 : BitVec 32) : Prop :=
  (∀ (k0_h3 : k0_cond3 v1_1 k0_t6 = 1#1), 32 ∣ (k0_mult4 v1260).toNat) ∧
  (∀ (k0_h3 : k0_cond3 v1_1 k0_t6 = 1#1), ∀ a, (k0_off43 v1260) a + S256x2816.size a ≤ S6144x2816.size a) ∧
  (∀ (k0_h3 : k0_cond3 v1_1 k0_t6 = 1#1), ∀ (hinb : ∀ a, (k0_off43 v1260) a + S256x2816.size a ≤ S6144x2816.size a), (Rect.unit (s := S6144x2816) (k0_off43 v1260) S256x2816.size hinb).WholeWords (EltTy.packing .bf16))
theorem k0_mult4_dvd : ∀ (v1_1 : BitVec 32) (k0_t6 : Fin (k0_t6_loop v1_1).trips) (v1260 : BitVec 32) (k0_hw10 : k0_chk10 v1_1 k0_t6 v1260), ∀ (k0_h3 : k0_cond3 v1_1 k0_t6 = 1#1), 32 ∣ (k0_mult4 v1260).toNat := fun v1_1 k0_t6 v1260 k0_hw10 k0_h3 => k0_hw10.1 k0_h3
theorem k0_off43_inb : ∀ (v1_1 : BitVec 32) (k0_t6 : Fin (k0_t6_loop v1_1).trips) (v1260 : BitVec 32) (k0_hw10 : k0_chk10 v1_1 k0_t6 v1260), ∀ (k0_h3 : k0_cond3 v1_1 k0_t6 = 1#1), ∀ a, (k0_off43 v1260) a + S256x2816.size a ≤ S6144x2816.size a := fun v1_1 k0_t6 v1260 k0_hw10 k0_h3 => k0_hw10.2.1 k0_h3
theorem k0_off43_wordsbf16 : ∀ (v1_1 : BitVec 32) (k0_t6 : Fin (k0_t6_loop v1_1).trips) (v1260 : BitVec 32) (k0_hw10 : k0_chk10 v1_1 k0_t6 v1260), ∀ (k0_h3 : k0_cond3 v1_1 k0_t6 = 1#1), (Rect.unit (s := S6144x2816) (k0_off43 v1260) S256x2816.size (k0_off43_inb v1_1 k0_t6 v1260 k0_hw10 k0_h3)).WholeWords (EltTy.packing .bf16) := fun v1_1 k0_t6 v1260 k0_hw10 k0_h3 => k0_hw10.2.2 k0_h3 (k0_off43_inb v1_1 k0_t6 v1260 k0_hw10 k0_h3)

def k0_off44 (v1_1 : BitVec 32) (k0_t6 : Fin (k0_t6_loop v1_1).trips) : Fin 3 → Nat :=
  let c0_i32_23 : BitVec 32 := 0#32
  let c1_i32_26 : BitVec 32 := 1#32
  let arg14 : BitVec 32 := Scf.iv c0_i32_23 c1_i32_26 k0_t6
  let c1_i32_28 : BitVec 32 := 1#32
  let v29 : BitVec 32 := Scalar.andi arg14 c1_i32_28
  let v55 : Index := Scalar.indexCast v29
  let c0_38 : Index := 0#32
  let c0_39 : Index := 0#32
  ![v55.toNat, 0, 0]
def k0_off45 (v31 : BitVec 32) : Fin 3 → Nat :=
  let v58 : Index := Scalar.indexCast v31
  let c0_40 : Index := 0#32
  let c0_41 : Index := 0#32
  ![v58.toNat, 0, 0]

def k0_off46 (v31 : BitVec 32) : Fin 3 → Nat :=
  let v61 : Index := Scalar.indexCast v31
  let c0_42 : Index := 0#32
  let c0_43 : Index := 0#32
  ![v61.toNat, 0, 0]
def k0_off47 (v31 : BitVec 32) : Fin 3 → Nat :=
  let v187 : Index := Scalar.indexCast v31
  let c0_44 : Index := 0#32
  let c1024 : Index := 1024#32
  ![v187.toNat, 0, 1024]
def k0_off48 (v31 : BitVec 32) : Fin 3 → Nat :=
  let v190 : Index := Scalar.indexCast v31
  let c0_45 : Index := 0#32
  let c1024_46 : Index := 1024#32
  ![v190.toNat, 0, 1024]
def k0_off49 (v31 : BitVec 32) : Fin 3 → Nat :=
  let v328 : Index := Scalar.indexCast v31
  let c0_55 : Index := 0#32
  let c256 : Index := 256#32
  ![v328.toNat, 0, 256]
def k0_off50 (v31 : BitVec 32) : Fin 3 → Nat :=
  let v331 : Index := Scalar.indexCast v31
  let c0_56 : Index := 0#32
  let c256_57 : Index := 256#32
  ![v331.toNat, 0, 256]
def k0_off51 (v31 : BitVec 32) : Fin 3 → Nat :=
  let v457 : Index := Scalar.indexCast v31
  let c0_61 : Index := 0#32
  let c1280 : Index := 1280#32
  ![v457.toNat, 0, 1280]
def k0_off52 (v31 : BitVec 32) : Fin 3 → Nat :=
  let v460 : Index := Scalar.indexCast v31
  let c0_62 : Index := 0#32
  let c1280_63 : Index := 1280#32
  ![v460.toNat, 0, 1280]
def k0_off53 (v31 : BitVec 32) : Fin 3 → Nat :=
  let v598 : Index := Scalar.indexCast v31
  let c0_72 : Index := 0#32
  let c512 : Index := 512#32
  ![v598.toNat, 0, 512]
def k0_off54 (v31 : BitVec 32) : Fin 3 → Nat :=
  let v601 : Index := Scalar.indexCast v31
  let c0_73 : Index := 0#32
  let c512_74 : Index := 512#32
  ![v601.toNat, 0, 512]
def k0_off55 (v31 : BitVec 32) : Fin 3 → Nat :=
  let v727 : Index := Scalar.indexCast v31
  let c0_78 : Index := 0#32
  let c1536 : Index := 1536#32
  ![v727.toNat, 0, 1536]
def k0_off56 (v31 : BitVec 32) : Fin 3 → Nat :=
  let v730 : Index := Scalar.indexCast v31
  let c0_79 : Index := 0#32
  let c1536_80 : Index := 1536#32
  ![v730.toNat, 0, 1536]
def k0_off57 (v31 : BitVec 32) : Fin 3 → Nat :=
  let v868 : Index := Scalar.indexCast v31
  let c0_89 : Index := 0#32
  let c768 : Index := 768#32
  ![v868.toNat, 0, 768]
def k0_off58 (v31 : BitVec 32) : Fin 3 → Nat :=
  let v871 : Index := Scalar.indexCast v31
  let c0_90 : Index := 0#32
  let c768_91 : Index := 768#32
  ![v871.toNat, 0, 768]
def k0_off59 (v31 : BitVec 32) : Fin 3 → Nat :=
  let v997 : Index := Scalar.indexCast v31
  let c0_95 : Index := 0#32
  let c1792 : Index := 1792#32
  ![v997.toNat, 0, 1792]
def k0_off60 (v31 : BitVec 32) : Fin 3 → Nat :=
  let v1000 : Index := Scalar.indexCast v31
  let c0_96 : Index := 0#32
  let c1792_97 : Index := 1792#32
  ![v1000.toNat, 0, 1792]

def k0_chk11 (v31 : BitVec 32) : Prop :=
  (∀ a, (k0_off45 v31) a + S1x1408x256.size a ≤ S2x1408x2048.size a) ∧
  (∀ a, (k0_off46 v31) a + S1x22x256.size a ≤ S2x22x2048.size a) ∧
  (∀ a, (k0_off47 v31) a + S1x1408x256.size a ≤ S2x1408x2048.size a) ∧
  (∀ a, (k0_off48 v31) a + S1x22x256.size a ≤ S2x22x2048.size a) ∧
  (∀ a, (k0_off49 v31) a + S1x1408x256.size a ≤ S2x1408x2048.size a) ∧
  (∀ a, (k0_off50 v31) a + S1x22x256.size a ≤ S2x22x2048.size a) ∧
  (∀ a, (k0_off51 v31) a + S1x1408x256.size a ≤ S2x1408x2048.size a) ∧
  (∀ a, (k0_off52 v31) a + S1x22x256.size a ≤ S2x22x2048.size a) ∧
  (∀ a, (k0_off53 v31) a + S1x1408x256.size a ≤ S2x1408x2048.size a) ∧
  (∀ a, (k0_off54 v31) a + S1x22x256.size a ≤ S2x22x2048.size a) ∧
  (∀ a, (k0_off55 v31) a + S1x1408x256.size a ≤ S2x1408x2048.size a) ∧
  (∀ a, (k0_off56 v31) a + S1x22x256.size a ≤ S2x22x2048.size a) ∧
  (∀ a, (k0_off57 v31) a + S1x1408x256.size a ≤ S2x1408x2048.size a) ∧
  (∀ a, (k0_off58 v31) a + S1x22x256.size a ≤ S2x22x2048.size a) ∧
  (∀ a, (k0_off59 v31) a + S1x1408x256.size a ≤ S2x1408x2048.size a) ∧
  (∀ a, (k0_off60 v31) a + S1x22x256.size a ≤ S2x22x2048.size a)
theorem k0_off45_inb : ∀ (v31 : BitVec 32) (k0_hw11 : k0_chk11 v31), ∀ a, (k0_off45 v31) a + S1x1408x256.size a ≤ S2x1408x2048.size a := fun v31 k0_hw11 => k0_hw11.1
theorem k0_off46_inb : ∀ (v31 : BitVec 32) (k0_hw11 : k0_chk11 v31), ∀ a, (k0_off46 v31) a + S1x22x256.size a ≤ S2x22x2048.size a := fun v31 k0_hw11 => k0_hw11.2.1
theorem k0_off47_inb : ∀ (v31 : BitVec 32) (k0_hw11 : k0_chk11 v31), ∀ a, (k0_off47 v31) a + S1x1408x256.size a ≤ S2x1408x2048.size a := fun v31 k0_hw11 => k0_hw11.2.2.1
theorem k0_off48_inb : ∀ (v31 : BitVec 32) (k0_hw11 : k0_chk11 v31), ∀ a, (k0_off48 v31) a + S1x22x256.size a ≤ S2x22x2048.size a := fun v31 k0_hw11 => k0_hw11.2.2.2.1
theorem k0_off49_inb : ∀ (v31 : BitVec 32) (k0_hw11 : k0_chk11 v31), ∀ a, (k0_off49 v31) a + S1x1408x256.size a ≤ S2x1408x2048.size a := fun v31 k0_hw11 => k0_hw11.2.2.2.2.1
theorem k0_off50_inb : ∀ (v31 : BitVec 32) (k0_hw11 : k0_chk11 v31), ∀ a, (k0_off50 v31) a + S1x22x256.size a ≤ S2x22x2048.size a := fun v31 k0_hw11 => k0_hw11.2.2.2.2.2.1
theorem k0_off51_inb : ∀ (v31 : BitVec 32) (k0_hw11 : k0_chk11 v31), ∀ a, (k0_off51 v31) a + S1x1408x256.size a ≤ S2x1408x2048.size a := fun v31 k0_hw11 => k0_hw11.2.2.2.2.2.2.1
theorem k0_off52_inb : ∀ (v31 : BitVec 32) (k0_hw11 : k0_chk11 v31), ∀ a, (k0_off52 v31) a + S1x22x256.size a ≤ S2x22x2048.size a := fun v31 k0_hw11 => k0_hw11.2.2.2.2.2.2.2.1
theorem k0_off53_inb : ∀ (v31 : BitVec 32) (k0_hw11 : k0_chk11 v31), ∀ a, (k0_off53 v31) a + S1x1408x256.size a ≤ S2x1408x2048.size a := fun v31 k0_hw11 => k0_hw11.2.2.2.2.2.2.2.2.1
theorem k0_off54_inb : ∀ (v31 : BitVec 32) (k0_hw11 : k0_chk11 v31), ∀ a, (k0_off54 v31) a + S1x22x256.size a ≤ S2x22x2048.size a := fun v31 k0_hw11 => k0_hw11.2.2.2.2.2.2.2.2.2.1
theorem k0_off55_inb : ∀ (v31 : BitVec 32) (k0_hw11 : k0_chk11 v31), ∀ a, (k0_off55 v31) a + S1x1408x256.size a ≤ S2x1408x2048.size a := fun v31 k0_hw11 => k0_hw11.2.2.2.2.2.2.2.2.2.2.1
theorem k0_off56_inb : ∀ (v31 : BitVec 32) (k0_hw11 : k0_chk11 v31), ∀ a, (k0_off56 v31) a + S1x22x256.size a ≤ S2x22x2048.size a := fun v31 k0_hw11 => k0_hw11.2.2.2.2.2.2.2.2.2.2.2.1
theorem k0_off57_inb : ∀ (v31 : BitVec 32) (k0_hw11 : k0_chk11 v31), ∀ a, (k0_off57 v31) a + S1x1408x256.size a ≤ S2x1408x2048.size a := fun v31 k0_hw11 => k0_hw11.2.2.2.2.2.2.2.2.2.2.2.2.1
theorem k0_off58_inb : ∀ (v31 : BitVec 32) (k0_hw11 : k0_chk11 v31), ∀ a, (k0_off58 v31) a + S1x22x256.size a ≤ S2x22x2048.size a := fun v31 k0_hw11 => k0_hw11.2.2.2.2.2.2.2.2.2.2.2.2.2.1
theorem k0_off59_inb : ∀ (v31 : BitVec 32) (k0_hw11 : k0_chk11 v31), ∀ a, (k0_off59 v31) a + S1x1408x256.size a ≤ S2x1408x2048.size a := fun v31 k0_hw11 => k0_hw11.2.2.2.2.2.2.2.2.2.2.2.2.2.2.1
theorem k0_off60_inb : ∀ (v31 : BitVec 32) (k0_hw11 : k0_chk11 v31), ∀ a, (k0_off60 v31) a + S1x22x256.size a ≤ S2x22x2048.size a := fun v31 k0_hw11 => k0_hw11.2.2.2.2.2.2.2.2.2.2.2.2.2.2.2

def k0_off61 (v33 : BitVec 32) : Fin 2 → Nat :=
  let v34 : BitVec 32 := v33
  let v1241 : Index := Scalar.indexCast v34
  let c0_135 : Index := 0#32
  ![v1241.toNat, 0]
def k0_off62 (v33 : BitVec 32) : Fin 2 → Nat :=
  let v34 : BitVec 32 := v33
  let v1251 : Index := Scalar.indexCast v34
  let c0_137 : Index := 0#32
  ![v1251.toNat, 0]

def k0_chk5 (v33 : BitVec 32) : Prop :=
  (32 ∣ (k0_mult2 v33).toNat) ∧
  (∀ a, (k0_off61 v33) a + S256x1024.size a ≤ S6144x1024.size a) ∧
  (∀ (hinb : ∀ a, (k0_off61 v33) a + S256x1024.size a ≤ S6144x1024.size a), (Rect.unit (s := S6144x1024) (k0_off61 v33) S256x1024.size hinb).PackedRows (EltTy.packing .fp8e4m3)) ∧
  (∀ a, (k0_off62 v33) a + S256x1.size a ≤ S6144x1.size a)
theorem k0_mult2_dvd : ∀ (v33 : BitVec 32) (k0_hw5 : k0_chk5 v33), 32 ∣ (k0_mult2 v33).toNat := fun v33 k0_hw5 => k0_hw5.1
theorem k0_off61_inb : ∀ (v33 : BitVec 32) (k0_hw5 : k0_chk5 v33), ∀ a, (k0_off61 v33) a + S256x1024.size a ≤ S6144x1024.size a := fun v33 k0_hw5 => k0_hw5.2.1
theorem k0_off61_packedfp8e4m3 : ∀ (v33 : BitVec 32) (k0_hw5 : k0_chk5 v33), (Rect.unit (s := S6144x1024) (k0_off61 v33) S256x1024.size (k0_off61_inb v33 k0_hw5)).PackedRows (EltTy.packing .fp8e4m3) := fun v33 k0_hw5 => k0_hw5.2.2.1 (k0_off61_inb v33 k0_hw5)
theorem k0_off62_inb : ∀ (v33 : BitVec 32) (k0_hw5 : k0_chk5 v33), ∀ a, (k0_off62 v33) a + S256x1.size a ≤ S6144x1.size a := fun v33 k0_hw5 => k0_hw5.2.2.2

@[reducible] def k0_t7_loop (v1_1 : BitVec 32) : Scf.Loop 32 :=
  let c0_i32_23 : BitVec 32 := 0#32
  let v22 : BitVec 32 := Scalar.subi v1_1 c0_i32_23
  let c1_i32_25 : BitVec 32 := 1#32
  let v24 : BitVec 32 := Scalar.divsi v22 c1_i32_25
  let v25 : BitVec 32 := Scalar.muli v24 c1_i32_25
  let v26 : BitVec 32 := Scalar.addi c0_i32_23 v25
  let v23 : BitVec 32 := Scalar.addi c0_i32_23 v22
  let c1_i32_27 : BitVec 32 := 1#32
  ⟨v26, v23, c1_i32_27⟩
def k0_off63 (v1_1 : BitVec 32) (k0_t7 : Fin (k0_t7_loop v1_1).trips) : Fin 2 → Nat :=
  let c0_i32_23 : BitVec 32 := 0#32
  let v22 : BitVec 32 := Scalar.subi v1_1 c0_i32_23
  let c1_i32_25 : BitVec 32 := 1#32
  let v24 : BitVec 32 := Scalar.divsi v22 c1_i32_25
  let v25 : BitVec 32 := Scalar.muli v24 c1_i32_25
  let v26 : BitVec 32 := Scalar.addi c0_i32_23 v25
  let c1_i32_27 : BitVec 32 := 1#32
  let arg14 : BitVec 32 := Scf.iv v26 c1_i32_27 k0_t7
  let v30 : Index := Scalar.indexCast arg14
  let c4 : Index := 4#32
  ![v30.toNat, 4]
def k0_off64 (v1_1 : BitVec 32) (k0_t7 : Fin (k0_t7_loop v1_1).trips) : Fin 2 → Nat :=
  let c0_i32_23 : BitVec 32 := 0#32
  let v22 : BitVec 32 := Scalar.subi v1_1 c0_i32_23
  let c1_i32_25 : BitVec 32 := 1#32
  let v24 : BitVec 32 := Scalar.divsi v22 c1_i32_25
  let v25 : BitVec 32 := Scalar.muli v24 c1_i32_25
  let v26 : BitVec 32 := Scalar.addi c0_i32_23 v25
  let c1_i32_27 : BitVec 32 := 1#32
  let arg14 : BitVec 32 := Scf.iv v26 c1_i32_27 k0_t7
  let v32 : Index := Scalar.indexCast arg14
  let c1_29 : Index := 1#32
  ![v32.toNat, 1]
def k0_mult5 (v33 : BitVec 32) : BitVec 32 :=
  v33

def k0_off65 (v1_1 : BitVec 32) (k0_t7 : Fin (k0_t7_loop v1_1).trips) : Fin 2 → Nat :=
  let c0_i32_23 : BitVec 32 := 0#32
  let v22 : BitVec 32 := Scalar.subi v1_1 c0_i32_23
  let c1_i32_25 : BitVec 32 := 1#32
  let v24 : BitVec 32 := Scalar.divsi v22 c1_i32_25
  let v25 : BitVec 32 := Scalar.muli v24 c1_i32_25
  let v26 : BitVec 32 := Scalar.addi c0_i32_23 v25
  let c1_i32_27 : BitVec 32 := 1#32
  let arg14 : BitVec 32 := Scf.iv v26 c1_i32_27 k0_t7
  let v35 : Index := Scalar.indexCast arg14
  let c2 : Index := 2#32
  ![v35.toNat, 2]
def k0_off66 (v1_1 : BitVec 32) (k0_t7 : Fin (k0_t7_loop v1_1).trips) : Fin 2 → Nat :=
  let c0_i32_23 : BitVec 32 := 0#32
  let v22 : BitVec 32 := Scalar.subi v1_1 c0_i32_23
  let c1_i32_25 : BitVec 32 := 1#32
  let v24 : BitVec 32 := Scalar.divsi v22 c1_i32_25
  let v25 : BitVec 32 := Scalar.muli v24 c1_i32_25
  let v26 : BitVec 32 := Scalar.addi c0_i32_23 v25
  let c1_i32_27 : BitVec 32 := 1#32
  let arg14 : BitVec 32 := Scf.iv v26 c1_i32_27 k0_t7
  let v37 : Index := Scalar.indexCast arg14
  let c3 : Index := 3#32
  ![v37.toNat, 3]
def k0_off67 (v1_1 : BitVec 32) (k0_t7 : Fin (k0_t7_loop v1_1).trips) : Fin 2 → Nat :=
  let c0_i32_23 : BitVec 32 := 0#32
  let v22 : BitVec 32 := Scalar.subi v1_1 c0_i32_23
  let c1_i32_25 : BitVec 32 := 1#32
  let v24 : BitVec 32 := Scalar.divsi v22 c1_i32_25
  let v25 : BitVec 32 := Scalar.muli v24 c1_i32_25
  let v26 : BitVec 32 := Scalar.addi c0_i32_23 v25
  let c1_i32_27 : BitVec 32 := 1#32
  let arg14 : BitVec 32 := Scf.iv v26 c1_i32_27 k0_t7
  let v1257 : Index := Scalar.indexCast arg14
  let c0_140 : Index := 0#32
  ![v1257.toNat, 0]
def k0_cond4 (v38 : BitVec 32) : BitVec 1 :=
  let c1_i32_30 : BitVec 32 := 1#32
  let v39 : BitVec 1 := Scalar.cmpi .eq v38 c1_i32_30
  let v40 : BitVec 32 := Scalar.extui v39
  let c0_i32_31 : BitVec 32 := 0#32
  let v41 : BitVec 1 := Scalar.cmpi .ne v40 c0_i32_31
  v41

def k0_off68 (v31 : BitVec 32) : Fin 1 → Nat :=
  ![v31.toNat]
def k0_off69 (v31 : BitVec 32) : Fin 3 → Nat :=
  let c0_i32_141 : BitVec 32 := 0#32
  let c0_i32_142 : BitVec 32 := 0#32
  ![v31.toNat, 0, 0]
def k0_off70 (v1258 : BitVec 32) : Fin 3 → Nat :=
  let c0_i32_143 : BitVec 32 := 0#32
  let c0_i32_144 : BitVec 32 := 0#32
  ![v1258.toNat, 0, 0]

def k0_off71 (v31 : BitVec 32) : Fin 1 → Nat :=
  ![v31.toNat]
def k0_off72 (v31 : BitVec 32) : Fin 3 → Nat :=
  let c0_i32_145 : BitVec 32 := 0#32
  let c0_i32_146 : BitVec 32 := 0#32
  ![v31.toNat, 0, 0]
def k0_off73 (v1258 : BitVec 32) : Fin 3 → Nat :=
  let c0_i32_147 : BitVec 32 := 0#32
  let c0_i32_148 : BitVec 32 := 0#32
  ![v1258.toNat, 0, 0]

def k0_chk14 (v38 : BitVec 32) (v1258 : BitVec 32) : Prop :=
  (∀ (k0_h4 : k0_cond4 v38 = 1#1), ∀ a, (k0_off70 v1258) a + S1x1408x2048.size a ≤ S8x1408x2048.size a) ∧
  (∀ (k0_h4 : k0_cond4 v38 = 1#1), ∀ (hinb : ∀ a, (k0_off70 v1258) a + S1x1408x2048.size a ≤ S8x1408x2048.size a), (Rect.unit (s := S8x1408x2048) (k0_off70 v1258) S1x1408x2048.size hinb).WholeWords (EltTy.packing .i8)) ∧
  (∀ (k0_h4 : k0_cond4 v38 = 1#1), ∀ a, (k0_off73 v1258) a + S1x22x2048.size a ≤ S8x22x2048.size a) ∧
  (∀ (k0_h4 : k0_cond4 v38 = 1#1), ∀ (hinb : ∀ a, (k0_off73 v1258) a + S1x22x2048.size a ≤ S8x22x2048.size a), (Rect.unit (s := S8x22x2048) (k0_off73 v1258) S1x22x2048.size hinb).WholeWords (EltTy.packing .bf16))
theorem k0_off70_inb : ∀ (v38 : BitVec 32) (v1258 : BitVec 32) (k0_hw14 : k0_chk14 v38 v1258), ∀ (k0_h4 : k0_cond4 v38 = 1#1), ∀ a, (k0_off70 v1258) a + S1x1408x2048.size a ≤ S8x1408x2048.size a := fun v38 v1258 k0_hw14 k0_h4 => k0_hw14.1 k0_h4
theorem k0_off70_wordsi8 : ∀ (v38 : BitVec 32) (v1258 : BitVec 32) (k0_hw14 : k0_chk14 v38 v1258), ∀ (k0_h4 : k0_cond4 v38 = 1#1), (Rect.unit (s := S8x1408x2048) (k0_off70 v1258) S1x1408x2048.size (k0_off70_inb v38 v1258 k0_hw14 k0_h4)).WholeWords (EltTy.packing .i8) := fun v38 v1258 k0_hw14 k0_h4 => k0_hw14.2.1 k0_h4 (k0_off70_inb v38 v1258 k0_hw14 k0_h4)
theorem k0_off73_inb : ∀ (v38 : BitVec 32) (v1258 : BitVec 32) (k0_hw14 : k0_chk14 v38 v1258), ∀ (k0_h4 : k0_cond4 v38 = 1#1), ∀ a, (k0_off73 v1258) a + S1x22x2048.size a ≤ S8x22x2048.size a := fun v38 v1258 k0_hw14 k0_h4 => k0_hw14.2.2.1 k0_h4
theorem k0_off73_wordsbf16 : ∀ (v38 : BitVec 32) (v1258 : BitVec 32) (k0_hw14 : k0_chk14 v38 v1258), ∀ (k0_h4 : k0_cond4 v38 = 1#1), (Rect.unit (s := S8x22x2048) (k0_off73 v1258) S1x22x2048.size (k0_off73_inb v38 v1258 k0_hw14 k0_h4)).WholeWords (EltTy.packing .bf16) := fun v38 v1258 k0_hw14 k0_h4 => k0_hw14.2.2.2 k0_h4 (k0_off73_inb v38 v1258 k0_hw14 k0_h4)

def k0_off74 (v1_1 : BitVec 32) (k0_t7 : Fin (k0_t7_loop v1_1).trips) : Fin 2 → Nat :=
  let c0_i32_23 : BitVec 32 := 0#32
  let v22 : BitVec 32 := Scalar.subi v1_1 c0_i32_23
  let c1_i32_25 : BitVec 32 := 1#32
  let v24 : BitVec 32 := Scalar.divsi v22 c1_i32_25
  let v25 : BitVec 32 := Scalar.muli v24 c1_i32_25
  let v26 : BitVec 32 := Scalar.addi c0_i32_23 v25
  let c1_i32_27 : BitVec 32 := 1#32
  let arg14 : BitVec 32 := Scf.iv v26 c1_i32_27 k0_t7
  let v1271 : Index := Scalar.indexCast arg14
  let c5 : Index := 5#32
  ![v1271.toNat, 5]

def k0_chk13 (v1_1 : BitVec 32) (k0_t7 : Fin (k0_t7_loop v1_1).trips) (v31 : BitVec 32) (v38 : BitVec 32) : Prop :=
  (∀ (k0_h4 : k0_cond4 v38 = 1#1), ∀ a, (k0_off67 v1_1 k0_t7) a + S1x1.size a ≤ S40x8.size a) ∧
  (∀ (k0_h4 : k0_cond4 v38 = 1#1), ∀ a, (k0_off68 v31) a + S1.size a ≤ S2.size a) ∧
  (∀ (k0_h4 : k0_cond4 v38 = 1#1), ∀ a, (k0_off69 v31) a + S1x1408x2048.size a ≤ S2x1408x2048.size a) ∧
  (∀ (k0_h4 : k0_cond4 v38 = 1#1), ∀ (hinb : ∀ a, (k0_off69 v31) a + S1x1408x2048.size a ≤ S2x1408x2048.size a), (Rect.unit (s := S2x1408x2048) (k0_off69 v31) S1x1408x2048.size hinb).WholeWords (EltTy.packing .i8)) ∧
  (∀ (k0_h4 : k0_cond4 v38 = 1#1), ∀ a, (k0_off71 v31) a + S1.size a ≤ S2.size a) ∧
  (∀ (k0_h4 : k0_cond4 v38 = 1#1), ∀ a, (k0_off72 v31) a + S1x22x2048.size a ≤ S2x22x2048.size a) ∧
  (∀ (k0_h4 : k0_cond4 v38 = 1#1), ∀ (hinb : ∀ a, (k0_off72 v31) a + S1x22x2048.size a ≤ S2x22x2048.size a), (Rect.unit (s := S2x22x2048) (k0_off72 v31) S1x22x2048.size hinb).WholeWords (EltTy.packing .bf16)) ∧
  (∀ (k0_h4 : k0_cond4 v38 = 1#1), ∀ a, (k0_off74 v1_1 k0_t7) a + S1x1.size a ≤ S40x8.size a)
theorem k0_off67_inb : ∀ (v1_1 : BitVec 32) (k0_t7 : Fin (k0_t7_loop v1_1).trips) (v31 : BitVec 32) (v38 : BitVec 32) (k0_hw13 : k0_chk13 v1_1 k0_t7 v31 v38), ∀ (k0_h4 : k0_cond4 v38 = 1#1), ∀ a, (k0_off67 v1_1 k0_t7) a + S1x1.size a ≤ S40x8.size a := fun v1_1 k0_t7 v31 v38 k0_hw13 k0_h4 => k0_hw13.1 k0_h4
theorem k0_off68_inb : ∀ (v1_1 : BitVec 32) (k0_t7 : Fin (k0_t7_loop v1_1).trips) (v31 : BitVec 32) (v38 : BitVec 32) (k0_hw13 : k0_chk13 v1_1 k0_t7 v31 v38), ∀ (k0_h4 : k0_cond4 v38 = 1#1), ∀ a, (k0_off68 v31) a + S1.size a ≤ S2.size a := fun v1_1 k0_t7 v31 v38 k0_hw13 k0_h4 => k0_hw13.2.1 k0_h4
theorem k0_off69_inb : ∀ (v1_1 : BitVec 32) (k0_t7 : Fin (k0_t7_loop v1_1).trips) (v31 : BitVec 32) (v38 : BitVec 32) (k0_hw13 : k0_chk13 v1_1 k0_t7 v31 v38), ∀ (k0_h4 : k0_cond4 v38 = 1#1), ∀ a, (k0_off69 v31) a + S1x1408x2048.size a ≤ S2x1408x2048.size a := fun v1_1 k0_t7 v31 v38 k0_hw13 k0_h4 => k0_hw13.2.2.1 k0_h4
theorem k0_off69_wordsi8 : ∀ (v1_1 : BitVec 32) (k0_t7 : Fin (k0_t7_loop v1_1).trips) (v31 : BitVec 32) (v38 : BitVec 32) (k0_hw13 : k0_chk13 v1_1 k0_t7 v31 v38), ∀ (k0_h4 : k0_cond4 v38 = 1#1), (Rect.unit (s := S2x1408x2048) (k0_off69 v31) S1x1408x2048.size (k0_off69_inb v1_1 k0_t7 v31 v38 k0_hw13 k0_h4)).WholeWords (EltTy.packing .i8) := fun v1_1 k0_t7 v31 v38 k0_hw13 k0_h4 => k0_hw13.2.2.2.1 k0_h4 (k0_off69_inb v1_1 k0_t7 v31 v38 k0_hw13 k0_h4)
theorem k0_off71_inb : ∀ (v1_1 : BitVec 32) (k0_t7 : Fin (k0_t7_loop v1_1).trips) (v31 : BitVec 32) (v38 : BitVec 32) (k0_hw13 : k0_chk13 v1_1 k0_t7 v31 v38), ∀ (k0_h4 : k0_cond4 v38 = 1#1), ∀ a, (k0_off71 v31) a + S1.size a ≤ S2.size a := fun v1_1 k0_t7 v31 v38 k0_hw13 k0_h4 => k0_hw13.2.2.2.2.1 k0_h4
theorem k0_off72_inb : ∀ (v1_1 : BitVec 32) (k0_t7 : Fin (k0_t7_loop v1_1).trips) (v31 : BitVec 32) (v38 : BitVec 32) (k0_hw13 : k0_chk13 v1_1 k0_t7 v31 v38), ∀ (k0_h4 : k0_cond4 v38 = 1#1), ∀ a, (k0_off72 v31) a + S1x22x2048.size a ≤ S2x22x2048.size a := fun v1_1 k0_t7 v31 v38 k0_hw13 k0_h4 => k0_hw13.2.2.2.2.2.1 k0_h4
theorem k0_off72_wordsbf16 : ∀ (v1_1 : BitVec 32) (k0_t7 : Fin (k0_t7_loop v1_1).trips) (v31 : BitVec 32) (v38 : BitVec 32) (k0_hw13 : k0_chk13 v1_1 k0_t7 v31 v38), ∀ (k0_h4 : k0_cond4 v38 = 1#1), (Rect.unit (s := S2x22x2048) (k0_off72 v31) S1x22x2048.size (k0_off72_inb v1_1 k0_t7 v31 v38 k0_hw13 k0_h4)).WholeWords (EltTy.packing .bf16) := fun v1_1 k0_t7 v31 v38 k0_hw13 k0_h4 => k0_hw13.2.2.2.2.2.2.1 k0_h4 (k0_off72_inb v1_1 k0_t7 v31 v38 k0_hw13 k0_h4)
theorem k0_off74_inb : ∀ (v1_1 : BitVec 32) (k0_t7 : Fin (k0_t7_loop v1_1).trips) (v31 : BitVec 32) (v38 : BitVec 32) (k0_hw13 : k0_chk13 v1_1 k0_t7 v31 v38), ∀ (k0_h4 : k0_cond4 v38 = 1#1), ∀ a, (k0_off74 v1_1 k0_t7) a + S1x1.size a ≤ S40x8.size a := fun v1_1 k0_t7 v31 v38 k0_hw13 k0_h4 => k0_hw13.2.2.2.2.2.2.2 k0_h4

def k0_off75 (v31 : BitVec 32) : Fin 1 → Nat :=
  let c1_i32_151 : BitVec 32 := 1#32
  let v1276 : BitVec 32 := Scalar.subi c1_i32_151 v31
  ![v1276.toNat]
def k0_cond5 (v1272 : BitVec 32) : BitVec 1 :=
  let c0_i32_149 : BitVec 32 := 0#32
  let v1273 : BitVec 1 := Scalar.cmpi .sge v1272 c0_i32_149
  let v1274 : BitVec 32 := Scalar.extui v1273
  let c0_i32_150 : BitVec 32 := 0#32
  let v1275 : BitVec 1 := Scalar.cmpi .ne v1274 c0_i32_150
  v1275

def k0_off76 (v31 : BitVec 32) : Fin 3 → Nat :=
  let c1_i32_151 : BitVec 32 := 1#32
  let v1276 : BitVec 32 := Scalar.subi c1_i32_151 v31
  let c0_i32_152 : BitVec 32 := 0#32
  let c0_i32_153 : BitVec 32 := 0#32
  ![v1276.toNat, 0, 0]
def k0_off77 (v1272 : BitVec 32) : Fin 3 → Nat :=
  let c0_i32_154 : BitVec 32 := 0#32
  let c0_i32_155 : BitVec 32 := 0#32
  ![v1272.toNat, 0, 0]
def k0_off78 (v31 : BitVec 32) : Fin 3 → Nat :=
  let c1_i32_151 : BitVec 32 := 1#32
  let v1276 : BitVec 32 := Scalar.subi c1_i32_151 v31
  let c0_i32_156 : BitVec 32 := 0#32
  let c0_i32_157 : BitVec 32 := 0#32
  ![v1276.toNat, 0, 0]
def k0_off79 (v1272 : BitVec 32) : Fin 3 → Nat :=
  let c0_i32_158 : BitVec 32 := 0#32
  let c0_i32_159 : BitVec 32 := 0#32
  ![v1272.toNat, 0, 0]

def k0_chk15 (v31 : BitVec 32) (v38 : BitVec 32) (v1272 : BitVec 32) : Prop :=
  (∀ (k0_h4 : k0_cond4 v38 = 1#1), ∀ (k0_h5 : k0_cond5 v1272 = 1#1), ∀ a, (k0_off75 v31) a + S1.size a ≤ S2.size a) ∧
  (∀ (k0_h4 : k0_cond4 v38 = 1#1), ∀ (k0_h5 : k0_cond5 v1272 = 1#1), ∀ a, (k0_off76 v31) a + S1x1408x2048.size a ≤ S2x1408x2048.size a) ∧
  (∀ (k0_h4 : k0_cond4 v38 = 1#1), ∀ (k0_h5 : k0_cond5 v1272 = 1#1), ∀ a, (k0_off77 v1272) a + S1x1408x2048.size a ≤ S8x1408x2048.size a) ∧
  (∀ (k0_h4 : k0_cond4 v38 = 1#1), ∀ (k0_h5 : k0_cond5 v1272 = 1#1), ∀ (hinb : ∀ a, (k0_off77 v1272) a + S1x1408x2048.size a ≤ S8x1408x2048.size a), (Rect.unit (s := S8x1408x2048) (k0_off77 v1272) S1x1408x2048.size hinb).WholeWords (EltTy.packing .i8)) ∧
  (∀ (k0_h4 : k0_cond4 v38 = 1#1), ∀ (k0_h5 : k0_cond5 v1272 = 1#1), ∀ (hinb : ∀ a, (k0_off76 v31) a + S1x1408x2048.size a ≤ S2x1408x2048.size a), (Rect.unit (s := S2x1408x2048) (k0_off76 v31) S1x1408x2048.size hinb).WholeWords (EltTy.packing .i8)) ∧
  (∀ (k0_h4 : k0_cond4 v38 = 1#1), ∀ (k0_h5 : k0_cond5 v1272 = 1#1), ∀ a, (k0_off78 v31) a + S1x22x2048.size a ≤ S2x22x2048.size a) ∧
  (∀ (k0_h4 : k0_cond4 v38 = 1#1), ∀ (k0_h5 : k0_cond5 v1272 = 1#1), ∀ a, (k0_off79 v1272) a + S1x22x2048.size a ≤ S8x22x2048.size a) ∧
  (∀ (k0_h4 : k0_cond4 v38 = 1#1), ∀ (k0_h5 : k0_cond5 v1272 = 1#1), ∀ (hinb : ∀ a, (k0_off79 v1272) a + S1x22x2048.size a ≤ S8x22x2048.size a), (Rect.unit (s := S8x22x2048) (k0_off79 v1272) S1x22x2048.size hinb).WholeWords (EltTy.packing .bf16)) ∧
  (∀ (k0_h4 : k0_cond4 v38 = 1#1), ∀ (k0_h5 : k0_cond5 v1272 = 1#1), ∀ (hinb : ∀ a, (k0_off78 v31) a + S1x22x2048.size a ≤ S2x22x2048.size a), (Rect.unit (s := S2x22x2048) (k0_off78 v31) S1x22x2048.size hinb).WholeWords (EltTy.packing .bf16))
theorem k0_off75_inb : ∀ (v31 : BitVec 32) (v38 : BitVec 32) (v1272 : BitVec 32) (k0_hw15 : k0_chk15 v31 v38 v1272), ∀ (k0_h4 : k0_cond4 v38 = 1#1), ∀ (k0_h5 : k0_cond5 v1272 = 1#1), ∀ a, (k0_off75 v31) a + S1.size a ≤ S2.size a := fun v31 v38 v1272 k0_hw15 k0_h4 k0_h5 => k0_hw15.1 k0_h4 k0_h5
theorem k0_off76_inb : ∀ (v31 : BitVec 32) (v38 : BitVec 32) (v1272 : BitVec 32) (k0_hw15 : k0_chk15 v31 v38 v1272), ∀ (k0_h4 : k0_cond4 v38 = 1#1), ∀ (k0_h5 : k0_cond5 v1272 = 1#1), ∀ a, (k0_off76 v31) a + S1x1408x2048.size a ≤ S2x1408x2048.size a := fun v31 v38 v1272 k0_hw15 k0_h4 k0_h5 => k0_hw15.2.1 k0_h4 k0_h5
theorem k0_off77_inb : ∀ (v31 : BitVec 32) (v38 : BitVec 32) (v1272 : BitVec 32) (k0_hw15 : k0_chk15 v31 v38 v1272), ∀ (k0_h4 : k0_cond4 v38 = 1#1), ∀ (k0_h5 : k0_cond5 v1272 = 1#1), ∀ a, (k0_off77 v1272) a + S1x1408x2048.size a ≤ S8x1408x2048.size a := fun v31 v38 v1272 k0_hw15 k0_h4 k0_h5 => k0_hw15.2.2.1 k0_h4 k0_h5
theorem k0_off77_wordsi8 : ∀ (v31 : BitVec 32) (v38 : BitVec 32) (v1272 : BitVec 32) (k0_hw15 : k0_chk15 v31 v38 v1272), ∀ (k0_h4 : k0_cond4 v38 = 1#1), ∀ (k0_h5 : k0_cond5 v1272 = 1#1), (Rect.unit (s := S8x1408x2048) (k0_off77 v1272) S1x1408x2048.size (k0_off77_inb v31 v38 v1272 k0_hw15 k0_h4 k0_h5)).WholeWords (EltTy.packing .i8) := fun v31 v38 v1272 k0_hw15 k0_h4 k0_h5 => k0_hw15.2.2.2.1 k0_h4 k0_h5 (k0_off77_inb v31 v38 v1272 k0_hw15 k0_h4 k0_h5)
theorem k0_off76_wordsi8 : ∀ (v31 : BitVec 32) (v38 : BitVec 32) (v1272 : BitVec 32) (k0_hw15 : k0_chk15 v31 v38 v1272), ∀ (k0_h4 : k0_cond4 v38 = 1#1), ∀ (k0_h5 : k0_cond5 v1272 = 1#1), (Rect.unit (s := S2x1408x2048) (k0_off76 v31) S1x1408x2048.size (k0_off76_inb v31 v38 v1272 k0_hw15 k0_h4 k0_h5)).WholeWords (EltTy.packing .i8) := fun v31 v38 v1272 k0_hw15 k0_h4 k0_h5 => k0_hw15.2.2.2.2.1 k0_h4 k0_h5 (k0_off76_inb v31 v38 v1272 k0_hw15 k0_h4 k0_h5)
theorem k0_off78_inb : ∀ (v31 : BitVec 32) (v38 : BitVec 32) (v1272 : BitVec 32) (k0_hw15 : k0_chk15 v31 v38 v1272), ∀ (k0_h4 : k0_cond4 v38 = 1#1), ∀ (k0_h5 : k0_cond5 v1272 = 1#1), ∀ a, (k0_off78 v31) a + S1x22x2048.size a ≤ S2x22x2048.size a := fun v31 v38 v1272 k0_hw15 k0_h4 k0_h5 => k0_hw15.2.2.2.2.2.1 k0_h4 k0_h5
theorem k0_off79_inb : ∀ (v31 : BitVec 32) (v38 : BitVec 32) (v1272 : BitVec 32) (k0_hw15 : k0_chk15 v31 v38 v1272), ∀ (k0_h4 : k0_cond4 v38 = 1#1), ∀ (k0_h5 : k0_cond5 v1272 = 1#1), ∀ a, (k0_off79 v1272) a + S1x22x2048.size a ≤ S8x22x2048.size a := fun v31 v38 v1272 k0_hw15 k0_h4 k0_h5 => k0_hw15.2.2.2.2.2.2.1 k0_h4 k0_h5
theorem k0_off79_wordsbf16 : ∀ (v31 : BitVec 32) (v38 : BitVec 32) (v1272 : BitVec 32) (k0_hw15 : k0_chk15 v31 v38 v1272), ∀ (k0_h4 : k0_cond4 v38 = 1#1), ∀ (k0_h5 : k0_cond5 v1272 = 1#1), (Rect.unit (s := S8x22x2048) (k0_off79 v1272) S1x22x2048.size (k0_off79_inb v31 v38 v1272 k0_hw15 k0_h4 k0_h5)).WholeWords (EltTy.packing .bf16) := fun v31 v38 v1272 k0_hw15 k0_h4 k0_h5 => k0_hw15.2.2.2.2.2.2.2.1 k0_h4 k0_h5 (k0_off79_inb v31 v38 v1272 k0_hw15 k0_h4 k0_h5)
theorem k0_off78_wordsbf16 : ∀ (v31 : BitVec 32) (v38 : BitVec 32) (v1272 : BitVec 32) (k0_hw15 : k0_chk15 v31 v38 v1272), ∀ (k0_h4 : k0_cond4 v38 = 1#1), ∀ (k0_h5 : k0_cond5 v1272 = 1#1), (Rect.unit (s := S2x22x2048) (k0_off78 v31) S1x22x2048.size (k0_off78_inb v31 v38 v1272 k0_hw15 k0_h4 k0_h5)).WholeWords (EltTy.packing .bf16) := fun v31 v38 v1272 k0_hw15 k0_h4 k0_h5 => k0_hw15.2.2.2.2.2.2.2.2 k0_h4 k0_h5 (k0_off78_inb v31 v38 v1272 k0_hw15 k0_h4 k0_h5)

def k0_off80 (v1_1 : BitVec 32) (k0_t7 : Fin (k0_t7_loop v1_1).trips) : Fin 2 → Nat :=
  let c0_i32_23 : BitVec 32 := 0#32
  let v22 : BitVec 32 := Scalar.subi v1_1 c0_i32_23
  let c1_i32_25 : BitVec 32 := 1#32
  let v24 : BitVec 32 := Scalar.divsi v22 c1_i32_25
  let v25 : BitVec 32 := Scalar.muli v24 c1_i32_25
  let v26 : BitVec 32 := Scalar.addi c0_i32_23 v25
  let c1_i32_27 : BitVec 32 := 1#32
  let arg14 : BitVec 32 := Scf.iv v26 c1_i32_27 k0_t7
  let v42 : Index := Scalar.indexCast arg14
  let c1_32 : Index := 1#32
  ![v42.toNat, 1]
def k0_mult6 (v43 : BitVec 32) : BitVec 32 :=
  v43

def k0_off81 (v1_1 : BitVec 32) (k0_t7 : Fin (k0_t7_loop v1_1).trips) : Fin 1 → Nat :=
  let c0_i32_23 : BitVec 32 := 0#32
  let v22 : BitVec 32 := Scalar.subi v1_1 c0_i32_23
  let c1_i32_25 : BitVec 32 := 1#32
  let v24 : BitVec 32 := Scalar.divsi v22 c1_i32_25
  let v25 : BitVec 32 := Scalar.muli v24 c1_i32_25
  let v26 : BitVec 32 := Scalar.addi c0_i32_23 v25
  let c1_i32_27 : BitVec 32 := 1#32
  let arg14 : BitVec 32 := Scf.iv v26 c1_i32_27 k0_t7
  let c1_i32_28 : BitVec 32 := 1#32
  let v29 : BitVec 32 := Scalar.andi arg14 c1_i32_28
  ![v29.toNat]
def k0_off82 (v1_1 : BitVec 32) (k0_t7 : Fin (k0_t7_loop v1_1).trips) : Fin 3 → Nat :=
  let c0_i32_23 : BitVec 32 := 0#32
  let v22 : BitVec 32 := Scalar.subi v1_1 c0_i32_23
  let c1_i32_25 : BitVec 32 := 1#32
  let v24 : BitVec 32 := Scalar.divsi v22 c1_i32_25
  let v25 : BitVec 32 := Scalar.muli v24 c1_i32_25
  let v26 : BitVec 32 := Scalar.addi c0_i32_23 v25
  let c1_i32_27 : BitVec 32 := 1#32
  let arg14 : BitVec 32 := Scf.iv v26 c1_i32_27 k0_t7
  let c1_i32_28 : BitVec 32 := 1#32
  let v29 : BitVec 32 := Scalar.andi arg14 c1_i32_28
  let c0_i32_33 : BitVec 32 := 0#32
  let c0_i32_34 : BitVec 32 := 0#32
  ![v29.toNat, 0, 0]
def k0_off83 (v43 : BitVec 32) : Fin 2 → Nat :=
  let v44 : BitVec 32 := v43
  let c0_i32_35 : BitVec 32 := 0#32
  ![v44.toNat, 0]

def k0_chk16 (v43 : BitVec 32) : Prop :=
  (32 ∣ (k0_mult6 v43).toNat) ∧
  (∀ a, (k0_off83 v43) a + S256x2816.size a ≤ S6144x2816.size a) ∧
  (∀ (hinb : ∀ a, (k0_off83 v43) a + S256x2816.size a ≤ S6144x2816.size a), (Rect.unit (s := S6144x2816) (k0_off83 v43) S256x2816.size hinb).WholeWords (EltTy.packing .bf16))
theorem k0_mult6_dvd : ∀ (v43 : BitVec 32) (k0_hw16 : k0_chk16 v43), 32 ∣ (k0_mult6 v43).toNat := fun v43 k0_hw16 => k0_hw16.1
theorem k0_off83_inb : ∀ (v43 : BitVec 32) (k0_hw16 : k0_chk16 v43), ∀ a, (k0_off83 v43) a + S256x2816.size a ≤ S6144x2816.size a := fun v43 k0_hw16 => k0_hw16.2.1
theorem k0_off83_wordsbf16 : ∀ (v43 : BitVec 32) (k0_hw16 : k0_chk16 v43), (Rect.unit (s := S6144x2816) (k0_off83 v43) S256x2816.size (k0_off83_inb v43 k0_hw16)).WholeWords (EltTy.packing .bf16) := fun v43 k0_hw16 => k0_hw16.2.2 (k0_off83_inb v43 k0_hw16)

def k0_off84 (v1_1 : BitVec 32) (k0_t7 : Fin (k0_t7_loop v1_1).trips) : Fin 2 → Nat :=
  let c0_i32_23 : BitVec 32 := 0#32
  let v22 : BitVec 32 := Scalar.subi v1_1 c0_i32_23
  let c1_i32_25 : BitVec 32 := 1#32
  let v24 : BitVec 32 := Scalar.divsi v22 c1_i32_25
  let v25 : BitVec 32 := Scalar.muli v24 c1_i32_25
  let v26 : BitVec 32 := Scalar.addi c0_i32_23 v25
  let c1_i32_27 : BitVec 32 := 1#32
  let arg14 : BitVec 32 := Scf.iv v26 c1_i32_27 k0_t7
  let c1_i32_140 : BitVec 32 := 1#32
  let v1257 : BitVec 32 := Scalar.addi arg14 c1_i32_140
  let v1259 : Index := Scalar.indexCast v1257
  let c1_142 : Index := 1#32
  ![v1259.toNat, 1]
def k0_cond6 (v1_1 : BitVec 32) (k0_t7 : Fin (k0_t7_loop v1_1).trips) : BitVec 1 :=
  let c0_i32_23 : BitVec 32 := 0#32
  let v22 : BitVec 32 := Scalar.subi v1_1 c0_i32_23
  let c1_i32_25 : BitVec 32 := 1#32
  let v24 : BitVec 32 := Scalar.divsi v22 c1_i32_25
  let v25 : BitVec 32 := Scalar.muli v24 c1_i32_25
  let v26 : BitVec 32 := Scalar.addi c0_i32_23 v25
  let c1_i32_27 : BitVec 32 := 1#32
  let arg14 : BitVec 32 := Scf.iv v26 c1_i32_27 k0_t7
  let c1_i32_36 : BitVec 32 := 1#32
  let v50 : BitVec 32 := Scalar.addi arg14 c1_i32_36
  let v51 : BitVec 1 := Scalar.cmpi .slt v50 v1_1
  let v52 : BitVec 32 := Scalar.extui v51
  let c0_i32_37 : BitVec 32 := 0#32
  let v53 : BitVec 1 := Scalar.cmpi .ne v52 c0_i32_37
  v53

def k0_mult7 (v1260 : BitVec 32) : BitVec 32 :=
  v1260

def k0_off85 (v1_1 : BitVec 32) (k0_t7 : Fin (k0_t7_loop v1_1).trips) : Fin 1 → Nat :=
  let c1_i32_141 : BitVec 32 := 1#32
  let c0_i32_23 : BitVec 32 := 0#32
  let v22 : BitVec 32 := Scalar.subi v1_1 c0_i32_23
  let c1_i32_25 : BitVec 32 := 1#32
  let v24 : BitVec 32 := Scalar.divsi v22 c1_i32_25
  let v25 : BitVec 32 := Scalar.muli v24 c1_i32_25
  let v26 : BitVec 32 := Scalar.addi c0_i32_23 v25
  let c1_i32_27 : BitVec 32 := 1#32
  let arg14 : BitVec 32 := Scf.iv v26 c1_i32_27 k0_t7
  let c1_i32_28 : BitVec 32 := 1#32
  let v29 : BitVec 32 := Scalar.andi arg14 c1_i32_28
  let v1258 : BitVec 32 := Scalar.subi c1_i32_141 v29
  ![v1258.toNat]
def k0_off86 (v1_1 : BitVec 32) (k0_t7 : Fin (k0_t7_loop v1_1).trips) : Fin 3 → Nat :=
  let c1_i32_141 : BitVec 32 := 1#32
  let c0_i32_23 : BitVec 32 := 0#32
  let v22 : BitVec 32 := Scalar.subi v1_1 c0_i32_23
  let c1_i32_25 : BitVec 32 := 1#32
  let v24 : BitVec 32 := Scalar.divsi v22 c1_i32_25
  let v25 : BitVec 32 := Scalar.muli v24 c1_i32_25
  let v26 : BitVec 32 := Scalar.addi c0_i32_23 v25
  let c1_i32_27 : BitVec 32 := 1#32
  let arg14 : BitVec 32 := Scf.iv v26 c1_i32_27 k0_t7
  let c1_i32_28 : BitVec 32 := 1#32
  let v29 : BitVec 32 := Scalar.andi arg14 c1_i32_28
  let v1258 : BitVec 32 := Scalar.subi c1_i32_141 v29
  let c0_i32_143 : BitVec 32 := 0#32
  let c0_i32_144 : BitVec 32 := 0#32
  ![v1258.toNat, 0, 0]
def k0_off87 (v1260 : BitVec 32) : Fin 2 → Nat :=
  let v1261 : BitVec 32 := v1260
  let c0_i32_145 : BitVec 32 := 0#32
  ![v1261.toNat, 0]

def k0_chk17 (v1_1 : BitVec 32) (k0_t7 : Fin (k0_t7_loop v1_1).trips) (v1260 : BitVec 32) : Prop :=
  (∀ (k0_h6 : k0_cond6 v1_1 k0_t7 = 1#1), 32 ∣ (k0_mult7 v1260).toNat) ∧
  (∀ (k0_h6 : k0_cond6 v1_1 k0_t7 = 1#1), ∀ a, (k0_off87 v1260) a + S256x2816.size a ≤ S6144x2816.size a) ∧
  (∀ (k0_h6 : k0_cond6 v1_1 k0_t7 = 1#1), ∀ (hinb : ∀ a, (k0_off87 v1260) a + S256x2816.size a ≤ S6144x2816.size a), (Rect.unit (s := S6144x2816) (k0_off87 v1260) S256x2816.size hinb).WholeWords (EltTy.packing .bf16))
theorem k0_mult7_dvd : ∀ (v1_1 : BitVec 32) (k0_t7 : Fin (k0_t7_loop v1_1).trips) (v1260 : BitVec 32) (k0_hw17 : k0_chk17 v1_1 k0_t7 v1260), ∀ (k0_h6 : k0_cond6 v1_1 k0_t7 = 1#1), 32 ∣ (k0_mult7 v1260).toNat := fun v1_1 k0_t7 v1260 k0_hw17 k0_h6 => k0_hw17.1 k0_h6
theorem k0_off87_inb : ∀ (v1_1 : BitVec 32) (k0_t7 : Fin (k0_t7_loop v1_1).trips) (v1260 : BitVec 32) (k0_hw17 : k0_chk17 v1_1 k0_t7 v1260), ∀ (k0_h6 : k0_cond6 v1_1 k0_t7 = 1#1), ∀ a, (k0_off87 v1260) a + S256x2816.size a ≤ S6144x2816.size a := fun v1_1 k0_t7 v1260 k0_hw17 k0_h6 => k0_hw17.2.1 k0_h6
theorem k0_off87_wordsbf16 : ∀ (v1_1 : BitVec 32) (k0_t7 : Fin (k0_t7_loop v1_1).trips) (v1260 : BitVec 32) (k0_hw17 : k0_chk17 v1_1 k0_t7 v1260), ∀ (k0_h6 : k0_cond6 v1_1 k0_t7 = 1#1), (Rect.unit (s := S6144x2816) (k0_off87 v1260) S256x2816.size (k0_off87_inb v1_1 k0_t7 v1260 k0_hw17 k0_h6)).WholeWords (EltTy.packing .bf16) := fun v1_1 k0_t7 v1260 k0_hw17 k0_h6 => k0_hw17.2.2 k0_h6 (k0_off87_inb v1_1 k0_t7 v1260 k0_hw17 k0_h6)

def k0_off88 (v1_1 : BitVec 32) (k0_t7 : Fin (k0_t7_loop v1_1).trips) : Fin 3 → Nat :=
  let c0_i32_23 : BitVec 32 := 0#32
  let v22 : BitVec 32 := Scalar.subi v1_1 c0_i32_23
  let c1_i32_25 : BitVec 32 := 1#32
  let v24 : BitVec 32 := Scalar.divsi v22 c1_i32_25
  let v25 : BitVec 32 := Scalar.muli v24 c1_i32_25
  let v26 : BitVec 32 := Scalar.addi c0_i32_23 v25
  let c1_i32_27 : BitVec 32 := 1#32
  let arg14 : BitVec 32 := Scf.iv v26 c1_i32_27 k0_t7
  let c1_i32_28 : BitVec 32 := 1#32
  let v29 : BitVec 32 := Scalar.andi arg14 c1_i32_28
  let v55 : Index := Scalar.indexCast v29
  let c0_38 : Index := 0#32
  let c0_39 : Index := 0#32
  ![v55.toNat, 0, 0]

def k0_chk4 (v1_1 : BitVec 32) : Prop :=
  ((k0_t6_loop v1_1).OK) ∧
  (∀ k0_t6 : Fin (k0_t6_loop v1_1).trips, ∀ a, (k0_off19 v1_1 k0_t6) a + S1x1.size a ≤ S40x8.size a) ∧
  (∀ k0_t6 : Fin (k0_t6_loop v1_1).trips, ∀ a, (k0_off20 v1_1 k0_t6) a + S1x1.size a ≤ S40x8.size a) ∧
  (∀ k0_t6 : Fin (k0_t6_loop v1_1).trips, ∀ a, (k0_off21 v1_1 k0_t6) a + S1x1.size a ≤ S40x8.size a) ∧
  (∀ k0_t6 : Fin (k0_t6_loop v1_1).trips, ∀ a, (k0_off22 v1_1 k0_t6) a + S1x1.size a ≤ S40x8.size a) ∧
  (∀ k0_t6 : Fin (k0_t6_loop v1_1).trips, ∀ a, (k0_off36 v1_1 k0_t6) a + S1x1.size a ≤ S40x8.size a) ∧
  (∀ k0_t6 : Fin (k0_t6_loop v1_1).trips, ∀ a, (k0_off37 v1_1 k0_t6) a + S1.size a ≤ S2.size a) ∧
  (∀ k0_t6 : Fin (k0_t6_loop v1_1).trips, ∀ a, (k0_off38 v1_1 k0_t6) a + S1x256x2816.size a ≤ S2x256x2816.size a) ∧
  (∀ k0_t6 : Fin (k0_t6_loop v1_1).trips, ∀ (hinb : ∀ a, (k0_off38 v1_1 k0_t6) a + S1x256x2816.size a ≤ S2x256x2816.size a), (Rect.unit (s := S2x256x2816) (k0_off38 v1_1 k0_t6) S1x256x2816.size hinb).WholeWords (EltTy.packing .bf16)) ∧
  (∀ k0_t6 : Fin (k0_t6_loop v1_1).trips, ∀ (k0_h3 : k0_cond3 v1_1 k0_t6 = 1#1), ∀ a, (k0_off40 v1_1 k0_t6) a + S1x1.size a ≤ S40x8.size a) ∧
  (∀ k0_t6 : Fin (k0_t6_loop v1_1).trips, ∀ (k0_h3 : k0_cond3 v1_1 k0_t6 = 1#1), ∀ a, (k0_off41 v1_1 k0_t6) a + S1.size a ≤ S2.size a) ∧
  (∀ k0_t6 : Fin (k0_t6_loop v1_1).trips, ∀ (k0_h3 : k0_cond3 v1_1 k0_t6 = 1#1), ∀ a, (k0_off42 v1_1 k0_t6) a + S1x256x2816.size a ≤ S2x256x2816.size a) ∧
  (∀ k0_t6 : Fin (k0_t6_loop v1_1).trips, ∀ (k0_h3 : k0_cond3 v1_1 k0_t6 = 1#1), ∀ (hinb : ∀ a, (k0_off42 v1_1 k0_t6) a + S1x256x2816.size a ≤ S2x256x2816.size a), (Rect.unit (s := S2x256x2816) (k0_off42 v1_1 k0_t6) S1x256x2816.size hinb).WholeWords (EltTy.packing .bf16)) ∧
  (∀ k0_t6 : Fin (k0_t6_loop v1_1).trips, ∀ a, (k0_off44 v1_1 k0_t6) a + S1x256x2816.size a ≤ S2x256x2816.size a) ∧
  ((k0_t7_loop v1_1).OK) ∧
  (∀ k0_t7 : Fin (k0_t7_loop v1_1).trips, ∀ a, (k0_off63 v1_1 k0_t7) a + S1x1.size a ≤ S40x8.size a) ∧
  (∀ k0_t7 : Fin (k0_t7_loop v1_1).trips, ∀ a, (k0_off64 v1_1 k0_t7) a + S1x1.size a ≤ S40x8.size a) ∧
  (∀ k0_t7 : Fin (k0_t7_loop v1_1).trips, ∀ a, (k0_off65 v1_1 k0_t7) a + S1x1.size a ≤ S40x8.size a) ∧
  (∀ k0_t7 : Fin (k0_t7_loop v1_1).trips, ∀ a, (k0_off66 v1_1 k0_t7) a + S1x1.size a ≤ S40x8.size a) ∧
  (∀ k0_t7 : Fin (k0_t7_loop v1_1).trips, ∀ a, (k0_off80 v1_1 k0_t7) a + S1x1.size a ≤ S40x8.size a) ∧
  (∀ k0_t7 : Fin (k0_t7_loop v1_1).trips, ∀ a, (k0_off81 v1_1 k0_t7) a + S1.size a ≤ S2.size a) ∧
  (∀ k0_t7 : Fin (k0_t7_loop v1_1).trips, ∀ a, (k0_off82 v1_1 k0_t7) a + S1x256x2816.size a ≤ S2x256x2816.size a) ∧
  (∀ k0_t7 : Fin (k0_t7_loop v1_1).trips, ∀ (hinb : ∀ a, (k0_off82 v1_1 k0_t7) a + S1x256x2816.size a ≤ S2x256x2816.size a), (Rect.unit (s := S2x256x2816) (k0_off82 v1_1 k0_t7) S1x256x2816.size hinb).WholeWords (EltTy.packing .bf16)) ∧
  (∀ k0_t7 : Fin (k0_t7_loop v1_1).trips, ∀ (k0_h6 : k0_cond6 v1_1 k0_t7 = 1#1), ∀ a, (k0_off84 v1_1 k0_t7) a + S1x1.size a ≤ S40x8.size a) ∧
  (∀ k0_t7 : Fin (k0_t7_loop v1_1).trips, ∀ (k0_h6 : k0_cond6 v1_1 k0_t7 = 1#1), ∀ a, (k0_off85 v1_1 k0_t7) a + S1.size a ≤ S2.size a) ∧
  (∀ k0_t7 : Fin (k0_t7_loop v1_1).trips, ∀ (k0_h6 : k0_cond6 v1_1 k0_t7 = 1#1), ∀ a, (k0_off86 v1_1 k0_t7) a + S1x256x2816.size a ≤ S2x256x2816.size a) ∧
  (∀ k0_t7 : Fin (k0_t7_loop v1_1).trips, ∀ (k0_h6 : k0_cond6 v1_1 k0_t7 = 1#1), ∀ (hinb : ∀ a, (k0_off86 v1_1 k0_t7) a + S1x256x2816.size a ≤ S2x256x2816.size a), (Rect.unit (s := S2x256x2816) (k0_off86 v1_1 k0_t7) S1x256x2816.size hinb).WholeWords (EltTy.packing .bf16)) ∧
  (∀ k0_t7 : Fin (k0_t7_loop v1_1).trips, ∀ a, (k0_off88 v1_1 k0_t7) a + S1x256x2816.size a ≤ S2x256x2816.size a)
theorem k0_t6_ok : ∀ (v1_1 : BitVec 32) (k0_hw4 : k0_chk4 v1_1), (k0_t6_loop v1_1).OK := fun v1_1 k0_hw4 => k0_hw4.1
theorem k0_off19_inb : ∀ (v1_1 : BitVec 32) (k0_hw4 : k0_chk4 v1_1) (k0_t6 : Fin (k0_t6_loop v1_1).trips), ∀ a, (k0_off19 v1_1 k0_t6) a + S1x1.size a ≤ S40x8.size a := fun v1_1 k0_hw4 k0_t6 => k0_hw4.2.1 k0_t6
theorem k0_off20_inb : ∀ (v1_1 : BitVec 32) (k0_hw4 : k0_chk4 v1_1) (k0_t6 : Fin (k0_t6_loop v1_1).trips), ∀ a, (k0_off20 v1_1 k0_t6) a + S1x1.size a ≤ S40x8.size a := fun v1_1 k0_hw4 k0_t6 => k0_hw4.2.2.1 k0_t6
theorem k0_off21_inb : ∀ (v1_1 : BitVec 32) (k0_hw4 : k0_chk4 v1_1) (k0_t6 : Fin (k0_t6_loop v1_1).trips), ∀ a, (k0_off21 v1_1 k0_t6) a + S1x1.size a ≤ S40x8.size a := fun v1_1 k0_hw4 k0_t6 => k0_hw4.2.2.2.1 k0_t6
theorem k0_off22_inb : ∀ (v1_1 : BitVec 32) (k0_hw4 : k0_chk4 v1_1) (k0_t6 : Fin (k0_t6_loop v1_1).trips), ∀ a, (k0_off22 v1_1 k0_t6) a + S1x1.size a ≤ S40x8.size a := fun v1_1 k0_hw4 k0_t6 => k0_hw4.2.2.2.2.1 k0_t6
theorem k0_off36_inb : ∀ (v1_1 : BitVec 32) (k0_hw4 : k0_chk4 v1_1) (k0_t6 : Fin (k0_t6_loop v1_1).trips), ∀ a, (k0_off36 v1_1 k0_t6) a + S1x1.size a ≤ S40x8.size a := fun v1_1 k0_hw4 k0_t6 => k0_hw4.2.2.2.2.2.1 k0_t6
theorem k0_off37_inb : ∀ (v1_1 : BitVec 32) (k0_hw4 : k0_chk4 v1_1) (k0_t6 : Fin (k0_t6_loop v1_1).trips), ∀ a, (k0_off37 v1_1 k0_t6) a + S1.size a ≤ S2.size a := fun v1_1 k0_hw4 k0_t6 => k0_hw4.2.2.2.2.2.2.1 k0_t6
theorem k0_off38_inb : ∀ (v1_1 : BitVec 32) (k0_hw4 : k0_chk4 v1_1) (k0_t6 : Fin (k0_t6_loop v1_1).trips), ∀ a, (k0_off38 v1_1 k0_t6) a + S1x256x2816.size a ≤ S2x256x2816.size a := fun v1_1 k0_hw4 k0_t6 => k0_hw4.2.2.2.2.2.2.2.1 k0_t6
theorem k0_off38_wordsbf16 : ∀ (v1_1 : BitVec 32) (k0_hw4 : k0_chk4 v1_1) (k0_t6 : Fin (k0_t6_loop v1_1).trips), (Rect.unit (s := S2x256x2816) (k0_off38 v1_1 k0_t6) S1x256x2816.size (k0_off38_inb v1_1 k0_hw4 k0_t6)).WholeWords (EltTy.packing .bf16) := fun v1_1 k0_hw4 k0_t6 => k0_hw4.2.2.2.2.2.2.2.2.1 k0_t6 (k0_off38_inb v1_1 k0_hw4 k0_t6)
theorem k0_off40_inb : ∀ (v1_1 : BitVec 32) (k0_hw4 : k0_chk4 v1_1) (k0_t6 : Fin (k0_t6_loop v1_1).trips), ∀ (k0_h3 : k0_cond3 v1_1 k0_t6 = 1#1), ∀ a, (k0_off40 v1_1 k0_t6) a + S1x1.size a ≤ S40x8.size a := fun v1_1 k0_hw4 k0_t6 k0_h3 => k0_hw4.2.2.2.2.2.2.2.2.2.1 k0_t6 k0_h3
theorem k0_off41_inb : ∀ (v1_1 : BitVec 32) (k0_hw4 : k0_chk4 v1_1) (k0_t6 : Fin (k0_t6_loop v1_1).trips), ∀ (k0_h3 : k0_cond3 v1_1 k0_t6 = 1#1), ∀ a, (k0_off41 v1_1 k0_t6) a + S1.size a ≤ S2.size a := fun v1_1 k0_hw4 k0_t6 k0_h3 => k0_hw4.2.2.2.2.2.2.2.2.2.2.1 k0_t6 k0_h3
theorem k0_off42_inb : ∀ (v1_1 : BitVec 32) (k0_hw4 : k0_chk4 v1_1) (k0_t6 : Fin (k0_t6_loop v1_1).trips), ∀ (k0_h3 : k0_cond3 v1_1 k0_t6 = 1#1), ∀ a, (k0_off42 v1_1 k0_t6) a + S1x256x2816.size a ≤ S2x256x2816.size a := fun v1_1 k0_hw4 k0_t6 k0_h3 => k0_hw4.2.2.2.2.2.2.2.2.2.2.2.1 k0_t6 k0_h3
theorem k0_off42_wordsbf16 : ∀ (v1_1 : BitVec 32) (k0_hw4 : k0_chk4 v1_1) (k0_t6 : Fin (k0_t6_loop v1_1).trips), ∀ (k0_h3 : k0_cond3 v1_1 k0_t6 = 1#1), (Rect.unit (s := S2x256x2816) (k0_off42 v1_1 k0_t6) S1x256x2816.size (k0_off42_inb v1_1 k0_hw4 k0_t6 k0_h3)).WholeWords (EltTy.packing .bf16) := fun v1_1 k0_hw4 k0_t6 k0_h3 => k0_hw4.2.2.2.2.2.2.2.2.2.2.2.2.1 k0_t6 k0_h3 (k0_off42_inb v1_1 k0_hw4 k0_t6 k0_h3)
theorem k0_off44_inb : ∀ (v1_1 : BitVec 32) (k0_hw4 : k0_chk4 v1_1) (k0_t6 : Fin (k0_t6_loop v1_1).trips), ∀ a, (k0_off44 v1_1 k0_t6) a + S1x256x2816.size a ≤ S2x256x2816.size a := fun v1_1 k0_hw4 k0_t6 => k0_hw4.2.2.2.2.2.2.2.2.2.2.2.2.2.1 k0_t6
theorem k0_t7_ok : ∀ (v1_1 : BitVec 32) (k0_hw4 : k0_chk4 v1_1), (k0_t7_loop v1_1).OK := fun v1_1 k0_hw4 => k0_hw4.2.2.2.2.2.2.2.2.2.2.2.2.2.2.1
theorem k0_off63_inb : ∀ (v1_1 : BitVec 32) (k0_hw4 : k0_chk4 v1_1) (k0_t7 : Fin (k0_t7_loop v1_1).trips), ∀ a, (k0_off63 v1_1 k0_t7) a + S1x1.size a ≤ S40x8.size a := fun v1_1 k0_hw4 k0_t7 => k0_hw4.2.2.2.2.2.2.2.2.2.2.2.2.2.2.2.1 k0_t7
theorem k0_off64_inb : ∀ (v1_1 : BitVec 32) (k0_hw4 : k0_chk4 v1_1) (k0_t7 : Fin (k0_t7_loop v1_1).trips), ∀ a, (k0_off64 v1_1 k0_t7) a + S1x1.size a ≤ S40x8.size a := fun v1_1 k0_hw4 k0_t7 => k0_hw4.2.2.2.2.2.2.2.2.2.2.2.2.2.2.2.2.1 k0_t7
theorem k0_off65_inb : ∀ (v1_1 : BitVec 32) (k0_hw4 : k0_chk4 v1_1) (k0_t7 : Fin (k0_t7_loop v1_1).trips), ∀ a, (k0_off65 v1_1 k0_t7) a + S1x1.size a ≤ S40x8.size a := fun v1_1 k0_hw4 k0_t7 => k0_hw4.2.2.2.2.2.2.2.2.2.2.2.2.2.2.2.2.2.1 k0_t7
theorem k0_off66_inb : ∀ (v1_1 : BitVec 32) (k0_hw4 : k0_chk4 v1_1) (k0_t7 : Fin (k0_t7_loop v1_1).trips), ∀ a, (k0_off66 v1_1 k0_t7) a + S1x1.size a ≤ S40x8.size a := fun v1_1 k0_hw4 k0_t7 => k0_hw4.2.2.2.2.2.2.2.2.2.2.2.2.2.2.2.2.2.2.1 k0_t7
theorem k0_off80_inb : ∀ (v1_1 : BitVec 32) (k0_hw4 : k0_chk4 v1_1) (k0_t7 : Fin (k0_t7_loop v1_1).trips), ∀ a, (k0_off80 v1_1 k0_t7) a + S1x1.size a ≤ S40x8.size a := fun v1_1 k0_hw4 k0_t7 => k0_hw4.2.2.2.2.2.2.2.2.2.2.2.2.2.2.2.2.2.2.2.1 k0_t7
theorem k0_off81_inb : ∀ (v1_1 : BitVec 32) (k0_hw4 : k0_chk4 v1_1) (k0_t7 : Fin (k0_t7_loop v1_1).trips), ∀ a, (k0_off81 v1_1 k0_t7) a + S1.size a ≤ S2.size a := fun v1_1 k0_hw4 k0_t7 => k0_hw4.2.2.2.2.2.2.2.2.2.2.2.2.2.2.2.2.2.2.2.2.1 k0_t7
theorem k0_off82_inb : ∀ (v1_1 : BitVec 32) (k0_hw4 : k0_chk4 v1_1) (k0_t7 : Fin (k0_t7_loop v1_1).trips), ∀ a, (k0_off82 v1_1 k0_t7) a + S1x256x2816.size a ≤ S2x256x2816.size a := fun v1_1 k0_hw4 k0_t7 => k0_hw4.2.2.2.2.2.2.2.2.2.2.2.2.2.2.2.2.2.2.2.2.2.1 k0_t7
theorem k0_off82_wordsbf16 : ∀ (v1_1 : BitVec 32) (k0_hw4 : k0_chk4 v1_1) (k0_t7 : Fin (k0_t7_loop v1_1).trips), (Rect.unit (s := S2x256x2816) (k0_off82 v1_1 k0_t7) S1x256x2816.size (k0_off82_inb v1_1 k0_hw4 k0_t7)).WholeWords (EltTy.packing .bf16) := fun v1_1 k0_hw4 k0_t7 => k0_hw4.2.2.2.2.2.2.2.2.2.2.2.2.2.2.2.2.2.2.2.2.2.2.1 k0_t7 (k0_off82_inb v1_1 k0_hw4 k0_t7)
theorem k0_off84_inb : ∀ (v1_1 : BitVec 32) (k0_hw4 : k0_chk4 v1_1) (k0_t7 : Fin (k0_t7_loop v1_1).trips), ∀ (k0_h6 : k0_cond6 v1_1 k0_t7 = 1#1), ∀ a, (k0_off84 v1_1 k0_t7) a + S1x1.size a ≤ S40x8.size a := fun v1_1 k0_hw4 k0_t7 k0_h6 => k0_hw4.2.2.2.2.2.2.2.2.2.2.2.2.2.2.2.2.2.2.2.2.2.2.2.1 k0_t7 k0_h6
theorem k0_off85_inb : ∀ (v1_1 : BitVec 32) (k0_hw4 : k0_chk4 v1_1) (k0_t7 : Fin (k0_t7_loop v1_1).trips), ∀ (k0_h6 : k0_cond6 v1_1 k0_t7 = 1#1), ∀ a, (k0_off85 v1_1 k0_t7) a + S1.size a ≤ S2.size a := fun v1_1 k0_hw4 k0_t7 k0_h6 => k0_hw4.2.2.2.2.2.2.2.2.2.2.2.2.2.2.2.2.2.2.2.2.2.2.2.2.1 k0_t7 k0_h6
theorem k0_off86_inb : ∀ (v1_1 : BitVec 32) (k0_hw4 : k0_chk4 v1_1) (k0_t7 : Fin (k0_t7_loop v1_1).trips), ∀ (k0_h6 : k0_cond6 v1_1 k0_t7 = 1#1), ∀ a, (k0_off86 v1_1 k0_t7) a + S1x256x2816.size a ≤ S2x256x2816.size a := fun v1_1 k0_hw4 k0_t7 k0_h6 => k0_hw4.2.2.2.2.2.2.2.2.2.2.2.2.2.2.2.2.2.2.2.2.2.2.2.2.2.1 k0_t7 k0_h6
theorem k0_off86_wordsbf16 : ∀ (v1_1 : BitVec 32) (k0_hw4 : k0_chk4 v1_1) (k0_t7 : Fin (k0_t7_loop v1_1).trips), ∀ (k0_h6 : k0_cond6 v1_1 k0_t7 = 1#1), (Rect.unit (s := S2x256x2816) (k0_off86 v1_1 k0_t7) S1x256x2816.size (k0_off86_inb v1_1 k0_hw4 k0_t7 k0_h6)).WholeWords (EltTy.packing .bf16) := fun v1_1 k0_hw4 k0_t7 k0_h6 => k0_hw4.2.2.2.2.2.2.2.2.2.2.2.2.2.2.2.2.2.2.2.2.2.2.2.2.2.2.1 k0_t7 k0_h6 (k0_off86_inb v1_1 k0_hw4 k0_t7 k0_h6)
theorem k0_off88_inb : ∀ (v1_1 : BitVec 32) (k0_hw4 : k0_chk4 v1_1) (k0_t7 : Fin (k0_t7_loop v1_1).trips), ∀ a, (k0_off88 v1_1 k0_t7) a + S1x256x2816.size a ≤ S2x256x2816.size a := fun v1_1 k0_hw4 k0_t7 => k0_hw4.2.2.2.2.2.2.2.2.2.2.2.2.2.2.2.2.2.2.2.2.2.2.2.2.2.2.2 k0_t7

def k0_off89 (v31 : BitVec 32) : Fin 3 → Nat :=
  let v58 : Index := Scalar.indexCast v31
  let c0_40 : Index := 0#32
  let c0_41 : Index := 0#32
  ![v58.toNat, 0, 0]

def k0_off90 (v31 : BitVec 32) : Fin 3 → Nat :=
  let v61 : Index := Scalar.indexCast v31
  let c0_42 : Index := 0#32
  let c0_43 : Index := 0#32
  ![v61.toNat, 0, 0]
def k0_off91 (v31 : BitVec 32) : Fin 3 → Nat :=
  let v187 : Index := Scalar.indexCast v31
  let c0_44 : Index := 0#32
  let c1024 : Index := 1024#32
  ![v187.toNat, 0, 1024]
def k0_off92 (v31 : BitVec 32) : Fin 3 → Nat :=
  let v190 : Index := Scalar.indexCast v31
  let c0_45 : Index := 0#32
  let c1024_46 : Index := 1024#32
  ![v190.toNat, 0, 1024]
def k0_off93 (v31 : BitVec 32) : Fin 3 → Nat :=
  let v328 : Index := Scalar.indexCast v31
  let c0_55 : Index := 0#32
  let c256 : Index := 256#32
  ![v328.toNat, 0, 256]
def k0_off94 (v31 : BitVec 32) : Fin 3 → Nat :=
  let v331 : Index := Scalar.indexCast v31
  let c0_56 : Index := 0#32
  let c256_57 : Index := 256#32
  ![v331.toNat, 0, 256]
def k0_off95 (v31 : BitVec 32) : Fin 3 → Nat :=
  let v457 : Index := Scalar.indexCast v31
  let c0_61 : Index := 0#32
  let c1280 : Index := 1280#32
  ![v457.toNat, 0, 1280]
def k0_off96 (v31 : BitVec 32) : Fin 3 → Nat :=
  let v460 : Index := Scalar.indexCast v31
  let c0_62 : Index := 0#32
  let c1280_63 : Index := 1280#32
  ![v460.toNat, 0, 1280]
def k0_off97 (v31 : BitVec 32) : Fin 3 → Nat :=
  let v598 : Index := Scalar.indexCast v31
  let c0_72 : Index := 0#32
  let c512 : Index := 512#32
  ![v598.toNat, 0, 512]
def k0_off98 (v31 : BitVec 32) : Fin 3 → Nat :=
  let v601 : Index := Scalar.indexCast v31
  let c0_73 : Index := 0#32
  let c512_74 : Index := 512#32
  ![v601.toNat, 0, 512]
def k0_off99 (v31 : BitVec 32) : Fin 3 → Nat :=
  let v727 : Index := Scalar.indexCast v31
  let c0_78 : Index := 0#32
  let c1536 : Index := 1536#32
  ![v727.toNat, 0, 1536]
def k0_off100 (v31 : BitVec 32) : Fin 3 → Nat :=
  let v730 : Index := Scalar.indexCast v31
  let c0_79 : Index := 0#32
  let c1536_80 : Index := 1536#32
  ![v730.toNat, 0, 1536]
def k0_off101 (v31 : BitVec 32) : Fin 3 → Nat :=
  let v868 : Index := Scalar.indexCast v31
  let c0_89 : Index := 0#32
  let c768 : Index := 768#32
  ![v868.toNat, 0, 768]
def k0_off102 (v31 : BitVec 32) : Fin 3 → Nat :=
  let v871 : Index := Scalar.indexCast v31
  let c0_90 : Index := 0#32
  let c768_91 : Index := 768#32
  ![v871.toNat, 0, 768]
def k0_off103 (v31 : BitVec 32) : Fin 3 → Nat :=
  let v997 : Index := Scalar.indexCast v31
  let c0_95 : Index := 0#32
  let c1792 : Index := 1792#32
  ![v997.toNat, 0, 1792]
def k0_off104 (v31 : BitVec 32) : Fin 3 → Nat :=
  let v1000 : Index := Scalar.indexCast v31
  let c0_96 : Index := 0#32
  let c1792_97 : Index := 1792#32
  ![v1000.toNat, 0, 1792]

def k0_chk18 (v31 : BitVec 32) : Prop :=
  (∀ a, (k0_off89 v31) a + S1x1408x256.size a ≤ S2x1408x2048.size a) ∧
  (∀ a, (k0_off90 v31) a + S1x22x256.size a ≤ S2x22x2048.size a) ∧
  (∀ a, (k0_off91 v31) a + S1x1408x256.size a ≤ S2x1408x2048.size a) ∧
  (∀ a, (k0_off92 v31) a + S1x22x256.size a ≤ S2x22x2048.size a) ∧
  (∀ a, (k0_off93 v31) a + S1x1408x256.size a ≤ S2x1408x2048.size a) ∧
  (∀ a, (k0_off94 v31) a + S1x22x256.size a ≤ S2x22x2048.size a) ∧
  (∀ a, (k0_off95 v31) a + S1x1408x256.size a ≤ S2x1408x2048.size a) ∧
  (∀ a, (k0_off96 v31) a + S1x22x256.size a ≤ S2x22x2048.size a) ∧
  (∀ a, (k0_off97 v31) a + S1x1408x256.size a ≤ S2x1408x2048.size a) ∧
  (∀ a, (k0_off98 v31) a + S1x22x256.size a ≤ S2x22x2048.size a) ∧
  (∀ a, (k0_off99 v31) a + S1x1408x256.size a ≤ S2x1408x2048.size a) ∧
  (∀ a, (k0_off100 v31) a + S1x22x256.size a ≤ S2x22x2048.size a) ∧
  (∀ a, (k0_off101 v31) a + S1x1408x256.size a ≤ S2x1408x2048.size a) ∧
  (∀ a, (k0_off102 v31) a + S1x22x256.size a ≤ S2x22x2048.size a) ∧
  (∀ a, (k0_off103 v31) a + S1x1408x256.size a ≤ S2x1408x2048.size a) ∧
  (∀ a, (k0_off104 v31) a + S1x22x256.size a ≤ S2x22x2048.size a)
theorem k0_off89_inb : ∀ (v31 : BitVec 32) (k0_hw18 : k0_chk18 v31), ∀ a, (k0_off89 v31) a + S1x1408x256.size a ≤ S2x1408x2048.size a := fun v31 k0_hw18 => k0_hw18.1
theorem k0_off90_inb : ∀ (v31 : BitVec 32) (k0_hw18 : k0_chk18 v31), ∀ a, (k0_off90 v31) a + S1x22x256.size a ≤ S2x22x2048.size a := fun v31 k0_hw18 => k0_hw18.2.1
theorem k0_off91_inb : ∀ (v31 : BitVec 32) (k0_hw18 : k0_chk18 v31), ∀ a, (k0_off91 v31) a + S1x1408x256.size a ≤ S2x1408x2048.size a := fun v31 k0_hw18 => k0_hw18.2.2.1
theorem k0_off92_inb : ∀ (v31 : BitVec 32) (k0_hw18 : k0_chk18 v31), ∀ a, (k0_off92 v31) a + S1x22x256.size a ≤ S2x22x2048.size a := fun v31 k0_hw18 => k0_hw18.2.2.2.1
theorem k0_off93_inb : ∀ (v31 : BitVec 32) (k0_hw18 : k0_chk18 v31), ∀ a, (k0_off93 v31) a + S1x1408x256.size a ≤ S2x1408x2048.size a := fun v31 k0_hw18 => k0_hw18.2.2.2.2.1
theorem k0_off94_inb : ∀ (v31 : BitVec 32) (k0_hw18 : k0_chk18 v31), ∀ a, (k0_off94 v31) a + S1x22x256.size a ≤ S2x22x2048.size a := fun v31 k0_hw18 => k0_hw18.2.2.2.2.2.1
theorem k0_off95_inb : ∀ (v31 : BitVec 32) (k0_hw18 : k0_chk18 v31), ∀ a, (k0_off95 v31) a + S1x1408x256.size a ≤ S2x1408x2048.size a := fun v31 k0_hw18 => k0_hw18.2.2.2.2.2.2.1
theorem k0_off96_inb : ∀ (v31 : BitVec 32) (k0_hw18 : k0_chk18 v31), ∀ a, (k0_off96 v31) a + S1x22x256.size a ≤ S2x22x2048.size a := fun v31 k0_hw18 => k0_hw18.2.2.2.2.2.2.2.1
theorem k0_off97_inb : ∀ (v31 : BitVec 32) (k0_hw18 : k0_chk18 v31), ∀ a, (k0_off97 v31) a + S1x1408x256.size a ≤ S2x1408x2048.size a := fun v31 k0_hw18 => k0_hw18.2.2.2.2.2.2.2.2.1
theorem k0_off98_inb : ∀ (v31 : BitVec 32) (k0_hw18 : k0_chk18 v31), ∀ a, (k0_off98 v31) a + S1x22x256.size a ≤ S2x22x2048.size a := fun v31 k0_hw18 => k0_hw18.2.2.2.2.2.2.2.2.2.1
theorem k0_off99_inb : ∀ (v31 : BitVec 32) (k0_hw18 : k0_chk18 v31), ∀ a, (k0_off99 v31) a + S1x1408x256.size a ≤ S2x1408x2048.size a := fun v31 k0_hw18 => k0_hw18.2.2.2.2.2.2.2.2.2.2.1
theorem k0_off100_inb : ∀ (v31 : BitVec 32) (k0_hw18 : k0_chk18 v31), ∀ a, (k0_off100 v31) a + S1x22x256.size a ≤ S2x22x2048.size a := fun v31 k0_hw18 => k0_hw18.2.2.2.2.2.2.2.2.2.2.2.1
theorem k0_off101_inb : ∀ (v31 : BitVec 32) (k0_hw18 : k0_chk18 v31), ∀ a, (k0_off101 v31) a + S1x1408x256.size a ≤ S2x1408x2048.size a := fun v31 k0_hw18 => k0_hw18.2.2.2.2.2.2.2.2.2.2.2.2.1
theorem k0_off102_inb : ∀ (v31 : BitVec 32) (k0_hw18 : k0_chk18 v31), ∀ a, (k0_off102 v31) a + S1x22x256.size a ≤ S2x22x2048.size a := fun v31 k0_hw18 => k0_hw18.2.2.2.2.2.2.2.2.2.2.2.2.2.1
theorem k0_off103_inb : ∀ (v31 : BitVec 32) (k0_hw18 : k0_chk18 v31), ∀ a, (k0_off103 v31) a + S1x1408x256.size a ≤ S2x1408x2048.size a := fun v31 k0_hw18 => k0_hw18.2.2.2.2.2.2.2.2.2.2.2.2.2.2.1
theorem k0_off104_inb : ∀ (v31 : BitVec 32) (k0_hw18 : k0_chk18 v31), ∀ a, (k0_off104 v31) a + S1x22x256.size a ≤ S2x22x2048.size a := fun v31 k0_hw18 => k0_hw18.2.2.2.2.2.2.2.2.2.2.2.2.2.2.2

def k0_off105 (v33 : BitVec 32) : Fin 2 → Nat :=
  let v34 : BitVec 32 := v33
  let v1241 : Index := Scalar.indexCast v34
  let c0_135 : Index := 0#32
  ![v1241.toNat, 0]
def k0_off106 (v33 : BitVec 32) : Fin 2 → Nat :=
  let v34 : BitVec 32 := v33
  let v1251 : Index := Scalar.indexCast v34
  let c0_137 : Index := 0#32
  ![v1251.toNat, 0]

def k0_chk12 (v33 : BitVec 32) : Prop :=
  (32 ∣ (k0_mult5 v33).toNat) ∧
  (∀ a, (k0_off105 v33) a + S256x1024.size a ≤ S6144x1024.size a) ∧
  (∀ (hinb : ∀ a, (k0_off105 v33) a + S256x1024.size a ≤ S6144x1024.size a), (Rect.unit (s := S6144x1024) (k0_off105 v33) S256x1024.size hinb).PackedRows (EltTy.packing .fp8e4m3)) ∧
  (∀ a, (k0_off106 v33) a + S256x1.size a ≤ S6144x1.size a)
theorem k0_mult5_dvd : ∀ (v33 : BitVec 32) (k0_hw12 : k0_chk12 v33), 32 ∣ (k0_mult5 v33).toNat := fun v33 k0_hw12 => k0_hw12.1
theorem k0_off105_inb : ∀ (v33 : BitVec 32) (k0_hw12 : k0_chk12 v33), ∀ a, (k0_off105 v33) a + S256x1024.size a ≤ S6144x1024.size a := fun v33 k0_hw12 => k0_hw12.2.1
theorem k0_off105_packedfp8e4m3 : ∀ (v33 : BitVec 32) (k0_hw12 : k0_chk12 v33), (Rect.unit (s := S6144x1024) (k0_off105 v33) S256x1024.size (k0_off105_inb v33 k0_hw12)).PackedRows (EltTy.packing .fp8e4m3) := fun v33 k0_hw12 => k0_hw12.2.2.1 (k0_off105_inb v33 k0_hw12)
theorem k0_off106_inb : ∀ (v33 : BitVec 32) (k0_hw12 : k0_chk12 v33), ∀ a, (k0_off106 v33) a + S256x1.size a ≤ S6144x1.size a := fun v33 k0_hw12 => k0_hw12.2.2.2

abbrev stage0_0 : Fin 1 → Memref sig .tc .smem S8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S6144x2816 : Shape := ⟨2, ![6144, 2816]⟩
abbrev S8 : Shape := ⟨1, ![8]⟩
abbrev S8x1408x2048 : Shape := ⟨3, ![8, 1408, 2048]⟩
abbrev S8x22x2048 : Shape := ⟨3, ![8, 22, 2048]⟩
abbrev S6144x1024 : Shape := ⟨2, ![6144, 1024]⟩
abbrev S6144x1 : Shape := ⟨2, ![6144, 1]⟩
abbrev S6144x2048 : Shape := ⟨2, ![6144, 2048]⟩
abbrev S1 : Shape := ⟨1, ![1]⟩
abbrev S1x1408x2048 : Shape := ⟨3, ![1, 1408, 2048]⟩
abbrev S1408x2048 : Shape := ⟨2, ![1408, 2048]⟩
abbrev S1408x1x2048 : Shape := ⟨3, ![1408, 1, 2048]⟩
abbrev S1408x2x2048 : Shape := ⟨3, ![1408, 2, 2048]⟩
abbrev S2816x2048 : Shape := ⟨2, ![2816, 2048]⟩
abbrev S1x22x2048 : Shape := ⟨3, ![1, 22, 2048]⟩
abbrev S22x2048 : Shape := ⟨2, ![22, 2048]⟩
abbrev S22x1x2048 : Shape := ⟨3, ![22, 1, 2048]⟩
abbrev S22x128x2048 : Shape := ⟨3, ![22, 128, 2048]⟩
abbrev S6144 : Shape := ⟨1, ![6144]⟩
abbrev S1x256 : Shape := ⟨2, ![1, 256]⟩
abbrev S6144x256 : Shape := ⟨2, ![6144, 256]⟩

abbrev nBuf : Space → Nat
  | .hbm => 6
  | .vmem => 5
  | .smem => 1
  | _ => 0

abbrev bufTy : (tb : Table) → Fin (tcTables nBuf tb) → BufTy
  | .hbm, ⟨0, _⟩ => ⟨S6144x2816, .bf16⟩
  | .hbm, ⟨1, _⟩ => ⟨S8, .i32⟩
  | .hbm, ⟨2, _⟩ => ⟨S8x1408x2048, .i8⟩
  | .hbm, ⟨3, _⟩ => ⟨S8x22x2048, .bf16⟩
  | .hbm, ⟨4, _⟩ => ⟨S6144x1024, .fp8e4m3⟩
  | .hbm, ⟨5, _⟩ => ⟨S6144x1, .f32⟩
  | .local _ .vmem, ⟨0, _⟩ => ⟨S6144x2816, .bf16⟩
  | .local _ .vmem, ⟨1, _⟩ => ⟨S8x1408x2048, .i8⟩
  | .local _ .vmem, ⟨2, _⟩ => ⟨S8x22x2048, .bf16⟩
  | .local _ .vmem, ⟨3, _⟩ => ⟨S6144x1024, .fp8e4m3⟩
  | .local _ .vmem, ⟨4, _⟩ => ⟨S6144x1, .f32⟩
  | .local _ .smem, ⟨0, _⟩ => ⟨S8, .i32⟩
  | _, _ => ⟨S6144x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6144x2816 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S8 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1408x2048 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x22x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KDefs.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Tactic.Stretches
public import Idealize.ShloMosaic.Lib.Pointwise.Reduce

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The user algebra: the pipeline library's beside the transfers' counters. -/
local notation "𝕄" => MT nD τ sig Unit (Elt F) ℕ (Pipeline.UD sig nD τ) ℕ

/-! ## The operands the body addresses itself -/

abbrev MX : Memref sig .tc .hbm S6144x2816 .bf16 := Memref.whole main_arg0
abbrev MW : Memref sig .tc .hbm S8x1408x2048 .i8 := Memref.whole main_arg2
abbrev MS : Memref sig .tc .hbm S8x22x2048 .bf16 := Memref.whole main_arg3
abbrev M6 : Memref sig .tc .vmem S2x256x2816 .bf16 := Memref.whole cc0_scratch0
abbrev M7 : Memref sig .tc .vmem S2x1408x2048 .i8 := Memref.whole cc0_scratch1
abbrev M8 : Memref sig .tc .vmem S2x22x2048 .bf16 := Memref.whole cc0_scratch2
abbrev M9 : Memref sig .tc .vmem S256x1024 .f32 := Memref.whole cc0_scratch3
abbrev M10 : Memref sig .tc .smem S40x8 .i32 := Memref.whole cc0_scratch4

theorem inb6 (n : Fin 2) : ∀ a, (![n.val, 0, 0] : Fin 3 → Nat) a + S1x256x2816.size a ≤ S2x256x2816.size a := by
  have := n.isLt; intro a; fin_cases a
  · show n.val + 1 ≤ 2; omega
  · show 0 + 256 ≤ 256; omega
  · show 0 + 2816 ≤ 2816; omega
theorem inb7 (n : Fin 2) : ∀ a, (![n.val, 0, 0] : Fin 3 → Nat) a + S1x1408x2048.size a ≤ S2x1408x2048.size a := by
  have := n.isLt; intro a; fin_cases a
  · show n.val + 1 ≤ 2; omega
  · show 0 + 1408 ≤ 1408; omega
  · show 0 + 2048 ≤ 2048; omega
theorem inb8 (n : Fin 2) : ∀ a, (![n.val, 0, 0] : Fin 3 → Nat) a + S1x22x2048.size a ≤ S2x22x2048.size a := by
  have := n.isLt; intro a; fin_cases a
  · show n.val + 1 ≤ 2; omega
  · show 0 + 22 ≤ 22; omega
  · show 0 + 2048 ≤ 2048; omega
theorem inbSem (n : Fin 2) : ∀ a, (![n.val] : Fin 1 → Nat) a + S1.size a ≤ S2.size a := by
  have := n.isLt; intro a; fin_cases a
  show n.val + 1 ≤ 2; omega
theorem inbX (b : ℕ) (h : b + 256 ≤ 6144) : ∀ a, (![b, 0] : Fin 2 → Nat) a + S256x2816.size a ≤ S6144x2816.size a := by
  intro a; fin_cases a
  · exact h
  · show 0 + 2816 ≤ 2816; omega
theorem inbW (n : Fin 8) : ∀ a, (![n.val, 0, 0] : Fin 3 → Nat) a + S1x1408x2048.size a ≤ S8x1408x2048.size a := by
  have := n.isLt; intro a; fin_cases a
  · show n.val + 1 ≤ 8; omega
  · show 0 + 1408 ≤ 1408; omega
  · show 0 + 2048 ≤ 2048; omega
theorem inbS (n : Fin 8) : ∀ a, (![n.val, 0, 0] : Fin 3 → Nat) a + S1x22x2048.size a ≤ S8x22x2048.size a := by
  have := n.isLt; intro a; fin_cases a
  · show n.val + 1 ≤ 8; omega
  · show 0 + 22 ≤ 22; omega
  · show 0 + 2048 ≤ 2048; omega

/-- Slot `n` of the rows' buffer, of the packed weights' and of the scales'. -/
abbrev slot6 (n : Fin 2) : Memref sig .tc .vmem S256x2816 .bf16 :=
  (M6.slice (Rect.unit (s := S2x256x2816) ![n.val, 0, 0] S1x256x2816.size (inb6 n)) (fun _ => rfl)).squeeze S256x2816 squeezes_S1x256x2816_S256x2816
abbrev slot7 (n : Fin 2) : Memref sig .tc .vmem S1408x2048 .i8 :=
  (M7.slice (Rect.unit (s := S2x1408x2048) ![n.val, 0, 0] S1x1408x2048.size (inb7 n)) (fun _ => rfl)).squeeze S1408x2048 squeezes_S1x1408x2048_S1408x2048
abbrev slot8 (n : Fin 2) : Memref sig .tc .vmem S22x2048 .bf16 :=
  (M8.slice (Rect.unit (s := S2x22x2048) ![n.val, 0, 0] S1x22x2048.size (inb8 n)) (fun _ => rfl)).squeeze S22x2048 squeezes_S1x22x2048_S22x2048
/-- The semaphore cells. -/
abbrev cell6 (n : Fin 2) : SemLoc sig :=
  SemLoc.dma ((cc0_scratch5.slice (Rect.unit (s := S2) ![n.val] S1.size (inbSem n))).squeeze S_ squeezes_S1_S_).sem
abbrev cell7 (n : Fin 2) : SemLoc sig :=
  SemLoc.dma ((cc0_scratch6.slice (Rect.unit (s := S2) ![n.val] S1.size (inbSem n))).squeeze S_ squeezes_S1_S_).sem
abbrev cell8 (n : Fin 2) : SemLoc sig :=
  SemLoc.dma ((cc0_scratch7.slice (Rect.unit (s := S2) ![n.val] S1.size (inbSem n))).squeeze S_ squeezes_S1_S_).sem
/-- The 256 rows from `b` on; expert `e`'s packed weights; its scales. -/
abbrev rowsX (b : ℕ) (h : b + 256 ≤ 6144) : Memref sig .tc .hbm S256x2816 .bf16 :=
  MX.slice (Rect.unit (s := S6144x2816) ![b, 0] S256x2816.size (inbX b h)) (fun _ => rfl)
abbrev wE (e : Fin 8) : Memref sig .tc .hbm S1408x2048 .i8 :=
  (MW.slice (Rect.unit (s := S8x1408x2048) ![e.val, 0, 0] S1x1408x2048.size (inbW e)) (fun _ => rfl)).squeeze S1408x2048 squeezes_S1x1408x2048_S1408x2048
abbrev sE (e : Fin 8) : Memref sig .tc .hbm S22x2048 .bf16 :=
  (MS.slice (Rect.unit (s := S8x22x2048) ![e.val, 0, 0] S1x22x2048.size (inbS e)) (fun _ => rfl)).squeeze S22x2048 squeezes_S1x22x2048_S22x2048

abbrev BufOf (c : Dev nD) {sp : Space} {S : Shape} {e : EltTy} (M : Memref sig .tc sp S e) : Type := Buf (Elt F) (M.view.loc (c : Thread nD τ))
/-- A memref's own elements held at contents `f`. -/
abbrev own (c : Dev nD) {sp : Space} {S : Shape} {e : EltTy} (M : Memref sig .tc sp S e) (f : BufOf (F := F) c M) : sProp 𝕄 :=
  M.view.loc (c : Thread nD τ) ↦[M.view.set]{fullShare} f
/-- A whole buffer held at contents `f`. -/
abbrev held (c : Dev nD) {sp : Space} {S : Shape} {e : EltTy} (M : Memref sig .tc sp S e) (f : BufOf (F := F) c M) : sProp 𝕄 :=
  M.view.loc (c : Thread nD τ) ↦[Finset.univ]{fullShare} f

/-- What a copy of `src`'s elements of `fs` leaves in `dst` over `g`. -/
abbrev landed (c : Dev nD) {sp sp' : Space} {S : Shape} {e : EltTy} (dst : Memref sig .tc sp S e) (src : Memref sig .tc sp' S e)
    (fs : BufOf (F := F) c src) (g : BufOf (F := F) c dst) : BufOf (F := F) c dst :=
  dst.view.writes (Elt F) g [⟨Rect.whole S, ReadAs.same.apply (src.view.read (Elt F) fs)⟩]

/-- A copy of `src` into `dst` in flight on `cell`, the array's other elements beside it. -/
abbrev flying (c : Dev nD) {sp sp' : Space} {S : Shape} {e : EltTy} (cell : SemLoc sig) (dst : Memref sig .tc sp S e) (src : Memref sig .tc sp' S e)
    (fs : BufOf (F := F) c src) : sProp 𝕄 :=
  iprop((∃ g : BufOf (F := F) c dst, Transfers.Flight (countersEmb (U := Pipeline.UD sig nD τ)) (c : Thread nD τ) cell () dst.view.dmaCredit
      iprop((dst.view.loc (c : Thread nD τ) ↦[dst.view.set]{fullShare} landed c dst src fs g)
        ∗ (src.view.loc (c : Thread nD τ) ↦[src.view.set]{fullShare} fs)))
    ∗ (src.view.loc (c : Thread nD τ) ↦[Finset.univ \ src.view.set]{fullShare} fs))
/-- A slot nobody uses: its cell at zero, its elements at anything. -/
abbrev idle (c : Dev nD) {sp : Space} {S : Shape} {e : EltTy} (cell : SemLoc sig) (dst : Memref sig .tc sp S e) : sProp 𝕄 :=
  iprop(semVal ((c : Thread nD τ), cell) 0 ∗ ∃ g : BufOf (F := F) c dst, own c dst g)
/-- A slot filled with `src`. -/
abbrev filled (c : Dev nD) {sp sp' : Space} {S : Shape} {e : EltTy} (cell : SemLoc sig) (dst : Memref sig .tc sp S e) (src : Memref sig .tc sp' S e)
    (fs : BufOf (F := F) c src) : sProp 𝕄 :=
  iprop(semVal ((c : Thread nD τ), cell) 0 ∗ ∃ g : BufOf (F := F) c dst, own c dst (landed c dst src fs g))

/-- The word of the table at row `r`, column `j`. -/
def tw (c : Dev nD) (T : BufOf (F := F) c M10) (r : Fin 40) (j : Fin 8) : BitVec 32 :=
  M10.view.read (Elt F) T (ix2 r j)

theorem tw_of_load (c : Dev nD) (T : BufOf (F := F) c M10) (off : Fin 2 → ℕ) (h : ∀ a, off a + S1x1.size a ≤ S40x8.size a) (hp) (r : Fin 40) (j : Fin 8)
    (he : off = ![r.val, j.val]) :
    View.readAt (Elt F) M10.view (Rect.unit (s := S40x8) off S1x1.size h).toLoadRect T (Shape.Idx.first hp) = tw c T r j := by
  subst he
  rw [View.readAt_apply]
  refine congrArg (M10.view.read (Elt F) T) ?_
  funext a; apply Fin.ext; fin_cases a
  · show r.val + 1 * 0 = r.val; omega
  · show j.val + 1 * 0 = j.val; omega

end Cert.Kernel.Hand

end
-- ==== Proof.KWords.lean ====
module

public import proofs.«01_k».proof.Proof.KDefs

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The trip's words -/

theorem trips6 (n : BitVec 32) (hn : n.toNat ≤ 40) : (k0_t6_loop n).trips = n.toNat := by
  have h : n = BitVec.ofNat 32 n.toNat := by simp
  generalize n.toNat = N at *
  subst h
  interval_cases N <;> decide
theorem ok6 (n : BitVec 32) (hn : n.toNat ≤ 40) : (k0_t6_loop n).OK := by
  have h : n = BitVec.ofNat 32 n.toNat := by simp
  generalize n.toNat = N at *
  subst h
  interval_cases N <;> decide
theorem ok7 (n : BitVec 32) (hn : n.toNat ≤ 40) : (k0_t7_loop n).OK := by
  have h : n = BitVec.ofNat 32 n.toNat := by simp
  generalize n.toNat = N at *
  subst h
  interval_cases N <;> decide
theorem trips7 (n : BitVec 32) (hn : n.toNat ≤ 40) : (k0_t7_loop n).trips = 0 := by
  have h : n = BitVec.ofNat 32 n.toNat := by simp
  generalize n.toNat = N at *
  subst h
  interval_cases N <;> decide
/-- The trip's number as the program's word. -/
theorem iv_eq (k : ℕ) (hk : k < 40) : Scf.iv 0#32 1#32 k = BitVec.ofNat 32 k := by
  interval_cases k <;> decide
theorem iv_toNat (k : ℕ) (hk : k < 40) : (Scf.iv 0#32 1#32 k).toNat = k := by
  interval_cases k <;> decide
/-- The rows' slot of trip `k`, and the other one. -/
theorem x0_toNat (k : ℕ) (hk : k < 40) : (Scalar.andi (Scf.iv 0#32 1#32 k) 1#32).toNat = k % 2 := by
  interval_cases k <;> decide
theorem x1_toNat (k : ℕ) (hk : k < 40) : (Scalar.subi 1#32 (Scalar.andi (Scf.iv 0#32 1#32 k) 1#32)).toNat = 1 - k % 2 := by
  interval_cases k <;> decide
theorem nx_toNat (k : ℕ) (hk : k < 40) : (Scalar.addi (Scf.iv 0#32 1#32 k) 1#32).toNat = k + 1 := by
  interval_cases k <;> decide
theorem cond3_iff (n : BitVec 32) (hn : n.toNat ≤ 40) (k : Fin (k0_t6_loop n).trips) : k0_cond3 n k = 1#1 ↔ k.val + 1 < n.toNat := by
  have hk : k.val < n.toNat := lt_of_lt_of_eq k.isLt (trips6 n hn)
  obtain ⟨k, hk'⟩ := k
  have key : ∀ N : ℕ, N ≤ 40 → ∀ j : ℕ, j < 40 → (Scalar.cmpi .ne (Scalar.extui (Scalar.cmpi .slt (Scalar.addi (Scf.iv 0#32 1#32 j) 1#32) (BitVec.ofNat 32 N)) : BitVec 32) 0#32 = 1#1 ↔ j + 1 < N) := by
    intro N hN j hj
    have h1 : Scalar.addi (Scf.iv 0#32 1#32 j) 1#32 = BitVec.ofNat 32 (j + 1) := by
      apply BitVec.eq_of_toNat_eq; rw [nx_toNat j hj, BitVec.toNat_ofNat]; omega
    rw [h1]
    have h2 : (BitVec.ofNat 32 (j + 1)).toInt = j + 1 := by
      rw [BitVec.toInt_eq_toNat_of_lt (by rw [BitVec.toNat_ofNat]; omega), BitVec.toNat_ofNat]; omega
    have h3 : (BitVec.ofNat 32 N).toInt = N := by
      rw [BitVec.toInt_eq_toNat_of_lt (by rw [BitVec.toNat_ofNat]; omega), BitVec.toNat_ofNat]; omega
    have h4 : Scalar.cmpi .slt (BitVec.ofNat 32 (j + 1)) (BitVec.ofNat 32 N) = BitVec.ofBool (decide (j + 1 < N)) := by
      show BitVec.ofBool (BitVec.slt _ _) = _
      congr 1
      rw [BitVec.slt_eq_decide, h2, h3]
      exact decide_eq_decide.mpr (by omega)
    rw [h4]
    by_cases h : j + 1 < N
    · simp only [h, decide_true, iff_true]; decide
    · simp only [h, decide_false, iff_false]; decide
  have h := key n.toNat hn k (by simp only at hk; omega)
  rw [show BitVec.ofNat 32 n.toNat = n by simp] at h
  exact h

theorem inbT (r j : ℕ) (hr : r < 40) (hj : j < 8) : ∀ a, (![r, j] : Fin 2 → ℕ) a + S1x1.size a ≤ S40x8.size a := by
  intro a; fin_cases a
  · show r + 1 ≤ 40; omega
  · show j + 1 ≤ 8; omega

theorem chk11 (w : BitVec 32) (h : w.toNat < 2) : k0_chk11 w := by
  have h' : w = BitVec.ofNat 32 w.toNat := by simp
  generalize w.toNat = N at *
  subst h'
  interval_cases N <;> decide
theorem chk5 (w : BitVec 32) (h : w.toNat + 256 ≤ 6144) (hd : 32 ∣ w.toNat) : k0_chk5 w := by
  refine ⟨hd, ?_, ?_, ?_⟩
  · intro a; fin_cases a
    · exact h
    · show 0 + 1024 ≤ 1024; omega
  · intro hinb
    refine .inr ⟨(by decide : 2 ≤ 2), rfl, .inl ⟨?_, ?_⟩⟩
    rotate_left
    · exact (show 4 ∣ 256 by decide)
    exact Dvd.dvd.trans (by decide) hd
  · intro a; fin_cases a
    · exact h
    · show 0 + 1 ≤ 1; omega
theorem rows_words (w : BitVec 32) (hd : 32 ∣ w.toNat) (off : Fin 2 → ℕ) (ho : off = ![w.toNat, 0]) (hinb) :
    (Rect.unit (s := S6144x2816) off S256x2816.size hinb).WholeWords (EltTy.packing .bf16) := by
  subst ho
  refine .inl (.inr ⟨(by decide : 2 ≤ 2), rfl, .inl ⟨?_, ?_⟩⟩)
  rotate_left
  · exact (show 2 ∣ 256 by decide)
  exact Dvd.dvd.trans (by decide) hd
theorem chk9 (w : BitVec 32) (h : w.toNat + 256 ≤ 6144) (hd : 32 ∣ w.toNat) : k0_chk9 w :=
  ⟨hd, inbX _ h, rows_words w hd _ rfl⟩
theorem chk2 (w : BitVec 32) (h : w.toNat + 256 ≤ 6144) (hd : 32 ∣ w.toNat) : k0_chk2 w :=
  ⟨hd, inbX _ h, rows_words w hd _ rfl⟩
theorem chk10 (n : BitVec 32) (k) (w : BitVec 32) (h : w.toNat + 256 ≤ 6144) (hd : 32 ∣ w.toNat) : k0_chk10 n k w :=
  ⟨fun _ => hd, fun _ => inbX _ h, fun _ => rows_words w hd _ rfl⟩
theorem chk7 (v38 w : BitVec 32) (h : w.toNat < 8) : k0_chk7 v38 w := by
  have h' : w = BitVec.ofNat 32 w.toNat := by simp
  generalize w.toNat = N at *
  subst h'
  refine ⟨fun _ => ?_, fun _ => ?_, fun _ => ?_, fun _ => ?_⟩ <;> interval_cases N <;> decide
theorem chk3 (w : BitVec 32) (h : w.toNat < 8) : k0_chk3 w := by
  have h' : w = BitVec.ofNat 32 w.toNat := by simp
  generalize w.toNat = N at *
  subst h'
  interval_cases N <;> decide
theorem cond2_iff (w : BitVec 32) : k0_cond2 w = 1#1 ↔ 0 ≤ w.toInt := by
  have h4 : Scalar.cmpi .sge w 0#32 = BitVec.ofBool (decide (0 ≤ w.toInt)) := by
    show BitVec.ofBool (BitVec.sle _ _) = _
    congr 1
  unfold k0_cond2
  simp only [h4]
  by_cases h : 0 ≤ w.toInt
  · simp only [h, decide_true, iff_true]; decide
  · simp only [h, decide_false, iff_false]; decide
theorem chk8 (v31 v38 w : BitVec 32) (hs : v31.toNat < 2) (h : 0 ≤ w.toInt → w.toNat < 8) : k0_chk8 v31 v38 w := by
  by_cases hc : 0 ≤ w.toInt
  · have h := h hc
    have h' : w = BitVec.ofNat 32 w.toNat := by simp
    have h2' : v31 = BitVec.ofNat 32 v31.toNat := by simp
    generalize w.toNat = N at *
    generalize v31.toNat = M at *
    subst h'; subst h2'
    refine ⟨fun _ _ => ?_, fun _ _ => ?_, fun _ _ => ?_, fun _ _ => ?_, fun _ _ => ?_, fun _ _ => ?_, fun _ _ => ?_, fun _ _ => ?_, fun _ _ => ?_⟩ <;>
      interval_cases N <;> interval_cases M <;> decide
  · have hc' : ¬ k0_cond2 w = 1#1 := fun h => hc ((cond2_iff w).mp h)
    exact ⟨fun _ h => absurd h hc', fun _ h => absurd h hc', fun _ h => absurd h hc', fun _ h => absurd h hc', fun _ h => absurd h hc',
      fun _ h => absurd h hc', fun _ h => absurd h hc', fun _ h => absurd h hc', fun _ h => absurd h hc'⟩
theorem chk6 (n : BitVec 32) (hn : n.toNat ≤ 40) (k : Fin (k0_t6_loop n).trips) (v31 v38 : BitVec 32) (hs : v31.toNat < 2) : k0_chk6 n k v31 v38 := by
  have hk : k.val < 40 := by have := lt_of_lt_of_eq k.isLt (trips6 n hn); omega
  have h2' : v31 = BitVec.ofNat 32 v31.toNat := by simp
  generalize v31.toNat = M at *
  subst h2'
  refine ⟨fun _ => ?_, fun _ => ?_, fun _ => ?_, fun _ => ?_, fun _ => ?_, fun _ => ?_, fun _ => ?_, fun _ => ?_⟩
  · show ∀ a, (![(Scf.iv 0#32 1#32 k.val).toNat, 0] : Fin 2 → ℕ) a + _ ≤ _
    rw [iv_toNat _ hk]; exact inbT _ _ hk (by decide)
  iterate 6 (interval_cases M <;> decide)
  · show ∀ a, (![(Scf.iv 0#32 1#32 k.val).toNat, 5] : Fin 2 → ℕ) a + _ ≤ _
    rw [iv_toNat _ hk]; exact inbT _ _ hk (by decide)

end Cert.Kernel.Hand

end
-- ==== Proof.KCnt.lean ====
module

public import proofs.«01_k».proof.Proof.KWords
public import Idealize.ShloMosaic.Lib.WordArith

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.WordArith

/-! ## The number of blocks of one expert, as the program's word -/

/-- The first row of an expert, rounded down to the strip of 32 rows. -/
abbrev strip (a : BitVec 32) : BitVec 32 := Scalar.andi a 4294967264#32
/-- The last row of the expert plus 255, from the strip's first row on. -/
abbrev spanW (a v : BitVec 32) : BitVec 32 := Scalar.subi (Scalar.addi (Scalar.subi (Scalar.addi a v) (strip a)) 256#32) 1#32
/-- The floor division by 256 as the program writes it. -/
abbrev fdivW (x : BitVec 32) : BitVec 32 :=
  Scalar.select (Scalar.andi (Scalar.cmpi .ne (Scalar.subi (Scalar.extui (Scalar.cmpi .sgt x 0#32)) (Scalar.extui (Scalar.cmpi .slt x 0#32)))
      (Scalar.subi (Scalar.extui (Scalar.cmpi .sgt 256#32 0#32)) (Scalar.extui (Scalar.cmpi .slt 256#32 0#32))))
    (Scalar.cmpi .ne (Scalar.remsi x 256#32) 0#32)) (Scalar.subi (Scalar.divsi x 256#32) 1#32) (Scalar.divsi x 256#32)
/-- The number of blocks. -/
abbrev cntW (a v : BitVec 32) : BitVec 32 := Scalar.select (Scalar.cmpi .sgt v 0#32) (fdivW (spanW a v)) 0#32

theorem maskBit : ∀ j : Fin 32, (4294967264#32)[j.val] = decide (5 ≤ j.val) := by decide

theorem strip_toNat (a : BitVec 32) : (strip a).toNat = a.toNat / 32 * 32 := by
  have h : strip a = (a >>> 5) <<< 5 := by
    show a &&& 4294967264#32 = _
    apply BitVec.eq_of_getElem_eq
    intro i hi
    rw [BitVec.getElem_and, BitVec.getElem_shiftLeft]
    rw [maskBit ⟨i, hi⟩]
    by_cases h5 : i < 5
    · simp [h5]
    · have h5' : 5 ≤ i := by omega
      simp only [h5, h5', decide_true, decide_false, Bool.and_true, Bool.not_false, Bool.true_and]
      rw [BitVec.getElem_ushiftRight, BitVec.getLsbD_eq_getElem (by omega)]
      congr 1; omega
  have ha := a.isLt
  rw [h, BitVec.toNat_shiftLeft, BitVec.toNat_ushiftRight, Nat.shiftRight_eq_div_pow, Nat.shiftLeft_eq]
  show a.toNat / 32 * 32 % _ = _
  omega

theorem spanW_toNat (a v : BitVec 32) (h : a.toNat + v.toNat ≤ 6144) : (spanW a v).toNat = a.toNat + v.toNat - a.toNat / 32 * 32 + 255 := by
  show (((a + v) - strip a + 256#32) - 1#32).toNat = _
  have := strip_toNat a
  simp only [BitVec.toNat_sub, BitVec.toNat_add, this]
  show _ = _
  have : (256#32).toNat = 256 := rfl
  have : (1#32).toNat = 1 := rfl
  simp only [*]
  omega

theorem sdiv_ofNat (x d : ℕ) (hx : x < 2 ^ 31) (hd : d < 2 ^ 31) : (BitVec.ofNat 32 x).sdiv (BitVec.ofNat 32 d) = BitVec.ofNat 32 (x / d) := by
  have hm : ∀ y : ℕ, y < 2 ^ 31 → (BitVec.ofNat 32 y).msb = false := by
    intro y hy
    rw [BitVec.msb_eq_decide, BitVec.toNat_ofNat]; simp; omega
  rw [BitVec.sdiv_eq, hm x hx, hm d hd]
  apply BitVec.eq_of_toNat_eq
  show ((BitVec.ofNat 32 x).udiv (BitVec.ofNat 32 d)).toNat = _
  have : x / d ≤ x := Nat.div_le_self _ _
  rw [BitVec.udiv_eq, BitVec.toNat_udiv, BitVec.toNat_ofNat, BitVec.toNat_ofNat, BitVec.toNat_ofNat, Nat.mod_eq_of_lt (by omega), Nat.mod_eq_of_lt (by omega), Nat.mod_eq_of_lt (by omega)]

theorem fdivW_toNat (x : BitVec 32) (h0 : 0 < x.toNat) (h : x.toNat < 2 ^ 31) : (fdivW x).toNat = x.toNat / 256 := by
  have hi : x.toInt = x.toNat := by rw [BitVec.toInt_eq_toNat_cond]; omega
  have h1 : Scalar.cmpi .sgt x 0#32 = 1#1 := by
    show BitVec.ofBool (decide ((0#32).toInt < x.toInt)) = _
    have : (0#32).toInt = 0 := rfl
    rw [this, hi, decide_eq_true (by omega)]; rfl
  have h2 : Scalar.cmpi .slt x 0#32 = 0#1 := by
    show BitVec.ofBool (decide (x.toInt < (0#32).toInt)) = _
    have : (0#32).toInt = 0 := rfl
    rw [this, hi, decide_eq_false (by omega)]; rfl
  have h3 : ∀ z : BitVec 1, Scalar.andi (Scalar.cmpi .ne (Scalar.subi (Scalar.extui 1#1) (Scalar.extui 0#1))
      (Scalar.subi (Scalar.extui (Scalar.cmpi .sgt 256#32 0#32)) (Scalar.extui (Scalar.cmpi .slt 256#32 0#32)))) z = 0#1 := by decide
  unfold fdivW
  rw [h1, h2, h3]
  show (Scalar.divsi x 256#32).toNat = _
  have hc : ¬ IntOp.SDivCorner x 256#32 := by
    rintro (h | ⟨_, h⟩)
    · exact absurd h (by decide)
    · exact absurd h (by decide)
  show (if IntOp.SDivCorner x 256#32 then _ else x.sdiv 256#32).toNat = _
  rw [if_neg hc]
  have hx : x = BitVec.ofNat 32 x.toNat := by simp
  rw [hx]
  show ((BitVec.ofNat 32 x.toNat).sdiv (BitVec.ofNat 32 256)).toNat = _
  rw [sdiv_ofNat _ _ h (by decide), BitVec.toNat_ofNat]
  rw [← hx]
  omega

theorem cmp_pos (v : BitVec 32) (h : v.toNat < 2 ^ 31) : Scalar.cmpi .sgt v 0#32 = BitVec.ofBool (decide (0 < v.toNat)) := by
  show BitVec.ofBool (decide ((0#32).toInt < v.toInt)) = _
  have : (0#32).toInt = 0 := rfl
  have hi : v.toInt = v.toNat := by rw [BitVec.toInt_eq_toNat_cond]; omega
  rw [this, hi]; congr 2; exact propext (by omega)

/-- The number of blocks, as a number. -/
def cntN (a v : ℕ) : ℕ := if 0 < v then (a + v - a / 32 * 32 + 255) / 256 else 0

theorem cntW_toNat (a v : BitVec 32) (h : a.toNat + v.toNat ≤ 6144) : (cntW a v).toNat = cntN a.toNat v.toNat := by
  unfold cntW cntN
  rw [cmp_pos v (by omega)]
  by_cases hv : 0 < v.toNat
  · rw [if_pos hv]
    simp only [hv, decide_true]
    show (fdivW (spanW a v)).toNat = _
    have hs := spanW_toNat a v h
    rw [fdivW_toNat _ (by omega) (by omega), hs]
  · rw [if_neg hv]
    simp only [hv, decide_false]
    rfl

theorem cntN_le (a v : ℕ) (h : a + v ≤ 6144) : cntN a v ≤ 25 := by
  unfold cntN; split <;> omega

theorem loop4_of (n : BitVec 32) (h : n.toNat ≤ 25) :
    (Scf.Loop.mk 0#32 (Scalar.addi 0#32 (Scalar.muli (Scalar.divsi (Scalar.subi n 0#32) 1#32) 1#32)) 1#32).trips = n.toNat
    ∧ (Scf.Loop.mk 0#32 (Scalar.addi 0#32 (Scalar.muli (Scalar.divsi (Scalar.subi n 0#32) 1#32) 1#32)) 1#32).OK := by
  have hx : n = BitVec.ofNat 32 n.toNat := by simp
  generalize n.toNat = N at *
  subst hx
  interval_cases N <;> decide
theorem loop5_of (n : BitVec 32) (h : n.toNat ≤ 25) :
    (Scf.Loop.mk (Scalar.addi 0#32 (Scalar.muli (Scalar.divsi (Scalar.subi n 0#32) 1#32) 1#32)) (Scalar.addi 0#32 (Scalar.subi n 0#32)) 1#32).trips = 0
    ∧ (Scf.Loop.mk (Scalar.addi 0#32 (Scalar.muli (Scalar.divsi (Scalar.subi n 0#32) 1#32) 1#32)) (Scalar.addi 0#32 (Scalar.subi n 0#32)) 1#32).OK := by
  have hx : n = BitVec.ofNat 32 n.toNat := by simp
  generalize n.toNat = N at *
  subst hx
  interval_cases N <;> decide
theorem trips4 (a v : BitVec 32) (h : a.toNat + v.toNat ≤ 6144) : (k0_t4_loop a v).trips = cntN a.toNat v.toNat :=
  ((loop4_of (cntW a v) (by rw [cntW_toNat a v h]; exact cntN_le _ _ h)).1).trans (cntW_toNat a v h)
theorem ok4 (a v : BitVec 32) (h : a.toNat + v.toNat ≤ 6144) : (k0_t4_loop a v).OK :=
  (loop4_of (cntW a v) (by rw [cntW_toNat a v h]; exact cntN_le _ _ h)).2
theorem trips5 (a v : BitVec 32) (h : a.toNat + v.toNat ≤ 6144) : (k0_t5_loop a v).trips = 0 :=
  (loop5_of (cntW a v) (by rw [cntW_toNat a v h]; exact cntN_le _ _ h)).1
theorem ok5 (a v : BitVec 32) (h : a.toNat + v.toNat ≤ 6144) : (k0_t5_loop a v).OK :=
  (loop5_of (cntW a v) (by rw [cntW_toNat a v h]; exact cntN_le _ _ h)).2

theorem row_toNat (b : BitVec 32) (i : ℕ) (h : b.toNat + i < 40) : (Scalar.addi b (Scf.iv 0#32 1#32 i)).toNat = b.toNat + i := by
  rw [iv_eq i (by omega)]
  show (b + BitVec.ofNat 32 i).toNat = _
  rw [BitVec.toNat_add, BitVec.toNat_ofNat]; omega

theorem chk1 (a b v : BitVec 32) (h : a.toNat + v.toNat ≤ 6144) (hb : b.toNat + cntN a.toNat v.toNat ≤ 40) : k0_chk1 a b v := by
  have h5 : ∀ k : Fin (k0_t5_loop a v).trips, False := fun k => absurd (lt_of_lt_of_eq k.isLt (trips5 a v h)) (by omega)
  have h4 : ∀ k : Fin (k0_t4_loop a v).trips, (Scalar.addi b (Scf.iv 0#32 1#32 k.val)).toNat = b.toNat + k.val ∧ b.toNat + k.val < 40 := by
    intro k
    have hk := lt_of_lt_of_eq k.isLt (trips4 a v h)
    exact ⟨row_toNat b k.val (by omega), by omega⟩
  refine ⟨ok4 a v h, fun k => ?_, fun k => ?_, fun k => ?_, fun k => ?_, fun k => ?_, fun k => ?_, ok5 a v h,
    fun k => (h5 k).elim, fun k => (h5 k).elim, fun k => (h5 k).elim, fun k => (h5 k).elim, fun k => (h5 k).elim, fun k => (h5 k).elim⟩
  all_goals
    obtain ⟨e1, e2⟩ := h4 k
  · show ∀ q, (![(Scalar.addi b (Scf.iv 0#32 1#32 k.val)).toNat, 0] : Fin 2 → ℕ) q + _ ≤ _
    rw [e1]; exact inbT _ _ e2 (by decide)
  · show ∀ q, (![(Scalar.addi b (Scf.iv 0#32 1#32 k.val)).toNat, 1] : Fin 2 → ℕ) q + _ ≤ _
    rw [e1]; exact inbT _ _ e2 (by decide)
  · show ∀ q, (![(Scalar.addi b (Scf.iv 0#32 1#32 k.val)).toNat, 2] : Fin 2 → ℕ) q + _ ≤ _
    rw [e1]; exact inbT _ _ e2 (by decide)
  · show ∀ q, (![(Scalar.addi b (Scf.iv 0#32 1#32 k.val)).toNat, 3] : Fin 2 → ℕ) q + _ ≤ _
    rw [e1]; exact inbT _ _ e2 (by decide)
  · show ∀ q, (![(Scalar.addi b (Scf.iv 0#32 1#32 k.val)).toNat, 4] : Fin 2 → ℕ) q + _ ≤ _
    rw [e1]; exact inbT _ _ e2 (by decide)
  · show ∀ q, (![(Scalar.addi b (Scf.iv 0#32 1#32 k.val)).toNat, 5] : Fin 2 → ℕ) q + _ ≤ _
    rw [e1]; exact inbT _ _ e2 (by decide)

end Cert.Kernel.Hand

end
-- ==== Proof.KBlocks.lean ====
module

public import proofs.«01_k».proof.Proof.KWords
public import Idealize.ShloMosaic.Lib.VecWindow

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## What a load of a slot reads -/

theorem sub6 (s : Fin 2) (off : Fin 3 → ℕ) (h) (ho : off 0 = s.val) :
    (M6.access (Rect.unit (s := S2x256x2816) off S1x256x2816.size h)).set ⊆ (slot6 s).view.set := by
  have e : (slot6 s).view.set = (M6.access (Rect.unit (s := S2x256x2816) ![s.val, 0, 0] S1x256x2816.size (inb6 s))).set := View.set_reshape _ _
  have : off = ![s.val, 0, 0] := by
    have h1 : off 1 + 256 ≤ 256 := h 1
    have h2 : off 2 + 2816 ≤ 2816 := h 2
    funext a; fin_cases a
    · exact ho
    · show off 1 = 0; omega
    · show off 2 = 0; omega
  subst this
  exact e.ge

theorem sub7 (s : Fin 2) (off : Fin 3 → ℕ) (h) (ho : off 0 = s.val) :
    (M7.access (Rect.unit (s := S2x1408x2048) off S1x1408x256.size h)).set ⊆ (slot7 s).view.set := by
  have e : (slot7 s).view.set = (M7.access (Rect.unit (s := S2x1408x2048) ![s.val, 0, 0] S1x1408x2048.size (inb7 s))).set := View.set_reshape _ _
  rw [e]
  show (M7.view.slice (Rect.unit (s := S2x1408x2048) off S1x1408x256.size h)).set ⊆ (M7.view.slice (Rect.unit (s := S2x1408x2048) ![s.val, 0, 0] S1x1408x2048.size (inb7 s))).set
  rw [View.set_slice, View.set_slice]
  refine Finset.map_subset_map.mpr fun i hi => ?_
  rw [Rect.mem_set_unit] at hi ⊢
  have h1 : off 1 + 1408 ≤ 1408 := h 1
  have h2 : off 2 + 256 ≤ 2048 := h 2
  intro a; have := hi a; fin_cases a
  · have : off 0 ≤ (i 0).val ∧ (i 0).val < off 0 + 1 := this
    show s.val ≤ (i 0).val ∧ (i 0).val < s.val + 1
    omega
  · have : off 1 ≤ (i 1).val ∧ (i 1).val < off 1 + 1408 := this
    show 0 ≤ (i 1).val ∧ (i 1).val < 0 + 1408
    omega
  · have : off 2 ≤ (i 2).val ∧ (i 2).val < off 2 + 256 := this
    show 0 ≤ (i 2).val ∧ (i 2).val < 0 + 2048
    omega

theorem sub8 (s : Fin 2) (off : Fin 3 → ℕ) (h) (ho : off 0 = s.val) :
    (M8.access (Rect.unit (s := S2x22x2048) off S1x22x256.size h)).set ⊆ (slot8 s).view.set := by
  have e : (slot8 s).view.set = (M8.access (Rect.unit (s := S2x22x2048) ![s.val, 0, 0] S1x22x2048.size (inb8 s))).set := View.set_reshape _ _
  rw [e]
  show (M8.view.slice (Rect.unit (s := S2x22x2048) off S1x22x256.size h)).set ⊆ (M8.view.slice (Rect.unit (s := S2x22x2048) ![s.val, 0, 0] S1x22x2048.size (inb8 s))).set
  rw [View.set_slice, View.set_slice]
  refine Finset.map_subset_map.mpr fun i hi => ?_
  rw [Rect.mem_set_unit] at hi ⊢
  have h1 : off 1 + 22 ≤ 22 := h 1
  have h2 : off 2 + 256 ≤ 2048 := h 2
  intro a; have := hi a; fin_cases a
  · have : off 0 ≤ (i 0).val ∧ (i 0).val < off 0 + 1 := this
    show s.val ≤ (i 0).val ∧ (i 0).val < s.val + 1
    omega
  · have : off 1 ≤ (i 1).val ∧ (i 1).val < off 1 + 22 := this
    show 0 ≤ (i 1).val ∧ (i 1).val < 0 + 22
    omega
  · have : off 2 ≤ (i 2).val ∧ (i 2).val < off 2 + 256 := this
    show 0 ≤ (i 2).val ∧ (i 2).val < 0 + 2048
    omega

/-- The 256 rows from `st` on, with the slot's unit axis. -/
def xblk (c : Dev nD) (fx : BufOf (F := F) c MX) (st : ℕ) (h : st + 256 ≤ 6144) : Vec F S1x256x2816 .bf16 :=
  fun i => MX.view.read (Elt F) fx (ix2 (⟨st + (i 1).val, by have : (i 1).val < 256 := (i 1).isLt; omega⟩ : Fin 6144) (⟨(i 2).val, (i 2).isLt⟩ : Fin 2816))
/-- Columns `256 b …` of expert `e`'s packed weights. -/
def wblk (c : Dev nD) (fw : BufOf (F := F) c MW) (e b : Fin 8) : Vec F S1x1408x256 .i8 :=
  fun i => MW.view.read (Elt F) fw (ix3 e (⟨(i 1).val, (i 1).isLt⟩ : Fin 1408) (⟨256 * b.val + (i 2).val, by have : (i 2).val < 256 := (i 2).isLt; omega⟩ : Fin 2048))
/-- Columns `256 b …` of expert `e`'s scales. -/
def sblk (c : Dev nD) (fs : BufOf (F := F) c MS) (e b : Fin 8) : Vec F S1x22x256 .bf16 :=
  fun i => MS.view.read (Elt F) fs (ix3 e (⟨(i 1).val, (i 1).isLt⟩ : Fin 22) (⟨256 * b.val + (i 2).val, by have : (i 2).val < 256 := (i 2).isLt; omega⟩ : Fin 2048))

theorem read_landed (c : Dev nD) {sp sp' : Space} {S : Shape} {e : EltTy} (dst : Memref sig .tc sp S e) (src : Memref sig .tc sp' S e)
    (fs : BufOf (F := F) c src) (g : BufOf (F := F) c dst) : dst.view.read (Elt F) (landed c dst src fs g) = src.view.read (Elt F) fs :=
  View.read_writes_full dst.view g (off := fun _ => 0) (fun a => by omega) _ []

theorem load6 (c : Dev nD) (s : Fin 2) (st : ℕ) (hst) (fx : BufOf (F := F) c MX) (g : BufOf (F := F) c (slot6 s)) (off : Fin 3 → ℕ) (h) (ho : off 0 = s.val) :
    View.readAt (Elt F) M6.view (Rect.unit (s := S2x256x2816) off S1x256x2816.size h).toLoadRect (landed c (slot6 s) (rowsX st hst) fx g) = xblk c fx st hst := by
  have : off = ![s.val, 0, 0] := by
    have h1 : off 1 + 256 ≤ 256 := h 1
    have h2 : off 2 + 2816 ≤ 2816 := h 2
    funext a; fin_cases a
    · exact ho
    · show off 1 = 0; omega
    · show off 2 = 0; omega
  subst this
  funext i
  have k1 := congrFun (read_landed c (slot6 s) (rowsX st hst) fx g) (ix2 (⟨(i 1).val, (i 1).isLt⟩ : Fin 256) (⟨(i 2).val, (i 2).isLt⟩ : Fin 2816))
  have k2 : (slot6 s).view.read (Elt F) (landed c (slot6 s) (rowsX st hst) fx g) (ix2 (⟨(i 1).val, (i 1).isLt⟩ : Fin 256) (⟨(i 2).val, (i 2).isLt⟩ : Fin 2816))
      = View.readAt (Elt F) M6.view (Rect.unit (s := S2x256x2816) ![s.val, 0, 0] S1x256x2816.size h).toLoadRect (landed c (slot6 s) (rowsX st hst) fx g) i := by
    show M6.view.read (Elt F) _ ((Rect.unit (s := S2x256x2816) ![s.val, 0, 0] S1x256x2816.size (inb6 s)).emb
      (Shape.reshapeEquiv squeezes_S1x256x2816_S256x2816.numel_eq (ix2 (⟨(i 1).val, (i 1).isLt⟩ : Fin 256) (⟨(i 2).val, (i 2).isLt⟩ : Fin 2816)))) = _
    rw [View.readAt_apply]
    refine congrArg (M6.view.read (Elt F) _) ?_
    have e := Shape.reshapeEquiv_cons_one (d := ![256, 2816]) squeezes_S1x256x2816_S256x2816.numel_eq (ix2 (⟨(i 1).val, (i 1).isLt⟩ : Fin 256) (⟨(i 2).val, (i 2).isLt⟩ : Fin 2816))
    have hi : (i 0).val = 0 := by have : (i 0).val < 1 := (i 0).isLt; omega
    refine (congrArg (Rect.unit (s := S2x256x2816) ![s.val, 0, 0] S1x256x2816.size (inb6 s)).emb e).trans ?_
    funext a; apply Fin.ext; fin_cases a
    · show s.val + 1 * 0 = s.val + 1 * (i 0).val; omega
    · show 0 + 1 * (i 1).val = 0 + 1 * (i 1).val; rfl
    · show 0 + 1 * (i 2).val = 0 + 1 * (i 2).val; rfl
  rw [← k2, k1]
  show MX.view.read (Elt F) fx _ = MX.view.read (Elt F) fx _
  refine congrArg (MX.view.read (Elt F) fx) ?_
  funext a; apply Fin.ext; fin_cases a
  · show st + 1 * (i 1).val = st + (i 1).val; omega
  · show 0 + 1 * (i 2).val = (i 2).val; omega

theorem load7 (c : Dev nD) (s : Fin 2) (e b : Fin 8) (fw : BufOf (F := F) c MW) (g : BufOf (F := F) c (slot7 s)) (off : Fin 3 → ℕ) (h) (ho : off = ![s.val, 0, 256 * b.val]) :
    View.readAt (Elt F) M7.view (Rect.unit (s := S2x1408x2048) off S1x1408x256.size h).toLoadRect (landed c (slot7 s) (wE e) fw g) = wblk c fw e b := by
  subst ho
  funext i
  have hi : (i 0).val = 0 := by have : (i 0).val < 1 := (i 0).isLt; omega
  have k1 := congrFun (read_landed c (slot7 s) (wE e) fw g) (ix2 (⟨(i 1).val, (i 1).isLt⟩ : Fin 1408) (⟨256 * b.val + (i 2).val, by have : (i 2).val < 256 := (i 2).isLt; omega⟩ : Fin 2048))
  have k2 : (slot7 s).view.read (Elt F) (landed c (slot7 s) (wE e) fw g) (ix2 (⟨(i 1).val, (i 1).isLt⟩ : Fin 1408) (⟨256 * b.val + (i 2).val, by have : (i 2).val < 256 := (i 2).isLt; omega⟩ : Fin 2048))
      = View.readAt (Elt F) M7.view (Rect.unit (s := S2x1408x2048) ![s.val, 0, 256 * b.val] S1x1408x256.size h).toLoadRect (landed c (slot7 s) (wE e) fw g) i := by
    show M7.view.read (Elt F) _ ((Rect.unit (s := S2x1408x2048) ![s.val, 0, 0] S1x1408x2048.size (inb7 s)).emb
      (Shape.reshapeEquiv squeezes_S1x1408x2048_S1408x2048.numel_eq (ix2 (⟨(i 1).val, (i 1).isLt⟩ : Fin 1408) (⟨256 * b.val + (i 2).val, by have : (i 2).val < 256 := (i 2).isLt; omega⟩ : Fin 2048)))) = _
    rw [View.readAt_apply]
    refine congrArg (M7.view.read (Elt F) _) ?_
    have e := Shape.reshapeEquiv_cons_one (d := ![1408, 2048]) squeezes_S1x1408x2048_S1408x2048.numel_eq (ix2 (⟨(i 1).val, (i 1).isLt⟩ : Fin 1408) (⟨256 * b.val + (i 2).val, by have : (i 2).val < 256 := (i 2).isLt; omega⟩ : Fin 2048))
    refine (congrArg (Rect.unit (s := S2x1408x2048) ![s.val, 0, 0] S1x1408x2048.size (inb7 s)).emb e).trans ?_
    funext a; apply Fin.ext; fin_cases a
    · show s.val + 1 * 0 = s.val + 1 * (i 0).val; omega
    · show 0 + 1 * (i 1).val = 0 + 1 * (i 1).val; rfl
    · show 0 + 1 * (256 * b.val + (i 2).val) = 256 * b.val + 1 * (i 2).val; omega
  rw [← k2, k1]
  show MW.view.read (Elt F) fw ((Rect.unit (s := S8x1408x2048) ![e.val, 0, 0] S1x1408x2048.size (inbW e)).emb
      (Shape.reshapeEquiv squeezes_S1x1408x2048_S1408x2048.numel_eq (ix2 (⟨(i 1).val, (i 1).isLt⟩ : Fin 1408) (⟨256 * b.val + (i 2).val, by have : (i 2).val < 256 := (i 2).isLt; omega⟩ : Fin 2048)))) = MW.view.read (Elt F) fw _
  refine congrArg (MW.view.read (Elt F) fw) ?_
  have e' := Shape.reshapeEquiv_cons_one (d := ![1408, 2048]) squeezes_S1x1408x2048_S1408x2048.numel_eq (ix2 (⟨(i 1).val, (i 1).isLt⟩ : Fin 1408) (⟨256 * b.val + (i 2).val, by have : (i 2).val < 256 := (i 2).isLt; omega⟩ : Fin 2048))
  refine (congrArg (Rect.unit (s := S8x1408x2048) ![e.val, 0, 0] S1x1408x2048.size (inbW e)).emb e').trans ?_
  funext a; apply Fin.ext; fin_cases a
  · show e.val + 1 * 0 = e.val; omega
  · show 0 + 1 * (i 1).val = (i 1).val; omega
  · show 0 + 1 * (256 * b.val + (i 2).val) = 256 * b.val + (i 2).val; omega

theorem load8 (c : Dev nD) (s : Fin 2) (e b : Fin 8) (fw : BufOf (F := F) c MS) (g : BufOf (F := F) c (slot8 s)) (off : Fin 3 → ℕ) (h) (ho : off = ![s.val, 0, 256 * b.val]) :
    View.readAt (Elt F) M8.view (Rect.unit (s := S2x22x2048) off S1x22x256.size h).toLoadRect (landed c (slot8 s) (sE e) fw g) = sblk c fw e b := by
  subst ho
  funext i
  have hi : (i 0).val = 0 := by have : (i 0).val < 1 := (i 0).isLt; omega
  have k1 := congrFun (read_landed c (slot8 s) (sE e) fw g) (ix2 (⟨(i 1).val, (i 1).isLt⟩ : Fin 22) (⟨256 * b.val + (i 2).val, by have : (i 2).val < 256 := (i 2).isLt; omega⟩ : Fin 2048))
  have k2 : (slot8 s).view.read (Elt F) (landed c (slot8 s) (sE e) fw g) (ix2 (⟨(i 1).val, (i 1).isLt⟩ : Fin 22) (⟨256 * b.val + (i 2).val, by have : (i 2).val < 256 := (i 2).isLt; omega⟩ : Fin 2048))
      = View.readAt (Elt F) M8.view (Rect.unit (s := S2x22x2048) ![s.val, 0, 256 * b.val] S1x22x256.size h).toLoadRect (landed c (slot8 s) (sE e) fw g) i := by
    show M8.view.read (Elt F) _ ((Rect.unit (s := S2x22x2048) ![s.val, 0, 0] S1x22x2048.size (inb8 s)).emb
      (Shape.reshapeEquiv squeezes_S1x22x2048_S22x2048.numel_eq (ix2 (⟨(i 1).val, (i 1).isLt⟩ : Fin 22) (⟨256 * b.val + (i 2).val, by have : (i 2).val < 256 := (i 2).isLt; omega⟩ : Fin 2048)))) = _
    rw [View.readAt_apply]
    refine congrArg (M8.view.read (Elt F) _) ?_
    have e := Shape.reshapeEquiv_cons_one (d := ![22, 2048]) squeezes_S1x22x2048_S22x2048.numel_eq (ix2 (⟨(i 1).val, (i 1).isLt⟩ : Fin 22) (⟨256 * b.val + (i 2).val, by have : (i 2).val < 256 := (i 2).isLt; omega⟩ : Fin 2048))
    refine (congrArg (Rect.unit (s := S2x22x2048) ![s.val, 0, 0] S1x22x2048.size (inb8 s)).emb e).trans ?_
    funext a; apply Fin.ext; fin_cases a
    · show s.val + 1 * 0 = s.val + 1 * (i 0).val; omega
    · show 0 + 1 * (i 1).val = 0 + 1 * (i 1).val; rfl
    · show 0 + 1 * (256 * b.val + (i 2).val) = 256 * b.val + 1 * (i 2).val; omega
  rw [← k2, k1]
  show MS.view.read (Elt F) fw ((Rect.unit (s := S8x22x2048) ![e.val, 0, 0] S1x22x2048.size (inbS e)).emb
      (Shape.reshapeEquiv squeezes_S1x22x2048_S22x2048.numel_eq (ix2 (⟨(i 1).val, (i 1).isLt⟩ : Fin 22) (⟨256 * b.val + (i 2).val, by have : (i 2).val < 256 := (i 2).isLt; omega⟩ : Fin 2048)))) = MS.view.read (Elt F) fw _
  refine congrArg (MS.view.read (Elt F) fw) ?_
  have e' := Shape.reshapeEquiv_cons_one (d := ![22, 2048]) squeezes_S1x22x2048_S22x2048.numel_eq (ix2 (⟨(i 1).val, (i 1).isLt⟩ : Fin 22) (⟨256 * b.val + (i 2).val, by have : (i 2).val < 256 := (i 2).isLt; omega⟩ : Fin 2048))
  refine (congrArg (Rect.unit (s := S8x22x2048) ![e.val, 0, 0] S1x22x2048.size (inbS e)).emb e').trans ?_
  funext a; apply Fin.ext; fin_cases a
  · show e.val + 1 * 0 = e.val; omega
  · show 0 + 1 * (i 1).val = (i 1).val; omega
  · show 0 + 1 * (256 * b.val + (i 2).val) = 256 * b.val + (i 2).val; omega

end Cert.Kernel.Hand

end
-- ==== Proof.K1.lean ====
module

public import proofs.«01_k».proof.Proof.KWords

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

cut_chain pA := k0_part2_skel at 9

variable (c : Dev nD)

theorem offr {k : ℕ} {r : Fin 40} {j : ℕ} {off : Fin 2 → ℕ} (hk : k < 40) (hr : r.val = k) (h : off = ![(Scf.iv 0#32 1#32 k).toNat, j]) : off = ![r.val, j] := by
  rw [h, iv_toNat k hk, hr]

/-- Expert `e`'s weights and scales on their way into slot `s`. -/
abbrev wGo (s : Fin 2) (e : Fin 8) (fw : BufOf (F := F) c MW) (fs : BufOf (F := F) c MS) : sProp 𝕄 :=
  iprop(flying c (cell7 s) (slot7 s) (wE e) fw ∗ flying c (cell8 s) (slot8 s) (sE e) fs)
/-- Expert `e`'s weights and scales in slot `s`. -/
abbrev wOn (s : Fin 2) (e : Fin 8) (fw : BufOf (F := F) c MW) (fs : BufOf (F := F) c MS) : sProp 𝕄 :=
  iprop(filled c (cell7 s) (slot7 s) (wE e) fw ∗ filled c (cell8 s) (slot8 s) (sE e) fs)
/-- Slot `s` unused. -/
abbrev wOff (s : Fin 2) : sProp 𝕄 := iprop(idle (F := F) c (cell7 s) (slot7 s) ∗ idle (F := F) c (cell8 s) (slot8 s))
/-- The next expert, where there is one, on its way into slot `s'`. -/
abbrev wRest (s' : Fin 2) (nx : Option (Fin 8)) (fw : BufOf (F := F) c MW) (fs : BufOf (F := F) c MS) : sProp 𝕄 :=
  match nx with
  | some x => wGo c s' x fw fs
  | none => iprop(held c MW fw ∗ held c MS fs ∗ wOff (F := F) c s')

theorem A_first_next
    (n : BitVec 32) (hn : k0_chk4 n) (k : Fin (k0_t6_loop n).trips) (hn40 : n.toNat ≤ 40) (r : Fin 40) (hr : r.val = k.val)
    (fw : BufOf (F := F) c MW) (fs : BufOf (F := F) c MS) (T : BufOf (F := F) c M10) (W)
    (v31 v33 v36 v38 ve vn : BitVec 32) (h4 : tw c T r 4 = v31) (h1 : tw c T r 1 = v33) (h2 : tw c T r 2 = v36) (h3 : tw c T r 3 = v38)
    (h0 : tw c T r 0 = ve) (h5 : tw c T r 5 = vn)
    (hc11 : k0_chk11 v31) (hc5 : k0_chk5 v33) (s s' : Fin 2) (e : Fin 8)
    (hs : v31.toNat = s.val) (hs' : (Scalar.subi 1#32 v31).toNat = s'.val) (he : ve.toNat = e.val) (hc6 : k0_chk6 n k v31 v38) (hc7 : k0_chk7 v38 ve) (x : Fin 8) (hx : vn.toNat = x.val) (hC1 : k0_cond1 v38 = 1#1) (hC2 : k0_cond2 vn = 1#1)
    {R : Type} {κ : (v31 : BitVec 32) → PLift (k0_chk11 v31) → (v33 : BitVec 32) → PLift (k0_chk5 v33) → BitVec 32 → Prog (TpuEff nD τ sig (Elt F) Λ₀ .tc) R} {Q : R → sProp 𝕄} :
    iprop(held c M10 T ∗ wGo c s e fw fs ∗ wOff (F := F) c s' ∗ owes (c : Thread nD τ) 0 W)
    ⊢ iprop((iprop(held c M10 T ∗ wOn c s e fw fs ∗ wGo c s' x fw fs ∗ ∃ W', owes (c : Thread nD τ) 0 W') -∗ wp frame (wpE (defs₀ (F := F)) Variants.none c none) Set.univ (κ v31 ⟨hc11⟩ v33 ⟨hc5⟩ v36) Q) -∗
       wp frame (wpE (defs₀ (F := F)) Variants.none c none) Set.univ
      (pA1 MW (Memref.isWhole_whole _) MS (Memref.isWhole_whole _) M7 (Memref.isWhole_whole _) M8 (Memref.isWhole_whole _)
        M10 cc0_scratch6 cc0_scratch7 n hn k κ) Q) := by
  have hk := lt_of_lt_of_eq k.isLt (trips6 n hn40)
  have hk40 : k.val < 40 := by omega
  obtain ⟨s, hsl⟩ := s; dsimp only at hs; subst hs
  obtain ⟨s', hsl'⟩ := s'; dsimp only at hs'; subst hs'
  obtain ⟨e, hel⟩ := e; dsimp only at he; subst he
  obtain ⟨x, hxl⟩ := x; dsimp only at hx; subst hx
  have hc8 := chk8 v31 v38 vn hsl (fun _ => hxl)
  iintro ⟨HT, ⟨⟨⟨%gw, Hw⟩, Hw'⟩, ⟨⟨%gs, Hs⟩, Hs'⟩⟩, ⟨⟨Hcw, ⟨%gw2, Hgw⟩⟩, ⟨Hcs, ⟨%gs2, Hgs⟩⟩⟩, Ho⟩ Hκ
  unfold pA1
  sl_exec
  have e1 : A_first_next.sl.r c n hn k T = v31 := (tw_of_load c T _ _ _ r 4 (offr (k := k) hk40 hr rfl)).trans h4
  rw [e1]
  sl_exec
  have e1 : A_first_next.sl.r_1 c n hn k T = v33 := (tw_of_load c T _ _ _ r 1 (offr (k := k) hk40 hr rfl)).trans h1
  rw [e1]
  sl_exec
  have e1 : A_first_next.sl.r_2 c n hn k T = v36 := (tw_of_load c T _ _ _ r 2 (offr (k := k) hk40 hr rfl)).trans h2
  rw [e1]
  have e1 : A_first_next.sl.r_3 c n hn k T = v38 := (tw_of_load c T _ _ _ r 3 (offr (k := k) hk40 hr rfl)).trans h3
  rw [e1]
  sl_exec
  have e1 : A_first_next.sl.r_4 c n k T v31 v38 hc6 hC1 = ve := (tw_of_load c T _ _ _ r 0 (offr (k := k) hk40 hr rfl)).trans h0
  rw [e1]
  sl_exec
  ihave HW := (show ((wE ⟨ve.toNat, hel⟩).view.loc (c : Thread nD τ) ↦[Finset.univ]{fullShare} fw) ⊢ held c MW fw from .rfl) $$ Hw'
  ihave HS := (show ((sE ⟨ve.toNat, hel⟩).view.loc (c : Thread nD τ) ↦[Finset.univ]{fullShare} fs) ⊢ held c MS fs from .rfl) $$ Hs'
  have e1 : A_first_next.sl.r_5 c n k T v31 v38 hc6 hC1 = vn := (tw_of_load c T _ _ _ r 5 (offr (k := k) hk40 hr rfl)).trans h5
  rw [e1]
  sl_exec
  iapply Hκ
  isplitl [HT]; · iexact HT
  isplitl [Hw Hs Hw_dst Hs_dst]
  · isplitl [Hw Hw_dst]
    · isplitl [Hw]; · iexact Hw
      iexists gw; iexact Hw_dst
    isplitl [Hs]; · iexact Hs
    iexists gs; iexact Hs_dst
  isplitr [Ho]
  · isplitl [Hcw HW]
    · isplitl [Hcw]
      · iexists gw2; iexact Hcw
      iexact HW
    isplitl [Hcs]
    · iexists gs2; iexact Hcs
    iexact HS
  iexists _; iexact Ho

theorem A_first_none
    (n : BitVec 32) (hn : k0_chk4 n) (k : Fin (k0_t6_loop n).trips) (hn40 : n.toNat ≤ 40) (r : Fin 40) (hr : r.val = k.val)
    (fw : BufOf (F := F) c MW) (fs : BufOf (F := F) c MS) (T : BufOf (F := F) c M10) (W)
    (v31 v33 v36 v38 ve vn : BitVec 32) (h4 : tw c T r 4 = v31) (h1 : tw c T r 1 = v33) (h2 : tw c T r 2 = v36) (h3 : tw c T r 3 = v38)
    (h0 : tw c T r 0 = ve) (h5 : tw c T r 5 = vn)
    (hc11 : k0_chk11 v31) (hc5 : k0_chk5 v33) (s s' : Fin 2) (e : Fin 8)
    (hs : v31.toNat = s.val) (hs' : (Scalar.subi 1#32 v31).toNat = s'.val) (he : ve.toNat = e.val) (hc6 : k0_chk6 n k v31 v38) (hc7 : k0_chk7 v38 ve) (hC1 : k0_cond1 v38 = 1#1) (hC2 : ¬ k0_cond2 vn = 1#1)
    {R : Type} {κ : (v31 : BitVec 32) → PLift (k0_chk11 v31) → (v33 : BitVec 32) → PLift (k0_chk5 v33) → BitVec 32 → Prog (TpuEff nD τ sig (Elt F) Λ₀ .tc) R} {Q : R → sProp 𝕄} :
    iprop(held c M10 T ∗ wGo c s e fw fs ∗ wOff (F := F) c s' ∗ owes (c : Thread nD τ) 0 W)
    ⊢ iprop((iprop(held c M10 T ∗ wOn c s e fw fs ∗ (held c MW fw ∗ held c MS fs ∗ wOff (F := F) c s') ∗ ∃ W', owes (c : Thread nD τ) 0 W') -∗ wp frame (wpE (defs₀ (F := F)) Variants.none c none) Set.univ (κ v31 ⟨hc11⟩ v33 ⟨hc5⟩ v36) Q) -∗
       wp frame (wpE (defs₀ (F := F)) Variants.none c none) Set.univ
      (pA1 MW (Memref.isWhole_whole _) MS (Memref.isWhole_whole _) M7 (Memref.isWhole_whole _) M8 (Memref.isWhole_whole _)
        M10 cc0_scratch6 cc0_scratch7 n hn k κ) Q) := by
  have hk := lt_of_lt_of_eq k.isLt (trips6 n hn40)
  have hk40 : k.val < 40 := by omega
  obtain ⟨s, hsl⟩ := s; dsimp only at hs; subst hs
  obtain ⟨s', hsl'⟩ := s'; dsimp only at hs'; subst hs'
  obtain ⟨e, hel⟩ := e; dsimp only at he; subst he
  have hc8 := chk8 v31 v38 vn hsl (fun h => absurd ((cond2_iff vn).mpr h) hC2)
  iintro ⟨HT, ⟨⟨⟨%gw, Hw⟩, Hw'⟩, ⟨⟨%gs, Hs⟩, Hs'⟩⟩, ⟨⟨Hcw, ⟨%gw2, Hgw⟩⟩, ⟨Hcs, ⟨%gs2, Hgs⟩⟩⟩, Ho⟩ Hκ
  unfold pA1
  sl_exec
  have e1 : A_first_none.sl.r c n hn k T = v31 := (tw_of_load c T _ _ _ r 4 (offr (k := k) hk40 hr rfl)).trans h4
  rw [e1]
  sl_exec
  have e1 : A_first_none.sl.r_1 c n hn k T = v33 := (tw_of_load c T _ _ _ r 1 (offr (k := k) hk40 hr rfl)).trans h1
  rw [e1]
  sl_exec
  have e1 : A_first_none.sl.r_2 c n hn k T = v36 := (tw_of_load c T _ _ _ r 2 (offr (k := k) hk40 hr rfl)).trans h2
  rw [e1]
  have e1 : A_first_none.sl.r_3 c n hn k T = v38 := (tw_of_load c T _ _ _ r 3 (offr (k := k) hk40 hr rfl)).trans h3
  rw [e1]
  sl_exec
  have e1 : A_first_none.sl.r_4 c n k T v31 v38 hc6 hC1 = ve := (tw_of_load c T _ _ _ r 0 (offr (k := k) hk40 hr rfl)).trans h0
  rw [e1]
  sl_exec
  ihave HW := (show ((wE ⟨ve.toNat, hel⟩).view.loc (c : Thread nD τ) ↦[Finset.univ]{fullShare} fw) ⊢ held c MW fw from .rfl) $$ Hw'
  ihave HS := (show ((sE ⟨ve.toNat, hel⟩).view.loc (c : Thread nD τ) ↦[Finset.univ]{fullShare} fs) ⊢ held c MS fs from .rfl) $$ Hs'
  have e1 : A_first_none.sl.r_5 c n k T v31 v38 hc6 hC1 = vn := (tw_of_load c T _ _ _ r 5 (offr (k := k) hk40 hr rfl)).trans h5
  rw [e1]
  sl_exec
  iapply Hκ
  isplitl [HT]; · iexact HT
  isplitl [Hw Hs Hw_dst Hs_dst]
  · isplitl [Hw Hw_dst]
    · isplitl [Hw]; · iexact Hw
      iexists gw; iexact Hw_dst
    isplitl [Hs]; · iexact Hs
    iexists gs; iexact Hs_dst
  isplitr [Ho]
  · isplitl [HW]; · iexact HW
    isplitl [HS]; · iexact HS
    isplitl [Hcw Hgw]
    · isplitl [Hcw]; · iexact Hcw
      iexists gw2; iexact Hgw
    isplitl [Hcs]; · iexact Hcs
    iexists gs2; iexact Hgs
  iexists _; iexact Ho

theorem A_later
    (n : BitVec 32) (hn : k0_chk4 n) (k : Fin (k0_t6_loop n).trips) (hn40 : n.toNat ≤ 40) (r : Fin 40) (hr : r.val = k.val)
    (fw : BufOf (F := F) c MW) (fs : BufOf (F := F) c MS) (T : BufOf (F := F) c M10) (X : sProp 𝕄)
    (v31 v33 v36 v38 ve vn : BitVec 32) (h4 : tw c T r 4 = v31) (h1 : tw c T r 1 = v33) (h2 : tw c T r 2 = v36) (h3 : tw c T r 3 = v38)
    (h0 : tw c T r 0 = ve) (h5 : tw c T r 5 = vn)
    (hc11 : k0_chk11 v31) (hc5 : k0_chk5 v33) (s s' : Fin 2) (e : Fin 8)
    (hs : v31.toNat = s.val) (hs' : (Scalar.subi 1#32 v31).toNat = s'.val) (he : ve.toNat = e.val) (hc6 : k0_chk6 n k v31 v38) (hc7 : k0_chk7 v38 ve) (hC1 : ¬ k0_cond1 v38 = 1#1)
    {R : Type} {κ : (v31 : BitVec 32) → PLift (k0_chk11 v31) → (v33 : BitVec 32) → PLift (k0_chk5 v33) → BitVec 32 → Prog (TpuEff nD τ sig (Elt F) Λ₀ .tc) R} {Q : R → sProp 𝕄} :
    iprop(held c M10 T ∗ X)
    ⊢ iprop((iprop(held c M10 T ∗ X) -∗ wp frame (wpE (defs₀ (F := F)) Variants.none c none) Set.univ (κ v31 ⟨hc11⟩ v33 ⟨hc5⟩ v36) Q) -∗
       wp frame (wpE (defs₀ (F := F)) Variants.none c none) Set.univ
      (pA1 MW (Memref.isWhole_whole _) MS (Memref.isWhole_whole _) M7 (Memref.isWhole_whole _) M8 (Memref.isWhole_whole _)
        M10 cc0_scratch6 cc0_scratch7 n hn k κ) Q) := by
  have hk := lt_of_lt_of_eq k.isLt (trips6 n hn40)
  have hk40 : k.val < 40 := by omega
  obtain ⟨s, hsl⟩ := s; dsimp only at hs; subst hs
  obtain ⟨s', hsl'⟩ := s'; dsimp only at hs'; subst hs'
  obtain ⟨e, hel⟩ := e; dsimp only at he; subst he
  iintro ⟨HT, HX⟩ Hκ
  unfold pA1
  sl_exec
  have e1 : A_later.sl.r c n hn k T = v31 := (tw_of_load c T _ _ _ r 4 (offr (k := k) hk40 hr rfl)).trans h4
  rw [e1]
  sl_exec
  have e1 : A_later.sl.r_1 c n hn k T = v33 := (tw_of_load c T _ _ _ r 1 (offr (k := k) hk40 hr rfl)).trans h1
  rw [e1]
  sl_exec
  have e1 : A_later.sl.r_2 c n hn k T = v36 := (tw_of_load c T _ _ _ r 2 (offr (k := k) hk40 hr rfl)).trans h2
  rw [e1]
  have e1 : A_later.sl.r_3 c n hn k T = v38 := (tw_of_load c T _ _ _ r 3 (offr (k := k) hk40 hr rfl)).trans h3
  rw [e1]
  sl_exec
  iapply Hκ
  isplitl [HT]; · iexact HT
  iexact HX

end Cert.Kernel.Hand

end
-- ==== Proof.K2.lean ====
module

public import proofs.«01_k».proof.Proof.KBlocks
public import proofs.«01_k».proof.Proof.K1

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

/-- The rows of the coming item on their way into slot `a`, slot `b` unused; where no item comes, both unused. -/
abbrev xNext (a b : Fin 2) (nx : Option {st : ℕ // st + 256 ≤ 6144}) (fx : BufOf (F := F) c MX) : sProp 𝕄 :=
  match nx with
  | some p => iprop(flying c (cell6 a) (slot6 a) (rowsX p.1 p.2) fx ∗ idle (F := F) c (cell6 b) (slot6 b))
  | none => iprop(held c MX fx ∗ idle (F := F) c (cell6 a) (slot6 a) ∗ idle (F := F) c (cell6 b) (slot6 b))

theorem B_more (n : BitVec 32) (hn : k0_chk4 n) (k : Fin (k0_t6_loop n).trips) (hn40 : n.toNat ≤ 40) (r : Fin 40) (hr : r.val = k.val)
    (hC3 : k0_cond3 n k = 1#1)
    (fx : BufOf (F := F) c MX) (T : BufOf (F := F) c M10) (W)
    (v31 v33 v36 : BitVec 32) (h1 : tw c T r 1 = v33)
    (r' : Fin 40) (hr' : r'.val = k.val + 1) (vx : BitVec 32) (hx : tw c T r' 1 = vx) (sx : ℕ) (hsx : sx + 256 ≤ 6144) (esx : vx.toNat = sx) (hc10 : k0_chk10 n k vx)
    (hc11 : k0_chk11 v31) (hc5 : k0_chk5 v33) (hc9 : k0_chk9 v33)
    (s n0 n1 : Fin 2) (hs : v31.toNat = s.val) (hn0 : (Scalar.andi (Scf.iv 0#32 1#32 k) 1#32).toNat = n0.val)
    (hn1 : (Scalar.subi 1#32 (Scalar.andi (Scf.iv 0#32 1#32 k) 1#32)).toNat = n1.val)
    (st : ℕ) (hst : st + 256 ≤ 6144) (est : v33.toNat = st)
    (f7 : BufOf (F := F) c (slot7 s)) (w0 : Vec F S1x1408x256 .i8)
    (l45 : View.readAt (Elt F) M7.view (Rect.unit (s := S2x1408x2048) (k0_off45 v31) S1x1408x256.size (k0_off45_inb v31 hc11)).toLoadRect f7 = w0) {Q} :
    iprop(held c M10 T ∗ xNext c n0 n1 (some ⟨st, hst⟩) fx ∗ own c (slot7 s) f7 ∗ owes (c : Thread nD τ) 0 W)
    ⊢ iprop((iprop(held c M10 T ∗ xNext c n1 n0 (some ⟨sx, hsx⟩) fx ∗ own c (slot7 s) f7 ∗ ∃ W', owes (c : Thread nD τ) 0 W') -∗
        Q ⟨v31, hc11, v33, hc5, v33, v36, k0_pay5, k0_pay6 (xblk c fx st hst), k0_pay7 w0⟩) -∗
      wp frame (wpE (defs₀ (F := F)) Variants.none c none) Set.univ
      (pA1.tail MX (Memref.isWhole_whole _) M6 (Memref.isWhole_whole _) M7 M10 cc0_scratch5 n hn k v31 ⟨hc11⟩ v33 ⟨hc5⟩ v36) Q) := by
  have hk := lt_of_lt_of_eq k.isLt (trips6 n hn40)
  have hk40 : k.val < 40 := by omega
  obtain ⟨s, hsl⟩ := s; dsimp only at hs; subst hs
  obtain ⟨n0, hn0l⟩ := n0; dsimp only at hn0; subst hn0
  obtain ⟨n1, hn1l⟩ := n1; dsimp only at hn1; subst hn1
  subst est; subst esx
  have i6 := sub6 ⟨_, hn0l⟩ (k0_off44 n k) (k0_off44_inb n hn k) rfl
  have i7 := sub7 ⟨_, hsl⟩ (k0_off45 v31) (k0_off45_inb v31 hc11) rfl
  have l44 := fun g => load6 c ⟨_, hn0l⟩ v33.toNat hst fx g (k0_off44 n k) (k0_off44_inb n hn k) rfl
  iintro ⟨HT, ⟨⟨⟨%gx, Hx⟩, Hx'⟩, ⟨Hc, ⟨%gx2, Hg⟩⟩⟩, H7, Ho⟩ HQ
  unfold pA1.tail
  sl_exec
  have e1 : B_more.sl.r c n hn k T = v33 := (tw_of_load c T _ _ _ r 1 (offr (k := k) hk40 hr rfl)).trans h1
  rw [e1]
  sl_exec
  ihave HX := (show ((rowsX v33.toNat hst).view.loc (c : Thread nD τ) ↦[Finset.univ]{fullShare} fx) ⊢ held c MX fx from .rfl) $$ Hx'
  have e1 : B_more.sl.r_1 c n hn k hC3 T = vx := (tw_of_load c T _ _ _ r' 1 (by rw [hr']; show ![(Scalar.addi (Scf.iv 0#32 1#32 k.val) 1#32).toNat, 1] = ![k.val + 1, 1]; rw [nx_toNat _ hk40])).trans hx
  rw [e1]
  sl_exec
  simp only [wp_ret]; imodintro
  iapply HQ
  isplitl [HT]; · iexact HT
  isplitl [Hc HX Hx Hx_dst]
  · isplitl [Hc HX]
    · isplitl [Hc]
      · iexists gx2; iexact Hc
      iexact HX
    isplitl [Hx]; · iexact Hx
    iexists _; iexact Hx_dst
  isplitl [H7]; · iexact H7
  iexists _; iexact Ho

theorem B_last (n : BitVec 32) (hn : k0_chk4 n) (k : Fin (k0_t6_loop n).trips) (hn40 : n.toNat ≤ 40) (r : Fin 40) (hr : r.val = k.val)
    (hC3 : ¬ k0_cond3 n k = 1#1)
    (fx : BufOf (F := F) c MX) (T : BufOf (F := F) c M10) (W)
    (v31 v33 v36 : BitVec 32) (h1 : tw c T r 1 = v33)
    (hc11 : k0_chk11 v31) (hc5 : k0_chk5 v33) (hc9 : k0_chk9 v33)
    (s n0 n1 : Fin 2) (hs : v31.toNat = s.val) (hn0 : (Scalar.andi (Scf.iv 0#32 1#32 k) 1#32).toNat = n0.val)
    (hn1 : (Scalar.subi 1#32 (Scalar.andi (Scf.iv 0#32 1#32 k) 1#32)).toNat = n1.val)
    (st : ℕ) (hst : st + 256 ≤ 6144) (est : v33.toNat = st)
    (f7 : BufOf (F := F) c (slot7 s)) (w0 : Vec F S1x1408x256 .i8)
    (l45 : View.readAt (Elt F) M7.view (Rect.unit (s := S2x1408x2048) (k0_off45 v31) S1x1408x256.size (k0_off45_inb v31 hc11)).toLoadRect f7 = w0) {Q} :
    iprop(held c M10 T ∗ xNext c n0 n1 (some ⟨st, hst⟩) fx ∗ own c (slot7 s) f7 ∗ owes (c : Thread nD τ) 0 W)
    ⊢ iprop((iprop(held c M10 T ∗ xNext c n1 n0 none fx ∗ own c (slot7 s) f7 ∗ ∃ W', owes (c : Thread nD τ) 0 W') -∗
        Q ⟨v31, hc11, v33, hc5, v33, v36, k0_pay5, k0_pay6 (xblk c fx st hst), k0_pay7 w0⟩) -∗
      wp frame (wpE (defs₀ (F := F)) Variants.none c none) Set.univ
      (pA1.tail MX (Memref.isWhole_whole _) M6 (Memref.isWhole_whole _) M7 M10 cc0_scratch5 n hn k v31 ⟨hc11⟩ v33 ⟨hc5⟩ v36) Q) := by
  have hk := lt_of_lt_of_eq k.isLt (trips6 n hn40)
  have hk40 : k.val < 40 := by omega
  obtain ⟨s, hsl⟩ := s; dsimp only at hs; subst hs
  obtain ⟨n0, hn0l⟩ := n0; dsimp only at hn0; subst hn0
  obtain ⟨n1, hn1l⟩ := n1; dsimp only at hn1; subst hn1
  subst est
  have i6 := sub6 ⟨_, hn0l⟩ (k0_off44 n k) (k0_off44_inb n hn k) rfl
  have i7 := sub7 ⟨_, hsl⟩ (k0_off45 v31) (k0_off45_inb v31 hc11) rfl
  have l44 := fun g => load6 c ⟨_, hn0l⟩ v33.toNat hst fx g (k0_off44 n k) (k0_off44_inb n hn k) rfl
  iintro ⟨HT, ⟨⟨⟨%gx, Hx⟩, Hx'⟩, ⟨Hc, ⟨%gx2, Hg⟩⟩⟩, H7, Ho⟩ HQ
  unfold pA1.tail
  sl_exec
  have e1 : B_last.sl.r c n hn k T = v33 := (tw_of_load c T _ _ _ r 1 (offr (k := k) hk40 hr rfl)).trans h1
  rw [e1]
  sl_exec
  ihave HX := (show ((rowsX v33.toNat hst).view.loc (c : Thread nD τ) ↦[Finset.univ]{fullShare} fx) ⊢ held c MX fx from .rfl) $$ Hx'
  simp only [wp_ret]; imodintro
  iapply HQ
  isplitl [HT]; · iexact HT
  isplitl [Hc Hg HX Hx Hx_dst]
  · isplitl [HX]; · iexact HX
    isplitl [Hc Hg]
    · isplitl [Hc]; · iexact Hc
      iexists gx2; iexact Hg
    isplitl [Hx]; · iexact Hx
    iexists _; iexact Hx_dst
  isplitl [H7]; · iexact H7
  iexists _; iexact Ho

/-- One row of the item table: which expert, where its 256 rows start, from which row on they are its own,
    whether its weights are new, their slot, and the expert after it. -/
structure Item where
  e : Fin 8
  st : ℕ
  va : ℕ
  fi : Bool
  s : Fin 2
  nx : Option (Fin 8)
  hst : st + 256 ≤ 6144
  hd : 32 ∣ st
  hva : va ≤ 6144

abbrev Item.rows (it : Item) : {st : ℕ // st + 256 ≤ 6144} := ⟨it.st, it.hst⟩
def Item.w (it : Item) : Fin 6 → BitVec 32
  | 0 => BitVec.ofNat 32 it.e.val
  | 1 => BitVec.ofNat 32 it.st
  | 2 => BitVec.ofNat 32 it.va
  | 3 => if it.fi then 1#32 else 0#32
  | 4 => BitVec.ofNat 32 it.s.val
  | 5 => match it.nx with | some x => BitVec.ofNat 32 x.val | none => 4294967295#32

/-- Row `r` of the table holds item `it`. -/
def RowIs (c : Dev nD) (T : BufOf (F := F) c M10) (r : Fin 40) (it : Item) : Prop :=
  tw c T r 0 = it.w 0 ∧ tw c T r 1 = it.w 1 ∧ tw c T r 2 = it.w 2 ∧ tw c T r 3 = it.w 3 ∧ tw c T r 4 = it.w 4 ∧ tw c T r 5 = it.w 5

def oth : Fin 2 → Fin 2
  | 0 => 1
  | 1 => 0

theorem Item.w1 (it : Item) : (it.w 1).toNat = it.st := by
  have := it.hst
  show (BitVec.ofNat 32 it.st).toNat = _
  rw [BitVec.toNat_ofNat]; omega
theorem Item.w4 (it : Item) : (it.w 4).toNat = it.s.val := by
  have := it.s.isLt
  show (BitVec.ofNat 32 it.s.val).toNat = _
  rw [BitVec.toNat_ofNat]; omega
theorem Item.w0 (it : Item) : (it.w 0).toNat = it.e.val := by
  have := it.e.isLt
  show (BitVec.ofNat 32 it.e.val).toNat = _
  rw [BitVec.toNat_ofNat]; omega
theorem Item.w4' (it : Item) : (Scalar.subi 1#32 (it.w 4)).toNat = (oth it.s).val := by
  have key : ∀ s : Fin 2, (Scalar.subi 1#32 (BitVec.ofNat 32 s.val)).toNat = (oth s).val := by decide
  exact key it.s
theorem cond1_iff (w : BitVec 32) (b : Bool) (h : w = if b then 1#32 else 0#32) : k0_cond1 w = 1#1 ↔ b = true := by
  subst h; cases b <;> decide
theorem Item.chk11 (it : Item) : k0_chk11 (it.w 4) := Hand.chk11 _ (by rw [it.w4]; exact it.s.isLt)
theorem Item.chk5 (it : Item) : k0_chk5 (it.w 1) := Hand.chk5 _ (by rw [it.w1]; exact it.hst) (by rw [it.w1]; exact it.hd)

/-- The weights' ring before item `it`. -/
abbrev wBefore (it : Item) (fw : BufOf (F := F) c MW) (fs : BufOf (F := F) c MS) : sProp 𝕄 :=
  match it.fi with
  | true => iprop(wGo c it.s it.e fw fs ∗ wOff (F := F) c (oth it.s))
  | false => iprop(wOn c it.s it.e fw fs ∗ wRest c (oth it.s) it.nx fw fs)
/-- The weights' ring after item `it`. -/
abbrev wAfter (it : Item) (fw : BufOf (F := F) c MW) (fs : BufOf (F := F) c MS) : sProp 𝕄 :=
  iprop(wOn c it.s it.e fw fs ∗ wRest c (oth it.s) it.nx fw fs)

theorem stretch_A (n : BitVec 32) (hn : k0_chk4 n) (k : Fin (k0_t6_loop n).trips) (hn40 : n.toNat ≤ 40) (r : Fin 40) (hr : r.val = k.val)
    (fw : BufOf (F := F) c MW) (fs : BufOf (F := F) c MS) (T : BufOf (F := F) c M10) (W) (it : Item) (hT : RowIs c T r it)
    {R : Type} {κ : (v31 : BitVec 32) → PLift (k0_chk11 v31) → (v33 : BitVec 32) → PLift (k0_chk5 v33) → BitVec 32 → Prog (TpuEff nD τ sig (Elt F) Λ₀ .tc) R} {Q : R → sProp 𝕄} :
    iprop(held c M10 T ∗ wBefore c it fw fs ∗ owes (c : Thread nD τ) 0 W)
    ⊢ iprop((iprop(held c M10 T ∗ wAfter c it fw fs ∗ ∃ W', owes (c : Thread nD τ) 0 W') -∗ wp frame (wpE (defs₀ (F := F)) Variants.none c none) Set.univ (κ (it.w 4) ⟨it.chk11⟩ (it.w 1) ⟨it.chk5⟩ (it.w 2)) Q) -∗
       wp frame (wpE (defs₀ (F := F)) Variants.none c none) Set.univ
      (pA1 MW (Memref.isWhole_whole _) MS (Memref.isWhole_whole _) M7 (Memref.isWhole_whole _) M8 (Memref.isWhole_whole _)
        M10 cc0_scratch6 cc0_scratch7 n hn k κ) Q) := by
  obtain ⟨h0, h1, h2, h3, h4, h5⟩ := hT
  have hs2 : (it.w 4).toNat < 2 := by rw [it.w4]; exact it.s.isLt
  have hc6 := chk6 n hn40 k (it.w 4) (it.w 3) hs2
  have hc7 := Hand.chk7 (it.w 3) (it.w 0) (by rw [it.w0]; exact it.e.isLt)
  have hC1 := cond1_iff (it.w 3) it.fi rfl
  obtain ⟨e, st, va, fi, s, nx, hst, hd, hva⟩ := it
  cases fi with
  | true =>
    have hC1 := hC1.mpr rfl
    cases nx with
    | some x =>
      have hx : ((BitVec.ofNat 32 x.val)).toNat = x.val := by have := x.isLt; rw [BitVec.toNat_ofNat]; omega
      have key : ∀ x : Fin 8, k0_cond2 (BitVec.ofNat 32 x.val) = 1#1 := by decide
      have h := A_first_next c n hn k hn40 r hr fw fs T W _ _ _ _ _ _ h4 h1 h2 h3 h0 h5 (Item.chk11 ⟨e, st, va, true, s, some x, hst, hd, hva⟩) (Item.chk5 ⟨e, st, va, true, s, some x, hst, hd, hva⟩)
        s (oth s) e (Item.w4 ⟨e, st, va, true, s, some x, hst, hd, hva⟩) (Item.w4' ⟨e, st, va, true, s, some x, hst, hd, hva⟩) (Item.w0 ⟨e, st, va, true, s, some x, hst, hd, hva⟩) hc6 hc7 x hx hC1 (key x)
        (κ := κ) (Q := Q)
      iintro ⟨HT, ⟨Hw, Hf⟩, Ho⟩ HQ
      iapply h $$ [HT Hw Hf Ho]
      · isplitl [HT]; · iexact HT
        isplitl [Hw]; · iexact Hw
        isplitl [Hf]; · iexact Hf
        iexact Ho
      iintro ⟨HT, Hw, Hr, Ho⟩
      iapply HQ
      isplitl [HT]; · iexact HT
      isplitl [Hw Hr]
      · isplitl [Hw]; · iexact Hw
        iexact Hr
      iexact Ho
    | none =>
      have key : ¬ k0_cond2 4294967295#32 = 1#1 := by decide
      have h := A_first_none c n hn k hn40 r hr fw fs T W _ _ _ _ _ _ h4 h1 h2 h3 h0 h5 (Item.chk11 ⟨e, st, va, true, s, none, hst, hd, hva⟩) (Item.chk5 ⟨e, st, va, true, s, none, hst, hd, hva⟩)
        s (oth s) e (Item.w4 ⟨e, st, va, true, s, none, hst, hd, hva⟩) (Item.w4' ⟨e, st, va, true, s, none, hst, hd, hva⟩) (Item.w0 ⟨e, st, va, true, s, none, hst, hd, hva⟩) hc6 hc7 hC1 key
        (κ := κ) (Q := Q)
      iintro ⟨HT, ⟨Hw, Hf⟩, Ho⟩ HQ
      iapply h $$ [HT Hw Hf Ho]
      · isplitl [HT]; · iexact HT
        isplitl [Hw]; · iexact Hw
        isplitl [Hf]; · iexact Hf
        iexact Ho
      iintro ⟨HT, Hw, Hr, Ho⟩
      iapply HQ
      isplitl [HT]; · iexact HT
      isplitl [Hw Hr]
      · isplitl [Hw]; · iexact Hw
        iexact Hr
      iexact Ho
  | false =>
    have hC1 : ¬ _ := fun h => Bool.noConfusion (hC1.mp h)
    have h := A_later c n hn k hn40 r hr fw fs T iprop(wAfter c ⟨e, st, va, false, s, nx, hst, hd, hva⟩ fw fs ∗ owes (c : Thread nD τ) 0 W) _ _ _ _ _ _ h4 h1 h2 h3 h0 h5 (Item.chk11 ⟨e, st, va, false, s, nx, hst, hd, hva⟩) (Item.chk5 ⟨e, st, va, false, s, nx, hst, hd, hva⟩)
        s (oth s) e (Item.w4 ⟨e, st, va, false, s, nx, hst, hd, hva⟩) (Item.w4' ⟨e, st, va, false, s, nx, hst, hd, hva⟩) (Item.w0 ⟨e, st, va, false, s, nx, hst, hd, hva⟩) hc6 hc7 hC1
        (κ := κ) (Q := Q)
    iintro ⟨HT, Hw, Ho⟩ HQ
    iapply h $$ [HT Hw Ho]
    · isplitl [HT]; · iexact HT
      isplitl [Hw]; · iexact Hw
      iexact Ho
    iintro ⟨HT, Hw, Ho⟩
    iapply HQ
    isplitl [HT]; · iexact HT
    isplitl [Hw]; · iexact Hw
    iexists _; iexact Ho

theorem stretch_B (n : BitVec 32) (hn : k0_chk4 n) (k : Fin (k0_t6_loop n).trips) (hn40 : n.toNat ≤ 40) (r : Fin 40) (hr : r.val = k.val)
    (fx : BufOf (F := F) c MX) (fw : BufOf (F := F) c MW) (T : BufOf (F := F) c M10) (W) (it : Item) (hT : RowIs c T r it)
    (itn : Option Item) (hnext : match itn with | some i' => ∃ r' : Fin 40, r'.val = k.val + 1 ∧ k.val + 1 < n.toNat ∧ RowIs c T r' i' | none => ¬ k.val + 1 < n.toNat)
    (n0 n1 : Fin 2) (hn0 : n0.val = k.val % 2) (hn1 : n1.val = 1 - k.val % 2)
    (g : BufOf (F := F) c (slot7 it.s)) {Q} :
    iprop(held c M10 T ∗ xNext c n0 n1 (some it.rows) fx ∗ own c (slot7 it.s) (landed c (slot7 it.s) (wE it.e) fw g) ∗ owes (c : Thread nD τ) 0 W)
    ⊢ iprop((iprop(held c M10 T ∗ xNext c n1 n0 (itn.map Item.rows) fx ∗ own c (slot7 it.s) (landed c (slot7 it.s) (wE it.e) fw g) ∗ ∃ W', owes (c : Thread nD τ) 0 W') -∗
        Q ⟨it.w 4, it.chk11, it.w 1, it.chk5, it.w 1, it.w 2, k0_pay5, k0_pay6 (xblk c fx it.st it.hst), k0_pay7 (wblk c fw it.e 0)⟩) -∗
      wp frame (wpE (defs₀ (F := F)) Variants.none c none) Set.univ
      (pA1.tail MX (Memref.isWhole_whole _) M6 (Memref.isWhole_whole _) M7 M10 cc0_scratch5 n hn k (it.w 4) ⟨it.chk11⟩ (it.w 1) ⟨it.chk5⟩ (it.w 2)) Q) := by
  have hk := lt_of_lt_of_eq k.isLt (trips6 n hn40)
  have hk40 : k.val < 40 := by omega
  have h1 := hT.2.1
  have hc9 := Hand.chk9 (it.w 1) (by rw [it.w1]; exact it.hst) (by rw [it.w1]; exact it.hd)
  have l45 := load7 c it.s it.e 0 fw g (k0_off45 (it.w 4)) (k0_off45_inb _ it.chk11) (by show ![(it.w 4).toNat, 0, 0] = _; rw [it.w4]; rfl)
  cases itn with
  | some i' =>
    obtain ⟨r', hr', hk', hT'⟩ := hnext
    exact B_more c n hn k hn40 r hr ((cond3_iff n hn40 k).mpr hk') fx T W _ _ _ h1 r' hr' _ hT'.2.1 i'.st i'.hst i'.w1
      (Hand.chk10 n k _ (by rw [i'.w1]; exact i'.hst) (by rw [i'.w1]; exact i'.hd)) it.chk11 it.chk5 hc9 it.s n0 n1 it.w4
      ((x0_toNat _ hk40).trans hn0.symm) ((x1_toNat _ hk40).trans hn1.symm) it.st it.hst it.w1 _ _ l45
  | none =>
    exact B_last c n hn k hn40 r hr (fun h => hnext ((cond3_iff n hn40 k).mp h)) fx T W _ _ _ h1
      it.chk11 it.chk5 hc9 it.s n0 n1 it.w4
      ((x0_toNat _ hk40).trans hn0.symm) ((x1_toNat _ hk40).trans hn1.symm) it.st it.hst it.w1 _ _ l45

/-- A trip's head: the waits, the copies it starts, and the first loads. -/
theorem part2 (A0 : Memref sig .tc .smem S8 .i32) (hA0 : A0.IsWhole) (A4 : Memref sig .tc .vmem S6144x1024 .fp8e4m3) (hA4 : A4.IsWhole) (A5 : Memref sig .tc .vmem S6144x1 .f32) (hA5 : A5.IsWhole)
    (n : BitVec 32) (hn : k0_chk4 n) (k : Fin (k0_t6_loop n).trips) (hn40 : n.toNat ≤ 40) (r : Fin 40) (hr : r.val = k.val)
    (fx : BufOf (F := F) c MX) (fw : BufOf (F := F) c MW) (fs : BufOf (F := F) c MS) (T : BufOf (F := F) c M10) (W) (it : Item) (hT : RowIs c T r it)
    (itn : Option Item) (hnext : match itn with | some i' => ∃ r' : Fin 40, r'.val = k.val + 1 ∧ k.val + 1 < n.toNat ∧ RowIs c T r' i' | none => ¬ k.val + 1 < n.toNat)
    (n0 n1 : Fin 2) (hn0 : n0.val = k.val % 2) (hn1 : n1.val = 1 - k.val % 2) {Q} :
    iprop(held c M10 T ∗ wBefore c it fw fs ∗ xNext c n0 n1 (some it.rows) fx ∗ owes (c : Thread nD τ) 0 W)
    ⊢ iprop((iprop(held c M10 T ∗ wAfter c it fw fs ∗ xNext c n1 n0 (itn.map Item.rows) fx ∗ ∃ W', owes (c : Thread nD τ) 0 W') -∗
        Q ⟨it.w 4, it.chk11, it.w 1, it.chk5, it.w 1, it.w 2, k0_pay5, k0_pay6 (xblk c fx it.st it.hst), k0_pay7 (wblk c fw it.e 0)⟩) -∗
      wp frame (wpE (defs₀ (F := F)) Variants.none c none) Set.univ
      (k0_part2 A0 hA0 MX (Memref.isWhole_whole _) MW (Memref.isWhole_whole _) MS (Memref.isWhole_whole _) A4 hA4 A5 hA5 M6 (Memref.isWhole_whole _) M7 (Memref.isWhole_whole _)
        M8 (Memref.isWhole_whole _) M9 (Memref.isWhole_whole _) M10 (Memref.isWhole_whole _) cc0_scratch5 cc0_scratch6 cc0_scratch7 n hn 0#32 1#32 k) Q) := by
  rw [k0_part2_eq_skeleton, pA1.eq]
  iintro ⟨HT, Hw, Hx, Ho⟩ HQ
  iapply (stretch_A c n hn k hn40 r hr fw fs T W it hT) $$ [HT Hw Ho]
  · isplitl [HT]; · iexact HT
    isplitl [Hw]; · iexact Hw
    iexact Ho
  iintro ⟨HT, ⟨⟨⟨Hc, ⟨%g, Hg⟩⟩, Hs⟩, Hr⟩, ⟨%W', Ho⟩⟩
  iapply (stretch_B c n hn k hn40 r hr fx fw T W' it hT itn hnext n0 n1 hn0 hn1 g) $$ [HT Hx Hg Ho]
  · isplitl [HT]; · iexact HT
    isplitl [Hx]; · iexact Hx
    isplitl [Hg]; · iexact Hg
    iexact Ho
  iintro ⟨HT, Hx, Hg, Ho⟩
  iapply HQ
  isplitl [HT]; · iexact HT
  isplitl [Hc Hg Hs Hr]
  · isplitl [Hc Hg Hs]
    · isplitl [Hc Hg]
      · isplitl [Hc]; · iexact Hc
        iexists g; iexact Hg
      iexact Hs
    iexact Hr
  isplitl [Hx]; · iexact Hx
  iexact Ho

end Cert.Kernel.Hand

end
-- ==== Proof.KSched.lean ====
module

public import proofs.«01_k».proof.Proof.KCnt
public import proofs.«01_k».proof.Proof.K2

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The schedule, over the group sizes as numbers -/

/-- The first row of expert `e`. -/
def lo (g : ℕ → ℕ) : ℕ → ℕ
  | 0 => 0
  | e + 1 => lo g e + g e
/-- The number of items before expert `e`. -/
def nb (g : ℕ → ℕ) : ℕ → ℕ
  | 0 => 0
  | e + 1 => nb g e + cntN (lo g e) (g e)
/-- The weights' slot of expert `e`. -/
def sl (g : ℕ → ℕ) : ℕ → Fin 2
  | 0 => 0
  | e + 1 => if 0 < g e then oth (sl g e) else sl g e

theorem lo_mono (g : ℕ → ℕ) {a b : ℕ} (h : a ≤ b) : lo g a ≤ lo g b := by
  induction h with
  | refl => exact le_refl _
  | step _ ih => exact ih.trans (Nat.le_add_right _ _)
theorem nb_mono (g : ℕ → ℕ) {a b : ℕ} (h : a ≤ b) : nb g a ≤ nb g b := by
  induction h with
  | refl => exact le_refl _
  | step _ ih => exact ih.trans (Nat.le_add_right _ _)
theorem nb_bound (g : ℕ → ℕ) (e : ℕ) : 256 * nb g e ≤ lo g e + 286 * e := by
  induction e with
  | zero => simp [nb]
  | succ e ih =>
    show 256 * (nb g e + cntN (lo g e) (g e)) ≤ lo g e + g e + 286 * (e + 1)
    have : 256 * cntN (lo g e) (g e) ≤ g e + 286 := by unfold cntN; split <;> omega
    omega
theorem gap (g : ℕ → ℕ) {a b : ℕ} (hab : a ≤ b) (h : ∀ y, a ≤ y → y < b → g y = 0) : lo g b = lo g a ∧ nb g b = nb g a ∧ sl g b = sl g a := by
  induction hab with
  | refl => exact ⟨rfl, rfl, rfl⟩
  | @step m hm ih =>
    obtain ⟨h1, h2, h3⟩ := ih fun y hy hy' => h y hy (by omega)
    have h0 : g m = 0 := h m hm (Nat.lt_succ_self _)
    refine ⟨?_, ?_, ?_⟩
    · show lo g m + g m = _; omega
    · show nb g m + cntN (lo g m) (g m) = _; rw [h0, h2]; rfl
    · show (if 0 < g m then oth (sl g m) else sl g m) = _; rw [h0, h3]; rfl
theorem cnt_pos (g : ℕ → ℕ) (e : ℕ) (h : 0 < g e) : 0 < cntN (lo g e) (g e) := by
  unfold cntN; rw [if_pos h]
  omega
theorem pos_of_cnt (g : ℕ → ℕ) (e i : ℕ) (h : i < cntN (lo g e) (g e)) : 0 < g e := by
  unfold cntN at h; split at h
  · assumption
  · omega

/-- The expert after `e` that has rows. -/
def IsNext (g : ℕ → ℕ) (e : ℕ) (x : ℕ) : Prop := e < x ∧ x < 8 ∧ 0 < g x ∧ ∀ y, e < y → y < x → g y = 0
open Classical in
def nxt (g : ℕ → ℕ) (e : ℕ) : Option (Fin 8) := if h : ∃ x, IsNext g e x then some ⟨h.choose, h.choose_spec.2.1⟩ else none

theorem IsNext.unique {g : ℕ → ℕ} {e x x' : ℕ} (h : IsNext g e x) (h' : IsNext g e x') : x = x' := by
  obtain ⟨h1, h2, h3, h4⟩ := h
  obtain ⟨h1', h2', h3', h4'⟩ := h'
  rcases Nat.lt_trichotomy x x' with hl | he | hl
  · have := h4' x h1 hl; omega
  · exact he
  · have := h4 x' h1' hl; omega
theorem nxt_some {g : ℕ → ℕ} {e x : ℕ} (h : IsNext g e x) : nxt g e = some ⟨x, h.2.1⟩ := by
  have hx : ∃ x, IsNext g e x := ⟨x, h⟩
  unfold nxt; rw [dif_pos hx]
  congr 1; apply Fin.ext
  exact hx.choose_spec.unique h
theorem nxt_isNext {g : ℕ → ℕ} {e : ℕ} {x : Fin 8} (h : nxt g e = some x) : IsNext g e x.val := by
  unfold nxt at h; split at h
  · rename_i hx; cases h; exact hx.choose_spec
  · cases h
theorem nxt_none {g : ℕ → ℕ} {e : ℕ} (h : ∀ y, e < y → y < 8 → g y = 0) : nxt g e = none := by
  unfold nxt; rw [dif_neg]
  rintro ⟨x, h1, h2, h3, _⟩
  have := h x h1 h2; omega
theorem none_nxt {g : ℕ → ℕ} {e : ℕ} (h : nxt g e = none) : ∀ y, e < y → y < 8 → g y = 0 := by
  intro y
  induction y using Nat.strong_induction_on with
  | _ y ih =>
    intro h1 h2
    by_contra h0
    have : nxt g e = some ⟨y, h2⟩ := nxt_some ⟨h1, h2, by omega, fun z hz hz' => ih z hz' hz (by omega)⟩
    rw [h] at this; cases this

/-- Item `i` of expert `e`. -/
def item (g : ℕ → ℕ) (e : Fin 8) (i : ℕ) : Item where
  e := e
  st := min (lo g e / 32 * 32 + 256 * i) 5888
  va := min (max (lo g e) (lo g e / 32 * 32 + 256 * i)) 6144
  fi := decide (i = 0)
  s := sl g e
  nx := nxt g e
  hst := by omega
  hd := by omega
  hva := by omega

open Classical in
/-- Item `k` of the table. -/
def seq (g : ℕ → ℕ) (k : ℕ) : Item :=
  if h : ∃ p : Fin 8 × ℕ, p.2 < cntN (lo g p.1) (g p.1) ∧ k = nb g p.1 + p.2 then item g h.choose.1 h.choose.2 else item g 0 0

theorem seq_eq (g : ℕ → ℕ) (e : Fin 8) (i : ℕ) (hi : i < cntN (lo g e) (g e)) : seq g (nb g e + i) = item g e i := by
  have h : ∃ p : Fin 8 × ℕ, p.2 < cntN (lo g p.1) (g p.1) ∧ nb g e + i = nb g p.1 + p.2 := ⟨(e, i), hi, rfl⟩
  unfold seq; rw [dif_pos h]
  obtain ⟨h1, h2⟩ := h.choose_spec
  generalize h.choose = p at h1 h2
  obtain ⟨e', i'⟩ := p
  dsimp only at *
  have key : e'.val = e.val := by
    rcases Nat.lt_trichotomy e'.val e.val with hl | he | hl
    · have := nb_mono g (show e'.val + 1 ≤ e.val from hl)
      have h3 : nb g (e'.val + 1) = nb g e'.val + cntN (lo g e') (g e') := rfl
      omega
    · exact he
    · have := nb_mono g (show e.val + 1 ≤ e'.val from hl)
      have h3 : nb g (e.val + 1) = nb g e.val + cntN (lo g e) (g e) := rfl
      omega
  have key' : e' = e := Fin.ext key
  subst key'
  have : i' = i := by omega
  rw [this]

theorem locate (g : ℕ → ℕ) (e k : ℕ) (he : e ≤ 8) (h : k < nb g e) : ∃ (e' : Fin 8) (i : ℕ), e'.val < e ∧ i < cntN (lo g e') (g e') ∧ k = nb g e' + i := by
  induction e with
  | zero => exact absurd h (by simp [nb])
  | succ e ih =>
    by_cases hk : k < nb g e
    · obtain ⟨e', i, h1, h2, h3⟩ := ih (by omega) hk
      exact ⟨e', i, by omega, h2, h3⟩
    · have h3 : nb g (e + 1) = nb g e + cntN (lo g e) (g e) := rfl
      exact ⟨⟨e, by omega⟩, k - nb g e, Nat.lt_succ_self _, by show k - nb g e < cntN (lo g e) (g e); omega, by show k = nb g e + (k - nb g e); omega⟩

/-- What the loop over the items needs of the table's items. -/
structure Sched (it : ℕ → Item) (n : ℕ) (lo : ℕ → ℕ) : Prop where
  pos : 0 < n
  le : n ≤ 40
  first : (it 0).fi = true ∧ (it 0).s = 0 ∧ (it 0).va = 0
  step : ∀ k, k + 1 < n → ((it (k + 1)).fi = false ∧ (it (k + 1)).e = (it k).e ∧ (it (k + 1)).s = (it k).s ∧ (it (k + 1)).nx = (it k).nx)
    ∨ ((it (k + 1)).fi = true ∧ (it (k + 1)).s = oth (it k).s ∧ (it k).nx = some (it (k + 1)).e)
  last : ∀ k, k + 1 = n → (it k).nx = none
  lower : ∀ k, k < n → (it k).st ≤ (it k).va ∧ lo (it k).e.val ≤ (it k).va
  upper : ∀ k, k + 1 < n → (it (k + 1)).va ≤ (it k).st + 256 ∧ (it (k + 1)).va ≤ lo ((it k).e.val + 1)
  final : ∀ k, k + 1 = n → 6144 ≤ (it k).st + 256 ∧ 6144 ≤ lo ((it k).e.val + 1)

/-- How the item after item `i` of expert `e` is found. -/
theorem next_cases (g : ℕ → ℕ) (hs : lo g 8 = 6144) (e : Fin 8) (i : ℕ) (hi : i < cntN (lo g e) (g e)) :
    (i + 1 < cntN (lo g e) (g e) ∧ seq g (nb g e + i + 1) = item g e (i + 1))
    ∨ (i + 1 = cntN (lo g e) (g e) ∧ ∃ x : Fin 8, nxt g e = some x ∧ seq g (nb g e + i + 1) = item g x 0 ∧ lo g x = lo g (e + 1) ∧ sl g x = oth (sl g e) ∧ nb g e + i + 1 < nb g 8)
    ∨ (i + 1 = cntN (lo g e) (g e) ∧ nxt g e = none ∧ nb g e + i + 1 = nb g 8 ∧ lo g (e + 1) = 6144) := by
  by_cases h : i + 1 < cntN (lo g e) (g e)
  · exact .inl ⟨h, seq_eq g e (i + 1) h⟩
  have hi1 : i + 1 = cntN (lo g e) (g e) := by omega
  have hn : nb g e + i + 1 = nb g (e + 1) := by show _ = nb g e + cntN (lo g e) (g e); omega
  have hpe := pos_of_cnt g e i hi
  have hsl : sl g (e + 1) = oth (sl g e) := by show (if 0 < g e then oth (sl g e) else sl g e) = _; rw [if_pos hpe]
  cases hx : nxt g e with
  | some x =>
    obtain ⟨h1, h2, h3, h4⟩ := nxt_isNext hx
    obtain ⟨g1, g2, g3⟩ := gap g (show e.val + 1 ≤ x.val from h1) fun y hy hy' => h4 y hy hy'
    refine .inr (.inl ⟨hi1, x, rfl, ?_, g1, g3.trans hsl, ?_⟩)
    · rw [hn, ← g2]; exact seq_eq g x 0 (cnt_pos g x h3)
    · have := nb_mono g (show x.val + 1 ≤ 8 from x.isLt)
      have h5 : nb g (x.val + 1) = nb g x.val + cntN (lo g x) (g x) := rfl
      have := cnt_pos g x h3
      omega
  | none =>
    obtain ⟨g1, g2, _⟩ := gap g (show e.val + 1 ≤ 8 from e.isLt) fun y hy hy' => none_nxt hx y hy hy'
    exact .inr (.inr ⟨hi1, rfl, by omega, by omega⟩)

theorem sched (g : ℕ → ℕ) (hs : lo g 8 = 6144) : Sched (seq g) (nb g 8) (lo g) := by
  have hfirst : ∃ e : Fin 8, 0 < g e ∧ ∀ y, y < e.val → g y = 0 := by
    by_contra hc
    have h0 : ∀ y, y < 8 → g y = 0 := by
      intro y
      induction y using Nat.strong_induction_on with
      | _ y ih =>
        intro hy
        by_contra h0
        exact hc ⟨⟨y, hy⟩, by show 0 < g y; omega, fun z hz => ih z hz (lt_trans hz hy)⟩
    have := (gap g (Nat.zero_le 8) fun y _ hy => h0 y hy).1
    rw [hs] at this; exact absurd this (by show ¬ 6144 = 0; decide)
  obtain ⟨e0, hp0, hz0⟩ := hfirst
  obtain ⟨a1, a2, a3⟩ := gap g (Nat.zero_le e0.val) fun y _ hy => hz0 y hy
  have a1 : lo g e0 = 0 := a1
  have a2 : nb g e0 = 0 := a2
  have a3 : sl g e0 = 0 := a3
  have hseq0 : seq g 0 = item g e0 0 := by
    have := seq_eq g e0 0 (cnt_pos g e0 hp0)
    rwa [a2] at this
  have hlo : ∀ e : Fin 8, lo g e + g e ≤ 6144 := fun e => by
    have := lo_mono g (show e.val + 1 ≤ 8 from e.isLt)
    have h1 : lo g (e.val + 1) = lo g e + g e := rfl
    omega
  have hfin : ∀ (e : Fin 8) (i : ℕ), i < cntN (lo g e) (g e) → lo g e / 32 * 32 + 256 * i < lo g e + g e := by
    intro e i hi
    unfold cntN at hi; split at hi <;> omega
  have hend : ∀ (e : Fin 8) (i : ℕ), i + 1 = cntN (lo g e) (g e) → lo g e + g e ≤ lo g e / 32 * 32 + 256 * i + 256 := by
    intro e i hi
    unfold cntN at hi; split at hi <;> omega
  refine ⟨?_, ?_, ?_, ?_, ?_, ?_, ?_, ?_⟩
  · have := nb_mono g (show e0.val + 1 ≤ 8 from e0.isLt)
    have h5 : nb g (e0.val + 1) = nb g e0.val + cntN (lo g e0) (g e0) := rfl
    have := cnt_pos g e0 hp0
    omega
  · have := nb_bound g 8; omega
  · rw [hseq0]
    refine ⟨rfl, a3, ?_⟩
    show min (max (lo g e0) (lo g e0 / 32 * 32 + 256 * 0)) 6144 = 0
    rw [a1]; rfl
  · intro k hk
    obtain ⟨e, i, _, hi, rfl⟩ := locate g 8 k (le_refl _) (by omega)
    rw [seq_eq g e i hi]
    rcases next_cases g hs e i hi with ⟨h1, h2⟩ | ⟨h1, x, h2, h3, h4, h5, _⟩ | ⟨h1, h2, h3, _⟩
    · rw [h2]; exact .inl ⟨(show decide (i + 1 = 0) = false from decide_eq_false (by omega)), rfl, rfl, rfl⟩
    · rw [h3]; exact .inr ⟨rfl, h5, h2⟩
    · omega
  · intro k hk
    obtain ⟨e, i, _, hi, rfl⟩ := locate g 8 k (le_refl _) (by omega)
    rw [seq_eq g e i hi]
    rcases next_cases g hs e i hi with ⟨h1, h2⟩ | ⟨h1, x, h2, h3, h4, h5, h6⟩ | ⟨h1, h2, h3, _⟩
    · have := nb_mono g (show e.val + 1 ≤ 8 from e.isLt)
      have h5 : nb g (e.val + 1) = nb g e.val + cntN (lo g e) (g e) := rfl
      omega
    · omega
    · exact h2
  · intro k hk
    obtain ⟨e, i, _, hi, rfl⟩ := locate g 8 k (le_refl _) hk
    rw [seq_eq g e i hi]
    have := hfin e i hi
    have := hlo e
    constructor
    · show min (lo g e / 32 * 32 + 256 * i) 5888 ≤ min (max (lo g e) (lo g e / 32 * 32 + 256 * i)) 6144; omega
    · show lo g e ≤ min (max (lo g e) (lo g e / 32 * 32 + 256 * i)) 6144; omega
  · intro k hk
    obtain ⟨e, i, _, hi, rfl⟩ := locate g 8 k (le_refl _) (by omega)
    have h1lo : lo g (e.val + 1) = lo g e + g e := rfl
    have := hlo e
    rw [seq_eq g e i hi]
    rcases next_cases g hs e i hi with ⟨h1, h2⟩ | ⟨h1, x, h2, h3, h4, h5, _⟩ | ⟨h1, h2, h3, _⟩
    · rw [h2]
      have := hfin e (i + 1) h1
      constructor
      · show min (max (lo g e) (lo g e / 32 * 32 + 256 * (i + 1))) 6144 ≤ min (lo g e / 32 * 32 + 256 * i) 5888 + 256; omega
      · show min (max (lo g e) (lo g e / 32 * 32 + 256 * (i + 1))) 6144 ≤ lo g (e.val + 1); omega
    · rw [h3]
      have := hend e i h1
      constructor
      · show min (max (lo g x) (lo g x / 32 * 32 + 256 * 0)) 6144 ≤ min (lo g e / 32 * 32 + 256 * i) 5888 + 256; omega
      · show min (max (lo g x) (lo g x / 32 * 32 + 256 * 0)) 6144 ≤ lo g (e.val + 1); omega
    · omega
  · intro k hk
    obtain ⟨e, i, _, hi, rfl⟩ := locate g 8 k (le_refl _) (by omega)
    have h1lo : lo g (e.val + 1) = lo g e + g e := rfl
    rw [seq_eq g e i hi]
    rcases next_cases g hs e i hi with ⟨h1, h2⟩ | ⟨h1, x, h2, h3, h4, h5, h6⟩ | ⟨h1, h2, h3, h4⟩
    · have := nb_mono g (show e.val + 1 ≤ 8 from e.isLt)
      have h5 : nb g (e.val + 1) = nb g e.val + cntN (lo g e) (g e) := rfl
      omega
    · omega
    · have := hend e i h1
      constructor
      · show 6144 ≤ min (lo g e / 32 * 32 + 256 * i) 5888 + 256; omega
      · show 6144 ≤ lo g (e.val + 1); omega

/-! ## The search for the next expert, as the program's word -/

def NxtW (g : ℕ → ℕ) (e m : ℕ) (w : BitVec 32) : Prop :=
  (w = 4294967295#32 ∧ ∀ y, e < y → y < m → g y = 0) ∨ (∃ x, x < m ∧ IsNext g e x ∧ w = BitVec.ofNat 32 x)

theorem NxtW.fin {g : ℕ → ℕ} {e : Fin 8} {w : BitVec 32} (h : NxtW g e 8 w) (i : ℕ) : w = (item g e i).w 5 := by
  rcases h with ⟨rfl, h⟩ | ⟨x, _, h, rfl⟩
  · show _ = (match nxt g e with | some x => BitVec.ofNat 32 x.val | none => 4294967295#32)
    rw [nxt_none h]
  · show _ = (match nxt g e with | some x => BitVec.ofNat 32 x.val | none => 4294967295#32)
    rw [nxt_some h]

theorem NxtW.step {g : ℕ → ℕ} {e m : ℕ} {w gw : BitVec 32} (h : NxtW g e m w) (hm : m < 8) (hem : e < m) (hg : gw.toNat = g m) (hgl : g m ≤ 6144) :
    NxtW g e (m + 1) (Scalar.select (Scalar.andi (Scalar.cmpi .slt w 0#32) (Scalar.cmpi .sgt gw 0#32)) (BitVec.ofNat 32 m) w) := by
  rw [cmp_pos gw (by omega), hg]
  rcases h with ⟨rfl, h⟩ | ⟨x, hx, h, rfl⟩
  · by_cases hp : 0 < g m
    · simp only [hp, decide_true]
      exact .inr ⟨m, Nat.lt_succ_self _, ⟨hem, hm, hp, h⟩, rfl⟩
    · simp only [hp, decide_false]
      refine .inl ⟨rfl, fun y hy hy' => ?_⟩
      rcases Nat.lt_or_ge y m with hl | hl
      · exact h y hy hl
      · have : y = m := by omega
        subst this; omega
  · have h0 : ∀ (x : Fin 8) (b : Bool) (v : BitVec 32), Scalar.select (Scalar.andi (Scalar.cmpi .slt (BitVec.ofNat 32 x.val) 0#32) (BitVec.ofBool b)) v (BitVec.ofNat 32 x.val) = BitVec.ofNat 32 x.val := by
      intro x b v
      have : ∀ (x : Fin 8) (b : Bool), Scalar.andi (Scalar.cmpi .slt (BitVec.ofNat 32 x.val) 0#32) (BitVec.ofBool b) = 0#1 := by decide
      rw [this]; rfl
    rw [h0 ⟨x, h.2.1⟩]
    exact .inr ⟨x, by omega, h, rfl⟩

end Cert.Kernel.Hand

end
-- ==== Proof.KTab.lean ====
module

public import proofs.«01_k».proof.Proof.KSched
public import proofs.«01_k».proof.Proof.Gen.Kernel.Loops

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

/-- The size of group `e`, as the word the body reads. -/
def gw (A0 : Memref sig .tc .smem S8 .i32) (f0 : BufOf (F := F) c A0) (e : Fin 8) : BitVec 32 := A0.view.read (Elt F) f0 (ix1 e)

theorem gw_of_load (A0 : Memref sig .tc .smem S8 .i32) (f0 : BufOf (F := F) c A0) (off : Fin 1 → ℕ) (h : ∀ a, off a + S1.size a ≤ S8.size a) (hp) (e : Fin 8)
    (he : off = ![e.val]) :
    View.readAt (Elt F) A0.view (Rect.unit (s := S8) off S1.size h).toLoadRect f0 (Shape.Idx.first hp) = gw c A0 f0 e := by
  subst he
  rw [View.readAt_apply]
  refine congrArg (A0.view.read (Elt F) f0) ?_
  funext a; apply Fin.ext; fin_cases a
  show e.val + 1 * 0 = e.val; omega

theorem trips1 : k0_t1_loop.trips = 8 := by decide
theorem trips2 (e : Fin k0_t1_loop.trips) : (k0_t2_loop e).trips = 7 - e.val := by
  revert e; decide
theorem trips3 (e : Fin k0_t1_loop.trips) : (k0_t3_loop e).trips = 0 := by
  revert e; decide
theorem off2_eq : ∀ (e : Fin k0_t1_loop.trips) (j : Fin (k0_t2_loop e).trips), k0_off2 e j = ![e.val + 1 + j.val] := by decide
theorem iv2_eq : ∀ (e : Fin k0_t1_loop.trips) (j : Fin (k0_t2_loop e).trips), Scf.iv (Scalar.addi (Scf.iv 0#32 1#32 e.val) 1#32) 1#32 j.val = BitVec.ofNat 32 (e.val + 1 + j.val) := by decide

/-- The state of the search. -/
abbrev inv2 (A0 : Memref sig .tc .smem S8 .i32) (f0 : BufOf (F := F) c A0) (g : ℕ → ℕ) (e : ℕ) (j : ℕ) (w : BitVec 32) : sProp 𝕄 :=
  iprop(own c A0 f0 ∗ ⌜NxtW g e (e + 1 + j) w⌝)

theorem step2 (A0 : Memref sig .tc .smem S8 .i32) (hA0 : A0.IsWhole) (A4 : Memref sig .tc .vmem S6144x1024 .fp8e4m3) (hA4 : A4.IsWhole) (A5 : Memref sig .tc .vmem S6144x1 .f32) (hA5 : A5.IsWhole)
    (f0 : BufOf (F := F) c A0) (g : ℕ → ℕ) (hg : ∀ e : Fin 8, (gw c A0 f0 e).toNat = g e) (hgl : ∀ e : Fin 8, g e ≤ 6144)
    (e : Fin k0_t1_loop.trips) (a15 a16 : BitVec 32) (j : Fin (k0_t2_loop e).trips) (w : BitVec 32) :
    inv2 c A0 f0 g e.val j.val w ⊢ wp frame (wpE (defs₀ (F := F)) Variants.none c none) Set.univ
      (k0_t2_body A0 hA0 MX (Memref.isWhole_whole _) MW (Memref.isWhole_whole _) MS (Memref.isWhole_whole _) A4 hA4 A5 hA5 M6 (Memref.isWhole_whole _) M7 (Memref.isWhole_whole _) M8 (Memref.isWhole_whole _) M9 (Memref.isWhole_whole _) M10 (Memref.isWhole_whole _) cc0_scratch5 cc0_scratch6 cc0_scratch7 0#32 1#32 e a15 a16 (Scalar.addi (Scf.iv 0#32 1#32 e.val) 1#32) j w)
      (inv2 c A0 f0 g e.val (j.val + 1)) := by
  have he := lt_of_lt_of_eq e.isLt trips1
  have hj := lt_of_lt_of_eq j.isLt (trips2 e)
  have hm : e.val + 1 + j.val < 8 := by omega
  iintro ⟨H0, %hw⟩
  unfold k0_t2_body
  sl_exec
  have e1 : step2.sl.r c A0 f0 e j = gw c A0 f0 ⟨e.val + 1 + j.val, hm⟩ := gw_of_load c A0 f0 _ _ _ ⟨_, hm⟩ (off2_eq e j)
  have e2 : step2.sl.v79 c A0 f0 e j w = Scalar.select (Scalar.andi (Scalar.cmpi .slt w 0#32) (Scalar.cmpi .sgt (step2.sl.r c A0 f0 e j) 0#32))
    (Scf.iv (Scalar.addi (Scf.iv 0#32 1#32 e.val) 1#32) 1#32 j.val) w := rfl
  rw [e2, e1, iv2_eq e j]
  simp only [wp_ret]; imodintro
  isplitl [H0]; · iexact H0
  ipureintro
  exact hw.step hm (by omega) (hg ⟨_, hm⟩) (hgl ⟨_, hm⟩)

theorem tw_write (T : BufOf (F := F) c M10) (L) (off : Fin 2 → ℕ) (h : ∀ a, off a + S1x1.size a ≤ S40x8.size a) (w : BitVec 32) (r r' : Fin 40) (j j' : Fin 8)
    (he : off = ![r'.val, j'.val]) :
    tw c (M10.view.writes (Elt F) T (⟨Rect.unit (s := S40x8) off S1x1.size h, fun _ => w⟩ :: L)) r j = if r = r' ∧ j = j' then w else tw c (M10.view.writes (Elt F) T L) r j := by
  subst he
  unfold tw
  by_cases hc : r = r' ∧ j = j'
  · rw [if_pos hc]
    obtain ⟨rfl, rfl⟩ := hc
    refine (View.read_writes_cons_unit_of_mem _ _ _ _ _ (ix2 r j) (ix2 (0 : Fin 1) (0 : Fin 1)) rfl fun a => ?_).trans rfl
    fin_cases a
    · show r.val = r.val + 0; omega
    · show j.val = j.val + 0; omega
  · rw [if_neg hc]
    by_cases hr : r = r'
    · have hj : j ≠ j' := fun hj => hc ⟨hr, hj⟩
      refine View.read_writes_cons_unit_of_not_mem _ _ _ _ _ (ix2 r j) rfl 1 ?_
      show j.val < j'.val ∨ j'.val + 1 ≤ j.val
      have : j.val ≠ j'.val := fun h => hj (Fin.ext h)
      omega
    · refine View.read_writes_cons_unit_of_not_mem _ _ _ _ _ (ix2 r j) rfl 0 ?_
      show r.val < r'.val ∨ r'.val + 1 ≤ r.val
      have : r.val ≠ r'.val := fun h => hr (Fin.ext h)
      omega

theorem RowIs.congr {T T' : BufOf (F := F) c M10} {r : Fin 40} {it : Item} (h : RowIs c T r it) (hs : ∀ j, tw c T' r j = tw c T r j) : RowIs c T' r it := by
  obtain ⟨h0, h1, h2, h3, h4, h5⟩ := h
  exact ⟨(hs _).trans h0, (hs _).trans h1, (hs _).trans h2, (hs _).trans h3, (hs _).trans h4, (hs _).trans h5⟩

theorem trip4 (A0 : Memref sig .tc .smem S8 .i32) (hA0 : A0.IsWhole) (A4 : Memref sig .tc .vmem S6144x1024 .fp8e4m3) (hA4 : A4.IsWhole) (A5 : Memref sig .tc .vmem S6144x1 .f32) (hA5 : A5.IsWhole)
    (T : BufOf (F := F) c M10) (a15 a16 a17 a14 v30 : BitVec 32) (hc1 : k0_chk1 a15 a16 v30) (v32 v62 : BitVec 32) (j : Fin (k0_t4_loop a15 v30).trips) (w : BitVec 32)
    (r : Fin 40) (hr : (Scalar.addi a16 (Scf.iv 0#32 1#32 j.val)).toNat = r.val) (it : Item)
    (h0 : a14 = it.w 0) (h1 : Scalar.minsi (Scalar.addi v32 (Scalar.muli (Scf.iv 0#32 1#32 j.val) 256#32)) 5888#32 = it.w 1)
    (h2 : Scalar.maxsi a15 (Scalar.addi v32 (Scalar.muli (Scf.iv 0#32 1#32 j.val) 256#32)) = it.w 2)
    (h3 : Scalar.select (Scalar.cmpi .eq (Scf.iv 0#32 1#32 j.val) 0#32) 1#32 0#32 = it.w 3) (h4 : a17 = it.w 4) (h5 : v62 = it.w 5) :
    held c M10 T ⊢ wp frame (wpE (defs₀ (F := F)) Variants.none c none) Set.univ
      (k0_t4_body A0 hA0 MX (Memref.isWhole_whole _) MW (Memref.isWhole_whole _) MS (Memref.isWhole_whole _) A4 hA4 A5 hA5 M6 (Memref.isWhole_whole _) M7 (Memref.isWhole_whole _) M8 (Memref.isWhole_whole _) M9 (Memref.isWhole_whole _) M10 (Memref.isWhole_whole _) cc0_scratch5 cc0_scratch6 cc0_scratch7 a15 a16 a17 a14 v30 hc1 v32 v62 0#32 j w)
      (fun _ => iprop(∃ T', held c M10 T' ∗ ⌜(∀ r', r' ≠ r → ∀ j, tw c T' r' j = tw c T r' j) ∧ RowIs c T' r it⌝)) := by
  iintro HT
  unfold k0_t4_body
  sl_exec
  simp only [wp_ret]; imodintro
  iexists _
  isplitl [HT]; · iexact HT
  ipureintro
  have o : ∀ q : Fin 8, (![(Scalar.addi a16 (Scf.iv 0#32 1#32 j.val)).toNat, q.val] : Fin 2 → ℕ) = ![r.val, q.val] := by intro q; rw [hr]
  have key : ∀ r' q, tw c (M10.view.writes (Elt F) T
      (⟨Rect.unit (s := S40x8) (k0_off9 a15 a16 v30 j) S1x1.size (k0_off9_inb a15 a16 v30 hc1 j), fun _ => v62⟩ :: trip4.sl.HT_5 a15 a16 a17 a14 v30 hc1 v32 j)) r' q
      = if r' = r ∧ q = 5 then v62 else if r' = r ∧ q = 4 then a17 else if r' = r ∧ q = 3 then Scalar.select (Scalar.cmpi .eq (Scf.iv 0#32 1#32 j.val) 0#32) 1#32 0#32
        else if r' = r ∧ q = 2 then Scalar.maxsi a15 (Scalar.addi v32 (Scalar.muli (Scf.iv 0#32 1#32 j.val) 256#32))
        else if r' = r ∧ q = 1 then Scalar.minsi (Scalar.addi v32 (Scalar.muli (Scf.iv 0#32 1#32 j.val) 256#32)) 5888#32
        else if r' = r ∧ q = 0 then a14 else tw c T r' q := by
    intro r' q
    refine (tw_write c T _ _ _ _ r' r q 5 (o 5)).trans ?_
    congr 1
    refine (tw_write c T _ _ _ _ r' r q 4 (o 4)).trans ?_
    congr 1
    refine (tw_write c T _ _ _ _ r' r q 3 (o 3)).trans ?_
    congr 1
    refine (tw_write c T _ _ _ _ r' r q 2 (o 2)).trans ?_
    congr 1
    refine (tw_write c T _ _ _ _ r' r q 1 (o 1)).trans ?_
    congr 1
    exact tw_write c T _ _ _ _ r' r q 0 (o 0)
  refine ⟨fun r' hne q => ?_, ?_, ?_, ?_, ?_, ?_, ?_⟩
  · rw [key]; simp [hne]
  · rw [key, if_neg (fun h => absurd h.2 (by decide)), if_neg (fun h => absurd h.2 (by decide)), if_neg (fun h => absurd h.2 (by decide)), if_neg (fun h => absurd h.2 (by decide)), if_neg (fun h => absurd h.2 (by decide)), if_pos ⟨rfl, rfl⟩]; exact h0
  · rw [key, if_neg (fun h => absurd h.2 (by decide)), if_neg (fun h => absurd h.2 (by decide)), if_neg (fun h => absurd h.2 (by decide)), if_neg (fun h => absurd h.2 (by decide)), if_pos ⟨rfl, rfl⟩]; exact h1
  · rw [key, if_neg (fun h => absurd h.2 (by decide)), if_neg (fun h => absurd h.2 (by decide)), if_neg (fun h => absurd h.2 (by decide)), if_pos ⟨rfl, rfl⟩]; exact h2
  · rw [key, if_neg (fun h => absurd h.2 (by decide)), if_neg (fun h => absurd h.2 (by decide)), if_pos ⟨rfl, rfl⟩]; exact h3
  · rw [key, if_neg (fun h => absurd h.2 (by decide)), if_pos ⟨rfl, rfl⟩]; exact h4
  · rw [key, if_pos ⟨rfl, rfl⟩]; exact h5

/-! ## The words of an item -/

theorem ofNat_toNat' (w : BitVec 32) (n : ℕ) (h : w.toNat = n) : w = BitVec.ofNat 32 n := by subst h; simp

theorem block_toNat (a : BitVec 32) (i : ℕ) (ha : a.toNat ≤ 6144) (hi : i < 40) :
    (Scalar.addi (strip a) (Scalar.muli (Scf.iv 0#32 1#32 i) 256#32)).toNat = a.toNat / 32 * 32 + 256 * i := by
  rw [iv_eq i hi]
  show (strip a + BitVec.ofNat 32 i * 256#32).toNat = _
  have := strip_toNat a
  rw [BitVec.toNat_add, BitVec.toNat_mul, this, BitVec.toNat_ofNat]
  show _ = _
  have : (256#32).toNat = 256 := rfl
  rw [this]; omega
theorem toInt_small (w : BitVec 32) (h : w.toNat < 2 ^ 31) : w.toInt = w.toNat := by rw [BitVec.toInt_eq_toNat_cond]; omega
theorem minsi_toNat (x y : BitVec 32) (hx : x.toNat < 2 ^ 31) (hy : y.toNat < 2 ^ 31) : (Scalar.minsi x y).toNat = min x.toNat y.toNat := by
  show (if x.slt y then x else y).toNat = _
  rw [BitVec.slt_eq_decide, toInt_small x hx, toInt_small y hy]
  by_cases h : x.toNat < y.toNat
  · rw [if_pos (by simpa using h)]; omega
  · rw [if_neg (by simpa using h)]; omega
theorem maxsi_toNat (x y : BitVec 32) (hx : x.toNat < 2 ^ 31) (hy : y.toNat < 2 ^ 31) : (Scalar.maxsi x y).toNat = max x.toNat y.toNat := by
  show (if y.slt x then x else y).toNat = _
  rw [BitVec.slt_eq_decide, toInt_small x hx, toInt_small y hy]
  by_cases h : y.toNat < x.toNat
  · rw [if_pos (by simpa using h)]; omega
  · rw [if_neg (by simpa using h)]; omega

theorem item_w1 (g : ℕ → ℕ) (e : Fin 8) (i : ℕ) (a : BitVec 32) (ha : a.toNat = lo g e) (hl : lo g e ≤ 6144) (hi : i < 40) :
    Scalar.minsi (Scalar.addi (strip a) (Scalar.muli (Scf.iv 0#32 1#32 i) 256#32)) 5888#32 = (item g e i).w 1 := by
  have hb := block_toNat a i (by omega) hi
  refine ofNat_toNat' _ _ ?_
  rw [minsi_toNat _ _ (by rw [hb]; omega) (by decide), hb, ha]; rfl
theorem item_w2 (g : ℕ → ℕ) (e : Fin 8) (i : ℕ) (a : BitVec 32) (ha : a.toNat = lo g e) (hl : lo g e ≤ 6144) (hi : i < 40)
    (hle : lo g e / 32 * 32 + 256 * i ≤ 6144) :
    Scalar.maxsi a (Scalar.addi (strip a) (Scalar.muli (Scf.iv 0#32 1#32 i) 256#32)) = (item g e i).w 2 := by
  have hb := block_toNat a i (by omega) hi
  refine ofNat_toNat' _ _ ?_
  rw [maxsi_toNat _ _ (by omega) (by rw [hb]; omega), hb, ha]
  show _ = min (max (lo g e) (lo g e / 32 * 32 + 256 * i)) 6144
  omega
theorem item_w3 (g : ℕ → ℕ) (e : Fin 8) (i : ℕ) (hi : i < 40) :
    Scalar.select (Scalar.cmpi .eq (Scf.iv 0#32 1#32 i) 0#32) 1#32 0#32 = (item g e i).w 3 := by
  show _ = if decide (i = 0) then 1#32 else 0#32
  interval_cases i <;> decide

/-- The rows of the experts before `e` are in the table. -/
def Rows (g : ℕ → ℕ) (T : BufOf (F := F) c M10) (e : ℕ) : Prop :=
  ∀ e' : Fin 8, e'.val < e → ∀ i, i < cntN (lo g e') (g e') → ∀ r : Fin 40, r.val = nb g e' + i → RowIs c T r (item g e' i)

/-- The state of the filling of expert `e`'s rows. -/
abbrev inv4 (g : ℕ → ℕ) (e : Fin 8) (i : ℕ) (_w : BitVec 32) : sProp 𝕄 :=
  iprop(∃ T : BufOf (F := F) c M10, held c M10 T ∗ ⌜Rows c g T e.val ∧ ∀ i', i' < i → ∀ r : Fin 40, r.val = nb g e + i' → RowIs c T r (item g e i')⌝)

theorem step4 (A0 : Memref sig .tc .smem S8 .i32) (hA0 : A0.IsWhole) (A4 : Memref sig .tc .vmem S6144x1024 .fp8e4m3) (hA4 : A4.IsWhole) (A5 : Memref sig .tc .vmem S6144x1 .f32) (hA5 : A5.IsWhole)
    (g : ℕ → ℕ) (hs : lo g 8 = 6144) (e : Fin 8) (a15 a16 a17 a14 v30 : BitVec 32) (hc1 : k0_chk1 a15 a16 v30) (v62 : BitVec 32)
    (h15 : a15.toNat = lo g e) (h16 : a16.toNat = nb g e) (h17 : a17 = BitVec.ofNat 32 (sl g e).val) (h14 : a14 = BitVec.ofNat 32 e.val) (h30 : v30.toNat = g e)
    (h62 : NxtW g e 8 v62) (j : Fin (k0_t4_loop a15 v30).trips) (w : BitVec 32) :
    inv4 (F := F) c g e j.val w ⊢ wp frame (wpE (defs₀ (F := F)) Variants.none c none) Set.univ
      (k0_t4_body A0 hA0 MX (Memref.isWhole_whole _) MW (Memref.isWhole_whole _) MS (Memref.isWhole_whole _) A4 hA4 A5 hA5 M6 (Memref.isWhole_whole _) M7 (Memref.isWhole_whole _) M8 (Memref.isWhole_whole _) M9 (Memref.isWhole_whole _) M10 (Memref.isWhole_whole _) cc0_scratch5 cc0_scratch6 cc0_scratch7 a15 a16 a17 a14 v30 hc1 (strip a15) v62 0#32 j w)
      (inv4 c g e (j.val + 1)) := by
  have hle := lo_mono g (show e.val + 1 ≤ 8 from e.isLt)
  have h1 : lo g (e.val + 1) = lo g e + g e := rfl
  have hnb := nb_mono g (show e.val + 1 ≤ 8 from e.isLt)
  have h2 : nb g (e.val + 1) = nb g e + cntN (lo g e) (g e) := rfl
  have hb := nb_bound g 8
  have hj := lt_of_lt_of_eq j.isLt (trips4 a15 v30 (by omega))
  rw [h15, h30] at hj
  have hj' : lo g e / 32 * 32 + 256 * j.val ≤ 6144 := by
    unfold cntN at hj; split at hj <;> omega
  have hr : nb g e + j.val < 40 := by omega
  iintro ⟨%T, HT, %hT⟩
  obtain ⟨hR, hI⟩ := hT
  iapply (wp_wand_r Idealize.ShloMosaic.frame (wpE (defs₀ (F := F)) Variants.none (c : Thread nD τ) none) Set.univ)
  isplitl [HT]
  · iapply (trip4 c A0 hA0 A4 hA4 A5 hA5 T a15 a16 a17 a14 v30 hc1 (strip a15) v62 j w ⟨nb g e + j.val, hr⟩ (by rw [row_toNat _ _ (by omega), h16]) (item g e j.val)
      h14 (item_w1 g e j.val a15 h15 (by omega) (by omega)) (item_w2 g e j.val a15 h15 (by omega) (by omega) hj') (item_w3 g e j.val (by omega)) h17 (h62.fin j.val))
    iexact HT
  iintro %w' ⟨%T', HT, %h⟩
  obtain ⟨ho, hn⟩ := h
  iexists T'
  isplitl [HT]; · iexact HT
  ipureintro
  refine ⟨fun e' he' i hi r hr' => (hR e' he' i hi r hr').congr c (ho r ?_), fun i' hi' r hr' => ?_⟩
  · rintro rfl
    have h3 : nb g (e'.val + 1) = nb g e' + cntN (lo g e') (g e') := rfl
    have := nb_mono g (show e'.val + 1 ≤ e.val from he')
    have : nb g e + j.val = nb g e' + i := hr'
    omega
  · by_cases hc : i' = j.val
    · subst hc
      have : r = ⟨nb g e + j.val, hr⟩ := Fin.ext hr'
      rw [this]; exact hn
    · refine (hI i' (by omega) r hr').congr c (ho r ?_)
      rintro rfl
      have : nb g e + j.val = nb g e + i' := hr'
      omega

abbrev inv1 (A0 : Memref sig .tc .smem S8 .i32) (f0 : BufOf (F := F) c A0) (g : ℕ → ℕ) (e : ℕ) (a : BitVec 32 × BitVec 32 × BitVec 32) : sProp 𝕄 :=
  iprop(own c A0 f0 ∗ (∃ T : BufOf (F := F) c M10, held c M10 T ∗ ⌜Rows c g T e⌝)
    ∗ ⌜a.1.toNat = lo g e ∧ a.2.1.toNat = nb g e ∧ a.2.2 = BitVec.ofNat 32 (sl g e).val⌝)

theorem off1_eq : ∀ e : Fin k0_t1_loop.trips, k0_off1 e = ![e.val] := by decide
theorem iv1_eq : ∀ e : Fin k0_t1_loop.trips, Scf.iv 0#32 1#32 e.val = BitVec.ofNat 32 e.val := by decide

theorem step1 (A0 : Memref sig .tc .smem S8 .i32) (hA0 : A0.IsWhole) (A4 : Memref sig .tc .vmem S6144x1024 .fp8e4m3) (hA4 : A4.IsWhole) (A5 : Memref sig .tc .vmem S6144x1 .f32) (hA5 : A5.IsWhole)
    (f0 : BufOf (F := F) c A0) (g : ℕ → ℕ) (hg : ∀ e : Fin 8, (gw c A0 f0 e).toNat = g e) (hs : lo g 8 = 6144)
    (e : Fin k0_t1_loop.trips) (a : BitVec 32 × BitVec 32 × BitVec 32) :
    inv1 c A0 f0 g e.val a ⊢ wp frame (wpE (defs₀ (F := F)) Variants.none c none) Set.univ
      (k0_t1_body A0 hA0 MX (Memref.isWhole_whole _) MW (Memref.isWhole_whole _) MS (Memref.isWhole_whole _) A4 hA4 A5 hA5 M6 (Memref.isWhole_whole _) M7 (Memref.isWhole_whole _) M8 (Memref.isWhole_whole _) M9 (Memref.isWhole_whole _) M10 (Memref.isWhole_whole _) cc0_scratch5 cc0_scratch6 cc0_scratch7 e a)
      (inv1 c A0 f0 g (e.val + 1)) := by
  have he := lt_of_lt_of_eq e.isLt trips1
  have hgl : ∀ e : Fin 8, lo g e + g e ≤ 6144 := fun e => by
    have := lo_mono g (show e.val + 1 ≤ 8 from e.isLt)
    have h1 : lo g (e.val + 1) = lo g e + g e := rfl
    omega
  have hgl' := fun e : Fin 8 => (show g e ≤ 6144 from by have := hgl e; omega)
  obtain ⟨a15, a16, a17⟩ := a
  iintro ⟨H0, ⟨%T, HT, %hR⟩, %ha⟩
  obtain ⟨h15, h16, h17⟩ := ha
  dsimp only at h15 h16 h17
  have h30 := hg ⟨e.val, he⟩
  have hle := hgl ⟨e.val, he⟩
  have hlt := lo_mono g (show e.val + 1 ≤ 8 from he)
  have hnb := nb_mono g (show e.val + 1 ≤ 8 from he)
  have h2 : nb g (e.val + 1) = nb g e + cntN (lo g e) (g e) := rfl
  have hb := nb_bound g 8
  have hc1 : k0_chk1 a15 a16 (gw c A0 f0 ⟨e.val, he⟩) := chk1 _ _ _ (by rw [h15, h30]; exact hle) (by rw [h15, h16, h30]; show nb g e.val + cntN (lo g e.val) (g e.val) ≤ 40; omega)
  unfold k0_t1_body
  rw [wp_bind, k0_part1_eq_skeleton]
  unfold k0_part1_skel
  dsimp only
  let L2 : LoopInvTy_k0_t2 (F := F) Unit ℕ (Pipeline.UD sig nD τ) ℕ Variants.none c none Set.univ A0 hA0 MX (Memref.isWhole_whole _) MW (Memref.isWhole_whole _) MS (Memref.isWhole_whole _) A4 hA4 A5 hA5 M6 (Memref.isWhole_whole _) M7 (Memref.isWhole_whole _) M8 (Memref.isWhole_whole _) M9 (Memref.isWhole_whole _) M10 (Memref.isWhole_whole _) cc0_scratch5 cc0_scratch6 cc0_scratch7 0#32 1#32 e a15 a16 (Scalar.addi (Scf.iv 0#32 1#32 e.val) 1#32) 4294967295#32 :=
    ⟨inv2 c A0 f0 g e.val, step2 c A0 hA0 A4 hA4 A5 hA5 f0 g hg hgl' e a15 a16⟩
  sl_exec
  have e1 : step1.sl.r c A0 f0 e = gw c A0 f0 ⟨e.val, he⟩ := gw_of_load c A0 f0 _ _ _ ⟨_, he⟩ (off1_eq e)
  rw [e1]
  have z3 := trips3 e
  have h15' : a15.toNat + (gw c A0 f0 ⟨e.val, he⟩).toNat ≤ 6144 := by rw [h15, h30]; exact hle
  have z5 := trips5 a15 _ h15'
  have n0 : NxtW g e.val (e.val + 1 + 0) 4294967295#32 := .inl ⟨rfl, fun y h1 h2 => absurd h2 (by omega)⟩
  sl_exec
  rename_i w62
  have hL : NxtW g e.val 8 w62 := by
    have h : NxtW g e.val (e.val + 1 + (k0_t2_loop e).trips) w62 := hL1
    rw [trips2, show e.val + 1 + (7 - e.val) = 8 from by omega] at h
    exact h
  have hiv := iv1_eq e
  sl_for (inv4 c g ⟨e.val, he⟩) $$ [HT]
  · exact step4 c A0 hA0 A4 hA4 A5 hA5 g hs ⟨e.val, he⟩ a15 a16 a17 (Scf.iv 0#32 1#32 e.val) (gw c A0 f0 ⟨e.val, he⟩) hc1 w62 h15 h16 h17 hiv h30 hL
  · iexists T
    isplitl [HT]; · iexact HT
    ipureintro
    exact ⟨hR, fun i' h => absurd h (Nat.not_lt_zero _)⟩
  iintro %v68 ⟨%T', HT, %hT'⟩
  sl_for0 z5
  have hT2 : ∀ i', i' < cntN (lo g e.val) (g e.val) → ∀ r : Fin 40, r.val = nb g e.val + i' → RowIs c T' r (item g ⟨e.val, he⟩ i') := by
    have h3 : (k0_t4_loop a15 (gw c A0 f0 ⟨e.val, he⟩)).trips = cntN (lo g e.val) (g e.val) := by rw [trips4 _ _ h15', h15, h30]
    rw [← h3]; exact hT'.2
  have hR' : Rows c g T' (e.val + 1) := by
    intro e' he' i hi r hr
    by_cases hc : e'.val < e.val
    · exact hT'.1 e' hc i hi r hr
    · have : e' = ⟨e.val, he⟩ := Fin.ext (by show e'.val = e.val; omega)
      subst this
      exact hT2 i hi r hr
  sl_exec
  try simp only [wp_ret]
  try imodintro
  isplitl [H0]; · iexact H0
  isplitl [HT]
  · iexists T'
    isplitl [HT]; · iexact HT
    ipureintro; exact hR'
  ipureintro
  refine ⟨?_, ?_, ?_⟩
  · show (a15 + gw c A0 f0 ⟨e.val, he⟩).toNat = lo g e.val + g e.val
    rw [BitVec.toNat_add, h15, h30]
    have : g (⟨e.val, he⟩ : Fin 8).val = g e.val := rfl
    omega
  · show (a16 + cntW a15 (gw c A0 f0 ⟨e.val, he⟩)).toNat = nb g e.val + cntN (lo g e.val) (g e.val)
    have h4 := cntW_toNat a15 (gw c A0 f0 ⟨e.val, he⟩) h15'
    rw [h15, h30] at h4
    have h4 : (cntW a15 (gw c A0 f0 ⟨e.val, he⟩)).toNat = cntN (lo g e.val) (g e.val) := h4
    rw [BitVec.toNat_add, h16, h4]; omega
  · show Scalar.select (Scalar.cmpi .sgt (gw c A0 f0 ⟨e.val, he⟩) 0#32) (Scalar.subi 1#32 a17) a17 = BitVec.ofNat 32 (if 0 < g e.val then oth (sl g e.val) else sl g e.val).val
    rw [cmp_pos _ (by omega), h30, h17]
    show Scalar.select (BitVec.ofBool (decide (0 < g e.val))) _ _ = _
    have h5 : ∀ (b : Bool) (s : Fin 2), Scalar.select (BitVec.ofBool b) (Scalar.subi 1#32 (BitVec.ofNat 32 s.val)) (BitVec.ofNat 32 s.val) = BitVec.ofNat 32 (if b = true then oth s else s).val := by decide
    rw [h5]
    by_cases hc : 0 < g e.val <;> simp [hc]

theorem rows_seq (g : ℕ → ℕ) (T : BufOf (F := F) c M10) (h : Rows c g T 8) (k : Fin 40) (hk : k.val < nb g 8) : RowIs c T k (seq g k) := by
  obtain ⟨e, i, he, hi, h1⟩ := locate g 8 k.val (le_refl _) hk
  rw [h1, seq_eq g e i hi]
  exact h e he i hi k h1

end Cert.Kernel.Hand

end
-- ==== Proof.KVals.lean ====
module

public import proofs.«01_k».proof.Proof.KDefs

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## What a trip computes, value by value -/

def c63 (s : Fin 8 → Vec F S1x22x256 .bf16) : FVec F S22x256 .bf16 := k0_pay8 (s 0)
def c75 (w : Fin 8 → Vec F S1x1408x256 .i8) : IVec S2816x256 4 := k0_pay9 (k0_pay7 (F := F) (w 0))
def c80 (w : Fin 8 → Vec F S1x1408x256 .i8) (s : Fin 8 → Vec F S1x22x256 .bf16) : FVec F S128x256 .bf16 := k0_pay10 (k0_pay7 (F := F) (w 0)) (s 0)
def c85 (w : Fin 8 → Vec F S1x1408x256 .i8) (s : Fin 8 → Vec F S1x22x256 .bf16) : FVec F S128x256 .bf16 := k0_pay11 (k0_pay7 (F := F) (w 0)) (s 0)
def c90 (w : Fin 8 → Vec F S1x1408x256 .i8) (s : Fin 8 → Vec F S1x22x256 .bf16) : FVec F S128x256 .bf16 := k0_pay12 (k0_pay7 (F := F) (w 0)) (s 0)
def c95 (w : Fin 8 → Vec F S1x1408x256 .i8) (s : Fin 8 → Vec F S1x22x256 .bf16) : FVec F S128x256 .bf16 := k0_pay13 (k0_pay7 (F := F) (w 0)) (s 0)
def c100 (w : Fin 8 → Vec F S1x1408x256 .i8) (s : Fin 8 → Vec F S1x22x256 .bf16) : FVec F S128x256 .bf16 := k0_pay14 (k0_pay7 (F := F) (w 0)) (s 0)
def c105 (w : Fin 8 → Vec F S1x1408x256 .i8) (s : Fin 8 → Vec F S1x22x256 .bf16) : FVec F S128x256 .bf16 := k0_pay15 (k0_pay7 (F := F) (w 0)) (s 0)
def c110 (w : Fin 8 → Vec F S1x1408x256 .i8) (s : Fin 8 → Vec F S1x22x256 .bf16) : FVec F S128x256 .bf16 := k0_pay16 (k0_pay7 (F := F) (w 0)) (s 0)
def c115 (w : Fin 8 → Vec F S1x1408x256 .i8) (s : Fin 8 → Vec F S1x22x256 .bf16) : FVec F S128x256 .bf16 := k0_pay17 (k0_pay7 (F := F) (w 0)) (s 0)
def c117 (w : Fin 8 → Vec F S1x1408x256 .i8) : FVec F S128x256 .bf16 := k0_pay18 (k0_pay7 (F := F) (w 0))
def c120 (w : Fin 8 → Vec F S1x1408x256 .i8) (s : Fin 8 → Vec F S1x22x256 .bf16) : FVec F S128x256 .bf16 := k0_pay19 (c63 s) (c117 w)
def c125 (w : Fin 8 → Vec F S1x1408x256 .i8) (s : Fin 8 → Vec F S1x22x256 .bf16) : FVec F S128x256 .bf16 := k0_pay20 (c63 s) (c75 w)
def c130 (w : Fin 8 → Vec F S1x1408x256 .i8) (s : Fin 8 → Vec F S1x22x256 .bf16) : FVec F S128x256 .bf16 := k0_pay21 (c63 s) (c75 w)
def c135 (w : Fin 8 → Vec F S1x1408x256 .i8) (s : Fin 8 → Vec F S1x22x256 .bf16) : FVec F S128x256 .bf16 := k0_pay22 (c63 s) (c75 w)
def c140 (w : Fin 8 → Vec F S1x1408x256 .i8) (s : Fin 8 → Vec F S1x22x256 .bf16) : FVec F S128x256 .bf16 := k0_pay23 (c63 s) (c75 w)
def c145 (w : Fin 8 → Vec F S1x1408x256 .i8) (s : Fin 8 → Vec F S1x22x256 .bf16) : FVec F S128x256 .bf16 := k0_pay24 (c63 s) (c75 w)
def c150 (w : Fin 8 → Vec F S1x1408x256 .i8) (s : Fin 8 → Vec F S1x22x256 .bf16) : FVec F S128x256 .bf16 := k0_pay25 (c63 s) (c75 w)
def c155 (w : Fin 8 → Vec F S1x1408x256 .i8) (s : Fin 8 → Vec F S1x22x256 .bf16) : FVec F S128x256 .bf16 := k0_pay26 (c63 s) (c75 w)
def c160 (w : Fin 8 → Vec F S1x1408x256 .i8) (s : Fin 8 → Vec F S1x22x256 .bf16) : FVec F S128x256 .bf16 := k0_pay27 (c63 s) (c75 w)
def c165 (w : Fin 8 → Vec F S1x1408x256 .i8) (s : Fin 8 → Vec F S1x22x256 .bf16) : FVec F S128x256 .bf16 := k0_pay28 (c63 s) (c75 w)
def c170 (w : Fin 8 → Vec F S1x1408x256 .i8) (s : Fin 8 → Vec F S1x22x256 .bf16) : FVec F S128x256 .bf16 := k0_pay29 (c63 s) (c75 w)
def c175 (w : Fin 8 → Vec F S1x1408x256 .i8) (s : Fin 8 → Vec F S1x22x256 .bf16) : FVec F S128x256 .bf16 := k0_pay30 (c63 s) (c75 w)
def c177 (w : Fin 8 → Vec F S1x1408x256 .i8) : FVec F S128x256 .bf16 := k0_pay31 (c75 w)
def c186 (w : Fin 8 → Vec F S1x1408x256 .i8) (s : Fin 8 → Vec F S1x22x256 .bf16) : FVec F S2816x256 .bf16 := k0_pay32 (c63 s) (c75 w) (c80 w s) (c85 w s) (c90 w s) (c95 w s) (c100 w s) (c105 w s) (c110 w s) (c115 w s) (c120 w s) (c125 w s) (c130 w s) (c135 w s) (c140 w s) (c145 w s) (c150 w s) (c155 w s) (c160 w s) (c165 w s) (c170 w s) (c175 w s) (c177 w)
def c192 (s : Fin 8 → Vec F S1x22x256 .bf16) : FVec F S22x256 .bf16 := k0_pay33 (s 4)
def c204 (w : Fin 8 → Vec F S1x1408x256 .i8) : IVec S2816x256 4 := k0_pay34 (w 4)
def c209 (w : Fin 8 → Vec F S1x1408x256 .i8) (s : Fin 8 → Vec F S1x22x256 .bf16) : FVec F S128x256 .bf16 := k0_pay35 (w 4) (s 4)
def c214 (w : Fin 8 → Vec F S1x1408x256 .i8) (s : Fin 8 → Vec F S1x22x256 .bf16) : FVec F S128x256 .bf16 := k0_pay36 (w 4) (s 4)
def c219 (w : Fin 8 → Vec F S1x1408x256 .i8) (s : Fin 8 → Vec F S1x22x256 .bf16) : FVec F S128x256 .bf16 := k0_pay37 (w 4) (s 4)
def c224 (w : Fin 8 → Vec F S1x1408x256 .i8) (s : Fin 8 → Vec F S1x22x256 .bf16) : FVec F S128x256 .bf16 := k0_pay38 (w 4) (s 4)
def c229 (w : Fin 8 → Vec F S1x1408x256 .i8) (s : Fin 8 → Vec F S1x22x256 .bf16) : FVec F S128x256 .bf16 := k0_pay39 (w 4) (s 4)
def c230 (w : Fin 8 → Vec F S1x1408x256 .i8) : IVec S128x256 4 := k0_pay40 (w 4)
def c234 (w : Fin 8 → Vec F S1x1408x256 .i8) (s : Fin 8 → Vec F S1x22x256 .bf16) : FVec F S128x256 .bf16 := k0_pay41 (c192 s) (c230 w)
def c239 (w : Fin 8 → Vec F S1x1408x256 .i8) (s : Fin 8 → Vec F S1x22x256 .bf16) : FVec F S128x256 .bf16 := k0_pay42 (c192 s) (c204 w)
def c244 (w : Fin 8 → Vec F S1x1408x256 .i8) (s : Fin 8 → Vec F S1x22x256 .bf16) : FVec F S128x256 .bf16 := k0_pay43 (c192 s) (c204 w)
def c249 (w : Fin 8 → Vec F S1x1408x256 .i8) (s : Fin 8 → Vec F S1x22x256 .bf16) : FVec F S128x256 .bf16 := k0_pay44 (c192 s) (c204 w)
def c254 (w : Fin 8 → Vec F S1x1408x256 .i8) (s : Fin 8 → Vec F S1x22x256 .bf16) : FVec F S128x256 .bf16 := k0_pay45 (c192 s) (c204 w)
def c259 (w : Fin 8 → Vec F S1x1408x256 .i8) (s : Fin 8 → Vec F S1x22x256 .bf16) : FVec F S128x256 .bf16 := k0_pay46 (c192 s) (c204 w)
def c264 (w : Fin 8 → Vec F S1x1408x256 .i8) (s : Fin 8 → Vec F S1x22x256 .bf16) : FVec F S128x256 .bf16 := k0_pay47 (c192 s) (c204 w)
def c269 (w : Fin 8 → Vec F S1x1408x256 .i8) (s : Fin 8 → Vec F S1x22x256 .bf16) : FVec F S128x256 .bf16 := k0_pay48 (c192 s) (c204 w)
def c274 (w : Fin 8 → Vec F S1x1408x256 .i8) (s : Fin 8 → Vec F S1x22x256 .bf16) : FVec F S128x256 .bf16 := k0_pay49 (c192 s) (c204 w)
def c279 (w : Fin 8 → Vec F S1x1408x256 .i8) (s : Fin 8 → Vec F S1x22x256 .bf16) : FVec F S128x256 .bf16 := k0_pay50 (c192 s) (c204 w)
def c284 (w : Fin 8 → Vec F S1x1408x256 .i8) (s : Fin 8 → Vec F S1x22x256 .bf16) : FVec F S128x256 .bf16 := k0_pay51 (c192 s) (c204 w)
def c289 (w : Fin 8 → Vec F S1x1408x256 .i8) (s : Fin 8 → Vec F S1x22x256 .bf16) : FVec F S128x256 .bf16 := k0_pay52 (c192 s) (c204 w)
def c290 (w : Fin 8 → Vec F S1x1408x256 .i8) : IVec S128x256 4 := k0_pay53 (c204 w)
def ablk0 (x : Vec F S1x256x2816 .bf16) (w : Fin 8 → Vec F S1x1408x256 .i8) (s : Fin 8 → Vec F S1x22x256 .bf16) : FVec F S256x256 .f32 := k0_pay55 (k0_pay6 x) (c186 w s) (c192 s) (c204 w) (c209 w s) (c214 w s) (c219 w s) (c224 w s) (c229 w s) (c234 w s) (c239 w s) (c244 w s) (c249 w s) (c254 w s) (c259 w s) (c264 w s) (c269 w s) (c274 w s) (c279 w s) (c284 w s) (c289 w s) (c290 w)
def c327 (x : Vec F S1x256x2816 .bf16) (w : Fin 8 → Vec F S1x1408x256 .i8) (s : Fin 8 → Vec F S1x22x256 .bf16) : FVec F S256x1 .f32 := k0_pay56 (k0_pay5 (F := F)) (k0_pay6 x) (c186 w s) (c192 s) (c204 w) (c209 w s) (c214 w s) (c219 w s) (c224 w s) (c229 w s) (c234 w s) (c239 w s) (c244 w s) (c249 w s) (c254 w s) (c259 w s) (c264 w s) (c269 w s) (c274 w s) (c279 w s) (c284 w s) (c289 w s) (c290 w)
def c333 (s : Fin 8 → Vec F S1x22x256 .bf16) : FVec F S22x256 .bf16 := k0_pay57 (s 1)
def c336 (w : Fin 8 → Vec F S1x1408x256 .i8) : IVec S1408x256 32 := k0_pay58 (w 1)
def c338 (w : Fin 8 → Vec F S1x1408x256 .i8) : IVec S1408x256 32 := k0_pay59 (w 1)
def c345 (w : Fin 8 → Vec F S1x1408x256 .i8) : IVec S2816x256 4 := k0_pay60 (c336 w) (c338 w)
def c350 (w : Fin 8 → Vec F S1x1408x256 .i8) (s : Fin 8 → Vec F S1x22x256 .bf16) : FVec F S128x256 .bf16 := k0_pay61 (c333 s) (c336 w) (c338 w)
def c355 (w : Fin 8 → Vec F S1x1408x256 .i8) (s : Fin 8 → Vec F S1x22x256 .bf16) : FVec F S128x256 .bf16 := k0_pay62 (c333 s) (c336 w) (c338 w)
def c360 (w : Fin 8 → Vec F S1x1408x256 .i8) (s : Fin 8 → Vec F S1x22x256 .bf16) : FVec F S128x256 .bf16 := k0_pay63 (c333 s) (c336 w) (c338 w)
def c365 (w : Fin 8 → Vec F S1x1408x256 .i8) (s : Fin 8 → Vec F S1x22x256 .bf16) : FVec F S128x256 .bf16 := k0_pay64 (c333 s) (c336 w) (c338 w)
def c370 (w : Fin 8 → Vec F S1x1408x256 .i8) (s : Fin 8 → Vec F S1x22x256 .bf16) : FVec F S128x256 .bf16 := k0_pay65 (c333 s) (c336 w) (c338 w)
def c375 (w : Fin 8 → Vec F S1x1408x256 .i8) (s : Fin 8 → Vec F S1x22x256 .bf16) : FVec F S128x256 .bf16 := k0_pay66 (c333 s) (c336 w) (c338 w)
def c380 (w : Fin 8 → Vec F S1x1408x256 .i8) (s : Fin 8 → Vec F S1x22x256 .bf16) : FVec F S128x256 .bf16 := k0_pay67 (c333 s) (c336 w) (c338 w)
def c385 (w : Fin 8 → Vec F S1x1408x256 .i8) (s : Fin 8 → Vec F S1x22x256 .bf16) : FVec F S128x256 .bf16 := k0_pay68 (c333 s) (c336 w) (c338 w)
def c390 (w : Fin 8 → Vec F S1x1408x256 .i8) (s : Fin 8 → Vec F S1x22x256 .bf16) : FVec F S128x256 .bf16 := k0_pay69 (c333 s) (c336 w) (c338 w)
def c395 (w : Fin 8 → Vec F S1x1408x256 .i8) (s : Fin 8 → Vec F S1x22x256 .bf16) : FVec F S128x256 .bf16 := k0_pay70 (c333 s) (c336 w) (c338 w)
def c397 (w : Fin 8 → Vec F S1x1408x256 .i8) : FVec F S128x256 .bf16 := k0_pay71 (c336 w) (c338 w)
def c456 (w : Fin 8 → Vec F S1x1408x256 .i8) (s : Fin 8 → Vec F S1x22x256 .bf16) : FVec F S2816x256 .bf16 := k0_pay72 (c333 s) (c345 w) (c350 w s) (c355 w s) (c360 w s) (c365 w s) (c370 w s) (c375 w s) (c380 w s) (c385 w s) (c390 w s) (c395 w s) (c397 w)
def c462 (s : Fin 8 → Vec F S1x22x256 .bf16) : FVec F S22x256 .bf16 := k0_pay73 (s 5)
def c474 (w : Fin 8 → Vec F S1x1408x256 .i8) : IVec S2816x256 4 := k0_pay74 (w 5)
def c479 (w : Fin 8 → Vec F S1x1408x256 .i8) (s : Fin 8 → Vec F S1x22x256 .bf16) : FVec F S128x256 .bf16 := k0_pay75 (w 5) (s 5)
def c484 (w : Fin 8 → Vec F S1x1408x256 .i8) (s : Fin 8 → Vec F S1x22x256 .bf16) : FVec F S128x256 .bf16 := k0_pay76 (w 5) (s 5)
def c489 (w : Fin 8 → Vec F S1x1408x256 .i8) (s : Fin 8 → Vec F S1x22x256 .bf16) : FVec F S128x256 .bf16 := k0_pay77 (w 5) (s 5)
def c494 (w : Fin 8 → Vec F S1x1408x256 .i8) (s : Fin 8 → Vec F S1x22x256 .bf16) : FVec F S128x256 .bf16 := k0_pay78 (w 5) (s 5)
def c499 (w : Fin 8 → Vec F S1x1408x256 .i8) (s : Fin 8 → Vec F S1x22x256 .bf16) : FVec F S128x256 .bf16 := k0_pay79 (w 5) (s 5)
def c504 (w : Fin 8 → Vec F S1x1408x256 .i8) (s : Fin 8 → Vec F S1x22x256 .bf16) : FVec F S128x256 .bf16 := k0_pay80 (w 5) (s 5)
def c509 (w : Fin 8 → Vec F S1x1408x256 .i8) (s : Fin 8 → Vec F S1x22x256 .bf16) : FVec F S128x256 .bf16 := k0_pay81 (w 5) (s 5)
def c510 (w : Fin 8 → Vec F S1x1408x256 .i8) : IVec S128x256 4 := k0_pay82 (w 5)
def c514 (w : Fin 8 → Vec F S1x1408x256 .i8) (s : Fin 8 → Vec F S1x22x256 .bf16) : FVec F S128x256 .bf16 := k0_pay83 (c462 s) (c510 w)
def c519 (w : Fin 8 → Vec F S1x1408x256 .i8) (s : Fin 8 → Vec F S1x22x256 .bf16) : FVec F S128x256 .bf16 := k0_pay84 (c462 s) (c474 w)
def c524 (w : Fin 8 → Vec F S1x1408x256 .i8) (s : Fin 8 → Vec F S1x22x256 .bf16) : FVec F S128x256 .bf16 := k0_pay85 (c462 s) (c474 w)
def c529 (w : Fin 8 → Vec F S1x1408x256 .i8) (s : Fin 8 → Vec F S1x22x256 .bf16) : FVec F S128x256 .bf16 := k0_pay86 (c462 s) (c474 w)
def c534 (w : Fin 8 → Vec F S1x1408x256 .i8) (s : Fin 8 → Vec F S1x22x256 .bf16) : FVec F S128x256 .bf16 := k0_pay87 (c462 s) (c474 w)
def c539 (w : Fin 8 → Vec F S1x1408x256 .i8) (s : Fin 8 → Vec F S1x22x256 .bf16) : FVec F S128x256 .bf16 := k0_pay88 (c462 s) (c474 w)
def c544 (w : Fin 8 → Vec F S1x1408x256 .i8) (s : Fin 8 → Vec F S1x22x256 .bf16) : FVec F S128x256 .bf16 := k0_pay89 (c462 s) (c474 w)
def c549 (w : Fin 8 → Vec F S1x1408x256 .i8) (s : Fin 8 → Vec F S1x22x256 .bf16) : FVec F S128x256 .bf16 := k0_pay90 (c462 s) (c474 w)
def c554 (w : Fin 8 → Vec F S1x1408x256 .i8) (s : Fin 8 → Vec F S1x22x256 .bf16) : FVec F S128x256 .bf16 := k0_pay91 (c462 s) (c474 w)
def c559 (w : Fin 8 → Vec F S1x1408x256 .i8) (s : Fin 8 → Vec F S1x22x256 .bf16) : FVec F S128x256 .bf16 := k0_pay92 (c462 s) (c474 w)
def c564 (w : Fin 8 → Vec F S1x1408x256 .i8) (s : Fin 8 → Vec F S1x22x256 .bf16) : FVec F S128x256 .bf16 := k0_pay93 (c462 s) (c474 w)
def c569 (w : Fin 8 → Vec F S1x1408x256 .i8) (s : Fin 8 → Vec F S1x22x256 .bf16) : FVec F S128x256 .bf16 := k0_pay94 (c462 s) (c474 w)
def c570 (w : Fin 8 → Vec F S1x1408x256 .i8) : IVec S128x256 4 := k0_pay95 (c474 w)
def ablk1 (x : Vec F S1x256x2816 .bf16) (w : Fin 8 → Vec F S1x1408x256 .i8) (s : Fin 8 → Vec F S1x22x256 .bf16) : FVec F S256x256 .f32 := k0_pay97 (k0_pay6 x) (c456 w s) (c462 s) (c474 w) (c479 w s) (c484 w s) (c489 w s) (c494 w s) (c499 w s) (c504 w s) (c509 w s) (c514 w s) (c519 w s) (c524 w s) (c529 w s) (c534 w s) (c539 w s) (c544 w s) (c549 w s) (c554 w s) (c559 w s) (c564 w s) (c569 w s) (c570 w)
def c597 (x : Vec F S1x256x2816 .bf16) (w : Fin 8 → Vec F S1x1408x256 .i8) (s : Fin 8 → Vec F S1x22x256 .bf16) : FVec F S256x1 .f32 := k0_pay98 (k0_pay6 x) (c327 x w s) (c456 w s) (c462 s) (c474 w) (c479 w s) (c484 w s) (c489 w s) (c494 w s) (c499 w s) (c504 w s) (c509 w s) (c514 w s) (c519 w s) (c524 w s) (c529 w s) (c534 w s) (c539 w s) (c544 w s) (c549 w s) (c554 w s) (c559 w s) (c564 w s) (c569 w s) (c570 w)
def c603 (s : Fin 8 → Vec F S1x22x256 .bf16) : FVec F S22x256 .bf16 := k0_pay99 (s 2)
def c615 (w : Fin 8 → Vec F S1x1408x256 .i8) : IVec S2816x256 4 := k0_pay100 (w 2)
def c617 (w : Fin 8 → Vec F S1x1408x256 .i8) : FVec F S128x256 .bf16 := k0_pay101 (w 2)
def c620 (w : Fin 8 → Vec F S1x1408x256 .i8) (s : Fin 8 → Vec F S1x22x256 .bf16) : FVec F S128x256 .bf16 := k0_pay102 (c603 s) (c617 w)
def c625 (w : Fin 8 → Vec F S1x1408x256 .i8) (s : Fin 8 → Vec F S1x22x256 .bf16) : FVec F S128x256 .bf16 := k0_pay103 (c603 s) (c615 w)
def c630 (w : Fin 8 → Vec F S1x1408x256 .i8) (s : Fin 8 → Vec F S1x22x256 .bf16) : FVec F S128x256 .bf16 := k0_pay104 (c603 s) (c615 w)
def c635 (w : Fin 8 → Vec F S1x1408x256 .i8) (s : Fin 8 → Vec F S1x22x256 .bf16) : FVec F S128x256 .bf16 := k0_pay105 (c603 s) (c615 w)
def c640 (w : Fin 8 → Vec F S1x1408x256 .i8) (s : Fin 8 → Vec F S1x22x256 .bf16) : FVec F S128x256 .bf16 := k0_pay106 (c603 s) (c615 w)
def c645 (w : Fin 8 → Vec F S1x1408x256 .i8) (s : Fin 8 → Vec F S1x22x256 .bf16) : FVec F S128x256 .bf16 := k0_pay107 (c603 s) (c615 w)
def c650 (w : Fin 8 → Vec F S1x1408x256 .i8) (s : Fin 8 → Vec F S1x22x256 .bf16) : FVec F S128x256 .bf16 := k0_pay108 (c603 s) (c615 w)
def c655 (w : Fin 8 → Vec F S1x1408x256 .i8) (s : Fin 8 → Vec F S1x22x256 .bf16) : FVec F S128x256 .bf16 := k0_pay109 (c603 s) (c615 w)
def c660 (w : Fin 8 → Vec F S1x1408x256 .i8) (s : Fin 8 → Vec F S1x22x256 .bf16) : FVec F S128x256 .bf16 := k0_pay110 (c603 s) (c615 w)
def c665 (w : Fin 8 → Vec F S1x1408x256 .i8) (s : Fin 8 → Vec F S1x22x256 .bf16) : FVec F S128x256 .bf16 := k0_pay111 (c603 s) (c615 w)
def c670 (w : Fin 8 → Vec F S1x1408x256 .i8) (s : Fin 8 → Vec F S1x22x256 .bf16) : FVec F S128x256 .bf16 := k0_pay112 (c603 s) (c615 w)
def c675 (w : Fin 8 → Vec F S1x1408x256 .i8) (s : Fin 8 → Vec F S1x22x256 .bf16) : FVec F S128x256 .bf16 := k0_pay113 (c603 s) (c615 w)
def c677 (w : Fin 8 → Vec F S1x1408x256 .i8) : FVec F S128x256 .bf16 := k0_pay114 (c615 w)
def c726 (w : Fin 8 → Vec F S1x1408x256 .i8) (s : Fin 8 → Vec F S1x22x256 .bf16) : FVec F S2816x256 .bf16 := k0_pay115 (c603 s) (c615 w) (c620 w s) (c625 w s) (c630 w s) (c635 w s) (c640 w s) (c645 w s) (c650 w s) (c655 w s) (c660 w s) (c665 w s) (c670 w s) (c675 w s) (c677 w)
def c729 (w : Fin 8 → Vec F S1x1408x256 .i8) : IVec S1408x256 8 := k0_pay116 (w 6)
def c732 (s : Fin 8 → Vec F S1x22x256 .bf16) : FVec F S22x256 .bf16 := k0_pay117 (s 6)
def c744 (w : Fin 8 → Vec F S1x1408x256 .i8) : IVec S2816x256 4 := k0_pay118 (c729 w) 136#8
def c749 (w : Fin 8 → Vec F S1x1408x256 .i8) (s : Fin 8 → Vec F S1x22x256 .bf16) : FVec F S128x256 .bf16 := k0_pay119 (c729 w) (c732 s) 136#8
def c754 (w : Fin 8 → Vec F S1x1408x256 .i8) (s : Fin 8 → Vec F S1x22x256 .bf16) : FVec F S128x256 .bf16 := k0_pay120 (c729 w) (c732 s) 136#8
def c759 (w : Fin 8 → Vec F S1x1408x256 .i8) (s : Fin 8 → Vec F S1x22x256 .bf16) : FVec F S128x256 .bf16 := k0_pay121 (c729 w) (c732 s) 136#8
def c764 (w : Fin 8 → Vec F S1x1408x256 .i8) (s : Fin 8 → Vec F S1x22x256 .bf16) : FVec F S128x256 .bf16 := k0_pay122 (c729 w) (c732 s) 136#8
def c769 (w : Fin 8 → Vec F S1x1408x256 .i8) (s : Fin 8 → Vec F S1x22x256 .bf16) : FVec F S128x256 .bf16 := k0_pay123 (c729 w) (c732 s) 136#8
def c774 (w : Fin 8 → Vec F S1x1408x256 .i8) (s : Fin 8 → Vec F S1x22x256 .bf16) : FVec F S128x256 .bf16 := k0_pay124 (c729 w) (c732 s) 136#8
def c779 (w : Fin 8 → Vec F S1x1408x256 .i8) (s : Fin 8 → Vec F S1x22x256 .bf16) : FVec F S128x256 .bf16 := k0_pay125 (c729 w) (c732 s) 136#8
def c784 (w : Fin 8 → Vec F S1x1408x256 .i8) (s : Fin 8 → Vec F S1x22x256 .bf16) : FVec F S128x256 .bf16 := k0_pay126 (c729 w) (c732 s) 136#8
def c789 (w : Fin 8 → Vec F S1x1408x256 .i8) (s : Fin 8 → Vec F S1x22x256 .bf16) : FVec F S128x256 .bf16 := k0_pay127 (c729 w) (c732 s) 136#8
def c790 (w : Fin 8 → Vec F S1x1408x256 .i8) : IVec S128x256 4 := k0_pay128 (c729 w) 136#8
def c794 (w : Fin 8 → Vec F S1x1408x256 .i8) (s : Fin 8 → Vec F S1x22x256 .bf16) : FVec F S128x256 .bf16 := k0_pay129 (c732 s) (c790 w)
def c799 (w : Fin 8 → Vec F S1x1408x256 .i8) (s : Fin 8 → Vec F S1x22x256 .bf16) : FVec F S128x256 .bf16 := k0_pay130 (c732 s) (c744 w)
def c804 (w : Fin 8 → Vec F S1x1408x256 .i8) (s : Fin 8 → Vec F S1x22x256 .bf16) : FVec F S128x256 .bf16 := k0_pay131 (c732 s) (c744 w)
def c809 (w : Fin 8 → Vec F S1x1408x256 .i8) (s : Fin 8 → Vec F S1x22x256 .bf16) : FVec F S128x256 .bf16 := k0_pay132 (c732 s) (c744 w)
def c814 (w : Fin 8 → Vec F S1x1408x256 .i8) (s : Fin 8 → Vec F S1x22x256 .bf16) : FVec F S128x256 .bf16 := k0_pay133 (c732 s) (c744 w)
def c819 (w : Fin 8 → Vec F S1x1408x256 .i8) (s : Fin 8 → Vec F S1x22x256 .bf16) : FVec F S128x256 .bf16 := k0_pay134 (c732 s) (c744 w)
def c824 (w : Fin 8 → Vec F S1x1408x256 .i8) (s : Fin 8 → Vec F S1x22x256 .bf16) : FVec F S128x256 .bf16 := k0_pay135 (c732 s) (c744 w)
def c829 (w : Fin 8 → Vec F S1x1408x256 .i8) (s : Fin 8 → Vec F S1x22x256 .bf16) : FVec F S128x256 .bf16 := k0_pay136 (c732 s) (c744 w)
def c834 (w : Fin 8 → Vec F S1x1408x256 .i8) (s : Fin 8 → Vec F S1x22x256 .bf16) : FVec F S128x256 .bf16 := k0_pay137 (c732 s) (c744 w)
def c839 (w : Fin 8 → Vec F S1x1408x256 .i8) (s : Fin 8 → Vec F S1x22x256 .bf16) : FVec F S128x256 .bf16 := k0_pay138 (c732 s) (c744 w)
def c844 (w : Fin 8 → Vec F S1x1408x256 .i8) (s : Fin 8 → Vec F S1x22x256 .bf16) : FVec F S128x256 .bf16 := k0_pay139 (c732 s) (c744 w)
def c849 (w : Fin 8 → Vec F S1x1408x256 .i8) (s : Fin 8 → Vec F S1x22x256 .bf16) : FVec F S128x256 .bf16 := k0_pay140 (c732 s) (c744 w)
def c850 (w : Fin 8 → Vec F S1x1408x256 .i8) : IVec S128x256 4 := k0_pay141 (c744 w)
def ablk2 (x : Vec F S1x256x2816 .bf16) (w : Fin 8 → Vec F S1x1408x256 .i8) (s : Fin 8 → Vec F S1x22x256 .bf16) : FVec F S256x256 .f32 := k0_pay143 (k0_pay6 x) (c726 w s) (c732 s) (c749 w s) (c754 w s) (c759 w s) (c764 w s) (c769 w s) (c774 w s) (c779 w s) (c784 w s) (c789 w s) (c794 w s) (c799 w s) (c804 w s) (c809 w s) (c814 w s) (c819 w s) (c824 w s) (c829 w s) (c834 w s) (c839 w s) (c844 w s) (c849 w s) (c850 w)
def c867 (x : Vec F S1x256x2816 .bf16) (w : Fin 8 → Vec F S1x1408x256 .i8) (s : Fin 8 → Vec F S1x22x256 .bf16) : FVec F S256x1 .f32 := k0_pay144 (k0_pay6 x) (c597 x w s) (c726 w s) (c732 s) (c749 w s) (c754 w s) (c759 w s) (c764 w s) (c769 w s) (c774 w s) (c779 w s) (c784 w s) (c789 w s) (c794 w s) (c799 w s) (c804 w s) (c809 w s) (c814 w s) (c819 w s) (c824 w s) (c829 w s) (c834 w s) (c839 w s) (c844 w s) (c849 w s) (c850 w)
def c873 (s : Fin 8 → Vec F S1x22x256 .bf16) : FVec F S22x256 .bf16 := k0_pay145 (s 3)
def c885 (w : Fin 8 → Vec F S1x1408x256 .i8) : IVec S2816x256 4 := k0_pay146 (w 3)
def c890 (w : Fin 8 → Vec F S1x1408x256 .i8) (s : Fin 8 → Vec F S1x22x256 .bf16) : FVec F S128x256 .bf16 := k0_pay147 (w 3) (s 3)
def c895 (w : Fin 8 → Vec F S1x1408x256 .i8) (s : Fin 8 → Vec F S1x22x256 .bf16) : FVec F S128x256 .bf16 := k0_pay148 (w 3) (s 3)
def c897 (w : Fin 8 → Vec F S1x1408x256 .i8) : FVec F S128x256 .bf16 := k0_pay149 (w 3)
def c900 (w : Fin 8 → Vec F S1x1408x256 .i8) (s : Fin 8 → Vec F S1x22x256 .bf16) : FVec F S128x256 .bf16 := k0_pay150 (c873 s) (c897 w)
def c905 (w : Fin 8 → Vec F S1x1408x256 .i8) (s : Fin 8 → Vec F S1x22x256 .bf16) : FVec F S128x256 .bf16 := k0_pay151 (c873 s) (c885 w)
def c910 (w : Fin 8 → Vec F S1x1408x256 .i8) (s : Fin 8 → Vec F S1x22x256 .bf16) : FVec F S128x256 .bf16 := k0_pay152 (c873 s) (c885 w)
def c915 (w : Fin 8 → Vec F S1x1408x256 .i8) (s : Fin 8 → Vec F S1x22x256 .bf16) : FVec F S128x256 .bf16 := k0_pay153 (c873 s) (c885 w)
def c920 (w : Fin 8 → Vec F S1x1408x256 .i8) (s : Fin 8 → Vec F S1x22x256 .bf16) : FVec F S128x256 .bf16 := k0_pay154 (c873 s) (c885 w)
def c925 (w : Fin 8 → Vec F S1x1408x256 .i8) (s : Fin 8 → Vec F S1x22x256 .bf16) : FVec F S128x256 .bf16 := k0_pay155 (c873 s) (c885 w)
def c930 (w : Fin 8 → Vec F S1x1408x256 .i8) (s : Fin 8 → Vec F S1x22x256 .bf16) : FVec F S128x256 .bf16 := k0_pay156 (c873 s) (c885 w)
def c935 (w : Fin 8 → Vec F S1x1408x256 .i8) (s : Fin 8 → Vec F S1x22x256 .bf16) : FVec F S128x256 .bf16 := k0_pay157 (c873 s) (c885 w)
def c940 (w : Fin 8 → Vec F S1x1408x256 .i8) (s : Fin 8 → Vec F S1x22x256 .bf16) : FVec F S128x256 .bf16 := k0_pay158 (c873 s) (c885 w)
def c945 (w : Fin 8 → Vec F S1x1408x256 .i8) (s : Fin 8 → Vec F S1x22x256 .bf16) : FVec F S128x256 .bf16 := k0_pay159 (c873 s) (c885 w)
def c950 (w : Fin 8 → Vec F S1x1408x256 .i8) (s : Fin 8 → Vec F S1x22x256 .bf16) : FVec F S128x256 .bf16 := k0_pay160 (c873 s) (c885 w)
def c955 (w : Fin 8 → Vec F S1x1408x256 .i8) (s : Fin 8 → Vec F S1x22x256 .bf16) : FVec F S128x256 .bf16 := k0_pay161 (c873 s) (c885 w)
def c957 (w : Fin 8 → Vec F S1x1408x256 .i8) : FVec F S128x256 .bf16 := k0_pay162 (c885 w)
def c996 (w : Fin 8 → Vec F S1x1408x256 .i8) (s : Fin 8 → Vec F S1x22x256 .bf16) : FVec F S2816x256 .bf16 := k0_pay163 (c873 s) (c885 w) (c890 w s) (c895 w s) (c900 w s) (c905 w s) (c910 w s) (c915 w s) (c920 w s) (c925 w s) (c930 w s) (c935 w s) (c940 w s) (c945 w s) (c950 w s) (c955 w s) (c957 w)
def c1002 (s : Fin 8 → Vec F S1x22x256 .bf16) : FVec F S22x256 .bf16 := k0_pay164 (s 7)
def c1009 (w : Fin 8 → Vec F S1x1408x256 .i8) : IVec S1408x256 32 := k0_pay166 (w 7)
def c1010 (w : Fin 8 → Vec F S1x1408x256 .i8) : IVec S1408x1x256 32 := k0_pay167 (w 7)
def c1014 (w : Fin 8 → Vec F S1x1408x256 .i8) : IVec S2816x256 4 := k0_pay168 (c1009 w) (c1010 w)
def c1019 (w : Fin 8 → Vec F S1x1408x256 .i8) (s : Fin 8 → Vec F S1x22x256 .bf16) : FVec F S128x256 .bf16 := k0_pay169 (c1002 s) (c1009 w) (c1010 w)
def c1024 (w : Fin 8 → Vec F S1x1408x256 .i8) (s : Fin 8 → Vec F S1x22x256 .bf16) : FVec F S128x256 .bf16 := k0_pay170 (c1002 s) (c1009 w) (c1010 w)
def c1029 (w : Fin 8 → Vec F S1x1408x256 .i8) (s : Fin 8 → Vec F S1x22x256 .bf16) : FVec F S128x256 .bf16 := k0_pay171 (c1002 s) (c1009 w) (c1010 w)
def c1034 (w : Fin 8 → Vec F S1x1408x256 .i8) (s : Fin 8 → Vec F S1x22x256 .bf16) : FVec F S128x256 .bf16 := k0_pay172 (c1002 s) (c1009 w) (c1010 w)
def c1039 (w : Fin 8 → Vec F S1x1408x256 .i8) (s : Fin 8 → Vec F S1x22x256 .bf16) : FVec F S128x256 .bf16 := k0_pay173 (c1002 s) (c1009 w) (c1010 w)
def c1044 (w : Fin 8 → Vec F S1x1408x256 .i8) (s : Fin 8 → Vec F S1x22x256 .bf16) : FVec F S128x256 .bf16 := k0_pay174 (c1002 s) (c1009 w) (c1010 w)
def c1049 (w : Fin 8 → Vec F S1x1408x256 .i8) (s : Fin 8 → Vec F S1x22x256 .bf16) : FVec F S128x256 .bf16 := k0_pay175 (c1002 s) (c1009 w) (c1010 w)
def c1054 (w : Fin 8 → Vec F S1x1408x256 .i8) (s : Fin 8 → Vec F S1x22x256 .bf16) : FVec F S128x256 .bf16 := k0_pay176 (c1002 s) (c1009 w) (c1010 w)
def c1059 (w : Fin 8 → Vec F S1x1408x256 .i8) (s : Fin 8 → Vec F S1x22x256 .bf16) : FVec F S128x256 .bf16 := k0_pay177 (c1002 s) (c1009 w) (c1010 w)
def c1064 (w : Fin 8 → Vec F S1x1408x256 .i8) (s : Fin 8 → Vec F S1x22x256 .bf16) : FVec F S128x256 .bf16 := k0_pay178 (c1002 s) (c1009 w) (c1010 w)
def c1069 (w : Fin 8 → Vec F S1x1408x256 .i8) (s : Fin 8 → Vec F S1x22x256 .bf16) : FVec F S128x256 .bf16 := k0_pay179 (c1002 s) (c1009 w) (c1010 w)
def c1070 (w : Fin 8 → Vec F S1x1408x256 .i8) : IVec S128x256 4 := k0_pay180 (c1009 w) (c1010 w)
def c1126 (x : Vec F S1x256x2816 .bf16) (w : Fin 8 → Vec F S1x1408x256 .i8) (s : Fin 8 → Vec F S1x22x256 .bf16) : FVec F S256x256 .f32 := k0_pay181 (k0_pay6 x) (c996 w s)
def c1127 (x : Vec F S1x256x2816 .bf16) (w : Fin 8 → Vec F S1x1408x256 .i8) (s : Fin 8 → Vec F S1x22x256 .bf16) : FVec F S256x256 .f32 := k0_pay182 (k0_pay6 x) (c1002 s) (c1014 w) (c1019 w s) (c1024 w s) (c1029 w s) (c1034 w s) (c1039 w s) (c1044 w s) (c1049 w s) (c1054 w s) (c1059 w s) (c1064 w s) (c1069 w s) (c1070 w)
def c1128 (x : Vec F S1x256x2816 .bf16) (w : Fin 8 → Vec F S1x1408x256 .i8) (s : Fin 8 → Vec F S1x22x256 .bf16) : FVec F S256x256 .f32 := k0_pay183 (k0_pay6 x) (c996 w s)
def ablk3 (x : Vec F S1x256x2816 .bf16) (w : Fin 8 → Vec F S1x1408x256 .i8) (s : Fin 8 → Vec F S1x22x256 .bf16) : FVec F S256x256 .f32 := k0_pay185 (c1126 x w s) (c1127 x w s) (c1128 x w s)
def c1139 (x : Vec F S1x256x2816 .bf16) (w : Fin 8 → Vec F S1x1408x256 .i8) (s : Fin 8 → Vec F S1x22x256 .bf16) : FVec F S256x1 .f32 := k0_pay186 (c867 x w s) (c1126 x w s) (c1127 x w s) (c1128 x w s)
def c1167 (x : Vec F S1x256x2816 .bf16) (w : Fin 8 → Vec F S1x1408x256 .i8) (s : Fin 8 → Vec F S1x22x256 .bf16) : IVec S256x1 32 := k0_pay187 (c867 x w s) (c1126 x w s) (c1127 x w s) (c1128 x w s)
def c1171 (x : Vec F S1x256x2816 .bf16) (w : Fin 8 → Vec F S1x1408x256 .i8) (s : Fin 8 → Vec F S1x22x256 .bf16) : IVec S256x1 32 := k0_pay188 (c867 x w s) (c1126 x w s) (c1127 x w s) (c1128 x w s)
def c1214 (x : Vec F S1x256x2816 .bf16) (w : Fin 8 → Vec F S1x1408x256 .i8) (s : Fin 8 → Vec F S1x22x256 .bf16) : IVec S256x1 32 := k0_pay189 (c1139 x w s) (c1167 x w s) (c1171 x w s)
def c1216 (x : Vec F S1x256x2816 .bf16) (w : Fin 8 → Vec F S1x1408x256 .i8) (s : Fin 8 → Vec F S1x22x256 .bf16) : IVec S256x1 1 := k0_pay190 (c1139 x w s)

/-- The activated block: the four column blocks side by side. -/
def act (x : Vec F S1x256x2816 .bf16) (w : Fin 8 → Vec F S1x1408x256 .i8) (s : Fin 8 → Vec F S1x22x256 .bf16) : Vec F S256x1024 .f32 := fun i =>
  if h0 : (i 1).val < 256 then ablk0 x w s (ix2 (⟨(i 0).val, (i 0).isLt⟩ : Fin 256) (⟨(i 1).val, h0⟩ : Fin 256))
  else if h1 : (i 1).val < 512 then ablk1 x w s (ix2 (⟨(i 0).val, (i 0).isLt⟩ : Fin 256) (⟨(i 1).val - 256, by omega⟩ : Fin 256))
  else if h2 : (i 1).val < 768 then ablk2 x w s (ix2 (⟨(i 0).val, (i 0).isLt⟩ : Fin 256) (⟨(i 1).val - 512, by omega⟩ : Fin 256))
  else ablk3 x w s (ix2 (⟨(i 0).val, (i 0).isLt⟩ : Fin 256) (⟨(i 1).val - 768, by have : (i 1).val < 1024 := (i 1).isLt; omega⟩ : Fin 256))

/-- What the trip stores to the codes, from what was there. -/
def codesOut (x : Vec F S1x256x2816 .bf16) (w : Fin 8 → Vec F S1x1408x256 .i8) (s : Fin 8 → Vec F S1x22x256 .bf16) (st va : BitVec 32) (old : Vec F S256x1024 .fp8e4m3) : FVec F S256x1024 .fp8e4m3 :=
  k0_pay1 (k0_pay193 (F := F) st va) (k0_pay194 (c1214 x w s) (c1216 x w s) (act x w s)) (k0_pay195 old)
/-- What the trip stores to the scales, from what was there. -/
def scaleOut (x : Vec F S1x256x2816 .bf16) (w : Fin 8 → Vec F S1x1408x256 .i8) (s : Fin 8 → Vec F S1x22x256 .bf16) (st va : BitVec 32) (old : Vec F S256x1 .f32) : FVec F S256x1 .f32 :=
  k0_pay2 (k0_pay192 (F := F) (c1214 x w s) (c1216 x w s)) (k0_pay193 (F := F) st va) old

end Cert.Kernel.Hand

end
-- ==== Proof.K3.lean ====
module

public import proofs.«01_k».proof.Proof.KVals
public import proofs.«01_k».proof.Proof.K2

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

abbrev rect4 (it : Item) : Rect S6144x1024 := Rect.unit (s := S6144x1024) (k0_off61 (it.w 1)) S256x1024.size (k0_off61_inb (it.w 1) it.chk5)
abbrev rect5 (it : Item) : Rect S6144x1 := Rect.unit (s := S6144x1) (k0_off62 (it.w 1)) S256x1.size (k0_off62_inb (it.w 1) it.chk5)

/-- The four stores of the activated block, the last first. -/
def actPieces (x : Vec F S1x256x2816 .bf16) (w : Fin 8 → Vec F S1x1408x256 .i8) (s : Fin 8 → Vec F S1x22x256 .bf16) : List (View.Piece (Elt F) S256x1024 .f32) :=
  [⟨Rect.unit (s := S256x1024) ![0, 768] S256x256.size inb_S256x1024_S256x256_0_768, ablk3 x w s⟩,
   ⟨Rect.unit (s := S256x1024) ![0, 512] S256x256.size inb_S256x1024_S256x256_0_512, ablk2 x w s⟩,
   ⟨Rect.unit (s := S256x1024) ![0, 256] S256x256.size inb_S256x1024_S256x256_0_256, ablk1 x w s⟩,
   ⟨Rect.unit (s := S256x1024) ![0, 0] S256x256.size inb_S256x1024_S256x256_0_0, ablk0 x w s⟩]

theorem readCov_act (x : Vec F S1x256x2816 .bf16) (w : Fin 8 → Vec F S1x1408x256 .i8) (s : Fin 8 → Vec F S1x22x256 .bf16) :
    M9.view.readCov (actPieces x w s) (Rect.unit (s := S256x1024) ![0, 0] S256x1024.size inb_S256x1024_S256x1024_0_0).toLoadRect = act x w s := by
  funext i
  have hi : (Rect.unit (s := S256x1024) ![0, 0] S256x1024.size inb_S256x1024_S256x1024_0_0).toLoadRect.idx i = i := by
    funext a; apply Fin.ext; fin_cases a
    · show 0 + 1 * (i 0).val = (i 0).val; omega
    · show 0 + 1 * (i 1).val = (i 1).val; omega
  have h1 : (i 1).val < 1024 := (i 1).isLt
  show M9.view.read (Elt F) (M9.view.writes (Elt F) M9.view.junk (actPieces x w s)) ((Rect.unit (s := S256x1024) ![0, 0] S256x1024.size inb_S256x1024_S256x1024_0_0).toLoadRect.idx i) = _
  rw [hi]
  unfold actPieces act
  by_cases h3 : (i 1).val < 768
  swap
  · rw [dif_neg (by omega), dif_neg (by omega), dif_neg (by omega)]
    refine View.read_writes_cons_unit_of_mem _ _ _ _ _ i (ix2 (⟨(i 0).val, (i 0).isLt⟩ : Fin 256) (⟨(i 1).val - 768, by omega⟩ : Fin 256)) rfl fun a => ?_
    fin_cases a
    · show (i 0).val = 0 + (i 0).val; omega
    · show (i 1).val = 768 + ((i 1).val - 768); omega
  refine (View.read_writes_cons_unit_of_not_mem _ _ _ _ _ i rfl 1 (.inl h3)).trans ?_
  by_cases h2 : (i 1).val < 512
  swap
  · rw [dif_neg (by omega), dif_neg (by omega), dif_pos h3]
    refine View.read_writes_cons_unit_of_mem _ _ _ _ _ i (ix2 (⟨(i 0).val, (i 0).isLt⟩ : Fin 256) (⟨(i 1).val - 512, by omega⟩ : Fin 256)) rfl fun a => ?_
    fin_cases a
    · show (i 0).val = 0 + (i 0).val; omega
    · show (i 1).val = 512 + ((i 1).val - 512); omega
  refine (View.read_writes_cons_unit_of_not_mem _ _ _ _ _ i rfl 1 (.inl h2)).trans ?_
  by_cases h1 : (i 1).val < 256
  swap
  · rw [dif_neg (by omega), dif_pos h2]
    refine View.read_writes_cons_unit_of_mem _ _ _ _ _ i (ix2 (⟨(i 0).val, (i 0).isLt⟩ : Fin 256) (⟨(i 1).val - 256, by omega⟩ : Fin 256)) rfl fun a => ?_
    fin_cases a
    · show (i 0).val = 0 + (i 0).val; omega
    · show (i 1).val = 256 + ((i 1).val - 256); omega
  refine (View.read_writes_cons_unit_of_not_mem _ _ _ _ _ i rfl 1 (.inl h1)).trans ?_
  rw [dif_pos h1]
  refine View.read_writes_cons_unit_of_mem _ _ _ _ _ i (ix2 (⟨(i 0).val, (i 0).isLt⟩ : Fin 256) (⟨(i 1).val, h1⟩ : Fin 256)) rfl fun a => ?_
  fin_cases a
  · show (i 0).val = 0 + (i 0).val; omega
  · show (i 1).val = 0 + (i 1).val; omega

set_option pp.deepTerms false in
set_option pp.deepTerms.threshold 8 in
set_option pp.maxSteps 1500 in
/-- One trip. -/
theorem trip (A0 : Memref sig .tc .smem S8 .i32) (hA0 : A0.IsWhole) (A4 : Memref sig .tc .vmem S6144x1024 .fp8e4m3) (hA4 : A4.IsWhole) (A5 : Memref sig .tc .vmem S6144x1 .f32) (hA5 : A5.IsWhole)
    (n : BitVec 32) (hn : k0_chk4 n) (k : Fin (k0_t6_loop n).trips) (hn40 : n.toNat ≤ 40) (r : Fin 40) (hr : r.val = k.val)
    (fx : BufOf (F := F) c MX) (fw : BufOf (F := F) c MW) (fs : BufOf (F := F) c MS) (T : BufOf (F := F) c M10) (W) (it : Item) (hT : RowIs c T r it)
    (itn : Option Item) (hnext : match itn with | some i' => ∃ r' : Fin 40, r'.val = k.val + 1 ∧ k.val + 1 < n.toNat ∧ RowIs c T r' i' | none => ¬ k.val + 1 < n.toNat)
    (n0 n1 : Fin 2) (hn0 : n0.val = k.val % 2) (hn1 : n1.val = 1 - k.val % 2)
    (f9 : BufOf (F := F) c M9) (f4 : BufOf (F := F) c A4) (f5 : BufOf (F := F) c A5) (acc : BitVec 32) {Q} :
    iprop(held c M10 T ∗ wBefore c it fw fs ∗ xNext c n0 n1 (some it.rows) fx ∗ held c M9 f9 ∗ own c A4 f4 ∗ own c A5 f5 ∗ owes (c : Thread nD τ) 0 W)
    ⊢ iprop((iprop(held c M10 T ∗ wAfter c it fw fs ∗ xNext c n1 n0 (itn.map Item.rows) fx ∗ (∃ f9', held c M9 f9')
        ∗ own c A4 (A4.view.writes (Elt F) f4 [⟨rect4 it, codesOut (xblk c fx it.st it.hst) (wblk c fw it.e) (sblk c fs it.e) (it.w 1) (it.w 2) (View.readAt (Elt F) A4.view (rect4 it).toLoadRect f4)⟩])
        ∗ own c A5 (A5.view.writes (Elt F) f5 [⟨rect5 it, scaleOut (xblk c fx it.st it.hst) (wblk c fw it.e) (sblk c fs it.e) (it.w 1) (it.w 2) (View.readAt (Elt F) A5.view (rect5 it).toLoadRect f5)⟩])
        ∗ ∃ W', owes (c : Thread nD τ) 0 W') -∗ Q 0#32) -∗
      wp frame (wpE (defs₀ (F := F)) Variants.none c none) Set.univ
      (k0_t6_body A0 hA0 MX (Memref.isWhole_whole _) MW (Memref.isWhole_whole _) MS (Memref.isWhole_whole _) A4 hA4 A5 hA5 M6 (Memref.isWhole_whole _) M7 (Memref.isWhole_whole _)
        M8 (Memref.isWhole_whole _) M9 (Memref.isWhole_whole _) M10 (Memref.isWhole_whole _) cc0_scratch5 cc0_scratch6 cc0_scratch7 n hn 0#32 k acc) Q) := by
  unfold k0_t6_body
  rw [wp_bind, k0_part24_eq_skeleton]
  unfold k0_part24_skel
  rw [wp_bind]
  iintro ⟨HT, Hw, Hx, H9, H4, H5, Ho⟩ HQ
  iapply (part2 c A0 hA0 A4 hA4 A5 hA5 n hn k hn40 r hr fx fw fs T W it hT itn hnext n0 n1 hn0 hn1) $$ [HT Hw Hx Ho]
  · isplitl [HT]; · iexact HT
    isplitl [Hw]; · iexact Hw
    isplitl [Hx]; · iexact Hx
    iexact Ho
  iintro ⟨HT, ⟨⟨⟨Hc7, ⟨%g7, H7⟩⟩, ⟨Hc8, ⟨%g8, H8⟩⟩⟩, Hr⟩, Hx, Ho⟩
  have i46 := sub8 it.s (k0_off46 (it.w 4)) (k0_off46_inb _ it.chk11) it.w4
  have l46 := fun g => load8 c it.s it.e 0 fs g (k0_off46 (it.w 4)) (k0_off46_inb _ it.chk11) (by show ![(it.w 4).toNat, 0, 0] = _; rw [it.w4]; rfl)
  have i47 := sub7 it.s (k0_off47 (it.w 4)) (k0_off47_inb _ it.chk11) it.w4
  have l47 := fun g => load7 c it.s it.e 4 fw g (k0_off47 (it.w 4)) (k0_off47_inb _ it.chk11) (by show ![(it.w 4).toNat, 0, 1024] = _; rw [it.w4]; rfl)
  have i48 := sub8 it.s (k0_off48 (it.w 4)) (k0_off48_inb _ it.chk11) it.w4
  have l48 := fun g => load8 c it.s it.e 4 fs g (k0_off48 (it.w 4)) (k0_off48_inb _ it.chk11) (by show ![(it.w 4).toNat, 0, 1024] = _; rw [it.w4]; rfl)
  have i49 := sub7 it.s (k0_off49 (it.w 4)) (k0_off49_inb _ it.chk11) it.w4
  have l49 := fun g => load7 c it.s it.e 1 fw g (k0_off49 (it.w 4)) (k0_off49_inb _ it.chk11) (by show ![(it.w 4).toNat, 0, 256] = _; rw [it.w4]; rfl)
  have i50 := sub8 it.s (k0_off50 (it.w 4)) (k0_off50_inb _ it.chk11) it.w4
  have l50 := fun g => load8 c it.s it.e 1 fs g (k0_off50 (it.w 4)) (k0_off50_inb _ it.chk11) (by show ![(it.w 4).toNat, 0, 256] = _; rw [it.w4]; rfl)
  have i51 := sub7 it.s (k0_off51 (it.w 4)) (k0_off51_inb _ it.chk11) it.w4
  have l51 := fun g => load7 c it.s it.e 5 fw g (k0_off51 (it.w 4)) (k0_off51_inb _ it.chk11) (by show ![(it.w 4).toNat, 0, 1280] = _; rw [it.w4]; rfl)
  have i52 := sub8 it.s (k0_off52 (it.w 4)) (k0_off52_inb _ it.chk11) it.w4
  have l52 := fun g => load8 c it.s it.e 5 fs g (k0_off52 (it.w 4)) (k0_off52_inb _ it.chk11) (by show ![(it.w 4).toNat, 0, 1280] = _; rw [it.w4]; rfl)
  have i53 := sub7 it.s (k0_off53 (it.w 4)) (k0_off53_inb _ it.chk11) it.w4
  have l53 := fun g => load7 c it.s it.e 2 fw g (k0_off53 (it.w 4)) (k0_off53_inb _ it.chk11) (by show ![(it.w 4).toNat, 0, 512] = _; rw [it.w4]; rfl)
  have i54 := sub8 it.s (k0_off54 (it.w 4)) (k0_off54_inb _ it.chk11) it.w4
  have l54 := fun g => load8 c it.s it.e 2 fs g (k0_off54 (it.w 4)) (k0_off54_inb _ it.chk11) (by show ![(it.w 4).toNat, 0, 512] = _; rw [it.w4]; rfl)
  have i55 := sub7 it.s (k0_off55 (it.w 4)) (k0_off55_inb _ it.chk11) it.w4
  have l55 := fun g => load7 c it.s it.e 6 fw g (k0_off55 (it.w 4)) (k0_off55_inb _ it.chk11) (by show ![(it.w 4).toNat, 0, 1536] = _; rw [it.w4]; rfl)
  have i56 := sub8 it.s (k0_off56 (it.w 4)) (k0_off56_inb _ it.chk11) it.w4
  have l56 := fun g => load8 c it.s it.e 6 fs g (k0_off56 (it.w 4)) (k0_off56_inb _ it.chk11) (by show ![(it.w 4).toNat, 0, 1536] = _; rw [it.w4]; rfl)
  have i57 := sub7 it.s (k0_off57 (it.w 4)) (k0_off57_inb _ it.chk11) it.w4
  have l57 := fun g => load7 c it.s it.e 3 fw g (k0_off57 (it.w 4)) (k0_off57_inb _ it.chk11) (by show ![(it.w 4).toNat, 0, 768] = _; rw [it.w4]; rfl)
  have i58 := sub8 it.s (k0_off58 (it.w 4)) (k0_off58_inb _ it.chk11) it.w4
  have l58 := fun g => load8 c it.s it.e 3 fs g (k0_off58 (it.w 4)) (k0_off58_inb _ it.chk11) (by show ![(it.w 4).toNat, 0, 768] = _; rw [it.w4]; rfl)
  have i59 := sub7 it.s (k0_off59 (it.w 4)) (k0_off59_inb _ it.chk11) it.w4
  have l59 := fun g => load7 c it.s it.e 7 fw g (k0_off59 (it.w 4)) (k0_off59_inb _ it.chk11) (by show ![(it.w 4).toNat, 0, 1792] = _; rw [it.w4]; rfl)
  have i60 := sub8 it.s (k0_off60 (it.w 4)) (k0_off60_inb _ it.chk11) it.w4
  have l60 := fun g => load8 c it.s it.e 7 fs g (k0_off60 (it.w 4)) (k0_off60_inb _ it.chk11) (by show ![(it.w 4).toNat, 0, 1792] = _; rw [it.w4]; rfl)
  dsimp only
  sl_exec
  have q175 : trip.sl.r_175 (F := F) it = k0_pay193 (F := F) (it.w 1) (it.w 2) := rfl
  have q172 : trip.sl.r_172 c fx fw fs it = c1214 (xblk c fx it.st it.hst) (wblk c fw it.e) (sblk c fs it.e) := rfl
  have q173 : trip.sl.r_173 c fx fw fs it = c1216 (xblk c fx it.st it.hst) (wblk c fw it.e) (sblk c fs it.e) := rfl
  have q9 : trip.sl.H9_4 c fx fw fs it = actPieces (xblk c fx it.st it.hst) (wblk c fw it.e) (sblk c fs it.e) := rfl
  have q1234 : trip.sl.v1234 c fx fw fs it = act (xblk c fx it.st it.hst) (wblk c fw it.e) (sblk c fs it.e) := by
    unfold trip.sl.v1234; rw [q9]; exact readCov_act _ _ _
  have e4 : k0_pay1 (trip.sl.r_175 (F := F) it) (trip.sl.r_176 c fx fw fs it) (trip.sl.r_177 c A4 it f4)
      = codesOut (xblk c fx it.st it.hst) (wblk c fw it.e) (sblk c fs it.e) (it.w 1) (it.w 2) (View.readAt (Elt F) A4.view (rect4 it).toLoadRect f4) := by
    unfold trip.sl.r_176; rw [q1234, q172, q173]; rfl
  have q174 : trip.sl.r_174 c fx fw fs it = k0_pay192 (trip.sl.r_172 c fx fw fs it) (trip.sl.r_173 c fx fw fs it) := rfl
  rw [e4, q174, q172, q173]
  simp only [wp_ret]; imodintro
  iapply HQ
  isplitl [HT]; · iexact HT
  isplitl [Hc7 H7 Hc8 H8 Hr]
  · isplitl [Hc7 H7 Hc8 H8]
    · isplitl [Hc7 H7]
      · isplitl [Hc7]; · iexact Hc7
        iexists _; iexact H7
      isplitl [Hc8]; · iexact Hc8
      iexists _; iexact H8
    iexact Hr
  isplitl [Hx]; · iexact Hx
  isplitl [H9]; · iexists _; iexact H9
  isplitl [H4]; · iexact H4
  isplitl [H5]; · iexact H5
  iexact Ho

end Cert.Kernel.Hand

end
-- ==== Proof.KRun.lean ====
module

public import proofs.«01_k».proof.Proof.KTab
public import proofs.«01_k».proof.Proof.K3

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

theorem slot_words : ∀ (m : Fin 2) (hinb), (Rect.unit (s := S2x256x2816) ![m.val, 0, 0] S1x256x2816.size hinb).WholeWords (EltTy.packing .bf16) := by decide

theorem slot_words' (off : Fin 3 → ℕ) (m : Fin 2) (ho : off = ![m.val, 0, 0]) (hinb) : (Rect.unit (s := S2x256x2816) off S1x256x2816.size hinb).WholeWords (EltTy.packing .bf16) := by
  subst ho; exact slot_words m hinb
theorem slot_inb (off : Fin 3 → ℕ) (m : Fin 2) (ho : off = ![m.val, 0, 0]) : ∀ a, off a + S1x256x2816.size a ≤ S2x256x2816.size a := by
  subst ho; exact inb6 m
theorem sem_inb (off : Fin 1 → ℕ) (m : Fin 2) (ho : off = ![m.val]) : ∀ a, off a + S1.size a ≤ S2.size a := by
  subst ho; exact inbSem m
theorem tab_inb (off : Fin 2 → ℕ) (r j : ℕ) (hr : r < 40) (hj : j < 8) (ho : off = ![r, j]) : ∀ a, off a + S1x1.size a ≤ S40x8.size a := by
  subst ho; exact inbT r j hr hj

/-- The slot of trip `k`, and the other one. -/
def par (k : ℕ) : Fin 2 := ⟨k % 2, Nat.mod_lt _ (by decide)⟩
def rap (k : ℕ) : Fin 2 := ⟨1 - k % 2, by omega⟩

theorem chk4 (n : BitVec 32) (hn : n.toNat ≤ 40) : k0_chk4 n := by
  have t6 : ∀ k : Fin (k0_t6_loop n).trips, k.val < 40 := fun k => by have := lt_of_lt_of_eq k.isLt (trips6 n hn); omega
  have t7 : ∀ {P : Prop} (k : Fin (k0_t7_loop n).trips), P := fun k => absurd (lt_of_lt_of_eq k.isLt (trips7 n hn)) (Nat.not_lt_zero _)
  have o : ∀ (k : Fin (k0_t6_loop n).trips) (j : ℕ), (![(Scf.iv 0#32 1#32 k.val).toNat, j] : Fin 2 → ℕ) = ![k.val, j] := fun k j => by rw [iv_toNat _ (t6 k)]
  have p : ∀ (k : Fin (k0_t6_loop n).trips), (![(Scalar.andi (Scf.iv 0#32 1#32 k.val) 1#32).toNat, 0, 0] : Fin 3 → ℕ) = ![(par k.val).val, 0, 0] := fun k => by rw [x0_toNat _ (t6 k)]; rfl
  have q : ∀ (k : Fin (k0_t6_loop n).trips), (![(Scalar.subi 1#32 (Scalar.andi (Scf.iv 0#32 1#32 k.val) 1#32)).toNat, 0, 0] : Fin 3 → ℕ) = ![(rap k.val).val, 0, 0] := fun k => by rw [x1_toNat _ (t6 k)]; rfl
  have p1 : ∀ (k : Fin (k0_t6_loop n).trips), (![(Scalar.andi (Scf.iv 0#32 1#32 k.val) 1#32).toNat] : Fin 1 → ℕ) = ![(par k.val).val] := fun k => by rw [x0_toNat _ (t6 k)]; rfl
  have q1 : ∀ (k : Fin (k0_t6_loop n).trips), (![(Scalar.subi 1#32 (Scalar.andi (Scf.iv 0#32 1#32 k.val) 1#32)).toNat] : Fin 1 → ℕ) = ![(rap k.val).val] := fun k => by rw [x1_toNat _ (t6 k)]; rfl
  refine ⟨ok6 n hn, fun k => tab_inb _ k.val 4 (t6 k) (by decide) (o k 4), fun k => tab_inb _ k.val 1 (t6 k) (by decide) (o k 1), fun k => tab_inb _ k.val 2 (t6 k) (by decide) (o k 2),
    fun k => tab_inb _ k.val 3 (t6 k) (by decide) (o k 3), fun k => tab_inb _ k.val 1 (t6 k) (by decide) (o k 1), fun k => sem_inb _ _ (p1 k), fun k => slot_inb _ _ (p k), fun k => slot_words' _ _ (p k),
    fun k h => ?_, fun k h => sem_inb _ _ (q1 k), fun k h => slot_inb _ _ (q k), fun k h => slot_words' _ _ (q k), fun k => slot_inb _ _ (p k), ok7 n hn,
    fun k => t7 k, fun k => t7 k, fun k => t7 k, fun k => t7 k, fun k => t7 k, fun k => t7 k, fun k => t7 k, fun k => t7 k, fun k => t7 k, fun k => t7 k, fun k => t7 k, fun k => t7 k, fun k => t7 k⟩
  have h1 := (cond3_iff n hn k).mp h
  refine tab_inb _ (k.val + 1) 1 (by omega) (by decide) ?_
  show (![(Scalar.addi (Scf.iv 0#32 1#32 k.val) 1#32).toNat, 1] : Fin 2 → ℕ) = _
  rw [nx_toNat _ (t6 k)]

theorem seq0 (g : ℕ → ℕ) (hs : lo g 8 = 6144) : (seq g 0).fi = true ∧ (seq g 0).s = 0 := ⟨(sched g hs).first.1, (sched g hs).first.2.1⟩

theorem part48_run (A0 : Memref sig .tc .smem S8 .i32) (hA0 : A0.IsWhole) (A4 : Memref sig .tc .vmem S6144x1024 .fp8e4m3) (hA4 : A4.IsWhole) (A5 : Memref sig .tc .vmem S6144x1 .f32) (hA5 : A5.IsWhole)
    (f0 : BufOf (F := F) c A0) (g : ℕ → ℕ) (hg : ∀ e : Fin 8, (gw c A0 f0 e).toNat = g e) (hs : lo g 8 = 6144)
    (T0 : BufOf (F := F) c M10) (fx : BufOf (F := F) c MX) (fw : BufOf (F := F) c MW) (fs : BufOf (F := F) c MS) (W) {Q} :
    iprop(own c A0 f0 ∗ held c M10 T0 ∗ held c MX fx ∗ held c MW fw ∗ held c MS fs ∗ idle (F := F) c (cell6 0) (slot6 0) ∗ idle (F := F) c (cell7 0) (slot7 0) ∗ idle (F := F) c (cell8 0) (slot8 0)
      ∗ owes (c : Thread nD τ) 0 W)
    ⊢ iprop((∀ (n : BitVec 32) (hn : k0_chk4 n) (T : BufOf (F := F) c M10), iprop(⌜n.toNat = nb g 8 ∧ Rows c g T 8⌝ ∗ own c A0 f0 ∗ held c M10 T ∗ flying c (cell6 0) (slot6 0) (rowsX (seq g 0).st (seq g 0).hst) fx
        ∗ wGo c 0 (seq g 0).e fw fs ∗ ∃ W', owes (c : Thread nD τ) 0 W') -∗ Q ⟨n, hn, 0#32, 0#32, Scalar.subi n 0#32⟩) -∗
      wp frame (wpE (defs₀ (F := F)) Variants.none c none) Set.univ (k0_part48 A0 hA0 MX (Memref.isWhole_whole _) MW (Memref.isWhole_whole _) MS (Memref.isWhole_whole _) A4 hA4 A5 hA5 M6 (Memref.isWhole_whole _) M7 (Memref.isWhole_whole _) M8 (Memref.isWhole_whole _) M9 (Memref.isWhole_whole _) M10 (Memref.isWhole_whole _) cc0_scratch5 cc0_scratch6 cc0_scratch7) Q) := by
  have hsc := sched g hs
  rw [k0_part48_eq_skeleton]
  unfold k0_part48_skel
  iintro ⟨H0, HT, HX, HW, HS, ⟨Hc6, ⟨%g6, H6⟩⟩, ⟨Hc7, ⟨%g7, H7⟩⟩, ⟨Hc8, ⟨%g8, H8⟩⟩, Ho⟩ HQ
  sl_for (inv1 c A0 f0 g) $$ [H0 HT]
  · exact step1 c A0 hA0 A4 hA4 A5 hA5 f0 g hg hs
  · isplitl [H0]; · iexact H0
    isplitl [HT]
    · iexists T0
      isplitl [HT]; · iexact HT
      ipureintro
      exact fun e' he' => absurd he' (Nat.not_lt_zero _)
    ipureintro
    exact ⟨rfl, rfl, rfl⟩
  iintro %a ⟨H0, ⟨%T, HT, %hR⟩, %ha⟩
  obtain ⟨a0, n, a2⟩ := a
  have hR : Rows c g T 8 := hR
  have hnn : n.toNat = nb g 8 := ha.2.1
  have hn : k0_chk4 n := chk4 n (by rw [hnn]; exact hsc.le)
  have hp := hsc.pos
  obtain ⟨r0, r1, -⟩ := rows_seq c g T hR ⟨0, by decide⟩ hp
  have r0 : tw c T ⟨0, by decide⟩ 0 = (seq g 0).w 0 := r0
  have r1 : tw c T ⟨0, by decide⟩ 1 = (seq g 0).w 1 := r1
  generalize hit : seq g 0 = it at *
  have hc2 : k0_chk2 (it.w 1) := chk2 _ (by rw [it.w1]; exact it.hst) (by rw [it.w1]; exact it.hd)
  have hc3 : k0_chk3 (it.w 0) := chk3 _ (by rw [it.w0]; exact it.e.isLt)
  sl_exec
  have e1 : part48_run.sl.r c T = it.w 1 := (tw_of_load c T _ _ _ ⟨0, by decide⟩ 1 rfl).trans r1
  rw [e1]
  sl_exec
  have e2 : part48_run.sl.r_1 c T = it.w 0 := (tw_of_load c T _ _ _ ⟨0, by decide⟩ 0 rfl).trans r0
  rw [e2]
  sl_exec
  have hv : part48_run.sl.v22 n = Scalar.subi n 0#32 := rfl
  rw [hv]
  simp only [wp_ret]; imodintro
  have kx : ∀ (st : ℕ) (h h'), (it.w 1).toNat = st → (flying c (cell6 0) (slot6 0) (rowsX (it.w 1).toNat h') fx ⊢ flying c (cell6 0) (slot6 0) (rowsX st h) fx) := by
    rintro _ _ _ rfl; exact .rfl
  have kw : ∀ (e : Fin 8) (h), (it.w 0).toNat = e.val → (flying c (cell7 0) (slot7 0) (wE ⟨(it.w 0).toNat, h⟩) fw ⊢ flying c (cell7 0) (slot7 0) (wE e) fw) := by
    rintro ⟨_, _⟩ _ rfl; exact .rfl
  have ks : ∀ (e : Fin 8) (h), (it.w 0).toNat = e.val → (flying c (cell8 0) (slot8 0) (sE ⟨(it.w 0).toNat, h⟩) fs ⊢ flying c (cell8 0) (slot8 0) (sE e) fs) := by
    rintro ⟨_, _⟩ _ rfl; exact .rfl
  have hw0 : (it.w 0).toNat < 8 := by rw [it.w0]; exact it.e.isLt
  have hw1 : (it.w 1).toNat + 256 ≤ 6144 := by rw [it.w1]; exact it.hst
  ispecialize HQ $$ %n %hn %T
  iapply HQ
  isplitr; · ipureintro; exact ⟨hnn, hR⟩
  isplitl [H0]; · iexact H0
  isplitl [HT]; · iexact HT
  isplitl [Hc6 HX]
  · iapply (kx it.st it.hst hw1 it.w1)
    isplitl [Hc6]
    · iexists g6; iexact Hc6
    iexact HX
  isplitl [Hc7 HW Hc8 HS]
  · isplitl [Hc7 HW]
    · iapply (kw it.e hw0 it.w0)
      isplitl [Hc7]
      · iexists g7; iexact Hc7
      iexact HW
    iapply (ks it.e hw0 it.w0)
    isplitl [Hc8]
    · iexists g8; iexact Hc8
    iexact HS
  iexists _; iexact Ho

/-! ## The weights' ring between two items -/

theorem wStep (it it' : Item) (fw : BufOf (F := F) c MW) (fs : BufOf (F := F) c MS)
    (h : (it'.fi = false ∧ it'.e = it.e ∧ it'.s = it.s ∧ it'.nx = it.nx) ∨ (it'.fi = true ∧ it'.s = oth it.s ∧ it.nx = some it'.e)) :
    wAfter c it fw fs ⊢ wBefore c it' fw fs := by
  obtain ⟨e, st, va, fi, s, nx, _, _, _⟩ := it
  obtain ⟨e', st', va', fi', s', nx', _, _, _⟩ := it'
  rcases h with ⟨h1, h2, h3, h4⟩ | ⟨h1, h2, h3⟩
  · dsimp only at h1 h2 h3 h4; subst h1; subst h2; subst h3; subst h4
    exact .rfl
  · dsimp only at h1 h2 h3; subst h1; subst h2; subst h3
    have ho : oth (oth s) = s := by revert s; decide
    show iprop(wOn c s e fw fs ∗ wGo c (oth s) e' fw fs) ⊢ iprop(wGo c (oth s) e' fw fs ∗ wOff (F := F) c (oth (oth s)))
    rw [ho]
    iintro ⟨⟨⟨Ha, ⟨%ga, Ga⟩⟩, ⟨Hb, ⟨%gb, Gb⟩⟩⟩, Hn⟩
    isplitl [Hn]; · iexact Hn
    isplitl [Ha Ga]
    · isplitl [Ha]; · iexact Ha
      iexists _; iexact Ga
    isplitl [Hb]; · iexact Hb
    iexists _; iexact Gb

/-- Everything of the weights' ring free. -/
abbrev wFree (fw : BufOf (F := F) c MW) (fs : BufOf (F := F) c MS) : sProp 𝕄 :=
  iprop(held c MW fw ∗ held c MS fs ∗ wOff (F := F) c 0 ∗ wOff (F := F) c 1)

theorem wEnd (it : Item) (fw : BufOf (F := F) c MW) (fs : BufOf (F := F) c MS) (h : it.nx = none) : wAfter c it fw fs ⊢ wFree c fw fs := by
  obtain ⟨e, st, va, fi, s, nx, _, _, _⟩ := it
  dsimp only at h; subst h
  show iprop(wOn c s e fw fs ∗ held c MW fw ∗ held c MS fs ∗ wOff (F := F) c (oth s)) ⊢ _
  have key : iprop(wOn c s e fw fs ∗ held c MW fw ∗ held c MS fs ∗ wOff (F := F) c (oth s)) ⊢ iprop(held c MW fw ∗ held c MS fs ∗ wOff (F := F) c s ∗ wOff (F := F) c (oth s)) := by
    iintro ⟨⟨⟨Ha, ⟨%ga, Ga⟩⟩, ⟨Hb, ⟨%gb, Gb⟩⟩⟩, HW, HS, Hn⟩
    isplitl [HW]; · iexact HW
    isplitl [HS]; · iexact HS
    isplitr [Hn]
    · isplitl [Ha Ga]
      · isplitl [Ha]; · iexact Ha
        iexists _; iexact Ga
      isplitl [Hb]; · iexact Hb
      iexists _; iexact Gb
    iexact Hn
  refine key.trans ?_
  fin_cases s
  · exact .rfl
  · show iprop(held c MW fw ∗ held c MS fs ∗ wOff (F := F) c 1 ∗ wOff (F := F) c 0) ⊢ _
    iintro ⟨HW, HS, Ha, Hb⟩
    isplitl [HW]; · iexact HW
    isplitl [HS]; · iexact HS
    isplitl [Hb]; · iexact Hb
    iexact Ha

/-! ## The loop over the items -/

/-- What one item leaves in the two results' blocks. -/
def outStep (A4 : Memref sig .tc .vmem S6144x1024 .fp8e4m3) (A5 : Memref sig .tc .vmem S6144x1 .f32)
    (fx : BufOf (F := F) c MX) (fw : BufOf (F := F) c MW) (fs : BufOf (F := F) c MS) (it : Item) (p : BufOf (F := F) c A4 × BufOf (F := F) c A5) : BufOf (F := F) c A4 × BufOf (F := F) c A5 :=
  (A4.view.writes (Elt F) p.1 [⟨rect4 it, codesOut (xblk c fx it.st it.hst) (wblk c fw it.e) (sblk c fs it.e) (it.w 1) (it.w 2) (View.readAt (Elt F) A4.view (rect4 it).toLoadRect p.1)⟩],
   A5.view.writes (Elt F) p.2 [⟨rect5 it, scaleOut (xblk c fx it.st it.hst) (wblk c fw it.e) (sblk c fs it.e) (it.w 1) (it.w 2) (View.readAt (Elt F) A5.view (rect5 it).toLoadRect p.2)⟩])
/-- What the first `k` items leave. -/
def outs (A4 : Memref sig .tc .vmem S6144x1024 .fp8e4m3) (A5 : Memref sig .tc .vmem S6144x1 .f32)
    (fx : BufOf (F := F) c MX) (fw : BufOf (F := F) c MW) (fs : BufOf (F := F) c MS) (its : ℕ → Item) (p : BufOf (F := F) c A4 × BufOf (F := F) c A5) : ℕ → BufOf (F := F) c A4 × BufOf (F := F) c A5
  | 0 => p
  | k + 1 => outStep c A4 A5 fx fw fs (its k) (outs A4 A5 fx fw fs its p k)

theorem outs_succ (A4 : Memref sig .tc .vmem S6144x1024 .fp8e4m3) (A5 : Memref sig .tc .vmem S6144x1 .f32)
    (fx : BufOf (F := F) c MX) (fw : BufOf (F := F) c MW) (fs : BufOf (F := F) c MS) (its : ℕ → Item) (p : BufOf (F := F) c A4 × BufOf (F := F) c A5) (k : ℕ) :
    outs c A4 A5 fx fw fs its p (k + 1) = outStep c A4 A5 fx fw fs (its k) (outs c A4 A5 fx fw fs its p k) := rfl

/-- The weights' ring before trip `k` of `n`. -/
abbrev wAt (its : ℕ → Item) (n k : ℕ) (fw : BufOf (F := F) c MW) (fs : BufOf (F := F) c MS) : sProp 𝕄 :=
  if k < n then wBefore c (its k) fw fs else wFree c fw fs

abbrev inv6 (A4 : Memref sig .tc .vmem S6144x1024 .fp8e4m3) (A5 : Memref sig .tc .vmem S6144x1 .f32)
    (fx : BufOf (F := F) c MX) (fw : BufOf (F := F) c MW) (fs : BufOf (F := F) c MS) (T : BufOf (F := F) c M10) (its : ℕ → Item) (n : ℕ)
    (p : BufOf (F := F) c A4 × BufOf (F := F) c A5) (k : ℕ) (_w : BitVec 32) : sProp 𝕄 :=
  iprop(held c M10 T ∗ wAt c its n k fw fs ∗ xNext c (par k) (rap k) (if k < n then some (its k).rows else none) fx ∗ (∃ f9 : BufOf (F := F) c M9, held c M9 f9)
    ∗ own c A4 (outs c A4 A5 fx fw fs its p k).1 ∗ own c A5 (outs c A4 A5 fx fw fs its p k).2 ∗ ∃ W', owes (c : Thread nD τ) 0 W')

theorem step6 (A0 : Memref sig .tc .smem S8 .i32) (hA0 : A0.IsWhole) (A4 : Memref sig .tc .vmem S6144x1024 .fp8e4m3) (hA4 : A4.IsWhole) (A5 : Memref sig .tc .vmem S6144x1 .f32) (hA5 : A5.IsWhole) (n : BitVec 32) (hn : k0_chk4 n)
    (fx : BufOf (F := F) c MX) (fw : BufOf (F := F) c MW) (fs : BufOf (F := F) c MS) (T : BufOf (F := F) c M10) (its : ℕ → Item) (l : ℕ → ℕ) (hsc : Sched its n.toNat l)
    (hR : ∀ k : Fin 40, k.val < n.toNat → RowIs c T k (its k)) (p : BufOf (F := F) c A4 × BufOf (F := F) c A5) (k : Fin (k0_t6_loop n).trips) (w : BitVec 32) :
    inv6 c A4 A5 fx fw fs T its n.toNat p k.val w ⊢ wp frame (wpE (defs₀ (F := F)) Variants.none c none) Set.univ
      (k0_t6_body A0 hA0 MX (Memref.isWhole_whole _) MW (Memref.isWhole_whole _) MS (Memref.isWhole_whole _) A4 hA4 A5 hA5 M6 (Memref.isWhole_whole _) M7 (Memref.isWhole_whole _) M8 (Memref.isWhole_whole _) M9 (Memref.isWhole_whole _) M10 (Memref.isWhole_whole _) cc0_scratch5 cc0_scratch6 cc0_scratch7 n hn 0#32 k w) (inv6 c A4 A5 fx fw fs T its n.toNat p (k.val + 1)) := by
  have hk : k.val < n.toNat := lt_of_lt_of_eq k.isLt (trips6 n hsc.le)
  have hle := hsc.le
  unfold inv6 wAt
  rw [if_pos hk, if_pos hk]
  iintro ⟨HT, Hw, Hx, ⟨%f9, H9⟩, H4, H5, ⟨%W, Ho⟩⟩
  have hp1 : par (k.val + 1) = rap k.val := Fin.ext (by show (k.val + 1) % 2 = 1 - k.val % 2; omega)
  have hp2 : rap (k.val + 1) = par k.val := Fin.ext (by show 1 - (k.val + 1) % 2 = k.val % 2; omega)
  rw [hp1, hp2, outs_succ]
  unfold outStep
  dsimp only
  by_cases hl : k.val + 1 < n.toNat
  · rw [if_pos hl, if_pos hl]
    iapply (trip c A0 hA0 A4 hA4 A5 hA5 n hn k hsc.le ⟨k.val, by omega⟩ rfl fx fw fs T W (its k.val) (hR ⟨k.val, by omega⟩ hk) (some (its (k.val + 1)))
      ⟨⟨k.val + 1, by omega⟩, rfl, hl, hR ⟨k.val + 1, by omega⟩ hl⟩ (par k.val) (rap k.val) rfl rfl f9 _ _ w) $$ [HT Hw Hx H9 H4 H5 Ho]
    · isplitl [HT]; · iexact HT
      isplitl [Hw]; · iexact Hw
      isplitl [Hx]; · iexact Hx
      isplitl [H9]; · iexact H9
      isplitl [H4]; · iexact H4
      isplitl [H5]; · iexact H5
      iexact Ho
    iintro ⟨HT, Hw, Hx, H9, H4, H5, Ho⟩
    isplitl [HT]; · iexact HT
    isplitl [Hw]; · iapply (wStep c _ _ fw fs (hsc.step k.val hl)); iexact Hw
    isplitl [Hx]
    · iapply (show xNext c (rap k.val) (par k.val) (Option.map Item.rows (some (its (k.val + 1)))) fx ⊢ xNext c (rap k.val) (par k.val) (some (its (k.val + 1)).rows) fx from .rfl)
      iexact Hx
    isplitl [H9]; · iexact H9
    isplitl [H4]; · iexact H4
    isplitl [H5]; · iexact H5
    iexact Ho
  · rw [if_neg hl, if_neg hl]
    iapply (trip c A0 hA0 A4 hA4 A5 hA5 n hn k hsc.le ⟨k.val, by omega⟩ rfl fx fw fs T W (its k.val) (hR ⟨k.val, by omega⟩ hk) none
      hl (par k.val) (rap k.val) rfl rfl f9 _ _ w) $$ [HT Hw Hx H9 H4 H5 Ho]
    · isplitl [HT]; · iexact HT
      isplitl [Hw]; · iexact Hw
      isplitl [Hx]; · iexact Hx
      isplitl [H9]; · iexact H9
      isplitl [H4]; · iexact H4
      isplitl [H5]; · iexact H5
      iexact Ho
    iintro ⟨HT, Hw, Hx, H9, H4, H5, Ho⟩
    isplitl [HT]; · iexact HT
    isplitl [Hw]; · iapply (wEnd c _ fw fs (hsc.last k.val (by omega))); iexact Hw
    isplitl [Hx]
    · iapply (show xNext c (rap k.val) (par k.val) (Option.map Item.rows none) fx ⊢ xNext c (rap k.val) (par k.val) none fx from .rfl)
      iexact Hx
    isplitl [H9]; · iexact H9
    isplitl [H4]; · iexact H4
    isplitl [H5]; · iexact H5
    iexact Ho

/-! ## The body -/

theorem body_run (A0 : Memref sig .tc .smem S8 .i32) (hA0 : A0.IsWhole) (A4 : Memref sig .tc .vmem S6144x1024 .fp8e4m3) (hA4 : A4.IsWhole) (A5 : Memref sig .tc .vmem S6144x1 .f32) (hA5 : A5.IsWhole)
    (f0 : BufOf (F := F) c A0) (g : ℕ → ℕ) (hg : ∀ e : Fin 8, (gw c A0 f0 e).toNat = g e) (hs : lo g 8 = 6144)
    (T0 : BufOf (F := F) c M10) (fx : BufOf (F := F) c MX) (fw : BufOf (F := F) c MW) (fs : BufOf (F := F) c MS) (f9 : BufOf (F := F) c M9)
    (f4 : BufOf (F := F) c A4) (f5 : BufOf (F := F) c A5) (W) {Q : PUnit → sProp 𝕄} :
    iprop(own c A0 f0 ∗ held c M10 T0 ∗ held c MX fx ∗ held c MW fw ∗ held c MS fs ∗ held c M9 f9 ∗ own c A4 f4 ∗ own c A5 f5
      ∗ idle (F := F) c (cell6 0) (slot6 0) ∗ idle (F := F) c (cell6 1) (slot6 1) ∗ wOff (F := F) c 0 ∗ wOff (F := F) c 1 ∗ owes (c : Thread nD τ) 0 W)
    ⊢ iprop((iprop(own c A0 f0 ∗ (∃ T : BufOf (F := F) c M10, held c M10 T) ∗ held c MX fx ∗ held c MW fw ∗ held c MS fs ∗ (∃ f9 : BufOf (F := F) c M9, held c M9 f9)
        ∗ own c A4 (outs c A4 A5 fx fw fs (seq g) (f4, f5) (nb g 8)).1 ∗ own c A5 (outs c A4 A5 fx fw fs (seq g) (f4, f5) (nb g 8)).2
        ∗ idle (F := F) c (cell6 0) (slot6 0) ∗ idle (F := F) c (cell6 1) (slot6 1) ∗ wOff (F := F) c 0 ∗ wOff (F := F) c 1 ∗ ∃ W', owes (c : Thread nD τ) 0 W') -∗ Q ⟨⟩) -∗
      wp frame (wpE (defs₀ (F := F)) Variants.none c none) Set.univ (cc0_moe_gate_up A0 hA0 MX (Memref.isWhole_whole _) MW (Memref.isWhole_whole _) MS (Memref.isWhole_whole _) A4 hA4 A5 hA5 M6 (Memref.isWhole_whole _) M7 (Memref.isWhole_whole _) M8 (Memref.isWhole_whole _) M9 (Memref.isWhole_whole _) M10 (Memref.isWhole_whole _) cc0_scratch5 cc0_scratch6 cc0_scratch7) Q) := by
  have hsc := sched g hs
  rw [cc0_moe_gate_up_eq_skeleton]
  unfold cc0_moe_gate_up_skel
  rw [wp_bind]
  iintro ⟨H0, HT, HX, HW, HS, H9, H4, H5, Hx0, Hx1, ⟨Ha0, Hb0⟩, Hw1, Ho⟩ HQ
  iapply (part48_run c A0 hA0 A4 hA4 A5 hA5 f0 g hg hs T0 fx fw fs W) $$ [H0 HT HX HW HS Hx0 Ha0 Hb0 Ho]
  · isplitl [H0]; · iexact H0
    isplitl [HT]; · iexact HT
    isplitl [HX]; · iexact HX
    isplitl [HW]; · iexact HW
    isplitl [HS]; · iexact HS
    isplitl [Hx0]; · iexact Hx0
    isplitl [Ha0]; · iexact Ha0
    isplitl [Hb0]; · iexact Hb0
    iexact Ho
  iintro %n %hn %T ⟨%hT, H0, HT, Hx0, Hw0, Ho⟩
  obtain ⟨hnn, hR⟩ := hT
  dsimp only
  have hsc' : Sched (seq g) n.toNat (lo g) := by rw [hnn]; exact hsc
  have hwb : iprop(wGo c 0 (seq g 0).e fw fs ∗ wOff (F := F) c 1) ⊢ wBefore c (seq g 0) fw fs := by
    obtain ⟨h1, h2⟩ := seq0 g hs
    unfold wBefore
    rw [h1, h2]
    exact .rfl
  sl_for (inv6 c A4 A5 fx fw fs T (seq g) n.toNat (f4, f5)) $$ [HT Hx0 Hx1 Hw0 Hw1 H9 H4 H5 Ho]
  · exact step6 c A0 hA0 A4 hA4 A5 hA5 n hn fx fw fs T (seq g) (lo g) hsc' (fun k hk => rows_seq c g T hR k (by rw [← hnn]; exact hk)) (f4, f5)
  · unfold inv6 wAt
    rw [if_pos hsc'.pos, if_pos hsc'.pos]
    isplitl [HT]; · iexact HT
    isplitl [Hw0 Hw1]
    · iapply hwb
      isplitl [Hw0]; · iexact Hw0
      iexact Hw1
    isplitl [Hx0 Hx1]
    · isplitl [Hx0]; · iexact Hx0
      iexact Hx1
    isplitl [H9]; · iexists f9; iexact H9
    isplitl [H4]; · iexact H4
    isplitl [H5]; · iexact H5
    iexact Ho
  iintro %v27 HI
  have z7 := trips7 n hsc'.le
  sl_for0 z7
  have h6 : (k0_t6_loop n).trips = n.toNat := trips6 n hsc'.le
  have hI : inv6 c A4 A5 fx fw fs T (seq g) n.toNat (f4, f5) (k0_t6_loop n).trips v27
      ⊢ iprop(held c M10 T ∗ wFree c fw fs ∗ (held c MX fx ∗ idle (F := F) c (cell6 0) (slot6 0) ∗ idle (F := F) c (cell6 1) (slot6 1)) ∗ (∃ f9 : BufOf (F := F) c M9, held c M9 f9)
    ∗ own c A4 (outs c A4 A5 fx fw fs (seq g) (f4, f5) (nb g 8)).1 ∗ own c A5 (outs c A4 A5 fx fw fs (seq g) (f4, f5) (nb g 8)).2 ∗ ∃ W', owes (c : Thread nD τ) 0 W') := by
    rw [h6]
    unfold inv6 wAt
    rw [if_neg (lt_irrefl _), if_neg (lt_irrefl _), hnn]
    have hpar : ∀ k, iprop(held c MX fx ∗ idle (F := F) c (cell6 (par k)) (slot6 (par k)) ∗ idle (F := F) c (cell6 (rap k)) (slot6 (rap k))) ⊢ iprop(held c MX fx ∗ idle (F := F) c (cell6 0) (slot6 0) ∗ idle (F := F) c (cell6 1) (slot6 1)) := by
      intro k
      rcases Nat.mod_two_eq_zero_or_one k with h | h
      · have h1 : par k = 0 := Fin.ext h
        have h2 : rap k = 1 := Fin.ext (by show 1 - k % 2 = 1; omega)
        rw [h1, h2]
      · have h1 : par k = 1 := Fin.ext h
        have h2 : rap k = 0 := Fin.ext (by show 1 - k % 2 = 0; omega)
        rw [h1, h2]
        iintro ⟨HX, Ha, Hb⟩
        isplitl [HX]; · iexact HX
        isplitl [Hb]; · iexact Hb
        iexact Ha
    iintro ⟨HT, Hw, Hx, H9, H4, H5, Ho⟩
    isplitl [HT]; · iexact HT
    isplitl [Hw]; · iexact Hw
    isplitl [Hx]; · iapply (hpar (nb g 8)); iexact Hx
    isplitl [H9]; · iexact H9
    isplitl [H4]; · iexact H4
    isplitl [H5]; · iexact H5
    iexact Ho
  ihave HJ := hI $$ HI
  icases HJ with ⟨HT, ⟨HW, HS, Hw0, Hw1⟩, ⟨HX, Hx0, Hx1⟩, H9, H4, H5, Ho⟩
  sl_exec
  simp only [wp_ret]; imodintro
  iapply HQ
  isplitl [H0]; · iexact H0
  isplitl [HT]; · iexists T; iexact HT
  isplitl [HX]; · iexact HX
  isplitl [HW]; · iexact HW
  isplitl [HS]; · iexact HS
  isplitl [H9]; · iexact H9
  isplitl [H4]; · iexact H4
  isplitl [H5]; · iexact H5
  isplitl [Hx0]; · iexact Hx0
  isplitl [Hx1]; · iexact Hx1
  isplitl [Hw0]; · iexact Hw0
  isplitl [Hw1]; · iexact Hw1
  iexact Ho

end Cert.Kernel.Hand

end
-- ==== Proof.KLaunch.lean ====
module

public import proofs.«01_k».proof.Proof.KRun
public import proofs.«01_k».proof.Proof.Gen.Kernel.Frame

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The scratch buffers cut into their slots -/

theorem set6 (s : Fin 2) : (slot6 s).view.set = (M6.view.slice (Rect.unit (s := S2x256x2816) ![s.val, 0, 0] S1x256x2816.size (inb6 s))).set := View.set_reshape _ _
theorem disj6 : ∀ s s' : Fin 2, s ≠ s' → Disjoint (slot6 s).view.set (slot6 s').view.set := by
  intro s s' h
  rw [set6, set6, View.set_slice, View.set_slice, Finset.disjoint_map, Finset.disjoint_left]
  intro x hx hx'
  have h0 := Rect.mem_set_unit.1 hx 0
  have h1 := Rect.mem_set_unit.1 hx' 0
  have h0' : s.val ≤ (x 0).val ∧ (x 0).val < s.val + 1 := h0
  have h1' : s'.val ≤ (x 0).val ∧ (x 0).val < s'.val + 1 := h1
  exact h (Fin.ext (by omega))
/-- The elements of buffer 6 outside its slots. -/
abbrev spare6 (c : Dev nD) : sProp 𝕄 :=
  iprop(∃ f : BufOf (F := F) c M6, M6.view.loc (c : Thread nD τ) ↦[Finset.univ \ Finset.univ.biUnion fun s : Fin 2 => (slot6 s).view.set]{fullShare} f)
theorem split6 (c : Dev nD) :
    iprop(∃ f : BufOf (F := F) c M6, held c M6 f) ⊢ (iprop(((∃ f, own c (slot6 0) f) ∗ ∃ f, own c (slot6 1) f) ∗ spare6 c) : sProp 𝕄) :=
  Ring.slots2_split_spare (ℓ := M6.view.loc (c : Thread nD τ)) (q := fullShare) (fun s : Fin 2 => (slot6 s).view.set) disj6 (fun f => own c (slot6 0) f) (fun f => own c (slot6 1) f) (fun _ => rfl) (fun _ => rfl)
theorem join6 (c : Dev nD) :
    (iprop(((∃ f, own c (slot6 0) f) ∗ ∃ f, own c (slot6 1) f) ∗ spare6 c) : sProp 𝕄) ⊢ iprop(∃ f : BufOf (F := F) c M6, held c M6 f) :=
  Ring.slots2_join_spare (ℓ := M6.view.loc (c : Thread nD τ)) (q := fullShare) (fun s : Fin 2 => (slot6 s).view.set) disj6 (fun f => own c (slot6 0) f) (fun f => own c (slot6 1) f) (fun _ => rfl) (fun _ => rfl)

theorem set7 (s : Fin 2) : (slot7 s).view.set = (M7.view.slice (Rect.unit (s := S2x1408x2048) ![s.val, 0, 0] S1x1408x2048.size (inb7 s))).set := View.set_reshape _ _
theorem disj7 : ∀ s s' : Fin 2, s ≠ s' → Disjoint (slot7 s).view.set (slot7 s').view.set := by
  intro s s' h
  rw [set7, set7, View.set_slice, View.set_slice, Finset.disjoint_map, Finset.disjoint_left]
  intro x hx hx'
  have h0 := Rect.mem_set_unit.1 hx 0
  have h1 := Rect.mem_set_unit.1 hx' 0
  have h0' : s.val ≤ (x 0).val ∧ (x 0).val < s.val + 1 := h0
  have h1' : s'.val ≤ (x 0).val ∧ (x 0).val < s'.val + 1 := h1
  exact h (Fin.ext (by omega))
/-- The elements of buffer 7 outside its slots. -/
abbrev spare7 (c : Dev nD) : sProp 𝕄 :=
  iprop(∃ f : BufOf (F := F) c M7, M7.view.loc (c : Thread nD τ) ↦[Finset.univ \ Finset.univ.biUnion fun s : Fin 2 => (slot7 s).view.set]{fullShare} f)
theorem split7 (c : Dev nD) :
    iprop(∃ f : BufOf (F := F) c M7, held c M7 f) ⊢ (iprop(((∃ f, own c (slot7 0) f) ∗ ∃ f, own c (slot7 1) f) ∗ spare7 c) : sProp 𝕄) :=
  Ring.slots2_split_spare (ℓ := M7.view.loc (c : Thread nD τ)) (q := fullShare) (fun s : Fin 2 => (slot7 s).view.set) disj7 (fun f => own c (slot7 0) f) (fun f => own c (slot7 1) f) (fun _ => rfl) (fun _ => rfl)
theorem join7 (c : Dev nD) :
    (iprop(((∃ f, own c (slot7 0) f) ∗ ∃ f, own c (slot7 1) f) ∗ spare7 c) : sProp 𝕄) ⊢ iprop(∃ f : BufOf (F := F) c M7, held c M7 f) :=
  Ring.slots2_join_spare (ℓ := M7.view.loc (c : Thread nD τ)) (q := fullShare) (fun s : Fin 2 => (slot7 s).view.set) disj7 (fun f => own c (slot7 0) f) (fun f => own c (slot7 1) f) (fun _ => rfl) (fun _ => rfl)

theorem set8 (s : Fin 2) : (slot8 s).view.set = (M8.view.slice (Rect.unit (s := S2x22x2048) ![s.val, 0, 0] S1x22x2048.size (inb8 s))).set := View.set_reshape _ _
theorem disj8 : ∀ s s' : Fin 2, s ≠ s' → Disjoint (slot8 s).view.set (slot8 s').view.set := by
  intro s s' h
  rw [set8, set8, View.set_slice, View.set_slice, Finset.disjoint_map, Finset.disjoint_left]
  intro x hx hx'
  have h0 := Rect.mem_set_unit.1 hx 0
  have h1 := Rect.mem_set_unit.1 hx' 0
  have h0' : s.val ≤ (x 0).val ∧ (x 0).val < s.val + 1 := h0
  have h1' : s'.val ≤ (x 0).val ∧ (x 0).val < s'.val + 1 := h1
  exact h (Fin.ext (by omega))
/-- The elements of buffer 8 outside its slots. -/
abbrev spare8 (c : Dev nD) : sProp 𝕄 :=
  iprop(∃ f : BufOf (F := F) c M8, M8.view.loc (c : Thread nD τ) ↦[Finset.univ \ Finset.univ.biUnion fun s : Fin 2 => (slot8 s).view.set]{fullShare} f)
theorem split8 (c : Dev nD) :
    iprop(∃ f : BufOf (F := F) c M8, held c M8 f) ⊢ (iprop(((∃ f, own c (slot8 0) f) ∗ ∃ f, own c (slot8 1) f) ∗ spare8 c) : sProp 𝕄) :=
  Ring.slots2_split_spare (ℓ := M8.view.loc (c : Thread nD τ)) (q := fullShare) (fun s : Fin 2 => (slot8 s).view.set) disj8 (fun f => own c (slot8 0) f) (fun f => own c (slot8 1) f) (fun _ => rfl) (fun _ => rfl)
theorem join8 (c : Dev nD) :
    (iprop(((∃ f, own c (slot8 0) f) ∗ ∃ f, own c (slot8 1) f) ∗ spare8 c) : sProp 𝕄) ⊢ iprop(∃ f : BufOf (F := F) c M8, held c M8 f) :=
  Ring.slots2_join_spare (ℓ := M8.view.loc (c : Thread nD τ)) (q := fullShare) (fun s : Fin 2 => (slot8 s).view.set) disj8 (fun f => own c (slot8 0) f) (fun f => own c (slot8 1) f) (fun _ => rfl) (fun _ => rfl)

variable (m : (ℓ : Loc nD τ sig) → Buf (Elt F) ℓ) (ρ : Dev nD → PrngReg)

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-! ## The body's own cells and operands -/

abbrev osem0 : Fin 6 → SemLoc sig := fun j => (![SemLoc.dma 3, SemLoc.dma 4, SemLoc.dma 5, SemLoc.dma 6, SemLoc.dma 7, SemLoc.dma 8] : Fin 6 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), cell6 0) 0 ∗ semVal ((c : Thread nD τ), cell6 1) 0
          ∗ semVal ((c : Thread nD τ), cell7 0) 0 ∗ semVal ((c : Thread nD τ), cell7 1) 0
          ∗ semVal ((c : Thread nD τ), cell8 0) 0 ∗ semVal ((c : Thread nD τ), cell8 1) 0) := by
  rw [Pipeline.ownSems0_eq_of_list c osem0 [0, 1, 2, 3, 4, 5] (by decide) (by decide)]; rfl
def H0 : Finset (Ref sig .tc) := {main_arg0, main_arg2, main_arg3}
theorem H0_sub : H0 ⊆ Pipeline.restRefs sig spec0 := by decide
theorem hbmPts0_eq (c : Dev nD) :
    (bigSep H0 (fun b => ((c : Thread nD τ).loc b) ↦{fullShare} V m c b) : sProp 𝕄)
      = iprop(held c MX (V m c main_arg0) ∗ held c MW (V m c main_arg2) ∗ held c MS (V m c main_arg3)) := by
  rw [BI.bigSep_eq_bigSepL_of_eq [main_arg0, main_arg2, main_arg3] (by decide) (by decide)]; rfl

theorem PhiD0_eq (c : Dev nD) :
    (Pipeline.ΦD osem0 spec0 H0 (V m) c : sProp 𝕄)
      = iprop(iprop((∃ f : BufOf (F := F) c M6, held c M6 f) ∗ (∃ f : BufOf (F := F) c M7, held c M7 f) ∗ (∃ f : BufOf (F := F) c M8, held c M8 f)
            ∗ (∃ f : BufOf (F := F) c M9, held c M9 f) ∗ (∃ f : BufOf (F := F) c M10, held c M10 f))
          ∗ (∃ r, prngReg c r)
          ∗ iprop(semVal ((c : Thread nD τ), cell6 0) 0 ∗ semVal ((c : Thread nD τ), cell6 1) 0
          ∗ semVal ((c : Thread nD τ), cell7 0) 0 ∗ semVal ((c : Thread nD τ), cell7 1) 0
          ∗ semVal ((c : Thread nD τ), cell8 0) 0 ∗ semVal ((c : Thread nD τ), cell8 1) 0)
          ∗ iprop(held c MX (V m c main_arg0) ∗ held c MW (V m c main_arg2) ∗ held c MS (V m c main_arg3))) := by
  rw [Pipeline.ΦD_eq, scopedRest0_eq, ownSems00_eq, hbmPts0_eq]; try rfl

/-! ## The group sizes -/

/-- Group `e`'s size at launch. -/
def gs (c : Dev nD) (e : ℕ) : ℕ := if h : e < 8 then (V m c main_arg1 (ix1 (⟨e, h⟩ : Fin 8))).toNat else 0

/-- What the launch memory is asked: the group sizes share out the rows. -/
def Ok : Prop := ∀ c : Dev nD, lo (gs m c) 8 = 6144

theorem gs_iblk (c : Dev nD) (t : Fin cfg0.N) (e : Fin 8) : (iblk m c 0 t (ix1 e)).toNat = gs m c e.val := by
  unfold gs
  rw [dif_pos e.isLt]
  unfold iblk
  rw [View.read_apply, cast_eq]
  congr 2
  funext a
  apply Fin.ext
  fin_cases a
  show 0 * 8 + 1 * e.val = e.val
  omega

/-! ## The body on its staging buffers -/

abbrev sA0 (t : Fin cfg0.N) : Memref sig .tc .smem S8 .i32 := win0_0.stage (cfg0.slots t 0)
abbrev sA4 (t : Fin cfg0.N) : Memref sig .tc .vmem S6144x1024 .fp8e4m3 := win0_1.stage (cfg0.slots t 1)
abbrev sA5 (t : Fin cfg0.N) : Memref sig .tc .vmem S6144x1 .f32 := win0_2.stage (cfg0.slots t 2)

theorem body_step (c : Dev nD) (t : Fin cfg0.N) (hok : Ok m) (f0 : BufOf (F := F) c (sA0 t)) (hf0 : (sA0 t).view.read (Elt F) f0 = iblk m c 0 t)
    (f4 : BufOf (F := F) c (sA4 t)) (f5 : BufOf (F := F) c (sA5 t)) (W) {Q : PUnit → sProp 𝕄} :
    iprop(Pipeline.ΦD osem0 spec0 H0 (V m) c ∗ owes (c : Thread nD τ) 0 W ∗ own c (sA0 t) f0 ∗ own c (sA4 t) f4 ∗ own c (sA5 t) f5)
    ⊢ iprop((iprop(Pipeline.ΦD osem0 spec0 H0 (V m) c ∗ (∃ W', owes (c : Thread nD τ) 0 W') ∗ own c (sA0 t) f0
        ∗ own c (sA4 t) (outs c (sA4 t) (sA5 t) (V m c main_arg0) (V m c main_arg2) (V m c main_arg3) (seq (gs m c)) (f4, f5) (nb (gs m c) 8)).1
        ∗ own c (sA5 t) (outs c (sA4 t) (sA5 t) (V m c main_arg0) (V m c main_arg2) (V m c main_arg3) (seq (gs m c)) (f4, f5) (nb (gs m c) 8)).2) -∗ Q ⟨⟩) -∗
      wp frame (wpE (defs₀ (F := F)) Variants.none c none) Set.univ (bodyAt0 t) Q) := by
  rw [PhiD0_eq]
  unfold bodyAt0
  iintro ⟨⟨⟨H6, H7, H8, ⟨%f9, H9⟩, ⟨%T0, H10⟩⟩, Hg, ⟨Ha0, Ha1, Hb0, Hb1, Hc0, Hc1⟩, ⟨HX, HW, HS⟩⟩, Ho, H0, H4, H5⟩ HQ
  ihave H6' := split6 (F := F) c $$ H6
  icases H6' with ⟨⟨H60, H61⟩, H6s⟩
  ihave H7' := split7 (F := F) c $$ H7
  icases H7' with ⟨⟨H70, H71⟩, H7s⟩
  ihave H8' := split8 (F := F) c $$ H8
  icases H8' with ⟨⟨H80, H81⟩, H8s⟩
  iapply (body_run c (sA0 t) (hstage0_0 0) (sA4 t) (hstage0_1 0) (sA5 t) (hstage0_2 0) f0 (gs m c)
    (fun e => by unfold gw; rw [hf0]; exact gs_iblk m c t e) (hok c) T0 (V m c main_arg0) (V m c main_arg2) (V m c main_arg3) f9 f4 f5 W)
      $$ [H0 H10 HX HW HS H9 H4 H5 Ha0 Ha1 Hb0 Hb1 Hc0 Hc1 H60 H61 H70 H71 H80 H81 Ho]
  · isplitl [H0]; · iexact H0
    isplitl [H10]; · iexact H10
    isplitl [HX]; · iexact HX
    isplitl [HW]; · iexact HW
    isplitl [HS]; · iexact HS
    isplitl [H9]; · iexact H9
    isplitl [H4]; · iexact H4
    isplitl [H5]; · iexact H5
    isplitl [Ha0 H60]
    · isplitl [Ha0]; · iexact Ha0
      iexact H60
    isplitl [Ha1 H61]
    · isplitl [Ha1]; · iexact Ha1
      iexact H61
    isplitl [Hb0 H70 Hc0 H80]
    · isplitl [Hb0 H70]
      · isplitl [Hb0]; · iexact Hb0
        iexact H70
      isplitl [Hc0]; · iexact Hc0
      iexact H80
    isplitl [Hb1 H71 Hc1 H81]
    · isplitl [Hb1 H71]
      · isplitl [Hb1]; · iexact Hb1
        iexact H71
      isplitl [Hc1]; · iexact Hc1
      iexact H81
    iexact Ho
  iintro ⟨H0, H10, HX, HW, HS, H9, H4, H5, ⟨Ha0, H60⟩, ⟨Ha1, H61⟩, ⟨⟨Hb0, H70⟩, ⟨Hc0, H80⟩⟩, ⟨⟨Hb1, H71⟩, ⟨Hc1, H81⟩⟩, Ho⟩
  iapply HQ
  isplitl [H6s H7s H8s H60 H61 H70 H71 H80 H81 H9 H10 Hg Ha0 Ha1 Hb0 Hb1 Hc0 Hc1 HX HW HS]
  · isplitl [H6s H7s H8s H60 H61 H70 H71 H80 H81 H9 H10]
    · isplitl [H6s H60 H61]
      · iapply join6 (F := F) c
        isplitl [H60 H61]
        · isplitl [H60]; · iexact H60
          iexact H61
        iexact H6s
      isplitl [H7s H70 H71]
      · iapply join7 (F := F) c
        isplitl [H70 H71]
        · isplitl [H70]; · iexact H70
          iexact H71
        iexact H7s
      isplitl [H8s H80 H81]
      · iapply join8 (F := F) c
        isplitl [H80 H81]
        · isplitl [H80]; · iexact H80
          iexact H81
        iexact H8s
      isplitl [H9]; · iexact H9
      iexact H10
    isplitl [Hg]; · iexact Hg
    isplitl [Ha0 Ha1 Hb0 Hb1 Hc0 Hc1]
    · isplitl [Ha0]; · iexact Ha0
      isplitl [Ha1]; · iexact Ha1
      isplitl [Hb0]; · iexact Hb0
      isplitl [Hb1]; · iexact Hb1
      isplitl [Hc0]; · iexact Hc0
      iexact Hc1
    isplitl [HX]; · iexact HX
    isplitl [HW]; · iexact HW
    iexact HS
  isplitl [Ho]; · iexact Ho
  isplitl [H0]; · iexact H0
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

end Cert.Kernel.Hand

end
-- ==== Proof.KPre.lean ====
module

public import proofs.«01_k».proof.Pre_groups_partition_rows
public import Idealize.ShloMosaic.Lib.Pointwise.Reduce
public import Idealize.ShloMosaic.Lib.WordCmp

@[expose] public section

noncomputable section

namespace Cert.Words

open Idealize.ShloMosaic Cert.Pre_groups_partition_rows

variable {F : FTy → Type} [FloatOps F]

/-- The sum of eight words as the precondition folds it. -/
theorem reduce_eight (g : IVec S8 32) (z : IVec S_ 32) (h : S8.ReducesTo [0] S_) (hu : 0 < S_.numel) (j : S_.Idx) :
    Host.reduce IntOp.addi g z h hu j
      = IntOp.addi (IntOp.addi (IntOp.addi (IntOp.addi (IntOp.addi (IntOp.addi (IntOp.addi (IntOp.addi (z (Shape.Idx.first hu))
          (g (ix1 0))) (g (ix1 1))) (g (ix1 2))) (g (ix1 3))) (g (ix1 4))) (g (ix1 5))) (g (ix1 6))) (g (ix1 7)) := by
  unfold Host.reduce
  have e : ((List.finRange S8.numel).filter fun n => h.drop (S8.rowMajor.symm n) = j) = List.finRange S8.numel :=
    List.filter_eq_self.2 fun n _ => decide_eq_true (funext fun a => a.elim0)
  rw [e]
  have e2 : ∀ n : Fin S8.numel, S8.rowMajor.symm n = ix1 (⟨n.val, n.isLt⟩ : Fin 8) := by
    intro n
    refine (Equiv.symm_apply_eq _).2 (Fin.ext ?_)
    exact (Shape.rowMajor_val_one (d := ![8]) (ix1 (⟨n.val, n.isLt⟩ : Fin 8))).symm
  have e3 : ∀ (f : BitVec 32 → Fin 8 → BitVec 32) (a : BitVec 32), (List.finRange 8).foldl f a
      = f (f (f (f (f (f (f (f a 0) 1) 2) 3) 4) 5) 6) 7 := by
    intro f a
    rfl
  simp only [e2]
  exact e3 (fun r n => IntOp.addi r (g (ix1 n))) _

/-- What the precondition says of the words: none is negative or above the number of rows, and they sum to it. -/
theorem decode [Facts] (x : FVec F S6144x2816 .bf16) (g : IVec S8 32) (w : IVec S8x1408x2048 8) (s : FVec F S8x22x2048 .bf16)
    (h : fn x g w s = fun _ => 1#1) :
    (g (ix1 0)).toNat + (g (ix1 1)).toNat + (g (ix1 2)).toNat + (g (ix1 3)).toNat + (g (ix1 4)).toNat + (g (ix1 5)).toNat
      + (g (ix1 6)).toNat + (g (ix1 7)).toNat = 6144 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have b : ∀ y : S8.Idx, (g y).toNat ≤ 6144 ∧ Host.reduce IntOp.addi g (constantI S_ 32 0#32) Facts.reducesTo_S8_S_d0 Facts.h_S_ (Shape.Idx.first Facts.h_S_) = 6144#32 := by
    intro y
    have e := congrFun h y
    simp only [fn, andi, cmpi, broadcastInDim, constantI, IntOp.cmpi, andi_ofBool, ofBool_eq_one, Bool.and_eq_true, beq_iff_eq] at e
    obtain ⟨⟨hge, hle⟩, hs⟩ := e
    refine ⟨?_, ?_⟩
    · clear hs h
      generalize g y = v at hge hle
      simp only [BitVec.sle, decide_eq_true_eq, BitVec.toInt, BitVec.toNat_ofNat] at hge hle
      omega
    · refine Eq.trans (congrArg _ ?_) hs
      exact funext fun a => a.elim0
  have hs := (b (ix1 0)).2
  rw [reduce_eight] at hs
  have hs := congrArg BitVec.toNat hs
  have b0 := (b (ix1 0)).1; have b1 := (b (ix1 1)).1; have b2 := (b (ix1 2)).1; have b3 := (b (ix1 3)).1
  have b4 := (b (ix1 4)).1; have b5 := (b (ix1 5)).1; have b6 := (b (ix1 6)).1; have b7 := (b (ix1 7)).1
  clear b h
  generalize g (ix1 0) = g0 at *
  generalize g (ix1 1) = g1 at *
  generalize g (ix1 2) = g2 at *
  generalize g (ix1 3) = g3 at *
  generalize g (ix1 4) = g4 at *
  generalize g (ix1 5) = g5 at *
  generalize g (ix1 6) = g6 at *
  generalize g (ix1 7) = g7 at *
  simp only [IntOp.addi, constantI, BitVec.toNat_add, BitVec.toNat_ofNat] at hs
  omega

end Cert.Words

end
-- ==== Proof.KFrame.lean ====
module

public import proofs.«01_k».proof.Proof.KLaunch
public import proofs.«01_k».proof.Proof.KPre

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

/-! ## The frame: the results forgotten -/

def forgets0 : Fin 3 → Bool := fun | 0 => false | 1 => true | 2 => true | ⟨_ + 3, h⟩ => absurd h (Nat.not_lt.2 (Nat.le_add_left _ _))

/-- The proof data: the group sizes left as found, the results unnamed. -/
def datsF (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, h⟩ => Pipeline.Dat.unnamed (cfg := cfg0) ⟨1, h⟩ t
    | ⟨2, h⟩ => Pipeline.Dat.unnamed (cfg := cfg0) ⟨2, h⟩ t
  Φ _ := Pipeline.ΦD osem0 spec0 H0 (V m) c
  q _ := fullShare
  owed _ := 0

theorem A_eqF (c : Dev nD) (w : Fin cfg0.W) : (datsF m 0 c).A w = V m c (Pipeline.arrRef spec0 w) := by dsimp only [datsF]
theorem afterF_0 (c : Dev nD) (t : Fin cfg0.N) : (datsF m 0 c).after 0 t = iblk m c 0 t := by dsimp only [datsF]

theorem before_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

def bodyPreF (c : Dev nD) (t : Fin cfg0.N) : sProp 𝕄 :=
  iprop((datsF m 0 c).Φ t.castSucc ∗ (datsF m 0 c).owesAt () t.castSucc
    ∗ (∃ d, owns (c : Thread nD τ) (sA0 t) fullShare ((datsF m 0 c).before 0 t d))
    ∗ (∃ d, owns (c : Thread nD τ) (sA4 t) fullShare d) ∗ (∃ d, owns (c : Thread nD τ) (sA5 t) fullShare d))
def bodyPostF (c : Dev nD) (t : Fin cfg0.N) : sProp 𝕄 :=
  iprop((datsF m 0 c).Φ t.succ ∗ (datsF m 0 c).owesAt () t.succ
    ∗ owns (c : Thread nD τ) (sA0 t) fullShare ((datsF m 0 c).after 0 t)
    ∗ (∃ d, owns (c : Thread nD τ) (sA4 t) fullShare d) ∗ (∃ d, owns (c : Thread nD τ) (sA5 t) fullShare d))

theorem sound_bodyF (hok : Ok m) (c : Dev nD) (t : Fin cfg0.N) :
    bodyPreF m c t ⊢ wp frame (wpE (defs₀ (F := F)) Variants.none c none) Set.univ (bodyAt0 t) (fun _ => bodyPostF m c t) := by
  unfold bodyPreF bodyPostF
  rw [show (datsF m 0 c).Φ t.succ = (datsF m 0 c).Φ t.castSucc from rfl,
    show (datsF m 0 c).owesAt () t.succ = (datsF m 0 c).owesAt () t.castSucc from rfl,
    show (datsF m 0 c).Φ t.castSucc = Pipeline.ΦD osem0 spec0 H0 (V m) c from rfl, afterF_0]
  unfold Dat.owesAt Pipeline.owesWithin
  rw [show (datsF m 0 c).owed t.castSucc = 0 from rfl]
  unfold owns
  iintro ⟨HΦ, ⟨%W, -, HW⟩, ⟨%d0, %f0, %hf0, H0⟩, ⟨%d4, %f4, -, H4⟩, ⟨%d5, %f5, -, H5⟩⟩
  rw [before_of m (datsF m 0 c) (A_eqF m c 0) (afterF_0 m c) t d0] at hf0
  iapply (body_step m c t hok f0 hf0 f4 f5 W) $$ [HΦ HW H0 H4 H5]
  · isplitl [HΦ]; · iexact HΦ
    isplitl [HW]; · iexact HW
    isplitl [H0]; · iexact H0
    isplitl [H4]; · iexact H4
    iexact H5
  iintro ⟨HΦ, ⟨%W', HW⟩, H0, H4, H5⟩
  isplitl [HΦ]; · iexact HΦ
  isplitl [HW]
  · iexists W'; isplitr; · ipureintro; exact fun _ _ => Or.inl trivial
    iexact HW
  isplitl [H0]
  · iexists f0; isplitr; · ipureintro; exact hf0
    iexact H0
  isplitl [H4]
  · iexists _, _; isplitr; swap; · iexact H4
    ipureintro; rfl
  iexists _, _; isplitr; swap; · iexact H5
  ipureintro; rfl

theorem body_obligationF (hok : Ok m) (c : Dev nD) : BodyObligation (datsF (F := F) m 0 c) (defs₀ (F := F)) Variants.none () Set.univ forgets0 := fun t => by
  rw [bigSep_W0, bigSep_W0, defs₀_row]
  exact triple_restated (sound_bodyF m hok c t) rfl .rfl fun _ => .rfl

set_option backward.isDefEq.respectTransparency.types false in
theorem run_mainF (hok : Ok m) :
    θ_run defs (onTc (τ := τ) (main (F := F))) (s₀ m ρ)
      (fun r => Pipeline.RDat.FramePost (cfgs 0) (fun c => (datsF m 0 c).toRForget forgets0) (V m) r ∧ r.2.sem = fun _ => 0) :=
  Pipeline.θ_run_frame_dma_forget (Q' := _) cfgs (datsF m) (0 : Fin 1) launch0 osem0 defs₀ Variants.none forgets0 ownSemFacts0 H0 H0_sub m ρ main
    (hbody := fun c => (body_obligationF m hok c).loose) (hshare := fun c => (datsF m 0 c).share_full fun _ => rfl)
    (howed := fun _ _ => rfl) (V := V m) (hmain := hmainD m Variants.none) (hA := A_eqF m)
    (hin := fun _ => .rfl) (hout := fun _ => .rfl)

/-- The run ends with the arguments as they were and every counter at zero. -/
theorem quiet (hok : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h.1 c).2 main_arg0 (Pipeline.mem_restRefs_of main_arg0 (by decide) (by decide)),
      (((datsF m 0 c).toRForget_arrAt_iff (fgt := forgets0) (w := 0) rfl _ _).1 ((h.1 c).1 0)).trans (((datsF m 0 c).arrAt_in 0 rfl _).trans (A_eqF m c 0)),
      (h.1 c).2 main_arg2 (Pipeline.mem_restRefs_of main_arg2 (by decide) (by decide)),
      (h.1 c).2 main_arg3 (Pipeline.mem_restRefs_of main_arg3 (by decide) (by decide))⟩, h.2⟩) (run_mainF m ρ hok)

/-- The precondition gives what the run asks. -/
theorem ok_of_pre [Cert.Pre_groups_partition_rows.Facts]
    (h : ∀ c : Dev nD, Cert.Pre_groups_partition_rows.fn (F := F) (m ((c.tc : Thread nD τ).loc main_arg0)) (m ((c.tc : Thread nD τ).loc main_arg1))
      (m ((c.tc : Thread nD τ).loc main_arg2)) (m ((c.tc : Thread nD τ).loc main_arg3)) = fun _ => 1#1) : Ok m := by
  intro c
  have e := Cert.Words.decode _ _ _ _ (h c)
  simp only [lo, gs]
  rw [dif_pos (by decide), dif_pos (by decide), dif_pos (by decide), dif_pos (by decide), dif_pos (by decide), dif_pos (by decide), dif_pos (by decide), dif_pos (by decide)]
  rw [← e, Nat.zero_add]
  rfl

end Cert.Kernel.Hand

end
-- ==== Proof.IDefs.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Tactic.Stretches
public import Idealize.ShloMosaic.Lib.Pointwise.Reduce

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The user algebra: the pipeline library's beside the transfers' counters. -/
local notation "𝕄" => MT nD τ sig Unit (Elt F) ℕ (Pipeline.UD sig nD τ) ℕ

/-! ## The operands the body addresses itself -/

abbrev MX : Memref sig .tc .hbm S6144x2816 .bf16 := Memref.whole main_arg0
abbrev MW : Memref sig .tc .hbm S8x1408x2048 .i8 := Memref.whole main_arg2
abbrev MS : Memref sig .tc .hbm S8x22x2048 .bf16 := Memref.whole main_arg3
abbrev M6 : Memref sig .tc .vmem S2x256x2816 .bf16 := Memref.whole cc0_scratch0
abbrev M7 : Memref sig .tc .vmem S2x1408x2048 .i8 := Memref.whole cc0_scratch1
abbrev M8 : Memref sig .tc .vmem S2x22x2048 .bf16 := Memref.whole cc0_scratch2
abbrev M9 : Memref sig .tc .vmem S256x1024 .f32 := Memref.whole cc0_scratch3
abbrev M10 : Memref sig .tc .smem S40x8 .i32 := Memref.whole cc0_scratch4

theorem inb6 (n : Fin 2) : ∀ a, (![n.val, 0, 0] : Fin 3 → Nat) a + S1x256x2816.size a ≤ S2x256x2816.size a := by
  have := n.isLt; intro a; fin_cases a
  · show n.val + 1 ≤ 2; omega
  · show 0 + 256 ≤ 256; omega
  · show 0 + 2816 ≤ 2816; omega
theorem inb7 (n : Fin 2) : ∀ a, (![n.val, 0, 0] : Fin 3 → Nat) a + S1x1408x2048.size a ≤ S2x1408x2048.size a := by
  have := n.isLt; intro a; fin_cases a
  · show n.val + 1 ≤ 2; omega
  · show 0 + 1408 ≤ 1408; omega
  · show 0 + 2048 ≤ 2048; omega
theorem inb8 (n : Fin 2) : ∀ a, (![n.val, 0, 0] : Fin 3 → Nat) a + S1x22x2048.size a ≤ S2x22x2048.size a := by
  have := n.isLt; intro a; fin_cases a
  · show n.val + 1 ≤ 2; omega
  · show 0 + 22 ≤ 22; omega
  · show 0 + 2048 ≤ 2048; omega
theorem inbSem (n : Fin 2) : ∀ a, (![n.val] : Fin 1 → Nat) a + S1.size a ≤ S2.size a := by
  have := n.isLt; intro a; fin_cases a
  show n.val + 1 ≤ 2; omega
theorem inbX (b : ℕ) (h : b + 256 ≤ 6144) : ∀ a, (![b, 0] : Fin 2 → Nat) a + S256x2816.size a ≤ S6144x2816.size a := by
  intro a; fin_cases a
  · exact h
  · show 0 + 2816 ≤ 2816; omega
theorem inbW (n : Fin 8) : ∀ a, (![n.val, 0, 0] : Fin 3 → Nat) a + S1x1408x2048.size a ≤ S8x1408x2048.size a := by
  have := n.isLt; intro a; fin_cases a
  · show n.val + 1 ≤ 8; omega
  · show 0 + 1408 ≤ 1408; omega
  · show 0 + 2048 ≤ 2048; omega
theorem inbS (n : Fin 8) : ∀ a, (![n.val, 0, 0] : Fin 3 → Nat) a + S1x22x2048.size a ≤ S8x22x2048.size a := by
  have := n.isLt; intro a; fin_cases a
  · show n.val + 1 ≤ 8; omega
  · show 0 + 22 ≤ 22; omega
  · show 0 + 2048 ≤ 2048; omega

/-- Slot `n` of the rows' buffer, of the packed weights' and of the scales'. -/
abbrev slot6 (n : Fin 2) : Memref sig .tc .vmem S256x2816 .bf16 :=
  (M6.slice (Rect.unit (s := S2x256x2816) ![n.val, 0, 0] S1x256x2816.size (inb6 n)) (fun _ => rfl)).squeeze S256x2816 squeezes_S1x256x2816_S256x2816
abbrev slot7 (n : Fin 2) : Memref sig .tc .vmem S1408x2048 .i8 :=
  (M7.slice (Rect.unit (s := S2x1408x2048) ![n.val, 0, 0] S1x1408x2048.size (inb7 n)) (fun _ => rfl)).squeeze S1408x2048 squeezes_S1x1408x2048_S1408x2048
abbrev slot8 (n : Fin 2) : Memref sig .tc .vmem S22x2048 .bf16 :=
  (M8.slice (Rect.unit (s := S2x22x2048) ![n.val, 0, 0] S1x22x2048.size (inb8 n)) (fun _ => rfl)).squeeze S22x2048 squeezes_S1x22x2048_S22x2048
/-- The semaphore cells. -/
abbrev cell6 (n : Fin 2) : SemLoc sig :=
  SemLoc.dma ((cc0_scratch5.slice (Rect.unit (s := S2) ![n.val] S1.size (inbSem n))).squeeze S_ squeezes_S1_S_).sem
abbrev cell7 (n : Fin 2) : SemLoc sig :=
  SemLoc.dma ((cc0_scratch6.slice (Rect.unit (s := S2) ![n.val] S1.size (inbSem n))).squeeze S_ squeezes_S1_S_).sem
abbrev cell8 (n : Fin 2) : SemLoc sig :=
  SemLoc.dma ((cc0_scratch7.slice (Rect.unit (s := S2) ![n.val] S1.size (inbSem n))).squeeze S_ squeezes_S1_S_).sem
/-- The 256 rows from `b` on; expert `e`'s packed weights; its scales. -/
abbrev rowsX (b : ℕ) (h : b + 256 ≤ 6144) : Memref sig .tc .hbm S256x2816 .bf16 :=
  MX.slice (Rect.unit (s := S6144x2816) ![b, 0] S256x2816.size (inbX b h)) (fun _ => rfl)
abbrev wE (e : Fin 8) : Memref sig .tc .hbm S1408x2048 .i8 :=
  (MW.slice (Rect.unit (s := S8x1408x2048) ![e.val, 0, 0] S1x1408x2048.size (inbW e)) (fun _ => rfl)).squeeze S1408x2048 squeezes_S1x1408x2048_S1408x2048
abbrev sE (e : Fin 8) : Memref sig .tc .hbm S22x2048 .bf16 :=
  (MS.slice (Rect.unit (s := S8x22x2048) ![e.val, 0, 0] S1x22x2048.size (inbS e)) (fun _ => rfl)).squeeze S22x2048 squeezes_S1x22x2048_S22x2048

abbrev BufOf (c : Dev nD) {sp : Space} {S : Shape} {e : EltTy} (M : Memref sig .tc sp S e) : Type := Buf (Elt F) (M.view.loc (c : Thread nD τ))
/-- A memref's own elements held at contents `f`. -/
abbrev own (c : Dev nD) {sp : Space} {S : Shape} {e : EltTy} (M : Memref sig .tc sp S e) (f : BufOf (F := F) c M) : sProp 𝕄 :=
  M.view.loc (c : Thread nD τ) ↦[M.view.set]{fullShare} f
/-- A whole buffer held at contents `f`. -/
abbrev held (c : Dev nD) {sp : Space} {S : Shape} {e : EltTy} (M : Memref sig .tc sp S e) (f : BufOf (F := F) c M) : sProp 𝕄 :=
  M.view.loc (c : Thread nD τ) ↦[Finset.univ]{fullShare} f

/-- What a copy of `src`'s elements of `fs` leaves in `dst` over `g`. -/
abbrev landed (c : Dev nD) {sp sp' : Space} {S : Shape} {e : EltTy} (dst : Memref sig .tc sp S e) (src : Memref sig .tc sp' S e)
    (fs : BufOf (F := F) c src) (g : BufOf (F := F) c dst) : BufOf (F := F) c dst :=
  dst.view.writes (Elt F) g [⟨Rect.whole S, ReadAs.same.apply (src.view.read (Elt F) fs)⟩]

/-- A copy of `src` into `dst` in flight on `cell`, the array's other elements beside it. -/
abbrev flying (c : Dev nD) {sp sp' : Space} {S : Shape} {e : EltTy} (cell : SemLoc sig) (dst : Memref sig .tc sp S e) (src : Memref sig .tc sp' S e)
    (fs : BufOf (F := F) c src) : sProp 𝕄 :=
  iprop((∃ g : BufOf (F := F) c dst, Transfers.Flight (countersEmb (U := Pipeline.UD sig nD τ)) (c : Thread nD τ) cell () dst.view.dmaCredit
      iprop((dst.view.loc (c : Thread nD τ) ↦[dst.view.set]{fullShare} landed c dst src fs g)
        ∗ (src.view.loc (c : Thread nD τ) ↦[src.view.set]{fullShare} fs)))
    ∗ (src.view.loc (c : Thread nD τ) ↦[Finset.univ \ src.view.set]{fullShare} fs))
/-- A slot nobody uses: its cell at zero, its elements at anything. -/
abbrev idle (c : Dev nD) {sp : Space} {S : Shape} {e : EltTy} (cell : SemLoc sig) (dst : Memref sig .tc sp S e) : sProp 𝕄 :=
  iprop(semVal ((c : Thread nD τ), cell) 0 ∗ ∃ g : BufOf (F := F) c dst, own c dst g)
/-- A slot filled with `src`. -/
abbrev filled (c : Dev nD) {sp sp' : Space} {S : Shape} {e : EltTy} (cell : SemLoc sig) (dst : Memref sig .tc sp S e) (src : Memref sig .tc sp' S e)
    (fs : BufOf (F := F) c src) : sProp 𝕄 :=
  iprop(semVal ((c : Thread nD τ), cell) 0 ∗ ∃ g : BufOf (F := F) c dst, own c dst (landed c dst src fs g))

/-- The word of the table at row `r`, column `j`. -/
def tw (c : Dev nD) (T : BufOf (F := F) c M10) (r : Fin 40) (j : Fin 8) : BitVec 32 :=
  M10.view.read (Elt F) T (ix2 r j)

theorem tw_of_load (c : Dev nD) (T : BufOf (F := F) c M10) (off : Fin 2 → ℕ) (h : ∀ a, off a + S1x1.size a ≤ S40x8.size a) (hp) (r : Fin 40) (j : Fin 8)
    (he : off = ![r.val, j.val]) :
    View.readAt (Elt F) M10.view (Rect.unit (s := S40x8) off S1x1.size h).toLoadRect T (Shape.Idx.first hp) = tw c T r j := by
  subst he
  rw [View.readAt_apply]
  refine congrArg (M10.view.read (Elt F) T) ?_
  funext a; apply Fin.ext; fin_cases a
  · show r.val + 1 * 0 = r.val; omega
  · show j.val + 1 * 0 = j.val; omega

end Cert.KernelIdeal.Hand

end
-- ==== Proof.IWords.lean ====
module

public import proofs.«01_k».proof.Proof.IDefs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The trip's words -/

theorem trips6 (n : BitVec 32) (hn : n.toNat ≤ 40) : (k0_t6_loop n).trips = n.toNat := by
  have h : n = BitVec.ofNat 32 n.toNat := by simp
  generalize n.toNat = N at *
  subst h
  interval_cases N <;> decide
theorem ok6 (n : BitVec 32) (hn : n.toNat ≤ 40) : (k0_t6_loop n).OK := by
  have h : n = BitVec.ofNat 32 n.toNat := by simp
  generalize n.toNat = N at *
  subst h
  interval_cases N <;> decide
theorem ok7 (n : BitVec 32) (hn : n.toNat ≤ 40) : (k0_t7_loop n).OK := by
  have h : n = BitVec.ofNat 32 n.toNat := by simp
  generalize n.toNat = N at *
  subst h
  interval_cases N <;> decide
theorem trips7 (n : BitVec 32) (hn : n.toNat ≤ 40) : (k0_t7_loop n).trips = 0 := by
  have h : n = BitVec.ofNat 32 n.toNat := by simp
  generalize n.toNat = N at *
  subst h
  interval_cases N <;> decide
/-- The trip's number as the program's word. -/
theorem iv_eq (k : ℕ) (hk : k < 40) : Scf.iv 0#32 1#32 k = BitVec.ofNat 32 k := by
  interval_cases k <;> decide
theorem iv_toNat (k : ℕ) (hk : k < 40) : (Scf.iv 0#32 1#32 k).toNat = k := by
  interval_cases k <;> decide
/-- The rows' slot of trip `k`, and the other one. -/
theorem x0_toNat (k : ℕ) (hk : k < 40) : (Scalar.andi (Scf.iv 0#32 1#32 k) 1#32).toNat = k % 2 := by
  interval_cases k <;> decide
theorem x1_toNat (k : ℕ) (hk : k < 40) : (Scalar.subi 1#32 (Scalar.andi (Scf.iv 0#32 1#32 k) 1#32)).toNat = 1 - k % 2 := by
  interval_cases k <;> decide
theorem nx_toNat (k : ℕ) (hk : k < 40) : (Scalar.addi (Scf.iv 0#32 1#32 k) 1#32).toNat = k + 1 := by
  interval_cases k <;> decide
theorem cond3_iff (n : BitVec 32) (hn : n.toNat ≤ 40) (k : Fin (k0_t6_loop n).trips) : k0_cond3 n k = 1#1 ↔ k.val + 1 < n.toNat := by
  have hk : k.val < n.toNat := lt_of_lt_of_eq k.isLt (trips6 n hn)
  obtain ⟨k, hk'⟩ := k
  have key : ∀ N : ℕ, N ≤ 40 → ∀ j : ℕ, j < 40 → (Scalar.cmpi .ne (Scalar.extui (Scalar.cmpi .slt (Scalar.addi (Scf.iv 0#32 1#32 j) 1#32) (BitVec.ofNat 32 N)) : BitVec 32) 0#32 = 1#1 ↔ j + 1 < N) := by
    intro N hN j hj
    have h1 : Scalar.addi (Scf.iv 0#32 1#32 j) 1#32 = BitVec.ofNat 32 (j + 1) := by
      apply BitVec.eq_of_toNat_eq; rw [nx_toNat j hj, BitVec.toNat_ofNat]; omega
    rw [h1]
    have h2 : (BitVec.ofNat 32 (j + 1)).toInt = j + 1 := by
      rw [BitVec.toInt_eq_toNat_of_lt (by rw [BitVec.toNat_ofNat]; omega), BitVec.toNat_ofNat]; omega
    have h3 : (BitVec.ofNat 32 N).toInt = N := by
      rw [BitVec.toInt_eq_toNat_of_lt (by rw [BitVec.toNat_ofNat]; omega), BitVec.toNat_ofNat]; omega
    have h4 : Scalar.cmpi .slt (BitVec.ofNat 32 (j + 1)) (BitVec.ofNat 32 N) = BitVec.ofBool (decide (j + 1 < N)) := by
      show BitVec.ofBool (BitVec.slt _ _) = _
      congr 1
      rw [BitVec.slt_eq_decide, h2, h3]
      exact decide_eq_decide.mpr (by omega)
    rw [h4]
    by_cases h : j + 1 < N
    · simp only [h, decide_true, iff_true]; decide
    · simp only [h, decide_false, iff_false]; decide
  have h := key n.toNat hn k (by simp only at hk; omega)
  rw [show BitVec.ofNat 32 n.toNat = n by simp] at h
  exact h

theorem inbT (r j : ℕ) (hr : r < 40) (hj : j < 8) : ∀ a, (![r, j] : Fin 2 → ℕ) a + S1x1.size a ≤ S40x8.size a := by
  intro a; fin_cases a
  · show r + 1 ≤ 40; omega
  · show j + 1 ≤ 8; omega

theorem chk11 (w : BitVec 32) (h : w.toNat < 2) : k0_chk11 w := by
  have h' : w = BitVec.ofNat 32 w.toNat := by simp
  generalize w.toNat = N at *
  subst h'
  interval_cases N <;> decide
theorem chk5 (w : BitVec 32) (h : w.toNat + 256 ≤ 6144) (hd : 32 ∣ w.toNat) : k0_chk5 w := by
  refine ⟨hd, ?_, ?_, ?_⟩
  · intro a; fin_cases a
    · exact h
    · show 0 + 1024 ≤ 1024; omega
  · intro hinb
    refine .inr ⟨(by decide : 2 ≤ 2), rfl, .inl ⟨?_, ?_⟩⟩
    rotate_left
    · exact (show 4 ∣ 256 by decide)
    exact Dvd.dvd.trans (by decide) hd
  · intro a; fin_cases a
    · exact h
    · show 0 + 1 ≤ 1; omega
theorem rows_words (w : BitVec 32) (hd : 32 ∣ w.toNat) (off : Fin 2 → ℕ) (ho : off = ![w.toNat, 0]) (hinb) :
    (Rect.unit (s := S6144x2816) off S256x2816.size hinb).WholeWords (EltTy.packing .bf16) := by
  subst ho
  refine .inl (.inr ⟨(by decide : 2 ≤ 2), rfl, .inl ⟨?_, ?_⟩⟩)
  rotate_left
  · exact (show 2 ∣ 256 by decide)
  exact Dvd.dvd.trans (by decide) hd
theorem chk9 (w : BitVec 32) (h : w.toNat + 256 ≤ 6144) (hd : 32 ∣ w.toNat) : k0_chk9 w :=
  ⟨hd, inbX _ h, rows_words w hd _ rfl⟩
theorem chk2 (w : BitVec 32) (h : w.toNat + 256 ≤ 6144) (hd : 32 ∣ w.toNat) : k0_chk2 w :=
  ⟨hd, inbX _ h, rows_words w hd _ rfl⟩
theorem chk10 (n : BitVec 32) (k) (w : BitVec 32) (h : w.toNat + 256 ≤ 6144) (hd : 32 ∣ w.toNat) : k0_chk10 n k w :=
  ⟨fun _ => hd, fun _ => inbX _ h, fun _ => rows_words w hd _ rfl⟩
theorem chk7 (v38 w : BitVec 32) (h : w.toNat < 8) : k0_chk7 v38 w := by
  have h' : w = BitVec.ofNat 32 w.toNat := by simp
  generalize w.toNat = N at *
  subst h'
  refine ⟨fun _ => ?_, fun _ => ?_, fun _ => ?_, fun _ => ?_⟩ <;> interval_cases N <;> decide
theorem chk3 (w : BitVec 32) (h : w.toNat < 8) : k0_chk3 w := by
  have h' : w = BitVec.ofNat 32 w.toNat := by simp
  generalize w.toNat = N at *
  subst h'
  interval_cases N <;> decide
theorem cond2_iff (w : BitVec 32) : k0_cond2 w = 1#1 ↔ 0 ≤ w.toInt := by
  have h4 : Scalar.cmpi .sge w 0#32 = BitVec.ofBool (decide (0 ≤ w.toInt)) := by
    show BitVec.ofBool (BitVec.sle _ _) = _
    congr 1
  unfold k0_cond2
  simp only [h4]
  by_cases h : 0 ≤ w.toInt
  · simp only [h, decide_true, iff_true]; decide
  · simp only [h, decide_false, iff_false]; decide
theorem chk8 (v31 v38 w : BitVec 32) (hs : v31.toNat < 2) (h : 0 ≤ w.toInt → w.toNat < 8) : k0_chk8 v31 v38 w := by
  by_cases hc : 0 ≤ w.toInt
  · have h := h hc
    have h' : w = BitVec.ofNat 32 w.toNat := by simp
    have h2' : v31 = BitVec.ofNat 32 v31.toNat := by simp
    generalize w.toNat = N at *
    generalize v31.toNat = M at *
    subst h'; subst h2'
    refine ⟨fun _ _ => ?_, fun _ _ => ?_, fun _ _ => ?_, fun _ _ => ?_, fun _ _ => ?_, fun _ _ => ?_, fun _ _ => ?_, fun _ _ => ?_, fun _ _ => ?_⟩ <;>
      interval_cases N <;> interval_cases M <;> decide
  · have hc' : ¬ k0_cond2 w = 1#1 := fun h => hc ((cond2_iff w).mp h)
    exact ⟨fun _ h => absurd h hc', fun _ h => absurd h hc', fun _ h => absurd h hc', fun _ h => absurd h hc', fun _ h => absurd h hc',
      fun _ h => absurd h hc', fun _ h => absurd h hc', fun _ h => absurd h hc', fun _ h => absurd h hc'⟩
theorem chk6 (n : BitVec 32) (hn : n.toNat ≤ 40) (k : Fin (k0_t6_loop n).trips) (v31 v38 : BitVec 32) (hs : v31.toNat < 2) : k0_chk6 n k v31 v38 := by
  have hk : k.val < 40 := by have := lt_of_lt_of_eq k.isLt (trips6 n hn); omega
  have h2' : v31 = BitVec.ofNat 32 v31.toNat := by simp
  generalize v31.toNat = M at *
  subst h2'
  refine ⟨fun _ => ?_, fun _ => ?_, fun _ => ?_, fun _ => ?_, fun _ => ?_, fun _ => ?_, fun _ => ?_, fun _ => ?_⟩
  · show ∀ a, (![(Scf.iv 0#32 1#32 k.val).toNat, 0] : Fin 2 → ℕ) a + _ ≤ _
    rw [iv_toNat _ hk]; exact inbT _ _ hk (by decide)
  iterate 6 (interval_cases M <;> decide)
  · show ∀ a, (![(Scf.iv 0#32 1#32 k.val).toNat, 5] : Fin 2 → ℕ) a + _ ≤ _
    rw [iv_toNat _ hk]; exact inbT _ _ hk (by decide)

end Cert.KernelIdeal.Hand

end
-- ==== Proof.ICnt.lean ====
module

public import proofs.«01_k».proof.Proof.IWords
public import Idealize.ShloMosaic.Lib.WordArith

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.WordArith

/-! ## The number of blocks of one expert, as the program's word -/

/-- The first row of an expert, rounded down to the strip of 32 rows. -/
abbrev strip (a : BitVec 32) : BitVec 32 := Scalar.andi a 4294967264#32
/-- The last row of the expert plus 255, from the strip's first row on. -/
abbrev spanW (a v : BitVec 32) : BitVec 32 := Scalar.subi (Scalar.addi (Scalar.subi (Scalar.addi a v) (strip a)) 256#32) 1#32
/-- The floor division by 256 as the program writes it. -/
abbrev fdivW (x : BitVec 32) : BitVec 32 :=
  Scalar.select (Scalar.andi (Scalar.cmpi .ne (Scalar.subi (Scalar.extui (Scalar.cmpi .sgt x 0#32)) (Scalar.extui (Scalar.cmpi .slt x 0#32)))
      (Scalar.subi (Scalar.extui (Scalar.cmpi .sgt 256#32 0#32)) (Scalar.extui (Scalar.cmpi .slt 256#32 0#32))))
    (Scalar.cmpi .ne (Scalar.remsi x 256#32) 0#32)) (Scalar.subi (Scalar.divsi x 256#32) 1#32) (Scalar.divsi x 256#32)
/-- The number of blocks. -/
abbrev cntW (a v : BitVec 32) : BitVec 32 := Scalar.select (Scalar.cmpi .sgt v 0#32) (fdivW (spanW a v)) 0#32

theorem maskBit : ∀ j : Fin 32, (4294967264#32)[j.val] = decide (5 ≤ j.val) := by decide

theorem strip_toNat (a : BitVec 32) : (strip a).toNat = a.toNat / 32 * 32 := by
  have h : strip a = (a >>> 5) <<< 5 := by
    show a &&& 4294967264#32 = _
    apply BitVec.eq_of_getElem_eq
    intro i hi
    rw [BitVec.getElem_and, BitVec.getElem_shiftLeft]
    rw [maskBit ⟨i, hi⟩]
    by_cases h5 : i < 5
    · simp [h5]
    · have h5' : 5 ≤ i := by omega
      simp only [h5, h5', decide_true, decide_false, Bool.and_true, Bool.not_false, Bool.true_and]
      rw [BitVec.getElem_ushiftRight, BitVec.getLsbD_eq_getElem (by omega)]
      congr 1; omega
  have ha := a.isLt
  rw [h, BitVec.toNat_shiftLeft, BitVec.toNat_ushiftRight, Nat.shiftRight_eq_div_pow, Nat.shiftLeft_eq]
  show a.toNat / 32 * 32 % _ = _
  omega

theorem spanW_toNat (a v : BitVec 32) (h : a.toNat + v.toNat ≤ 6144) : (spanW a v).toNat = a.toNat + v.toNat - a.toNat / 32 * 32 + 255 := by
  show (((a + v) - strip a + 256#32) - 1#32).toNat = _
  have := strip_toNat a
  simp only [BitVec.toNat_sub, BitVec.toNat_add, this]
  show _ = _
  have : (256#32).toNat = 256 := rfl
  have : (1#32).toNat = 1 := rfl
  simp only [*]
  omega

theorem sdiv_ofNat (x d : ℕ) (hx : x < 2 ^ 31) (hd : d < 2 ^ 31) : (BitVec.ofNat 32 x).sdiv (BitVec.ofNat 32 d) = BitVec.ofNat 32 (x / d) := by
  have hm : ∀ y : ℕ, y < 2 ^ 31 → (BitVec.ofNat 32 y).msb = false := by
    intro y hy
    rw [BitVec.msb_eq_decide, BitVec.toNat_ofNat]; simp; omega
  rw [BitVec.sdiv_eq, hm x hx, hm d hd]
  apply BitVec.eq_of_toNat_eq
  show ((BitVec.ofNat 32 x).udiv (BitVec.ofNat 32 d)).toNat = _
  have : x / d ≤ x := Nat.div_le_self _ _
  rw [BitVec.udiv_eq, BitVec.toNat_udiv, BitVec.toNat_ofNat, BitVec.toNat_ofNat, BitVec.toNat_ofNat, Nat.mod_eq_of_lt (by omega), Nat.mod_eq_of_lt (by omega), Nat.mod_eq_of_lt (by omega)]

theorem fdivW_toNat (x : BitVec 32) (h0 : 0 < x.toNat) (h : x.toNat < 2 ^ 31) : (fdivW x).toNat = x.toNat / 256 := by
  have hi : x.toInt = x.toNat := by rw [BitVec.toInt_eq_toNat_cond]; omega
  have h1 : Scalar.cmpi .sgt x 0#32 = 1#1 := by
    show BitVec.ofBool (decide ((0#32).toInt < x.toInt)) = _
    have : (0#32).toInt = 0 := rfl
    rw [this, hi, decide_eq_true (by omega)]; rfl
  have h2 : Scalar.cmpi .slt x 0#32 = 0#1 := by
    show BitVec.ofBool (decide (x.toInt < (0#32).toInt)) = _
    have : (0#32).toInt = 0 := rfl
    rw [this, hi, decide_eq_false (by omega)]; rfl
  have h3 : ∀ z : BitVec 1, Scalar.andi (Scalar.cmpi .ne (Scalar.subi (Scalar.extui 1#1) (Scalar.extui 0#1))
      (Scalar.subi (Scalar.extui (Scalar.cmpi .sgt 256#32 0#32)) (Scalar.extui (Scalar.cmpi .slt 256#32 0#32)))) z = 0#1 := by decide
  unfold fdivW
  rw [h1, h2, h3]
  show (Scalar.divsi x 256#32).toNat = _
  have hc : ¬ IntOp.SDivCorner x 256#32 := by
    rintro (h | ⟨_, h⟩)
    · exact absurd h (by decide)
    · exact absurd h (by decide)
  show (if IntOp.SDivCorner x 256#32 then _ else x.sdiv 256#32).toNat = _
  rw [if_neg hc]
  have hx : x = BitVec.ofNat 32 x.toNat := by simp
  rw [hx]
  show ((BitVec.ofNat 32 x.toNat).sdiv (BitVec.ofNat 32 256)).toNat = _
  rw [sdiv_ofNat _ _ h (by decide), BitVec.toNat_ofNat]
  rw [← hx]
  omega

theorem cmp_pos (v : BitVec 32) (h : v.toNat < 2 ^ 31) : Scalar.cmpi .sgt v 0#32 = BitVec.ofBool (decide (0 < v.toNat)) := by
  show BitVec.ofBool (decide ((0#32).toInt < v.toInt)) = _
  have : (0#32).toInt = 0 := rfl
  have hi : v.toInt = v.toNat := by rw [BitVec.toInt_eq_toNat_cond]; omega
  rw [this, hi]; congr 2; exact propext (by omega)

/-- The number of blocks, as a number. -/
def cntN (a v : ℕ) : ℕ := if 0 < v then (a + v - a / 32 * 32 + 255) / 256 else 0

theorem cntW_toNat (a v : BitVec 32) (h : a.toNat + v.toNat ≤ 6144) : (cntW a v).toNat = cntN a.toNat v.toNat := by
  unfold cntW cntN
  rw [cmp_pos v (by omega)]
  by_cases hv : 0 < v.toNat
  · rw [if_pos hv]
    simp only [hv, decide_true]
    show (fdivW (spanW a v)).toNat = _
    have hs := spanW_toNat a v h
    rw [fdivW_toNat _ (by omega) (by omega), hs]
  · rw [if_neg hv]
    simp only [hv, decide_false]
    rfl

theorem cntN_le (a v : ℕ) (h : a + v ≤ 6144) : cntN a v ≤ 25 := by
  unfold cntN; split <;> omega

theorem loop4_of (n : BitVec 32) (h : n.toNat ≤ 25) :
    (Scf.Loop.mk 0#32 (Scalar.addi 0#32 (Scalar.muli (Scalar.divsi (Scalar.subi n 0#32) 1#32) 1#32)) 1#32).trips = n.toNat
    ∧ (Scf.Loop.mk 0#32 (Scalar.addi 0#32 (Scalar.muli (Scalar.divsi (Scalar.subi n 0#32) 1#32) 1#32)) 1#32).OK := by
  have hx : n = BitVec.ofNat 32 n.toNat := by simp
  generalize n.toNat = N at *
  subst hx
  interval_cases N <;> decide
theorem loop5_of (n : BitVec 32) (h : n.toNat ≤ 25) :
    (Scf.Loop.mk (Scalar.addi 0#32 (Scalar.muli (Scalar.divsi (Scalar.subi n 0#32) 1#32) 1#32)) (Scalar.addi 0#32 (Scalar.subi n 0#32)) 1#32).trips = 0
    ∧ (Scf.Loop.mk (Scalar.addi 0#32 (Scalar.muli (Scalar.divsi (Scalar.subi n 0#32) 1#32) 1#32)) (Scalar.addi 0#32 (Scalar.subi n 0#32)) 1#32).OK := by
  have hx : n = BitVec.ofNat 32 n.toNat := by simp
  generalize n.toNat = N at *
  subst hx
  interval_cases N <;> decide
theorem trips4 (a v : BitVec 32) (h : a.toNat + v.toNat ≤ 6144) : (k0_t4_loop a v).trips = cntN a.toNat v.toNat :=
  ((loop4_of (cntW a v) (by rw [cntW_toNat a v h]; exact cntN_le _ _ h)).1).trans (cntW_toNat a v h)
theorem ok4 (a v : BitVec 32) (h : a.toNat + v.toNat ≤ 6144) : (k0_t4_loop a v).OK :=
  (loop4_of (cntW a v) (by rw [cntW_toNat a v h]; exact cntN_le _ _ h)).2
theorem trips5 (a v : BitVec 32) (h : a.toNat + v.toNat ≤ 6144) : (k0_t5_loop a v).trips = 0 :=
  (loop5_of (cntW a v) (by rw [cntW_toNat a v h]; exact cntN_le _ _ h)).1
theorem ok5 (a v : BitVec 32) (h : a.toNat + v.toNat ≤ 6144) : (k0_t5_loop a v).OK :=
  (loop5_of (cntW a v) (by rw [cntW_toNat a v h]; exact cntN_le _ _ h)).2

theorem row_toNat (b : BitVec 32) (i : ℕ) (h : b.toNat + i < 40) : (Scalar.addi b (Scf.iv 0#32 1#32 i)).toNat = b.toNat + i := by
  rw [iv_eq i (by omega)]
  show (b + BitVec.ofNat 32 i).toNat = _
  rw [BitVec.toNat_add, BitVec.toNat_ofNat]; omega

theorem chk1 (a b v : BitVec 32) (h : a.toNat + v.toNat ≤ 6144) (hb : b.toNat + cntN a.toNat v.toNat ≤ 40) : k0_chk1 a b v := by
  have h5 : ∀ k : Fin (k0_t5_loop a v).trips, False := fun k => absurd (lt_of_lt_of_eq k.isLt (trips5 a v h)) (by omega)
  have h4 : ∀ k : Fin (k0_t4_loop a v).trips, (Scalar.addi b (Scf.iv 0#32 1#32 k.val)).toNat = b.toNat + k.val ∧ b.toNat + k.val < 40 := by
    intro k
    have hk := lt_of_lt_of_eq k.isLt (trips4 a v h)
    exact ⟨row_toNat b k.val (by omega), by omega⟩
  refine ⟨ok4 a v h, fun k => ?_, fun k => ?_, fun k => ?_, fun k => ?_, fun k => ?_, fun k => ?_, ok5 a v h,
    fun k => (h5 k).elim, fun k => (h5 k).elim, fun k => (h5 k).elim, fun k => (h5 k).elim, fun k => (h5 k).elim, fun k => (h5 k).elim⟩
  all_goals
    obtain ⟨e1, e2⟩ := h4 k
  · show ∀ q, (![(Scalar.addi b (Scf.iv 0#32 1#32 k.val)).toNat, 0] : Fin 2 → ℕ) q + _ ≤ _
    rw [e1]; exact inbT _ _ e2 (by decide)
  · show ∀ q, (![(Scalar.addi b (Scf.iv 0#32 1#32 k.val)).toNat, 1] : Fin 2 → ℕ) q + _ ≤ _
    rw [e1]; exact inbT _ _ e2 (by decide)
  · show ∀ q, (![(Scalar.addi b (Scf.iv 0#32 1#32 k.val)).toNat, 2] : Fin 2 → ℕ) q + _ ≤ _
    rw [e1]; exact inbT _ _ e2 (by decide)
  · show ∀ q, (![(Scalar.addi b (Scf.iv 0#32 1#32 k.val)).toNat, 3] : Fin 2 → ℕ) q + _ ≤ _
    rw [e1]; exact inbT _ _ e2 (by decide)
  · show ∀ q, (![(Scalar.addi b (Scf.iv 0#32 1#32 k.val)).toNat, 4] : Fin 2 → ℕ) q + _ ≤ _
    rw [e1]; exact inbT _ _ e2 (by decide)
  · show ∀ q, (![(Scalar.addi b (Scf.iv 0#32 1#32 k.val)).toNat, 5] : Fin 2 → ℕ) q + _ ≤ _
    rw [e1]; exact inbT _ _ e2 (by decide)

end Cert.KernelIdeal.Hand

end
-- ==== Proof.IBlocks.lean ====
module

public import proofs.«01_k».proof.Proof.IWords
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## What a load of a slot reads -/

theorem sub6 (s : Fin 2) (off : Fin 3 → ℕ) (h) (ho : off 0 = s.val) :
    (M6.access (Rect.unit (s := S2x256x2816) off S1x256x2816.size h)).set ⊆ (slot6 s).view.set := by
  have e : (slot6 s).view.set = (M6.access (Rect.unit (s := S2x256x2816) ![s.val, 0, 0] S1x256x2816.size (inb6 s))).set := View.set_reshape _ _
  have : off = ![s.val, 0, 0] := by
    have h1 : off 1 + 256 ≤ 256 := h 1
    have h2 : off 2 + 2816 ≤ 2816 := h 2
    funext a; fin_cases a
    · exact ho
    · show off 1 = 0; omega
    · show off 2 = 0; omega
  subst this
  exact e.ge

theorem sub7 (s : Fin 2) (off : Fin 3 → ℕ) (h) (ho : off 0 = s.val) :
    (M7.access (Rect.unit (s := S2x1408x2048) off S1x1408x256.size h)).set ⊆ (slot7 s).view.set := by
  have e : (slot7 s).view.set = (M7.access (Rect.unit (s := S2x1408x2048) ![s.val, 0, 0] S1x1408x2048.size (inb7 s))).set := View.set_reshape _ _
  rw [e]
  show (M7.view.slice (Rect.unit (s := S2x1408x2048) off S1x1408x256.size h)).set ⊆ (M7.view.slice (Rect.unit (s := S2x1408x2048) ![s.val, 0, 0] S1x1408x2048.size (inb7 s))).set
  rw [View.set_slice, View.set_slice]
  refine Finset.map_subset_map.mpr fun i hi => ?_
  rw [Rect.mem_set_unit] at hi ⊢
  have h1 : off 1 + 1408 ≤ 1408 := h 1
  have h2 : off 2 + 256 ≤ 2048 := h 2
  intro a; have := hi a; fin_cases a
  · have : off 0 ≤ (i 0).val ∧ (i 0).val < off 0 + 1 := this
    show s.val ≤ (i 0).val ∧ (i 0).val < s.val + 1
    omega
  · have : off 1 ≤ (i 1).val ∧ (i 1).val < off 1 + 1408 := this
    show 0 ≤ (i 1).val ∧ (i 1).val < 0 + 1408
    omega
  · have : off 2 ≤ (i 2).val ∧ (i 2).val < off 2 + 256 := this
    show 0 ≤ (i 2).val ∧ (i 2).val < 0 + 2048
    omega

theorem sub8 (s : Fin 2) (off : Fin 3 → ℕ) (h) (ho : off 0 = s.val) :
    (M8.access (Rect.unit (s := S2x22x2048) off S1x22x256.size h)).set ⊆ (slot8 s).view.set := by
  have e : (slot8 s).view.set = (M8.access (Rect.unit (s := S2x22x2048) ![s.val, 0, 0] S1x22x2048.size (inb8 s))).set := View.set_reshape _ _
  rw [e]
  show (M8.view.slice (Rect.unit (s := S2x22x2048) off S1x22x256.size h)).set ⊆ (M8.view.slice (Rect.unit (s := S2x22x2048) ![s.val, 0, 0] S1x22x2048.size (inb8 s))).set
  rw [View.set_slice, View.set_slice]
  refine Finset.map_subset_map.mpr fun i hi => ?_
  rw [Rect.mem_set_unit] at hi ⊢
  have h1 : off 1 + 22 ≤ 22 := h 1
  have h2 : off 2 + 256 ≤ 2048 := h 2
  intro a; have := hi a; fin_cases a
  · have : off 0 ≤ (i 0).val ∧ (i 0).val < off 0 + 1 := this
    show s.val ≤ (i 0).val ∧ (i 0).val < s.val + 1
    omega
  · have : off 1 ≤ (i 1).val ∧ (i 1).val < off 1 + 22 := this
    show 0 ≤ (i 1).val ∧ (i 1).val < 0 + 22
    omega
  · have : off 2 ≤ (i 2).val ∧ (i 2).val < off 2 + 256 := this
    show 0 ≤ (i 2).val ∧ (i 2).val < 0 + 2048
    omega

/-- The 256 rows from `st` on, with the slot's unit axis. -/
def xblk (c : Dev nD) (fx : BufOf (F := F) c MX) (st : ℕ) (h : st + 256 ≤ 6144) : Vec F S1x256x2816 .bf16 :=
  fun i => MX.view.read (Elt F) fx (ix2 (⟨st + (i 1).val, by have : (i 1).val < 256 := (i 1).isLt; omega⟩ : Fin 6144) (⟨(i 2).val, (i 2).isLt⟩ : Fin 2816))
/-- Columns `256 b …` of expert `e`'s packed weights. -/
def wblk (c : Dev nD) (fw : BufOf (F := F) c MW) (e b : Fin 8) : Vec F S1x1408x256 .i8 :=
  fun i => MW.view.read (Elt F) fw (ix3 e (⟨(i 1).val, (i 1).isLt⟩ : Fin 1408) (⟨256 * b.val + (i 2).val, by have : (i 2).val < 256 := (i 2).isLt; omega⟩ : Fin 2048))
/-- Columns `256 b …` of expert `e`'s scales. -/
def sblk (c : Dev nD) (fs : BufOf (F := F) c MS) (e b : Fin 8) : Vec F S1x22x256 .bf16 :=
  fun i => MS.view.read (Elt F) fs (ix3 e (⟨(i 1).val, (i 1).isLt⟩ : Fin 22) (⟨256 * b.val + (i 2).val, by have : (i 2).val < 256 := (i 2).isLt; omega⟩ : Fin 2048))

theorem read_landed (c : Dev nD) {sp sp' : Space} {S : Shape} {e : EltTy} (dst : Memref sig .tc sp S e) (src : Memref sig .tc sp' S e)
    (fs : BufOf (F := F) c src) (g : BufOf (F := F) c dst) : dst.view.read (Elt F) (landed c dst src fs g) = src.view.read (Elt F) fs :=
  View.read_writes_full dst.view g (off := fun _ => 0) (fun a => by omega) _ []

theorem load6 (c : Dev nD) (s : Fin 2) (st : ℕ) (hst) (fx : BufOf (F := F) c MX) (g : BufOf (F := F) c (slot6 s)) (off : Fin 3 → ℕ) (h) (ho : off 0 = s.val) :
    View.readAt (Elt F) M6.view (Rect.unit (s := S2x256x2816) off S1x256x2816.size h).toLoadRect (landed c (slot6 s) (rowsX st hst) fx g) = xblk c fx st hst := by
  have : off = ![s.val, 0, 0] := by
    have h1 : off 1 + 256 ≤ 256 := h 1
    have h2 : off 2 + 2816 ≤ 2816 := h 2
    funext a; fin_cases a
    · exact ho
    · show off 1 = 0; omega
    · show off 2 = 0; omega
  subst this
  funext i
  have k1 := congrFun (read_landed c (slot6 s) (rowsX st hst) fx g) (ix2 (⟨(i 1).val, (i 1).isLt⟩ : Fin 256) (⟨(i 2).val, (i 2).isLt⟩ : Fin 2816))
  have k2 : (slot6 s).view.read (Elt F) (landed c (slot6 s) (rowsX st hst) fx g) (ix2 (⟨(i 1).val, (i 1).isLt⟩ : Fin 256) (⟨(i 2).val, (i 2).isLt⟩ : Fin 2816))
      = View.readAt (Elt F) M6.view (Rect.unit (s := S2x256x2816) ![s.val, 0, 0] S1x256x2816.size h).toLoadRect (landed c (slot6 s) (rowsX st hst) fx g) i := by
    show M6.view.read (Elt F) _ ((Rect.unit (s := S2x256x2816) ![s.val, 0, 0] S1x256x2816.size (inb6 s)).emb
      (Shape.reshapeEquiv squeezes_S1x256x2816_S256x2816.numel_eq (ix2 (⟨(i 1).val, (i 1).isLt⟩ : Fin 256) (⟨(i 2).val, (i 2).isLt⟩ : Fin 2816)))) = _
    rw [View.readAt_apply]
    refine congrArg (M6.view.read (Elt F) _) ?_
    have e := Shape.reshapeEquiv_cons_one (d := ![256, 2816]) squeezes_S1x256x2816_S256x2816.numel_eq (ix2 (⟨(i 1).val, (i 1).isLt⟩ : Fin 256) (⟨(i 2).val, (i 2).isLt⟩ : Fin 2816))
    have hi : (i 0).val = 0 := by have : (i 0).val < 1 := (i 0).isLt; omega
    refine (congrArg (Rect.unit (s := S2x256x2816) ![s.val, 0, 0] S1x256x2816.size (inb6 s)).emb e).trans ?_
    funext a; apply Fin.ext; fin_cases a
    · show s.val + 1 * 0 = s.val + 1 * (i 0).val; omega
    · show 0 + 1 * (i 1).val = 0 + 1 * (i 1).val; rfl
    · show 0 + 1 * (i 2).val = 0 + 1 * (i 2).val; rfl
  rw [← k2, k1]
  show MX.view.read (Elt F) fx _ = MX.view.read (Elt F) fx _
  refine congrArg (MX.view.read (Elt F) fx) ?_
  funext a; apply Fin.ext; fin_cases a
  · show st + 1 * (i 1).val = st + (i 1).val; omega
  · show 0 + 1 * (i 2).val = (i 2).val; omega

theorem load7 (c : Dev nD) (s : Fin 2) (e b : Fin 8) (fw : BufOf (F := F) c MW) (g : BufOf (F := F) c (slot7 s)) (off : Fin 3 → ℕ) (h) (ho : off = ![s.val, 0, 256 * b.val]) :
    View.readAt (Elt F) M7.view (Rect.unit (s := S2x1408x2048) off S1x1408x256.size h).toLoadRect (landed c (slot7 s) (wE e) fw g) = wblk c fw e b := by
  subst ho
  funext i
  have hi : (i 0).val = 0 := by have : (i 0).val < 1 := (i 0).isLt; omega
  have k1 := congrFun (read_landed c (slot7 s) (wE e) fw g) (ix2 (⟨(i 1).val, (i 1).isLt⟩ : Fin 1408) (⟨256 * b.val + (i 2).val, by have : (i 2).val < 256 := (i 2).isLt; omega⟩ : Fin 2048))
  have k2 : (slot7 s).view.read (Elt F) (landed c (slot7 s) (wE e) fw g) (ix2 (⟨(i 1).val, (i 1).isLt⟩ : Fin 1408) (⟨256 * b.val + (i 2).val, by have : (i 2).val < 256 := (i 2).isLt; omega⟩ : Fin 2048))
      = View.readAt (Elt F) M7.view (Rect.unit (s := S2x1408x2048) ![s.val, 0, 256 * b.val] S1x1408x256.size h).toLoadRect (landed c (slot7 s) (wE e) fw g) i := by
    show M7.view.read (Elt F) _ ((Rect.unit (s := S2x1408x2048) ![s.val, 0, 0] S1x1408x2048.size (inb7 s)).emb
      (Shape.reshapeEquiv squeezes_S1x1408x2048_S1408x2048.numel_eq (ix2 (⟨(i 1).val, (i 1).isLt⟩ : Fin 1408) (⟨256 * b.val + (i 2).val, by have : (i 2).val < 256 := (i 2).isLt; omega⟩ : Fin 2048)))) = _
    rw [View.readAt_apply]
    refine congrArg (M7.view.read (Elt F) _) ?_
    have e := Shape.reshapeEquiv_cons_one (d := ![1408, 2048]) squeezes_S1x1408x2048_S1408x2048.numel_eq (ix2 (⟨(i 1).val, (i 1).isLt⟩ : Fin 1408) (⟨256 * b.val + (i 2).val, by have : (i 2).val < 256 := (i 2).isLt; omega⟩ : Fin 2048))
    refine (congrArg (Rect.unit (s := S2x1408x2048) ![s.val, 0, 0] S1x1408x2048.size (inb7 s)).emb e).trans ?_
    funext a; apply Fin.ext; fin_cases a
    · show s.val + 1 * 0 = s.val + 1 * (i 0).val; omega
    · show 0 + 1 * (i 1).val = 0 + 1 * (i 1).val; rfl
    · show 0 + 1 * (256 * b.val + (i 2).val) = 256 * b.val + 1 * (i 2).val; omega
  rw [← k2, k1]
  show MW.view.read (Elt F) fw ((Rect.unit (s := S8x1408x2048) ![e.val, 0, 0] S1x1408x2048.size (inbW e)).emb
      (Shape.reshapeEquiv squeezes_S1x1408x2048_S1408x2048.numel_eq (ix2 (⟨(i 1).val, (i 1).isLt⟩ : Fin 1408) (⟨256 * b.val + (i 2).val, by have : (i 2).val < 256 := (i 2).isLt; omega⟩ : Fin 2048)))) = MW.view.read (Elt F) fw _
  refine congrArg (MW.view.read (Elt F) fw) ?_
  have e' := Shape.reshapeEquiv_cons_one (d := ![1408, 2048]) squeezes_S1x1408x2048_S1408x2048.numel_eq (ix2 (⟨(i 1).val, (i 1).isLt⟩ : Fin 1408) (⟨256 * b.val + (i 2).val, by have : (i 2).val < 256 := (i 2).isLt; omega⟩ : Fin 2048))
  refine (congrArg (Rect.unit (s := S8x1408x2048) ![e.val, 0, 0] S1x1408x2048.size (inbW e)).emb e').trans ?_
  funext a; apply Fin.ext; fin_cases a
  · show e.val + 1 * 0 = e.val; omega
  · show 0 + 1 * (i 1).val = (i 1).val; omega
  · show 0 + 1 * (256 * b.val + (i 2).val) = 256 * b.val + (i 2).val; omega

theorem load8 (c : Dev nD) (s : Fin 2) (e b : Fin 8) (fw : BufOf (F := F) c MS) (g : BufOf (F := F) c (slot8 s)) (off : Fin 3 → ℕ) (h) (ho : off = ![s.val, 0, 256 * b.val]) :
    View.readAt (Elt F) M8.view (Rect.unit (s := S2x22x2048) off S1x22x256.size h).toLoadRect (landed c (slot8 s) (sE e) fw g) = sblk c fw e b := by
  subst ho
  funext i
  have hi : (i 0).val = 0 := by have : (i 0).val < 1 := (i 0).isLt; omega
  have k1 := congrFun (read_landed c (slot8 s) (sE e) fw g) (ix2 (⟨(i 1).val, (i 1).isLt⟩ : Fin 22) (⟨256 * b.val + (i 2).val, by have : (i 2).val < 256 := (i 2).isLt; omega⟩ : Fin 2048))
  have k2 : (slot8 s).view.read (Elt F) (landed c (slot8 s) (sE e) fw g) (ix2 (⟨(i 1).val, (i 1).isLt⟩ : Fin 22) (⟨256 * b.val + (i 2).val, by have : (i 2).val < 256 := (i 2).isLt; omega⟩ : Fin 2048))
      = View.readAt (Elt F) M8.view (Rect.unit (s := S2x22x2048) ![s.val, 0, 256 * b.val] S1x22x256.size h).toLoadRect (landed c (slot8 s) (sE e) fw g) i := by
    show M8.view.read (Elt F) _ ((Rect.unit (s := S2x22x2048) ![s.val, 0, 0] S1x22x2048.size (inb8 s)).emb
      (Shape.reshapeEquiv squeezes_S1x22x2048_S22x2048.numel_eq (ix2 (⟨(i 1).val, (i 1).isLt⟩ : Fin 22) (⟨256 * b.val + (i 2).val, by have : (i 2).val < 256 := (i 2).isLt; omega⟩ : Fin 2048)))) = _
    rw [View.readAt_apply]
    refine congrArg (M8.view.read (Elt F) _) ?_
    have e := Shape.reshapeEquiv_cons_one (d := ![22, 2048]) squeezes_S1x22x2048_S22x2048.numel_eq (ix2 (⟨(i 1).val, (i 1).isLt⟩ : Fin 22) (⟨256 * b.val + (i 2).val, by have : (i 2).val < 256 := (i 2).isLt; omega⟩ : Fin 2048))
    refine (congrArg (Rect.unit (s := S2x22x2048) ![s.val, 0, 0] S1x22x2048.size (inb8 s)).emb e).trans ?_
    funext a; apply Fin.ext; fin_cases a
    · show s.val + 1 * 0 = s.val + 1 * (i 0).val; omega
    · show 0 + 1 * (i 1).val = 0 + 1 * (i 1).val; rfl
    · show 0 + 1 * (256 * b.val + (i 2).val) = 256 * b.val + 1 * (i 2).val; omega
  rw [← k2, k1]
  show MS.view.read (Elt F) fw ((Rect.unit (s := S8x22x2048) ![e.val, 0, 0] S1x22x2048.size (inbS e)).emb
      (Shape.reshapeEquiv squeezes_S1x22x2048_S22x2048.numel_eq (ix2 (⟨(i 1).val, (i 1).isLt⟩ : Fin 22) (⟨256 * b.val + (i 2).val, by have : (i 2).val < 256 := (i 2).isLt; omega⟩ : Fin 2048)))) = MS.view.read (Elt F) fw _
  refine congrArg (MS.view.read (Elt F) fw) ?_
  have e' := Shape.reshapeEquiv_cons_one (d := ![22, 2048]) squeezes_S1x22x2048_S22x2048.numel_eq (ix2 (⟨(i 1).val, (i 1).isLt⟩ : Fin 22) (⟨256 * b.val + (i 2).val, by have : (i 2).val < 256 := (i 2).isLt; omega⟩ : Fin 2048))
  refine (congrArg (Rect.unit (s := S8x22x2048) ![e.val, 0, 0] S1x22x2048.size (inbS e)).emb e').trans ?_
  funext a; apply Fin.ext; fin_cases a
  · show e.val + 1 * 0 = e.val; omega
  · show 0 + 1 * (i 1).val = (i 1).val; omega
  · show 0 + 1 * (256 * b.val + (i 2).val) = 256 * b.val + (i 2).val; omega

end Cert.KernelIdeal.Hand

end
-- ==== Proof.I1.lean ====
module

public import proofs.«01_k».proof.Proof.IWords

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

cut_chain pA := k0_part2_skel at 9

variable (c : Dev nD)

theorem offr {k : ℕ} {r : Fin 40} {j : ℕ} {off : Fin 2 → ℕ} (hk : k < 40) (hr : r.val = k) (h : off = ![(Scf.iv 0#32 1#32 k).toNat, j]) : off = ![r.val, j] := by
  rw [h, iv_toNat k hk, hr]

/-- Expert `e`'s weights and scales on their way into slot `s`. -/
abbrev wGo (s : Fin 2) (e : Fin 8) (fw : BufOf (F := F) c MW) (fs : BufOf (F := F) c MS) : sProp 𝕄 :=
  iprop(flying c (cell7 s) (slot7 s) (wE e) fw ∗ flying c (cell8 s) (slot8 s) (sE e) fs)
/-- Expert `e`'s weights and scales in slot `s`. -/
abbrev wOn (s : Fin 2) (e : Fin 8) (fw : BufOf (F := F) c MW) (fs : BufOf (F := F) c MS) : sProp 𝕄 :=
  iprop(filled c (cell7 s) (slot7 s) (wE e) fw ∗ filled c (cell8 s) (slot8 s) (sE e) fs)
/-- Slot `s` unused. -/
abbrev wOff (s : Fin 2) : sProp 𝕄 := iprop(idle (F := F) c (cell7 s) (slot7 s) ∗ idle (F := F) c (cell8 s) (slot8 s))
/-- The next expert, where there is one, on its way into slot `s'`. -/
abbrev wRest (s' : Fin 2) (nx : Option (Fin 8)) (fw : BufOf (F := F) c MW) (fs : BufOf (F := F) c MS) : sProp 𝕄 :=
  match nx with
  | some x => wGo c s' x fw fs
  | none => iprop(held c MW fw ∗ held c MS fs ∗ wOff (F := F) c s')

theorem A_first_next
    (n : BitVec 32) (hn : k0_chk4 n) (k : Fin (k0_t6_loop n).trips) (hn40 : n.toNat ≤ 40) (r : Fin 40) (hr : r.val = k.val)
    (fw : BufOf (F := F) c MW) (fs : BufOf (F := F) c MS) (T : BufOf (F := F) c M10) (W)
    (v31 v33 v36 v38 ve vn : BitVec 32) (h4 : tw c T r 4 = v31) (h1 : tw c T r 1 = v33) (h2 : tw c T r 2 = v36) (h3 : tw c T r 3 = v38)
    (h0 : tw c T r 0 = ve) (h5 : tw c T r 5 = vn)
    (hc11 : k0_chk11 v31) (hc5 : k0_chk5 v33) (s s' : Fin 2) (e : Fin 8)
    (hs : v31.toNat = s.val) (hs' : (Scalar.subi 1#32 v31).toNat = s'.val) (he : ve.toNat = e.val) (hc6 : k0_chk6 n k v31 v38) (hc7 : k0_chk7 v38 ve) (x : Fin 8) (hx : vn.toNat = x.val) (hC1 : k0_cond1 v38 = 1#1) (hC2 : k0_cond2 vn = 1#1)
    {R : Type} {κ : (v31 : BitVec 32) → PLift (k0_chk11 v31) → (v33 : BitVec 32) → PLift (k0_chk5 v33) → BitVec 32 → Prog (TpuEff nD τ sig (Elt F) Λ₀ .tc) R} {Q : R → sProp 𝕄} :
    iprop(held c M10 T ∗ wGo c s e fw fs ∗ wOff (F := F) c s' ∗ owes (c : Thread nD τ) 0 W)
    ⊢ iprop((iprop(held c M10 T ∗ wOn c s e fw fs ∗ wGo c s' x fw fs ∗ ∃ W', owes (c : Thread nD τ) 0 W') -∗ wp frame (wpE (defs₀ (F := F)) Variants.none c none) Set.univ (κ v31 ⟨hc11⟩ v33 ⟨hc5⟩ v36) Q) -∗
       wp frame (wpE (defs₀ (F := F)) Variants.none c none) Set.univ
      (pA1 MW (Memref.isWhole_whole _) MS (Memref.isWhole_whole _) M7 (Memref.isWhole_whole _) M8 (Memref.isWhole_whole _)
        M10 cc0_scratch6 cc0_scratch7 n hn k κ) Q) := by
  have hk := lt_of_lt_of_eq k.isLt (trips6 n hn40)
  have hk40 : k.val < 40 := by omega
  obtain ⟨s, hsl⟩ := s; dsimp only at hs; subst hs
  obtain ⟨s', hsl'⟩ := s'; dsimp only at hs'; subst hs'
  obtain ⟨e, hel⟩ := e; dsimp only at he; subst he
  obtain ⟨x, hxl⟩ := x; dsimp only at hx; subst hx
  have hc8 := chk8 v31 v38 vn hsl (fun _ => hxl)
  iintro ⟨HT, ⟨⟨⟨%gw, Hw⟩, Hw'⟩, ⟨⟨%gs, Hs⟩, Hs'⟩⟩, ⟨⟨Hcw, ⟨%gw2, Hgw⟩⟩, ⟨Hcs, ⟨%gs2, Hgs⟩⟩⟩, Ho⟩ Hκ
  unfold pA1
  sl_exec
  have e1 : A_first_next.sl.r c n hn k T = v31 := (tw_of_load c T _ _ _ r 4 (offr (k := k) hk40 hr rfl)).trans h4
  rw [e1]
  sl_exec
  have e1 : A_first_next.sl.r_1 c n hn k T = v33 := (tw_of_load c T _ _ _ r 1 (offr (k := k) hk40 hr rfl)).trans h1
  rw [e1]
  sl_exec
  have e1 : A_first_next.sl.r_2 c n hn k T = v36 := (tw_of_load c T _ _ _ r 2 (offr (k := k) hk40 hr rfl)).trans h2
  rw [e1]
  have e1 : A_first_next.sl.r_3 c n hn k T = v38 := (tw_of_load c T _ _ _ r 3 (offr (k := k) hk40 hr rfl)).trans h3
  rw [e1]
  sl_exec
  have e1 : A_first_next.sl.r_4 c n k T v31 v38 hc6 hC1 = ve := (tw_of_load c T _ _ _ r 0 (offr (k := k) hk40 hr rfl)).trans h0
  rw [e1]
  sl_exec
  ihave HW := (show ((wE ⟨ve.toNat, hel⟩).view.loc (c : Thread nD τ) ↦[Finset.univ]{fullShare} fw) ⊢ held c MW fw from .rfl) $$ Hw'
  ihave HS := (show ((sE ⟨ve.toNat, hel⟩).view.loc (c : Thread nD τ) ↦[Finset.univ]{fullShare} fs) ⊢ held c MS fs from .rfl) $$ Hs'
  have e1 : A_first_next.sl.r_5 c n k T v31 v38 hc6 hC1 = vn := (tw_of_load c T _ _ _ r 5 (offr (k := k) hk40 hr rfl)).trans h5
  rw [e1]
  sl_exec
  iapply Hκ
  isplitl [HT]; · iexact HT
  isplitl [Hw Hs Hw_dst Hs_dst]
  · isplitl [Hw Hw_dst]
    · isplitl [Hw]; · iexact Hw
      iexists gw; iexact Hw_dst
    isplitl [Hs]; · iexact Hs
    iexists gs; iexact Hs_dst
  isplitr [Ho]
  · isplitl [Hcw HW]
    · isplitl [Hcw]
      · iexists gw2; iexact Hcw
      iexact HW
    isplitl [Hcs]
    · iexists gs2; iexact Hcs
    iexact HS
  iexists _; iexact Ho

theorem A_first_none
    (n : BitVec 32) (hn : k0_chk4 n) (k : Fin (k0_t6_loop n).trips) (hn40 : n.toNat ≤ 40) (r : Fin 40) (hr : r.val = k.val)
    (fw : BufOf (F := F) c MW) (fs : BufOf (F := F) c MS) (T : BufOf (F := F) c M10) (W)
    (v31 v33 v36 v38 ve vn : BitVec 32) (h4 : tw c T r 4 = v31) (h1 : tw c T r 1 = v33) (h2 : tw c T r 2 = v36) (h3 : tw c T r 3 = v38)
    (h0 : tw c T r 0 = ve) (h5 : tw c T r 5 = vn)
    (hc11 : k0_chk11 v31) (hc5 : k0_chk5 v33) (s s' : Fin 2) (e : Fin 8)
    (hs : v31.toNat = s.val) (hs' : (Scalar.subi 1#32 v31).toNat = s'.val) (he : ve.toNat = e.val) (hc6 : k0_chk6 n k v31 v38) (hc7 : k0_chk7 v38 ve) (hC1 : k0_cond1 v38 = 1#1) (hC2 : ¬ k0_cond2 vn = 1#1)
    {R : Type} {κ : (v31 : BitVec 32) → PLift (k0_chk11 v31) → (v33 : BitVec 32) → PLift (k0_chk5 v33) → BitVec 32 → Prog (TpuEff nD τ sig (Elt F) Λ₀ .tc) R} {Q : R → sProp 𝕄} :
    iprop(held c M10 T ∗ wGo c s e fw fs ∗ wOff (F := F) c s' ∗ owes (c : Thread nD τ) 0 W)
    ⊢ iprop((iprop(held c M10 T ∗ wOn c s e fw fs ∗ (held c MW fw ∗ held c MS fs ∗ wOff (F := F) c s') ∗ ∃ W', owes (c : Thread nD τ) 0 W') -∗ wp frame (wpE (defs₀ (F := F)) Variants.none c none) Set.univ (κ v31 ⟨hc11⟩ v33 ⟨hc5⟩ v36) Q) -∗
       wp frame (wpE (defs₀ (F := F)) Variants.none c none) Set.univ
      (pA1 MW (Memref.isWhole_whole _) MS (Memref.isWhole_whole _) M7 (Memref.isWhole_whole _) M8 (Memref.isWhole_whole _)
        M10 cc0_scratch6 cc0_scratch7 n hn k κ) Q) := by
  have hk := lt_of_lt_of_eq k.isLt (trips6 n hn40)
  have hk40 : k.val < 40 := by omega
  obtain ⟨s, hsl⟩ := s; dsimp only at hs; subst hs
  obtain ⟨s', hsl'⟩ := s'; dsimp only at hs'; subst hs'
  obtain ⟨e, hel⟩ := e; dsimp only at he; subst he
  have hc8 := chk8 v31 v38 vn hsl (fun h => absurd ((cond2_iff vn).mpr h) hC2)
  iintro ⟨HT, ⟨⟨⟨%gw, Hw⟩, Hw'⟩, ⟨⟨%gs, Hs⟩, Hs'⟩⟩, ⟨⟨Hcw, ⟨%gw2, Hgw⟩⟩, ⟨Hcs, ⟨%gs2, Hgs⟩⟩⟩, Ho⟩ Hκ
  unfold pA1
  sl_exec
  have e1 : A_first_none.sl.r c n hn k T = v31 := (tw_of_load c T _ _ _ r 4 (offr (k := k) hk40 hr rfl)).trans h4
  rw [e1]
  sl_exec
  have e1 : A_first_none.sl.r_1 c n hn k T = v33 := (tw_of_load c T _ _ _ r 1 (offr (k := k) hk40 hr rfl)).trans h1
  rw [e1]
  sl_exec
  have e1 : A_first_none.sl.r_2 c n hn k T = v36 := (tw_of_load c T _ _ _ r 2 (offr (k := k) hk40 hr rfl)).trans h2
  rw [e1]
  have e1 : A_first_none.sl.r_3 c n hn k T = v38 := (tw_of_load c T _ _ _ r 3 (offr (k := k) hk40 hr rfl)).trans h3
  rw [e1]
  sl_exec
  have e1 : A_first_none.sl.r_4 c n k T v31 v38 hc6 hC1 = ve := (tw_of_load c T _ _ _ r 0 (offr (k := k) hk40 hr rfl)).trans h0
  rw [e1]
  sl_exec
  ihave HW := (show ((wE ⟨ve.toNat, hel⟩).view.loc (c : Thread nD τ) ↦[Finset.univ]{fullShare} fw) ⊢ held c MW fw from .rfl) $$ Hw'
  ihave HS := (show ((sE ⟨ve.toNat, hel⟩).view.loc (c : Thread nD τ) ↦[Finset.univ]{fullShare} fs) ⊢ held c MS fs from .rfl) $$ Hs'
  have e1 : A_first_none.sl.r_5 c n k T v31 v38 hc6 hC1 = vn := (tw_of_load c T _ _ _ r 5 (offr (k := k) hk40 hr rfl)).trans h5
  rw [e1]
  sl_exec
  iapply Hκ
  isplitl [HT]; · iexact HT
  isplitl [Hw Hs Hw_dst Hs_dst]
  · isplitl [Hw Hw_dst]
    · isplitl [Hw]; · iexact Hw
      iexists gw; iexact Hw_dst
    isplitl [Hs]; · iexact Hs
    iexists gs; iexact Hs_dst
  isplitr [Ho]
  · isplitl [HW]; · iexact HW
    isplitl [HS]; · iexact HS
    isplitl [Hcw Hgw]
    · isplitl [Hcw]; · iexact Hcw
      iexists gw2; iexact Hgw
    isplitl [Hcs]; · iexact Hcs
    iexists gs2; iexact Hgs
  iexists _; iexact Ho

theorem A_later
    (n : BitVec 32) (hn : k0_chk4 n) (k : Fin (k0_t6_loop n).trips) (hn40 : n.toNat ≤ 40) (r : Fin 40) (hr : r.val = k.val)
    (fw : BufOf (F := F) c MW) (fs : BufOf (F := F) c MS) (T : BufOf (F := F) c M10) (X : sProp 𝕄)
    (v31 v33 v36 v38 ve vn : BitVec 32) (h4 : tw c T r 4 = v31) (h1 : tw c T r 1 = v33) (h2 : tw c T r 2 = v36) (h3 : tw c T r 3 = v38)
    (h0 : tw c T r 0 = ve) (h5 : tw c T r 5 = vn)
    (hc11 : k0_chk11 v31) (hc5 : k0_chk5 v33) (s s' : Fin 2) (e : Fin 8)
    (hs : v31.toNat = s.val) (hs' : (Scalar.subi 1#32 v31).toNat = s'.val) (he : ve.toNat = e.val) (hc6 : k0_chk6 n k v31 v38) (hc7 : k0_chk7 v38 ve) (hC1 : ¬ k0_cond1 v38 = 1#1)
    {R : Type} {κ : (v31 : BitVec 32) → PLift (k0_chk11 v31) → (v33 : BitVec 32) → PLift (k0_chk5 v33) → BitVec 32 → Prog (TpuEff nD τ sig (Elt F) Λ₀ .tc) R} {Q : R → sProp 𝕄} :
    iprop(held c M10 T ∗ X)
    ⊢ iprop((iprop(held c M10 T ∗ X) -∗ wp frame (wpE (defs₀ (F := F)) Variants.none c none) Set.univ (κ v31 ⟨hc11⟩ v33 ⟨hc5⟩ v36) Q) -∗
       wp frame (wpE (defs₀ (F := F)) Variants.none c none) Set.univ
      (pA1 MW (Memref.isWhole_whole _) MS (Memref.isWhole_whole _) M7 (Memref.isWhole_whole _) M8 (Memref.isWhole_whole _)
        M10 cc0_scratch6 cc0_scratch7 n hn k κ) Q) := by
  have hk := lt_of_lt_of_eq k.isLt (trips6 n hn40)
  have hk40 : k.val < 40 := by omega
  obtain ⟨s, hsl⟩ := s; dsimp only at hs; subst hs
  obtain ⟨s', hsl'⟩ := s'; dsimp only at hs'; subst hs'
  obtain ⟨e, hel⟩ := e; dsimp only at he; subst he
  iintro ⟨HT, HX⟩ Hκ
  unfold pA1
  sl_exec
  have e1 : A_later.sl.r c n hn k T = v31 := (tw_of_load c T _ _ _ r 4 (offr (k := k) hk40 hr rfl)).trans h4
  rw [e1]
  sl_exec
  have e1 : A_later.sl.r_1 c n hn k T = v33 := (tw_of_load c T _ _ _ r 1 (offr (k := k) hk40 hr rfl)).trans h1
  rw [e1]
  sl_exec
  have e1 : A_later.sl.r_2 c n hn k T = v36 := (tw_of_load c T _ _ _ r 2 (offr (k := k) hk40 hr rfl)).trans h2
  rw [e1]
  have e1 : A_later.sl.r_3 c n hn k T = v38 := (tw_of_load c T _ _ _ r 3 (offr (k := k) hk40 hr rfl)).trans h3
  rw [e1]
  sl_exec
  iapply Hκ
  isplitl [HT]; · iexact HT
  iexact HX

end Cert.KernelIdeal.Hand

end
-- ==== Proof.I2.lean ====
module

public import proofs.«01_k».proof.Proof.IBlocks
public import proofs.«01_k».proof.Proof.I1

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

/-- The rows of the coming item on their way into slot `a`, slot `b` unused; where no item comes, both unused. -/
abbrev xNext (a b : Fin 2) (nx : Option {st : ℕ // st + 256 ≤ 6144}) (fx : BufOf (F := F) c MX) : sProp 𝕄 :=
  match nx with
  | some p => iprop(flying c (cell6 a) (slot6 a) (rowsX p.1 p.2) fx ∗ idle (F := F) c (cell6 b) (slot6 b))
  | none => iprop(held c MX fx ∗ idle (F := F) c (cell6 a) (slot6 a) ∗ idle (F := F) c (cell6 b) (slot6 b))

theorem B_more (n : BitVec 32) (hn : k0_chk4 n) (k : Fin (k0_t6_loop n).trips) (hn40 : n.toNat ≤ 40) (r : Fin 40) (hr : r.val = k.val)
    (hC3 : k0_cond3 n k = 1#1)
    (fx : BufOf (F := F) c MX) (T : BufOf (F := F) c M10) (W)
    (v31 v33 v36 : BitVec 32) (h1 : tw c T r 1 = v33)
    (r' : Fin 40) (hr' : r'.val = k.val + 1) (vx : BitVec 32) (hx : tw c T r' 1 = vx) (sx : ℕ) (hsx : sx + 256 ≤ 6144) (esx : vx.toNat = sx) (hc10 : k0_chk10 n k vx)
    (hc11 : k0_chk11 v31) (hc5 : k0_chk5 v33) (hc9 : k0_chk9 v33)
    (s n0 n1 : Fin 2) (hs : v31.toNat = s.val) (hn0 : (Scalar.andi (Scf.iv 0#32 1#32 k) 1#32).toNat = n0.val)
    (hn1 : (Scalar.subi 1#32 (Scalar.andi (Scf.iv 0#32 1#32 k) 1#32)).toNat = n1.val)
    (st : ℕ) (hst : st + 256 ≤ 6144) (est : v33.toNat = st)
    (f7 : BufOf (F := F) c (slot7 s)) (w0 : Vec F S1x1408x256 .i8)
    (l45 : View.readAt (Elt F) M7.view (Rect.unit (s := S2x1408x2048) (k0_off45 v31) S1x1408x256.size (k0_off45_inb v31 hc11)).toLoadRect f7 = w0) {Q} :
    iprop(held c M10 T ∗ xNext c n0 n1 (some ⟨st, hst⟩) fx ∗ own c (slot7 s) f7 ∗ owes (c : Thread nD τ) 0 W)
    ⊢ iprop((iprop(held c M10 T ∗ xNext c n1 n0 (some ⟨sx, hsx⟩) fx ∗ own c (slot7 s) f7 ∗ ∃ W', owes (c : Thread nD τ) 0 W') -∗
        Q ⟨v31, hc11, v33, hc5, v33, v36, k0_pay5, k0_pay6 (xblk c fx st hst), k0_pay7 w0⟩) -∗
      wp frame (wpE (defs₀ (F := F)) Variants.none c none) Set.univ
      (pA1.tail MX (Memref.isWhole_whole _) M6 (Memref.isWhole_whole _) M7 M10 cc0_scratch5 n hn k v31 ⟨hc11⟩ v33 ⟨hc5⟩ v36) Q) := by
  have hk := lt_of_lt_of_eq k.isLt (trips6 n hn40)
  have hk40 : k.val < 40 := by omega
  obtain ⟨s, hsl⟩ := s; dsimp only at hs; subst hs
  obtain ⟨n0, hn0l⟩ := n0; dsimp only at hn0; subst hn0
  obtain ⟨n1, hn1l⟩ := n1; dsimp only at hn1; subst hn1
  subst est; subst esx
  have i6 := sub6 ⟨_, hn0l⟩ (k0_off44 n k) (k0_off44_inb n hn k) rfl
  have i7 := sub7 ⟨_, hsl⟩ (k0_off45 v31) (k0_off45_inb v31 hc11) rfl
  have l44 := fun g => load6 c ⟨_, hn0l⟩ v33.toNat hst fx g (k0_off44 n k) (k0_off44_inb n hn k) rfl
  iintro ⟨HT, ⟨⟨⟨%gx, Hx⟩, Hx'⟩, ⟨Hc, ⟨%gx2, Hg⟩⟩⟩, H7, Ho⟩ HQ
  unfold pA1.tail
  sl_exec
  have e1 : B_more.sl.r c n hn k T = v33 := (tw_of_load c T _ _ _ r 1 (offr (k := k) hk40 hr rfl)).trans h1
  rw [e1]
  sl_exec
  ihave HX := (show ((rowsX v33.toNat hst).view.loc (c : Thread nD τ) ↦[Finset.univ]{fullShare} fx) ⊢ held c MX fx from .rfl) $$ Hx'
  have e1 : B_more.sl.r_1 c n hn k hC3 T = vx := (tw_of_load c T _ _ _ r' 1 (by rw [hr']; show ![(Scalar.addi (Scf.iv 0#32 1#32 k.val) 1#32).toNat, 1] = ![k.val + 1, 1]; rw [nx_toNat _ hk40])).trans hx
  rw [e1]
  sl_exec
  simp only [wp_ret]; imodintro
  iapply HQ
  isplitl [HT]; · iexact HT
  isplitl [Hc HX Hx Hx_dst]
  · isplitl [Hc HX]
    · isplitl [Hc]
      · iexists gx2; iexact Hc
      iexact HX
    isplitl [Hx]; · iexact Hx
    iexists _; iexact Hx_dst
  isplitl [H7]; · iexact H7
  iexists _; iexact Ho

theorem B_last (n : BitVec 32) (hn : k0_chk4 n) (k : Fin (k0_t6_loop n).trips) (hn40 : n.toNat ≤ 40) (r : Fin 40) (hr : r.val = k.val)
    (hC3 : ¬ k0_cond3 n k = 1#1)
    (fx : BufOf (F := F) c MX) (T : BufOf (F := F) c M10) (W)
    (v31 v33 v36 : BitVec 32) (h1 : tw c T r 1 = v33)
    (hc11 : k0_chk11 v31) (hc5 : k0_chk5 v33) (hc9 : k0_chk9 v33)
    (s n0 n1 : Fin 2) (hs : v31.toNat = s.val) (hn0 : (Scalar.andi (Scf.iv 0#32 1#32 k) 1#32).toNat = n0.val)
    (hn1 : (Scalar.subi 1#32 (Scalar.andi (Scf.iv 0#32 1#32 k) 1#32)).toNat = n1.val)
    (st : ℕ) (hst : st + 256 ≤ 6144) (est : v33.toNat = st)
    (f7 : BufOf (F := F) c (slot7 s)) (w0 : Vec F S1x1408x256 .i8)
    (l45 : View.readAt (Elt F) M7.view (Rect.unit (s := S2x1408x2048) (k0_off45 v31) S1x1408x256.size (k0_off45_inb v31 hc11)).toLoadRect f7 = w0) {Q} :
    iprop(held c M10 T ∗ xNext c n0 n1 (some ⟨st, hst⟩) fx ∗ own c (slot7 s) f7 ∗ owes (c : Thread nD τ) 0 W)
    ⊢ iprop((iprop(held c M10 T ∗ xNext c n1 n0 none fx ∗ own c (slot7 s) f7 ∗ ∃ W', owes (c : Thread nD τ) 0 W') -∗
        Q ⟨v31, hc11, v33, hc5, v33, v36, k0_pay5, k0_pay6 (xblk c fx st hst), k0_pay7 w0⟩) -∗
      wp frame (wpE (defs₀ (F := F)) Variants.none c none) Set.univ
      (pA1.tail MX (Memref.isWhole_whole _) M6 (Memref.isWhole_whole _) M7 M10 cc0_scratch5 n hn k v31 ⟨hc11⟩ v33 ⟨hc5⟩ v36) Q) := by
  have hk := lt_of_lt_of_eq k.isLt (trips6 n hn40)
  have hk40 : k.val < 40 := by omega
  obtain ⟨s, hsl⟩ := s; dsimp only at hs; subst hs
  obtain ⟨n0, hn0l⟩ := n0; dsimp only at hn0; subst hn0
  obtain ⟨n1, hn1l⟩ := n1; dsimp only at hn1; subst hn1
  subst est
  have i6 := sub6 ⟨_, hn0l⟩ (k0_off44 n k) (k0_off44_inb n hn k) rfl
  have i7 := sub7 ⟨_, hsl⟩ (k0_off45 v31) (k0_off45_inb v31 hc11) rfl
  have l44 := fun g => load6 c ⟨_, hn0l⟩ v33.toNat hst fx g (k0_off44 n k) (k0_off44_inb n hn k) rfl
  iintro ⟨HT, ⟨⟨⟨%gx, Hx⟩, Hx'⟩, ⟨Hc, ⟨%gx2, Hg⟩⟩⟩, H7, Ho⟩ HQ
  unfold pA1.tail
  sl_exec
  have e1 : B_last.sl.r c n hn k T = v33 := (tw_of_load c T _ _ _ r 1 (offr (k := k) hk40 hr rfl)).trans h1
  rw [e1]
  sl_exec
  ihave HX := (show ((rowsX v33.toNat hst).view.loc (c : Thread nD τ) ↦[Finset.univ]{fullShare} fx) ⊢ held c MX fx from .rfl) $$ Hx'
  simp only [wp_ret]; imodintro
  iapply HQ
  isplitl [HT]; · iexact HT
  isplitl [Hc Hg HX Hx Hx_dst]
  · isplitl [HX]; · iexact HX
    isplitl [Hc Hg]
    · isplitl [Hc]; · iexact Hc
      iexists gx2; iexact Hg
    isplitl [Hx]; · iexact Hx
    iexists _; iexact Hx_dst
  isplitl [H7]; · iexact H7
  iexists _; iexact Ho

/-- One row of the item table: which expert, where its 256 rows start, from which row on they are its own,
    whether its weights are new, their slot, and the expert after it. -/
structure Item where
  e : Fin 8
  st : ℕ
  va : ℕ
  fi : Bool
  s : Fin 2
  nx : Option (Fin 8)
  hst : st + 256 ≤ 6144
  hd : 32 ∣ st
  hva : va ≤ 6144

abbrev Item.rows (it : Item) : {st : ℕ // st + 256 ≤ 6144} := ⟨it.st, it.hst⟩
def Item.w (it : Item) : Fin 6 → BitVec 32
  | 0 => BitVec.ofNat 32 it.e.val
  | 1 => BitVec.ofNat 32 it.st
  | 2 => BitVec.ofNat 32 it.va
  | 3 => if it.fi then 1#32 else 0#32
  | 4 => BitVec.ofNat 32 it.s.val
  | 5 => match it.nx with | some x => BitVec.ofNat 32 x.val | none => 4294967295#32

/-- Row `r` of the table holds item `it`. -/
def RowIs (c : Dev nD) (T : BufOf (F := F) c M10) (r : Fin 40) (it : Item) : Prop :=
  tw c T r 0 = it.w 0 ∧ tw c T r 1 = it.w 1 ∧ tw c T r 2 = it.w 2 ∧ tw c T r 3 = it.w 3 ∧ tw c T r 4 = it.w 4 ∧ tw c T r 5 = it.w 5

def oth : Fin 2 → Fin 2
  | 0 => 1
  | 1 => 0

theorem Item.w1 (it : Item) : (it.w 1).toNat = it.st := by
  have := it.hst
  show (BitVec.ofNat 32 it.st).toNat = _
  rw [BitVec.toNat_ofNat]; omega
theorem Item.w4 (it : Item) : (it.w 4).toNat = it.s.val := by
  have := it.s.isLt
  show (BitVec.ofNat 32 it.s.val).toNat = _
  rw [BitVec.toNat_ofNat]; omega
theorem Item.w0 (it : Item) : (it.w 0).toNat = it.e.val := by
  have := it.e.isLt
  show (BitVec.ofNat 32 it.e.val).toNat = _
  rw [BitVec.toNat_ofNat]; omega
theorem Item.w4' (it : Item) : (Scalar.subi 1#32 (it.w 4)).toNat = (oth it.s).val := by
  have key : ∀ s : Fin 2, (Scalar.subi 1#32 (BitVec.ofNat 32 s.val)).toNat = (oth s).val := by decide
  exact key it.s
theorem cond1_iff (w : BitVec 32) (b : Bool) (h : w = if b then 1#32 else 0#32) : k0_cond1 w = 1#1 ↔ b = true := by
  subst h; cases b <;> decide
theorem Item.chk11 (it : Item) : k0_chk11 (it.w 4) := Hand.chk11 _ (by rw [it.w4]; exact it.s.isLt)
theorem Item.chk5 (it : Item) : k0_chk5 (it.w 1) := Hand.chk5 _ (by rw [it.w1]; exact it.hst) (by rw [it.w1]; exact it.hd)

/-- The weights' ring before item `it`. -/
abbrev wBefore (it : Item) (fw : BufOf (F := F) c MW) (fs : BufOf (F := F) c MS) : sProp 𝕄 :=
  match it.fi with
  | true => iprop(wGo c it.s it.e fw fs ∗ wOff (F := F) c (oth it.s))
  | false => iprop(wOn c it.s it.e fw fs ∗ wRest c (oth it.s) it.nx fw fs)
/-- The weights' ring after item `it`. -/
abbrev wAfter (it : Item) (fw : BufOf (F := F) c MW) (fs : BufOf (F := F) c MS) : sProp 𝕄 :=
  iprop(wOn c it.s it.e fw fs ∗ wRest c (oth it.s) it.nx fw fs)

theorem stretch_A (n : BitVec 32) (hn : k0_chk4 n) (k : Fin (k0_t6_loop n).trips) (hn40 : n.toNat ≤ 40) (r : Fin 40) (hr : r.val = k.val)
    (fw : BufOf (F := F) c MW) (fs : BufOf (F := F) c MS) (T : BufOf (F := F) c M10) (W) (it : Item) (hT : RowIs c T r it)
    {R : Type} {κ : (v31 : BitVec 32) → PLift (k0_chk11 v31) → (v33 : BitVec 32) → PLift (k0_chk5 v33) → BitVec 32 → Prog (TpuEff nD τ sig (Elt F) Λ₀ .tc) R} {Q : R → sProp 𝕄} :
    iprop(held c M10 T ∗ wBefore c it fw fs ∗ owes (c : Thread nD τ) 0 W)
    ⊢ iprop((iprop(held c M10 T ∗ wAfter c it fw fs ∗ ∃ W', owes (c : Thread nD τ) 0 W') -∗ wp frame (wpE (defs₀ (F := F)) Variants.none c none) Set.univ (κ (it.w 4) ⟨it.chk11⟩ (it.w 1) ⟨it.chk5⟩ (it.w 2)) Q) -∗
       wp frame (wpE (defs₀ (F := F)) Variants.none c none) Set.univ
      (pA1 MW (Memref.isWhole_whole _) MS (Memref.isWhole_whole _) M7 (Memref.isWhole_whole _) M8 (Memref.isWhole_whole _)
        M10 cc0_scratch6 cc0_scratch7 n hn k κ) Q) := by
  obtain ⟨h0, h1, h2, h3, h4, h5⟩ := hT
  have hs2 : (it.w 4).toNat < 2 := by rw [it.w4]; exact it.s.isLt
  have hc6 := chk6 n hn40 k (it.w 4) (it.w 3) hs2
  have hc7 := Hand.chk7 (it.w 3) (it.w 0) (by rw [it.w0]; exact it.e.isLt)
  have hC1 := cond1_iff (it.w 3) it.fi rfl
  obtain ⟨e, st, va, fi, s, nx, hst, hd, hva⟩ := it
  cases fi with
  | true =>
    have hC1 := hC1.mpr rfl
    cases nx with
    | some x =>
      have hx : ((BitVec.ofNat 32 x.val)).toNat = x.val := by have := x.isLt; rw [BitVec.toNat_ofNat]; omega
      have key : ∀ x : Fin 8, k0_cond2 (BitVec.ofNat 32 x.val) = 1#1 := by decide
      have h := A_first_next c n hn k hn40 r hr fw fs T W _ _ _ _ _ _ h4 h1 h2 h3 h0 h5 (Item.chk11 ⟨e, st, va, true, s, some x, hst, hd, hva⟩) (Item.chk5 ⟨e, st, va, true, s, some x, hst, hd, hva⟩)
        s (oth s) e (Item.w4 ⟨e, st, va, true, s, some x, hst, hd, hva⟩) (Item.w4' ⟨e, st, va, true, s, some x, hst, hd, hva⟩) (Item.w0 ⟨e, st, va, true, s, some x, hst, hd, hva⟩) hc6 hc7 x hx hC1 (key x)
        (κ := κ) (Q := Q)
      iintro ⟨HT, ⟨Hw, Hf⟩, Ho⟩ HQ
      iapply h $$ [HT Hw Hf Ho]
      · isplitl [HT]; · iexact HT
        isplitl [Hw]; · iexact Hw
        isplitl [Hf]; · iexact Hf
        iexact Ho
      iintro ⟨HT, Hw, Hr, Ho⟩
      iapply HQ
      isplitl [HT]; · iexact HT
      isplitl [Hw Hr]
      · isplitl [Hw]; · iexact Hw
        iexact Hr
      iexact Ho
    | none =>
      have key : ¬ k0_cond2 4294967295#32 = 1#1 := by decide
      have h := A_first_none c n hn k hn40 r hr fw fs T W _ _ _ _ _ _ h4 h1 h2 h3 h0 h5 (Item.chk11 ⟨e, st, va, true, s, none, hst, hd, hva⟩) (Item.chk5 ⟨e, st, va, true, s, none, hst, hd, hva⟩)
        s (oth s) e (Item.w4 ⟨e, st, va, true, s, none, hst, hd, hva⟩) (Item.w4' ⟨e, st, va, true, s, none, hst, hd, hva⟩) (Item.w0 ⟨e, st, va, true, s, none, hst, hd, hva⟩) hc6 hc7 hC1 key
        (κ := κ) (Q := Q)
      iintro ⟨HT, ⟨Hw, Hf⟩, Ho⟩ HQ
      iapply h $$ [HT Hw Hf Ho]
      · isplitl [HT]; · iexact HT
        isplitl [Hw]; · iexact Hw
        isplitl [Hf]; · iexact Hf
        iexact Ho
      iintro ⟨HT, Hw, Hr, Ho⟩
      iapply HQ
      isplitl [HT]; · iexact HT
      isplitl [Hw Hr]
      · isplitl [Hw]; · iexact Hw
        iexact Hr
      iexact Ho
  | false =>
    have hC1 : ¬ _ := fun h => Bool.noConfusion (hC1.mp h)
    have h := A_later c n hn k hn40 r hr fw fs T iprop(wAfter c ⟨e, st, va, false, s, nx, hst, hd, hva⟩ fw fs ∗ owes (c : Thread nD τ) 0 W) _ _ _ _ _ _ h4 h1 h2 h3 h0 h5 (Item.chk11 ⟨e, st, va, false, s, nx, hst, hd, hva⟩) (Item.chk5 ⟨e, st, va, false, s, nx, hst, hd, hva⟩)
        s (oth s) e (Item.w4 ⟨e, st, va, false, s, nx, hst, hd, hva⟩) (Item.w4' ⟨e, st, va, false, s, nx, hst, hd, hva⟩) (Item.w0 ⟨e, st, va, false, s, nx, hst, hd, hva⟩) hc6 hc7 hC1
        (κ := κ) (Q := Q)
    iintro ⟨HT, Hw, Ho⟩ HQ
    iapply h $$ [HT Hw Ho]
    · isplitl [HT]; · iexact HT
      isplitl [Hw]; · iexact Hw
      iexact Ho
    iintro ⟨HT, Hw, Ho⟩
    iapply HQ
    isplitl [HT]; · iexact HT
    isplitl [Hw]; · iexact Hw
    iexists _; iexact Ho

theorem stretch_B (n : BitVec 32) (hn : k0_chk4 n) (k : Fin (k0_t6_loop n).trips) (hn40 : n.toNat ≤ 40) (r : Fin 40) (hr : r.val = k.val)
    (fx : BufOf (F := F) c MX) (fw : BufOf (F := F) c MW) (T : BufOf (F := F) c M10) (W) (it : Item) (hT : RowIs c T r it)
    (itn : Option Item) (hnext : match itn with | some i' => ∃ r' : Fin 40, r'.val = k.val + 1 ∧ k.val + 1 < n.toNat ∧ RowIs c T r' i' | none => ¬ k.val + 1 < n.toNat)
    (n0 n1 : Fin 2) (hn0 : n0.val = k.val % 2) (hn1 : n1.val = 1 - k.val % 2)
    (g : BufOf (F := F) c (slot7 it.s)) {Q} :
    iprop(held c M10 T ∗ xNext c n0 n1 (some it.rows) fx ∗ own c (slot7 it.s) (landed c (slot7 it.s) (wE it.e) fw g) ∗ owes (c : Thread nD τ) 0 W)
    ⊢ iprop((iprop(held c M10 T ∗ xNext c n1 n0 (itn.map Item.rows) fx ∗ own c (slot7 it.s) (landed c (slot7 it.s) (wE it.e) fw g) ∗ ∃ W', owes (c : Thread nD τ) 0 W') -∗
        Q ⟨it.w 4, it.chk11, it.w 1, it.chk5, it.w 1, it.w 2, k0_pay5, k0_pay6 (xblk c fx it.st it.hst), k0_pay7 (wblk c fw it.e 0)⟩) -∗
      wp frame (wpE (defs₀ (F := F)) Variants.none c none) Set.univ
      (pA1.tail MX (Memref.isWhole_whole _) M6 (Memref.isWhole_whole _) M7 M10 cc0_scratch5 n hn k (it.w 4) ⟨it.chk11⟩ (it.w 1) ⟨it.chk5⟩ (it.w 2)) Q) := by
  have hk := lt_of_lt_of_eq k.isLt (trips6 n hn40)
  have hk40 : k.val < 40 := by omega
  have h1 := hT.2.1
  have hc9 := Hand.chk9 (it.w 1) (by rw [it.w1]; exact it.hst) (by rw [it.w1]; exact it.hd)
  have l45 := load7 c it.s it.e 0 fw g (k0_off45 (it.w 4)) (k0_off45_inb _ it.chk11) (by show ![(it.w 4).toNat, 0, 0] = _; rw [it.w4]; rfl)
  cases itn with
  | some i' =>
    obtain ⟨r', hr', hk', hT'⟩ := hnext
    exact B_more c n hn k hn40 r hr ((cond3_iff n hn40 k).mpr hk') fx T W _ _ _ h1 r' hr' _ hT'.2.1 i'.st i'.hst i'.w1
      (Hand.chk10 n k _ (by rw [i'.w1]; exact i'.hst) (by rw [i'.w1]; exact i'.hd)) it.chk11 it.chk5 hc9 it.s n0 n1 it.w4
      ((x0_toNat _ hk40).trans hn0.symm) ((x1_toNat _ hk40).trans hn1.symm) it.st it.hst it.w1 _ _ l45
  | none =>
    exact B_last c n hn k hn40 r hr (fun h => hnext ((cond3_iff n hn40 k).mp h)) fx T W _ _ _ h1
      it.chk11 it.chk5 hc9 it.s n0 n1 it.w4
      ((x0_toNat _ hk40).trans hn0.symm) ((x1_toNat _ hk40).trans hn1.symm) it.st it.hst it.w1 _ _ l45

/-- A trip's head: the waits, the copies it starts, and the first loads. -/
theorem part2 (A0 : Memref sig .tc .smem S8 .i32) (hA0 : A0.IsWhole) (A4 : Memref sig .tc .vmem S6144x1024 .fp8e4m3) (hA4 : A4.IsWhole) (A5 : Memref sig .tc .vmem S6144x1 .f32) (hA5 : A5.IsWhole)
    (n : BitVec 32) (hn : k0_chk4 n) (k : Fin (k0_t6_loop n).trips) (hn40 : n.toNat ≤ 40) (r : Fin 40) (hr : r.val = k.val)
    (fx : BufOf (F := F) c MX) (fw : BufOf (F := F) c MW) (fs : BufOf (F := F) c MS) (T : BufOf (F := F) c M10) (W) (it : Item) (hT : RowIs c T r it)
    (itn : Option Item) (hnext : match itn with | some i' => ∃ r' : Fin 40, r'.val = k.val + 1 ∧ k.val + 1 < n.toNat ∧ RowIs c T r' i' | none => ¬ k.val + 1 < n.toNat)
    (n0 n1 : Fin 2) (hn0 : n0.val = k.val % 2) (hn1 : n1.val = 1 - k.val % 2) {Q} :
    iprop(held c M10 T ∗ wBefore c it fw fs ∗ xNext c n0 n1 (some it.rows) fx ∗ owes (c : Thread nD τ) 0 W)
    ⊢ iprop((iprop(held c M10 T ∗ wAfter c it fw fs ∗ xNext c n1 n0 (itn.map Item.rows) fx ∗ ∃ W', owes (c : Thread nD τ) 0 W') -∗
        Q ⟨it.w 4, it.chk11, it.w 1, it.chk5, it.w 1, it.w 2, k0_pay5, k0_pay6 (xblk c fx it.st it.hst), k0_pay7 (wblk c fw it.e 0)⟩) -∗
      wp frame (wpE (defs₀ (F := F)) Variants.none c none) Set.univ
      (k0_part2 A0 hA0 MX (Memref.isWhole_whole _) MW (Memref.isWhole_whole _) MS (Memref.isWhole_whole _) A4 hA4 A5 hA5 M6 (Memref.isWhole_whole _) M7 (Memref.isWhole_whole _)
        M8 (Memref.isWhole_whole _) M9 (Memref.isWhole_whole _) M10 (Memref.isWhole_whole _) cc0_scratch5 cc0_scratch6 cc0_scratch7 n hn 0#32 1#32 k) Q) := by
  rw [k0_part2_eq_skeleton, pA1.eq]
  iintro ⟨HT, Hw, Hx, Ho⟩ HQ
  iapply (stretch_A c n hn k hn40 r hr fw fs T W it hT) $$ [HT Hw Ho]
  · isplitl [HT]; · iexact HT
    isplitl [Hw]; · iexact Hw
    iexact Ho
  iintro ⟨HT, ⟨⟨⟨Hc, ⟨%g, Hg⟩⟩, Hs⟩, Hr⟩, ⟨%W', Ho⟩⟩
  iapply (stretch_B c n hn k hn40 r hr fx fw T W' it hT itn hnext n0 n1 hn0 hn1 g) $$ [HT Hx Hg Ho]
  · isplitl [HT]; · iexact HT
    isplitl [Hx]; · iexact Hx
    isplitl [Hg]; · iexact Hg
    iexact Ho
  iintro ⟨HT, Hx, Hg, Ho⟩
  iapply HQ
  isplitl [HT]; · iexact HT
  isplitl [Hc Hg Hs Hr]
  · isplitl [Hc Hg Hs]
    · isplitl [Hc Hg]
      · isplitl [Hc]; · iexact Hc
        iexists g; iexact Hg
      iexact Hs
    iexact Hr
  isplitl [Hx]; · iexact Hx
  iexact Ho

end Cert.KernelIdeal.Hand

end
-- ==== Proof.ISched.lean ====
module

public import proofs.«01_k».proof.Proof.ICnt
public import proofs.«01_k».proof.Proof.I2

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The schedule, over the group sizes as numbers -/

/-- The first row of expert `e`. -/
def lo (g : ℕ → ℕ) : ℕ → ℕ
  | 0 => 0
  | e + 1 => lo g e + g e
/-- The number of items before expert `e`. -/
def nb (g : ℕ → ℕ) : ℕ → ℕ
  | 0 => 0
  | e + 1 => nb g e + cntN (lo g e) (g e)
/-- The weights' slot of expert `e`. -/
def sl (g : ℕ → ℕ) : ℕ → Fin 2
  | 0 => 0
  | e + 1 => if 0 < g e then oth (sl g e) else sl g e

theorem lo_mono (g : ℕ → ℕ) {a b : ℕ} (h : a ≤ b) : lo g a ≤ lo g b := by
  induction h with
  | refl => exact le_refl _
  | step _ ih => exact ih.trans (Nat.le_add_right _ _)
theorem nb_mono (g : ℕ → ℕ) {a b : ℕ} (h : a ≤ b) : nb g a ≤ nb g b := by
  induction h with
  | refl => exact le_refl _
  | step _ ih => exact ih.trans (Nat.le_add_right _ _)
theorem nb_bound (g : ℕ → ℕ) (e : ℕ) : 256 * nb g e ≤ lo g e + 286 * e := by
  induction e with
  | zero => simp [nb]
  | succ e ih =>
    show 256 * (nb g e + cntN (lo g e) (g e)) ≤ lo g e + g e + 286 * (e + 1)
    have : 256 * cntN (lo g e) (g e) ≤ g e + 286 := by unfold cntN; split <;> omega
    omega
theorem gap (g : ℕ → ℕ) {a b : ℕ} (hab : a ≤ b) (h : ∀ y, a ≤ y → y < b → g y = 0) : lo g b = lo g a ∧ nb g b = nb g a ∧ sl g b = sl g a := by
  induction hab with
  | refl => exact ⟨rfl, rfl, rfl⟩
  | @step m hm ih =>
    obtain ⟨h1, h2, h3⟩ := ih fun y hy hy' => h y hy (by omega)
    have h0 : g m = 0 := h m hm (Nat.lt_succ_self _)
    refine ⟨?_, ?_, ?_⟩
    · show lo g m + g m = _; omega
    · show nb g m + cntN (lo g m) (g m) = _; rw [h0, h2]; rfl
    · show (if 0 < g m then oth (sl g m) else sl g m) = _; rw [h0, h3]; rfl
theorem cnt_pos (g : ℕ → ℕ) (e : ℕ) (h : 0 < g e) : 0 < cntN (lo g e) (g e) := by
  unfold cntN; rw [if_pos h]
  omega
theorem pos_of_cnt (g : ℕ → ℕ) (e i : ℕ) (h : i < cntN (lo g e) (g e)) : 0 < g e := by
  unfold cntN at h; split at h
  · assumption
  · omega

/-- The expert after `e` that has rows. -/
def IsNext (g : ℕ → ℕ) (e : ℕ) (x : ℕ) : Prop := e < x ∧ x < 8 ∧ 0 < g x ∧ ∀ y, e < y → y < x → g y = 0
open Classical in
def nxt (g : ℕ → ℕ) (e : ℕ) : Option (Fin 8) := if h : ∃ x, IsNext g e x then some ⟨h.choose, h.choose_spec.2.1⟩ else none

theorem IsNext.unique {g : ℕ → ℕ} {e x x' : ℕ} (h : IsNext g e x) (h' : IsNext g e x') : x = x' := by
  obtain ⟨h1, h2, h3, h4⟩ := h
  obtain ⟨h1', h2', h3', h4'⟩ := h'
  rcases Nat.lt_trichotomy x x' with hl | he | hl
  · have := h4' x h1 hl; omega
  · exact he
  · have := h4 x' h1' hl; omega
theorem nxt_some {g : ℕ → ℕ} {e x : ℕ} (h : IsNext g e x) : nxt g e = some ⟨x, h.2.1⟩ := by
  have hx : ∃ x, IsNext g e x := ⟨x, h⟩
  unfold nxt; rw [dif_pos hx]
  congr 1; apply Fin.ext
  exact hx.choose_spec.unique h
theorem nxt_isNext {g : ℕ → ℕ} {e : ℕ} {x : Fin 8} (h : nxt g e = some x) : IsNext g e x.val := by
  unfold nxt at h; split at h
  · rename_i hx; cases h; exact hx.choose_spec
  · cases h
theorem nxt_none {g : ℕ → ℕ} {e : ℕ} (h : ∀ y, e < y → y < 8 → g y = 0) : nxt g e = none := by
  unfold nxt; rw [dif_neg]
  rintro ⟨x, h1, h2, h3, _⟩
  have := h x h1 h2; omega
theorem none_nxt {g : ℕ → ℕ} {e : ℕ} (h : nxt g e = none) : ∀ y, e < y → y < 8 → g y = 0 := by
  intro y
  induction y using Nat.strong_induction_on with
  | _ y ih =>
    intro h1 h2
    by_contra h0
    have : nxt g e = some ⟨y, h2⟩ := nxt_some ⟨h1, h2, by omega, fun z hz hz' => ih z hz' hz (by omega)⟩
    rw [h] at this; cases this

/-- Item `i` of expert `e`. -/
def item (g : ℕ → ℕ) (e : Fin 8) (i : ℕ) : Item where
  e := e
  st := min (lo g e / 32 * 32 + 256 * i) 5888
  va := min (max (lo g e) (lo g e / 32 * 32 + 256 * i)) 6144
  fi := decide (i = 0)
  s := sl g e
  nx := nxt g e
  hst := by omega
  hd := by omega
  hva := by omega

open Classical in
/-- Item `k` of the table. -/
def seq (g : ℕ → ℕ) (k : ℕ) : Item :=
  if h : ∃ p : Fin 8 × ℕ, p.2 < cntN (lo g p.1) (g p.1) ∧ k = nb g p.1 + p.2 then item g h.choose.1 h.choose.2 else item g 0 0

theorem seq_eq (g : ℕ → ℕ) (e : Fin 8) (i : ℕ) (hi : i < cntN (lo g e) (g e)) : seq g (nb g e + i) = item g e i := by
  have h : ∃ p : Fin 8 × ℕ, p.2 < cntN (lo g p.1) (g p.1) ∧ nb g e + i = nb g p.1 + p.2 := ⟨(e, i), hi, rfl⟩
  unfold seq; rw [dif_pos h]
  obtain ⟨h1, h2⟩ := h.choose_spec
  generalize h.choose = p at h1 h2
  obtain ⟨e', i'⟩ := p
  dsimp only at *
  have key : e'.val = e.val := by
    rcases Nat.lt_trichotomy e'.val e.val with hl | he | hl
    · have := nb_mono g (show e'.val + 1 ≤ e.val from hl)
      have h3 : nb g (e'.val + 1) = nb g e'.val + cntN (lo g e') (g e') := rfl
      omega
    · exact he
    · have := nb_mono g (show e.val + 1 ≤ e'.val from hl)
      have h3 : nb g (e.val + 1) = nb g e.val + cntN (lo g e) (g e) := rfl
      omega
  have key' : e' = e := Fin.ext key
  subst key'
  have : i' = i := by omega
  rw [this]

theorem locate (g : ℕ → ℕ) (e k : ℕ) (he : e ≤ 8) (h : k < nb g e) : ∃ (e' : Fin 8) (i : ℕ), e'.val < e ∧ i < cntN (lo g e') (g e') ∧ k = nb g e' + i := by
  induction e with
  | zero => exact absurd h (by simp [nb])
  | succ e ih =>
    by_cases hk : k < nb g e
    · obtain ⟨e', i, h1, h2, h3⟩ := ih (by omega) hk
      exact ⟨e', i, by omega, h2, h3⟩
    · have h3 : nb g (e + 1) = nb g e + cntN (lo g e) (g e) := rfl
      exact ⟨⟨e, by omega⟩, k - nb g e, Nat.lt_succ_self _, by show k - nb g e < cntN (lo g e) (g e); omega, by show k = nb g e + (k - nb g e); omega⟩

/-- What the loop over the items needs of the table's items. -/
structure Sched (it : ℕ → Item) (n : ℕ) (lo : ℕ → ℕ) : Prop where
  pos : 0 < n
  le : n ≤ 40
  first : (it 0).fi = true ∧ (it 0).s = 0 ∧ (it 0).va = 0
  step : ∀ k, k + 1 < n → ((it (k + 1)).fi = false ∧ (it (k + 1)).e = (it k).e ∧ (it (k + 1)).s = (it k).s ∧ (it (k + 1)).nx = (it k).nx)
    ∨ ((it (k + 1)).fi = true ∧ (it (k + 1)).s = oth (it k).s ∧ (it k).nx = some (it (k + 1)).e)
  last : ∀ k, k + 1 = n → (it k).nx = none
  lower : ∀ k, k < n → (it k).st ≤ (it k).va ∧ lo (it k).e.val ≤ (it k).va
  upper : ∀ k, k + 1 < n → (it (k + 1)).va ≤ (it k).st + 256 ∧ (it (k + 1)).va ≤ lo ((it k).e.val + 1)
  final : ∀ k, k + 1 = n → 6144 ≤ (it k).st + 256 ∧ 6144 ≤ lo ((it k).e.val + 1)

/-- How the item after item `i` of expert `e` is found. -/
theorem next_cases (g : ℕ → ℕ) (hs : lo g 8 = 6144) (e : Fin 8) (i : ℕ) (hi : i < cntN (lo g e) (g e)) :
    (i + 1 < cntN (lo g e) (g e) ∧ seq g (nb g e + i + 1) = item g e (i + 1))
    ∨ (i + 1 = cntN (lo g e) (g e) ∧ ∃ x : Fin 8, nxt g e = some x ∧ seq g (nb g e + i + 1) = item g x 0 ∧ lo g x = lo g (e + 1) ∧ sl g x = oth (sl g e) ∧ nb g e + i + 1 < nb g 8)
    ∨ (i + 1 = cntN (lo g e) (g e) ∧ nxt g e = none ∧ nb g e + i + 1 = nb g 8 ∧ lo g (e + 1) = 6144) := by
  by_cases h : i + 1 < cntN (lo g e) (g e)
  · exact .inl ⟨h, seq_eq g e (i + 1) h⟩
  have hi1 : i + 1 = cntN (lo g e) (g e) := by omega
  have hn : nb g e + i + 1 = nb g (e + 1) := by show _ = nb g e + cntN (lo g e) (g e); omega
  have hpe := pos_of_cnt g e i hi
  have hsl : sl g (e + 1) = oth (sl g e) := by show (if 0 < g e then oth (sl g e) else sl g e) = _; rw [if_pos hpe]
  cases hx : nxt g e with
  | some x =>
    obtain ⟨h1, h2, h3, h4⟩ := nxt_isNext hx
    obtain ⟨g1, g2, g3⟩ := gap g (show e.val + 1 ≤ x.val from h1) fun y hy hy' => h4 y hy hy'
    refine .inr (.inl ⟨hi1, x, rfl, ?_, g1, g3.trans hsl, ?_⟩)
    · rw [hn, ← g2]; exact seq_eq g x 0 (cnt_pos g x h3)
    · have := nb_mono g (show x.val + 1 ≤ 8 from x.isLt)
      have h5 : nb g (x.val + 1) = nb g x.val + cntN (lo g x) (g x) := rfl
      have := cnt_pos g x h3
      omega
  | none =>
    obtain ⟨g1, g2, _⟩ := gap g (show e.val + 1 ≤ 8 from e.isLt) fun y hy hy' => none_nxt hx y hy hy'
    exact .inr (.inr ⟨hi1, rfl, by omega, by omega⟩)

theorem sched (g : ℕ → ℕ) (hs : lo g 8 = 6144) : Sched (seq g) (nb g 8) (lo g) := by
  have hfirst : ∃ e : Fin 8, 0 < g e ∧ ∀ y, y < e.val → g y = 0 := by
    by_contra hc
    have h0 : ∀ y, y < 8 → g y = 0 := by
      intro y
      induction y using Nat.strong_induction_on with
      | _ y ih =>
        intro hy
        by_contra h0
        exact hc ⟨⟨y, hy⟩, by show 0 < g y; omega, fun z hz => ih z hz (lt_trans hz hy)⟩
    have := (gap g (Nat.zero_le 8) fun y _ hy => h0 y hy).1
    rw [hs] at this; exact absurd this (by show ¬ 6144 = 0; decide)
  obtain ⟨e0, hp0, hz0⟩ := hfirst
  obtain ⟨a1, a2, a3⟩ := gap g (Nat.zero_le e0.val) fun y _ hy => hz0 y hy
  have a1 : lo g e0 = 0 := a1
  have a2 : nb g e0 = 0 := a2
  have a3 : sl g e0 = 0 := a3
  have hseq0 : seq g 0 = item g e0 0 := by
    have := seq_eq g e0 0 (cnt_pos g e0 hp0)
    rwa [a2] at this
  have hlo : ∀ e : Fin 8, lo g e + g e ≤ 6144 := fun e => by
    have := lo_mono g (show e.val + 1 ≤ 8 from e.isLt)
    have h1 : lo g (e.val + 1) = lo g e + g e := rfl
    omega
  have hfin : ∀ (e : Fin 8) (i : ℕ), i < cntN (lo g e) (g e) → lo g e / 32 * 32 + 256 * i < lo g e + g e := by
    intro e i hi
    unfold cntN at hi; split at hi <;> omega
  have hend : ∀ (e : Fin 8) (i : ℕ), i + 1 = cntN (lo g e) (g e) → lo g e + g e ≤ lo g e / 32 * 32 + 256 * i + 256 := by
    intro e i hi
    unfold cntN at hi; split at hi <;> omega
  refine ⟨?_, ?_, ?_, ?_, ?_, ?_, ?_, ?_⟩
  · have := nb_mono g (show e0.val + 1 ≤ 8 from e0.isLt)
    have h5 : nb g (e0.val + 1) = nb g e0.val + cntN (lo g e0) (g e0) := rfl
    have := cnt_pos g e0 hp0
    omega
  · have := nb_bound g 8; omega
  · rw [hseq0]
    refine ⟨rfl, a3, ?_⟩
    show min (max (lo g e0) (lo g e0 / 32 * 32 + 256 * 0)) 6144 = 0
    rw [a1]; rfl
  · intro k hk
    obtain ⟨e, i, _, hi, rfl⟩ := locate g 8 k (le_refl _) (by omega)
    rw [seq_eq g e i hi]
    rcases next_cases g hs e i hi with ⟨h1, h2⟩ | ⟨h1, x, h2, h3, h4, h5, _⟩ | ⟨h1, h2, h3, _⟩
    · rw [h2]; exact .inl ⟨(show decide (i + 1 = 0) = false from decide_eq_false (by omega)), rfl, rfl, rfl⟩
    · rw [h3]; exact .inr ⟨rfl, h5, h2⟩
    · omega
  · intro k hk
    obtain ⟨e, i, _, hi, rfl⟩ := locate g 8 k (le_refl _) (by omega)
    rw [seq_eq g e i hi]
    rcases next_cases g hs e i hi with ⟨h1, h2⟩ | ⟨h1, x, h2, h3, h4, h5, h6⟩ | ⟨h1, h2, h3, _⟩
    · have := nb_mono g (show e.val + 1 ≤ 8 from e.isLt)
      have h5 : nb g (e.val + 1) = nb g e.val + cntN (lo g e) (g e) := rfl
      omega
    · omega
    · exact h2
  · intro k hk
    obtain ⟨e, i, _, hi, rfl⟩ := locate g 8 k (le_refl _) hk
    rw [seq_eq g e i hi]
    have := hfin e i hi
    have := hlo e
    constructor
    · show min (lo g e / 32 * 32 + 256 * i) 5888 ≤ min (max (lo g e) (lo g e / 32 * 32 + 256 * i)) 6144; omega
    · show lo g e ≤ min (max (lo g e) (lo g e / 32 * 32 + 256 * i)) 6144; omega
  · intro k hk
    obtain ⟨e, i, _, hi, rfl⟩ := locate g 8 k (le_refl _) (by omega)
    have h1lo : lo g (e.val + 1) = lo g e + g e := rfl
    have := hlo e
    rw [seq_eq g e i hi]
    rcases next_cases g hs e i hi with ⟨h1, h2⟩ | ⟨h1, x, h2, h3, h4, h5, _⟩ | ⟨h1, h2, h3, _⟩
    · rw [h2]
      have := hfin e (i + 1) h1
      constructor
      · show min (max (lo g e) (lo g e / 32 * 32 + 256 * (i + 1))) 6144 ≤ min (lo g e / 32 * 32 + 256 * i) 5888 + 256; omega
      · show min (max (lo g e) (lo g e / 32 * 32 + 256 * (i + 1))) 6144 ≤ lo g (e.val + 1); omega
    · rw [h3]
      have := hend e i h1
      constructor
      · show min (max (lo g x) (lo g x / 32 * 32 + 256 * 0)) 6144 ≤ min (lo g e / 32 * 32 + 256 * i) 5888 + 256; omega
      · show min (max (lo g x) (lo g x / 32 * 32 + 256 * 0)) 6144 ≤ lo g (e.val + 1); omega
    · omega
  · intro k hk
    obtain ⟨e, i, _, hi, rfl⟩ := locate g 8 k (le_refl _) (by omega)
    have h1lo : lo g (e.val + 1) = lo g e + g e := rfl
    rw [seq_eq g e i hi]
    rcases next_cases g hs e i hi with ⟨h1, h2⟩ | ⟨h1, x, h2, h3, h4, h5, h6⟩ | ⟨h1, h2, h3, h4⟩
    · have := nb_mono g (show e.val + 1 ≤ 8 from e.isLt)
      have h5 : nb g (e.val + 1) = nb g e.val + cntN (lo g e) (g e) := rfl
      omega
    · omega
    · have := hend e i h1
      constructor
      · show 6144 ≤ min (lo g e / 32 * 32 + 256 * i) 5888 + 256; omega
      · show 6144 ≤ lo g (e.val + 1); omega

/-! ## The search for the next expert, as the program's word -/

def NxtW (g : ℕ → ℕ) (e m : ℕ) (w : BitVec 32) : Prop :=
  (w = 4294967295#32 ∧ ∀ y, e < y → y < m → g y = 0) ∨ (∃ x, x < m ∧ IsNext g e x ∧ w = BitVec.ofNat 32 x)

theorem NxtW.fin {g : ℕ → ℕ} {e : Fin 8} {w : BitVec 32} (h : NxtW g e 8 w) (i : ℕ) : w = (item g e i).w 5 := by
  rcases h with ⟨rfl, h⟩ | ⟨x, _, h, rfl⟩
  · show _ = (match nxt g e with | some x => BitVec.ofNat 32 x.val | none => 4294967295#32)
    rw [nxt_none h]
  · show _ = (match nxt g e with | some x => BitVec.ofNat 32 x.val | none => 4294967295#32)
    rw [nxt_some h]

theorem NxtW.step {g : ℕ → ℕ} {e m : ℕ} {w gw : BitVec 32} (h : NxtW g e m w) (hm : m < 8) (hem : e < m) (hg : gw.toNat = g m) (hgl : g m ≤ 6144) :
    NxtW g e (m + 1) (Scalar.select (Scalar.andi (Scalar.cmpi .slt w 0#32) (Scalar.cmpi .sgt gw 0#32)) (BitVec.ofNat 32 m) w) := by
  rw [cmp_pos gw (by omega), hg]
  rcases h with ⟨rfl, h⟩ | ⟨x, hx, h, rfl⟩
  · by_cases hp : 0 < g m
    · simp only [hp, decide_true]
      exact .inr ⟨m, Nat.lt_succ_self _, ⟨hem, hm, hp, h⟩, rfl⟩
    · simp only [hp, decide_false]
      refine .inl ⟨rfl, fun y hy hy' => ?_⟩
      rcases Nat.lt_or_ge y m with hl | hl
      · exact h y hy hl
      · have : y = m := by omega
        subst this; omega
  · have h0 : ∀ (x : Fin 8) (b : Bool) (v : BitVec 32), Scalar.select (Scalar.andi (Scalar.cmpi .slt (BitVec.ofNat 32 x.val) 0#32) (BitVec.ofBool b)) v (BitVec.ofNat 32 x.val) = BitVec.ofNat 32 x.val := by
      intro x b v
      have : ∀ (x : Fin 8) (b : Bool), Scalar.andi (Scalar.cmpi .slt (BitVec.ofNat 32 x.val) 0#32) (BitVec.ofBool b) = 0#1 := by decide
      rw [this]; rfl
    rw [h0 ⟨x, h.2.1⟩]
    exact .inr ⟨x, by omega, h, rfl⟩

end Cert.KernelIdeal.Hand

end
-- ==== Proof.ITab.lean ====
module

public import proofs.«01_k».proof.Proof.ISched
public import proofs.«01_k».proof.Proof.Gen.KernelIdeal.Loops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

/-- The size of group `e`, as the word the body reads. -/
def gw (A0 : Memref sig .tc .smem S8 .i32) (f0 : BufOf (F := F) c A0) (e : Fin 8) : BitVec 32 := A0.view.read (Elt F) f0 (ix1 e)

theorem gw_of_load (A0 : Memref sig .tc .smem S8 .i32) (f0 : BufOf (F := F) c A0) (off : Fin 1 → ℕ) (h : ∀ a, off a + S1.size a ≤ S8.size a) (hp) (e : Fin 8)
    (he : off = ![e.val]) :
    View.readAt (Elt F) A0.view (Rect.unit (s := S8) off S1.size h).toLoadRect f0 (Shape.Idx.first hp) = gw c A0 f0 e := by
  subst he
  rw [View.readAt_apply]
  refine congrArg (A0.view.read (Elt F) f0) ?_
  funext a; apply Fin.ext; fin_cases a
  show e.val + 1 * 0 = e.val; omega

theorem trips1 : k0_t1_loop.trips = 8 := by decide
theorem trips2 (e : Fin k0_t1_loop.trips) : (k0_t2_loop e).trips = 7 - e.val := by
  revert e; decide
theorem trips3 (e : Fin k0_t1_loop.trips) : (k0_t3_loop e).trips = 0 := by
  revert e; decide
theorem off2_eq : ∀ (e : Fin k0_t1_loop.trips) (j : Fin (k0_t2_loop e).trips), k0_off2 e j = ![e.val + 1 + j.val] := by decide
theorem iv2_eq : ∀ (e : Fin k0_t1_loop.trips) (j : Fin (k0_t2_loop e).trips), Scf.iv (Scalar.addi (Scf.iv 0#32 1#32 e.val) 1#32) 1#32 j.val = BitVec.ofNat 32 (e.val + 1 + j.val) := by decide

/-- The state of the search. -/
abbrev inv2 (A0 : Memref sig .tc .smem S8 .i32) (f0 : BufOf (F := F) c A0) (g : ℕ → ℕ) (e : ℕ) (j : ℕ) (w : BitVec 32) : sProp 𝕄 :=
  iprop(own c A0 f0 ∗ ⌜NxtW g e (e + 1 + j) w⌝)

theorem step2 (A0 : Memref sig .tc .smem S8 .i32) (hA0 : A0.IsWhole) (A4 : Memref sig .tc .vmem S6144x1024 .fp8e4m3) (hA4 : A4.IsWhole) (A5 : Memref sig .tc .vmem S6144x1 .f32) (hA5 : A5.IsWhole)
    (f0 : BufOf (F := F) c A0) (g : ℕ → ℕ) (hg : ∀ e : Fin 8, (gw c A0 f0 e).toNat = g e) (hgl : ∀ e : Fin 8, g e ≤ 6144)
    (e : Fin k0_t1_loop.trips) (a15 a16 : BitVec 32) (j : Fin (k0_t2_loop e).trips) (w : BitVec 32) :
    inv2 c A0 f0 g e.val j.val w ⊢ wp frame (wpE (defs₀ (F := F)) Variants.none c none) Set.univ
      (k0_t2_body A0 hA0 MX (Memref.isWhole_whole _) MW (Memref.isWhole_whole _) MS (Memref.isWhole_whole _) A4 hA4 A5 hA5 M6 (Memref.isWhole_whole _) M7 (Memref.isWhole_whole _) M8 (Memref.isWhole_whole _) M9 (Memref.isWhole_whole _) M10 (Memref.isWhole_whole _) cc0_scratch5 cc0_scratch6 cc0_scratch7 0#32 1#32 e a15 a16 (Scalar.addi (Scf.iv 0#32 1#32 e.val) 1#32) j w)
      (inv2 c A0 f0 g e.val (j.val + 1)) := by
  have he := lt_of_lt_of_eq e.isLt trips1
  have hj := lt_of_lt_of_eq j.isLt (trips2 e)
  have hm : e.val + 1 + j.val < 8 := by omega
  iintro ⟨H0, %hw⟩
  unfold k0_t2_body
  sl_exec
  have e1 : step2.sl.r c A0 f0 e j = gw c A0 f0 ⟨e.val + 1 + j.val, hm⟩ := gw_of_load c A0 f0 _ _ _ ⟨_, hm⟩ (off2_eq e j)
  have e2 : step2.sl.v79 c A0 f0 e j w = Scalar.select (Scalar.andi (Scalar.cmpi .slt w 0#32) (Scalar.cmpi .sgt (step2.sl.r c A0 f0 e j) 0#32))
    (Scf.iv (Scalar.addi (Scf.iv 0#32 1#32 e.val) 1#32) 1#32 j.val) w := rfl
  rw [e2, e1, iv2_eq e j]
  simp only [wp_ret]; imodintro
  isplitl [H0]; · iexact H0
  ipureintro
  exact hw.step hm (by omega) (hg ⟨_, hm⟩) (hgl ⟨_, hm⟩)

theorem tw_write (T : BufOf (F := F) c M10) (L) (off : Fin 2 → ℕ) (h : ∀ a, off a + S1x1.size a ≤ S40x8.size a) (w : BitVec 32) (r r' : Fin 40) (j j' : Fin 8)
    (he : off = ![r'.val, j'.val]) :
    tw c (M10.view.writes (Elt F) T (⟨Rect.unit (s := S40x8) off S1x1.size h, fun _ => w⟩ :: L)) r j = if r = r' ∧ j = j' then w else tw c (M10.view.writes (Elt F) T L) r j := by
  subst he
  unfold tw
  by_cases hc : r = r' ∧ j = j'
  · rw [if_pos hc]
    obtain ⟨rfl, rfl⟩ := hc
    refine (View.read_writes_cons_unit_of_mem _ _ _ _ _ (ix2 r j) (ix2 (0 : Fin 1) (0 : Fin 1)) rfl fun a => ?_).trans rfl
    fin_cases a
    · show r.val = r.val + 0; omega
    · show j.val = j.val + 0; omega
  · rw [if_neg hc]
    by_cases hr : r = r'
    · have hj : j ≠ j' := fun hj => hc ⟨hr, hj⟩
      refine View.read_writes_cons_unit_of_not_mem _ _ _ _ _ (ix2 r j) rfl 1 ?_
      show j.val < j'.val ∨ j'.val + 1 ≤ j.val
      have : j.val ≠ j'.val := fun h => hj (Fin.ext h)
      omega
    · refine View.read_writes_cons_unit_of_not_mem _ _ _ _ _ (ix2 r j) rfl 0 ?_
      show r.val < r'.val ∨ r'.val + 1 ≤ r.val
      have : r.val ≠ r'.val := fun h => hr (Fin.ext h)
      omega

theorem RowIs.congr {T T' : BufOf (F := F) c M10} {r : Fin 40} {it : Item} (h : RowIs c T r it) (hs : ∀ j, tw c T' r j = tw c T r j) : RowIs c T' r it := by
  obtain ⟨h0, h1, h2, h3, h4, h5⟩ := h
  exact ⟨(hs _).trans h0, (hs _).trans h1, (hs _).trans h2, (hs _).trans h3, (hs _).trans h4, (hs _).trans h5⟩

theorem trip4 (A0 : Memref sig .tc .smem S8 .i32) (hA0 : A0.IsWhole) (A4 : Memref sig .tc .vmem S6144x1024 .fp8e4m3) (hA4 : A4.IsWhole) (A5 : Memref sig .tc .vmem S6144x1 .f32) (hA5 : A5.IsWhole)
    (T : BufOf (F := F) c M10) (a15 a16 a17 a14 v30 : BitVec 32) (hc1 : k0_chk1 a15 a16 v30) (v32 v62 : BitVec 32) (j : Fin (k0_t4_loop a15 v30).trips) (w : BitVec 32)
    (r : Fin 40) (hr : (Scalar.addi a16 (Scf.iv 0#32 1#32 j.val)).toNat = r.val) (it : Item)
    (h0 : a14 = it.w 0) (h1 : Scalar.minsi (Scalar.addi v32 (Scalar.muli (Scf.iv 0#32 1#32 j.val) 256#32)) 5888#32 = it.w 1)
    (h2 : Scalar.maxsi a15 (Scalar.addi v32 (Scalar.muli (Scf.iv 0#32 1#32 j.val) 256#32)) = it.w 2)
    (h3 : Scalar.select (Scalar.cmpi .eq (Scf.iv 0#32 1#32 j.val) 0#32) 1#32 0#32 = it.w 3) (h4 : a17 = it.w 4) (h5 : v62 = it.w 5) :
    held c M10 T ⊢ wp frame (wpE (defs₀ (F := F)) Variants.none c none) Set.univ
      (k0_t4_body A0 hA0 MX (Memref.isWhole_whole _) MW (Memref.isWhole_whole _) MS (Memref.isWhole_whole _) A4 hA4 A5 hA5 M6 (Memref.isWhole_whole _) M7 (Memref.isWhole_whole _) M8 (Memref.isWhole_whole _) M9 (Memref.isWhole_whole _) M10 (Memref.isWhole_whole _) cc0_scratch5 cc0_scratch6 cc0_scratch7 a15 a16 a17 a14 v30 hc1 v32 v62 0#32 j w)
      (fun _ => iprop(∃ T', held c M10 T' ∗ ⌜(∀ r', r' ≠ r → ∀ j, tw c T' r' j = tw c T r' j) ∧ RowIs c T' r it⌝)) := by
  iintro HT
  unfold k0_t4_body
  sl_exec
  simp only [wp_ret]; imodintro
  iexists _
  isplitl [HT]; · iexact HT
  ipureintro
  have o : ∀ q : Fin 8, (![(Scalar.addi a16 (Scf.iv 0#32 1#32 j.val)).toNat, q.val] : Fin 2 → ℕ) = ![r.val, q.val] := by intro q; rw [hr]
  have key : ∀ r' q, tw c (M10.view.writes (Elt F) T
      (⟨Rect.unit (s := S40x8) (k0_off9 a15 a16 v30 j) S1x1.size (k0_off9_inb a15 a16 v30 hc1 j), fun _ => v62⟩ :: trip4.sl.HT_5 a15 a16 a17 a14 v30 hc1 v32 j)) r' q
      = if r' = r ∧ q = 5 then v62 else if r' = r ∧ q = 4 then a17 else if r' = r ∧ q = 3 then Scalar.select (Scalar.cmpi .eq (Scf.iv 0#32 1#32 j.val) 0#32) 1#32 0#32
        else if r' = r ∧ q = 2 then Scalar.maxsi a15 (Scalar.addi v32 (Scalar.muli (Scf.iv 0#32 1#32 j.val) 256#32))
        else if r' = r ∧ q = 1 then Scalar.minsi (Scalar.addi v32 (Scalar.muli (Scf.iv 0#32 1#32 j.val) 256#32)) 5888#32
        else if r' = r ∧ q = 0 then a14 else tw c T r' q := by
    intro r' q
    refine (tw_write c T _ _ _ _ r' r q 5 (o 5)).trans ?_
    congr 1
    refine (tw_write c T _ _ _ _ r' r q 4 (o 4)).trans ?_
    congr 1
    refine (tw_write c T _ _ _ _ r' r q 3 (o 3)).trans ?_
    congr 1
    refine (tw_write c T _ _ _ _ r' r q 2 (o 2)).trans ?_
    congr 1
    refine (tw_write c T _ _ _ _ r' r q 1 (o 1)).trans ?_
    congr 1
    exact tw_write c T _ _ _ _ r' r q 0 (o 0)
  refine ⟨fun r' hne q => ?_, ?_, ?_, ?_, ?_, ?_, ?_⟩
  · rw [key]; simp [hne]
  · rw [key, if_neg (fun h => absurd h.2 (by decide)), if_neg (fun h => absurd h.2 (by decide)), if_neg (fun h => absurd h.2 (by decide)), if_neg (fun h => absurd h.2 (by decide)), if_neg (fun h => absurd h.2 (by decide)), if_pos ⟨rfl, rfl⟩]; exact h0
  · rw [key, if_neg (fun h => absurd h.2 (by decide)), if_neg (fun h => absurd h.2 (by decide)), if_neg (fun h => absurd h.2 (by decide)), if_neg (fun h => absurd h.2 (by decide)), if_pos ⟨rfl, rfl⟩]; exact h1
  · rw [key, if_neg (fun h => absurd h.2 (by decide)), if_neg (fun h => absurd h.2 (by decide)), if_neg (fun h => absurd h.2 (by decide)), if_pos ⟨rfl, rfl⟩]; exact h2
  · rw [key, if_neg (fun h => absurd h.2 (by decide)), if_neg (fun h => absurd h.2 (by decide)), if_pos ⟨rfl, rfl⟩]; exact h3
  · rw [key, if_neg (fun h => absurd h.2 (by decide)), if_pos ⟨rfl, rfl⟩]; exact h4
  · rw [key, if_pos ⟨rfl, rfl⟩]; exact h5

/-! ## The words of an item -/

theorem ofNat_toNat' (w : BitVec 32) (n : ℕ) (h : w.toNat = n) : w = BitVec.ofNat 32 n := by subst h; simp

theorem block_toNat (a : BitVec 32) (i : ℕ) (ha : a.toNat ≤ 6144) (hi : i < 40) :
    (Scalar.addi (strip a) (Scalar.muli (Scf.iv 0#32 1#32 i) 256#32)).toNat = a.toNat / 32 * 32 + 256 * i := by
  rw [iv_eq i hi]
  show (strip a + BitVec.ofNat 32 i * 256#32).toNat = _
  have := strip_toNat a
  rw [BitVec.toNat_add, BitVec.toNat_mul, this, BitVec.toNat_ofNat]
  show _ = _
  have : (256#32).toNat = 256 := rfl
  rw [this]; omega
theorem toInt_small (w : BitVec 32) (h : w.toNat < 2 ^ 31) : w.toInt = w.toNat := by rw [BitVec.toInt_eq_toNat_cond]; omega
theorem minsi_toNat (x y : BitVec 32) (hx : x.toNat < 2 ^ 31) (hy : y.toNat < 2 ^ 31) : (Scalar.minsi x y).toNat = min x.toNat y.toNat := by
  show (if x.slt y then x else y).toNat = _
  rw [BitVec.slt_eq_decide, toInt_small x hx, toInt_small y hy]
  by_cases h : x.toNat < y.toNat
  · rw [if_pos (by simpa using h)]; omega
  · rw [if_neg (by simpa using h)]; omega
theorem maxsi_toNat (x y : BitVec 32) (hx : x.toNat < 2 ^ 31) (hy : y.toNat < 2 ^ 31) : (Scalar.maxsi x y).toNat = max x.toNat y.toNat := by
  show (if y.slt x then x else y).toNat = _
  rw [BitVec.slt_eq_decide, toInt_small x hx, toInt_small y hy]
  by_cases h : y.toNat < x.toNat
  · rw [if_pos (by simpa using h)]; omega
  · rw [if_neg (by simpa using h)]; omega

theorem item_w1 (g : ℕ → ℕ) (e : Fin 8) (i : ℕ) (a : BitVec 32) (ha : a.toNat = lo g e) (hl : lo g e ≤ 6144) (hi : i < 40) :
    Scalar.minsi (Scalar.addi (strip a) (Scalar.muli (Scf.iv 0#32 1#32 i) 256#32)) 5888#32 = (item g e i).w 1 := by
  have hb := block_toNat a i (by omega) hi
  refine ofNat_toNat' _ _ ?_
  rw [minsi_toNat _ _ (by rw [hb]; omega) (by decide), hb, ha]; rfl
theorem item_w2 (g : ℕ → ℕ) (e : Fin 8) (i : ℕ) (a : BitVec 32) (ha : a.toNat = lo g e) (hl : lo g e ≤ 6144) (hi : i < 40)
    (hle : lo g e / 32 * 32 + 256 * i ≤ 6144) :
    Scalar.maxsi a (Scalar.addi (strip a) (Scalar.muli (Scf.iv 0#32 1#32 i) 256#32)) = (item g e i).w 2 := by
  have hb := block_toNat a i (by omega) hi
  refine ofNat_toNat' _ _ ?_
  rw [maxsi_toNat _ _ (by omega) (by rw [hb]; omega), hb, ha]
  show _ = min (max (lo g e) (lo g e / 32 * 32 + 256 * i)) 6144
  omega
theorem item_w3 (g : ℕ → ℕ) (e : Fin 8) (i : ℕ) (hi : i < 40) :
    Scalar.select (Scalar.cmpi .eq (Scf.iv 0#32 1#32 i) 0#32) 1#32 0#32 = (item g e i).w 3 := by
  show _ = if decide (i = 0) then 1#32 else 0#32
  interval_cases i <;> decide

/-- The rows of the experts before `e` are in the table. -/
def Rows (g : ℕ → ℕ) (T : BufOf (F := F) c M10) (e : ℕ) : Prop :=
  ∀ e' : Fin 8, e'.val < e → ∀ i, i < cntN (lo g e') (g e') → ∀ r : Fin 40, r.val = nb g e' + i → RowIs c T r (item g e' i)

/-- The state of the filling of expert `e`'s rows. -/
abbrev inv4 (g : ℕ → ℕ) (e : Fin 8) (i : ℕ) (_w : BitVec 32) : sProp 𝕄 :=
  iprop(∃ T : BufOf (F := F) c M10, held c M10 T ∗ ⌜Rows c g T e.val ∧ ∀ i', i' < i → ∀ r : Fin 40, r.val = nb g e + i' → RowIs c T r (item g e i')⌝)

theorem step4 (A0 : Memref sig .tc .smem S8 .i32) (hA0 : A0.IsWhole) (A4 : Memref sig .tc .vmem S6144x1024 .fp8e4m3) (hA4 : A4.IsWhole) (A5 : Memref sig .tc .vmem S6144x1 .f32) (hA5 : A5.IsWhole)
    (g : ℕ → ℕ) (hs : lo g 8 = 6144) (e : Fin 8) (a15 a16 a17 a14 v30 : BitVec 32) (hc1 : k0_chk1 a15 a16 v30) (v62 : BitVec 32)
    (h15 : a15.toNat = lo g e) (h16 : a16.toNat = nb g e) (h17 : a17 = BitVec.ofNat 32 (sl g e).val) (h14 : a14 = BitVec.ofNat 32 e.val) (h30 : v30.toNat = g e)
    (h62 : NxtW g e 8 v62) (j : Fin (k0_t4_loop a15 v30).trips) (w : BitVec 32) :
    inv4 (F := F) c g e j.val w ⊢ wp frame (wpE (defs₀ (F := F)) Variants.none c none) Set.univ
      (k0_t4_body A0 hA0 MX (Memref.isWhole_whole _) MW (Memref.isWhole_whole _) MS (Memref.isWhole_whole _) A4 hA4 A5 hA5 M6 (Memref.isWhole_whole _) M7 (Memref.isWhole_whole _) M8 (Memref.isWhole_whole _) M9 (Memref.isWhole_whole _) M10 (Memref.isWhole_whole _) cc0_scratch5 cc0_scratch6 cc0_scratch7 a15 a16 a17 a14 v30 hc1 (strip a15) v62 0#32 j w)
      (inv4 c g e (j.val + 1)) := by
  have hle := lo_mono g (show e.val + 1 ≤ 8 from e.isLt)
  have h1 : lo g (e.val + 1) = lo g e + g e := rfl
  have hnb := nb_mono g (show e.val + 1 ≤ 8 from e.isLt)
  have h2 : nb g (e.val + 1) = nb g e + cntN (lo g e) (g e) := rfl
  have hb := nb_bound g 8
  have hj := lt_of_lt_of_eq j.isLt (trips4 a15 v30 (by omega))
  rw [h15, h30] at hj
  have hj' : lo g e / 32 * 32 + 256 * j.val ≤ 6144 := by
    unfold cntN at hj; split at hj <;> omega
  have hr : nb g e + j.val < 40 := by omega
  iintro ⟨%T, HT, %hT⟩
  obtain ⟨hR, hI⟩ := hT
  iapply (wp_wand_r Idealize.ShloMosaic.frame (wpE (defs₀ (F := F)) Variants.none (c : Thread nD τ) none) Set.univ)
  isplitl [HT]
  · iapply (trip4 c A0 hA0 A4 hA4 A5 hA5 T a15 a16 a17 a14 v30 hc1 (strip a15) v62 j w ⟨nb g e + j.val, hr⟩ (by rw [row_toNat _ _ (by omega), h16]) (item g e j.val)
      h14 (item_w1 g e j.val a15 h15 (by omega) (by omega)) (item_w2 g e j.val a15 h15 (by omega) (by omega) hj') (item_w3 g e j.val (by omega)) h17 (h62.fin j.val))
    iexact HT
  iintro %w' ⟨%T', HT, %h⟩
  obtain ⟨ho, hn⟩ := h
  iexists T'
  isplitl [HT]; · iexact HT
  ipureintro
  refine ⟨fun e' he' i hi r hr' => (hR e' he' i hi r hr').congr c (ho r ?_), fun i' hi' r hr' => ?_⟩
  · rintro rfl
    have h3 : nb g (e'.val + 1) = nb g e' + cntN (lo g e') (g e') := rfl
    have := nb_mono g (show e'.val + 1 ≤ e.val from he')
    have : nb g e + j.val = nb g e' + i := hr'
    omega
  · by_cases hc : i' = j.val
    · subst hc
      have : r = ⟨nb g e + j.val, hr⟩ := Fin.ext hr'
      rw [this]; exact hn
    · refine (hI i' (by omega) r hr').congr c (ho r ?_)
      rintro rfl
      have : nb g e + j.val = nb g e + i' := hr'
      omega

abbrev inv1 (A0 : Memref sig .tc .smem S8 .i32) (f0 : BufOf (F := F) c A0) (g : ℕ → ℕ) (e : ℕ) (a : BitVec 32 × BitVec 32 × BitVec 32) : sProp 𝕄 :=
  iprop(own c A0 f0 ∗ (∃ T : BufOf (F := F) c M10, held c M10 T ∗ ⌜Rows c g T e⌝)
    ∗ ⌜a.1.toNat = lo g e ∧ a.2.1.toNat = nb g e ∧ a.2.2 = BitVec.ofNat 32 (sl g e).val⌝)

theorem off1_eq : ∀ e : Fin k0_t1_loop.trips, k0_off1 e = ![e.val] := by decide
theorem iv1_eq : ∀ e : Fin k0_t1_loop.trips, Scf.iv 0#32 1#32 e.val = BitVec.ofNat 32 e.val := by decide

theorem step1 (A0 : Memref sig .tc .smem S8 .i32) (hA0 : A0.IsWhole) (A4 : Memref sig .tc .vmem S6144x1024 .fp8e4m3) (hA4 : A4.IsWhole) (A5 : Memref sig .tc .vmem S6144x1 .f32) (hA5 : A5.IsWhole)
    (f0 : BufOf (F := F) c A0) (g : ℕ → ℕ) (hg : ∀ e : Fin 8, (gw c A0 f0 e).toNat = g e) (hs : lo g 8 = 6144)
    (e : Fin k0_t1_loop.trips) (a : BitVec 32 × BitVec 32 × BitVec 32) :
    inv1 c A0 f0 g e.val a ⊢ wp frame (wpE (defs₀ (F := F)) Variants.none c none) Set.univ
      (k0_t1_body A0 hA0 MX (Memref.isWhole_whole _) MW (Memref.isWhole_whole _) MS (Memref.isWhole_whole _) A4 hA4 A5 hA5 M6 (Memref.isWhole_whole _) M7 (Memref.isWhole_whole _) M8 (Memref.isWhole_whole _) M9 (Memref.isWhole_whole _) M10 (Memref.isWhole_whole _) cc0_scratch5 cc0_scratch6 cc0_scratch7 e a)
      (inv1 c A0 f0 g (e.val + 1)) := by
  have he := lt_of_lt_of_eq e.isLt trips1
  have hgl : ∀ e : Fin 8, lo g e + g e ≤ 6144 := fun e => by
    have := lo_mono g (show e.val + 1 ≤ 8 from e.isLt)
    have h1 : lo g (e.val + 1) = lo g e + g e := rfl
    omega
  have hgl' := fun e : Fin 8 => (show g e ≤ 6144 from by have := hgl e; omega)
  obtain ⟨a15, a16, a17⟩ := a
  iintro ⟨H0, ⟨%T, HT, %hR⟩, %ha⟩
  obtain ⟨h15, h16, h17⟩ := ha
  dsimp only at h15 h16 h17
  have h30 := hg ⟨e.val, he⟩
  have hle := hgl ⟨e.val, he⟩
  have hlt := lo_mono g (show e.val + 1 ≤ 8 from he)
  have hnb := nb_mono g (show e.val + 1 ≤ 8 from he)
  have h2 : nb g (e.val + 1) = nb g e + cntN (lo g e) (g e) := rfl
  have hb := nb_bound g 8
  have hc1 : k0_chk1 a15 a16 (gw c A0 f0 ⟨e.val, he⟩) := chk1 _ _ _ (by rw [h15, h30]; exact hle) (by rw [h15, h16, h30]; show nb g e.val + cntN (lo g e.val) (g e.val) ≤ 40; omega)
  unfold k0_t1_body
  rw [wp_bind, k0_part1_eq_skeleton]
  unfold k0_part1_skel
  dsimp only
  let L2 : LoopInvTy_k0_t2 (F := F) Unit ℕ (Pipeline.UD sig nD τ) ℕ Variants.none c none Set.univ A0 hA0 MX (Memref.isWhole_whole _) MW (Memref.isWhole_whole _) MS (Memref.isWhole_whole _) A4 hA4 A5 hA5 M6 (Memref.isWhole_whole _) M7 (Memref.isWhole_whole _) M8 (Memref.isWhole_whole _) M9 (Memref.isWhole_whole _) M10 (Memref.isWhole_whole _) cc0_scratch5 cc0_scratch6 cc0_scratch7 0#32 1#32 e a15 a16 (Scalar.addi (Scf.iv 0#32 1#32 e.val) 1#32) 4294967295#32 :=
    ⟨inv2 c A0 f0 g e.val, step2 c A0 hA0 A4 hA4 A5 hA5 f0 g hg hgl' e a15 a16⟩
  sl_exec
  have e1 : step1.sl.r c A0 f0 e = gw c A0 f0 ⟨e.val, he⟩ := gw_of_load c A0 f0 _ _ _ ⟨_, he⟩ (off1_eq e)
  rw [e1]
  have z3 := trips3 e
  have h15' : a15.toNat + (gw c A0 f0 ⟨e.val, he⟩).toNat ≤ 6144 := by rw [h15, h30]; exact hle
  have z5 := trips5 a15 _ h15'
  have n0 : NxtW g e.val (e.val + 1 + 0) 4294967295#32 := .inl ⟨rfl, fun y h1 h2 => absurd h2 (by omega)⟩
  sl_exec
  rename_i w62
  have hL : NxtW g e.val 8 w62 := by
    have h : NxtW g e.val (e.val + 1 + (k0_t2_loop e).trips) w62 := hL1
    rw [trips2, show e.val + 1 + (7 - e.val) = 8 from by omega] at h
    exact h
  have hiv := iv1_eq e
  sl_for (inv4 c g ⟨e.val, he⟩) $$ [HT]
  · exact step4 c A0 hA0 A4 hA4 A5 hA5 g hs ⟨e.val, he⟩ a15 a16 a17 (Scf.iv 0#32 1#32 e.val) (gw c A0 f0 ⟨e.val, he⟩) hc1 w62 h15 h16 h17 hiv h30 hL
  · iexists T
    isplitl [HT]; · iexact HT
    ipureintro
    exact ⟨hR, fun i' h => absurd h (Nat.not_lt_zero _)⟩
  iintro %v68 ⟨%T', HT, %hT'⟩
  sl_for0 z5
  have hT2 : ∀ i', i' < cntN (lo g e.val) (g e.val) → ∀ r : Fin 40, r.val = nb g e.val + i' → RowIs c T' r (item g ⟨e.val, he⟩ i') := by
    have h3 : (k0_t4_loop a15 (gw c A0 f0 ⟨e.val, he⟩)).trips = cntN (lo g e.val) (g e.val) := by rw [trips4 _ _ h15', h15, h30]
    rw [← h3]; exact hT'.2
  have hR' : Rows c g T' (e.val + 1) := by
    intro e' he' i hi r hr
    by_cases hc : e'.val < e.val
    · exact hT'.1 e' hc i hi r hr
    · have : e' = ⟨e.val, he⟩ := Fin.ext (by show e'.val = e.val; omega)
      subst this
      exact hT2 i hi r hr
  sl_exec
  try simp only [wp_ret]
  try imodintro
  isplitl [H0]; · iexact H0
  isplitl [HT]
  · iexists T'
    isplitl [HT]; · iexact HT
    ipureintro; exact hR'
  ipureintro
  refine ⟨?_, ?_, ?_⟩
  · show (a15 + gw c A0 f0 ⟨e.val, he⟩).toNat = lo g e.val + g e.val
    rw [BitVec.toNat_add, h15, h30]
    have : g (⟨e.val, he⟩ : Fin 8).val = g e.val := rfl
    omega
  · show (a16 + cntW a15 (gw c A0 f0 ⟨e.val, he⟩)).toNat = nb g e.val + cntN (lo g e.val) (g e.val)
    have h4 := cntW_toNat a15 (gw c A0 f0 ⟨e.val, he⟩) h15'
    rw [h15, h30] at h4
    have h4 : (cntW a15 (gw c A0 f0 ⟨e.val, he⟩)).toNat = cntN (lo g e.val) (g e.val) := h4
    rw [BitVec.toNat_add, h16, h4]; omega
  · show Scalar.select (Scalar.cmpi .sgt (gw c A0 f0 ⟨e.val, he⟩) 0#32) (Scalar.subi 1#32 a17) a17 = BitVec.ofNat 32 (if 0 < g e.val then oth (sl g e.val) else sl g e.val).val
    rw [cmp_pos _ (by omega), h30, h17]
    show Scalar.select (BitVec.ofBool (decide (0 < g e.val))) _ _ = _
    have h5 : ∀ (b : Bool) (s : Fin 2), Scalar.select (BitVec.ofBool b) (Scalar.subi 1#32 (BitVec.ofNat 32 s.val)) (BitVec.ofNat 32 s.val) = BitVec.ofNat 32 (if b = true then oth s else s).val := by decide
    rw [h5]
    by_cases hc : 0 < g e.val <;> simp [hc]

theorem rows_seq (g : ℕ → ℕ) (T : BufOf (F := F) c M10) (h : Rows c g T 8) (k : Fin 40) (hk : k.val < nb g 8) : RowIs c T k (seq g k) := by
  obtain ⟨e, i, he, hi, h1⟩ := locate g 8 k.val (le_refl _) hk
  rw [h1, seq_eq g e i hi]
  exact h e he i hi k h1

end Cert.KernelIdeal.Hand

end
-- ==== Proof.IVals.lean ====
module

public import proofs.«01_k».proof.Proof.IDefs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## What a trip computes, value by value -/

def c63 (s : Fin 8 → Vec F S1x22x256 .bf16) : FVec F S22x256 .bf16 := k0_pay8 (s 0)
def c75 (w : Fin 8 → Vec F S1x1408x256 .i8) : IVec S2816x256 4 := k0_pay9 (k0_pay7 (F := F) (w 0))
def c80 (w : Fin 8 → Vec F S1x1408x256 .i8) (s : Fin 8 → Vec F S1x22x256 .bf16) : FVec F S128x256 .bf16 := k0_pay10 (k0_pay7 (F := F) (w 0)) (s 0)
def c85 (w : Fin 8 → Vec F S1x1408x256 .i8) (s : Fin 8 → Vec F S1x22x256 .bf16) : FVec F S128x256 .bf16 := k0_pay11 (k0_pay7 (F := F) (w 0)) (s 0)
def c90 (w : Fin 8 → Vec F S1x1408x256 .i8) (s : Fin 8 → Vec F S1x22x256 .bf16) : FVec F S128x256 .bf16 := k0_pay12 (k0_pay7 (F := F) (w 0)) (s 0)
def c95 (w : Fin 8 → Vec F S1x1408x256 .i8) (s : Fin 8 → Vec F S1x22x256 .bf16) : FVec F S128x256 .bf16 := k0_pay13 (k0_pay7 (F := F) (w 0)) (s 0)
def c100 (w : Fin 8 → Vec F S1x1408x256 .i8) (s : Fin 8 → Vec F S1x22x256 .bf16) : FVec F S128x256 .bf16 := k0_pay14 (k0_pay7 (F := F) (w 0)) (s 0)
def c105 (w : Fin 8 → Vec F S1x1408x256 .i8) (s : Fin 8 → Vec F S1x22x256 .bf16) : FVec F S128x256 .bf16 := k0_pay15 (k0_pay7 (F := F) (w 0)) (s 0)
def c110 (w : Fin 8 → Vec F S1x1408x256 .i8) (s : Fin 8 → Vec F S1x22x256 .bf16) : FVec F S128x256 .bf16 := k0_pay16 (k0_pay7 (F := F) (w 0)) (s 0)
def c115 (w : Fin 8 → Vec F S1x1408x256 .i8) (s : Fin 8 → Vec F S1x22x256 .bf16) : FVec F S128x256 .bf16 := k0_pay17 (k0_pay7 (F := F) (w 0)) (s 0)
def c117 (w : Fin 8 → Vec F S1x1408x256 .i8) : FVec F S128x256 .bf16 := k0_pay18 (k0_pay7 (F := F) (w 0))
def c120 (w : Fin 8 → Vec F S1x1408x256 .i8) (s : Fin 8 → Vec F S1x22x256 .bf16) : FVec F S128x256 .bf16 := k0_pay19 (c63 s) (c117 w)
def c125 (w : Fin 8 → Vec F S1x1408x256 .i8) (s : Fin 8 → Vec F S1x22x256 .bf16) : FVec F S128x256 .bf16 := k0_pay20 (c63 s) (c75 w)
def c130 (w : Fin 8 → Vec F S1x1408x256 .i8) (s : Fin 8 → Vec F S1x22x256 .bf16) : FVec F S128x256 .bf16 := k0_pay21 (c63 s) (c75 w)
def c135 (w : Fin 8 → Vec F S1x1408x256 .i8) (s : Fin 8 → Vec F S1x22x256 .bf16) : FVec F S128x256 .bf16 := k0_pay22 (c63 s) (c75 w)
def c140 (w : Fin 8 → Vec F S1x1408x256 .i8) (s : Fin 8 → Vec F S1x22x256 .bf16) : FVec F S128x256 .bf16 := k0_pay23 (c63 s) (c75 w)
def c145 (w : Fin 8 → Vec F S1x1408x256 .i8) (s : Fin 8 → Vec F S1x22x256 .bf16) : FVec F S128x256 .bf16 := k0_pay24 (c63 s) (c75 w)
def c150 (w : Fin 8 → Vec F S1x1408x256 .i8) (s : Fin 8 → Vec F S1x22x256 .bf16) : FVec F S128x256 .bf16 := k0_pay25 (c63 s) (c75 w)
def c155 (w : Fin 8 → Vec F S1x1408x256 .i8) (s : Fin 8 → Vec F S1x22x256 .bf16) : FVec F S128x256 .bf16 := k0_pay26 (c63 s) (c75 w)
def c160 (w : Fin 8 → Vec F S1x1408x256 .i8) (s : Fin 8 → Vec F S1x22x256 .bf16) : FVec F S128x256 .bf16 := k0_pay27 (c63 s) (c75 w)
def c165 (w : Fin 8 → Vec F S1x1408x256 .i8) (s : Fin 8 → Vec F S1x22x256 .bf16) : FVec F S128x256 .bf16 := k0_pay28 (c63 s) (c75 w)
def c170 (w : Fin 8 → Vec F S1x1408x256 .i8) (s : Fin 8 → Vec F S1x22x256 .bf16) : FVec F S128x256 .bf16 := k0_pay29 (c63 s) (c75 w)
def c175 (w : Fin 8 → Vec F S1x1408x256 .i8) (s : Fin 8 → Vec F S1x22x256 .bf16) : FVec F S128x256 .bf16 := k0_pay30 (c63 s) (c75 w)
def c177 (w : Fin 8 → Vec F S1x1408x256 .i8) : FVec F S128x256 .bf16 := k0_pay31 (c75 w)
def c186 (w : Fin 8 → Vec F S1x1408x256 .i8) (s : Fin 8 → Vec F S1x22x256 .bf16) : FVec F S2816x256 .bf16 := k0_pay32 (c63 s) (c75 w) (c80 w s) (c85 w s) (c90 w s) (c95 w s) (c100 w s) (c105 w s) (c110 w s) (c115 w s) (c120 w s) (c125 w s) (c130 w s) (c135 w s) (c140 w s) (c145 w s) (c150 w s) (c155 w s) (c160 w s) (c165 w s) (c170 w s) (c175 w s) (c177 w)
def c192 (s : Fin 8 → Vec F S1x22x256 .bf16) : FVec F S22x256 .bf16 := k0_pay33 (s 4)
def c204 (w : Fin 8 → Vec F S1x1408x256 .i8) : IVec S2816x256 4 := k0_pay34 (w 4)
def c209 (w : Fin 8 → Vec F S1x1408x256 .i8) (s : Fin 8 → Vec F S1x22x256 .bf16) : FVec F S128x256 .bf16 := k0_pay35 (w 4) (s 4)
def c214 (w : Fin 8 → Vec F S1x1408x256 .i8) (s : Fin 8 → Vec F S1x22x256 .bf16) : FVec F S128x256 .bf16 := k0_pay36 (w 4) (s 4)
def c219 (w : Fin 8 → Vec F S1x1408x256 .i8) (s : Fin 8 → Vec F S1x22x256 .bf16) : FVec F S128x256 .bf16 := k0_pay37 (w 4) (s 4)
def c224 (w : Fin 8 → Vec F S1x1408x256 .i8) (s : Fin 8 → Vec F S1x22x256 .bf16) : FVec F S128x256 .bf16 := k0_pay38 (w 4) (s 4)
def c229 (w : Fin 8 → Vec F S1x1408x256 .i8) (s : Fin 8 → Vec F S1x22x256 .bf16) : FVec F S128x256 .bf16 := k0_pay39 (w 4) (s 4)
def c230 (w : Fin 8 → Vec F S1x1408x256 .i8) : IVec S128x256 4 := k0_pay40 (w 4)
def c234 (w : Fin 8 → Vec F S1x1408x256 .i8) (s : Fin 8 → Vec F S1x22x256 .bf16) : FVec F S128x256 .bf16 := k0_pay41 (c192 s) (c230 w)
def c239 (w : Fin 8 → Vec F S1x1408x256 .i8) (s : Fin 8 → Vec F S1x22x256 .bf16) : FVec F S128x256 .bf16 := k0_pay42 (c192 s) (c204 w)
def c244 (w : Fin 8 → Vec F S1x1408x256 .i8) (s : Fin 8 → Vec F S1x22x256 .bf16) : FVec F S128x256 .bf16 := k0_pay43 (c192 s) (c204 w)
def c249 (w : Fin 8 → Vec F S1x1408x256 .i8) (s : Fin 8 → Vec F S1x22x256 .bf16) : FVec F S128x256 .bf16 := k0_pay44 (c192 s) (c204 w)
def c254 (w : Fin 8 → Vec F S1x1408x256 .i8) (s : Fin 8 → Vec F S1x22x256 .bf16) : FVec F S128x256 .bf16 := k0_pay45 (c192 s) (c204 w)
def c259 (w : Fin 8 → Vec F S1x1408x256 .i8) (s : Fin 8 → Vec F S1x22x256 .bf16) : FVec F S128x256 .bf16 := k0_pay46 (c192 s) (c204 w)
def c264 (w : Fin 8 → Vec F S1x1408x256 .i8) (s : Fin 8 → Vec F S1x22x256 .bf16) : FVec F S128x256 .bf16 := k0_pay47 (c192 s) (c204 w)
def c269 (w : Fin 8 → Vec F S1x1408x256 .i8) (s : Fin 8 → Vec F S1x22x256 .bf16) : FVec F S128x256 .bf16 := k0_pay48 (c192 s) (c204 w)
def c274 (w : Fin 8 → Vec F S1x1408x256 .i8) (s : Fin 8 → Vec F S1x22x256 .bf16) : FVec F S128x256 .bf16 := k0_pay49 (c192 s) (c204 w)
def c279 (w : Fin 8 → Vec F S1x1408x256 .i8) (s : Fin 8 → Vec F S1x22x256 .bf16) : FVec F S128x256 .bf16 := k0_pay50 (c192 s) (c204 w)
def c284 (w : Fin 8 → Vec F S1x1408x256 .i8) (s : Fin 8 → Vec F S1x22x256 .bf16) : FVec F S128x256 .bf16 := k0_pay51 (c192 s) (c204 w)
def c289 (w : Fin 8 → Vec F S1x1408x256 .i8) (s : Fin 8 → Vec F S1x22x256 .bf16) : FVec F S128x256 .bf16 := k0_pay52 (c192 s) (c204 w)
def c290 (w : Fin 8 → Vec F S1x1408x256 .i8) : IVec S128x256 4 := k0_pay53 (c204 w)
def ablk0 (x : Vec F S1x256x2816 .bf16) (w : Fin 8 → Vec F S1x1408x256 .i8) (s : Fin 8 → Vec F S1x22x256 .bf16) : FVec F S256x256 .f32 := k0_pay55 (k0_pay6 x) (c186 w s) (c192 s) (c204 w) (c209 w s) (c214 w s) (c219 w s) (c224 w s) (c229 w s) (c234 w s) (c239 w s) (c244 w s) (c249 w s) (c254 w s) (c259 w s) (c264 w s) (c269 w s) (c274 w s) (c279 w s) (c284 w s) (c289 w s) (c290 w)
def c327 (x : Vec F S1x256x2816 .bf16) (w : Fin 8 → Vec F S1x1408x256 .i8) (s : Fin 8 → Vec F S1x22x256 .bf16) : FVec F S256x1 .f32 := k0_pay56 (k0_pay5 (F := F)) (k0_pay6 x) (c186 w s) (c192 s) (c204 w) (c209 w s) (c214 w s) (c219 w s) (c224 w s) (c229 w s) (c234 w s) (c239 w s) (c244 w s) (c249 w s) (c254 w s) (c259 w s) (c264 w s) (c269 w s) (c274 w s) (c279 w s) (c284 w s) (c289 w s) (c290 w)
def c333 (s : Fin 8 → Vec F S1x22x256 .bf16) : FVec F S22x256 .bf16 := k0_pay57 (s 1)
def c336 (w : Fin 8 → Vec F S1x1408x256 .i8) : IVec S1408x256 32 := k0_pay58 (w 1)
def c338 (w : Fin 8 → Vec F S1x1408x256 .i8) : IVec S1408x256 32 := k0_pay59 (w 1)
def c345 (w : Fin 8 → Vec F S1x1408x256 .i8) : IVec S2816x256 4 := k0_pay60 (c336 w) (c338 w)
def c350 (w : Fin 8 → Vec F S1x1408x256 .i8) (s : Fin 8 → Vec F S1x22x256 .bf16) : FVec F S128x256 .bf16 := k0_pay61 (c333 s) (c336 w) (c338 w)
def c355 (w : Fin 8 → Vec F S1x1408x256 .i8) (s : Fin 8 → Vec F S1x22x256 .bf16) : FVec F S128x256 .bf16 := k0_pay62 (c333 s) (c336 w) (c338 w)
def c360 (w : Fin 8 → Vec F S1x1408x256 .i8) (s : Fin 8 → Vec F S1x22x256 .bf16) : FVec F S128x256 .bf16 := k0_pay63 (c333 s) (c336 w) (c338 w)
def c365 (w : Fin 8 → Vec F S1x1408x256 .i8) (s : Fin 8 → Vec F S1x22x256 .bf16) : FVec F S128x256 .bf16 := k0_pay64 (c333 s) (c336 w) (c338 w)
def c370 (w : Fin 8 → Vec F S1x1408x256 .i8) (s : Fin 8 → Vec F S1x22x256 .bf16) : FVec F S128x256 .bf16 := k0_pay65 (c333 s) (c336 w) (c338 w)
def c375 (w : Fin 8 → Vec F S1x1408x256 .i8) (s : Fin 8 → Vec F S1x22x256 .bf16) : FVec F S128x256 .bf16 := k0_pay66 (c333 s) (c336 w) (c338 w)
def c380 (w : Fin 8 → Vec F S1x1408x256 .i8) (s : Fin 8 → Vec F S1x22x256 .bf16) : FVec F S128x256 .bf16 := k0_pay67 (c333 s) (c336 w) (c338 w)
def c385 (w : Fin 8 → Vec F S1x1408x256 .i8) (s : Fin 8 → Vec F S1x22x256 .bf16) : FVec F S128x256 .bf16 := k0_pay68 (c333 s) (c336 w) (c338 w)
def c390 (w : Fin 8 → Vec F S1x1408x256 .i8) (s : Fin 8 → Vec F S1x22x256 .bf16) : FVec F S128x256 .bf16 := k0_pay69 (c333 s) (c336 w) (c338 w)
def c395 (w : Fin 8 → Vec F S1x1408x256 .i8) (s : Fin 8 → Vec F S1x22x256 .bf16) : FVec F S128x256 .bf16 := k0_pay70 (c333 s) (c336 w) (c338 w)
def c397 (w : Fin 8 → Vec F S1x1408x256 .i8) : FVec F S128x256 .bf16 := k0_pay71 (c336 w) (c338 w)
def c456 (w : Fin 8 → Vec F S1x1408x256 .i8) (s : Fin 8 → Vec F S1x22x256 .bf16) : FVec F S2816x256 .bf16 := k0_pay72 (c333 s) (c345 w) (c350 w s) (c355 w s) (c360 w s) (c365 w s) (c370 w s) (c375 w s) (c380 w s) (c385 w s) (c390 w s) (c395 w s) (c397 w)
def c462 (s : Fin 8 → Vec F S1x22x256 .bf16) : FVec F S22x256 .bf16 := k0_pay73 (s 5)
def c474 (w : Fin 8 → Vec F S1x1408x256 .i8) : IVec S2816x256 4 := k0_pay74 (w 5)
def c479 (w : Fin 8 → Vec F S1x1408x256 .i8) (s : Fin 8 → Vec F S1x22x256 .bf16) : FVec F S128x256 .bf16 := k0_pay75 (w 5) (s 5)
def c484 (w : Fin 8 → Vec F S1x1408x256 .i8) (s : Fin 8 → Vec F S1x22x256 .bf16) : FVec F S128x256 .bf16 := k0_pay76 (w 5) (s 5)
def c489 (w : Fin 8 → Vec F S1x1408x256 .i8) (s : Fin 8 → Vec F S1x22x256 .bf16) : FVec F S128x256 .bf16 := k0_pay77 (w 5) (s 5)
def c494 (w : Fin 8 → Vec F S1x1408x256 .i8) (s : Fin 8 → Vec F S1x22x256 .bf16) : FVec F S128x256 .bf16 := k0_pay78 (w 5) (s 5)
def c499 (w : Fin 8 → Vec F S1x1408x256 .i8) (s : Fin 8 → Vec F S1x22x256 .bf16) : FVec F S128x256 .bf16 := k0_pay79 (w 5) (s 5)
def c504 (w : Fin 8 → Vec F S1x1408x256 .i8) (s : Fin 8 → Vec F S1x22x256 .bf16) : FVec F S128x256 .bf16 := k0_pay80 (w 5) (s 5)
def c509 (w : Fin 8 → Vec F S1x1408x256 .i8) (s : Fin 8 → Vec F S1x22x256 .bf16) : FVec F S128x256 .bf16 := k0_pay81 (w 5) (s 5)
def c510 (w : Fin 8 → Vec F S1x1408x256 .i8) : IVec S128x256 4 := k0_pay82 (w 5)
def c514 (w : Fin 8 → Vec F S1x1408x256 .i8) (s : Fin 8 → Vec F S1x22x256 .bf16) : FVec F S128x256 .bf16 := k0_pay83 (c462 s) (c510 w)
def c519 (w : Fin 8 → Vec F S1x1408x256 .i8) (s : Fin 8 → Vec F S1x22x256 .bf16) : FVec F S128x256 .bf16 := k0_pay84 (c462 s) (c474 w)
def c524 (w : Fin 8 → Vec F S1x1408x256 .i8) (s : Fin 8 → Vec F S1x22x256 .bf16) : FVec F S128x256 .bf16 := k0_pay85 (c462 s) (c474 w)
def c529 (w : Fin 8 → Vec F S1x1408x256 .i8) (s : Fin 8 → Vec F S1x22x256 .bf16) : FVec F S128x256 .bf16 := k0_pay86 (c462 s) (c474 w)
def c534 (w : Fin 8 → Vec F S1x1408x256 .i8) (s : Fin 8 → Vec F S1x22x256 .bf16) : FVec F S128x256 .bf16 := k0_pay87 (c462 s) (c474 w)
def c539 (w : Fin 8 → Vec F S1x1408x256 .i8) (s : Fin 8 → Vec F S1x22x256 .bf16) : FVec F S128x256 .bf16 := k0_pay88 (c462 s) (c474 w)
def c544 (w : Fin 8 → Vec F S1x1408x256 .i8) (s : Fin 8 → Vec F S1x22x256 .bf16) : FVec F S128x256 .bf16 := k0_pay89 (c462 s) (c474 w)
def c549 (w : Fin 8 → Vec F S1x1408x256 .i8) (s : Fin 8 → Vec F S1x22x256 .bf16) : FVec F S128x256 .bf16 := k0_pay90 (c462 s) (c474 w)
def c554 (w : Fin 8 → Vec F S1x1408x256 .i8) (s : Fin 8 → Vec F S1x22x256 .bf16) : FVec F S128x256 .bf16 := k0_pay91 (c462 s) (c474 w)
def c559 (w : Fin 8 → Vec F S1x1408x256 .i8) (s : Fin 8 → Vec F S1x22x256 .bf16) : FVec F S128x256 .bf16 := k0_pay92 (c462 s) (c474 w)
def c564 (w : Fin 8 → Vec F S1x1408x256 .i8) (s : Fin 8 → Vec F S1x22x256 .bf16) : FVec F S128x256 .bf16 := k0_pay93 (c462 s) (c474 w)
def c569 (w : Fin 8 → Vec F S1x1408x256 .i8) (s : Fin 8 → Vec F S1x22x256 .bf16) : FVec F S128x256 .bf16 := k0_pay94 (c462 s) (c474 w)
def c570 (w : Fin 8 → Vec F S1x1408x256 .i8) : IVec S128x256 4 := k0_pay95 (c474 w)
def ablk1 (x : Vec F S1x256x2816 .bf16) (w : Fin 8 → Vec F S1x1408x256 .i8) (s : Fin 8 → Vec F S1x22x256 .bf16) : FVec F S256x256 .f32 := k0_pay97 (k0_pay6 x) (c456 w s) (c462 s) (c474 w) (c479 w s) (c484 w s) (c489 w s) (c494 w s) (c499 w s) (c504 w s) (c509 w s) (c514 w s) (c519 w s) (c524 w s) (c529 w s) (c534 w s) (c539 w s) (c544 w s) (c549 w s) (c554 w s) (c559 w s) (c564 w s) (c569 w s) (c570 w)
def c597 (x : Vec F S1x256x2816 .bf16) (w : Fin 8 → Vec F S1x1408x256 .i8) (s : Fin 8 → Vec F S1x22x256 .bf16) : FVec F S256x1 .f32 := k0_pay98 (k0_pay6 x) (c327 x w s) (c456 w s) (c462 s) (c474 w) (c479 w s) (c484 w s) (c489 w s) (c494 w s) (c499 w s) (c504 w s) (c509 w s) (c514 w s) (c519 w s) (c524 w s) (c529 w s) (c534 w s) (c539 w s) (c544 w s) (c549 w s) (c554 w s) (c559 w s) (c564 w s) (c569 w s) (c570 w)
def c603 (s : Fin 8 → Vec F S1x22x256 .bf16) : FVec F S22x256 .bf16 := k0_pay99 (s 2)
def c615 (w : Fin 8 → Vec F S1x1408x256 .i8) : IVec S2816x256 4 := k0_pay100 (w 2)
def c617 (w : Fin 8 → Vec F S1x1408x256 .i8) : FVec F S128x256 .bf16 := k0_pay101 (w 2)
def c620 (w : Fin 8 → Vec F S1x1408x256 .i8) (s : Fin 8 → Vec F S1x22x256 .bf16) : FVec F S128x256 .bf16 := k0_pay102 (c603 s) (c617 w)
def c625 (w : Fin 8 → Vec F S1x1408x256 .i8) (s : Fin 8 → Vec F S1x22x256 .bf16) : FVec F S128x256 .bf16 := k0_pay103 (c603 s) (c615 w)
def c630 (w : Fin 8 → Vec F S1x1408x256 .i8) (s : Fin 8 → Vec F S1x22x256 .bf16) : FVec F S128x256 .bf16 := k0_pay104 (c603 s) (c615 w)
def c635 (w : Fin 8 → Vec F S1x1408x256 .i8) (s : Fin 8 → Vec F S1x22x256 .bf16) : FVec F S128x256 .bf16 := k0_pay105 (c603 s) (c615 w)
def c640 (w : Fin 8 → Vec F S1x1408x256 .i8) (s : Fin 8 → Vec F S1x22x256 .bf16) : FVec F S128x256 .bf16 := k0_pay106 (c603 s) (c615 w)
def c645 (w : Fin 8 → Vec F S1x1408x256 .i8) (s : Fin 8 → Vec F S1x22x256 .bf16) : FVec F S128x256 .bf16 := k0_pay107 (c603 s) (c615 w)
def c650 (w : Fin 8 → Vec F S1x1408x256 .i8) (s : Fin 8 → Vec F S1x22x256 .bf16) : FVec F S128x256 .bf16 := k0_pay108 (c603 s) (c615 w)
def c655 (w : Fin 8 → Vec F S1x1408x256 .i8) (s : Fin 8 → Vec F S1x22x256 .bf16) : FVec F S128x256 .bf16 := k0_pay109 (c603 s) (c615 w)
def c660 (w : Fin 8 → Vec F S1x1408x256 .i8) (s : Fin 8 → Vec F S1x22x256 .bf16) : FVec F S128x256 .bf16 := k0_pay110 (c603 s) (c615 w)
def c665 (w : Fin 8 → Vec F S1x1408x256 .i8) (s : Fin 8 → Vec F S1x22x256 .bf16) : FVec F S128x256 .bf16 := k0_pay111 (c603 s) (c615 w)
def c670 (w : Fin 8 → Vec F S1x1408x256 .i8) (s : Fin 8 → Vec F S1x22x256 .bf16) : FVec F S128x256 .bf16 := k0_pay112 (c603 s) (c615 w)
def c675 (w : Fin 8 → Vec F S1x1408x256 .i8) (s : Fin 8 → Vec F S1x22x256 .bf16) : FVec F S128x256 .bf16 := k0_pay113 (c603 s) (c615 w)
def c677 (w : Fin 8 → Vec F S1x1408x256 .i8) : FVec F S128x256 .bf16 := k0_pay114 (c615 w)
def c726 (w : Fin 8 → Vec F S1x1408x256 .i8) (s : Fin 8 → Vec F S1x22x256 .bf16) : FVec F S2816x256 .bf16 := k0_pay115 (c603 s) (c615 w) (c620 w s) (c625 w s) (c630 w s) (c635 w s) (c640 w s) (c645 w s) (c650 w s) (c655 w s) (c660 w s) (c665 w s) (c670 w s) (c675 w s) (c677 w)
def c729 (w : Fin 8 → Vec F S1x1408x256 .i8) : IVec S1408x256 8 := k0_pay116 (w 6)
def c732 (s : Fin 8 → Vec F S1x22x256 .bf16) : FVec F S22x256 .bf16 := k0_pay117 (s 6)
def c744 (w : Fin 8 → Vec F S1x1408x256 .i8) : IVec S2816x256 4 := k0_pay118 (c729 w) 136#8
def c749 (w : Fin 8 → Vec F S1x1408x256 .i8) (s : Fin 8 → Vec F S1x22x256 .bf16) : FVec F S128x256 .bf16 := k0_pay119 (c729 w) (c732 s) 136#8
def c754 (w : Fin 8 → Vec F S1x1408x256 .i8) (s : Fin 8 → Vec F S1x22x256 .bf16) : FVec F S128x256 .bf16 := k0_pay120 (c729 w) (c732 s) 136#8
def c759 (w : Fin 8 → Vec F S1x1408x256 .i8) (s : Fin 8 → Vec F S1x22x256 .bf16) : FVec F S128x256 .bf16 := k0_pay121 (c729 w) (c732 s) 136#8
def c764 (w : Fin 8 → Vec F S1x1408x256 .i8) (s : Fin 8 → Vec F S1x22x256 .bf16) : FVec F S128x256 .bf16 := k0_pay122 (c729 w) (c732 s) 136#8
def c769 (w : Fin 8 → Vec F S1x1408x256 .i8) (s : Fin 8 → Vec F S1x22x256 .bf16) : FVec F S128x256 .bf16 := k0_pay123 (c729 w) (c732 s) 136#8
def c774 (w : Fin 8 → Vec F S1x1408x256 .i8) (s : Fin 8 → Vec F S1x22x256 .bf16) : FVec F S128x256 .bf16 := k0_pay124 (c729 w) (c732 s) 136#8
def c779 (w : Fin 8 → Vec F S1x1408x256 .i8) (s : Fin 8 → Vec F S1x22x256 .bf16) : FVec F S128x256 .bf16 := k0_pay125 (c729 w) (c732 s) 136#8
def c784 (w : Fin 8 → Vec F S1x1408x256 .i8) (s : Fin 8 → Vec F S1x22x256 .bf16) : FVec F S128x256 .bf16 := k0_pay126 (c729 w) (c732 s) 136#8
def c789 (w : Fin 8 → Vec F S1x1408x256 .i8) (s : Fin 8 → Vec F S1x22x256 .bf16) : FVec F S128x256 .bf16 := k0_pay127 (c729 w) (c732 s) 136#8
def c790 (w : Fin 8 → Vec F S1x1408x256 .i8) : IVec S128x256 4 := k0_pay128 (c729 w) 136#8
def c794 (w : Fin 8 → Vec F S1x1408x256 .i8) (s : Fin 8 → Vec F S1x22x256 .bf16) : FVec F S128x256 .bf16 := k0_pay129 (c732 s) (c790 w)
def c799 (w : Fin 8 → Vec F S1x1408x256 .i8) (s : Fin 8 → Vec F S1x22x256 .bf16) : FVec F S128x256 .bf16 := k0_pay130 (c732 s) (c744 w)
def c804 (w : Fin 8 → Vec F S1x1408x256 .i8) (s : Fin 8 → Vec F S1x22x256 .bf16) : FVec F S128x256 .bf16 := k0_pay131 (c732 s) (c744 w)
def c809 (w : Fin 8 → Vec F S1x1408x256 .i8) (s : Fin 8 → Vec F S1x22x256 .bf16) : FVec F S128x256 .bf16 := k0_pay132 (c732 s) (c744 w)
def c814 (w : Fin 8 → Vec F S1x1408x256 .i8) (s : Fin 8 → Vec F S1x22x256 .bf16) : FVec F S128x256 .bf16 := k0_pay133 (c732 s) (c744 w)
def c819 (w : Fin 8 → Vec F S1x1408x256 .i8) (s : Fin 8 → Vec F S1x22x256 .bf16) : FVec F S128x256 .bf16 := k0_pay134 (c732 s) (c744 w)
def c824 (w : Fin 8 → Vec F S1x1408x256 .i8) (s : Fin 8 → Vec F S1x22x256 .bf16) : FVec F S128x256 .bf16 := k0_pay135 (c732 s) (c744 w)
def c829 (w : Fin 8 → Vec F S1x1408x256 .i8) (s : Fin 8 → Vec F S1x22x256 .bf16) : FVec F S128x256 .bf16 := k0_pay136 (c732 s) (c744 w)
def c834 (w : Fin 8 → Vec F S1x1408x256 .i8) (s : Fin 8 → Vec F S1x22x256 .bf16) : FVec F S128x256 .bf16 := k0_pay137 (c732 s) (c744 w)
def c839 (w : Fin 8 → Vec F S1x1408x256 .i8) (s : Fin 8 → Vec F S1x22x256 .bf16) : FVec F S128x256 .bf16 := k0_pay138 (c732 s) (c744 w)
def c844 (w : Fin 8 → Vec F S1x1408x256 .i8) (s : Fin 8 → Vec F S1x22x256 .bf16) : FVec F S128x256 .bf16 := k0_pay139 (c732 s) (c744 w)
def c849 (w : Fin 8 → Vec F S1x1408x256 .i8) (s : Fin 8 → Vec F S1x22x256 .bf16) : FVec F S128x256 .bf16 := k0_pay140 (c732 s) (c744 w)
def c850 (w : Fin 8 → Vec F S1x1408x256 .i8) : IVec S128x256 4 := k0_pay141 (c744 w)
def ablk2 (x : Vec F S1x256x2816 .bf16) (w : Fin 8 → Vec F S1x1408x256 .i8) (s : Fin 8 → Vec F S1x22x256 .bf16) : FVec F S256x256 .f32 := k0_pay143 (k0_pay6 x) (c726 w s) (c732 s) (c749 w s) (c754 w s) (c759 w s) (c764 w s) (c769 w s) (c774 w s) (c779 w s) (c784 w s) (c789 w s) (c794 w s) (c799 w s) (c804 w s) (c809 w s) (c814 w s) (c819 w s) (c824 w s) (c829 w s) (c834 w s) (c839 w s) (c844 w s) (c849 w s) (c850 w)
def c867 (x : Vec F S1x256x2816 .bf16) (w : Fin 8 → Vec F S1x1408x256 .i8) (s : Fin 8 → Vec F S1x22x256 .bf16) : FVec F S256x1 .f32 := k0_pay144 (k0_pay6 x) (c597 x w s) (c726 w s) (c732 s) (c749 w s) (c754 w s) (c759 w s) (c764 w s) (c769 w s) (c774 w s) (c779 w s) (c784 w s) (c789 w s) (c794 w s) (c799 w s) (c804 w s) (c809 w s) (c814 w s) (c819 w s) (c824 w s) (c829 w s) (c834 w s) (c839 w s) (c844 w s) (c849 w s) (c850 w)
def c873 (s : Fin 8 → Vec F S1x22x256 .bf16) : FVec F S22x256 .bf16 := k0_pay145 (s 3)
def c885 (w : Fin 8 → Vec F S1x1408x256 .i8) : IVec S2816x256 4 := k0_pay146 (w 3)
def c890 (w : Fin 8 → Vec F S1x1408x256 .i8) (s : Fin 8 → Vec F S1x22x256 .bf16) : FVec F S128x256 .bf16 := k0_pay147 (w 3) (s 3)
def c895 (w : Fin 8 → Vec F S1x1408x256 .i8) (s : Fin 8 → Vec F S1x22x256 .bf16) : FVec F S128x256 .bf16 := k0_pay148 (w 3) (s 3)
def c897 (w : Fin 8 → Vec F S1x1408x256 .i8) : FVec F S128x256 .bf16 := k0_pay149 (w 3)
def c900 (w : Fin 8 → Vec F S1x1408x256 .i8) (s : Fin 8 → Vec F S1x22x256 .bf16) : FVec F S128x256 .bf16 := k0_pay150 (c873 s) (c897 w)
def c905 (w : Fin 8 → Vec F S1x1408x256 .i8) (s : Fin 8 → Vec F S1x22x256 .bf16) : FVec F S128x256 .bf16 := k0_pay151 (c873 s) (c885 w)
def c910 (w : Fin 8 → Vec F S1x1408x256 .i8) (s : Fin 8 → Vec F S1x22x256 .bf16) : FVec F S128x256 .bf16 := k0_pay152 (c873 s) (c885 w)
def c915 (w : Fin 8 → Vec F S1x1408x256 .i8) (s : Fin 8 → Vec F S1x22x256 .bf16) : FVec F S128x256 .bf16 := k0_pay153 (c873 s) (c885 w)
def c920 (w : Fin 8 → Vec F S1x1408x256 .i8) (s : Fin 8 → Vec F S1x22x256 .bf16) : FVec F S128x256 .bf16 := k0_pay154 (c873 s) (c885 w)
def c925 (w : Fin 8 → Vec F S1x1408x256 .i8) (s : Fin 8 → Vec F S1x22x256 .bf16) : FVec F S128x256 .bf16 := k0_pay155 (c873 s) (c885 w)
def c930 (w : Fin 8 → Vec F S1x1408x256 .i8) (s : Fin 8 → Vec F S1x22x256 .bf16) : FVec F S128x256 .bf16 := k0_pay156 (c873 s) (c885 w)
def c935 (w : Fin 8 → Vec F S1x1408x256 .i8) (s : Fin 8 → Vec F S1x22x256 .bf16) : FVec F S128x256 .bf16 := k0_pay157 (c873 s) (c885 w)
def c940 (w : Fin 8 → Vec F S1x1408x256 .i8) (s : Fin 8 → Vec F S1x22x256 .bf16) : FVec F S128x256 .bf16 := k0_pay158 (c873 s) (c885 w)
def c945 (w : Fin 8 → Vec F S1x1408x256 .i8) (s : Fin 8 → Vec F S1x22x256 .bf16) : FVec F S128x256 .bf16 := k0_pay159 (c873 s) (c885 w)
def c950 (w : Fin 8 → Vec F S1x1408x256 .i8) (s : Fin 8 → Vec F S1x22x256 .bf16) : FVec F S128x256 .bf16 := k0_pay160 (c873 s) (c885 w)
def c955 (w : Fin 8 → Vec F S1x1408x256 .i8) (s : Fin 8 → Vec F S1x22x256 .bf16) : FVec F S128x256 .bf16 := k0_pay161 (c873 s) (c885 w)
def c957 (w : Fin 8 → Vec F S1x1408x256 .i8) : FVec F S128x256 .bf16 := k0_pay162 (c885 w)
def c996 (w : Fin 8 → Vec F S1x1408x256 .i8) (s : Fin 8 → Vec F S1x22x256 .bf16) : FVec F S2816x256 .bf16 := k0_pay163 (c873 s) (c885 w) (c890 w s) (c895 w s) (c900 w s) (c905 w s) (c910 w s) (c915 w s) (c920 w s) (c925 w s) (c930 w s) (c935 w s) (c940 w s) (c945 w s) (c950 w s) (c955 w s) (c957 w)
def c1002 (s : Fin 8 → Vec F S1x22x256 .bf16) : FVec F S22x256 .bf16 := k0_pay164 (s 7)
def c1009 (w : Fin 8 → Vec F S1x1408x256 .i8) : IVec S1408x256 32 := k0_pay166 (w 7)
def c1010 (w : Fin 8 → Vec F S1x1408x256 .i8) : IVec S1408x1x256 32 := k0_pay167 (w 7)
def c1014 (w : Fin 8 → Vec F S1x1408x256 .i8) : IVec S2816x256 4 := k0_pay168 (c1009 w) (c1010 w)
def c1019 (w : Fin 8 → Vec F S1x1408x256 .i8) (s : Fin 8 → Vec F S1x22x256 .bf16) : FVec F S128x256 .bf16 := k0_pay169 (c1002 s) (c1009 w) (c1010 w)
def c1024 (w : Fin 8 → Vec F S1x1408x256 .i8) (s : Fin 8 → Vec F S1x22x256 .bf16) : FVec F S128x256 .bf16 := k0_pay170 (c1002 s) (c1009 w) (c1010 w)
def c1029 (w : Fin 8 → Vec F S1x1408x256 .i8) (s : Fin 8 → Vec F S1x22x256 .bf16) : FVec F S128x256 .bf16 := k0_pay171 (c1002 s) (c1009 w) (c1010 w)
def c1034 (w : Fin 8 → Vec F S1x1408x256 .i8) (s : Fin 8 → Vec F S1x22x256 .bf16) : FVec F S128x256 .bf16 := k0_pay172 (c1002 s) (c1009 w) (c1010 w)
def c1039 (w : Fin 8 → Vec F S1x1408x256 .i8) (s : Fin 8 → Vec F S1x22x256 .bf16) : FVec F S128x256 .bf16 := k0_pay173 (c1002 s) (c1009 w) (c1010 w)
def c1044 (w : Fin 8 → Vec F S1x1408x256 .i8) (s : Fin 8 → Vec F S1x22x256 .bf16) : FVec F S128x256 .bf16 := k0_pay174 (c1002 s) (c1009 w) (c1010 w)
def c1049 (w : Fin 8 → Vec F S1x1408x256 .i8) (s : Fin 8 → Vec F S1x22x256 .bf16) : FVec F S128x256 .bf16 := k0_pay175 (c1002 s) (c1009 w) (c1010 w)
def c1054 (w : Fin 8 → Vec F S1x1408x256 .i8) (s : Fin 8 → Vec F S1x22x256 .bf16) : FVec F S128x256 .bf16 := k0_pay176 (c1002 s) (c1009 w) (c1010 w)
def c1059 (w : Fin 8 → Vec F S1x1408x256 .i8) (s : Fin 8 → Vec F S1x22x256 .bf16) : FVec F S128x256 .bf16 := k0_pay177 (c1002 s) (c1009 w) (c1010 w)
def c1064 (w : Fin 8 → Vec F S1x1408x256 .i8) (s : Fin 8 → Vec F S1x22x256 .bf16) : FVec F S128x256 .bf16 := k0_pay178 (c1002 s) (c1009 w) (c1010 w)
def c1069 (w : Fin 8 → Vec F S1x1408x256 .i8) (s : Fin 8 → Vec F S1x22x256 .bf16) : FVec F S128x256 .bf16 := k0_pay179 (c1002 s) (c1009 w) (c1010 w)
def c1070 (w : Fin 8 → Vec F S1x1408x256 .i8) : IVec S128x256 4 := k0_pay180 (c1009 w) (c1010 w)
def c1126 (x : Vec F S1x256x2816 .bf16) (w : Fin 8 → Vec F S1x1408x256 .i8) (s : Fin 8 → Vec F S1x22x256 .bf16) : FVec F S256x256 .f32 := k0_pay181 (k0_pay6 x) (c996 w s)
def c1127 (x : Vec F S1x256x2816 .bf16) (w : Fin 8 → Vec F S1x1408x256 .i8) (s : Fin 8 → Vec F S1x22x256 .bf16) : FVec F S256x256 .f32 := k0_pay182 (k0_pay6 x) (c1002 s) (c1014 w) (c1019 w s) (c1024 w s) (c1029 w s) (c1034 w s) (c1039 w s) (c1044 w s) (c1049 w s) (c1054 w s) (c1059 w s) (c1064 w s) (c1069 w s) (c1070 w)
def c1128 (x : Vec F S1x256x2816 .bf16) (w : Fin 8 → Vec F S1x1408x256 .i8) (s : Fin 8 → Vec F S1x22x256 .bf16) : FVec F S256x256 .f32 := k0_pay183 (k0_pay6 x) (c996 w s)
def ablk3 (x : Vec F S1x256x2816 .bf16) (w : Fin 8 → Vec F S1x1408x256 .i8) (s : Fin 8 → Vec F S1x22x256 .bf16) : FVec F S256x256 .f32 := k0_pay185 (c1126 x w s) (c1127 x w s) (c1128 x w s)
def c1139 (x : Vec F S1x256x2816 .bf16) (w : Fin 8 → Vec F S1x1408x256 .i8) (s : Fin 8 → Vec F S1x22x256 .bf16) : FVec F S256x1 .f32 := k0_pay186 (c867 x w s) (c1126 x w s) (c1127 x w s) (c1128 x w s)
def c1167 (x : Vec F S1x256x2816 .bf16) (w : Fin 8 → Vec F S1x1408x256 .i8) (s : Fin 8 → Vec F S1x22x256 .bf16) : IVec S256x1 32 := k0_pay187 (c867 x w s) (c1126 x w s) (c1127 x w s) (c1128 x w s)
def c1171 (x : Vec F S1x256x2816 .bf16) (w : Fin 8 → Vec F S1x1408x256 .i8) (s : Fin 8 → Vec F S1x22x256 .bf16) : IVec S256x1 32 := k0_pay188 (c867 x w s) (c1126 x w s) (c1127 x w s) (c1128 x w s)
def c1214 (x : Vec F S1x256x2816 .bf16) (w : Fin 8 → Vec F S1x1408x256 .i8) (s : Fin 8 → Vec F S1x22x256 .bf16) : IVec S256x1 32 := k0_pay189 (c1139 x w s) (c1167 x w s) (c1171 x w s)
def c1216 (x : Vec F S1x256x2816 .bf16) (w : Fin 8 → Vec F S1x1408x256 .i8) (s : Fin 8 → Vec F S1x22x256 .bf16) : IVec S256x1 1 := k0_pay190 (c1139 x w s)

/-- The activated block: the four column blocks side by side. -/
def act (x : Vec F S1x256x2816 .bf16) (w : Fin 8 → Vec F S1x1408x256 .i8) (s : Fin 8 → Vec F S1x22x256 .bf16) : Vec F S256x1024 .f32 := fun i =>
  if h0 : (i 1).val < 256 then ablk0 x w s (ix2 (⟨(i 0).val, (i 0).isLt⟩ : Fin 256) (⟨(i 1).val, h0⟩ : Fin 256))
  else if h1 : (i 1).val < 512 then ablk1 x w s (ix2 (⟨(i 0).val, (i 0).isLt⟩ : Fin 256) (⟨(i 1).val - 256, by omega⟩ : Fin 256))
  else if h2 : (i 1).val < 768 then ablk2 x w s (ix2 (⟨(i 0).val, (i 0).isLt⟩ : Fin 256) (⟨(i 1).val - 512, by omega⟩ : Fin 256))
  else ablk3 x w s (ix2 (⟨(i 0).val, (i 0).isLt⟩ : Fin 256) (⟨(i 1).val - 768, by have : (i 1).val < 1024 := (i 1).isLt; omega⟩ : Fin 256))

/-- What the trip stores to the codes, from what was there. -/
def codesOut (x : Vec F S1x256x2816 .bf16) (w : Fin 8 → Vec F S1x1408x256 .i8) (s : Fin 8 → Vec F S1x22x256 .bf16) (st va : BitVec 32) (old : Vec F S256x1024 .fp8e4m3) : FVec F S256x1024 .fp8e4m3 :=
  k0_pay1 (k0_pay193 (F := F) st va) (k0_pay194 (c1214 x w s) (c1216 x w s) (act x w s)) (k0_pay195 old)
/-- What the trip stores to the scales, from what was there. -/
def scaleOut (x : Vec F S1x256x2816 .bf16) (w : Fin 8 → Vec F S1x1408x256 .i8) (s : Fin 8 → Vec F S1x22x256 .bf16) (st va : BitVec 32) (old : Vec F S256x1 .f32) : FVec F S256x1 .f32 :=
  k0_pay2 (k0_pay192 (F := F) (c1214 x w s) (c1216 x w s)) (k0_pay193 (F := F) st va) old

end Cert.KernelIdeal.Hand

end
-- ==== Proof.I3.lean ====
module

public import proofs.«01_k».proof.Proof.IVals
public import proofs.«01_k».proof.Proof.I2

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

abbrev rect4 (it : Item) : Rect S6144x1024 := Rect.unit (s := S6144x1024) (k0_off61 (it.w 1)) S256x1024.size (k0_off61_inb (it.w 1) it.chk5)
abbrev rect5 (it : Item) : Rect S6144x1 := Rect.unit (s := S6144x1) (k0_off62 (it.w 1)) S256x1.size (k0_off62_inb (it.w 1) it.chk5)

/-- The four stores of the activated block, the last first. -/
def actPieces (x : Vec F S1x256x2816 .bf16) (w : Fin 8 → Vec F S1x1408x256 .i8) (s : Fin 8 → Vec F S1x22x256 .bf16) : List (View.Piece (Elt F) S256x1024 .f32) :=
  [⟨Rect.unit (s := S256x1024) ![0, 768] S256x256.size inb_S256x1024_S256x256_0_768, ablk3 x w s⟩,
   ⟨Rect.unit (s := S256x1024) ![0, 512] S256x256.size inb_S256x1024_S256x256_0_512, ablk2 x w s⟩,
   ⟨Rect.unit (s := S256x1024) ![0, 256] S256x256.size inb_S256x1024_S256x256_0_256, ablk1 x w s⟩,
   ⟨Rect.unit (s := S256x1024) ![0, 0] S256x256.size inb_S256x1024_S256x256_0_0, ablk0 x w s⟩]

theorem readCov_act (x : Vec F S1x256x2816 .bf16) (w : Fin 8 → Vec F S1x1408x256 .i8) (s : Fin 8 → Vec F S1x22x256 .bf16) :
    M9.view.readCov (actPieces x w s) (Rect.unit (s := S256x1024) ![0, 0] S256x1024.size inb_S256x1024_S256x1024_0_0).toLoadRect = act x w s := by
  funext i
  have hi : (Rect.unit (s := S256x1024) ![0, 0] S256x1024.size inb_S256x1024_S256x1024_0_0).toLoadRect.idx i = i := by
    funext a; apply Fin.ext; fin_cases a
    · show 0 + 1 * (i 0).val = (i 0).val; omega
    · show 0 + 1 * (i 1).val = (i 1).val; omega
  have h1 : (i 1).val < 1024 := (i 1).isLt
  show M9.view.read (Elt F) (M9.view.writes (Elt F) M9.view.junk (actPieces x w s)) ((Rect.unit (s := S256x1024) ![0, 0] S256x1024.size inb_S256x1024_S256x1024_0_0).toLoadRect.idx i) = _
  rw [hi]
  unfold actPieces act
  by_cases h3 : (i 1).val < 768
  swap
  · rw [dif_neg (by omega), dif_neg (by omega), dif_neg (by omega)]
    refine View.read_writes_cons_unit_of_mem _ _ _ _ _ i (ix2 (⟨(i 0).val, (i 0).isLt⟩ : Fin 256) (⟨(i 1).val - 768, by omega⟩ : Fin 256)) rfl fun a => ?_
    fin_cases a
    · show (i 0).val = 0 + (i 0).val; omega
    · show (i 1).val = 768 + ((i 1).val - 768); omega
  refine (View.read_writes_cons_unit_of_not_mem _ _ _ _ _ i rfl 1 (.inl h3)).trans ?_
  by_cases h2 : (i 1).val < 512
  swap
  · rw [dif_neg (by omega), dif_neg (by omega), dif_pos h3]
    refine View.read_writes_cons_unit_of_mem _ _ _ _ _ i (ix2 (⟨(i 0).val, (i 0).isLt⟩ : Fin 256) (⟨(i 1).val - 512, by omega⟩ : Fin 256)) rfl fun a => ?_
    fin_cases a
    · show (i 0).val = 0 + (i 0).val; omega
    · show (i 1).val = 512 + ((i 1).val - 512); omega
  refine (View.read_writes_cons_unit_of_not_mem _ _ _ _ _ i rfl 1 (.inl h2)).trans ?_
  by_cases h1 : (i 1).val < 256
  swap
  · rw [dif_neg (by omega), dif_pos h2]
    refine View.read_writes_cons_unit_of_mem _ _ _ _ _ i (ix2 (⟨(i 0).val, (i 0).isLt⟩ : Fin 256) (⟨(i 1).val - 256, by omega⟩ : Fin 256)) rfl fun a => ?_
    fin_cases a
    · show (i 0).val = 0 + (i 0).val; omega
    · show (i 1).val = 256 + ((i 1).val - 256); omega
  refine (View.read_writes_cons_unit_of_not_mem _ _ _ _ _ i rfl 1 (.inl h1)).trans ?_
  rw [dif_pos h1]
  refine View.read_writes_cons_unit_of_mem _ _ _ _ _ i (ix2 (⟨(i 0).val, (i 0).isLt⟩ : Fin 256) (⟨(i 1).val, h1⟩ : Fin 256)) rfl fun a => ?_
  fin_cases a
  · show (i 0).val = 0 + (i 0).val; omega
  · show (i 1).val = 0 + (i 1).val; omega

set_option pp.deepTerms false in
set_option pp.deepTerms.threshold 8 in
set_option pp.maxSteps 1500 in
/-- One trip. -/
theorem trip (A0 : Memref sig .tc .smem S8 .i32) (hA0 : A0.IsWhole) (A4 : Memref sig .tc .vmem S6144x1024 .fp8e4m3) (hA4 : A4.IsWhole) (A5 : Memref sig .tc .vmem S6144x1 .f32) (hA5 : A5.IsWhole)
    (n : BitVec 32) (hn : k0_chk4 n) (k : Fin (k0_t6_loop n).trips) (hn40 : n.toNat ≤ 40) (r : Fin 40) (hr : r.val = k.val)
    (fx : BufOf (F := F) c MX) (fw : BufOf (F := F) c MW) (fs : BufOf (F := F) c MS) (T : BufOf (F := F) c M10) (W) (it : Item) (hT : RowIs c T r it)
    (itn : Option Item) (hnext : match itn with | some i' => ∃ r' : Fin 40, r'.val = k.val + 1 ∧ k.val + 1 < n.toNat ∧ RowIs c T r' i' | none => ¬ k.val + 1 < n.toNat)
    (n0 n1 : Fin 2) (hn0 : n0.val = k.val % 2) (hn1 : n1.val = 1 - k.val % 2)
    (f9 : BufOf (F := F) c M9) (f4 : BufOf (F := F) c A4) (f5 : BufOf (F := F) c A5) (acc : BitVec 32) {Q} :
    iprop(held c M10 T ∗ wBefore c it fw fs ∗ xNext c n0 n1 (some it.rows) fx ∗ held c M9 f9 ∗ own c A4 f4 ∗ own c A5 f5 ∗ owes (c : Thread nD τ) 0 W)
    ⊢ iprop((iprop(held c M10 T ∗ wAfter c it fw fs ∗ xNext c n1 n0 (itn.map Item.rows) fx ∗ (∃ f9', held c M9 f9')
        ∗ own c A4 (A4.view.writes (Elt F) f4 [⟨rect4 it, codesOut (xblk c fx it.st it.hst) (wblk c fw it.e) (sblk c fs it.e) (it.w 1) (it.w 2) (View.readAt (Elt F) A4.view (rect4 it).toLoadRect f4)⟩])
        ∗ own c A5 (A5.view.writes (Elt F) f5 [⟨rect5 it, scaleOut (xblk c fx it.st it.hst) (wblk c fw it.e) (sblk c fs it.e) (it.w 1) (it.w 2) (View.readAt (Elt F) A5.view (rect5 it).toLoadRect f5)⟩])
        ∗ ∃ W', owes (c : Thread nD τ) 0 W') -∗ Q 0#32) -∗
      wp frame (wpE (defs₀ (F := F)) Variants.none c none) Set.univ
      (k0_t6_body A0 hA0 MX (Memref.isWhole_whole _) MW (Memref.isWhole_whole _) MS (Memref.isWhole_whole _) A4 hA4 A5 hA5 M6 (Memref.isWhole_whole _) M7 (Memref.isWhole_whole _)
        M8 (Memref.isWhole_whole _) M9 (Memref.isWhole_whole _) M10 (Memref.isWhole_whole _) cc0_scratch5 cc0_scratch6 cc0_scratch7 n hn 0#32 k acc) Q) := by
  unfold k0_t6_body
  rw [wp_bind, k0_part24_eq_skeleton]
  unfold k0_part24_skel
  rw [wp_bind]
  iintro ⟨HT, Hw, Hx, H9, H4, H5, Ho⟩ HQ
  iapply (part2 c A0 hA0 A4 hA4 A5 hA5 n hn k hn40 r hr fx fw fs T W it hT itn hnext n0 n1 hn0 hn1) $$ [HT Hw Hx Ho]
  · isplitl [HT]; · iexact HT
    isplitl [Hw]; · iexact Hw
    isplitl [Hx]; · iexact Hx
    iexact Ho
  iintro ⟨HT, ⟨⟨⟨Hc7, ⟨%g7, H7⟩⟩, ⟨Hc8, ⟨%g8, H8⟩⟩⟩, Hr⟩, Hx, Ho⟩
  have i46 := sub8 it.s (k0_off46 (it.w 4)) (k0_off46_inb _ it.chk11) it.w4
  have l46 := fun g => load8 c it.s it.e 0 fs g (k0_off46 (it.w 4)) (k0_off46_inb _ it.chk11) (by show ![(it.w 4).toNat, 0, 0] = _; rw [it.w4]; rfl)
  have i47 := sub7 it.s (k0_off47 (it.w 4)) (k0_off47_inb _ it.chk11) it.w4
  have l47 := fun g => load7 c it.s it.e 4 fw g (k0_off47 (it.w 4)) (k0_off47_inb _ it.chk11) (by show ![(it.w 4).toNat, 0, 1024] = _; rw [it.w4]; rfl)
  have i48 := sub8 it.s (k0_off48 (it.w 4)) (k0_off48_inb _ it.chk11) it.w4
  have l48 := fun g => load8 c it.s it.e 4 fs g (k0_off48 (it.w 4)) (k0_off48_inb _ it.chk11) (by show ![(it.w 4).toNat, 0, 1024] = _; rw [it.w4]; rfl)
  have i49 := sub7 it.s (k0_off49 (it.w 4)) (k0_off49_inb _ it.chk11) it.w4
  have l49 := fun g => load7 c it.s it.e 1 fw g (k0_off49 (it.w 4)) (k0_off49_inb _ it.chk11) (by show ![(it.w 4).toNat, 0, 256] = _; rw [it.w4]; rfl)
  have i50 := sub8 it.s (k0_off50 (it.w 4)) (k0_off50_inb _ it.chk11) it.w4
  have l50 := fun g => load8 c it.s it.e 1 fs g (k0_off50 (it.w 4)) (k0_off50_inb _ it.chk11) (by show ![(it.w 4).toNat, 0, 256] = _; rw [it.w4]; rfl)
  have i51 := sub7 it.s (k0_off51 (it.w 4)) (k0_off51_inb _ it.chk11) it.w4
  have l51 := fun g => load7 c it.s it.e 5 fw g (k0_off51 (it.w 4)) (k0_off51_inb _ it.chk11) (by show ![(it.w 4).toNat, 0, 1280] = _; rw [it.w4]; rfl)
  have i52 := sub8 it.s (k0_off52 (it.w 4)) (k0_off52_inb _ it.chk11) it.w4
  have l52 := fun g => load8 c it.s it.e 5 fs g (k0_off52 (it.w 4)) (k0_off52_inb _ it.chk11) (by show ![(it.w 4).toNat, 0, 1280] = _; rw [it.w4]; rfl)
  have i53 := sub7 it.s (k0_off53 (it.w 4)) (k0_off53_inb _ it.chk11) it.w4
  have l53 := fun g => load7 c it.s it.e 2 fw g (k0_off53 (it.w 4)) (k0_off53_inb _ it.chk11) (by show ![(it.w 4).toNat, 0, 512] = _; rw [it.w4]; rfl)
  have i54 := sub8 it.s (k0_off54 (it.w 4)) (k0_off54_inb _ it.chk11) it.w4
  have l54 := fun g => load8 c it.s it.e 2 fs g (k0_off54 (it.w 4)) (k0_off54_inb _ it.chk11) (by show ![(it.w 4).toNat, 0, 512] = _; rw [it.w4]; rfl)
  have i55 := sub7 it.s (k0_off55 (it.w 4)) (k0_off55_inb _ it.chk11) it.w4
  have l55 := fun g => load7 c it.s it.e 6 fw g (k0_off55 (it.w 4)) (k0_off55_inb _ it.chk11) (by show ![(it.w 4).toNat, 0, 1536] = _; rw [it.w4]; rfl)
  have i56 := sub8 it.s (k0_off56 (it.w 4)) (k0_off56_inb _ it.chk11) it.w4
  have l56 := fun g => load8 c it.s it.e 6 fs g (k0_off56 (it.w 4)) (k0_off56_inb _ it.chk11) (by show ![(it.w 4).toNat, 0, 1536] = _; rw [it.w4]; rfl)
  have i57 := sub7 it.s (k0_off57 (it.w 4)) (k0_off57_inb _ it.chk11) it.w4
  have l57 := fun g => load7 c it.s it.e 3 fw g (k0_off57 (it.w 4)) (k0_off57_inb _ it.chk11) (by show ![(it.w 4).toNat, 0, 768] = _; rw [it.w4]; rfl)
  have i58 := sub8 it.s (k0_off58 (it.w 4)) (k0_off58_inb _ it.chk11) it.w4
  have l58 := fun g => load8 c it.s it.e 3 fs g (k0_off58 (it.w 4)) (k0_off58_inb _ it.chk11) (by show ![(it.w 4).toNat, 0, 768] = _; rw [it.w4]; rfl)
  have i59 := sub7 it.s (k0_off59 (it.w 4)) (k0_off59_inb _ it.chk11) it.w4
  have l59 := fun g => load7 c it.s it.e 7 fw g (k0_off59 (it.w 4)) (k0_off59_inb _ it.chk11) (by show ![(it.w 4).toNat, 0, 1792] = _; rw [it.w4]; rfl)
  have i60 := sub8 it.s (k0_off60 (it.w 4)) (k0_off60_inb _ it.chk11) it.w4
  have l60 := fun g => load8 c it.s it.e 7 fs g (k0_off60 (it.w 4)) (k0_off60_inb _ it.chk11) (by show ![(it.w 4).toNat, 0, 1792] = _; rw [it.w4]; rfl)
  dsimp only
  sl_exec
  have q175 : trip.sl.r_175 (F := F) it = k0_pay193 (F := F) (it.w 1) (it.w 2) := rfl
  have q172 : trip.sl.r_172 c fx fw fs it = c1214 (xblk c fx it.st it.hst) (wblk c fw it.e) (sblk c fs it.e) := rfl
  have q173 : trip.sl.r_173 c fx fw fs it = c1216 (xblk c fx it.st it.hst) (wblk c fw it.e) (sblk c fs it.e) := rfl
  have q9 : trip.sl.H9_4 c fx fw fs it = actPieces (xblk c fx it.st it.hst) (wblk c fw it.e) (sblk c fs it.e) := rfl
  have q1234 : trip.sl.v1234 c fx fw fs it = act (xblk c fx it.st it.hst) (wblk c fw it.e) (sblk c fs it.e) := by
    unfold trip.sl.v1234; rw [q9]; exact readCov_act _ _ _
  have e4 : k0_pay1 (trip.sl.r_175 (F := F) it) (trip.sl.r_176 c fx fw fs it) (trip.sl.r_177 c A4 it f4)
      = codesOut (xblk c fx it.st it.hst) (wblk c fw it.e) (sblk c fs it.e) (it.w 1) (it.w 2) (View.readAt (Elt F) A4.view (rect4 it).toLoadRect f4) := by
    unfold trip.sl.r_176; rw [q1234, q172, q173]; rfl
  have q174 : trip.sl.r_174 c fx fw fs it = k0_pay192 (trip.sl.r_172 c fx fw fs it) (trip.sl.r_173 c fx fw fs it) := rfl
  rw [e4, q174, q172, q173]
  simp only [wp_ret]; imodintro
  iapply HQ
  isplitl [HT]; · iexact HT
  isplitl [Hc7 H7 Hc8 H8 Hr]
  · isplitl [Hc7 H7 Hc8 H8]
    · isplitl [Hc7 H7]
      · isplitl [Hc7]; · iexact Hc7
        iexists _; iexact H7
      isplitl [Hc8]; · iexact Hc8
      iexists _; iexact H8
    iexact Hr
  isplitl [Hx]; · iexact Hx
  isplitl [H9]; · iexists _; iexact H9
  isplitl [H4]; · iexact H4
  isplitl [H5]; · iexact H5
  iexact Ho

end Cert.KernelIdeal.Hand

end
-- ==== Proof.IRun.lean ====
module

public import proofs.«01_k».proof.Proof.ITab
public import proofs.«01_k».proof.Proof.I3

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

theorem slot_words : ∀ (m : Fin 2) (hinb), (Rect.unit (s := S2x256x2816) ![m.val, 0, 0] S1x256x2816.size hinb).WholeWords (EltTy.packing .bf16) := by decide

theorem slot_words' (off : Fin 3 → ℕ) (m : Fin 2) (ho : off = ![m.val, 0, 0]) (hinb) : (Rect.unit (s := S2x256x2816) off S1x256x2816.size hinb).WholeWords (EltTy.packing .bf16) := by
  subst ho; exact slot_words m hinb
theorem slot_inb (off : Fin 3 → ℕ) (m : Fin 2) (ho : off = ![m.val, 0, 0]) : ∀ a, off a + S1x256x2816.size a ≤ S2x256x2816.size a := by
  subst ho; exact inb6 m
theorem sem_inb (off : Fin 1 → ℕ) (m : Fin 2) (ho : off = ![m.val]) : ∀ a, off a + S1.size a ≤ S2.size a := by
  subst ho; exact inbSem m
theorem tab_inb (off : Fin 2 → ℕ) (r j : ℕ) (hr : r < 40) (hj : j < 8) (ho : off = ![r, j]) : ∀ a, off a + S1x1.size a ≤ S40x8.size a := by
  subst ho; exact inbT r j hr hj

/-- The slot of trip `k`, and the other one. -/
def par (k : ℕ) : Fin 2 := ⟨k % 2, Nat.mod_lt _ (by decide)⟩
def rap (k : ℕ) : Fin 2 := ⟨1 - k % 2, by omega⟩

theorem chk4 (n : BitVec 32) (hn : n.toNat ≤ 40) : k0_chk4 n := by
  have t6 : ∀ k : Fin (k0_t6_loop n).trips, k.val < 40 := fun k => by have := lt_of_lt_of_eq k.isLt (trips6 n hn); omega
  have t7 : ∀ {P : Prop} (k : Fin (k0_t7_loop n).trips), P := fun k => absurd (lt_of_lt_of_eq k.isLt (trips7 n hn)) (Nat.not_lt_zero _)
  have o : ∀ (k : Fin (k0_t6_loop n).trips) (j : ℕ), (![(Scf.iv 0#32 1#32 k.val).toNat, j] : Fin 2 → ℕ) = ![k.val, j] := fun k j => by rw [iv_toNat _ (t6 k)]
  have p : ∀ (k : Fin (k0_t6_loop n).trips), (![(Scalar.andi (Scf.iv 0#32 1#32 k.val) 1#32).toNat, 0, 0] : Fin 3 → ℕ) = ![(par k.val).val, 0, 0] := fun k => by rw [x0_toNat _ (t6 k)]; rfl
  have q : ∀ (k : Fin (k0_t6_loop n).trips), (![(Scalar.subi 1#32 (Scalar.andi (Scf.iv 0#32 1#32 k.val) 1#32)).toNat, 0, 0] : Fin 3 → ℕ) = ![(rap k.val).val, 0, 0] := fun k => by rw [x1_toNat _ (t6 k)]; rfl
  have p1 : ∀ (k : Fin (k0_t6_loop n).trips), (![(Scalar.andi (Scf.iv 0#32 1#32 k.val) 1#32).toNat] : Fin 1 → ℕ) = ![(par k.val).val] := fun k => by rw [x0_toNat _ (t6 k)]; rfl
  have q1 : ∀ (k : Fin (k0_t6_loop n).trips), (![(Scalar.subi 1#32 (Scalar.andi (Scf.iv 0#32 1#32 k.val) 1#32)).toNat] : Fin 1 → ℕ) = ![(rap k.val).val] := fun k => by rw [x1_toNat _ (t6 k)]; rfl
  refine ⟨ok6 n hn, fun k => tab_inb _ k.val 4 (t6 k) (by decide) (o k 4), fun k => tab_inb _ k.val 1 (t6 k) (by decide) (o k 1), fun k => tab_inb _ k.val 2 (t6 k) (by decide) (o k 2),
    fun k => tab_inb _ k.val 3 (t6 k) (by decide) (o k 3), fun k => tab_inb _ k.val 1 (t6 k) (by decide) (o k 1), fun k => sem_inb _ _ (p1 k), fun k => slot_inb _ _ (p k), fun k => slot_words' _ _ (p k),
    fun k h => ?_, fun k h => sem_inb _ _ (q1 k), fun k h => slot_inb _ _ (q k), fun k h => slot_words' _ _ (q k), fun k => slot_inb _ _ (p k), ok7 n hn,
    fun k => t7 k, fun k => t7 k, fun k => t7 k, fun k => t7 k, fun k => t7 k, fun k => t7 k, fun k => t7 k, fun k => t7 k, fun k => t7 k, fun k => t7 k, fun k => t7 k, fun k => t7 k, fun k => t7 k⟩
  have h1 := (cond3_iff n hn k).mp h
  refine tab_inb _ (k.val + 1) 1 (by omega) (by decide) ?_
  show (![(Scalar.addi (Scf.iv 0#32 1#32 k.val) 1#32).toNat, 1] : Fin 2 → ℕ) = _
  rw [nx_toNat _ (t6 k)]

theorem seq0 (g : ℕ → ℕ) (hs : lo g 8 = 6144) : (seq g 0).fi = true ∧ (seq g 0).s = 0 := ⟨(sched g hs).first.1, (sched g hs).first.2.1⟩

theorem part48_run (A0 : Memref sig .tc .smem S8 .i32) (hA0 : A0.IsWhole) (A4 : Memref sig .tc .vmem S6144x1024 .fp8e4m3) (hA4 : A4.IsWhole) (A5 : Memref sig .tc .vmem S6144x1 .f32) (hA5 : A5.IsWhole)
    (f0 : BufOf (F := F) c A0) (g : ℕ → ℕ) (hg : ∀ e : Fin 8, (gw c A0 f0 e).toNat = g e) (hs : lo g 8 = 6144)
    (T0 : BufOf (F := F) c M10) (fx : BufOf (F := F) c MX) (fw : BufOf (F := F) c MW) (fs : BufOf (F := F) c MS) (W) {Q} :
    iprop(own c A0 f0 ∗ held c M10 T0 ∗ held c MX fx ∗ held c MW fw ∗ held c MS fs ∗ idle (F := F) c (cell6 0) (slot6 0) ∗ idle (F := F) c (cell7 0) (slot7 0) ∗ idle (F := F) c (cell8 0) (slot8 0)
      ∗ owes (c : Thread nD τ) 0 W)
    ⊢ iprop((∀ (n : BitVec 32) (hn : k0_chk4 n) (T : BufOf (F := F) c M10), iprop(⌜n.toNat = nb g 8 ∧ Rows c g T 8⌝ ∗ own c A0 f0 ∗ held c M10 T ∗ flying c (cell6 0) (slot6 0) (rowsX (seq g 0).st (seq g 0).hst) fx
        ∗ wGo c 0 (seq g 0).e fw fs ∗ ∃ W', owes (c : Thread nD τ) 0 W') -∗ Q ⟨n, hn, 0#32, 0#32, Scalar.subi n 0#32⟩) -∗
      wp frame (wpE (defs₀ (F := F)) Variants.none c none) Set.univ (k0_part48 A0 hA0 MX (Memref.isWhole_whole _) MW (Memref.isWhole_whole _) MS (Memref.isWhole_whole _) A4 hA4 A5 hA5 M6 (Memref.isWhole_whole _) M7 (Memref.isWhole_whole _) M8 (Memref.isWhole_whole _) M9 (Memref.isWhole_whole _) M10 (Memref.isWhole_whole _) cc0_scratch5 cc0_scratch6 cc0_scratch7) Q) := by
  have hsc := sched g hs
  rw [k0_part48_eq_skeleton]
  unfold k0_part48_skel
  iintro ⟨H0, HT, HX, HW, HS, ⟨Hc6, ⟨%g6, H6⟩⟩, ⟨Hc7, ⟨%g7, H7⟩⟩, ⟨Hc8, ⟨%g8, H8⟩⟩, Ho⟩ HQ
  sl_for (inv1 c A0 f0 g) $$ [H0 HT]
  · exact step1 c A0 hA0 A4 hA4 A5 hA5 f0 g hg hs
  · isplitl [H0]; · iexact H0
    isplitl [HT]
    · iexists T0
      isplitl [HT]; · iexact HT
      ipureintro
      exact fun e' he' => absurd he' (Nat.not_lt_zero _)
    ipureintro
    exact ⟨rfl, rfl, rfl⟩
  iintro %a ⟨H0, ⟨%T, HT, %hR⟩, %ha⟩
  obtain ⟨a0, n, a2⟩ := a
  have hR : Rows c g T 8 := hR
  have hnn : n.toNat = nb g 8 := ha.2.1
  have hn : k0_chk4 n := chk4 n (by rw [hnn]; exact hsc.le)
  have hp := hsc.pos
  obtain ⟨r0, r1, -⟩ := rows_seq c g T hR ⟨0, by decide⟩ hp
  have r0 : tw c T ⟨0, by decide⟩ 0 = (seq g 0).w 0 := r0
  have r1 : tw c T ⟨0, by decide⟩ 1 = (seq g 0).w 1 := r1
  generalize hit : seq g 0 = it at *
  have hc2 : k0_chk2 (it.w 1) := chk2 _ (by rw [it.w1]; exact it.hst) (by rw [it.w1]; exact it.hd)
  have hc3 : k0_chk3 (it.w 0) := chk3 _ (by rw [it.w0]; exact it.e.isLt)
  sl_exec
  have e1 : part48_run.sl.r c T = it.w 1 := (tw_of_load c T _ _ _ ⟨0, by decide⟩ 1 rfl).trans r1
  rw [e1]
  sl_exec
  have e2 : part48_run.sl.r_1 c T = it.w 0 := (tw_of_load c T _ _ _ ⟨0, by decide⟩ 0 rfl).trans r0
  rw [e2]
  sl_exec
  have hv : part48_run.sl.v22 n = Scalar.subi n 0#32 := rfl
  rw [hv]
  simp only [wp_ret]; imodintro
  have kx : ∀ (st : ℕ) (h h'), (it.w 1).toNat = st → (flying c (cell6 0) (slot6 0) (rowsX (it.w 1).toNat h') fx ⊢ flying c (cell6 0) (slot6 0) (rowsX st h) fx) := by
    rintro _ _ _ rfl; exact .rfl
  have kw : ∀ (e : Fin 8) (h), (it.w 0).toNat = e.val → (flying c (cell7 0) (slot7 0) (wE ⟨(it.w 0).toNat, h⟩) fw ⊢ flying c (cell7 0) (slot7 0) (wE e) fw) := by
    rintro ⟨_, _⟩ _ rfl; exact .rfl
  have ks : ∀ (e : Fin 8) (h), (it.w 0).toNat = e.val → (flying c (cell8 0) (slot8 0) (sE ⟨(it.w 0).toNat, h⟩) fs ⊢ flying c (cell8 0) (slot8 0) (sE e) fs) := by
    rintro ⟨_, _⟩ _ rfl; exact .rfl
  have hw0 : (it.w 0).toNat < 8 := by rw [it.w0]; exact it.e.isLt
  have hw1 : (it.w 1).toNat + 256 ≤ 6144 := by rw [it.w1]; exact it.hst
  ispecialize HQ $$ %n %hn %T
  iapply HQ
  isplitr; · ipureintro; exact ⟨hnn, hR⟩
  isplitl [H0]; · iexact H0
  isplitl [HT]; · iexact HT
  isplitl [Hc6 HX]
  · iapply (kx it.st it.hst hw1 it.w1)
    isplitl [Hc6]
    · iexists g6; iexact Hc6
    iexact HX
  isplitl [Hc7 HW Hc8 HS]
  · isplitl [Hc7 HW]
    · iapply (kw it.e hw0 it.w0)
      isplitl [Hc7]
      · iexists g7; iexact Hc7
      iexact HW
    iapply (ks it.e hw0 it.w0)
    isplitl [Hc8]
    · iexists g8; iexact Hc8
    iexact HS
  iexists _; iexact Ho

/-! ## The weights' ring between two items -/

theorem wStep (it it' : Item) (fw : BufOf (F := F) c MW) (fs : BufOf (F := F) c MS)
    (h : (it'.fi = false ∧ it'.e = it.e ∧ it'.s = it.s ∧ it'.nx = it.nx) ∨ (it'.fi = true ∧ it'.s = oth it.s ∧ it.nx = some it'.e)) :
    wAfter c it fw fs ⊢ wBefore c it' fw fs := by
  obtain ⟨e, st, va, fi, s, nx, _, _, _⟩ := it
  obtain ⟨e', st', va', fi', s', nx', _, _, _⟩ := it'
  rcases h with ⟨h1, h2, h3, h4⟩ | ⟨h1, h2, h3⟩
  · dsimp only at h1 h2 h3 h4; subst h1; subst h2; subst h3; subst h4
    exact .rfl
  · dsimp only at h1 h2 h3; subst h1; subst h2; subst h3
    have ho : oth (oth s) = s := by revert s; decide
    show iprop(wOn c s e fw fs ∗ wGo c (oth s) e' fw fs) ⊢ iprop(wGo c (oth s) e' fw fs ∗ wOff (F := F) c (oth (oth s)))
    rw [ho]
    iintro ⟨⟨⟨Ha, ⟨%ga, Ga⟩⟩, ⟨Hb, ⟨%gb, Gb⟩⟩⟩, Hn⟩
    isplitl [Hn]; · iexact Hn
    isplitl [Ha Ga]
    · isplitl [Ha]; · iexact Ha
      iexists _; iexact Ga
    isplitl [Hb]; · iexact Hb
    iexists _; iexact Gb

/-- Everything of the weights' ring free. -/
abbrev wFree (fw : BufOf (F := F) c MW) (fs : BufOf (F := F) c MS) : sProp 𝕄 :=
  iprop(held c MW fw ∗ held c MS fs ∗ wOff (F := F) c 0 ∗ wOff (F := F) c 1)

theorem wEnd (it : Item) (fw : BufOf (F := F) c MW) (fs : BufOf (F := F) c MS) (h : it.nx = none) : wAfter c it fw fs ⊢ wFree c fw fs := by
  obtain ⟨e, st, va, fi, s, nx, _, _, _⟩ := it
  dsimp only at h; subst h
  show iprop(wOn c s e fw fs ∗ held c MW fw ∗ held c MS fs ∗ wOff (F := F) c (oth s)) ⊢ _
  have key : iprop(wOn c s e fw fs ∗ held c MW fw ∗ held c MS fs ∗ wOff (F := F) c (oth s)) ⊢ iprop(held c MW fw ∗ held c MS fs ∗ wOff (F := F) c s ∗ wOff (F := F) c (oth s)) := by
    iintro ⟨⟨⟨Ha, ⟨%ga, Ga⟩⟩, ⟨Hb, ⟨%gb, Gb⟩⟩⟩, HW, HS, Hn⟩
    isplitl [HW]; · iexact HW
    isplitl [HS]; · iexact HS
    isplitr [Hn]
    · isplitl [Ha Ga]
      · isplitl [Ha]; · iexact Ha
        iexists _; iexact Ga
      isplitl [Hb]; · iexact Hb
      iexists _; iexact Gb
    iexact Hn
  refine key.trans ?_
  fin_cases s
  · exact .rfl
  · show iprop(held c MW fw ∗ held c MS fs ∗ wOff (F := F) c 1 ∗ wOff (F := F) c 0) ⊢ _
    iintro ⟨HW, HS, Ha, Hb⟩
    isplitl [HW]; · iexact HW
    isplitl [HS]; · iexact HS
    isplitl [Hb]; · iexact Hb
    iexact Ha

/-! ## The loop over the items -/

/-- What one item leaves in the two results' blocks. -/
def outStep (A4 : Memref sig .tc .vmem S6144x1024 .fp8e4m3) (A5 : Memref sig .tc .vmem S6144x1 .f32)
    (fx : BufOf (F := F) c MX) (fw : BufOf (F := F) c MW) (fs : BufOf (F := F) c MS) (it : Item) (p : BufOf (F := F) c A4 × BufOf (F := F) c A5) : BufOf (F := F) c A4 × BufOf (F := F) c A5 :=
  (A4.view.writes (Elt F) p.1 [⟨rect4 it, codesOut (xblk c fx it.st it.hst) (wblk c fw it.e) (sblk c fs it.e) (it.w 1) (it.w 2) (View.readAt (Elt F) A4.view (rect4 it).toLoadRect p.1)⟩],
   A5.view.writes (Elt F) p.2 [⟨rect5 it, scaleOut (xblk c fx it.st it.hst) (wblk c fw it.e) (sblk c fs it.e) (it.w 1) (it.w 2) (View.readAt (Elt F) A5.view (rect5 it).toLoadRect p.2)⟩])
/-- What the first `k` items leave. -/
def outs (A4 : Memref sig .tc .vmem S6144x1024 .fp8e4m3) (A5 : Memref sig .tc .vmem S6144x1 .f32)
    (fx : BufOf (F := F) c MX) (fw : BufOf (F := F) c MW) (fs : BufOf (F := F) c MS) (its : ℕ → Item) (p : BufOf (F := F) c A4 × BufOf (F := F) c A5) : ℕ → BufOf (F := F) c A4 × BufOf (F := F) c A5
  | 0 => p
  | k + 1 => outStep c A4 A5 fx fw fs (its k) (outs A4 A5 fx fw fs its p k)

theorem outs_succ (A4 : Memref sig .tc .vmem S6144x1024 .fp8e4m3) (A5 : Memref sig .tc .vmem S6144x1 .f32)
    (fx : BufOf (F := F) c MX) (fw : BufOf (F := F) c MW) (fs : BufOf (F := F) c MS) (its : ℕ → Item) (p : BufOf (F := F) c A4 × BufOf (F := F) c A5) (k : ℕ) :
    outs c A4 A5 fx fw fs its p (k + 1) = outStep c A4 A5 fx fw fs (its k) (outs c A4 A5 fx fw fs its p k) := rfl

/-- The weights' ring before trip `k` of `n`. -/
abbrev wAt (its : ℕ → Item) (n k : ℕ) (fw : BufOf (F := F) c MW) (fs : BufOf (F := F) c MS) : sProp 𝕄 :=
  if k < n then wBefore c (its k) fw fs else wFree c fw fs

abbrev inv6 (A4 : Memref sig .tc .vmem S6144x1024 .fp8e4m3) (A5 : Memref sig .tc .vmem S6144x1 .f32)
    (fx : BufOf (F := F) c MX) (fw : BufOf (F := F) c MW) (fs : BufOf (F := F) c MS) (T : BufOf (F := F) c M10) (its : ℕ → Item) (n : ℕ)
    (p : BufOf (F := F) c A4 × BufOf (F := F) c A5) (k : ℕ) (_w : BitVec 32) : sProp 𝕄 :=
  iprop(held c M10 T ∗ wAt c its n k fw fs ∗ xNext c (par k) (rap k) (if k < n then some (its k).rows else none) fx ∗ (∃ f9 : BufOf (F := F) c M9, held c M9 f9)
    ∗ own c A4 (outs c A4 A5 fx fw fs its p k).1 ∗ own c A5 (outs c A4 A5 fx fw fs its p k).2 ∗ ∃ W', owes (c : Thread nD τ) 0 W')

theorem step6 (A0 : Memref sig .tc .smem S8 .i32) (hA0 : A0.IsWhole) (A4 : Memref sig .tc .vmem S6144x1024 .fp8e4m3) (hA4 : A4.IsWhole) (A5 : Memref sig .tc .vmem S6144x1 .f32) (hA5 : A5.IsWhole) (n : BitVec 32) (hn : k0_chk4 n)
    (fx : BufOf (F := F) c MX) (fw : BufOf (F := F) c MW) (fs : BufOf (F := F) c MS) (T : BufOf (F := F) c M10) (its : ℕ → Item) (l : ℕ → ℕ) (hsc : Sched its n.toNat l)
    (hR : ∀ k : Fin 40, k.val < n.toNat → RowIs c T k (its k)) (p : BufOf (F := F) c A4 × BufOf (F := F) c A5) (k : Fin (k0_t6_loop n).trips) (w : BitVec 32) :
    inv6 c A4 A5 fx fw fs T its n.toNat p k.val w ⊢ wp frame (wpE (defs₀ (F := F)) Variants.none c none) Set.univ
      (k0_t6_body A0 hA0 MX (Memref.isWhole_whole _) MW (Memref.isWhole_whole _) MS (Memref.isWhole_whole _) A4 hA4 A5 hA5 M6 (Memref.isWhole_whole _) M7 (Memref.isWhole_whole _) M8 (Memref.isWhole_whole _) M9 (Memref.isWhole_whole _) M10 (Memref.isWhole_whole _) cc0_scratch5 cc0_scratch6 cc0_scratch7 n hn 0#32 k w) (inv6 c A4 A5 fx fw fs T its n.toNat p (k.val + 1)) := by
  have hk : k.val < n.toNat := lt_of_lt_of_eq k.isLt (trips6 n hsc.le)
  have hle := hsc.le
  unfold inv6 wAt
  rw [if_pos hk, if_pos hk]
  iintro ⟨HT, Hw, Hx, ⟨%f9, H9⟩, H4, H5, ⟨%W, Ho⟩⟩
  have hp1 : par (k.val + 1) = rap k.val := Fin.ext (by show (k.val + 1) % 2 = 1 - k.val % 2; omega)
  have hp2 : rap (k.val + 1) = par k.val := Fin.ext (by show 1 - (k.val + 1) % 2 = k.val % 2; omega)
  rw [hp1, hp2, outs_succ]
  unfold outStep
  dsimp only
  by_cases hl : k.val + 1 < n.toNat
  · rw [if_pos hl, if_pos hl]
    iapply (trip c A0 hA0 A4 hA4 A5 hA5 n hn k hsc.le ⟨k.val, by omega⟩ rfl fx fw fs T W (its k.val) (hR ⟨k.val, by omega⟩ hk) (some (its (k.val + 1)))
      ⟨⟨k.val + 1, by omega⟩, rfl, hl, hR ⟨k.val + 1, by omega⟩ hl⟩ (par k.val) (rap k.val) rfl rfl f9 _ _ w) $$ [HT Hw Hx H9 H4 H5 Ho]
    · isplitl [HT]; · iexact HT
      isplitl [Hw]; · iexact Hw
      isplitl [Hx]; · iexact Hx
      isplitl [H9]; · iexact H9
      isplitl [H4]; · iexact H4
      isplitl [H5]; · iexact H5
      iexact Ho
    iintro ⟨HT, Hw, Hx, H9, H4, H5, Ho⟩
    isplitl [HT]; · iexact HT
    isplitl [Hw]; · iapply (wStep c _ _ fw fs (hsc.step k.val hl)); iexact Hw
    isplitl [Hx]
    · iapply (show xNext c (rap k.val) (par k.val) (Option.map Item.rows (some (its (k.val + 1)))) fx ⊢ xNext c (rap k.val) (par k.val) (some (its (k.val + 1)).rows) fx from .rfl)
      iexact Hx
    isplitl [H9]; · iexact H9
    isplitl [H4]; · iexact H4
    isplitl [H5]; · iexact H5
    iexact Ho
  · rw [if_neg hl, if_neg hl]
    iapply (trip c A0 hA0 A4 hA4 A5 hA5 n hn k hsc.le ⟨k.val, by omega⟩ rfl fx fw fs T W (its k.val) (hR ⟨k.val, by omega⟩ hk) none
      hl (par k.val) (rap k.val) rfl rfl f9 _ _ w) $$ [HT Hw Hx H9 H4 H5 Ho]
    · isplitl [HT]; · iexact HT
      isplitl [Hw]; · iexact Hw
      isplitl [Hx]; · iexact Hx
      isplitl [H9]; · iexact H9
      isplitl [H4]; · iexact H4
      isplitl [H5]; · iexact H5
      iexact Ho
    iintro ⟨HT, Hw, Hx, H9, H4, H5, Ho⟩
    isplitl [HT]; · iexact HT
    isplitl [Hw]; · iapply (wEnd c _ fw fs (hsc.last k.val (by omega))); iexact Hw
    isplitl [Hx]
    · iapply (show xNext c (rap k.val) (par k.val) (Option.map Item.rows none) fx ⊢ xNext c (rap k.val) (par k.val) none fx from .rfl)
      iexact Hx
    isplitl [H9]; · iexact H9
    isplitl [H4]; · iexact H4
    isplitl [H5]; · iexact H5
    iexact Ho

/-! ## The body -/

theorem body_run (A0 : Memref sig .tc .smem S8 .i32) (hA0 : A0.IsWhole) (A4 : Memref sig .tc .vmem S6144x1024 .fp8e4m3) (hA4 : A4.IsWhole) (A5 : Memref sig .tc .vmem S6144x1 .f32) (hA5 : A5.IsWhole)
    (f0 : BufOf (F := F) c A0) (g : ℕ → ℕ) (hg : ∀ e : Fin 8, (gw c A0 f0 e).toNat = g e) (hs : lo g 8 = 6144)
    (T0 : BufOf (F := F) c M10) (fx : BufOf (F := F) c MX) (fw : BufOf (F := F) c MW) (fs : BufOf (F := F) c MS) (f9 : BufOf (F := F) c M9)
    (f4 : BufOf (F := F) c A4) (f5 : BufOf (F := F) c A5) (W) {Q : PUnit → sProp 𝕄} :
    iprop(own c A0 f0 ∗ held c M10 T0 ∗ held c MX fx ∗ held c MW fw ∗ held c MS fs ∗ held c M9 f9 ∗ own c A4 f4 ∗ own c A5 f5
      ∗ idle (F := F) c (cell6 0) (slot6 0) ∗ idle (F := F) c (cell6 1) (slot6 1) ∗ wOff (F := F) c 0 ∗ wOff (F := F) c 1 ∗ owes (c : Thread nD τ) 0 W)
    ⊢ iprop((iprop(own c A0 f0 ∗ (∃ T : BufOf (F := F) c M10, held c M10 T) ∗ held c MX fx ∗ held c MW fw ∗ held c MS fs ∗ (∃ f9 : BufOf (F := F) c M9, held c M9 f9)
        ∗ own c A4 (outs c A4 A5 fx fw fs (seq g) (f4, f5) (nb g 8)).1 ∗ own c A5 (outs c A4 A5 fx fw fs (seq g) (f4, f5) (nb g 8)).2
        ∗ idle (F := F) c (cell6 0) (slot6 0) ∗ idle (F := F) c (cell6 1) (slot6 1) ∗ wOff (F := F) c 0 ∗ wOff (F := F) c 1 ∗ ∃ W', owes (c : Thread nD τ) 0 W') -∗ Q ⟨⟩) -∗
      wp frame (wpE (defs₀ (F := F)) Variants.none c none) Set.univ (cc0_moe_gate_up A0 hA0 MX (Memref.isWhole_whole _) MW (Memref.isWhole_whole _) MS (Memref.isWhole_whole _) A4 hA4 A5 hA5 M6 (Memref.isWhole_whole _) M7 (Memref.isWhole_whole _) M8 (Memref.isWhole_whole _) M9 (Memref.isWhole_whole _) M10 (Memref.isWhole_whole _) cc0_scratch5 cc0_scratch6 cc0_scratch7) Q) := by
  have hsc := sched g hs
  rw [cc0_moe_gate_up_eq_skeleton]
  unfold cc0_moe_gate_up_skel
  rw [wp_bind]
  iintro ⟨H0, HT, HX, HW, HS, H9, H4, H5, Hx0, Hx1, ⟨Ha0, Hb0⟩, Hw1, Ho⟩ HQ
  iapply (part48_run c A0 hA0 A4 hA4 A5 hA5 f0 g hg hs T0 fx fw fs W) $$ [H0 HT HX HW HS Hx0 Ha0 Hb0 Ho]
  · isplitl [H0]; · iexact H0
    isplitl [HT]; · iexact HT
    isplitl [HX]; · iexact HX
    isplitl [HW]; · iexact HW
    isplitl [HS]; · iexact HS
    isplitl [Hx0]; · iexact Hx0
    isplitl [Ha0]; · iexact Ha0
    isplitl [Hb0]; · iexact Hb0
    iexact Ho
  iintro %n %hn %T ⟨%hT, H0, HT, Hx0, Hw0, Ho⟩
  obtain ⟨hnn, hR⟩ := hT
  dsimp only
  have hsc' : Sched (seq g) n.toNat (lo g) := by rw [hnn]; exact hsc
  have hwb : iprop(wGo c 0 (seq g 0).e fw fs ∗ wOff (F := F) c 1) ⊢ wBefore c (seq g 0) fw fs := by
    obtain ⟨h1, h2⟩ := seq0 g hs
    unfold wBefore
    rw [h1, h2]
    exact .rfl
  sl_for (inv6 c A4 A5 fx fw fs T (seq g) n.toNat (f4, f5)) $$ [HT Hx0 Hx1 Hw0 Hw1 H9 H4 H5 Ho]
  · exact step6 c A0 hA0 A4 hA4 A5 hA5 n hn fx fw fs T (seq g) (lo g) hsc' (fun k hk => rows_seq c g T hR k (by rw [← hnn]; exact hk)) (f4, f5)
  · unfold inv6 wAt
    rw [if_pos hsc'.pos, if_pos hsc'.pos]
    isplitl [HT]; · iexact HT
    isplitl [Hw0 Hw1]
    · iapply hwb
      isplitl [Hw0]; · iexact Hw0
      iexact Hw1
    isplitl [Hx0 Hx1]
    · isplitl [Hx0]; · iexact Hx0
      iexact Hx1
    isplitl [H9]; · iexists f9; iexact H9
    isplitl [H4]; · iexact H4
    isplitl [H5]; · iexact H5
    iexact Ho
  iintro %v27 HI
  have z7 := trips7 n hsc'.le
  sl_for0 z7
  have h6 : (k0_t6_loop n).trips = n.toNat := trips6 n hsc'.le
  have hI : inv6 c A4 A5 fx fw fs T (seq g) n.toNat (f4, f5) (k0_t6_loop n).trips v27
      ⊢ iprop(held c M10 T ∗ wFree c fw fs ∗ (held c MX fx ∗ idle (F := F) c (cell6 0) (slot6 0) ∗ idle (F := F) c (cell6 1) (slot6 1)) ∗ (∃ f9 : BufOf (F := F) c M9, held c M9 f9)
    ∗ own c A4 (outs c A4 A5 fx fw fs (seq g) (f4, f5) (nb g 8)).1 ∗ own c A5 (outs c A4 A5 fx fw fs (seq g) (f4, f5) (nb g 8)).2 ∗ ∃ W', owes (c : Thread nD τ) 0 W') := by
    rw [h6]
    unfold inv6 wAt
    rw [if_neg (lt_irrefl _), if_neg (lt_irrefl _), hnn]
    have hpar : ∀ k, iprop(held c MX fx ∗ idle (F := F) c (cell6 (par k)) (slot6 (par k)) ∗ idle (F := F) c (cell6 (rap k)) (slot6 (rap k))) ⊢ iprop(held c MX fx ∗ idle (F := F) c (cell6 0) (slot6 0) ∗ idle (F := F) c (cell6 1) (slot6 1)) := by
      intro k
      rcases Nat.mod_two_eq_zero_or_one k with h | h
      · have h1 : par k = 0 := Fin.ext h
        have h2 : rap k = 1 := Fin.ext (by show 1 - k % 2 = 1; omega)
        rw [h1, h2]
      · have h1 : par k = 1 := Fin.ext h
        have h2 : rap k = 0 := Fin.ext (by show 1 - k % 2 = 0; omega)
        rw [h1, h2]
        iintro ⟨HX, Ha, Hb⟩
        isplitl [HX]; · iexact HX
        isplitl [Hb]; · iexact Hb
        iexact Ha
    iintro ⟨HT, Hw, Hx, H9, H4, H5, Ho⟩
    isplitl [HT]; · iexact HT
    isplitl [Hw]; · iexact Hw
    isplitl [Hx]; · iapply (hpar (nb g 8)); iexact Hx
    isplitl [H9]; · iexact H9
    isplitl [H4]; · iexact H4
    isplitl [H5]; · iexact H5
    iexact Ho
  ihave HJ := hI $$ HI
  icases HJ with ⟨HT, ⟨HW, HS, Hw0, Hw1⟩, ⟨HX, Hx0, Hx1⟩, H9, H4, H5, Ho⟩
  sl_exec
  simp only [wp_ret]; imodintro
  iapply HQ
  isplitl [H0]; · iexact H0
  isplitl [HT]; · iexists T; iexact HT
  isplitl [HX]; · iexact HX
  isplitl [HW]; · iexact HW
  isplitl [HS]; · iexact HS
  isplitl [H9]; · iexact H9
  isplitl [H4]; · iexact H4
  isplitl [H5]; · iexact H5
  isplitl [Hx0]; · iexact Hx0
  isplitl [Hx1]; · iexact Hx1
  isplitl [Hw0]; · iexact Hw0
  isplitl [Hw1]; · iexact Hw1
  iexact Ho

end Cert.KernelIdeal.Hand

end
-- ==== Proof.ILaunch.lean ====
module

public import proofs.«01_k».proof.Proof.IRun
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The scratch buffers cut into their slots -/

theorem set6 (s : Fin 2) : (slot6 s).view.set = (M6.view.slice (Rect.unit (s := S2x256x2816) ![s.val, 0, 0] S1x256x2816.size (inb6 s))).set := View.set_reshape _ _
theorem disj6 : ∀ s s' : Fin 2, s ≠ s' → Disjoint (slot6 s).view.set (slot6 s').view.set := by
  intro s s' h
  rw [set6, set6, View.set_slice, View.set_slice, Finset.disjoint_map, Finset.disjoint_left]
  intro x hx hx'
  have h0 := Rect.mem_set_unit.1 hx 0
  have h1 := Rect.mem_set_unit.1 hx' 0
  have h0' : s.val ≤ (x 0).val ∧ (x 0).val < s.val + 1 := h0
  have h1' : s'.val ≤ (x 0).val ∧ (x 0).val < s'.val + 1 := h1
  exact h (Fin.ext (by omega))
/-- The elements of buffer 6 outside its slots. -/
abbrev spare6 (c : Dev nD) : sProp 𝕄 :=
  iprop(∃ f : BufOf (F := F) c M6, M6.view.loc (c : Thread nD τ) ↦[Finset.univ \ Finset.univ.biUnion fun s : Fin 2 => (slot6 s).view.set]{fullShare} f)
theorem split6 (c : Dev nD) :
    iprop(∃ f : BufOf (F := F) c M6, held c M6 f) ⊢ (iprop(((∃ f, own c (slot6 0) f) ∗ ∃ f, own c (slot6 1) f) ∗ spare6 c) : sProp 𝕄) :=
  Ring.slots2_split_spare (ℓ := M6.view.loc (c : Thread nD τ)) (q := fullShare) (fun s : Fin 2 => (slot6 s).view.set) disj6 (fun f => own c (slot6 0) f) (fun f => own c (slot6 1) f) (fun _ => rfl) (fun _ => rfl)
theorem join6 (c : Dev nD) :
    (iprop(((∃ f, own c (slot6 0) f) ∗ ∃ f, own c (slot6 1) f) ∗ spare6 c) : sProp 𝕄) ⊢ iprop(∃ f : BufOf (F := F) c M6, held c M6 f) :=
  Ring.slots2_join_spare (ℓ := M6.view.loc (c : Thread nD τ)) (q := fullShare) (fun s : Fin 2 => (slot6 s).view.set) disj6 (fun f => own c (slot6 0) f) (fun f => own c (slot6 1) f) (fun _ => rfl) (fun _ => rfl)

theorem set7 (s : Fin 2) : (slot7 s).view.set = (M7.view.slice (Rect.unit (s := S2x1408x2048) ![s.val, 0, 0] S1x1408x2048.size (inb7 s))).set := View.set_reshape _ _
theorem disj7 : ∀ s s' : Fin 2, s ≠ s' → Disjoint (slot7 s).view.set (slot7 s').view.set := by
  intro s s' h
  rw [set7, set7, View.set_slice, View.set_slice, Finset.disjoint_map, Finset.disjoint_left]
  intro x hx hx'
  have h0 := Rect.mem_set_unit.1 hx 0
  have h1 := Rect.mem_set_unit.1 hx' 0
  have h0' : s.val ≤ (x 0).val ∧ (x 0).val < s.val + 1 := h0
  have h1' : s'.val ≤ (x 0).val ∧ (x 0).val < s'.val + 1 := h1
  exact h (Fin.ext (by omega))
/-- The elements of buffer 7 outside its slots. -/
abbrev spare7 (c : Dev nD) : sProp 𝕄 :=
  iprop(∃ f : BufOf (F := F) c M7, M7.view.loc (c : Thread nD τ) ↦[Finset.univ \ Finset.univ.biUnion fun s : Fin 2 => (slot7 s).view.set]{fullShare} f)
theorem split7 (c : Dev nD) :
    iprop(∃ f : BufOf (F := F) c M7, held c M7 f) ⊢ (iprop(((∃ f, own c (slot7 0) f) ∗ ∃ f, own c (slot7 1) f) ∗ spare7 c) : sProp 𝕄) :=
  Ring.slots2_split_spare (ℓ := M7.view.loc (c : Thread nD τ)) (q := fullShare) (fun s : Fin 2 => (slot7 s).view.set) disj7 (fun f => own c (slot7 0) f) (fun f => own c (slot7 1) f) (fun _ => rfl) (fun _ => rfl)
theorem join7 (c : Dev nD) :
    (iprop(((∃ f, own c (slot7 0) f) ∗ ∃ f, own c (slot7 1) f) ∗ spare7 c) : sProp 𝕄) ⊢ iprop(∃ f : BufOf (F := F) c M7, held c M7 f) :=
  Ring.slots2_join_spare (ℓ := M7.view.loc (c : Thread nD τ)) (q := fullShare) (fun s : Fin 2 => (slot7 s).view.set) disj7 (fun f => own c (slot7 0) f) (fun f => own c (slot7 1) f) (fun _ => rfl) (fun _ => rfl)

theorem set8 (s : Fin 2) : (slot8 s).view.set = (M8.view.slice (Rect.unit (s := S2x22x2048) ![s.val, 0, 0] S1x22x2048.size (inb8 s))).set := View.set_reshape _ _
theorem disj8 : ∀ s s' : Fin 2, s ≠ s' → Disjoint (slot8 s).view.set (slot8 s').view.set := by
  intro s s' h
  rw [set8, set8, View.set_slice, View.set_slice, Finset.disjoint_map, Finset.disjoint_left]
  intro x hx hx'
  have h0 := Rect.mem_set_unit.1 hx 0
  have h1 := Rect.mem_set_unit.1 hx' 0
  have h0' : s.val ≤ (x 0).val ∧ (x 0).val < s.val + 1 := h0
  have h1' : s'.val ≤ (x 0).val ∧ (x 0).val < s'.val + 1 := h1
  exact h (Fin.ext (by omega))
/-- The elements of buffer 8 outside its slots. -/
abbrev spare8 (c : Dev nD) : sProp 𝕄 :=
  iprop(∃ f : BufOf (F := F) c M8, M8.view.loc (c : Thread nD τ) ↦[Finset.univ \ Finset.univ.biUnion fun s : Fin 2 => (slot8 s).view.set]{fullShare} f)
theorem split8 (c : Dev nD) :
    iprop(∃ f : BufOf (F := F) c M8, held c M8 f) ⊢ (iprop(((∃ f, own c (slot8 0) f) ∗ ∃ f, own c (slot8 1) f) ∗ spare8 c) : sProp 𝕄) :=
  Ring.slots2_split_spare (ℓ := M8.view.loc (c : Thread nD τ)) (q := fullShare) (fun s : Fin 2 => (slot8 s).view.set) disj8 (fun f => own c (slot8 0) f) (fun f => own c (slot8 1) f) (fun _ => rfl) (fun _ => rfl)
theorem join8 (c : Dev nD) :
    (iprop(((∃ f, own c (slot8 0) f) ∗ ∃ f, own c (slot8 1) f) ∗ spare8 c) : sProp 𝕄) ⊢ iprop(∃ f : BufOf (F := F) c M8, held c M8 f) :=
  Ring.slots2_join_spare (ℓ := M8.view.loc (c : Thread nD τ)) (q := fullShare) (fun s : Fin 2 => (slot8 s).view.set) disj8 (fun f => own c (slot8 0) f) (fun f => own c (slot8 1) f) (fun _ => rfl) (fun _ => rfl)

variable (m : (ℓ : Loc nD τ sig) → Buf (Elt F) ℓ) (ρ : Dev nD → PrngReg)

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-! ## The body's own cells and operands -/

abbrev osem0 : Fin 6 → SemLoc sig := fun j => (![SemLoc.dma 3, SemLoc.dma 4, SemLoc.dma 5, SemLoc.dma 6, SemLoc.dma 7, SemLoc.dma 8] : Fin 6 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), cell6 0) 0 ∗ semVal ((c : Thread nD τ), cell6 1) 0
          ∗ semVal ((c : Thread nD τ), cell7 0) 0 ∗ semVal ((c : Thread nD τ), cell7 1) 0
          ∗ semVal ((c : Thread nD τ), cell8 0) 0 ∗ semVal ((c : Thread nD τ), cell8 1) 0) := by
  rw [Pipeline.ownSems0_eq_of_list c osem0 [0, 1, 2, 3, 4, 5] (by decide) (by decide)]; rfl
def H0 : Finset (Ref sig .tc) := {main_arg0, main_arg2, main_arg3}
theorem H0_sub : H0 ⊆ Pipeline.restRefs sig spec0 := by decide
theorem hbmPts0_eq (c : Dev nD) :
    (bigSep H0 (fun b => ((c : Thread nD τ).loc b) ↦{fullShare} V m c b) : sProp 𝕄)
      = iprop(held c MX (V m c main_arg0) ∗ held c MW (V m c main_arg2) ∗ held c MS (V m c main_arg3)) := by
  rw [BI.bigSep_eq_bigSepL_of_eq [main_arg0, main_arg2, main_arg3] (by decide) (by decide)]; rfl

theorem PhiD0_eq (c : Dev nD) :
    (Pipeline.ΦD osem0 spec0 H0 (V m) c : sProp 𝕄)
      = iprop(iprop((∃ f : BufOf (F := F) c M6, held c M6 f) ∗ (∃ f : BufOf (F := F) c M7, held c M7 f) ∗ (∃ f : BufOf (F := F) c M8, held c M8 f)
            ∗ (∃ f : BufOf (F := F) c M9, held c M9 f) ∗ (∃ f : BufOf (F := F) c M10, held c M10 f))
          ∗ (∃ r, prngReg c r)
          ∗ iprop(semVal ((c : Thread nD τ), cell6 0) 0 ∗ semVal ((c : Thread nD τ), cell6 1) 0
          ∗ semVal ((c : Thread nD τ), cell7 0) 0 ∗ semVal ((c : Thread nD τ), cell7 1) 0
          ∗ semVal ((c : Thread nD τ), cell8 0) 0 ∗ semVal ((c : Thread nD τ), cell8 1) 0)
          ∗ iprop(held c MX (V m c main_arg0) ∗ held c MW (V m c main_arg2) ∗ held c MS (V m c main_arg3))) := by
  rw [Pipeline.ΦD_eq, scopedRest0_eq, ownSems00_eq, hbmPts0_eq]; try rfl

/-! ## The group sizes -/

/-- Group `e`'s size at launch. -/
def gs (c : Dev nD) (e : ℕ) : ℕ := if h : e < 8 then (V m c main_arg1 (ix1 (⟨e, h⟩ : Fin 8))).toNat else 0

/-- What the launch memory is asked: the group sizes share out the rows. -/
def Ok : Prop := ∀ c : Dev nD, lo (gs m c) 8 = 6144

theorem gs_iblk (c : Dev nD) (t : Fin cfg0.N) (e : Fin 8) : (iblk m c 0 t (ix1 e)).toNat = gs m c e.val := by
  unfold gs
  rw [dif_pos e.isLt]
  unfold iblk
  rw [View.read_apply, cast_eq]
  congr 2
  funext a
  apply Fin.ext
  fin_cases a
  show 0 * 8 + 1 * e.val = e.val
  omega

/-! ## The body on its staging buffers -/

abbrev sA0 (t : Fin cfg0.N) : Memref sig .tc .smem S8 .i32 := win0_0.stage (cfg0.slots t 0)
abbrev sA4 (t : Fin cfg0.N) : Memref sig .tc .vmem S6144x1024 .fp8e4m3 := win0_1.stage (cfg0.slots t 1)
abbrev sA5 (t : Fin cfg0.N) : Memref sig .tc .vmem S6144x1 .f32 := win0_2.stage (cfg0.slots t 2)

theorem body_step (c : Dev nD) (t : Fin cfg0.N) (hok : Ok m) (f0 : BufOf (F := F) c (sA0 t)) (hf0 : (sA0 t).view.read (Elt F) f0 = iblk m c 0 t)
    (f4 : BufOf (F := F) c (sA4 t)) (f5 : BufOf (F := F) c (sA5 t)) (W) {Q : PUnit → sProp 𝕄} :
    iprop(Pipeline.ΦD osem0 spec0 H0 (V m) c ∗ owes (c : Thread nD τ) 0 W ∗ own c (sA0 t) f0 ∗ own c (sA4 t) f4 ∗ own c (sA5 t) f5)
    ⊢ iprop((iprop(Pipeline.ΦD osem0 spec0 H0 (V m) c ∗ (∃ W', owes (c : Thread nD τ) 0 W') ∗ own c (sA0 t) f0
        ∗ own c (sA4 t) (outs c (sA4 t) (sA5 t) (V m c main_arg0) (V m c main_arg2) (V m c main_arg3) (seq (gs m c)) (f4, f5) (nb (gs m c) 8)).1
        ∗ own c (sA5 t) (outs c (sA4 t) (sA5 t) (V m c main_arg0) (V m c main_arg2) (V m c main_arg3) (seq (gs m c)) (f4, f5) (nb (gs m c) 8)).2) -∗ Q ⟨⟩) -∗
      wp frame (wpE (defs₀ (F := F)) Variants.none c none) Set.univ (bodyAt0 t) Q) := by
  rw [PhiD0_eq]
  unfold bodyAt0
  iintro ⟨⟨⟨H6, H7, H8, ⟨%f9, H9⟩, ⟨%T0, H10⟩⟩, Hg, ⟨Ha0, Ha1, Hb0, Hb1, Hc0, Hc1⟩, ⟨HX, HW, HS⟩⟩, Ho, H0, H4, H5⟩ HQ
  ihave H6' := split6 (F := F) c $$ H6
  icases H6' with ⟨⟨H60, H61⟩, H6s⟩
  ihave H7' := split7 (F := F) c $$ H7
  icases H7' with ⟨⟨H70, H71⟩, H7s⟩
  ihave H8' := split8 (F := F) c $$ H8
  icases H8' with ⟨⟨H80, H81⟩, H8s⟩
  iapply (body_run c (sA0 t) (hstage0_0 0) (sA4 t) (hstage0_1 0) (sA5 t) (hstage0_2 0) f0 (gs m c)
    (fun e => by unfold gw; rw [hf0]; exact gs_iblk m c t e) (hok c) T0 (V m c main_arg0) (V m c main_arg2) (V m c main_arg3) f9 f4 f5 W)
      $$ [H0 H10 HX HW HS H9 H4 H5 Ha0 Ha1 Hb0 Hb1 Hc0 Hc1 H60 H61 H70 H71 H80 H81 Ho]
  · isplitl [H0]; · iexact H0
    isplitl [H10]; · iexact H10
    isplitl [HX]; · iexact HX
    isplitl [HW]; · iexact HW
    isplitl [HS]; · iexact HS
    isplitl [H9]; · iexact H9
    isplitl [H4]; · iexact H4
    isplitl [H5]; · iexact H5
    isplitl [Ha0 H60]
    · isplitl [Ha0]; · iexact Ha0
      iexact H60
    isplitl [Ha1 H61]
    · isplitl [Ha1]; · iexact Ha1
      iexact H61
    isplitl [Hb0 H70 Hc0 H80]
    · isplitl [Hb0 H70]
      · isplitl [Hb0]; · iexact Hb0
        iexact H70
      isplitl [Hc0]; · iexact Hc0
      iexact H80
    isplitl [Hb1 H71 Hc1 H81]
    · isplitl [Hb1 H71]
      · isplitl [Hb1]; · iexact Hb1
        iexact H71
      isplitl [Hc1]; · iexact Hc1
      iexact H81
    iexact Ho
  iintro ⟨H0, H10, HX, HW, HS, H9, H4, H5, ⟨Ha0, H60⟩, ⟨Ha1, H61⟩, ⟨⟨Hb0, H70⟩, ⟨Hc0, H80⟩⟩, ⟨⟨Hb1, H71⟩, ⟨Hc1, H81⟩⟩, Ho⟩
  iapply HQ
  isplitl [H6s H7s H8s H60 H61 H70 H71 H80 H81 H9 H10 Hg Ha0 Ha1 Hb0 Hb1 Hc0 Hc1 HX HW HS]
  · isplitl [H6s H7s H8s H60 H61 H70 H71 H80 H81 H9 H10]
    · isplitl [H6s H60 H61]
      · iapply join6 (F := F) c
        isplitl [H60 H61]
        · isplitl [H60]; · iexact H60
          iexact H61
        iexact H6s
      isplitl [H7s H70 H71]
      · iapply join7 (F := F) c
        isplitl [H70 H71]
        · isplitl [H70]; · iexact H70
          iexact H71
        iexact H7s
      isplitl [H8s H80 H81]
      · iapply join8 (F := F) c
        isplitl [H80 H81]
        · isplitl [H80]; · iexact H80
          iexact H81
        iexact H8s
      isplitl [H9]; · iexact H9
      iexact H10
    isplitl [Hg]; · iexact Hg
    isplitl [Ha0 Ha1 Hb0 Hb1 Hc0 Hc1]
    · isplitl [Ha0]; · iexact Ha0
      isplitl [Ha1]; · iexact Ha1
      isplitl [Hb0]; · iexact Hb0
      isplitl [Hb1]; · iexact Hb1
      isplitl [Hc0]; · iexact Hc0
      iexact Hc1
    isplitl [HX]; · iexact HX
    isplitl [HW]; · iexact HW
    iexact HS
  isplitl [Ho]; · iexact Ho
  isplitl [H0]; · iexact H0
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

end Cert.KernelIdeal.Hand

end
-- ==== Proof.IFrame.lean ====
module

public import proofs.«01_k».proof.Proof.ILaunch
public import proofs.«01_k».proof.Proof.KPre

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

/-! ## The frame: the results forgotten -/

def forgets0 : Fin 3 → Bool := fun | 0 => false | 1 => true | 2 => true | ⟨_ + 3, h⟩ => absurd h (Nat.not_lt.2 (Nat.le_add_left _ _))

/-- The proof data: the group sizes left as found, the results unnamed. -/
def datsF (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, h⟩ => Pipeline.Dat.unnamed (cfg := cfg0) ⟨1, h⟩ t
    | ⟨2, h⟩ => Pipeline.Dat.unnamed (cfg := cfg0) ⟨2, h⟩ t
  Φ _ := Pipeline.ΦD osem0 spec0 H0 (V m) c
  q _ := fullShare
  owed _ := 0

theorem A_eqF (c : Dev nD) (w : Fin cfg0.W) : (datsF m 0 c).A w = V m c (Pipeline.arrRef spec0 w) := by dsimp only [datsF]
theorem afterF_0 (c : Dev nD) (t : Fin cfg0.N) : (datsF m 0 c).after 0 t = iblk m c 0 t := by dsimp only [datsF]

theorem before_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

def bodyPreF (c : Dev nD) (t : Fin cfg0.N) : sProp 𝕄 :=
  iprop((datsF m 0 c).Φ t.castSucc ∗ (datsF m 0 c).owesAt () t.castSucc
    ∗ (∃ d, owns (c : Thread nD τ) (sA0 t) fullShare ((datsF m 0 c).before 0 t d))
    ∗ (∃ d, owns (c : Thread nD τ) (sA4 t) fullShare d) ∗ (∃ d, owns (c : Thread nD τ) (sA5 t) fullShare d))
def bodyPostF (c : Dev nD) (t : Fin cfg0.N) : sProp 𝕄 :=
  iprop((datsF m 0 c).Φ t.succ ∗ (datsF m 0 c).owesAt () t.succ
    ∗ owns (c : Thread nD τ) (sA0 t) fullShare ((datsF m 0 c).after 0 t)
    ∗ (∃ d, owns (c : Thread nD τ) (sA4 t) fullShare d) ∗ (∃ d, owns (c : Thread nD τ) (sA5 t) fullShare d))

theorem sound_bodyF (hok : Ok m) (c : Dev nD) (t : Fin cfg0.N) :
    bodyPreF m c t ⊢ wp frame (wpE (defs₀ (F := F)) Variants.none c none) Set.univ (bodyAt0 t) (fun _ => bodyPostF m c t) := by
  unfold bodyPreF bodyPostF
  rw [show (datsF m 0 c).Φ t.succ = (datsF m 0 c).Φ t.castSucc from rfl,
    show (datsF m 0 c).owesAt () t.succ = (datsF m 0 c).owesAt () t.castSucc from rfl,
    show (datsF m 0 c).Φ t.castSucc = Pipeline.ΦD osem0 spec0 H0 (V m) c from rfl, afterF_0]
  unfold Dat.owesAt Pipeline.owesWithin
  rw [show (datsF m 0 c).owed t.castSucc = 0 from rfl]
  unfold owns
  iintro ⟨HΦ, ⟨%W, -, HW⟩, ⟨%d0, %f0, %hf0, H0⟩, ⟨%d4, %f4, -, H4⟩, ⟨%d5, %f5, -, H5⟩⟩
  rw [before_of m (datsF m 0 c) (A_eqF m c 0) (afterF_0 m c) t d0] at hf0
  iapply (body_step m c t hok f0 hf0 f4 f5 W) $$ [HΦ HW H0 H4 H5]
  · isplitl [HΦ]; · iexact HΦ
    isplitl [HW]; · iexact HW
    isplitl [H0]; · iexact H0
    isplitl [H4]; · iexact H4
    iexact H5
  iintro ⟨HΦ, ⟨%W', HW⟩, H0, H4, H5⟩
  isplitl [HΦ]; · iexact HΦ
  isplitl [HW]
  · iexists W'; isplitr; · ipureintro; exact fun _ _ => Or.inl trivial
    iexact HW
  isplitl [H0]
  · iexists f0; isplitr; · ipureintro; exact hf0
    iexact H0
  isplitl [H4]
  · iexists _, _; isplitr; swap; · iexact H4
    ipureintro; rfl
  iexists _, _; isplitr; swap; · iexact H5
  ipureintro; rfl

theorem body_obligationF (hok : Ok m) (c : Dev nD) : BodyObligation (datsF (F := F) m 0 c) (defs₀ (F := F)) Variants.none () Set.univ forgets0 := fun t => by
  rw [bigSep_W0, bigSep_W0, defs₀_row]
  exact triple_restated (sound_bodyF m hok c t) rfl .rfl fun _ => .rfl

set_option backward.isDefEq.respectTransparency.types false in
theorem run_mainF (hok : Ok m) :
    θ_run defs (onTc (τ := τ) (main (F := F))) (s₀ m ρ)
      (fun r => Pipeline.RDat.FramePost (cfgs 0) (fun c => (datsF m 0 c).toRForget forgets0) (V m) r ∧ r.2.sem = fun _ => 0) :=
  Pipeline.θ_run_frame_dma_forget (Q' := _) cfgs (datsF m) (0 : Fin 1) launch0 osem0 defs₀ Variants.none forgets0 ownSemFacts0 H0 H0_sub m ρ main
    (hbody := fun c => (body_obligationF m hok c).loose) (hshare := fun c => (datsF m 0 c).share_full fun _ => rfl)
    (howed := fun _ _ => rfl) (V := V m) (hmain := hmainD m Variants.none) (hA := A_eqF m)
    (hin := fun _ => .rfl) (hout := fun _ => .rfl)

/-- The run ends with the arguments as they were and every counter at zero. -/
theorem quiet (hok : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h.1 c).2 main_arg0 (Pipeline.mem_restRefs_of main_arg0 (by decide) (by decide)),
      (((datsF m 0 c).toRForget_arrAt_iff (fgt := forgets0) (w := 0) rfl _ _).1 ((h.1 c).1 0)).trans (((datsF m 0 c).arrAt_in 0 rfl _).trans (A_eqF m c 0)),
      (h.1 c).2 main_arg2 (Pipeline.mem_restRefs_of main_arg2 (by decide) (by decide)),
      (h.1 c).2 main_arg3 (Pipeline.mem_restRefs_of main_arg3 (by decide) (by decide))⟩, h.2⟩) (run_mainF m ρ hok)

/-- The precondition gives what the run asks. -/
theorem ok_of_pre [Cert.Pre_groups_partition_rows.Facts]
    (h : ∀ c : Dev nD, Cert.Pre_groups_partition_rows.fn (F := F) (m ((c.tc : Thread nD τ).loc main_arg0)) (m ((c.tc : Thread nD τ).loc main_arg1))
      (m ((c.tc : Thread nD τ).loc main_arg2)) (m ((c.tc : Thread nD τ).loc main_arg3)) = fun _ => 1#1) : Ok m := by
  intro c
  have e := Cert.Words.decode _ _ _ _ (h c)
  simp only [lo, gs]
  rw [dif_pos (by decide), dif_pos (by decide), dif_pos (by decide), dif_pos (by decide), dif_pos (by decide), dif_pos (by decide), dif_pos (by decide), dif_pos (by decide)]
  rw [← e, Nat.zero_add]
  rfl

end Cert.KernelIdeal.Hand

end
-- ==== Proof.VDq.lean ====
module

public import proofs.«01_k».proof.Proof.IVals
public import Idealize.ShloMosaic.Lib.Pointwise

@[expose] public section

set_option maxRecDepth 16384

noncomputable section

namespace Cert.KernelIdeal.Hand

open Idealize.ShloMosaic Idealize.SL.Sem

open Cert.KernelIdeal Cert.KernelIdeal.Gen

/-! ## The kernel's weights, block by block -/

theorem slices_w (n : Fin 22) : S2816x256.Slices ![128 * n.val, 0] S128x256 := ⟨rfl, fun a => by
  have := n.isLt
  match a with
  | ⟨0, _⟩ => show 128 * n.val + 128 ≤ 2816; omega
  | ⟨1, _⟩ => show 0 + 256 ≤ 256; omega⟩
theorem slices_s (n : Fin 22) : S22x256.Slices ![n.val, 0] S1x256 := ⟨rfl, fun a => by
  have := n.isLt
  match a with
  | ⟨0, _⟩ => show n.val + 1 ≤ 22; omega
  | ⟨1, _⟩ => show 0 + 256 ≤ 256; omega⟩

/-- One quantisation group of a block: its codes times its scale row. -/
def dqp (wv : Vec Ideal S1x1408x256 .i8) (sv : Vec Ideal S1x22x256 .bf16) (n : Fin 22) : FVec Ideal S128x256 .bf16 :=
  mulf (sitofp .bf16 (extractStridedSlice S128x256 ![128 * n.val, 0] (k0_pay9 (k0_pay7 (F := Ideal) wv)) (slices_w n)))
    (broadcastTo S128x256 (extractStridedSlice S1x256 ![n.val, 0] (k0_pay8 sv) (slices_s n)) broadcasts_S1x256_S128x256)
/-- A block of weights: its 22 groups one under the other. -/
def dq (wv : Vec Ideal S1x1408x256 .i8) (sv : Vec Ideal S1x22x256 .bf16) : FVec Ideal S2816x256 .bf16 :=
  concatenate S2816x256 0 (List.ofFn fun n : Fin 22 => (⟨S128x256, dqp wv sv n⟩ : (s : Shape) × (s.Idx → EReal))) concatenates_S128x256_S128x256_S128x256_S128x256_S128x256_S128x256_S128x256_S128x256_S128x256_S128x256_S128x256_S128x256_S128x256_S128x256_S128x256_S128x256_S128x256_S128x256_S128x256_S128x256_S128x256_S128x256_S2816x256_d0

/-- A block of activations from the block's two weight blocks. -/
def blk (x : FVec Ideal S256x2816 .bf16) (g u : FVec Ideal S2816x256 .bf16) : FVec Ideal S256x256 .f32 :=
  mulf (mulf (matmul dot_S256x2816_S2816x256_S256x256_1_0_0_1_n_n none x g (constant S256x256 .f32 0x00000000#32)) (logistic (matmul dot_S256x2816_S2816x256_S256x256_1_0_0_1_n_n none x g (constant S256x256 .f32 0x00000000#32)))) (matmul dot_S256x2816_S2816x256_S256x256_1_0_0_1_n_n none x u (constant S256x256 .f32 0x00000000#32))
/-- The row maxima of a block's magnitudes. -/
def mx (h : FVec Ideal S256x256 .f32) : FVec Ideal S256x1 .f32 :=
  shapeCast S256x1 (multiReduction .maximumf [1] S256 (absf h) 0xFF800000#32 reduces_S256x256_S256 (.inl rfl) rfl) shapeCasts_S256_S256x1

variable (x : Vec Ideal S1x256x2816 .bf16) (w : Fin 8 → Vec Ideal S1x1408x256 .i8) (s : Fin 8 → Vec Ideal S1x22x256 .bf16)

/-- Block `j` of the trip's activations. -/
def hb (j : Fin 4) : FVec Ideal S256x256 .f32 := blk (k0_pay6 x) (dq (w ⟨j.val, by omega⟩) (s ⟨j.val, by omega⟩)) (dq (w ⟨j.val + 4, by omega⟩) (s ⟨j.val + 4, by omega⟩))

theorem c186_eq : c186 w s = dq (w 0) (s 0) := rfl
theorem c456_eq : c456 w s = dq (w 1) (s 1) := rfl
theorem c726_eq : c726 w s = dq (w 2) (s 2) := rfl
theorem c996_eq : c996 w s = dq (w 3) (s 3) := rfl

theorem ablk0_eq : ablk0 x w s = shapeCast S256x256 (hb x w s 0) shapeCasts_S256x256_S256x256 := rfl
theorem ablk1_eq : ablk1 x w s = shapeCast S256x256 (hb x w s 1) shapeCasts_S256x256_S256x256 := rfl
theorem ablk2_eq : ablk2 x w s = shapeCast S256x256 (hb x w s 2) shapeCasts_S256x256_S256x256 := rfl
theorem ablk3_eq : ablk3 x w s = shapeCast S256x256 (hb x w s 3) shapeCasts_S256x256_S256x256 := rfl
theorem c327_eq : c327 x w s = maximumf (k0_pay5 (F := Ideal)) (mx (hb x w s 0)) := rfl
theorem c597_eq : c597 x w s = maximumf (c327 x w s) (mx (hb x w s 1)) := rfl
theorem c867_eq : c867 x w s = maximumf (c597 x w s) (mx (hb x w s 2)) := rfl
theorem c1139_eq : c1139 x w s = mulf (maximumf (c867 x w s) (mx (hb x w s 3))) (broadcast S256x1 (Scalar.ofBits .f32 0x3B124925#32)) := rfl

end Cert.KernelIdeal.Hand

end
-- ==== Proof.VExp.lean ====
module

public import Idealize.ShloMosaic.Lib.Pointwise
public import Idealize.ShloMosaic.Lib.IndicatorCount

@[expose] public section

set_option maxRecDepth 16384

noncomputable section

namespace Cert.Val

open Idealize.ShloMosaic Idealize.SL.Sem

/-! ## The power of two below a scale, by halving and by counting -/

/-- The float whose exponent field is the word `w` and whose mantissa is empty. -/
def pwr (w : BitVec 32) : EReal := FloatOps.ofBits (F := Ideal) .f32 (IntOp.shli .vector w 23#32)

theorem pwr_ieee (j : ℕ) (h : j < 256) : pwr (BitVec.ofNat 32 j) = if j = 255 then ⊤ else if j = 0 then 0 else (((2 : ℝ) ^ ((j : ℤ) - 127) : ℝ) : EReal) := by
  show Ideal.ieee 8 23 (IntOp.shli .vector (BitVec.ofNat 32 j) 23#32) = _
  have e : IntOp.shli .vector (BitVec.ofNat 32 j) 23#32 = BitVec.ofNat 32 (j * 2 ^ 23) := by
    unfold IntOp.shli; rw [if_pos (by decide)]
    apply BitVec.eq_of_toNat_eq
    rw [BitVec.shiftLeft_eq', BitVec.toNat_shiftLeft, BitVec.toNat_ofNat, BitVec.toNat_ofNat, BitVec.toNat_ofNat, Nat.shiftLeft_eq]
    have e23 : 2 ^ (23 % 2 ^ 32) = 8388608 := by norm_num
    rw [e23]
    omega
  rw [e]
  have hx : (BitVec.extractLsb' 23 8 (BitVec.ofNat 32 (j * 2 ^ 23))).toNat = j := by
    rw [BitVec.extractLsb'_toNat, BitVec.toNat_ofNat, Nat.shiftRight_eq_div_pow]; omega
  have hf : (BitVec.extractLsb' 0 23 (BitVec.ofNat 32 (j * 2 ^ 23))).toNat = 0 := by
    rw [BitVec.extractLsb'_toNat, BitVec.toNat_ofNat, Nat.shiftRight_eq_div_pow]; omega
  have hs : (BitVec.extractLsb' (8 + 23) 1 (BitVec.ofNat 32 (j * 2 ^ 23)) == 1#1) = false := by
    rw [beq_eq_false_iff_ne]; intro hc
    have := congrArg BitVec.toNat hc
    rw [BitVec.extractLsb'_toNat, BitVec.toNat_ofNat, Nat.shiftRight_eq_div_pow] at this
    have h1 : (1#1).toNat = 1 := rfl
    omega
  unfold Ideal.ieee
  simp only [hx, hf, hs]
  by_cases h255 : j = 255
  · subst h255; simp
  · rw [if_neg (by omega), if_neg h255]
    by_cases h0 : j = 0
    · subst h0; simp
    · rw [if_neg h0, if_neg h0]
      congr 1
      simp only [Bool.false_eq_true, if_false, one_mul, Nat.add_zero]
      have e2 : ((2 ^ 23 : ℕ) : ℝ) = (2 : ℝ) ^ (23 : ℤ) := by norm_num
      rw [e2, ← zpow_add₀ (by norm_num : (2 : ℝ) ≠ 0)]
      congr 1
      norm_num

theorem pwr_zero : pwr 0#32 = 0 := by
  have := pwr_ieee 0 (by omega)
  rw [if_neg (by omega), if_pos rfl] at this
  exact this

theorem pwr_mono (i j : ℕ) (hij : i ≤ j) (h : j < 256) : pwr (BitVec.ofNat 32 i) ≤ pwr (BitVec.ofNat 32 j) := by
  rw [pwr_ieee i (by omega), pwr_ieee j h]
  by_cases hj : j = 255
  · rw [if_pos hj]; exact le_top
  rw [if_neg (by omega), if_neg hj]
  by_cases hi0 : i = 0
  · rw [if_pos hi0]
    by_cases hj0 : j = 0
    · rw [if_pos hj0]
    · rw [if_neg hj0]; exact_mod_cast (by positivity : (0 : ℝ) ≤ (2 : ℝ) ^ ((j : ℤ) - 127))
  rw [if_neg hi0, if_neg (by omega), EReal.coe_le_coe_iff]
  exact zpow_le_zpow_right₀ (by norm_num) (by omega)

/-- The last exponent field whose power is at most `r`. -/
theorem last_field (r : EReal) (h : 0 ≤ r) : ∃ n, n < 256 ∧ ∀ j, j < 256 → (pwr (BitVec.ofNat 32 j) ≤ r ↔ j ≤ n) := by
  classical
  refine ⟨Nat.findGreatest (fun j => pwr (BitVec.ofNat 32 j) ≤ r) 255, Nat.lt_succ_of_le (Nat.findGreatest_le _), fun j hj => ⟨fun hp => Nat.le_findGreatest (by omega) hp, fun hl => ?_⟩⟩
  have hz : pwr (BitVec.ofNat 32 0) ≤ r := by
    show pwr 0#32 ≤ r
    rw [pwr_zero]; exact h
  have hs := Nat.findGreatest_spec (P := fun j => pwr (BitVec.ofNat 32 j) ≤ r) (Nat.zero_le 255) hz
  exact (pwr_mono _ _ hl (Nat.lt_succ_of_le (Nat.findGreatest_le _))).trans hs

/-- One halving step of the search. -/
def kstep (r : EReal) (f b : BitVec 32) : BitVec 32 := Scalar.select (Ideal.cmp .oge r (pwr (IntOp.addi f b))) (IntOp.addi f b) f
/-- The search: the field of `r`. -/
def kfield (r : EReal) : BitVec 32 :=
  kstep r (kstep r (kstep r (kstep r (kstep r (kstep r (kstep r (kstep r 0#32 128#32) 64#32) 32#32) 16#32) 8#32) 4#32) 2#32) 1#32
/-- The exponent the kernel takes. -/
def kexp (r : EReal) : BitVec 32 := Scalar.select (Ideal.cmp .oeq r (FloatOps.ofBits (F := Ideal) .f32 0x00000000#32)) 0#32 (IntOp.subi (kfield r) 126#32)

theorem select_true {α : Type} (a b : α) : Scalar.select (BitVec.ofBool true) a b = a := rfl
theorem select_false {α : Type} (a b : α) : Scalar.select (BitVec.ofBool false) a b = b := rfl

theorem kstep_eq (r : EReal) (n : ℕ) (hn : n < 256) (hP : ∀ j, j < 256 → (pwr (BitVec.ofNat 32 j) ≤ r ↔ j ≤ n)) (f b : ℕ) (hf : f ≤ n) (hlt : n < f + 2 * b) (hfb : f + b < 256) :
    ∃ f', kstep r (BitVec.ofNat 32 f) (BitVec.ofNat 32 b) = BitVec.ofNat 32 f' ∧ f' ≤ n ∧ n < f' + b ∧ (f' = f ∨ f' = f + b) := by
  have ea : IntOp.addi (BitVec.ofNat 32 f) (BitVec.ofNat 32 b) = BitVec.ofNat 32 (f + b) := by
    show BitVec.ofNat 32 f + BitVec.ofNat 32 b = _
    rw [← BitVec.ofNat_add]
  unfold kstep
  rw [ea]
  by_cases hc : f + b ≤ n
  · refine ⟨f + b, ?_, hc, by omega, .inr rfl⟩
    show Scalar.select (BitVec.ofBool (decide (pwr (BitVec.ofNat 32 (f + b)) ≤ r))) _ _ = _
    rw [decide_eq_true ((hP _ hfb).2 hc), select_true]
  · refine ⟨f, ?_, hf, by omega, .inl rfl⟩
    show Scalar.select (BitVec.ofBool (decide (pwr (BitVec.ofNat 32 (f + b)) ≤ r))) _ _ = _
    rw [decide_eq_false (fun h => hc ((hP _ hfb).1 h)), select_false]

theorem kfield_eq (r : EReal) (n : ℕ) (hn : n < 256) (hP : ∀ j, j < 256 → (pwr (BitVec.ofNat 32 j) ≤ r ↔ j ≤ n)) : kfield r = BitVec.ofNat 32 n := by
  obtain ⟨f1, e1, l1, u1, d1⟩ := kstep_eq r n hn hP 0 128 (by omega) (by omega) (by omega)
  obtain ⟨f2, e2, l2, u2, d2⟩ := kstep_eq r n hn hP f1 64 l1 (by omega) (by omega)
  obtain ⟨f3, e3, l3, u3, d3⟩ := kstep_eq r n hn hP f2 32 l2 (by omega) (by omega)
  obtain ⟨f4, e4, l4, u4, d4⟩ := kstep_eq r n hn hP f3 16 l3 (by omega) (by omega)
  obtain ⟨f5, e5, l5, u5, d5⟩ := kstep_eq r n hn hP f4 8 l4 (by omega) (by omega)
  obtain ⟨f6, e6, l6, u6, d6⟩ := kstep_eq r n hn hP f5 4 l5 (by omega) (by omega)
  obtain ⟨f7, e7, l7, u7, d7⟩ := kstep_eq r n hn hP f6 2 l6 (by omega) (by omega)
  obtain ⟨f8, e8, l8, u8, d8⟩ := kstep_eq r n hn hP f7 1 l7 (by omega) (by omega)
  have : f8 = n := by omega
  unfold kfield
  rw [show (0#32 : BitVec 32) = BitVec.ofNat 32 0 from rfl, show (128#32 : BitVec 32) = BitVec.ofNat 32 128 from rfl, e1, show (64#32 : BitVec 32) = BitVec.ofNat 32 64 from rfl, e2,
    show (32#32 : BitVec 32) = BitVec.ofNat 32 32 from rfl, e3, show (16#32 : BitVec 32) = BitVec.ofNat 32 16 from rfl, e4, show (8#32 : BitVec 32) = BitVec.ofNat 32 8 from rfl, e5,
    show (4#32 : BitVec 32) = BitVec.ofNat 32 4 from rfl, e6, show (2#32 : BitVec 32) = BitVec.ofNat 32 2 from rfl, e7, show (1#32 : BitVec 32) = BitVec.ofNat 32 1 from rfl, e8, this]

/-- How many powers of two are at most `r`. -/
def rcount (r : EReal) : BitVec 32 :=
  Finset.univ.fold IntOp.addi 0#32 fun j : Fin 256 =>
    Scalar.select (Ideal.cmp .ole (pwr (IntOp.addi (IntOp.subi (BitVec.ofNat 32 j.val) 127#32) 127#32)) r) 1#32 0#32
/-- The exponent the reference takes, `a` the largest magnitude and `r` the scale it asks for. -/
def rexp (a r : EReal) : BitVec 32 := Scalar.select (Ideal.cmp .oeq a (FloatOps.ofBits (F := Ideal) .f32 0x00000000#32)) 0#32 (IntOp.subi (rcount r) 127#32)

theorem rcount_eq (r : EReal) (n : ℕ) (hn : n < 256) (hP : ∀ j, j < 256 → (pwr (BitVec.ofNat 32 j) ≤ r ↔ j ≤ n)) : rcount r = BitVec.ofNat 32 (n + 1) := by
  unfold rcount
  have e : (fun j : Fin 256 => Scalar.select (Ideal.cmp .ole (pwr (IntOp.addi (IntOp.subi (BitVec.ofNat 32 j.val) 127#32) 127#32)) r) 1#32 0#32)
      = fun j : Fin 256 => (BitVec.ofBool (decide (j.val ≤ n))).setWidth 32 := by
    funext j
    have ej : IntOp.addi (IntOp.subi (BitVec.ofNat 32 j.val) 127#32) 127#32 = BitVec.ofNat 32 j.val := by
      show BitVec.ofNat 32 j.val - 127#32 + 127#32 = _
      rw [BitVec.sub_add_cancel]
    rw [ej]
    show Scalar.select (BitVec.ofBool (decide (pwr (BitVec.ofNat 32 j.val) ≤ r))) _ _ = _
    by_cases hc : j.val ≤ n
    · rw [decide_eq_true ((hP _ j.isLt).2 hc), decide_eq_true hc]; rfl
    · rw [decide_eq_false (fun h => hc ((hP _ j.isLt).1 h)), decide_eq_false hc]; rfl
  rw [e, Idealize.ShloMosaic.IndicatorCount.fold_addi_setWidth_eq_card]
  congr 1
  have : (Finset.univ.filter fun k : Fin 256 => BitVec.ofBool (decide (k.val ≤ n)) = 1#1) = Finset.Iic (⟨n, hn⟩ : Fin 256) := by
    ext k
    rw [Finset.mem_filter, Finset.mem_Iic, Fin.le_def]
    by_cases hc : k.val ≤ n
    · simp [hc]
    · simp [hc]
  rw [this, Fin.card_Iic]

/-- The factor `1 / 448`, as the programs spell it. -/
def c448 : EReal := FloatOps.ofBits (F := Ideal) .f32 0x3B124925#32
theorem c448_pos : 0 < c448 := by
  show 0 < Ideal.ieee 8 23 0x3B124925#32
  unfold Ideal.ieee
  rw [if_neg (by decide), if_neg (by decide)]
  rw [show ((BitVec.extractLsb' (8 + 23) 1 0x3B124925#32 == 1#1)) = false from by decide]
  rw [← EReal.coe_zero, EReal.coe_lt_coe_iff]
  simp only [Bool.false_eq_true, if_false]
  positivity

theorem exp_eq (a : EReal) (h : 0 ≤ a) : kexp (a * c448) = rexp a (a * c448) := by
  obtain ⟨n, hn, hP⟩ := last_field (a * c448) (mul_nonneg h c448_pos.le)
  unfold kexp rexp
  rw [kfield_eq _ n hn hP, rcount_eq _ n hn hP]
  have hz : FloatOps.ofBits (F := Ideal) .f32 0x00000000#32 = (0 : EReal) := Ideal.ofBits_zero_f32
  have hc : Ideal.cmp .oeq (a * c448) (FloatOps.ofBits (F := Ideal) .f32 0x00000000#32) = Ideal.cmp .oeq a (FloatOps.ofBits (F := Ideal) .f32 0x00000000#32) := by
    show BitVec.ofBool (decide (a * c448 = FloatOps.ofBits (F := Ideal) .f32 0x00000000#32)) = BitVec.ofBool (decide (a = FloatOps.ofBits (F := Ideal) .f32 0x00000000#32))
    rw [hz]
    congr 1
    rw [decide_eq_decide, mul_eq_zero]
    exact ⟨fun h => h.resolve_right c448_pos.ne', .inl⟩
  rw [hc]
  congr 1
  show BitVec.ofNat 32 n - 126#32 = BitVec.ofNat 32 (n + 1) - 127#32
  rw [BitVec.ofNat_add]
  rw [show (127#32 : BitVec 32) = 126#32 + BitVec.ofNat 32 1 from rfl]
  generalize BitVec.ofNat 32 n = x
  generalize BitVec.ofNat 32 1 = y
  rw [BitVec.add_comm 126#32 y, ← BitVec.sub_sub, BitVec.add_sub_cancel]

end Cert.Val

end
-- ==== Proof.VSpec.lean ====
module

public import proofs.«01_k».proof.Proof.VExp

@[expose] public section

set_option maxRecDepth 16384

noncomputable section

namespace Cert.Val

open Idealize.ShloMosaic Idealize.SL.Sem

/-! ## What the two programs compute, entry by entry -/

/-- Four of a packed byte's bits, as a word: the low ones for `q = 0`, the high ones otherwise. -/
def nibw (b : BitVec 8) (q : ℕ) : BitVec 32 := if q < 1 then IntOp.andi (b.setWidth 32) 15#32 else IntOp.shrsi .vector (b.setWidth 32) 4#32

variable (X : Fin 6144 → Fin 2816 → EReal) (W : Fin 8 → Fin 1408 → Fin 2048 → BitVec 8) (S : Fin 8 → Fin 22 → Fin 2048 → EReal)

/-- Expert `e`'s weight at row `k` and column `n`. -/
def wt (e : Fin 8) (k : Fin 2816) (n : Fin 2048) : EReal :=
  ((((nibw (W e ⟨k.val / 2, by omega⟩ n) (k.val % 2)).toInt : ℝ) : EReal) - ((8 : ℝ) : EReal)) * S e ⟨k.val / 128, by omega⟩ n
/-- Row `r` times column `n` of expert `e`'s weights. -/
def pr (e : Fin 8) (r : Fin 6144) (n : Fin 2048) : EReal := ∑ k : Fin 2816, X r k * wt W S e k n
/-- The activation from a gate and an up product. -/
def gate (g u : EReal) : EReal := g * Ideal.logistic g * u
/-- The activation of row `r` at column `n`. -/
def ac (e : Fin 8) (r : Fin 6144) (n : Fin 1024) : EReal := gate (pr X W S e r ⟨n.val, by omega⟩) (pr X W S e r ⟨n.val + 1024, by omega⟩)
/-- A magnitude. -/
def mag (x : EReal) : EReal := FloatOps.absf (F := Ideal) (φ := .f32) x
/-- The largest magnitude of a row. -/
def am (h : Fin 1024 → EReal) : EReal := Finset.univ.fold max ⊥ fun n => mag (h n)
/-- The exponent of a row. -/
def ex (h : Fin 1024 → EReal) : BitVec 32 := rexp (am h) (am h * c448)
/-- A row's code at a column whose activation is `x`, for the exponent `e`. -/
def cod (e : BitVec 32) (x : EReal) : EReal :=
  min (Ideal.ofBits .f32 0x43E00000#32) (max (Ideal.ofBits .f32 0xC3E00000#32) (x * pwr (IntOp.addi (IntOp.subi 0#32 e) 127#32)))
/-- A row's scale, for the exponent `e`. -/
def sca (e : BitVec 32) : EReal := pwr (IntOp.addi e 127#32)

theorem mag_nonneg (x : EReal) : 0 ≤ mag x := by
  show 0 ≤ max x (-x)
  rcases le_total 0 x with h | h
  · exact le_max_of_le_left h
  · exact le_max_of_le_right (EReal.neg_nonneg.2 h)

theorem am_nonneg (h : Fin 1024 → EReal) : 0 ≤ am h :=
  (mag_nonneg (h 0)).trans (Finset.le_fold_max _ |>.2 (.inr ⟨0, Finset.mem_univ _, le_rfl⟩))

theorem negInf : Ideal.ofBits .f32 0xFF800000#32 = ⊥ := by
  show Ideal.ieee 8 23 0xFF800000#32 = ⊥
  unfold Ideal.ieee
  rw [if_pos (by decide), if_pos (by decide), if_pos (by decide)]

/-- The largest magnitude by four blocks of 256 columns, from zero. -/
theorem am_blocks (h : Fin 1024 → EReal) (h0 h1 h2 h3 : Fin 256 → EReal) (e0 : ∀ l : Fin 256, h0 l = h ⟨l.val, by omega⟩) (e1 : ∀ l : Fin 256, h1 l = h ⟨l.val + 256, by omega⟩)
    (e2 : ∀ l : Fin 256, h2 l = h ⟨l.val + 512, by omega⟩) (e3 : ∀ l : Fin 256, h3 l = h ⟨l.val + 768, by omega⟩) :
    max (max (max (max 0 (Finset.univ.fold max ⊥ fun l => mag (h0 l))) (Finset.univ.fold max ⊥ fun l => mag (h1 l))) (Finset.univ.fold max ⊥ fun l => mag (h2 l))) (Finset.univ.fold max ⊥ fun l => mag (h3 l)) = am h := by
  have up : ∀ (f : Fin 256 → EReal) (z : EReal) (l : Fin 256), (Finset.univ.fold max ⊥ fun l => mag (f l)) ≤ z → mag (f l) ≤ z := fun f z l hz =>
    (Finset.fold_max_le z |>.1 hz).2 l (Finset.mem_univ _)
  apply le_antisymm
  · refine max_le (max_le (max_le (max_le (am_nonneg h) ?_) ?_) ?_) ?_
    all_goals
      refine Finset.fold_max_le _ |>.2 ⟨bot_le, fun l _ => ?_⟩
      first | rw [e0] | rw [e1] | rw [e2] | rw [e3]
      exact Finset.le_fold_max _ |>.2 (.inr ⟨_, Finset.mem_univ _, le_rfl⟩)
  · refine Finset.fold_max_le _ |>.2 ⟨bot_le, fun n _ => ?_⟩
    have hn := n.isLt
    rcases Nat.lt_or_ge n.val 256 with a | a
    · have := e0 ⟨n.val, a⟩
      rw [show h n = h0 ⟨n.val, a⟩ from this.symm]
      exact up h0 _ _ ((((le_max_right _ _).trans (le_max_left _ _)).trans (le_max_left _ _)).trans (le_max_left _ _))
    rcases Nat.lt_or_ge n.val 512 with b | b
    · have := e1 ⟨n.val - 256, by omega⟩
      rw [show h n = h1 ⟨n.val - 256, by omega⟩ from (this.trans (congrArg h (Fin.ext (by show n.val - 256 + 256 = n.val; omega)))).symm]
      exact up h1 _ _ (((le_max_right _ _).trans (le_max_left _ _)).trans (le_max_left _ _))
    rcases Nat.lt_or_ge n.val 768 with d | d
    · have := e2 ⟨n.val - 512, by omega⟩
      rw [show h n = h2 ⟨n.val - 512, by omega⟩ from (this.trans (congrArg h (Fin.ext (by show n.val - 512 + 512 = n.val; omega)))).symm]
      exact up h2 _ _ ((le_max_right _ _).trans (le_max_left _ _))
    · have := e3 ⟨n.val - 768, by omega⟩
      rw [show h n = h3 ⟨n.val - 768, by omega⟩ from (this.trans (congrArg h (Fin.ext (by show n.val - 768 + 768 = n.val; omega)))).symm]
      exact up h3 _ _ (le_max_right _ _)

/-- The kernel's signed code is the nibble less eight. -/
theorem code_lo : ∀ b : BitVec 8, ((IntOp.andi ((b ^^^ 136#8).setWidth 32) 15#32).setWidth 4).toInt = (IntOp.andi (b.setWidth 32) 15#32).toInt - 8 := by decide
theorem code_hi : ∀ b : BitVec 8, ((IntOp.shrsi .vector ((b ^^^ 136#8).setWidth 32) 4#32).setWidth 4).toInt = (IntOp.shrsi .vector (b.setWidth 32) 4#32).toInt - 8 := by decide
theorem code_eq (b : BitVec 8) (q : ℕ) : (((BitVec.setWidth 4 (nibw (IntOp.xori b 136#8) q)).toInt : ℝ) : EReal) = (((nibw b q).toInt : ℝ) : EReal) - ((8 : ℝ) : EReal) := by
  have h : (BitVec.setWidth 4 (nibw (IntOp.xori b 136#8) q)).toInt = (nibw b q).toInt - 8 := by
    unfold nibw
    by_cases hq : q < 1
    · rw [if_pos hq, if_pos hq]; exact code_lo b
    · rw [if_neg hq, if_neg hq]; exact code_hi b
  rw [h, ← EReal.coe_sub]
  congr 1
  push_cast
  rfl
theorem bf16_eight : Ideal.ofBits .bf16 0x4100#16 = ((8 : ℝ) : EReal) := by
  show Ideal.ieee 8 7 0x4100#16 = _
  unfold Ideal.ieee
  rw [if_neg (by decide), if_neg (by decide)]
  congr 1
  rw [show ((BitVec.extractLsb' (8 + 7) 1 0x4100#16 == 1#1)) = false from by decide]
  rw [show (BitVec.extractLsb' 7 8 0x4100#16).toNat = 130 from by decide, show (BitVec.extractLsb' 0 7 0x4100#16).toNat = 0 from by decide]
  norm_num

/-- `127 − e` is `(0 − e) + 127`. -/
theorem down_eq (e : BitVec 32) : IntOp.subi 127#32 e = IntOp.addi (IntOp.subi 0#32 e) 127#32 := by
  show 127#32 - e = 0#32 - e + 127#32
  rw [BitVec.zero_sub, BitVec.sub_eq_add_neg, BitVec.add_comm]

end Cert.Val

end
-- ==== Proof.VK.lean ====
module

public import proofs.«01_k».proof.Proof.VDq
public import proofs.«01_k».proof.Proof.VSpec
public import Idealize.ShloMosaic.Lib.Pointwise
public import Idealize.ShloMosaic.Lib.Pipeline.Value

@[expose] public section

set_option maxRecDepth 16384

noncomputable section

namespace Cert.KernelIdeal.Hand

open Idealize.ShloMosaic Idealize.SL.Sem
open Cert.Val

open Cert.KernelIdeal Cert.KernelIdeal.Gen

/-! ## The trip's values at an index -/

theorem codes_apply (wv : Vec Ideal S1x1408x256 .i8) (k : Fin 2816) (l : Fin 256) :
    k0_pay9 (k0_pay7 (F := Ideal) wv) (ix2 k l) = BitVec.setWidth 4 (nibw (IntOp.xori (wv (ix3 (0 : Fin 1) (⟨k.val / 2, by omega⟩ : Fin 1408) l)) 136#8) (k.val % 2)) := by
  unfold nibw
  pointwise [k0_pay9, k0_pay7]
  rfl
theorem dqp_apply (wv : Vec Ideal S1x1408x256 .i8) (sv : Vec Ideal S1x22x256 .bf16) (n : Fin 22) (k : Fin 128) (l : Fin 256) :
    dqp wv sv n (ix2 k l) = ((((k0_pay9 (k0_pay7 (F := Ideal) wv) (ix2 (⟨128 * n.val + k.val, by omega⟩ : Fin 2816) l)).toInt : ℝ) : EReal)) * sv (ix3 (0 : Fin 1) n l) := by
  pointwise [dqp, k0_pay8]
  rfl
theorem dq_apply (wv : Vec Ideal S1x1408x256 .i8) (sv : Vec Ideal S1x22x256 .bf16) (k : Fin 2816) (l : Fin 256) :
    dq wv sv (ix2 k l) = ((((nibw (wv (ix3 (0 : Fin 1) (⟨k.val / 2, by omega⟩ : Fin 1408) l)) (k.val % 2)).toInt : ℝ) : EReal) - ((8 : ℝ) : EReal)) * sv (ix3 (0 : Fin 1) (⟨k.val / 128, by omega⟩ : Fin 22) l) := by
  have hk := k.isLt
  unfold dq
  rw [concatenate_ofFn_apply (t := S2816x256) (s₁ := S128x256) 0 (dqp wv sv) concatenates_S128x256_S128x256_S128x256_S128x256_S128x256_S128x256_S128x256_S128x256_S128x256_S128x256_S128x256_S128x256_S128x256_S128x256_S128x256_S128x256_S128x256_S128x256_S128x256_S128x256_S128x256_S128x256_S2816x256_d0 rfl 128 rfl (ix2 k l) ⟨k.val / 128, by omega⟩ rfl (ix2 (⟨k.val % 128, Nat.mod_lt _ (by decide)⟩ : Fin 128) l) rfl
    (fun b hb => by
      match b with
      | ⟨0, _⟩ => exact absurd rfl hb
      | ⟨1, _⟩ => rfl)]
  rw [dqp_apply]
  have e : (⟨128 * (k.val / 128) + k.val % 128, by omega⟩ : Fin 2816) = k := Fin.ext (Nat.div_add_mod _ _)
  rw [e, codes_apply, code_eq]
theorem blk_apply (x : FVec Ideal S256x2816 .bf16) (g u : FVec Ideal S2816x256 .bf16) (r l : Fin 256) :
    blk x g u (ix2 r l) = gate (∑ k : Fin 2816, x (ix2 r k) * g (ix2 k l)) (∑ k : Fin 2816, x (ix2 r k) * u (ix2 k l)) := by
  unfold gate
  pointwise [blk]
theorem mx_apply (h : FVec Ideal S256x256 .f32) (r : Fin 256) : mx h (ix2 r (0 : Fin 1)) = Finset.univ.fold max ⊥ fun l : Fin 256 => mag (h (ix2 r l)) := by
  rw [← negInf]
  unfold mag
  pointwise [mx]

/-- One halving step on a column of rows. -/
def vstep (R : FVec Ideal S256x1 .f32) (f : IVec S256x1 32) (b : BitVec 32) : IVec S256x1 32 :=
  select (cmpf .oge R (bitcastToFloat .f32 (shli (addi f (broadcast S256x1 b)) (broadcast S256x1 23#32)))) (addi f (broadcast S256x1 b)) f
theorem vstep_apply (R : FVec Ideal S256x1 .f32) (f : IVec S256x1 32) (b : BitVec 32) (j : S256x1.Idx) : vstep R f b j = kstep (R j) (f j) b := rfl
theorem pay187_eq (a : FVec Ideal S256x1 .f32) (b c d : FVec Ideal S256x256 .f32) :
    k0_pay187 a b c d = vstep (k0_pay186 a b c d) (vstep (k0_pay186 a b c d) (vstep (k0_pay186 a b c d) (broadcast S256x1 0#32) 128#32) 64#32) 32#32 := rfl
theorem pay188_eq (a : FVec Ideal S256x1 .f32) (b c d : FVec Ideal S256x256 .f32) :
    k0_pay188 a b c d = shli (addi (k0_pay187 a b c d) (broadcast S256x1 16#32)) (broadcast S256x1 23#32) := rfl
theorem pay189_eq (R : FVec Ideal S256x1 .f32) (f : IVec S256x1 32) :
    k0_pay189 R f (shli (addi f (broadcast S256x1 16#32)) (broadcast S256x1 23#32)) = subi (vstep R (vstep R (vstep R (vstep R (vstep R f 16#32) 8#32) 4#32) 2#32) 1#32) (broadcast S256x1 126#32) := rfl

variable (x : Vec Ideal S1x256x2816 .bf16) (w : Fin 8 → Vec Ideal S1x1408x256 .i8) (s : Fin 8 → Vec Ideal S1x22x256 .bf16)

theorem exp_apply (j : S256x1.Idx) : k0_pay191 (c1214 x w s) (c1216 x w s) j = kexp (c1139 x w s j) := by
  have hR : k0_pay186 (c867 x w s) (c1126 x w s) (c1127 x w s) (c1128 x w s) = c1139 x w s := rfl
  unfold c1214 c1216 c1171 c1167
  rw [pay188_eq, pay189_eq, pay187_eq, hR]
  generalize c1139 x w s = R
  rfl

theorem hb_apply (r l : Fin 256) (j : Fin 4) : hb x w s j (ix2 r l) = gate (∑ k : Fin 2816, x (ix3 (0 : Fin 1) r k) * dq (w ⟨j.val, by omega⟩) (s ⟨j.val, by omega⟩) (ix2 k l)) (∑ k : Fin 2816, x (ix3 (0 : Fin 1) r k) * dq (w ⟨j.val + 4, by omega⟩) (s ⟨j.val + 4, by omega⟩) (ix2 k l)) := by
  have e : ∀ k : Fin 2816, k0_pay6 x (ix2 r k) = x (ix3 (0 : Fin 1) r k) := fun k => by pointwise [k0_pay6]
  unfold hb
  rw [blk_apply]
  simp only [e]

theorem scale_apply (r : Fin 256) : c1139 x w s (ix2 r (0 : Fin 1)) = max (max (max (max 0 (Finset.univ.fold max ⊥ fun l : Fin 256 => mag (hb x w s 0 (ix2 r l)))) (Finset.univ.fold max ⊥ fun l : Fin 256 => mag (hb x w s 1 (ix2 r l)))) (Finset.univ.fold max ⊥ fun l : Fin 256 => mag (hb x w s 2 (ix2 r l)))) (Finset.univ.fold max ⊥ fun l : Fin 256 => mag (hb x w s 3 (ix2 r l))) * c448 := by
  rw [← mx_apply, ← mx_apply, ← mx_apply, ← mx_apply, c1139_eq, c867_eq, c597_eq, c327_eq]
  unfold c448
  pointwise [k0_pay5]

theorem act_apply (r : Fin 256) (j : Fin 4) (l : Fin 256) : act x w s (ix2 r (⟨l.val + 256 * j.val, by omega⟩ : Fin 1024)) = hb x w s j (ix2 r l) := by
  have hl := l.isLt
  have sc : ∀ (h : FVec Ideal S256x256 .f32) (l' : Fin 256), shapeCast S256x256 h shapeCasts_S256x256_S256x256 (ix2 r l') = h (ix2 r l') := fun h l' => by pointwise []
  unfold act
  rw [ablk0_eq, ablk1_eq, ablk2_eq, ablk3_eq]
  match j with
  | ⟨0, _⟩ =>
    exact (dif_pos (show l.val + 256 * 0 < 256 by omega)).trans (sc _ _)
  | ⟨1, _⟩ =>
    refine (dif_neg (show ¬ l.val + 256 * 1 < 256 by omega)).trans ((dif_pos (show l.val + 256 * 1 < 512 by omega)).trans ?_)
    exact (sc _ _).trans (congrArg (fun l' => hb x w s 1 (ix2 r l')) (Fin.ext (by show l.val + 256 * 1 - 256 = l.val; omega)))
  | ⟨2, _⟩ =>
    refine (dif_neg (show ¬ l.val + 256 * 2 < 256 by omega)).trans ((dif_neg (show ¬ l.val + 256 * 2 < 512 by omega)).trans ((dif_pos (show l.val + 256 * 2 < 768 by omega)).trans ?_))
    exact (sc _ _).trans (congrArg (fun l' => hb x w s 2 (ix2 r l')) (Fin.ext (by show l.val + 256 * 2 - 512 = l.val; omega)))
  | ⟨3, _⟩ =>
    refine (dif_neg (show ¬ l.val + 256 * 3 < 256 by omega)).trans ((dif_neg (show ¬ l.val + 256 * 3 < 512 by omega)).trans ((dif_neg (show ¬ l.val + 256 * 3 < 768 by omega)).trans ?_))
    exact (sc _ _).trans (congrArg (fun l' => hb x w s 3 (ix2 r l')) (Fin.ext (by show l.val + 256 * 3 - 768 = l.val; omega)))

/-- The row's mask: the row is not before the first valid one. -/
theorem keep_apply (st va : BitVec 32) (hst : st.toNat + 256 ≤ 6144) (hva : va.toNat ≤ 6144) (r : Fin 256) :
    k0_pay193 (F := Ideal) st va (ix2 r (0 : Fin 1)) = BitVec.ofBool (decide (va.toNat ≤ st.toNat + r.val)) := by
  have hr := r.isLt
  have e : k0_pay193 (F := Ideal) st va (ix2 r (0 : Fin 1)) = BitVec.ofBool (va.sle (BitVec.ofNat 32 r.val + st)) := by
    pointwise [k0_pay193]
    rfl
  rw [e]
  congr 1
  have h1 : (BitVec.ofNat 32 r.val + st).toNat = st.toNat + r.val := by
    rw [BitVec.toNat_add, BitVec.toNat_ofNat]; omega
  have h2 : (BitVec.ofNat 32 r.val + st).toInt = ((st.toNat + r.val : ℕ) : ℤ) := by
    rw [BitVec.toInt_eq_toNat_of_lt (by omega), h1]
  have h3 : va.toInt = ((va.toNat : ℕ) : ℤ) := BitVec.toInt_eq_toNat_of_lt (by omega)
  rw [BitVec.sle_eq_decide, h2, h3, decide_eq_decide]
  omega

theorem codesOut_apply (st va : BitVec 32) (old : Vec Ideal S256x1024 .fp8e4m3) (hst : st.toNat + 256 ≤ 6144) (hva : va.toNat ≤ 6144) (r : Fin 256) (n : Fin 1024) :
    codesOut x w s st va old (ix2 r n) = if va.toNat ≤ st.toNat + r.val then cod (kexp (c1139 x w s (ix2 r (0 : Fin 1)))) (act x w s (ix2 r n)) else old (ix2 r n) := by
  have e : codesOut x w s st va old (ix2 r n) = Scalar.select (k0_pay193 (F := Ideal) st va (ix2 r (0 : Fin 1)))
      (min (Ideal.ofBits .f32 0x43E00000#32) (max (Ideal.ofBits .f32 0xC3E00000#32) (act x w s (ix2 r n) * pwr (IntOp.subi 127#32 (k0_pay191 (c1214 x w s) (c1216 x w s) (ix2 r (0 : Fin 1)))))))
      (old (ix2 r n)) := by
    unfold codesOut
    generalize k0_pay193 (F := Ideal) st va = K
    generalize act x w s = A
    unfold k0_pay194
    generalize k0_pay191 (c1214 x w s) (c1216 x w s) = E
    unfold pwr
    pointwise [k0_pay1, k0_pay195]
  rw [e, exp_apply, down_eq, keep_apply st va hst hva]
  by_cases h : va.toNat ≤ st.toNat + r.val
  · rw [if_pos h, decide_eq_true h, select_true]; rfl
  · rw [if_neg h, decide_eq_false h, select_false]

theorem scaleOut_apply (st va : BitVec 32) (old : Vec Ideal S256x1 .f32) (hst : st.toNat + 256 ≤ 6144) (hva : va.toNat ≤ 6144) (r : Fin 256) :
    scaleOut x w s st va old (ix2 r (0 : Fin 1)) = if va.toNat ≤ st.toNat + r.val then sca (kexp (c1139 x w s (ix2 r (0 : Fin 1)))) else old (ix2 r (0 : Fin 1)) := by
  have e : scaleOut x w s st va old (ix2 r (0 : Fin 1)) = Scalar.select (k0_pay193 (F := Ideal) st va (ix2 r (0 : Fin 1)))
      (pwr (IntOp.addi (k0_pay191 (c1214 x w s) (c1216 x w s) (ix2 r (0 : Fin 1))) 127#32)) (old (ix2 r (0 : Fin 1))) := by
    unfold scaleOut
    generalize k0_pay193 (F := Ideal) st va = K
    unfold k0_pay192
    generalize k0_pay191 (c1214 x w s) (c1216 x w s) = E
    unfold pwr
    pointwise [k0_pay2]
  rw [e, exp_apply, keep_apply st va hst hva]
  by_cases h : va.toNat ≤ st.toNat + r.val
  · rw [if_pos h, decide_eq_true h, select_true]; rfl
  · rw [if_neg h, decide_eq_false h, select_false]

/-! ## A whole row -/

variable (X : Fin 6144 → Fin 2816 → EReal) (W : Fin 8 → Fin 1408 → Fin 2048 → BitVec 8) (S : Fin 8 → Fin 22 → Fin 2048 → EReal)

theorem hb_row (st : ℕ) (hst : st + 256 ≤ 6144) (e : Fin 8) (hx : ∀ (r : Fin 256) k, x (ix3 (0 : Fin 1) r k) = X ⟨st + r.val, by omega⟩ k)
    (hw : ∀ (b : Fin 8) (k : Fin 1408) (l : Fin 256), w b (ix3 (0 : Fin 1) k l) = W e k ⟨256 * b.val + l.val, by omega⟩) (hs : ∀ (b : Fin 8) (k : Fin 22) (l : Fin 256), s b (ix3 (0 : Fin 1) k l) = S e k ⟨256 * b.val + l.val, by omega⟩)
    (r l : Fin 256) (j : Fin 4) : hb x w s j (ix2 r l) = ac X W S e ⟨st + r.val, by omega⟩ ⟨l.val + 256 * j.val, by omega⟩ := by
  have hj := j.isLt
  have hl := l.isLt
  have key : ∀ (b : Fin 8) (n : Fin 2048), 256 * b.val + l.val = n.val → (∑ k : Fin 2816, x (ix3 (0 : Fin 1) r k) * dq (w b) (s b) (ix2 k l)) = pr X W S e ⟨st + r.val, by omega⟩ n := by
    intro b n hn
    have hb := b.isLt
    unfold pr wt
    refine Finset.sum_congr rfl fun k _ => ?_
    rw [dq_apply, hx, hw, hs]
    have : (⟨256 * b.val + l.val, by omega⟩ : Fin 2048) = n := Fin.ext hn
    rw [this]
  rw [hb_apply]
  unfold ac
  rw [key ⟨j.val, by omega⟩ ⟨l.val + 256 * j.val, by omega⟩ (by show 256 * j.val + l.val = l.val + 256 * j.val; omega),
    key ⟨j.val + 4, by omega⟩ ⟨l.val + 256 * j.val + 1024, by omega⟩ (by show 256 * (j.val + 4) + l.val = l.val + 256 * j.val + 1024; omega)]

theorem act_row (st : ℕ) (hst : st + 256 ≤ 6144) (e : Fin 8) (hx : ∀ (r : Fin 256) k, x (ix3 (0 : Fin 1) r k) = X ⟨st + r.val, by omega⟩ k)
    (hw : ∀ (b : Fin 8) (k : Fin 1408) (l : Fin 256), w b (ix3 (0 : Fin 1) k l) = W e k ⟨256 * b.val + l.val, by omega⟩) (hs : ∀ (b : Fin 8) (k : Fin 22) (l : Fin 256), s b (ix3 (0 : Fin 1) k l) = S e k ⟨256 * b.val + l.val, by omega⟩)
    (r : Fin 256) (n : Fin 1024) : act x w s (ix2 r n) = ac X W S e ⟨st + r.val, by omega⟩ n := by
  have hn := n.isLt
  have e1 : n = (⟨(⟨n.val % 256, Nat.mod_lt _ (by decide)⟩ : Fin 256).val + 256 * (⟨n.val / 256, by omega⟩ : Fin 4).val, by show n.val % 256 + 256 * (n.val / 256) < 1024; omega⟩ : Fin 1024) :=
    Fin.ext (Nat.mod_add_div _ _).symm
  rw [e1, act_apply, hb_row x w s X W S st hst e hx hw hs]

theorem exp_row (st : ℕ) (hst : st + 256 ≤ 6144) (e : Fin 8) (hx : ∀ (r : Fin 256) k, x (ix3 (0 : Fin 1) r k) = X ⟨st + r.val, by omega⟩ k)
    (hw : ∀ (b : Fin 8) (k : Fin 1408) (l : Fin 256), w b (ix3 (0 : Fin 1) k l) = W e k ⟨256 * b.val + l.val, by omega⟩) (hs : ∀ (b : Fin 8) (k : Fin 22) (l : Fin 256), s b (ix3 (0 : Fin 1) k l) = S e k ⟨256 * b.val + l.val, by omega⟩)
    (r : Fin 256) : kexp (c1139 x w s (ix2 r (0 : Fin 1))) = ex (ac X W S e ⟨st + r.val, by omega⟩) := by
  have H := fun j l => hb_row x w s X W S st hst e hx hw hs r l j
  rw [scale_apply, am_blocks (ac X W S e ⟨st + r.val, by omega⟩) _ _ _ _ (fun l => H 0 l) (fun l => H 1 l) (fun l => H 2 l) (fun l => H 3 l)]
  exact exp_eq _ (am_nonneg _)

theorem codes_row (st : ℕ) (hst : st + 256 ≤ 6144) (e : Fin 8) (hx : ∀ (r : Fin 256) k, x (ix3 (0 : Fin 1) r k) = X ⟨st + r.val, by omega⟩ k)
    (hw : ∀ (b : Fin 8) (k : Fin 1408) (l : Fin 256), w b (ix3 (0 : Fin 1) k l) = W e k ⟨256 * b.val + l.val, by omega⟩) (hs : ∀ (b : Fin 8) (k : Fin 22) (l : Fin 256), s b (ix3 (0 : Fin 1) k l) = S e k ⟨256 * b.val + l.val, by omega⟩)
    (u v : BitVec 32) (hu : u.toNat = st) (va : ℕ) (hv : v.toNat = va) (hva : va ≤ 6144) (old : Vec Ideal S256x1024 .fp8e4m3) (r : Fin 256) (n : Fin 1024) :
    codesOut x w s u v old (ix2 r n) = if va ≤ st + r.val then cod (ex (ac X W S e ⟨st + r.val, by omega⟩)) (ac X W S e ⟨st + r.val, by omega⟩ n) else old (ix2 r n) := by
  rw [codesOut_apply x w s u v old (by omega) (by omega), exp_row x w s X W S st hst e hx hw hs, act_row x w s X W S st hst e hx hw hs, hu, hv]

theorem scales_row (st : ℕ) (hst : st + 256 ≤ 6144) (e : Fin 8) (hx : ∀ (r : Fin 256) k, x (ix3 (0 : Fin 1) r k) = X ⟨st + r.val, by omega⟩ k)
    (hw : ∀ (b : Fin 8) (k : Fin 1408) (l : Fin 256), w b (ix3 (0 : Fin 1) k l) = W e k ⟨256 * b.val + l.val, by omega⟩) (hs : ∀ (b : Fin 8) (k : Fin 22) (l : Fin 256), s b (ix3 (0 : Fin 1) k l) = S e k ⟨256 * b.val + l.val, by omega⟩)
    (u v : BitVec 32) (hu : u.toNat = st) (va : ℕ) (hv : v.toNat = va) (hva : va ≤ 6144) (old : Vec Ideal S256x1 .f32) (r : Fin 256) :
    scaleOut x w s u v old (ix2 r (0 : Fin 1)) = if va ≤ st + r.val then sca (ex (ac X W S e ⟨st + r.val, by omega⟩)) else old (ix2 r (0 : Fin 1)) := by
  rw [scaleOut_apply x w s u v old (by omega) (by omega), exp_row x w s X W S st hst e hx hw hs, hu, hv]

end Cert.KernelIdeal.Hand

end
-- ==== Proof.VO.lean ====
module

public import proofs.«01_k».proof.Proof.VK
public import proofs.«01_k».proof.Proof.IRun

@[expose] public section

set_option maxRecDepth 16384

noncomputable section

namespace Cert.KernelIdeal.Hand

open Idealize.ShloMosaic Idealize.SL.Sem
open Cert.Val

open Cert.KernelIdeal Cert.KernelIdeal.Gen Idealize.ShloMosaic.TcCoe

/-! ## What the items leave in the results' blocks -/

theorem Item.w2 (it : Item) : (it.w 2).toNat = it.va := by
  have := it.hva
  show (BitVec.ofNat 32 it.va).toNat = _
  rw [BitVec.toNat_ofNat]; omega
theorem rect4_off (it : Item) : k0_off61 (it.w 1) = ![it.st, 0] := by
  unfold k0_off61
  funext a
  match a with
  | ⟨0, _⟩ => exact it.w1
  | ⟨1, _⟩ => rfl
theorem rect5_off (it : Item) : k0_off62 (it.w 1) = ![it.st, 0] := by
  unfold k0_off62
  funext a
  match a with
  | ⟨0, _⟩ => exact it.w1
  | ⟨1, _⟩ => rfl

variable (c : Dev nD) (A4 : Memref sig .tc .vmem S6144x1024 .fp8e4m3) (A5 : Memref sig .tc .vmem S6144x1 .f32)
variable (fx : BufOf (F := Ideal) c MX) (fw : BufOf (F := Ideal) c MW) (fs : BufOf (F := Ideal) c MS) (n : ℕ)

/-- The three inputs by their indices. -/
def XX (r : Fin 6144) (k : Fin 2816) : EReal := MX.view.read (Elt Ideal) fx (ix2 r k)
def WW (e : Fin 8) (k : Fin 1408) (n : Fin 2048) : BitVec 8 := MW.view.read (Elt Ideal) fw (ix3 e k n)
def SS (e : Fin 8) (k : Fin 22) (n : Fin 2048) : EReal := MS.view.read (Elt Ideal) fs (ix3 e k n)

theorem outs_codes (g : ℕ → ℕ) (hs : Sched (seq g) n (lo g)) (p : BufOf (F := Ideal) c A4 × BufOf (F := Ideal) c A5)
    (k : ℕ) (hk : k ≤ n) (r : Fin 6144) (n' : Fin 1024) (e : Fin 8) (h1 : lo g e.val ≤ r.val) (h2 : r.val < lo g (e.val + 1)) (hb : k < n → r.val < (seq g k).va) :
    A4.view.read (Elt Ideal) (outs c A4 A5 fx fw fs (seq g) p k).1 (ix2 r n') = cod (ex (ac (XX c fx) (WW c fw) (SS c fs) e r)) ((ac (XX c fx) (WW c fw) (SS c fs) e r) n') := by
  induction k with
  | zero => exact absurd (hb hs.pos) (by rw [hs.first.2.2]; exact Nat.not_lt_zero _)
  | succ k ih =>
    have hlow := hs.lower k hk
    have hr := r.isLt
    have hup : r.val < (seq g k).st + 256 ∧ r.val < lo g ((seq g k).e.val + 1) := by
      rcases Nat.lt_or_ge (k + 1) n with h | h
      · have h3 := hs.upper k h
        have h4 := hb h
        omega
      · have h3 := hs.final k (by omega)
        omega
    rw [outs_succ]
    generalize outs c A4 A5 fx fw fs (seq g) p k = o at ih ⊢
    generalize seq g k = it at ih hlow hup ⊢
    have hva := it.hva
    have hst := it.hst
    unfold outStep
    dsimp only
    by_cases hst' : it.st ≤ r.val
    · obtain ⟨y, hy⟩ : ∃ y : Fin 256, r.val = it.st + y.val := ⟨⟨r.val - it.st, by omega⟩, by show r.val = it.st + (r.val - it.st); omega⟩
      have hyr : (⟨it.st + y.val, by omega⟩ : Fin 6144) = r := Fin.ext hy.symm
      refine (View.read_writes_cons_unit_of_mem _ _ _ _ _ (ix2 r n') (ix2 y n') (rect4_off it) ?_).trans ?_
      · intro a
        match a with
        | ⟨0, _⟩ => exact hy
        | ⟨1, _⟩ => exact (Nat.zero_add _).symm
      rw [codes_row (xblk c fx it.st it.hst) (wblk c fw it.e) (sblk c fs it.e) (XX c fx) (WW c fw) (SS c fs) it.st it.hst it.e (fun _ _ => rfl) (fun _ _ _ => rfl) (fun _ _ _ => rfl) (it.w 1) (it.w 2) it.w1 it.va it.w2 it.hva]
      by_cases hv : it.va ≤ it.st + y.val
      · rw [if_pos hv, hyr]
        have he : it.e = e := by
          apply Fin.ext
          rcases Nat.lt_trichotomy it.e.val e.val with h | h | h
          · have := lo_mono g (show it.e.val + 1 ≤ e.val from h); omega
          · exact h
          · have := lo_mono g (show e.val + 1 ≤ it.e.val from h); omega
        rw [he]
      · rw [if_neg hv]
        rw [View.readAt_apply]
        have hi : (rect4 it).toLoadRect.idx (ix2 y n') = (ix2 r n') := by
          funext a
          apply Fin.ext
          match a with
          | ⟨0, _⟩ =>
            show (k0_off61 (it.w 1)) 0 + 1 * y.val = r.val
            rw [rect4_off it]
            show it.st + 1 * y.val = r.val
            omega
          | ⟨1, _⟩ =>
            show (k0_off61 (it.w 1)) 1 + 1 * n'.val = n'.val
            rw [rect4_off it]
            show 0 + 1 * n'.val = n'.val
            omega
        rw [hi]
        exact ih (by omega) fun _ => by omega
    · refine (View.read_writes_cons_unit_of_not_mem _ _ _ _ _ (ix2 r n') (rect4_off it) 0 (.inl (Nat.lt_of_not_le hst'))).trans ?_
      exact ih (by omega) fun _ => by omega

theorem outs_scales (g : ℕ → ℕ) (hs : Sched (seq g) n (lo g)) (p : BufOf (F := Ideal) c A4 × BufOf (F := Ideal) c A5)
    (k : ℕ) (hk : k ≤ n) (r : Fin 6144) (e : Fin 8) (h1 : lo g e.val ≤ r.val) (h2 : r.val < lo g (e.val + 1)) (hb : k < n → r.val < (seq g k).va) :
    A5.view.read (Elt Ideal) (outs c A4 A5 fx fw fs (seq g) p k).2 (ix2 r (0 : Fin 1)) = sca (ex (ac (XX c fx) (WW c fw) (SS c fs) e r)) := by
  induction k with
  | zero => exact absurd (hb hs.pos) (by rw [hs.first.2.2]; exact Nat.not_lt_zero _)
  | succ k ih =>
    have hlow := hs.lower k hk
    have hr := r.isLt
    have hup : r.val < (seq g k).st + 256 ∧ r.val < lo g ((seq g k).e.val + 1) := by
      rcases Nat.lt_or_ge (k + 1) n with h | h
      · have h3 := hs.upper k h
        have h4 := hb h
        omega
      · have h3 := hs.final k (by omega)
        omega
    rw [outs_succ]
    generalize outs c A4 A5 fx fw fs (seq g) p k = o at ih ⊢
    generalize seq g k = it at ih hlow hup ⊢
    have hva := it.hva
    have hst := it.hst
    unfold outStep
    dsimp only
    by_cases hst' : it.st ≤ r.val
    · obtain ⟨y, hy⟩ : ∃ y : Fin 256, r.val = it.st + y.val := ⟨⟨r.val - it.st, by omega⟩, by show r.val = it.st + (r.val - it.st); omega⟩
      have hyr : (⟨it.st + y.val, by omega⟩ : Fin 6144) = r := Fin.ext hy.symm
      refine (View.read_writes_cons_unit_of_mem _ _ _ _ _ (ix2 r (0 : Fin 1)) (ix2 y (0 : Fin 1)) (rect5_off it) ?_).trans ?_
      · intro a
        match a with
        | ⟨0, _⟩ => exact hy
        | ⟨1, _⟩ => exact (Nat.zero_add _).symm
      rw [scales_row (xblk c fx it.st it.hst) (wblk c fw it.e) (sblk c fs it.e) (XX c fx) (WW c fw) (SS c fs) it.st it.hst it.e (fun _ _ => rfl) (fun _ _ _ => rfl) (fun _ _ _ => rfl) (it.w 1) (it.w 2) it.w1 it.va it.w2 it.hva]
      by_cases hv : it.va ≤ it.st + y.val
      · rw [if_pos hv, hyr]
        have he : it.e = e := by
          apply Fin.ext
          rcases Nat.lt_trichotomy it.e.val e.val with h | h | h
          · have := lo_mono g (show it.e.val + 1 ≤ e.val from h); omega
          · exact h
          · have := lo_mono g (show e.val + 1 ≤ it.e.val from h); omega
        rw [he]
      · rw [if_neg hv]
        rw [View.readAt_apply]
        have hi : (rect5 it).toLoadRect.idx (ix2 y (0 : Fin 1)) = (ix2 r (0 : Fin 1)) := by
          funext a
          apply Fin.ext
          match a with
          | ⟨0, _⟩ =>
            show (k0_off62 (it.w 1)) 0 + 1 * y.val = r.val
            rw [rect5_off it]
            show it.st + 1 * y.val = r.val
            omega
          | ⟨1, _⟩ =>
            show (k0_off62 (it.w 1)) 1 + 1 * (0 : Fin 1).val = (0 : Fin 1).val
            rw [rect5_off it]
            show 0 + 1 * (0 : Fin 1).val = (0 : Fin 1).val
            omega
        rw [hi]
        exact ih (by omega) fun _ => by omega
    · refine (View.read_writes_cons_unit_of_not_mem _ _ _ _ _ (ix2 r (0 : Fin 1)) (rect5_off it) 0 (.inl (Nat.lt_of_not_le hst'))).trans ?_
      exact ih (by omega) fun _ => by omega

end Cert.KernelIdeal.Hand

end
-- ==== Proof.VR.lean ====
module

public import proofs.«01_k».proof.Proof.VSpec
public import proofs.«01_k».proof.Proof.ISched
public import proofs.«01_k».proof.Proof.Gen.ReferenceIdeal.Value
public import Idealize.ShloMosaic.Lib.Pointwise

@[expose] public section

set_option maxRecDepth 16384

noncomputable section

namespace Cert.ReferenceIdeal.Hand

open Idealize.ShloMosaic Idealize.SL.Sem
open Cert.Val

open Cert.ReferenceIdeal Cert.ReferenceIdeal.Gen
open Cert.KernelIdeal.Hand (lo lo_mono)

/-! ## The reference's chain, one expert after another -/

/-- Each row's number. -/
def rows : IVec S6144x1 32 := iota .tc S6144x1 32 [0] iota_S6144x1_d0_w32
/-- An expert's weights. -/
def rwt (w : Vec Ideal S1x1408x2048 .i8) (s : Vec Ideal S1x22x2048 .bf16) : FVec Ideal S2816x2048 .bf16 :=
  mulf (subf (k0_pay5 w) (broadcast S2816x2048 (Scalar.ofBits (F := Ideal) .bf16 0x4100#16))) (k0_pay4 s)
/-- The rows from `a` on and before `b`. -/
def rmask (a b : BitVec 32) : IVec S6144x1 1 := andi (cmpi .sge rows (broadcast S6144x1 a)) (cmpi .slt rows (broadcast S6144x1 b))
/-- One expert's product, on its rows. -/
def rstep (x : Vec Ideal S6144x2816 .bf16) (a b : BitVec 32) (w : Vec Ideal S1x1408x2048 .i8) (s : Vec Ideal S1x22x2048 .bf16) (acc : FVec Ideal S6144x2048 .f32) : FVec Ideal S6144x2048 .f32 :=
  select (broadcastTo S6144x2048 (shapeCast S6144x1 (rmask a b) shapeCasts_S6144x1_S6144x1) broadcasts_S6144x1_S6144x2048)
    (matmul (φ₁ := .bf16) dot_S6144x2816_S2816x2048_S6144x2048_1_0_0_1_n_n none x (rwt w s) (constant S6144x2048 .f32 0x00000000#32)) acc
/-- The activation of the products. -/
def rgate (p : FVec Ideal S6144x2048 .f32) : FVec Ideal S6144x1024 .f32 :=
  mulf (mulf (extractStridedSlice S6144x1024 ![0, 0] p slices_S6144x2048_o0_0_S6144x1024) (logistic (extractStridedSlice S6144x1024 ![0, 0] p slices_S6144x2048_o0_0_S6144x1024)))
    (extractStridedSlice S6144x1024 ![0, 1024] p slices_S6144x2048_o0_1024_S6144x1024)

variable (x : Vec Ideal S6144x2816 .bf16) (g : Fin 8 → BitVec 32) (w : Fin 8 → Vec Ideal S1x1408x2048 .i8) (s : Fin 8 → Vec Ideal S1x22x2048 .bf16)

/-- Where expert `k`'s rows begin. -/
def rb : ℕ → BitVec 32
  | 0 => 0#32
  | k + 1 => Scalar.addi (rb k) (g (Fin.ofNat 8 k))
/-- The products of the first `k` experts. -/
def racc : ℕ → FVec Ideal S6144x2048 .f32
  | 0 => broadcast S6144x2048 (Scalar.ofBits (F := Ideal) .f32 0x00000000#32)
  | k + 1 => rstep x (rb g k) (rb g (k + 1)) (w (Fin.ofNat 8 k)) (s (Fin.ofNat 8 k)) (racc k)

def q1 : FVec Ideal S6144x2048 .f32 := k0_pay1 x (g 0) (w 0) (s 0)
def q3 : FVec Ideal S6144x2048 .f32 := k0_pay3 x rows (rb g 1) (q1 x g w s) (rb g 2) (k0_pay2 (w 1)) 15#32 (s 1)
def q6 : FVec Ideal S6144x2048 .f32 := k0_pay6 x rows (rb g 2) (q3 x g w s) (rb g 3) (k0_pay4 (s 2)) (k0_pay5 (w 2)) (g 3) (w 3) (s 3)
def q7 : FVec Ideal S6144x2048 .f32 := k0_pay7 x rows (rb g 4) (q6 x g w s) (rb g 5) (w 4) (s 4)
def q9 : FVec Ideal S6144x2048 .f32 := k0_pay9 x rows (rb g 5) (q7 x g w s) (rb g 6) (k0_pay8 (w 5)) (s 5)
def q12 : FVec Ideal S6144x1024 .f32 := k0_pay12 x rows (q9 x g w s) (rb g 7) (k0_pay10 x (w 6) (s 6)) (k0_pay11 (F := Ideal) rows (rb g 6) (g 6)) (g 7) (w 7) (s 7)
def q13 : FVec Ideal S6144x1 .f32 := k0_pay13 x rows (q9 x g w s) (rb g 7) (k0_pay10 x (w 6) (s 6)) (k0_pay11 (F := Ideal) rows (rb g 6) (g 6)) (g 7) (w 7) (s 7)
def q14 : FVec Ideal S6144x1 .f32 := k0_pay14 x rows (q9 x g w s) (rb g 7) (k0_pay10 x (w 6) (s 6)) (k0_pay11 (F := Ideal) rows (rb g 6) (g 6)) (g 7) (w 7) (s 7)
def q17 : FVec Ideal S6144x1 .f32 := k0_pay17 (q13 x g w s) (q14 x g w s) k0_pay15
def q18 : FVec Ideal S6144x1024 .fp8e4m3 := k0_pay18 (q12 x g w s) (q13 x g w s) (q14 x g w s) k0_pay15

theorem q1_eq : q1 x g w s = racc x g w s 1 := rfl
theorem q3_eq : q3 x g w s = racc x g w s 2 := by unfold q3; rw [q1_eq]; rfl
theorem q6_eq : q6 x g w s = racc x g w s 4 := by unfold q6; rw [q3_eq]; rfl
theorem q7_eq : q7 x g w s = racc x g w s 5 := by unfold q7; rw [q6_eq]; rfl
theorem q9_eq : q9 x g w s = racc x g w s 6 := by unfold q9; rw [q7_eq]; rfl
theorem q12_eq : q12 x g w s = rgate (racc x g w s 8) := by unfold q12; rw [q9_eq]; rfl

/-! ## At an index -/

theorem rwt_apply (wv : Vec Ideal S1x1408x2048 .i8) (sv : Vec Ideal S1x22x2048 .bf16) (k : Fin 2816) (n : Fin 2048) :
    rwt wv sv (ix2 k n) = ((((nibw (wv (ix3 (0 : Fin 1) (⟨k.val / 2, by omega⟩ : Fin 1408) n)) (k.val % 2)).toInt : ℝ) : EReal) - ((8 : ℝ) : EReal)) * sv (ix3 (0 : Fin 1) (⟨k.val / 128, by omega⟩ : Fin 22) n) := by
  rw [← bf16_eight]
  unfold nibw
  pointwise [rwt, k0_pay5, k0_pay4]
  rfl

theorem rmask_apply (a b : BitVec 32) (ha : a.toNat ≤ 6144) (hb : b.toNat ≤ 6144) (r : Fin 6144) :
    rmask a b (ix2 r (0 : Fin 1)) = BitVec.ofBool (decide (a.toNat ≤ r.val ∧ r.val < b.toNat)) := by
  have hr := r.isLt
  have e : rmask a b (ix2 r (0 : Fin 1)) = IntOp.andi (BitVec.ofBool (a.sle (BitVec.ofNat 32 r.val))) (BitVec.ofBool ((BitVec.ofNat 32 r.val).slt b)) := by
    pointwise [rmask, rows]
    rfl
  have h1 : (BitVec.ofNat 32 r.val).toNat = r.val := by rw [BitVec.toNat_ofNat]; omega
  have h2 : (BitVec.ofNat 32 r.val).toInt = ((r.val : ℕ) : ℤ) := by
    rw [BitVec.toInt_eq_toNat_of_lt (by omega), h1]
  have h3 : a.toInt = ((a.toNat : ℕ) : ℤ) := BitVec.toInt_eq_toNat_of_lt (by omega)
  have h4 : b.toInt = ((b.toNat : ℕ) : ℤ) := BitVec.toInt_eq_toNat_of_lt (by omega)
  rw [e, BitVec.sle_eq_decide, BitVec.slt_eq_decide, h2, h3, h4]
  have h5 : ((a.toNat : ℕ) : ℤ) ≤ ((r.val : ℕ) : ℤ) ↔ a.toNat ≤ r.val := by omega
  have h6 : ((r.val : ℕ) : ℤ) < ((b.toNat : ℕ) : ℤ) ↔ r.val < b.toNat := by omega
  rw [decide_eq_decide.2 h5, decide_eq_decide.2 h6, Bool.decide_and]
  cases decide (a.toNat ≤ r.val) <;> cases decide (r.val < b.toNat) <;> rfl

theorem rstep_apply (a b : BitVec 32) (ha : a.toNat ≤ 6144) (hb : b.toNat ≤ 6144) (wv : Vec Ideal S1x1408x2048 .i8) (sv : Vec Ideal S1x22x2048 .bf16) (acc : FVec Ideal S6144x2048 .f32) (r : Fin 6144) (n : Fin 2048) :
    rstep x a b wv sv acc (ix2 r n) = if a.toNat ≤ r.val ∧ r.val < b.toNat then ∑ k : Fin 2816, x (ix2 r k) * rwt wv sv (ix2 k n) else acc (ix2 r n) := by
  have e : rstep x a b wv sv acc (ix2 r n) = Scalar.select (rmask a b (ix2 r (0 : Fin 1))) (∑ k : Fin 2816, x (ix2 r k) * rwt wv sv (ix2 k n)) (acc (ix2 r n)) := by
    unfold rstep
    generalize rmask a b = M
    generalize rwt wv sv = R
    pointwise []
  rw [e, rmask_apply a b ha hb]
  by_cases h : a.toNat ≤ r.val ∧ r.val < b.toNat
  · rw [if_pos h, decide_eq_true h, select_true]
  · rw [if_neg h, decide_eq_false h, select_false]

theorem rgate_apply (p : FVec Ideal S6144x2048 .f32) (r : Fin 6144) (n : Fin 1024) :
    rgate p (ix2 r n) = gate (p (ix2 r (⟨n.val, by omega⟩ : Fin 2048))) (p (ix2 r (⟨n.val + 1024, by omega⟩ : Fin 2048))) := by
  have c : (⟨n.val + 1024, by omega⟩ : Fin 2048) = ⟨1024 + n.val, by omega⟩ := Fin.ext (Nat.add_comm _ _)
  rw [c]
  unfold gate
  pointwise [rgate]

theorem rb_toNat (hs : lo (fun k => (g (Fin.ofNat 8 k)).toNat) 8 = 6144) (k : ℕ) (hk : k ≤ 8) : (rb g k).toNat = lo (fun k => (g (Fin.ofNat 8 k)).toNat) k := by
  induction k with
  | zero => rfl
  | succ k ih =>
    have h := lo_mono (fun k => (g (Fin.ofNat 8 k)).toNat) hk
    rw [hs] at h
    have h' : lo (fun k => (g (Fin.ofNat 8 k)).toNat) k + (g (Fin.ofNat 8 k)).toNat ≤ 6144 := h
    show (rb g k + g (Fin.ofNat 8 k)).toNat = lo (fun k => (g (Fin.ofNat 8 k)).toNat) k + (g (Fin.ofNat 8 k)).toNat
    rw [BitVec.toNat_add, ih (by omega)]
    exact Nat.mod_eq_of_lt (by omega)

variable (X : Fin 6144 → Fin 2816 → EReal) (W : Fin 8 → Fin 1408 → Fin 2048 → BitVec 8) (S : Fin 8 → Fin 22 → Fin 2048 → EReal)

theorem racc_apply (hs : lo (fun k => (g (Fin.ofNat 8 k)).toNat) 8 = 6144) (hx : ∀ r k, x (ix2 r k) = X r k) (hw : ∀ e k n, w e (ix3 (0 : Fin 1) k n) = W e k n) (hS : ∀ e k n, s e (ix3 (0 : Fin 1) k n) = S e k n)
    (r : Fin 6144) (n : Fin 2048) (e : Fin 8) (h1 : lo (fun k => (g (Fin.ofNat 8 k)).toNat) e.val ≤ r.val) (h2 : r.val < lo (fun k => (g (Fin.ofNat 8 k)).toNat) (e.val + 1)) (k : ℕ) (hk : k ≤ 8) (he : e.val < k) :
    racc x g w s k (ix2 r n) = pr X W S e r n := by
  induction k with
  | zero => omega
  | succ k ih =>
    have b1 := lo_mono (fun k => (g (Fin.ofNat 8 k)).toNat) hk
    have b2 := lo_mono (fun k => (g (Fin.ofNat 8 k)).toNat) (show k ≤ 8 by omega)
    rw [hs] at b1 b2
    show rstep x (rb g k) (rb g (k + 1)) (w (Fin.ofNat 8 k)) (s (Fin.ofNat 8 k)) (racc x g w s k) (ix2 r n) = _
    rw [rstep_apply x _ _ (by rw [rb_toNat g hs k (by omega)]; exact b2) (by rw [rb_toNat g hs (k + 1) hk]; exact b1), rb_toNat g hs k (by omega), rb_toNat g hs (k + 1) hk]
    by_cases hek : e.val = k
    · rw [if_pos (by rw [← hek]; exact ⟨h1, h2⟩)]
      have : Fin.ofNat 8 k = e := Fin.ext (by rw [← hek]; exact Nat.mod_eq_of_lt e.isLt)
      rw [this]
      unfold pr wt
      refine Finset.sum_congr rfl fun j _ => ?_
      rw [rwt_apply, hx, hw, hS]
    · rw [if_neg ?_]
      · exact ih (by omega) (by omega)
      · rintro ⟨h3, h4⟩
        have := lo_mono (fun k => (g (Fin.ofNat 8 k)).toNat) (show e.val + 1 ≤ k by omega)
        omega

theorem q12_apply (hs : lo (fun k => (g (Fin.ofNat 8 k)).toNat) 8 = 6144) (hx : ∀ r k, x (ix2 r k) = X r k) (hw : ∀ e k n, w e (ix3 (0 : Fin 1) k n) = W e k n) (hS : ∀ e k n, s e (ix3 (0 : Fin 1) k n) = S e k n)
    (r : Fin 6144) (n : Fin 1024) (e : Fin 8) (h1 : lo (fun k => (g (Fin.ofNat 8 k)).toNat) e.val ≤ r.val) (h2 : r.val < lo (fun k => (g (Fin.ofNat 8 k)).toNat) (e.val + 1)) :
    q12 x g w s (ix2 r n) = ac X W S e r n := by
  rw [q12_eq, rgate_apply]
  unfold ac
  rw [racc_apply x g w s X W S hs hx hw hS r _ e h1 h2 8 le_rfl e.isLt, racc_apply x g w s X W S hs hx hw hS r _ e h1 h2 8 le_rfl e.isLt]

theorem q13_apply (r : Fin 6144) : q13 x g w s (ix2 r (0 : Fin 1)) = am fun n => q12 x g w s (ix2 r n) := by
  have e : q13 x g w s = shapeCast S6144x1 (multiReduction .maximumf [1] S6144 (absf (q12 x g w s)) 0xFF800000#32 reduces_S6144x1024_S6144 (.inl rfl) rfl) shapeCasts_S6144_S6144x1 := rfl
  rw [e]
  generalize q12 x g w s = h
  unfold am mag
  rw [← negInf]
  pointwise []

end Cert.ReferenceIdeal.Hand

end
-- ==== Proof.VR2.lean ====
module

public import proofs.«01_k».proof.Proof.VR

@[expose] public section

set_option maxRecDepth 16384

noncomputable section

namespace Cert.ReferenceIdeal.Hand

open Idealize.ShloMosaic Idealize.SL.Sem
open Cert.Val

open Cert.ReferenceIdeal Cert.ReferenceIdeal.Gen

variable (x : Vec Ideal S6144x2816 .bf16) (g : Fin 8 → BitVec 32) (w : Fin 8 → Vec Ideal S1x1408x2048 .i8) (s : Fin 8 → Vec Ideal S1x22x2048 .bf16)

theorem pay14_apply (R : FVec Ideal S6144x1 .f32) (r : Fin 6144) : (mulf R (broadcast S6144x1 (Scalar.ofBits (F := Ideal) .f32 0x3B124925#32)) : FVec Ideal S6144x1 .f32) (ix2 r (0 : Fin 1)) = R (ix2 r (0 : Fin 1)) * c448 := by
  unfold c448
  pointwise []

theorem q14_eq : q14 x g w s = mulf (q13 x g w s) (broadcast S6144x1 (Scalar.ofBits (F := Ideal) .f32 0x3B124925#32)) := by
  unfold q14 k0_pay14 q13
  rfl

theorem q14_apply (r : Fin 6144) : q14 x g w s (ix2 r (0 : Fin 1)) = q13 x g w s (ix2 r (0 : Fin 1)) * c448 := by
  rw [q14_eq, pay14_apply]

theorem exp16_apply (a b : FVec Ideal S6144x1 .f32) (r : Fin 6144) : k0_pay16 a b k0_pay15 (ix2 r (0 : Fin 1)) = rexp (a (ix2 r (0 : Fin 1))) (b (ix2 r (0 : Fin 1))) := by
  unfold rexp rcount pwr
  pointwise [k0_pay16, k0_pay15]

theorem q17_apply (r : Fin 6144) : q17 x g w s (ix2 r (0 : Fin 1)) = sca (ex fun n => q12 x g w s (ix2 r n)) := by
  have e : q17 x g w s (ix2 r (0 : Fin 1)) = sca (k0_pay16 (q13 x g w s) (q14 x g w s) k0_pay15 (ix2 r (0 : Fin 1))) := rfl
  rw [e, exp16_apply, q14_apply, q13_apply]
  rfl

theorem q18_apply (r : Fin 6144) (n : Fin 1024) : q18 x g w s (ix2 r n) = cod (ex fun n => q12 x g w s (ix2 r n)) (q12 x g w s (ix2 r n)) := by
  have e : q18 x g w s (ix2 r n) = cod (k0_pay16 (q13 x g w s) (q14 x g w s) k0_pay15 (ix2 r (0 : Fin 1))) (q12 x g w s (ix2 r n)) := by
    unfold q18 k0_pay18 cod pwr
    generalize k0_pay16 (q13 x g w s) (q14 x g w s) k0_pay15 = E
    generalize q12 x g w s = h
    pointwise []
  rw [e, exp16_apply, q14_apply, q13_apply]
  rfl

end Cert.ReferenceIdeal.Hand

end
-- ==== Proof.VRR.lean ====
module

public import proofs.«01_k».proof.Proof.VR2
public import Idealize.ShloMosaic.Lib.Pipeline.Value

@[expose] public section

set_option maxRecDepth 16384

noncomputable section

namespace Cert.ReferenceIdeal.Hand

open Idealize.ShloMosaic Idealize.SL.Sem
open Cert.Val

open Cert.ReferenceIdeal Cert.ReferenceIdeal.Gen Cert.ReferenceIdeal.Value Idealize.ShloMosaic.TcCoe
open Cert.KernelIdeal.Hand (lo lo_mono)

/-! ## The reference's run, its results named -/

/-- The group sizes, one after another. -/
def gsz (g : Vec Ideal S8 .i32) (k : Fin 8) : BitVec 32 := g (ix1 k)
/-- Expert `k`'s packed weights. -/
def wex (w : Vec Ideal S8x1408x2048 .i8) (k : Fin 8) : Vec Ideal S1x1408x2048 .i8 := fun i => w (ix3 k (⟨(i 1).val, (i 1).isLt⟩ : Fin 1408) (⟨(i 2).val, (i 2).isLt⟩ : Fin 2048))
/-- Expert `k`'s scales. -/
def sex (s : Vec Ideal S8x22x2048 .bf16) (k : Fin 8) : Vec Ideal S1x22x2048 .bf16 := fun i => s (ix3 k (⟨(i 1).val, (i 1).isLt⟩ : Fin 22) (⟨(i 2).val, (i 2).isLt⟩ : Fin 2048))

/-- The codes and the scales as functions of the arguments. -/
def R4 (x : Vec Ideal S6144x2816 .bf16) (g : Vec Ideal S8 .i32) (w : Vec Ideal S8x1408x2048 .i8) (s : Vec Ideal S8x22x2048 .bf16) : Vec Ideal S6144x1024 .fp8e4m3 := q18 x (gsz g) (wex w) (sex s)
def R5 (x : Vec Ideal S6144x2816 .bf16) (g : Vec Ideal S8 .i32) (w : Vec Ideal S8x1408x2048 .i8) (s : Vec Ideal S8x22x2048 .bf16) : Vec Ideal S6144x1 .f32 := q17 x (gsz g) (wex w) (sex s)

theorem hz : (![0, 0] : Fin 2 → Nat) = fun _ => 0 := funext fun a => by fin_cases a <;> rfl

section
variable (A0 : Memref sig .tc .vmem S6144x2816 .bf16) (h0 : A0.IsWhole) (A1 : Memref sig .tc .smem S8 .i32) (h1 : A1.IsWhole) (A2 : Memref sig .tc .vmem S8x1408x2048 .i8) (h2 : A2.IsWhole) (A3 : Memref sig .tc .vmem S8x22x2048 .bf16) (h3 : A3.IsWhole)
variable (x0 : Vec Ideal S6144x2816 .bf16) (x1 : Vec Ideal S8 .i32) (x2 : Vec Ideal S8x1408x2048 .i8) (x3 : Vec Ideal S8x22x2048 .bf16)

theorem ld0 : View.readAt (Elt Ideal) A0.view (Rect.unit (s := S6144x2816) ![0, 0] S6144x2816.size inb_S6144x2816_S6144x2816_0_0).toLoadRect (h0.unread x0) = x0 := by
  rw [View.readAt_eq_ld, h0.read_unread]
  exact View.ld_unit_zero hz _ _
theorem ld1 (k : Fin 8) (off : Fin 1 → ℕ) (ho : off = ![k.val]) (inb) (j) : View.readAt (Elt Ideal) A1.view (Rect.unit (s := S8) off S1.size inb).toLoadRect (h1.unread x1) j = gsz x1 k := by
  subst ho
  rw [View.readAt_eq_ld, h1.read_unread]
  refine congrArg x1 (funext fun a => Fin.ext ?_)
  have hj : (j 0).val = 0 := by have : (j 0).val < 1 := (j 0).isLt; omega
  match a with
  | ⟨0, _⟩ => show k.val + 1 * (j 0).val = k.val; omega
theorem ld2 (k : Fin 8) (off : Fin 3 → ℕ) (ho : off = ![k.val, 0, 0]) (inb) : View.readAt (Elt Ideal) A2.view (Rect.unit (s := S8x1408x2048) off S1x1408x2048.size inb).toLoadRect (h2.unread x2) = wex x2 k := by
  subst ho
  rw [View.readAt_eq_ld, h2.read_unread]
  funext j
  refine congrArg x2 (funext fun a => Fin.ext ?_)
  have hj : (j 0).val = 0 := by have : (j 0).val < 1 := (j 0).isLt; omega
  match a with
  | ⟨0, _⟩ => show k.val + 1 * (j 0).val = k.val; omega
  | ⟨1, _⟩ => show 0 + 1 * (j 1).val = (j 1).val; omega
  | ⟨2, _⟩ => show 0 + 1 * (j 2).val = (j 2).val; omega
theorem ld3 (k : Fin 8) (off : Fin 3 → ℕ) (ho : off = ![k.val, 0, 0]) (inb) : View.readAt (Elt Ideal) A3.view (Rect.unit (s := S8x22x2048) off S1x22x2048.size inb).toLoadRect (h3.unread x3) = sex x3 k := by
  subst ho
  rw [View.readAt_eq_ld, h3.read_unread]
  funext j
  refine congrArg x3 (funext fun a => Fin.ext ?_)
  have hj : (j 0).val = 0 := by have : (j 0).val < 1 := (j 0).isLt; omega
  match a with
  | ⟨0, _⟩ => show k.val + 1 * (j 0).val = k.val; omega
  | ⟨1, _⟩ => show 0 + 1 * (j 1).val = (j 1).val; omega
  | ⟨2, _⟩ => show 0 + 1 * (j 2).val = (j 2).val; omega
end

section
variable (c : Dev nD) (A0 : Memref sig .tc .vmem S6144x2816 .bf16) (h0 : A0.IsWhole) (A1 : Memref sig .tc .smem S8 .i32) (h1 : A1.IsWhole) (A2 : Memref sig .tc .vmem S8x1408x2048 .i8) (h2 : A2.IsWhole) (A3 : Memref sig .tc .vmem S8x22x2048 .bf16) (h3 : A3.IsWhole) (x0 : Vec Ideal S6144x2816 .bf16) (x1 : Vec Ideal S8 .i32) (x2 : Vec Ideal S8x1408x2048 .i8) (x3 : Vec Ideal S8x22x2048 .bf16)

theorem w0 : kernelRun0_A.sl.r c A1 h1 x1 = gsz x1 0 := by
  unfold kernelRun0_A.sl.r
  exact ld1 A1 h1 x1 0 ![0] rfl inb_S8_S1_0 _
theorem w1 : kernelRun0_A.sl.r_1 c A1 h1 x1 = gsz x1 1 := by
  unfold kernelRun0_A.sl.r_1
  exact ld1 A1 h1 x1 1 ![1] rfl inb_S8_S1_1 _
theorem w2 : kernelRun0_A.sl.r_5 c A1 h1 x1 = gsz x1 2 := by
  unfold kernelRun0_A.sl.r_5
  exact ld1 A1 h1 x1 2 ![2] rfl inb_S8_S1_2 _
theorem w3 : kernelRun0_A.sl.r_9 c A1 h1 x1 = gsz x1 3 := by
  unfold kernelRun0_A.sl.r_9
  exact ld1 A1 h1 x1 3 ![3] rfl inb_S8_S1_3 _
theorem w4 : kernelRun0_A.sl.r_10 c A1 h1 x1 = gsz x1 4 := by
  unfold kernelRun0_A.sl.r_10
  exact ld1 A1 h1 x1 4 ![4] rfl inb_S8_S1_4 _
theorem w5 : kernelRun0_A.sl.r_12 c A1 h1 x1 = gsz x1 5 := by
  unfold kernelRun0_A.sl.r_12
  exact ld1 A1 h1 x1 5 ![5] rfl inb_S8_S1_5 _
theorem w6 : kernelRun0_A.sl.r_15 c A1 h1 x1 = gsz x1 6 := by
  unfold kernelRun0_A.sl.r_15
  exact ld1 A1 h1 x1 6 ![6] rfl inb_S8_S1_6 _
theorem w7 : kernelRun0_A.sl.r_19 c A1 h1 x1 = gsz x1 7 := by
  unfold kernelRun0_A.sl.r_19
  exact ld1 A1 h1 x1 7 ![7] rfl inb_S8_S1_7 _
theorem b1 : kernelRun0_A.sl.v4 c A1 h1 x1 = rb (gsz x1) 1 := by
  unfold kernelRun0_A.sl.v4
  rw [w0 c A1 h1 x1]
  rfl
theorem b2 : kernelRun0_A.sl.v35 c A1 h1 x1 = rb (gsz x1) 2 := by
  unfold kernelRun0_A.sl.v35
  rw [b1 c A1 h1 x1, w1 c A1 h1 x1]
  rfl
theorem b3 : kernelRun0_A.sl.v66 c A1 h1 x1 = rb (gsz x1) 3 := by
  unfold kernelRun0_A.sl.v66
  rw [b2 c A1 h1 x1, w2 c A1 h1 x1]
  rfl
theorem b4 : kernelRun0_A.sl.v97 c A1 h1 x1 = rb (gsz x1) 4 := by
  unfold kernelRun0_A.sl.v97
  rw [b3 c A1 h1 x1, w3 c A1 h1 x1]
  rfl
theorem b5 : kernelRun0_A.sl.v128 c A1 h1 x1 = rb (gsz x1) 5 := by
  unfold kernelRun0_A.sl.v128
  rw [b4 c A1 h1 x1, w4 c A1 h1 x1]
  rfl
theorem b6 : kernelRun0_A.sl.v159 c A1 h1 x1 = rb (gsz x1) 6 := by
  unfold kernelRun0_A.sl.v159
  rw [b5 c A1 h1 x1, w5 c A1 h1 x1]
  rfl
theorem b7 : kernelRun0_A.sl.v190 c A1 h1 x1 = rb (gsz x1) 7 := by
  unfold kernelRun0_A.sl.v190
  rw [b6 c A1 h1 x1, w6 c A1 h1 x1]
  rfl
theorem e0 : kernelRun0_A.sl.r_2 c A0 h0 x0 = x0 := by
  unfold kernelRun0_A.sl.r_2
  exact ld0 A0 h0 x0
theorem e3 : kernelRun0_A.sl.r_3 c A0 h0 A1 h1 A2 h2 A3 h3 x0 x1 x2 x3 = q1 x0 (gsz x1) (wex x2) (sex x3) := by
  unfold kernelRun0_A.sl.r_3
  rw [ld0 A0 h0 x0, w0 c A1 h1 x1, ld2 A2 h2 x2 0 ![0, 0, 0] rfl inb_S8x1408x2048_S1x1408x2048_0_0_0, ld3 A3 h3 x3 0 ![0, 0, 0] rfl inb_S8x22x2048_S1x22x2048_0_0_0]
  rfl
theorem e6 : kernelRun0_A.sl.r_6 c A0 h0 A1 h1 A2 h2 A3 h3 x0 x1 x2 x3 = q3 x0 (gsz x1) (wex x2) (sex x3) := by
  unfold kernelRun0_A.sl.r_6 kernelRun0_A.sl.r_4
  rw [e0 c A0 h0 x0, b1 c A1 h1 x1, b2 c A1 h1 x1, e3 c A0 h0 A1 h1 A2 h2 A3 h3 x0 x1 x2 x3, ld2 A2 h2 x2 1 ![1, 0, 0] rfl inb_S8x1408x2048_S1x1408x2048_1_0_0, ld3 A3 h3 x3 1 ![1, 0, 0] rfl inb_S8x22x2048_S1x22x2048_1_0_0]
  rfl
theorem e11 : kernelRun0_A.sl.r_11 c A0 h0 A1 h1 A2 h2 A3 h3 x0 x1 x2 x3 = q6 x0 (gsz x1) (wex x2) (sex x3) := by
  unfold kernelRun0_A.sl.r_11 kernelRun0_A.sl.r_7 kernelRun0_A.sl.r_8
  rw [e0 c A0 h0 x0, b2 c A1 h1 x1, b3 c A1 h1 x1, e6 c A0 h0 A1 h1 A2 h2 A3 h3 x0 x1 x2 x3, w3 c A1 h1 x1, ld3 A3 h3 x3 2 ![2, 0, 0] rfl inb_S8x22x2048_S1x22x2048_2_0_0, ld2 A2 h2 x2 2 ![2, 0, 0] rfl inb_S8x1408x2048_S1x1408x2048_2_0_0, ld2 A2 h2 x2 3 ![3, 0, 0] rfl inb_S8x1408x2048_S1x1408x2048_3_0_0, ld3 A3 h3 x3 3 ![3, 0, 0] rfl inb_S8x22x2048_S1x22x2048_3_0_0]
  rfl
theorem e13 : kernelRun0_A.sl.r_13 c A0 h0 A1 h1 A2 h2 A3 h3 x0 x1 x2 x3 = q7 x0 (gsz x1) (wex x2) (sex x3) := by
  unfold kernelRun0_A.sl.r_13
  rw [e0 c A0 h0 x0, b4 c A1 h1 x1, b5 c A1 h1 x1, e11 c A0 h0 A1 h1 A2 h2 A3 h3 x0 x1 x2 x3, ld2 A2 h2 x2 4 ![4, 0, 0] rfl inb_S8x1408x2048_S1x1408x2048_4_0_0, ld3 A3 h3 x3 4 ![4, 0, 0] rfl inb_S8x22x2048_S1x22x2048_4_0_0]
  rfl
theorem e16 : kernelRun0_A.sl.r_16 c A0 h0 A1 h1 A2 h2 A3 h3 x0 x1 x2 x3 = q9 x0 (gsz x1) (wex x2) (sex x3) := by
  unfold kernelRun0_A.sl.r_16 kernelRun0_A.sl.r_14
  rw [e0 c A0 h0 x0, b5 c A1 h1 x1, b6 c A1 h1 x1, e13 c A0 h0 A1 h1 A2 h2 A3 h3 x0 x1 x2 x3, ld2 A2 h2 x2 5 ![5, 0, 0] rfl inb_S8x1408x2048_S1x1408x2048_5_0_0, ld3 A3 h3 x3 5 ![5, 0, 0] rfl inb_S8x22x2048_S1x22x2048_5_0_0]
  rfl
theorem e20 : kernelRun0_A.sl.r_20 c A0 h0 A1 h1 A2 h2 A3 h3 x0 x1 x2 x3 = q12 x0 (gsz x1) (wex x2) (sex x3) := by
  unfold kernelRun0_A.sl.r_20 kernelRun0_A.sl.r_17 kernelRun0_A.sl.r_18
  rw [e0 c A0 h0 x0, b6 c A1 h1 x1, b7 c A1 h1 x1, e16 c A0 h0 A1 h1 A2 h2 A3 h3 x0 x1 x2 x3, w6 c A1 h1 x1, w7 c A1 h1 x1, ld2 A2 h2 x2 6 ![6, 0, 0] rfl inb_S8x1408x2048_S1x1408x2048_6_0_0, ld3 A3 h3 x3 6 ![6, 0, 0] rfl inb_S8x22x2048_S1x22x2048_6_0_0, ld2 A2 h2 x2 7 ![7, 0, 0] rfl inb_S8x1408x2048_S1x1408x2048_7_0_0, ld3 A3 h3 x3 7 ![7, 0, 0] rfl inb_S8x22x2048_S1x22x2048_7_0_0]
  rfl
theorem e21 : kernelRun0_A.sl.r_21 c A0 h0 A1 h1 A2 h2 A3 h3 x0 x1 x2 x3 = q13 x0 (gsz x1) (wex x2) (sex x3) := by
  unfold kernelRun0_A.sl.r_21 kernelRun0_A.sl.r_17 kernelRun0_A.sl.r_18
  rw [e0 c A0 h0 x0, b6 c A1 h1 x1, b7 c A1 h1 x1, e16 c A0 h0 A1 h1 A2 h2 A3 h3 x0 x1 x2 x3, w6 c A1 h1 x1, w7 c A1 h1 x1, ld2 A2 h2 x2 6 ![6, 0, 0] rfl inb_S8x1408x2048_S1x1408x2048_6_0_0, ld3 A3 h3 x3 6 ![6, 0, 0] rfl inb_S8x22x2048_S1x22x2048_6_0_0, ld2 A2 h2 x2 7 ![7, 0, 0] rfl inb_S8x1408x2048_S1x1408x2048_7_0_0, ld3 A3 h3 x3 7 ![7, 0, 0] rfl inb_S8x22x2048_S1x22x2048_7_0_0]
  rfl
theorem e22 : kernelRun0_A.sl.r_22 c A0 h0 A1 h1 A2 h2 A3 h3 x0 x1 x2 x3 = q14 x0 (gsz x1) (wex x2) (sex x3) := by
  unfold kernelRun0_A.sl.r_22 kernelRun0_A.sl.r_17 kernelRun0_A.sl.r_18
  rw [e0 c A0 h0 x0, b6 c A1 h1 x1, b7 c A1 h1 x1, e16 c A0 h0 A1 h1 A2 h2 A3 h3 x0 x1 x2 x3, w6 c A1 h1 x1, w7 c A1 h1 x1, ld2 A2 h2 x2 6 ![6, 0, 0] rfl inb_S8x1408x2048_S1x1408x2048_6_0_0, ld3 A3 h3 x3 6 ![6, 0, 0] rfl inb_S8x22x2048_S1x22x2048_6_0_0, ld2 A2 h2 x2 7 ![7, 0, 0] rfl inb_S8x1408x2048_S1x1408x2048_7_0_0, ld3 A3 h3 x3 7 ![7, 0, 0] rfl inb_S8x22x2048_S1x22x2048_7_0_0]
  rfl
theorem e23 : kernelRun0_A.sl.r_23 c A0 h0 A1 h1 A2 h2 A3 h3 x0 x1 x2 x3 = R4 x0 x1 x2 x3 := by
  unfold kernelRun0_A.sl.r_23
  rw [e20 c A0 h0 A1 h1 A2 h2 A3 h3 x0 x1 x2 x3, e21 c A0 h0 A1 h1 A2 h2 A3 h3 x0 x1 x2 x3, e22 c A0 h0 A1 h1 A2 h2 A3 h3 x0 x1 x2 x3]
  rfl
end

theorem out4_eq (c : Dev nD) (A0 : Memref sig .tc .vmem S6144x2816 .bf16) (h0 : A0.IsWhole) (A1 : Memref sig .tc .smem S8 .i32) (h1 : A1.IsWhole) (A2 : Memref sig .tc .vmem S8x1408x2048 .i8) (h2 : A2.IsWhole) (A3 : Memref sig .tc .vmem S8x22x2048 .bf16) (h3 : A3.IsWhole) (A4 : Memref sig .tc .vmem S6144x1024 .fp8e4m3) (h4 : A4.IsWhole) (A5 : Memref sig .tc .vmem S6144x1 .f32) (h5 : A5.IsWhole)
    (x0 : Vec Ideal S6144x2816 .bf16) (x1 : Vec Ideal S8 .i32) (x2 : Vec Ideal S8x1408x2048 .i8) (x3 : Vec Ideal S8x22x2048 .bf16) :
    out0_A_4 c A0 h0 A1 h1 A2 h2 A3 h3 A4 h4 A5 h5 x0 x1 x2 x3 = R4 x0 x1 x2 x3 := by
  unfold out0_A_4
  rw [View.read_writes_junk_eq_canon]
  unfold kernelRun0_A
  dsimp only
  rw [e23 c A0 h0 A1 h1 A2 h2 A3 h3 x0 x1 x2 x3]
  exact View.canon_unit_zero hz _ _

theorem out5_eq (c : Dev nD) (A0 : Memref sig .tc .vmem S6144x2816 .bf16) (h0 : A0.IsWhole) (A1 : Memref sig .tc .smem S8 .i32) (h1 : A1.IsWhole) (A2 : Memref sig .tc .vmem S8x1408x2048 .i8) (h2 : A2.IsWhole) (A3 : Memref sig .tc .vmem S8x22x2048 .bf16) (h3 : A3.IsWhole) (A4 : Memref sig .tc .vmem S6144x1024 .fp8e4m3) (h4 : A4.IsWhole) (A5 : Memref sig .tc .vmem S6144x1 .f32) (h5 : A5.IsWhole)
    (x0 : Vec Ideal S6144x2816 .bf16) (x1 : Vec Ideal S8 .i32) (x2 : Vec Ideal S8x1408x2048 .i8) (x3 : Vec Ideal S8x22x2048 .bf16) :
    out0_A_5 c A0 h0 A1 h1 A2 h2 A3 h3 A4 h4 A5 h5 x0 x1 x2 x3 = R5 x0 x1 x2 x3 := by
  unfold out0_A_5
  rw [View.read_writes_junk_eq_canon]
  unfold kernelRun0_A
  dsimp only
  rw [e21 c A0 h0 A1 h1 A2 h2 A3 h3 x0 x1 x2 x3, e22 c A0 h0 A1 h1 A2 h2 A3 h3 x0 x1 x2 x3]
  exact View.canon_unit_zero hz _ _

variable (m : (ℓ : Loc nD τ sig) → Buf (Elt Ideal) ℓ) (ρ : Dev nD → PrngReg)

theorem idx_zero0 : ∀ t : Fin cfg0.N, win0_0.index t (0 : Fin 2) = 0 ∧ win0_0.index t (1 : Fin 2) = 0 := (by decide +kernel : ∀ t : Fin grid0.N, _)
theorem emb0 (t : Fin cfg0.N) (j : S6144x2816.Idx) : ((cfg0.win 0).blk t).view.emb j = j := by
  obtain ⟨i0, i1⟩ := idx_zero0 t
  funext a; apply Fin.ext
  match a with
  | ⟨0, _⟩ => show win0_0.index t (0 : Fin 2) * 6144 + 1 * (j 0).val = (j 0).val; omega
  | ⟨1, _⟩ => show win0_0.index t (1 : Fin 2) * 2816 + 1 * (j 1).val = (j 1).val; omega
theorem iblk0_eq (c : Dev nD) (t : Fin cfg0.N) : iblk m c 0 t = V m c main_arg0 := by
  funext j; show V m c main_arg0 (((cfg0.win 0).blk t).view.emb j) = V m c main_arg0 j; rw [emb0]
theorem idx_zero1 : ∀ t : Fin cfg0.N, win0_1.index t (0 : Fin 1) = 0 := (by decide +kernel : ∀ t : Fin grid0.N, _)
theorem emb1 (t : Fin cfg0.N) (j : S8.Idx) : ((cfg0.win 1).blk t).view.emb j = j := by
  have i0 := idx_zero1 t
  funext a; apply Fin.ext
  match a with
  | ⟨0, _⟩ => show win0_1.index t (0 : Fin 1) * 8 + 1 * (j 0).val = (j 0).val; omega
theorem iblk1_eq (c : Dev nD) (t : Fin cfg0.N) : iblk m c 1 t = V m c main_arg1 := by
  funext j; show V m c main_arg1 (((cfg0.win 1).blk t).view.emb j) = V m c main_arg1 j; rw [emb1]
theorem idx_zero2 : ∀ t : Fin cfg0.N, win0_2.index t (0 : Fin 3) = 0 ∧ win0_2.index t (1 : Fin 3) = 0 ∧ win0_2.index t (2 : Fin 3) = 0 := (by decide +kernel : ∀ t : Fin grid0.N, _)
theorem emb2 (t : Fin cfg0.N) (j : S8x1408x2048.Idx) : ((cfg0.win 2).blk t).view.emb j = j := by
  obtain ⟨i0, i1, i2⟩ := idx_zero2 t
  funext a; apply Fin.ext
  match a with
  | ⟨0, _⟩ => show win0_2.index t (0 : Fin 3) * 8 + 1 * (j 0).val = (j 0).val; omega
  | ⟨1, _⟩ => show win0_2.index t (1 : Fin 3) * 1408 + 1 * (j 1).val = (j 1).val; omega
  | ⟨2, _⟩ => show win0_2.index t (2 : Fin 3) * 2048 + 1 * (j 2).val = (j 2).val; omega
theorem iblk2_eq (c : Dev nD) (t : Fin cfg0.N) : iblk m c 2 t = V m c main_arg2 := by
  funext j; show V m c main_arg2 (((cfg0.win 2).blk t).view.emb j) = V m c main_arg2 j; rw [emb2]
theorem idx_zero3 : ∀ t : Fin cfg0.N, win0_3.index t (0 : Fin 3) = 0 ∧ win0_3.index t (1 : Fin 3) = 0 ∧ win0_3.index t (2 : Fin 3) = 0 := (by decide +kernel : ∀ t : Fin grid0.N, _)
theorem emb3 (t : Fin cfg0.N) (j : S8x22x2048.Idx) : ((cfg0.win 3).blk t).view.emb j = j := by
  obtain ⟨i0, i1, i2⟩ := idx_zero3 t
  funext a; apply Fin.ext
  match a with
  | ⟨0, _⟩ => show win0_3.index t (0 : Fin 3) * 8 + 1 * (j 0).val = (j 0).val; omega
  | ⟨1, _⟩ => show win0_3.index t (1 : Fin 3) * 22 + 1 * (j 1).val = (j 1).val; omega
  | ⟨2, _⟩ => show win0_3.index t (2 : Fin 3) * 2048 + 1 * (j 2).val = (j 2).val; omega
theorem iblk3_eq (c : Dev nD) (t : Fin cfg0.N) : iblk m c 3 t = V m c main_arg3 := by
  funext j; show V m c main_arg3 (((cfg0.win 3).blk t).view.emb j) = V m c main_arg3 j; rw [emb3]
theorem idx_zero4 : ∀ t : Fin cfg0.N, win0_4.index t (0 : Fin 2) = 0 ∧ win0_4.index t (1 : Fin 2) = 0 := (by decide +kernel : ∀ t : Fin grid0.N, _)
theorem emb4 (t : Fin cfg0.N) (j : S6144x1024.Idx) : ((cfg0.win 4).blk t).view.emb j = j := by
  obtain ⟨i0, i1⟩ := idx_zero4 t
  funext a; apply Fin.ext
  match a with
  | ⟨0, _⟩ => show win0_4.index t (0 : Fin 2) * 6144 + 1 * (j 0).val = (j 0).val; omega
  | ⟨1, _⟩ => show win0_4.index t (1 : Fin 2) * 1024 + 1 * (j 1).val = (j 1).val; omega
theorem idx_zero5 : ∀ t : Fin cfg0.N, win0_5.index t (0 : Fin 2) = 0 ∧ win0_5.index t (1 : Fin 2) = 0 := (by decide +kernel : ∀ t : Fin grid0.N, _)
theorem emb5 (t : Fin cfg0.N) (j : S6144x1.Idx) : ((cfg0.win 5).blk t).view.emb j = j := by
  obtain ⟨i0, i1⟩ := idx_zero5 t
  funext a; apply Fin.ext
  match a with
  | ⟨0, _⟩ => show win0_5.index t (0 : Fin 2) * 6144 + 1 * (j 0).val = (j 0).val; omega
  | ⟨1, _⟩ => show win0_5.index t (1 : Fin 2) * 1 + 1 * (j 1).val = (j 1).val; omega
theorem cut4_eq (t : Fin cfg0.N) (Y : Vec Ideal S6144x1024 .fp8e4m3) : (cfg0.win 4).cut (grid0.coords t) Y = ((cfg0.win 4).blk t).view.read (Elt Ideal) Y := by
  funext j
  show Y j = Y (((cfg0.win 4).blk t).view.emb j)
  rw [emb4]
theorem flushed4_eq (c : Dev nD) (t : Fin cfg0.N) :
    (dats m 0 c).flushed 4 t = ((cfg0.win 4).blk t).view.read (Elt Ideal) (R4 (V m c main_arg0) (V m c main_arg1) (V m c main_arg2) (V m c main_arg3)) := by
  rw [flushed4_A, out4_eq, iblk0_eq, iblk1_eq, iblk2_eq, iblk3_eq]
  exact cut4_eq t _
theorem covered4 (i : S6144x1024.Idx) : ∃ t : Fin cfg0.N, (cfg0.win 4).flush t = true ∧ i ∈ ((cfg0.win 4).blk t).view.set :=
  ⟨(⟨0, by decide⟩ : Fin cfg0.N), flush0_4 _, by
    have h := ((cfg0.win 4).blk (⟨0, by decide⟩ : Fin cfg0.N)).view.emb_mem_set i; rwa [emb4] at h⟩
theorem final4 (c : Dev nD) : (dats m 0 c).arrAt 4 cfg0.N
    = R4 (m ((c : Thread nD τ).loc main_arg0)) (m ((c : Thread nD τ).loc main_arg1)) (m ((c : Thread nD τ).loc main_arg2)) (m ((c : Thread nD τ).loc main_arg3)) :=
  ((dats m 0 c).arrAt_eq_of_cover 4 (R4 (V m c main_arg0) (V m c main_arg1) (V m c main_arg2) (V m c main_arg3)) (fun t _ => flushed4_eq m c t) covered4).trans
    (by rw [V_main_arg0, V_main_arg1, V_main_arg2, V_main_arg3])
theorem cut5_eq (t : Fin cfg0.N) (Y : Vec Ideal S6144x1 .f32) : (cfg0.win 5).cut (grid0.coords t) Y = ((cfg0.win 5).blk t).view.read (Elt Ideal) Y := by
  funext j
  show Y j = Y (((cfg0.win 5).blk t).view.emb j)
  rw [emb5]
theorem flushed5_eq (c : Dev nD) (t : Fin cfg0.N) :
    (dats m 0 c).flushed 5 t = ((cfg0.win 5).blk t).view.read (Elt Ideal) (R5 (V m c main_arg0) (V m c main_arg1) (V m c main_arg2) (V m c main_arg3)) := by
  rw [flushed5_A, out5_eq, iblk0_eq, iblk1_eq, iblk2_eq, iblk3_eq]
  exact cut5_eq t _
theorem covered5 (i : S6144x1.Idx) : ∃ t : Fin cfg0.N, (cfg0.win 5).flush t = true ∧ i ∈ ((cfg0.win 5).blk t).view.set :=
  ⟨(⟨0, by decide⟩ : Fin cfg0.N), flush0_5 _, by
    have h := ((cfg0.win 5).blk (⟨0, by decide⟩ : Fin cfg0.N)).view.emb_mem_set i; rwa [emb5] at h⟩
theorem final5 (c : Dev nD) : (dats m 0 c).arrAt 5 cfg0.N
    = R5 (m ((c : Thread nD τ).loc main_arg0)) (m ((c : Thread nD τ).loc main_arg1)) (m ((c : Thread nD τ).loc main_arg2)) (m ((c : Thread nD τ).loc main_arg3)) :=
  ((dats m 0 c).arrAt_eq_of_cover 5 (R5 (V m c main_arg0) (V m c main_arg1) (V m c main_arg2) (V m c main_arg3)) (fun t _ => flushed5_eq m c t) covered5).trans
    (by rw [V_main_arg0, V_main_arg1, V_main_arg2, V_main_arg3])

/-- The reference's run with its results at their functions of the arguments. -/
theorem run : θ_run defs (onTc (τ := τ) (main (F := Ideal))) ⟨m, fun _ => 0, ρ⟩ fun r => ∀ c : Dev nD,
      r.2.mem ((c : Thread nD τ).loc main_v0_0) = R4 (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = R5 (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩) (run_blocks m ρ)

/-! ## The results at an index -/

section
variable (x : Vec Ideal S6144x2816 .bf16) (g : Vec Ideal S8 .i32) (w : Vec Ideal S8x1408x2048 .i8) (s : Vec Ideal S8x22x2048 .bf16)
variable (hs : lo (fun k => (gsz g (Fin.ofNat 8 k)).toNat) 8 = 6144) (r : Fin 6144) (e : Fin 8) (h1 : lo (fun k => (gsz g (Fin.ofNat 8 k)).toNat) e.val ≤ r.val) (h2 : r.val < lo (fun k => (gsz g (Fin.ofNat 8 k)).toNat) (e.val + 1))
include hs h1 h2

theorem row_eq : (fun n => q12 x (gsz g) (wex w) (sex s) (ix2 r n)) = ac (fun r k => x (ix2 r k)) (fun e k n => w (ix3 e k n)) (fun e k n => s (ix3 e k n)) e r :=
  funext fun n => q12_apply x (gsz g) (wex w) (sex s) _ _ _ hs (fun _ _ => rfl) (fun _ _ _ => rfl) (fun _ _ _ => rfl) r n e h1 h2

theorem R4_apply (n : Fin 1024) : R4 x g w s (ix2 r n) = cod (ex (ac (fun r k => x (ix2 r k)) (fun e k n => w (ix3 e k n)) (fun e k n => s (ix3 e k n)) e r)) (ac (fun r k => x (ix2 r k)) (fun e k n => w (ix3 e k n)) (fun e k n => s (ix3 e k n)) e r n) := by
  have H := row_eq x g w s hs r e h1 h2
  unfold R4
  rw [q18_apply, H]
  exact congrArg _ (congrFun H n)

theorem R5_apply : R5 x g w s (ix2 r (0 : Fin 1)) = sca (ex (ac (fun r k => x (ix2 r k)) (fun e k n => w (ix3 e k n)) (fun e k n => s (ix3 e k n)) e r)) := by
  have H := row_eq x g w s hs r e h1 h2
  unfold R5
  rw [q17_apply, H]
end

end Cert.ReferenceIdeal.Hand

end
-- ==== Proof.VIR.lean ====
module

public import proofs.«01_k».proof.Proof.VO
public import proofs.«01_k».proof.Proof.VRR
public import proofs.«01_k».proof.Proof.IFrame
public import Idealize.ShloMosaic.Lib.Pipeline.Value

@[expose] public section

set_option maxRecDepth 16384

noncomputable section

namespace Cert.KernelIdeal.Hand

open Idealize.ShloMosaic Idealize.SL.Sem
open Cert.Val

open Cert.KernelIdeal Cert.KernelIdeal.Gen
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode

local notation "𝕄" => MT nD τ sig Unit (Elt Ideal) ℕ (Pipeline.UD sig nD τ) ℕ

open Idealize.ShloMosaic.Pipeline (Dat Cfg Window BodyObligation cellOf)
open Cert.ReferenceIdeal.Hand (gsz R4 R5 R4_apply R5_apply)

/-! ## Every row is some expert's -/

theorem lo_congr {g g' : ℕ → ℕ} (k : ℕ) (h : ∀ y, y < k → g y = g' y) : lo g k = lo g' k := by
  induction k with
  | zero => rfl
  | succ k ih =>
    show lo g k + g k = lo g' k + g' k
    rw [ih fun y hy => h y (by omega), h k (by omega)]

theorem lo_find (g : ℕ → ℕ) (r : ℕ) (k : ℕ) (h : r < lo g k) : ∃ e, e < k ∧ lo g e ≤ r ∧ r < lo g (e + 1) := by
  induction k with
  | zero => exact absurd h (Nat.not_lt_zero _)
  | succ k ih =>
    rcases Nat.lt_or_ge r (lo g k) with h' | h'
    · obtain ⟨e, he, h1, h2⟩ := ih h'
      exact ⟨e, by omega, h1, h2⟩
    · exact ⟨k, by omega, h', h⟩

variable (m : (ℓ : Loc nD τ sig) → Buf (Elt Ideal) ℓ) (ρ : Dev nD → PrngReg)

theorem lo_gs (c : Dev nD) (k : ℕ) (hk : k ≤ 8) : lo (gs m c) k = lo (fun k => (gsz (V m c main_arg1) (Fin.ofNat 8 k)).toNat) k :=
  lo_congr k fun y hy => by
    have h8 : y < 8 := by omega
    have hf : Fin.ofNat 8 y = (⟨y, h8⟩ : Fin 8) := Fin.ext (Nat.mod_eq_of_lt h8)
    rw [hf]
    exact dif_pos h8

/-! ## The results as the reference's functions -/

/-- The codes the reference computes from the same arguments. -/
def T4 (c : Dev nD) : Vec Ideal S6144x1024 .fp8e4m3 := R4 (V m c main_arg0) (V m c main_arg1) (V m c main_arg2) (V m c main_arg3)
/-- The scales the reference computes from the same arguments. -/
def T5 (c : Dev nD) : Vec Ideal S6144x1 .f32 := R5 (V m c main_arg0) (V m c main_arg1) (V m c main_arg2) (V m c main_arg3)

theorem read_codes (hok : Ok m) (c : Dev nD) (A4 : Memref sig .tc .vmem S6144x1024 .fp8e4m3) (A5 : Memref sig .tc .vmem S6144x1 .f32)
    (p : BufOf (F := Ideal) c A4 × BufOf (F := Ideal) c A5) :
    A4.view.read (Elt Ideal) (outs c A4 A5 (V m c main_arg0) (V m c main_arg2) (V m c main_arg3) (seq (gs m c)) p (nb (gs m c) 8)).1 = T4 m c := by
  funext i
  obtain ⟨r, n, hi⟩ : ∃ (r : Fin 6144) (n : Fin 1024), i = ix2 r n := ⟨i 0, i 1, (ix2_eta (n0 := 6144) (n1 := 1024) i).symm⟩
  rw [hi]
  have h8 := hok c
  obtain ⟨e, he, h1, h2⟩ := lo_find (gs m c) r.val 8 (by rw [h8]; exact r.isLt)
  rw [outs_codes (g := gs m c) (n := nb (gs m c) 8) (hs := sched (gs m c) h8) (k := nb (gs m c) 8) (hk := le_rfl) (r := r) (n' := n) (e := ⟨e, he⟩) (h1 := h1) (h2 := h2)
    (hb := fun h => absurd h (Nat.lt_irrefl _))]
  unfold T4
  rw [R4_apply _ _ _ _ ((lo_gs m c 8 le_rfl).symm.trans h8) r ⟨e, he⟩ (by rw [← lo_gs m c e (by omega)]; exact h1) (by rw [← lo_gs m c (e + 1) (by omega)]; exact h2) n]
  rfl

theorem read_scales (hok : Ok m) (c : Dev nD) (A4 : Memref sig .tc .vmem S6144x1024 .fp8e4m3) (A5 : Memref sig .tc .vmem S6144x1 .f32)
    (p : BufOf (F := Ideal) c A4 × BufOf (F := Ideal) c A5) :
    A5.view.read (Elt Ideal) (outs c A4 A5 (V m c main_arg0) (V m c main_arg2) (V m c main_arg3) (seq (gs m c)) p (nb (gs m c) 8)).2 = T5 m c := by
  funext i
  obtain ⟨r, n, hi⟩ : ∃ (r : Fin 6144) (n : Fin 1), i = ix2 r n := ⟨i 0, i 1, (ix2_eta (n0 := 6144) (n1 := 1) i).symm⟩
  rw [hi]
  obtain rfl : n = 0 := Subsingleton.elim _ _
  have h8 := hok c
  obtain ⟨e, he, h1, h2⟩ := lo_find (gs m c) r.val 8 (by rw [h8]; exact r.isLt)
  rw [outs_scales (g := gs m c) (n := nb (gs m c) 8) (hs := sched (gs m c) h8) (k := nb (gs m c) 8) (hk := le_rfl) (r := r) (e := ⟨e, he⟩) (h1 := h1) (h2 := h2)
    (hb := fun h => absurd h (Nat.lt_irrefl _))]
  unfold T5
  rw [R5_apply _ _ _ _ ((lo_gs m c 8 le_rfl).symm.trans h8) r ⟨e, he⟩ (by rw [← lo_gs m c e (by omega)]; exact h1) (by rw [← lo_gs m c (e + 1) (by omega)]; exact h2)]
  rfl

/-! ## The run, its results named -/

/-- The proof data: the group sizes left as found, the results as the reference's functions. -/
def datsX (_ : Fin 1) (c : Dev nD) : Dat τ (Elt Ideal) Unit ℕ (Pipeline.UD sig nD τ) ℕ cfg0 c where
  A w := V m c (Pipeline.arrRef spec0 w)
  after w t := match w with
    | ⟨0, _⟩ => iblk m c 0 t
    | ⟨1, _⟩ => T4 m c
    | ⟨2, _⟩ => T5 m c
  Φ _ := Pipeline.ΦD osem0 spec0 H0 (V m) c
  q _ := fullShare
  owed _ := 0

theorem A_eqX (c : Dev nD) (w : Fin cfg0.W) : (datsX m 0 c).A w = V m c (Pipeline.arrRef spec0 w) := by dsimp only [datsX]
theorem afterX_0 (c : Dev nD) (t : Fin cfg0.N) : (datsX m 0 c).after 0 t = iblk m c 0 t := by dsimp only [datsX]
theorem afterX_1 (c : Dev nD) (t : Fin cfg0.N) : (datsX m 0 c).after 1 t = T4 m c := by dsimp only [datsX]
theorem afterX_2 (c : Dev nD) (t : Fin cfg0.N) : (datsX m 0 c).after 2 t = T5 m c := by dsimp only [datsX]

def bodyPreX (c : Dev nD) (t : Fin cfg0.N) : sProp 𝕄 :=
  iprop((datsX m 0 c).Φ t.castSucc ∗ (datsX m 0 c).owesAt () t.castSucc
    ∗ (∃ d, owns (c : Thread nD τ) (sA0 t) fullShare ((datsX m 0 c).before 0 t d))
    ∗ (∃ d, owns (c : Thread nD τ) (sA4 t) fullShare ((datsX m 0 c).before 1 t d)) ∗ (∃ d, owns (c : Thread nD τ) (sA5 t) fullShare ((datsX m 0 c).before 2 t d)))
def bodyPostX (c : Dev nD) (t : Fin cfg0.N) : sProp 𝕄 :=
  iprop((datsX m 0 c).Φ t.succ ∗ (datsX m 0 c).owesAt () t.succ
    ∗ owns (c : Thread nD τ) (sA0 t) fullShare ((datsX m 0 c).after 0 t)
    ∗ owns (c : Thread nD τ) (sA4 t) fullShare ((datsX m 0 c).after 1 t) ∗ owns (c : Thread nD τ) (sA5 t) fullShare ((datsX m 0 c).after 2 t))

theorem sound_bodyX (hok : Ok m) (c : Dev nD) (t : Fin cfg0.N) :
    bodyPreX m c t ⊢ wp frame (wpE (defs₀ (F := Ideal)) Variants.none c none) Set.univ (bodyAt0 t) (fun _ => bodyPostX m c t) := by
  unfold bodyPreX bodyPostX
  rw [show (datsX m 0 c).Φ t.succ = (datsX m 0 c).Φ t.castSucc from rfl,
    show (datsX m 0 c).owesAt () t.succ = (datsX m 0 c).owesAt () t.castSucc from rfl,
    show (datsX m 0 c).Φ t.castSucc = Pipeline.ΦD osem0 spec0 H0 (V m) c from rfl, afterX_0, afterX_1, afterX_2]
  unfold Dat.owesAt Pipeline.owesWithin
  rw [show (datsX m 0 c).owed t.castSucc = 0 from rfl]
  unfold owns
  iintro ⟨HΦ, ⟨%W, -, HW⟩, ⟨%d0, %f0, %hf0, H0⟩, ⟨%d4, %f4, -, H4⟩, ⟨%d5, %f5, -, H5⟩⟩
  rw [before_of m (datsX m 0 c) (A_eqX m c 0) (afterX_0 m c) t d0] at hf0
  iapply (body_step m c t hok f0 hf0 f4 f5 W) $$ [HΦ HW H0 H4 H5]
  · isplitl [HΦ]; · iexact HΦ
    isplitl [HW]; · iexact HW
    isplitl [H0]; · iexact H0
    isplitl [H4]; · iexact H4
    iexact H5
  iintro ⟨HΦ, ⟨%W', HW⟩, H0, H4, H5⟩
  isplitl [HΦ]; · iexact HΦ
  isplitl [HW]
  · iexists W'; isplitr; · ipureintro; exact fun _ _ => Or.inl trivial
    iexact HW
  isplitl [H0]
  · iexists f0; isplitr; · ipureintro; exact hf0
    iexact H0
  isplitl [H4]
  · iexists _; isplitr; swap; · iexact H4
    ipureintro; exact read_codes m hok c (sA4 t) (sA5 t) (f4, f5)
  iexists _; isplitr; swap; · iexact H5
  ipureintro; exact read_scales m hok c (sA4 t) (sA5 t) (f4, f5)

theorem body_obligationX (hok : Ok m) (c : Dev nD) : BodyObligation (datsX m 0 c) (defs₀ (F := Ideal)) Variants.none () Set.univ := fun t => by
  rw [bigSep_W0, bigSep_W0, defs₀_row]
  exact triple_restated (sound_bodyX m hok c t) rfl .rfl fun _ => .rfl

set_option backward.isDefEq.respectTransparency.types false in
theorem run_mainX (hok : Ok m) :
    θ_run defs (onTc (τ := τ) (main (F := Ideal))) (s₀ m ρ)
      (fun r => Pipeline.FramePost cfgs (datsX m) 0 (V m) r ∧ r.2.sem = fun _ => 0) :=
  Pipeline.θ_run_frame_dma (Q' := _) cfgs (datsX m) (0 : Fin 1) launch0 osem0 defs₀ Variants.none ownSemFacts0 H0 H0_sub m ρ main
    (hbody := fun c => (body_obligationX m hok c).loose) (hshare := fun c => (datsX m 0 c).share_full fun _ => rfl)
    (howed := fun _ _ => rfl) (V := V m) (hmain := hmainD m Variants.none) (hA := A_eqX m)
    (hin := fun _ => .rfl) (hout := fun _ => .rfl)

/-! ## The arrays at the end -/

theorem idx_zero1 : ∀ t : Fin cfg0.N, win0_1.index t (0 : Fin 2) = 0 ∧ win0_1.index t (1 : Fin 2) = 0 := (by decide +kernel : ∀ t : Fin grid0.N, _)
theorem emb1 (t : Fin cfg0.N) (j : S6144x1024.Idx) : ((cfg0.win 1).blk t).view.emb j = j := by
  obtain ⟨i0, i1⟩ := idx_zero1 t
  funext a; apply Fin.ext
  match a with
  | ⟨0, _⟩ => show win0_1.index t (0 : Fin 2) * 6144 + 1 * (j 0).val = (j 0).val; omega
  | ⟨1, _⟩ => show win0_1.index t (1 : Fin 2) * 1024 + 1 * (j 1).val = (j 1).val; omega
theorem cut1_eq (t : Fin cfg0.N) (Y : Vec Ideal S6144x1024 .fp8e4m3) : (cfg0.win 1).cut (grid0.coords t) Y = ((cfg0.win 1).blk t).view.read (Elt Ideal) Y := by
  funext j
  show Y j = Y (((cfg0.win 1).blk t).view.emb j)
  rw [emb1]
theorem flushed1_eq (c : Dev nD) (t : Fin cfg0.N) :
    (datsX m 0 c).flushed 1 t = ((cfg0.win 1).blk t).view.read (Elt Ideal) (T4 m c) := by
  rw [show (datsX m 0 c).flushed 1 t = (cfg0.win 1).cut (grid0.coords t) (T4 m c) from rfl]
  exact cut1_eq t _
theorem covered1 (i : S6144x1024.Idx) : ∃ t : Fin cfg0.N, (cfg0.win 1).flush t = true ∧ i ∈ ((cfg0.win 1).blk t).view.set :=
  ⟨(⟨0, by decide⟩ : Fin cfg0.N), flush0_1 _, by
    have h := ((cfg0.win 1).blk (⟨0, by decide⟩ : Fin cfg0.N)).view.emb_mem_set i; rwa [emb1] at h⟩
theorem final1 (c : Dev nD) : (datsX m 0 c).arrAt 1 cfg0.N = T4 m c :=
  (datsX m 0 c).arrAt_eq_of_cover 1 (T4 m c) (fun t _ => flushed1_eq m c t) covered1

theorem idx_zero2 : ∀ t : Fin cfg0.N, win0_2.index t (0 : Fin 2) = 0 ∧ win0_2.index t (1 : Fin 2) = 0 := (by decide +kernel : ∀ t : Fin grid0.N, _)
theorem emb2 (t : Fin cfg0.N) (j : S6144x1.Idx) : ((cfg0.win 2).blk t).view.emb j = j := by
  obtain ⟨i0, i1⟩ := idx_zero2 t
  funext a; apply Fin.ext
  match a with
  | ⟨0, _⟩ => show win0_2.index t (0 : Fin 2) * 6144 + 1 * (j 0).val = (j 0).val; omega
  | ⟨1, _⟩ => show win0_2.index t (1 : Fin 2) * 1 + 1 * (j 1).val = (j 1).val; omega
theorem cut2_eq (t : Fin cfg0.N) (Y : Vec Ideal S6144x1 .f32) : (cfg0.win 2).cut (grid0.coords t) Y = ((cfg0.win 2).blk t).view.read (Elt Ideal) Y := by
  funext j
  show Y j = Y (((cfg0.win 2).blk t).view.emb j)
  rw [emb2]
theorem flushed2_eq (c : Dev nD) (t : Fin cfg0.N) :
    (datsX m 0 c).flushed 2 t = ((cfg0.win 2).blk t).view.read (Elt Ideal) (T5 m c) := by
  rw [show (datsX m 0 c).flushed 2 t = (cfg0.win 2).cut (grid0.coords t) (T5 m c) from rfl]
  exact cut2_eq t _
theorem covered2 (i : S6144x1.Idx) : ∃ t : Fin cfg0.N, (cfg0.win 2).flush t = true ∧ i ∈ ((cfg0.win 2).blk t).view.set :=
  ⟨(⟨0, by decide⟩ : Fin cfg0.N), flush0_2 _, by
    have h := ((cfg0.win 2).blk (⟨0, by decide⟩ : Fin cfg0.N)).view.emb_mem_set i; rwa [emb2] at h⟩
theorem final2 (c : Dev nD) : (datsX m 0 c).arrAt 2 cfg0.N = T5 m c :=
  (datsX m 0 c).arrAt_eq_of_cover 2 (T5 m c) (fun t _ => flushed2_eq m c t) covered2

/-- The kernel's run ends with its results at the reference's functions of the arguments. -/
theorem run (hok : Ok m) : θ_run defs (onTc (τ := τ) (main (F := Ideal))) ⟨m, fun _ => 0, ρ⟩ fun r => ∀ c : Dev nD,
      r.2.mem ((c.tc : Thread nD τ).loc main_v0_0) = T4 m c
      ∧ r.2.mem ((c.tc : Thread nD τ).loc main_v0_1) = T5 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).1 1).trans (final1 m c), ((h.1 c).1 2).trans (final2 m c),
      (h.1 c).2 main_arg0 (Pipeline.mem_restRefs_of main_arg0 (by decide) (by decide)),
      ((h.1 c).1 0).trans (((datsX m 0 c).arrAt_in 0 rfl _).trans (A_eqX m c 0)),
      (h.1 c).2 main_arg2 (Pipeline.mem_restRefs_of main_arg2 (by decide) (by decide)),
      (h.1 c).2 main_arg3 (Pipeline.mem_restRefs_of main_arg3 (by decide) (by decide))⟩) (run_mainX m ρ hok)

end Cert.KernelIdeal.Hand

end
-- ==== Proof.lean ====
/- The proof of the claims: the two kernels' runs are shown by hand (Proof/K*.lean at any floats,
   Proof/I*.lean the same lines for the ideal twin), the reference's run by the generated frame. The values:
   Proof/VExp, VDq, VSpec say what a row is on the extended reals, VK and VO that the kernel's schedule leaves it in every
   row, VR, VR2 and VRR that the reference leaves it, VIR puts the kernel's run and the reference's functions together. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Gen.Pre_groups_partition_rows
public import proofs.«01_k».proof.Proof.KFrame
public import proofs.«01_k».proof.Proof.IFrame
public import proofs.«01_k».proof.Proof.VIR
public import proofs.«01_k».proof.Proof.VRR

@[expose] public section

namespace Cert.Proof

open Idealize.ShloMosaic Idealize.SL.Sem

theorem args4 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h :
       m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Hand.R4 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      = Cert.KernelIdeal.Hand.T4 m c := by
  rw [h.1, h.2.1, h.2.2.1, h.2.2.2]
  rfl

theorem args5 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h :
       m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Hand.R5 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      = Cert.KernelIdeal.Hand.T5 m c := by
  rw [h.1, h.2.1, h.2.2.1, h.2.2.2]
  rfl

theorem claim : Cert.Claim := ⟨Cert.Kernel.Gen.facts, Cert.KernelIdeal.Gen.facts, Cert.ReferenceIdeal.Gen.facts, Cert.Pre_groups_partition_rows.Gen.facts,
  fun m g h => Cert.Kernel.Hand.quiet m g (Cert.Kernel.Hand.ok_of_pre m h),
  fun m g h => Cert.KernelIdeal.Hand.quiet m g (Cert.KernelIdeal.Hand.ok_of_pre m h),
  fun m g _ => Cert.ReferenceIdeal.Gen.frame m g,
  fun m g _ => Cert.ReferenceIdeal.Gen.frame m g,
  trivial,
  fun m g m' g' hpre heq => ⟨fun c => Cert.KernelIdeal.Hand.T4 m c, fun c => Cert.KernelIdeal.Hand.T5 m c,
    Cert.KernelIdeal.Hand.run m g (Cert.KernelIdeal.Hand.ok_of_pre m hpre),
    (θ_run Cert.ReferenceIdeal.defs _ _).mono (fun r h c => ⟨(h c).1.trans (args4 m m' c (heq c)), (h c).2.1.trans (args5 m m' c (heq c)), (h c).2.2⟩)
      (Cert.ReferenceIdeal.Hand.run m' g')⟩⟩

end Cert.Proof

end
